-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))).1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))).2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2))).1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v63)) (v1 : (c : Dev Cert.KernelIdeal.nD) → Buf (Elt Ideal) ((c.tc : Thread Cert.KernelIdeal.nD Cert.KernelIdeal.τ).loc Cert.KernelIdeal.main_v64)) (v2 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_v64) = v1 c
          ∧ r.2.mem ((c.tc : Thread Cert.KernelIdeal.nD Cert.KernelIdeal.τ).loc Cert.KernelIdeal.main_v65) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_v79) = v1 c
          ∧ r.2.mem ((c.tc : Thread Cert.ReferenceIdeal.nD Cert.ReferenceIdeal.τ).loc Cert.ReferenceIdeal.main_v54) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)) (v3 : (c : Dev Cert.Kernel4Ideal.nD) → Buf (Elt Ideal) ((c.tc : Thread Cert.Kernel4Ideal.nD Cert.Kernel4Ideal.τ).loc Cert.Kernel4Ideal.main_v0_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_v0_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v21) = v0 c
          ∧ r.2.mem ((c.tc : Thread Cert.Reference4Ideal.nD Cert.Reference4Ideal.τ).loc Cert.Reference4Ideal.main_v32) = v1 c
          ∧ r.2.mem ((c.tc : Thread Cert.Reference4Ideal.nD Cert.Reference4Ideal.τ).loc Cert.Reference4Ideal.main_v33) = v2 c
          ∧ r.2.mem ((c.tc : Thread Cert.Reference4Ideal.nD Cert.Reference4Ideal.τ).loc Cert.Reference4Ideal.main_v31) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v49) = v0 c
          ∧ r.2.mem ((c.tc : Thread Cert.Reference5Ideal.nD Cert.Reference5Ideal.τ).loc Cert.Reference5Ideal.main_v51) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v15) = v0 c
          ∧ r.2.mem ((c.tc : Thread Cert.Reference6Ideal.nD Cert.Reference6Ideal.τ).loc Cert.Reference6Ideal.main_v16) = v1 c
          ∧ r.2.mem ((c.tc : Thread Cert.Reference6Ideal.nD Cert.Reference6Ideal.τ).loc Cert.Reference6Ideal.main_v18) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hPre_finite6 : Cert.Pre_finite6.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite6 (hKernel6Ideal := hKernel6Ideal) (hReference6Ideal := hReference6Ideal) (hPre_finite6 := hPre_finite6)
-- ==== Pre_finite.lean ====
abbrev S1x8192x8x192 : Shape := ⟨4, ![1, 8192, 8, 192]⟩
abbrev S1x8192x8x128 : Shape := ⟨4, ![1, 8192, 8, 128]⟩
abbrev S_ : Shape := ⟨0, ![]⟩

class Facts : Prop where
  bitsLt_bf16_f32 : FTy.bits .bf16 < FTy.bits .f32
  bcast_S_S1x8192x8x192 : S_.BroadcastsInDim S1x8192x8x192 (![] : Fin 0 → Fin S1x8192x8x192.rank)
  bcast_S_S1x8192x8x128 : S_.BroadcastsInDim S1x8192x8x128 (![] : Fin 0 → Fin S1x8192x8x128.rank)

variable [Facts]

def fn {F : FTy → Type} [FloatOps F] (main_arg0 : FVec F S1x8192x8x192 .bf16) (main_arg1 : FVec F S1x8192x8x192 .bf16) (main_arg2 : FVec F S1x8192x8x128 .bf16) (main_arg3 : FVec F S1x8192x8x128 .bf16) : IVec S1x8192x8x192 1 × IVec S1x8192x8x192 1 × IVec S1x8192x8x128 1 × IVec S1x8192x8x128 1 :=
  let main_v0 : FVec F S1x8192x8x192 .f32 := (extf .f32 · bitsLt_bf16_f32) main_arg0
  let main_v1 : FVec F S1x8192x8x192 .f32 := Host.absf main_v0
  let main_cst : FVec F S_ .f32 := constant S_ .f32 0x7F800000#32
  let main_v2 : FVec F S1x8192x8x192 .f32 := broadcastInDim S1x8192x8x192 ![] bcast_S_S1x8192x8x192 main_cst
  let main_v3 : IVec S1x8192x8x192 1 := cmpf .olt main_v1 main_v2
  let main_v4 : FVec F S1x8192x8x192 .f32 := (extf .f32 · bitsLt_bf16_f32) main_arg1
  let main_v5 : FVec F S1x8192x8x192 .f32 := Host.absf main_v4
  let main_cst_0 : FVec F S_ .f32 := constant S_ .f32 0x7F800000#32
  let main_v6 : FVec F S1x8192x8x192 .f32 := broadcastInDim S1x8192x8x192 ![] bcast_S_S1x8192x8x192 main_cst_0
  let main_v7 : IVec S1x8192x8x192 1 := cmpf .olt main_v5 main_v6
  let main_v8 : FVec F S1x8192x8x128 .f32 := (extf .f32 · bitsLt_bf16_f32) main_arg2
  let main_v9 : FVec F S1x8192x8x128 .f32 := Host.absf main_v8
  let main_cst_1 : FVec F S_ .f32 := constant S_ .f32 0x7F800000#32
  let main_v10 : FVec F S1x8192x8x128 .f32 := broadcastInDim S1x8192x8x128 ![] bcast_S_S1x8192x8x128 main_cst_1
  let main_v11 : IVec S1x8192x8x128 1 := cmpf .olt main_v9 main_v10
  let main_v12 : FVec F S1x8192x8x128 .f32 := (extf .f32 · bitsLt_bf16_f32) main_arg3
  let main_v13 : FVec F S1x8192x8x128 .f32 := Host.absf main_v12
  let main_cst_2 : FVec F S_ .f32 := constant S_ .f32 0x7F800000#32
  let main_v14 : FVec F S1x8192x8x128 .f32 := broadcastInDim S1x8192x8x128 ![] bcast_S_S1x8192x8x128 main_cst_2
  let main_v15 : IVec S1x8192x8x128 1 := cmpf .olt main_v13 main_v14
  (main_v3, main_v7, main_v11, main_v15)
-- ==== Pre_finite6.lean ====
abbrev S8192x2048 : Shape := ⟨2, ![8192, 2048]⟩
abbrev S8192x1024 : Shape := ⟨2, ![8192, 1024]⟩
abbrev S8192x6144 : Shape := ⟨2, ![8192, 6144]⟩
abbrev S_ : Shape := ⟨0, ![]⟩

class Facts : Prop where
  slices_S8192x2048_S8192x1024_0_1024 : S8192x2048.Slices ![0, 1024] S8192x1024
  bitsLt_bf16_f32 : FTy.bits .bf16 < FTy.bits .f32
  bcast_S_S8192x1024 : S_.BroadcastsInDim S8192x1024 (![] : Fin 0 → Fin S8192x1024.rank)

variable [Facts]

def fn {F : FTy → Type} [FloatOps F] (main_arg0 : FVec F S8192x2048 .bf16) (main_arg1 : FVec F S8192x1024 .bf16) (main_arg2 : FVec F S8192x6144 .bf16) : IVec S8192x1024 1 × IVec S8192x1024 1 :=
  let main_v0 : FVec F S8192x1024 .bf16 := (extractStridedSlice S8192x1024 ![0, 1024] · slices_S8192x2048_S8192x1024_0_1024) main_arg0
  let main_v1 : FVec F S8192x1024 .f32 := (extf .f32 · bitsLt_bf16_f32) main_v0
  let main_v2 : FVec F S8192x1024 .f32 := Host.absf main_v1
  let main_cst : FVec F S_ .f32 := constant S_ .f32 0x7F800000#32
  let main_v3 : FVec F S8192x1024 .f32 := broadcastInDim S8192x1024 ![] bcast_S_S8192x1024 main_cst
  let main_v4 : IVec S8192x1024 1 := cmpf .olt main_v2 main_v3
  let main_v5 : FVec F S8192x1024 .f32 := (extf .f32 · bitsLt_bf16_f32) main_arg1
  let main_v6 : FVec F S8192x1024 .f32 := Host.absf main_v5
  let main_cst_0 : FVec F S_ .f32 := constant S_ .f32 0x7F800000#32
  let main_v7 : FVec F S8192x1024 .f32 := broadcastInDim S8192x1024 ![] bcast_S_S8192x1024 main_cst_0
  let main_v8 : IVec S8192x1024 1 := cmpf .olt main_v6 main_v7
  (main_v4, main_v8)
-- ==== Kernel.lean ====
abbrev S1x8192x8x192 : Shape := ⟨4, ![1, 8192, 8, 192]⟩
abbrev S1x8192x8x128 : Shape := ⟨4, ![1, 8192, 8, 128]⟩
abbrev S8192x8x192 : Shape := ⟨3, ![8192, 8, 192]⟩
abbrev S8192x8x128 : Shape := ⟨3, ![8192, 8, 128]⟩
abbrev S_ : Shape := ⟨0, ![]⟩
abbrev S8x8192x8192 : Shape := ⟨3, ![8, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S8x8192 : Shape := ⟨2, ![8, 8192]⟩
abbrev S8x8192x1 : Shape := ⟨3, ![8, 8192, 1]⟩
abbrev S8x128x8192 : Shape := ⟨3, ![8, 128, 8192]⟩
abbrev S8x1x8192 : Shape := ⟨3, ![8, 1, 8192]⟩
abbrev S8192x8 : Shape := ⟨2, ![8192, 8]⟩
abbrev S8192x8x256 : Shape := ⟨3, ![8192, 8, 256]⟩
abbrev S8192x2048 : Shape := ⟨2, ![8192, 2048]⟩
abbrev S8192x1024 : Shape := ⟨2, ![8192, 1024]⟩
abbrev S8192x256 : Shape := ⟨2, ![8192, 256]⟩
abbrev S8192x128 : Shape := ⟨2, ![8192, 128]⟩
abbrev S1x128x8192 : Shape := ⟨3, ![1, 128, 8192]⟩
abbrev S1x1x8192 : Shape := ⟨3, ![1, 1, 8192]⟩
abbrev S512x512 : Shape := ⟨2, ![512, 512]⟩
abbrev S512x256 : Shape := ⟨2, ![512, 256]⟩
abbrev S128x512 : Shape := ⟨2, ![128, 512]⟩
abbrev S512x128 : Shape := ⟨2, ![512, 128]⟩
abbrev S1x128x512 : Shape := ⟨3, ![1, 128, 512]⟩
abbrev S1x1x512 : Shape := ⟨3, ![1, 1, 512]⟩
abbrev S1x512 : Shape := ⟨2, ![1, 512]⟩

abbrev nBuf : Space → Nat
  | .hbm => 87
  | .vmem => 25
  | .smem => 0
  | _ => 0

abbrev bufTy : (tb : Table) → Fin (tcTables nBuf tb) → BufTy
  | .hbm, ⟨0, _⟩ => ⟨S1x8192x8x192, .bf16⟩
  | .hbm, ⟨1, _⟩ => ⟨S1x8192x8x192, .bf16⟩
  | .hbm, ⟨2, _⟩ => ⟨S1x8192x8x128, .bf16⟩
  | .hbm, ⟨3, _⟩ => ⟨S1x8192x8x128, .bf16⟩
  | .hbm, ⟨4, _⟩ => ⟨S8192x8x192, .bf16⟩
  | .hbm, ⟨5, _⟩ => ⟨S8192x8x192, .bf16⟩
  | .hbm, ⟨6, _⟩ => ⟨S8192x8x128, .bf16⟩
  | .hbm, ⟨7, _⟩ => ⟨S8192x8x128, .bf16⟩
  | .hbm, ⟨8, _⟩ => ⟨S_, .f32⟩
  | .hbm, ⟨9, _⟩ => ⟨S_, .f32⟩
  | .hbm, ⟨10, _⟩ => ⟨S8192x8x192, .f32⟩
  | .hbm, ⟨11, _⟩ => ⟨S8192x8x192, .f32⟩
  | .hbm, ⟨12, _⟩ => ⟨S8192x8x128, .f32⟩
  | .hbm, ⟨13, _⟩ => ⟨S8192x8x128, .f32⟩
  | .hbm, ⟨14, _⟩ => ⟨S8x8192x8192, .f32⟩
  | .hbm, ⟨15, _⟩ => ⟨S_, .f32⟩
  | .hbm, ⟨16, _⟩ => ⟨S8x8192x8192, .f32⟩
  | .hbm, ⟨17, _⟩ => ⟨S8x8192x8192, .f32⟩
  | .hbm, ⟨18, _⟩ => ⟨S8192, .i32⟩
  | .hbm, ⟨19, _⟩ => ⟨S1x8192, .i32⟩
  | .hbm, ⟨20, _⟩ => ⟨S8192x1, .i32⟩
  | .hbm, ⟨21, _⟩ => ⟨S8192x8192, .i32⟩
  | .hbm, ⟨22, _⟩ => ⟨S8192x8192, .i32⟩
  | .hbm, ⟨23, _⟩ => ⟨S8192x8192, .i1⟩
  | .hbm, ⟨24, _⟩ => ⟨S1x8192x8192, .i1⟩
  | .hbm, ⟨25, _⟩ => ⟨S_, .f32⟩
  | .hbm, ⟨26, _⟩ => ⟨S_, .f32⟩
  | .hbm, ⟨27, _⟩ => ⟨S8x8192x8192, .i1⟩
  | .hbm, ⟨28, _⟩ => ⟨S8x8192x8192, .f32⟩
  | .hbm, ⟨29, _⟩ => ⟨S8x8192x8192, .f32⟩
  | .hbm, ⟨30, _⟩ => ⟨S_, .f32⟩
  | .hbm, ⟨31, _⟩ => ⟨S8x8192, .f32⟩
  | .hbm, ⟨32, _⟩ => ⟨S8x8192x1, .f32⟩
  | .hbm, ⟨33, _⟩ => ⟨S8x8192x8192, .f32⟩
  | .hbm, ⟨34, _⟩ => ⟨S8x8192x8192, .f32⟩
  | .hbm, ⟨35, _⟩ => ⟨S8x8192x8192, .f32⟩
  | .hbm, ⟨36, _⟩ => ⟨S_, .f32⟩
  | .hbm, ⟨37, _⟩ => ⟨S8x8192, .f32⟩
  | .hbm, ⟨38, _⟩ => ⟨S8x8192x1, .f32⟩
  | .hbm, ⟨39, _⟩ => ⟨S8x8192x8192, .f32⟩
  | .hbm, ⟨40, _⟩ => ⟨S8x8192x8192, .f32⟩
  | .hbm, ⟨41, _⟩ => ⟨S8x128x8192, .f32⟩
  | .hbm, ⟨42, _⟩ => ⟨S8192x8x128, .f32⟩
  | .hbm, ⟨43, _⟩ => ⟨S8x8192x1, .f32⟩
  | .hbm, ⟨44, _⟩ => ⟨S8x8192x1, .f32⟩
  | .hbm, ⟨45, _⟩ => ⟨S8x8192x1, .f32⟩
  | .hbm, ⟨46, _⟩ => ⟨S8x8192x1, .f32⟩
  | .hbm, ⟨47, _⟩ => ⟨S8x1x8192, .f32⟩
  | .hbm, ⟨48, _⟩ => ⟨S8192x8x128, .f32⟩
  | .hbm, ⟨49, _⟩ => ⟨S_, .f32⟩
  | .hbm, ⟨50, _⟩ => ⟨S8192x8, .f32⟩
  | .hbm, ⟨51, _⟩ => ⟨S8x8192, .f32⟩
  | .hbm, ⟨52, _⟩ => ⟨S8x1x8192, .f32⟩
  | .hbm, ⟨53, _⟩ => ⟨S_, .f32⟩
  | .hbm, ⟨54, _⟩ => ⟨S_, .f32⟩
  | .hbm, ⟨55, _⟩ => ⟨S8192x8x192, .f32⟩
  | .hbm, ⟨56, _⟩ => ⟨S8192x8x192, .f32⟩
  | .hbm, ⟨57, _⟩ => ⟨S8192x8x192, .bf16⟩
  | .hbm, ⟨58, _⟩ => ⟨S_, .i32⟩
  | .hbm, ⟨59, _⟩ => ⟨S_, .bf16⟩
  | .hbm, ⟨60, _⟩ => ⟨S8192x8x256, .bf16⟩
  | .hbm, ⟨61, _⟩ => ⟨S8192x2048, .bf16⟩
  | .hbm, ⟨62, _⟩ => ⟨S_, .i32⟩
  | .hbm, ⟨63, _⟩ => ⟨S_, .bf16⟩
  | .hbm, ⟨64, _⟩ => ⟨S8192x8x256, .bf16⟩
  | .hbm, ⟨65, _⟩ => ⟨S8192x2048, .bf16⟩
  | .hbm, ⟨66, _⟩ => ⟨S8192x1024, .bf16⟩
  | .hbm, ⟨67, _⟩ => ⟨S8x128x8192, .bf16⟩
  | .hbm, ⟨68, _⟩ => ⟨S8192x2048, .bf16⟩
  | .hbm, ⟨69, _⟩ => ⟨S8192x2048, .bf16⟩
  | .hbm, ⟨70, _⟩ => ⟨S8192x1024, .bf16⟩
  | .hbm, ⟨71, _⟩ => ⟨S8192x8x256, .bf16⟩
  | .hbm, ⟨72, _⟩ => ⟨S8192x8x192, .bf16⟩
  | .hbm, ⟨73, _⟩ => ⟨S8192x8x192, .f32⟩
  | .hbm, ⟨74, _⟩ => ⟨S_, .f32⟩
  | .hbm, ⟨75, _⟩ => ⟨S8192x8x192, .f32⟩
  | .hbm, ⟨76, _⟩ => ⟨S8192x8x192, .f32⟩
  | .hbm, ⟨77, _⟩ => ⟨S8192x8x192, .bf16⟩
  | .hbm, ⟨78, _⟩ => ⟨S8192x8x256, .bf16⟩
  | .hbm, ⟨79, _⟩ => ⟨S8192x8x192, .bf16⟩
  | .hbm, ⟨80, _⟩ => ⟨S8192x8x192, .f32⟩
  | .hbm, ⟨81, _⟩ => ⟨S8192x8x192, .f32⟩
  | .hbm, ⟨82, _⟩ => ⟨S8192x8x192, .f32⟩
  | .hbm, ⟨83, _⟩ => ⟨S8192x8x192, .bf16⟩
  | .hbm, ⟨84, _⟩ => ⟨S1x8192x8x192, .bf16⟩
  | .hbm, ⟨85, _⟩ => ⟨S1x8192x8x192, .bf16⟩
  | .hbm, ⟨86, _⟩ => ⟨S1x8192x8x128, .bf16⟩
  | .local _ .vmem, ⟨0, _⟩ => ⟨S8192x256, .bf16⟩
  | .local _ .vmem, ⟨1, _⟩ => ⟨S8192x256, .bf16⟩
  | .local _ .vmem, ⟨2, _⟩ => ⟨S8192x128, .bf16⟩
  | .local _ .vmem, ⟨3, _⟩ => ⟨S8192x128, .bf16⟩
  | .local _ .vmem, ⟨4, _⟩ => ⟨S8192x256, .bf16⟩
  | .local _ .vmem, ⟨5, _⟩ => ⟨S8192x256, .bf16⟩
  | .local _ .vmem, ⟨6, _⟩ => ⟨S1x128x8192, .bf16⟩
  | .local _ .vmem, ⟨7, _⟩ => ⟨S1x128x8192, .bf16⟩
  | .local _ .vmem, ⟨8, _⟩ => ⟨S1x1x8192, .f32⟩
  | .local _ .vmem, ⟨9, _⟩ => ⟨S1x1x8192, .f32⟩
  | .local _ .vmem, ⟨10, _⟩ => ⟨S1x1x8192, .f32⟩
  | .local _ .vmem, ⟨11, _⟩ => ⟨S1x1x8192, .f32⟩
  | .local _ .vmem, ⟨12, _⟩ => ⟨S8192x256, .bf16⟩
  | .local _ .vmem, ⟨13, _⟩ => ⟨S8192x256, .bf16⟩
  | .local _ .vmem, ⟨14, _⟩ => ⟨S8192x256, .bf16⟩
  | .local _ .vmem, ⟨15, _⟩ => ⟨S8192x256, .bf16⟩
  | .local _ .vmem, ⟨16, _⟩ => ⟨S8192x128, .bf16⟩
  | .local _ .vmem, ⟨17, _⟩ => ⟨S8192x128, .bf16⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | .local _ .vmem, ⟨22, _⟩ => ⟨S8192x256, .f32⟩
  | .local _ .vmem, ⟨23, _⟩ => ⟨S512x256, .f32⟩
  | .local _ .vmem, ⟨24, _⟩ => ⟨S128x512, .f32⟩
  | _, _ => ⟨S1x8192x8x192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_4 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_5 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_c : Ref sig .tc := ⟨.hbm, 58, rfl⟩
abbrev main_call1_v0 : Ref sig .tc := ⟨.hbm, 59, rfl⟩
abbrev main_v44 : Ref sig .tc := ⟨.hbm, 60, rfl⟩
abbrev main_v45 : Ref sig .tc := ⟨.hbm, 61, rfl⟩
abbrev main_c_6 : Ref sig .tc := ⟨.hbm, 62, rfl⟩
abbrev main_call2_v0 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50_0 : Ref sig .tc := ⟨.hbm, 68, rfl⟩
abbrev main_v50_1 : Ref sig .tc := ⟨.hbm, 69, rfl⟩
abbrev main_v50_2 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_7 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_scratch6 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def k0_mult1 : BitVec 32 :=
  let c0_i32 : BitVec 32 := 0#32
  c0_i32
def k0_mult2 : BitVec 32 :=
  let c0_i32_2 : BitVec 32 := 0#32
  c0_i32_2
def k0_mult3 : BitVec 32 :=
  let c0_i32_9 : BitVec 32 := 0#32
  c0_i32_9
def k0_mult4 : BitVec 32 :=
  let c0_i32_11 : BitVec 32 := 0#32
  c0_i32_11
@[reducible] def k0_t1_loop : Scf.Loop 32 :=
  let c0_i32_19 : BitVec 32 := 0#32
  let c17_i32 : BitVec 32 := 17#32
  let v35 : BitVec 32 := Scalar.addi c0_i32_19 c17_i32
  let c1_i32 : BitVec 32 := 1#32
  ⟨c0_i32_19, v35, c1_i32⟩
def k0_mult5 (arg19 : BitVec 32) : BitVec 32 :=
  let c512_i32 : BitVec 32 := 512#32
  let v46 : BitVec 32 := Scalar.muli arg19 c512_i32
  v46

def k0_off1 (arg19 : BitVec 32) : Fin 3 → Nat :=
  let c0_28 : Index := 0#32
  let c0_29 : Index := 0#32
  let c512_i32 : BitVec 32 := 512#32
  let v46 : BitVec 32 := Scalar.muli arg19 c512_i32
  let v47 : BitVec 32 := v46
  let v48 : Index := Scalar.indexCast v47
  ![0, 0, v48.toNat]
def k0_mult6 (arg19 : BitVec 32) : BitVec 32 :=
  let c512_i32_33 : BitVec 32 := 512#32
  let v58 : BitVec 32 := Scalar.muli arg19 c512_i32_33
  v58
def k0_off2 (arg19 : BitVec 32) : Fin 3 → Nat :=
  let c0_34 : Index := 0#32
  let c0_35 : Index := 0#32
  let c512_i32_33 : BitVec 32 := 512#32
  let v58 : BitVec 32 := Scalar.muli arg19 c512_i32_33
  let v59 : BitVec 32 := v58
  let v60 : Index := Scalar.indexCast v59
  ![0, 0, v60.toNat]
def k0_mult7 (arg19 : BitVec 32) : BitVec 32 :=
  let c512_i32_39 : BitVec 32 := 512#32
  let v66 : BitVec 32 := Scalar.muli arg19 c512_i32_39
  v66
def k0_mult8 (arg19 : BitVec 32) : BitVec 32 :=
  let c512_i32_45 : BitVec 32 := 512#32
  let v78 : BitVec 32 := Scalar.muli arg19 c512_i32_45
  v78
def k0_off3 (arg19 : BitVec 32) : Fin 2 → Nat :=
  let c512_i32_45 : BitVec 32 := 512#32
  let v78 : BitVec 32 := Scalar.muli arg19 c512_i32_45
  let v79 : BitVec 32 := v78
  let v80 : Index := Scalar.indexCast v79
  let c0_46 : Index := 0#32
  ![v80.toNat, 0]
def k0_mult9 (arg19 : BitVec 32) : BitVec 32 :=
  let c512_i32_48 : BitVec 32 := 512#32
  let v85 : BitVec 32 := Scalar.muli arg19 c512_i32_48
  v85
def k0_mult10 (arg18 : BitVec 32) : BitVec 32 :=
  let c512_i32_50 : BitVec 32 := 512#32
  let v89 : BitVec 32 := Scalar.muli arg18 c512_i32_50
  v89

def k0_off4 (arg18 : BitVec 32) : Fin 2 → Nat :=
  let c512_i32_50 : BitVec 32 := 512#32
  let v89 : BitVec 32 := Scalar.muli arg18 c512_i32_50
  let v90 : BitVec 32 := v89
  let v91 : Index := Scalar.indexCast v90
  let c0_51 : Index := 0#32
  ![v91.toNat, 0]
def k0_off5 (arg19 : BitVec 32) : Fin 2 → Nat :=
  let c512_i32_48 : BitVec 32 := 512#32
  let v85 : BitVec 32 := Scalar.muli arg19 c512_i32_48
  let v86 : BitVec 32 := v85
  let v96 : Index := Scalar.indexCast v86
  let c0_53 : Index := 0#32
  ![v96.toNat, 0]
def k0_mult11 (arg18 : BitVec 32) : BitVec 32 :=
  let c512_i32_58 : BitVec 32 := 512#32
  let v107 : BitVec 32 := Scalar.muli arg18 c512_i32_58
  v107
def k0_mult12 (arg18 : BitVec 32) : BitVec 32 :=
  let c512_i32_60 : BitVec 32 := 512#32
  let v113 : BitVec 32 := Scalar.muli arg18 c512_i32_60
  v113
def k0_off6 (arg18 : BitVec 32) : Fin 2 → Nat :=
  let c512_i32_60 : BitVec 32 := 512#32
  let v113 : BitVec 32 := Scalar.muli arg18 c512_i32_60
  let v114 : BitVec 32 := v113
  let v115 : Index := Scalar.indexCast v114
  let c0_61 : Index := 0#32
  ![v115.toNat, 0]

def k0_chk2 (arg18 : BitVec 32) : Prop :=
  (512 ∣ (k0_mult10 arg18).toNat) ∧
  (∀ a, (k0_off4 arg18) a + S512x256.size a ≤ S8192x256.size a) ∧
  (512 ∣ (k0_mult11 arg18).toNat) ∧
  (∀ (hinb : ∀ a, (k0_off4 arg18) a + S512x256.size a ≤ S8192x256.size a), (Rect.unit (s := S8192x256) (k0_off4 arg18) S512x256.size hinb).PackedRows (EltTy.packing .bf16)) ∧
  (512 ∣ (k0_mult12 arg18).toNat) ∧
  (∀ a, (k0_off6 arg18) a + S512x128.size a ≤ S8192x128.size a) ∧
  (∀ (hinb : ∀ a, (k0_off6 arg18) a + S512x128.size a ≤ S8192x128.size a), (Rect.unit (s := S8192x128) (k0_off6 arg18) S512x128.size hinb).PackedRows (EltTy.packing .bf16))
theorem k0_mult10_dvd : ∀ (arg18 : BitVec 32) (k0_hw2 : k0_chk2 arg18), 512 ∣ (k0_mult10 arg18).toNat := fun arg18 k0_hw2 => k0_hw2.1
theorem k0_off4_inb : ∀ (arg18 : BitVec 32) (k0_hw2 : k0_chk2 arg18), ∀ a, (k0_off4 arg18) a + S512x256.size a ≤ S8192x256.size a := fun arg18 k0_hw2 => k0_hw2.2.1
theorem k0_mult11_dvd : ∀ (arg18 : BitVec 32) (k0_hw2 : k0_chk2 arg18), 512 ∣ (k0_mult11 arg18).toNat := fun arg18 k0_hw2 => k0_hw2.2.2.1
theorem k0_off4_packedbf16 : ∀ (arg18 : BitVec 32) (k0_hw2 : k0_chk2 arg18), (Rect.unit (s := S8192x256) (k0_off4 arg18) S512x256.size (k0_off4_inb arg18 k0_hw2)).PackedRows (EltTy.packing .bf16) := fun arg18 k0_hw2 => k0_hw2.2.2.2.1 (k0_off4_inb arg18 k0_hw2)
theorem k0_mult12_dvd : ∀ (arg18 : BitVec 32) (k0_hw2 : k0_chk2 arg18), 512 ∣ (k0_mult12 arg18).toNat := fun arg18 k0_hw2 => k0_hw2.2.2.2.2.1
theorem k0_off6_inb : ∀ (arg18 : BitVec 32) (k0_hw2 : k0_chk2 arg18), ∀ a, (k0_off6 arg18) a + S512x128.size a ≤ S8192x128.size a := fun arg18 k0_hw2 => k0_hw2.2.2.2.2.2.1
theorem k0_off6_packedbf16 : ∀ (arg18 : BitVec 32) (k0_hw2 : k0_chk2 arg18), (Rect.unit (s := S8192x128) (k0_off6 arg18) S512x128.size (k0_off6_inb arg18 k0_hw2)).PackedRows (EltTy.packing .bf16) := fun arg18 k0_hw2 => k0_hw2.2.2.2.2.2.2 (k0_off6_inb arg18 k0_hw2)

def k0_mult13 (arg18 : BitVec 32) (arg19 : BitVec 32) : BitVec 32 :=
  let c15_i32 : BitVec 32 := 15#32
  let v38 : BitVec 1 := Scalar.cmpi .eq arg19 c15_i32
  let c1_i32_23 : BitVec 32 := 1#32
  let v39 : BitVec 32 := Scalar.addi arg18 c1_i32_23
  let v40 : BitVec 32 := Scalar.select v38 v39 arg18
  let c15_i32_62 : BitVec 32 := 15#32
  let v117 : BitVec 32 := Scalar.minsi v40 c15_i32_62
  let c512_i32_64 : BitVec 32 := 512#32
  let v119 : BitVec 32 := Scalar.muli v117 c512_i32_64
  v119
def k0_off7 (arg18 : BitVec 32) (arg19 : BitVec 32) : Fin 2 → Nat :=
  let c15_i32 : BitVec 32 := 15#32
  let v38 : BitVec 1 := Scalar.cmpi .eq arg19 c15_i32
  let c1_i32_23 : BitVec 32 := 1#32
  let v39 : BitVec 32 := Scalar.addi arg18 c1_i32_23
  let v40 : BitVec 32 := Scalar.select v38 v39 arg18
  let c15_i32_62 : BitVec 32 := 15#32
  let v117 : BitVec 32 := Scalar.minsi v40 c15_i32_62
  let c512_i32_64 : BitVec 32 := 512#32
  let v119 : BitVec 32 := Scalar.muli v117 c512_i32_64
  let v120 : BitVec 32 := v119
  let v121 : Index := Scalar.indexCast v120
  let c0_65 : Index := 0#32
  ![v121.toNat, 0]
def k0_mult14 (arg18 : BitVec 32) (arg19 : BitVec 32) : BitVec 32 :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_63 : BitVec 32 := 15#32
  let v118 : BitVec 32 := Scalar.minsi v43 c15_i32_63
  let c512_i32_66 : BitVec 32 := 512#32
  let v124 : BitVec 32 := Scalar.muli v118 c512_i32_66
  v124
def k0_off8 (arg18 : BitVec 32) (arg19 : BitVec 32) : Fin 2 → Nat :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_63 : BitVec 32 := 15#32
  let v118 : BitVec 32 := Scalar.minsi v43 c15_i32_63
  let c512_i32_66 : BitVec 32 := 512#32
  let v124 : BitVec 32 := Scalar.muli v118 c512_i32_66
  let v125 : BitVec 32 := v124
  let v126 : Index := Scalar.indexCast v125
  let c0_67 : Index := 0#32
  ![v126.toNat, 0]
def k0_mult15 (arg18 : BitVec 32) (arg19 : BitVec 32) : BitVec 32 :=
  let c15_i32 : BitVec 32 := 15#32
  let v38 : BitVec 1 := Scalar.cmpi .eq arg19 c15_i32
  let c1_i32_23 : BitVec 32 := 1#32
  let v39 : BitVec 32 := Scalar.addi arg18 c1_i32_23
  let v40 : BitVec 32 := Scalar.select v38 v39 arg18
  let c15_i32_62 : BitVec 32 := 15#32
  let v117 : BitVec 32 := Scalar.minsi v40 c15_i32_62
  let c512_i32_73 : BitVec 32 := 512#32
  let v142 : BitVec 32 := Scalar.muli v117 c512_i32_73
  v142
def k0_off9 (arg18 : BitVec 32) (arg19 : BitVec 32) : Fin 2 → Nat :=
  let c15_i32 : BitVec 32 := 15#32
  let v38 : BitVec 1 := Scalar.cmpi .eq arg19 c15_i32
  let c1_i32_23 : BitVec 32 := 1#32
  let v39 : BitVec 32 := Scalar.addi arg18 c1_i32_23
  let v40 : BitVec 32 := Scalar.select v38 v39 arg18
  let c15_i32_62 : BitVec 32 := 15#32
  let v117 : BitVec 32 := Scalar.minsi v40 c15_i32_62
  let c512_i32_73 : BitVec 32 := 512#32
  let v142 : BitVec 32 := Scalar.muli v117 c512_i32_73
  let v143 : BitVec 32 := v142
  let v144 : Index := Scalar.indexCast v143
  let c0_74 : Index := 0#32
  ![v144.toNat, 0]
def k0_mult16 (arg18 : BitVec 32) (arg19 : BitVec 32) : BitVec 32 :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_63 : BitVec 32 := 15#32
  let v118 : BitVec 32 := Scalar.minsi v43 c15_i32_63
  let c512_i32_75 : BitVec 32 := 512#32
  let v147 : BitVec 32 := Scalar.muli v118 c512_i32_75
  v147
def k0_off10 (arg18 : BitVec 32) (arg19 : BitVec 32) : Fin 3 → Nat :=
  let c0_76 : Index := 0#32
  let c0_77 : Index := 0#32
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_63 : BitVec 32 := 15#32
  let v118 : BitVec 32 := Scalar.minsi v43 c15_i32_63
  let c512_i32_75 : BitVec 32 := 512#32
  let v147 : BitVec 32 := Scalar.muli v118 c512_i32_75
  let v148 : BitVec 32 := v147
  let v149 : Index := Scalar.indexCast v148
  ![0, 0, v149.toNat]
def k0_mult17 (arg18 : BitVec 32) (arg19 : BitVec 32) : BitVec 32 :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c512_i32_87 : BitVec 32 := 512#32
  let v164 : BitVec 32 := Scalar.muli v43 c512_i32_87
  v164
def k0_off11 (arg18 : BitVec 32) (arg19 : BitVec 32) : Fin 3 → Nat :=
  let c0_88 : Index := 0#32
  let c0_89 : Index := 0#32
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c512_i32_87 : BitVec 32 := 512#32
  let v164 : BitVec 32 := Scalar.muli v43 c512_i32_87
  let v165 : BitVec 32 := v164
  let v166 : Index := Scalar.indexCast v165
  ![0, 0, v166.toNat]
def k0_mult18 (arg18 : BitVec 32) (arg19 : BitVec 32) : BitVec 32 :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c512_i32_93 : BitVec 32 := 512#32
  let v176 : BitVec 32 := Scalar.muli v43 c512_i32_93
  v176
def k0_off12 (arg18 : BitVec 32) (arg19 : BitVec 32) : Fin 3 → Nat :=
  let c0_94 : Index := 0#32
  let c0_95 : Index := 0#32
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c512_i32_93 : BitVec 32 := 512#32
  let v176 : BitVec 32 := Scalar.muli v43 c512_i32_93
  let v177 : BitVec 32 := v176
  let v178 : Index := Scalar.indexCast v177
  ![0, 0, v178.toNat]
def k0_mult19 (arg18 : BitVec 32) (arg19 : BitVec 32) : BitVec 32 :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c512_i32_99 : BitVec 32 := 512#32
  let v184 : BitVec 32 := Scalar.muli v43 c512_i32_99
  v184
def k0_mult20 (arg18 : BitVec 32) (arg19 : BitVec 32) : BitVec 32 :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c512_i32_105 : BitVec 32 := 512#32
  let v196 : BitVec 32 := Scalar.muli v43 c512_i32_105
  v196
def k0_off13 (arg18 : BitVec 32) (arg19 : BitVec 32) : Fin 2 → Nat :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c512_i32_105 : BitVec 32 := 512#32
  let v196 : BitVec 32 := Scalar.muli v43 c512_i32_105
  let v197 : BitVec 32 := v196
  let v198 : Index := Scalar.indexCast v197
  let c0_106 : Index := 0#32
  ![v198.toNat, 0]
def k0_mult21 (arg18 : BitVec 32) (arg19 : BitVec 32) : BitVec 32 :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c512_i32_108 : BitVec 32 := 512#32
  let v203 : BitVec 32 := Scalar.muli v43 c512_i32_108
  v203
def k0_mult22 (arg18 : BitVec 32) (arg19 : BitVec 32) : BitVec 32 :=
  let c15_i32 : BitVec 32 := 15#32
  let v38 : BitVec 1 := Scalar.cmpi .eq arg19 c15_i32
  let c1_i32_23 : BitVec 32 := 1#32
  let v39 : BitVec 32 := Scalar.addi arg18 c1_i32_23
  let v40 : BitVec 32 := Scalar.select v38 v39 arg18
  let c512_i32_110 : BitVec 32 := 512#32
  let v207 : BitVec 32 := Scalar.muli v40 c512_i32_110
  v207
def k0_off14 (arg18 : BitVec 32) (arg19 : BitVec 32) : Fin 2 → Nat :=
  let c15_i32 : BitVec 32 := 15#32
  let v38 : BitVec 1 := Scalar.cmpi .eq arg19 c15_i32
  let c1_i32_23 : BitVec 32 := 1#32
  let v39 : BitVec 32 := Scalar.addi arg18 c1_i32_23
  let v40 : BitVec 32 := Scalar.select v38 v39 arg18
  let c512_i32_110 : BitVec 32 := 512#32
  let v207 : BitVec 32 := Scalar.muli v40 c512_i32_110
  let v208 : BitVec 32 := v207
  let v209 : Index := Scalar.indexCast v208
  let c0_111 : Index := 0#32
  ![v209.toNat, 0]
def k0_mult23 (arg18 : BitVec 32) (arg19 : BitVec 32) : BitVec 32 :=
  let c15_i32 : BitVec 32 := 15#32
  let v38 : BitVec 1 := Scalar.cmpi .eq arg19 c15_i32
  let c1_i32_23 : BitVec 32 := 1#32
  let v39 : BitVec 32 := Scalar.addi arg18 c1_i32_23
  let v40 : BitVec 32 := Scalar.select v38 v39 arg18
  let c512_i32_118 : BitVec 32 := 512#32
  let v225 : BitVec 32 := Scalar.muli v40 c512_i32_118
  v225
def k0_mult24 (arg18 : BitVec 32) (arg19 : BitVec 32) : BitVec 32 :=
  let c15_i32 : BitVec 32 := 15#32
  let v38 : BitVec 1 := Scalar.cmpi .eq arg19 c15_i32
  let c1_i32_23 : BitVec 32 := 1#32
  let v39 : BitVec 32 := Scalar.addi arg18 c1_i32_23
  let v40 : BitVec 32 := Scalar.select v38 v39 arg18
  let c512_i32_120 : BitVec 32 := 512#32
  let v231 : BitVec 32 := Scalar.muli v40 c512_i32_120
  v231
def k0_off15 (arg18 : BitVec 32) (arg19 : BitVec 32) : Fin 2 → Nat :=
  let c15_i32 : BitVec 32 := 15#32
  let v38 : BitVec 1 := Scalar.cmpi .eq arg19 c15_i32
  let c1_i32_23 : BitVec 32 := 1#32
  let v39 : BitVec 32 := Scalar.addi arg18 c1_i32_23
  let v40 : BitVec 32 := Scalar.select v38 v39 arg18
  let c512_i32_120 : BitVec 32 := 512#32
  let v231 : BitVec 32 := Scalar.muli v40 c512_i32_120
  let v232 : BitVec 32 := v231
  let v233 : Index := Scalar.indexCast v232
  let c0_121 : Index := 0#32
  ![v233.toNat, 0]
def k0_mult25 (arg18 : BitVec 32) (arg19 : BitVec 32) : BitVec 32 :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_82 : BitVec 32 := 1#32
  let v157 : BitVec 32 := Scalar.addi v40 c1_i32_82
  let v158 : BitVec 32 := Scalar.select v156 v157 v40
  let c15_i32_122 : BitVec 32 := 15#32
  let v235 : BitVec 32 := Scalar.minsi v158 c15_i32_122
  let c512_i32_124 : BitVec 32 := 512#32
  let v237 : BitVec 32 := Scalar.muli v235 c512_i32_124
  v237
def k0_off16 (arg18 : BitVec 32) (arg19 : BitVec 32) : Fin 2 → Nat :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_82 : BitVec 32 := 1#32
  let v157 : BitVec 32 := Scalar.addi v40 c1_i32_82
  let v158 : BitVec 32 := Scalar.select v156 v157 v40
  let c15_i32_122 : BitVec 32 := 15#32
  let v235 : BitVec 32 := Scalar.minsi v158 c15_i32_122
  let c512_i32_124 : BitVec 32 := 512#32
  let v237 : BitVec 32 := Scalar.muli v235 c512_i32_124
  let v238 : BitVec 32 := v237
  let v239 : Index := Scalar.indexCast v238
  let c0_125 : Index := 0#32
  ![v239.toNat, 0]
def k0_mult26 (arg18 : BitVec 32) (arg19 : BitVec 32) : BitVec 32 :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c15_i32_123 : BitVec 32 := 15#32
  let v236 : BitVec 32 := Scalar.minsi v161 c15_i32_123
  let c512_i32_126 : BitVec 32 := 512#32
  let v242 : BitVec 32 := Scalar.muli v236 c512_i32_126
  v242
def k0_off17 (arg18 : BitVec 32) (arg19 : BitVec 32) : Fin 2 → Nat :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c15_i32_123 : BitVec 32 := 15#32
  let v236 : BitVec 32 := Scalar.minsi v161 c15_i32_123
  let c512_i32_126 : BitVec 32 := 512#32
  let v242 : BitVec 32 := Scalar.muli v236 c512_i32_126
  let v243 : BitVec 32 := v242
  let v244 : Index := Scalar.indexCast v243
  let c0_127 : Index := 0#32
  ![v244.toNat, 0]
def k0_mult27 (arg18 : BitVec 32) (arg19 : BitVec 32) : BitVec 32 :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_82 : BitVec 32 := 1#32
  let v157 : BitVec 32 := Scalar.addi v40 c1_i32_82
  let v158 : BitVec 32 := Scalar.select v156 v157 v40
  let c15_i32_122 : BitVec 32 := 15#32
  let v235 : BitVec 32 := Scalar.minsi v158 c15_i32_122
  let c512_i32_133 : BitVec 32 := 512#32
  let v260 : BitVec 32 := Scalar.muli v235 c512_i32_133
  v260
def k0_off18 (arg18 : BitVec 32) (arg19 : BitVec 32) : Fin 2 → Nat :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_82 : BitVec 32 := 1#32
  let v157 : BitVec 32 := Scalar.addi v40 c1_i32_82
  let v158 : BitVec 32 := Scalar.select v156 v157 v40
  let c15_i32_122 : BitVec 32 := 15#32
  let v235 : BitVec 32 := Scalar.minsi v158 c15_i32_122
  let c512_i32_133 : BitVec 32 := 512#32
  let v260 : BitVec 32 := Scalar.muli v235 c512_i32_133
  let v261 : BitVec 32 := v260
  let v262 : Index := Scalar.indexCast v261
  let c0_134 : Index := 0#32
  ![v262.toNat, 0]
def k0_mult28 (arg18 : BitVec 32) (arg19 : BitVec 32) : BitVec 32 :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c15_i32_123 : BitVec 32 := 15#32
  let v236 : BitVec 32 := Scalar.minsi v161 c15_i32_123
  let c512_i32_135 : BitVec 32 := 512#32
  let v265 : BitVec 32 := Scalar.muli v236 c512_i32_135
  v265
def k0_off19 (arg18 : BitVec 32) (arg19 : BitVec 32) : Fin 3 → Nat :=
  let c0_136 : Index := 0#32
  let c0_137 : Index := 0#32
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c15_i32_123 : BitVec 32 := 15#32
  let v236 : BitVec 32 := Scalar.minsi v161 c15_i32_123
  let c512_i32_135 : BitVec 32 := 512#32
  let v265 : BitVec 32 := Scalar.muli v236 c512_i32_135
  let v266 : BitVec 32 := v265
  let v267 : Index := Scalar.indexCast v266
  ![0, 0, v267.toNat]
def k0_mult29 (arg18 : BitVec 32) (arg19 : BitVec 32) : BitVec 32 :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c512_i32_147 : BitVec 32 := 512#32
  let v282 : BitVec 32 := Scalar.muli v161 c512_i32_147
  v282
def k0_off20 (arg18 : BitVec 32) (arg19 : BitVec 32) : Fin 3 → Nat :=
  let c0_148 : Index := 0#32
  let c0_149 : Index := 0#32
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c512_i32_147 : BitVec 32 := 512#32
  let v282 : BitVec 32 := Scalar.muli v161 c512_i32_147
  let v283 : BitVec 32 := v282
  let v284 : Index := Scalar.indexCast v283
  ![0, 0, v284.toNat]
def k0_mult30 (arg18 : BitVec 32) (arg19 : BitVec 32) : BitVec 32 :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c512_i32_153 : BitVec 32 := 512#32
  let v294 : BitVec 32 := Scalar.muli v161 c512_i32_153
  v294
def k0_off21 (arg18 : BitVec 32) (arg19 : BitVec 32) : Fin 3 → Nat :=
  let c0_154 : Index := 0#32
  let c0_155 : Index := 0#32
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c512_i32_153 : BitVec 32 := 512#32
  let v294 : BitVec 32 := Scalar.muli v161 c512_i32_153
  let v295 : BitVec 32 := v294
  let v296 : Index := Scalar.indexCast v295
  ![0, 0, v296.toNat]
def k0_mult31 (arg18 : BitVec 32) (arg19 : BitVec 32) : BitVec 32 :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c512_i32_159 : BitVec 32 := 512#32
  let v302 : BitVec 32 := Scalar.muli v161 c512_i32_159
  v302
def k0_mult32 (arg18 : BitVec 32) (arg19 : BitVec 32) : BitVec 32 :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c512_i32_165 : BitVec 32 := 512#32
  let v314 : BitVec 32 := Scalar.muli v161 c512_i32_165
  v314
def k0_off22 (arg18 : BitVec 32) (arg19 : BitVec 32) : Fin 2 → Nat :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c512_i32_165 : BitVec 32 := 512#32
  let v314 : BitVec 32 := Scalar.muli v161 c512_i32_165
  let v315 : BitVec 32 := v314
  let v316 : Index := Scalar.indexCast v315
  let c0_166 : Index := 0#32
  ![v316.toNat, 0]
def k0_mult33 (arg18 : BitVec 32) (arg19 : BitVec 32) : BitVec 32 :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c512_i32_168 : BitVec 32 := 512#32
  let v321 : BitVec 32 := Scalar.muli v161 c512_i32_168
  v321
def k0_mult34 (arg18 : BitVec 32) (arg19 : BitVec 32) : BitVec 32 :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_82 : BitVec 32 := 1#32
  let v157 : BitVec 32 := Scalar.addi v40 c1_i32_82
  let v158 : BitVec 32 := Scalar.select v156 v157 v40
  let c512_i32_170 : BitVec 32 := 512#32
  let v325 : BitVec 32 := Scalar.muli v158 c512_i32_170
  v325
def k0_off23 (arg18 : BitVec 32) (arg19 : BitVec 32) : Fin 2 → Nat :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_82 : BitVec 32 := 1#32
  let v157 : BitVec 32 := Scalar.addi v40 c1_i32_82
  let v158 : BitVec 32 := Scalar.select v156 v157 v40
  let c512_i32_170 : BitVec 32 := 512#32
  let v325 : BitVec 32 := Scalar.muli v158 c512_i32_170
  let v326 : BitVec 32 := v325
  let v327 : Index := Scalar.indexCast v326
  let c0_171 : Index := 0#32
  ![v327.toNat, 0]
def k0_mult35 (arg18 : BitVec 32) (arg19 : BitVec 32) : BitVec 32 :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_82 : BitVec 32 := 1#32
  let v157 : BitVec 32 := Scalar.addi v40 c1_i32_82
  let v158 : BitVec 32 := Scalar.select v156 v157 v40
  let c512_i32_178 : BitVec 32 := 512#32
  let v343 : BitVec 32 := Scalar.muli v158 c512_i32_178
  v343
def k0_mult36 (arg18 : BitVec 32) (arg19 : BitVec 32) : BitVec 32 :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_82 : BitVec 32 := 1#32
  let v157 : BitVec 32 := Scalar.addi v40 c1_i32_82
  let v158 : BitVec 32 := Scalar.select v156 v157 v40
  let c512_i32_180 : BitVec 32 := 512#32
  let v349 : BitVec 32 := Scalar.muli v158 c512_i32_180
  v349
def k0_off24 (arg18 : BitVec 32) (arg19 : BitVec 32) : Fin 2 → Nat :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_82 : BitVec 32 := 1#32
  let v157 : BitVec 32 := Scalar.addi v40 c1_i32_82
  let v158 : BitVec 32 := Scalar.select v156 v157 v40
  let c512_i32_180 : BitVec 32 := 512#32
  let v349 : BitVec 32 := Scalar.muli v158 c512_i32_180
  let v350 : BitVec 32 := v349
  let v351 : Index := Scalar.indexCast v350
  let c0_181 : Index := 0#32
  ![v351.toNat, 0]
def k0_mult37 (arg18 : BitVec 32) (arg19 : BitVec 32) : BitVec 32 :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c15_i32_141 : BitVec 32 := 15#32
  let v274 : BitVec 1 := Scalar.cmpi .eq v161 c15_i32_141
  let c1_i32_82 : BitVec 32 := 1#32
  let v157 : BitVec 32 := Scalar.addi v40 c1_i32_82
  let v158 : BitVec 32 := Scalar.select v156 v157 v40
  let c1_i32_142 : BitVec 32 := 1#32
  let v275 : BitVec 32 := Scalar.addi v158 c1_i32_142
  let v276 : BitVec 32 := Scalar.select v274 v275 v158
  let c15_i32_182 : BitVec 32 := 15#32
  let v353 : BitVec 32 := Scalar.minsi v276 c15_i32_182
  let c512_i32_184 : BitVec 32 := 512#32
  let v355 : BitVec 32 := Scalar.muli v353 c512_i32_184
  v355
def k0_off25 (arg18 : BitVec 32) (arg19 : BitVec 32) : Fin 2 → Nat :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c15_i32_141 : BitVec 32 := 15#32
  let v274 : BitVec 1 := Scalar.cmpi .eq v161 c15_i32_141
  let c1_i32_82 : BitVec 32 := 1#32
  let v157 : BitVec 32 := Scalar.addi v40 c1_i32_82
  let v158 : BitVec 32 := Scalar.select v156 v157 v40
  let c1_i32_142 : BitVec 32 := 1#32
  let v275 : BitVec 32 := Scalar.addi v158 c1_i32_142
  let v276 : BitVec 32 := Scalar.select v274 v275 v158
  let c15_i32_182 : BitVec 32 := 15#32
  let v353 : BitVec 32 := Scalar.minsi v276 c15_i32_182
  let c512_i32_184 : BitVec 32 := 512#32
  let v355 : BitVec 32 := Scalar.muli v353 c512_i32_184
  let v356 : BitVec 32 := v355
  let v357 : Index := Scalar.indexCast v356
  let c0_185 : Index := 0#32
  ![v357.toNat, 0]
def k0_mult38 (arg18 : BitVec 32) (arg19 : BitVec 32) : BitVec 32 :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c15_i32_141 : BitVec 32 := 15#32
  let v274 : BitVec 1 := Scalar.cmpi .eq v161 c15_i32_141
  let c1_i32_82 : BitVec 32 := 1#32
  let v157 : BitVec 32 := Scalar.addi v40 c1_i32_82
  let v158 : BitVec 32 := Scalar.select v156 v157 v40
  let c1_i32_143 : BitVec 32 := 1#32
  let v277 : BitVec 32 := Scalar.addi v158 c1_i32_143
  let c1_i32_144 : BitVec 32 := 1#32
  let v278 : BitVec 32 := Scalar.addi v161 c1_i32_144
  let v279 : BitVec 32 := Scalar.select v274 v277 v278
  let c15_i32_183 : BitVec 32 := 15#32
  let v354 : BitVec 32 := Scalar.minsi v279 c15_i32_183
  let c512_i32_186 : BitVec 32 := 512#32
  let v360 : BitVec 32 := Scalar.muli v354 c512_i32_186
  v360
def k0_off26 (arg18 : BitVec 32) (arg19 : BitVec 32) : Fin 2 → Nat :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c15_i32_141 : BitVec 32 := 15#32
  let v274 : BitVec 1 := Scalar.cmpi .eq v161 c15_i32_141
  let c1_i32_82 : BitVec 32 := 1#32
  let v157 : BitVec 32 := Scalar.addi v40 c1_i32_82
  let v158 : BitVec 32 := Scalar.select v156 v157 v40
  let c1_i32_143 : BitVec 32 := 1#32
  let v277 : BitVec 32 := Scalar.addi v158 c1_i32_143
  let c1_i32_144 : BitVec 32 := 1#32
  let v278 : BitVec 32 := Scalar.addi v161 c1_i32_144
  let v279 : BitVec 32 := Scalar.select v274 v277 v278
  let c15_i32_183 : BitVec 32 := 15#32
  let v354 : BitVec 32 := Scalar.minsi v279 c15_i32_183
  let c512_i32_186 : BitVec 32 := 512#32
  let v360 : BitVec 32 := Scalar.muli v354 c512_i32_186
  let v361 : BitVec 32 := v360
  let v362 : Index := Scalar.indexCast v361
  let c0_187 : Index := 0#32
  ![v362.toNat, 0]
def k0_mult39 (arg18 : BitVec 32) (arg19 : BitVec 32) : BitVec 32 :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c15_i32_141 : BitVec 32 := 15#32
  let v274 : BitVec 1 := Scalar.cmpi .eq v161 c15_i32_141
  let c1_i32_82 : BitVec 32 := 1#32
  let v157 : BitVec 32 := Scalar.addi v40 c1_i32_82
  let v158 : BitVec 32 := Scalar.select v156 v157 v40
  let c1_i32_142 : BitVec 32 := 1#32
  let v275 : BitVec 32 := Scalar.addi v158 c1_i32_142
  let v276 : BitVec 32 := Scalar.select v274 v275 v158
  let c15_i32_182 : BitVec 32 := 15#32
  let v353 : BitVec 32 := Scalar.minsi v276 c15_i32_182
  let c512_i32_193 : BitVec 32 := 512#32
  let v378 : BitVec 32 := Scalar.muli v353 c512_i32_193
  v378
def k0_off27 (arg18 : BitVec 32) (arg19 : BitVec 32) : Fin 2 → Nat :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c15_i32_141 : BitVec 32 := 15#32
  let v274 : BitVec 1 := Scalar.cmpi .eq v161 c15_i32_141
  let c1_i32_82 : BitVec 32 := 1#32
  let v157 : BitVec 32 := Scalar.addi v40 c1_i32_82
  let v158 : BitVec 32 := Scalar.select v156 v157 v40
  let c1_i32_142 : BitVec 32 := 1#32
  let v275 : BitVec 32 := Scalar.addi v158 c1_i32_142
  let v276 : BitVec 32 := Scalar.select v274 v275 v158
  let c15_i32_182 : BitVec 32 := 15#32
  let v353 : BitVec 32 := Scalar.minsi v276 c15_i32_182
  let c512_i32_193 : BitVec 32 := 512#32
  let v378 : BitVec 32 := Scalar.muli v353 c512_i32_193
  let v379 : BitVec 32 := v378
  let v380 : Index := Scalar.indexCast v379
  let c0_194 : Index := 0#32
  ![v380.toNat, 0]
def k0_mult40 (arg18 : BitVec 32) (arg19 : BitVec 32) : BitVec 32 :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c15_i32_141 : BitVec 32 := 15#32
  let v274 : BitVec 1 := Scalar.cmpi .eq v161 c15_i32_141
  let c1_i32_82 : BitVec 32 := 1#32
  let v157 : BitVec 32 := Scalar.addi v40 c1_i32_82
  let v158 : BitVec 32 := Scalar.select v156 v157 v40
  let c1_i32_143 : BitVec 32 := 1#32
  let v277 : BitVec 32 := Scalar.addi v158 c1_i32_143
  let c1_i32_144 : BitVec 32 := 1#32
  let v278 : BitVec 32 := Scalar.addi v161 c1_i32_144
  let v279 : BitVec 32 := Scalar.select v274 v277 v278
  let c15_i32_183 : BitVec 32 := 15#32
  let v354 : BitVec 32 := Scalar.minsi v279 c15_i32_183
  let c512_i32_195 : BitVec 32 := 512#32
  let v383 : BitVec 32 := Scalar.muli v354 c512_i32_195
  v383
def k0_off28 (arg18 : BitVec 32) (arg19 : BitVec 32) : Fin 3 → Nat :=
  let c0_196 : Index := 0#32
  let c0_197 : Index := 0#32
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c15_i32_141 : BitVec 32 := 15#32
  let v274 : BitVec 1 := Scalar.cmpi .eq v161 c15_i32_141
  let c1_i32_82 : BitVec 32 := 1#32
  let v157 : BitVec 32 := Scalar.addi v40 c1_i32_82
  let v158 : BitVec 32 := Scalar.select v156 v157 v40
  let c1_i32_143 : BitVec 32 := 1#32
  let v277 : BitVec 32 := Scalar.addi v158 c1_i32_143
  let c1_i32_144 : BitVec 32 := 1#32
  let v278 : BitVec 32 := Scalar.addi v161 c1_i32_144
  let v279 : BitVec 32 := Scalar.select v274 v277 v278
  let c15_i32_183 : BitVec 32 := 15#32
  let v354 : BitVec 32 := Scalar.minsi v279 c15_i32_183
  let c512_i32_195 : BitVec 32 := 512#32
  let v383 : BitVec 32 := Scalar.muli v354 c512_i32_195
  let v384 : BitVec 32 := v383
  let v385 : Index := Scalar.indexCast v384
  ![0, 0, v385.toNat]
def k0_mult41 (arg18 : BitVec 32) (arg19 : BitVec 32) : BitVec 32 :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c15_i32_141 : BitVec 32 := 15#32
  let v274 : BitVec 1 := Scalar.cmpi .eq v161 c15_i32_141
  let c1_i32_82 : BitVec 32 := 1#32
  let v157 : BitVec 32 := Scalar.addi v40 c1_i32_82
  let v158 : BitVec 32 := Scalar.select v156 v157 v40
  let c1_i32_143 : BitVec 32 := 1#32
  let v277 : BitVec 32 := Scalar.addi v158 c1_i32_143
  let c1_i32_144 : BitVec 32 := 1#32
  let v278 : BitVec 32 := Scalar.addi v161 c1_i32_144
  let v279 : BitVec 32 := Scalar.select v274 v277 v278
  let c512_i32_207 : BitVec 32 := 512#32
  let v400 : BitVec 32 := Scalar.muli v279 c512_i32_207
  v400
def k0_off29 (arg18 : BitVec 32) (arg19 : BitVec 32) : Fin 3 → Nat :=
  let c0_208 : Index := 0#32
  let c0_209 : Index := 0#32
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c15_i32_141 : BitVec 32 := 15#32
  let v274 : BitVec 1 := Scalar.cmpi .eq v161 c15_i32_141
  let c1_i32_82 : BitVec 32 := 1#32
  let v157 : BitVec 32 := Scalar.addi v40 c1_i32_82
  let v158 : BitVec 32 := Scalar.select v156 v157 v40
  let c1_i32_143 : BitVec 32 := 1#32
  let v277 : BitVec 32 := Scalar.addi v158 c1_i32_143
  let c1_i32_144 : BitVec 32 := 1#32
  let v278 : BitVec 32 := Scalar.addi v161 c1_i32_144
  let v279 : BitVec 32 := Scalar.select v274 v277 v278
  let c512_i32_207 : BitVec 32 := 512#32
  let v400 : BitVec 32 := Scalar.muli v279 c512_i32_207
  let v401 : BitVec 32 := v400
  let v402 : Index := Scalar.indexCast v401
  ![0, 0, v402.toNat]
def k0_mult42 (arg18 : BitVec 32) (arg19 : BitVec 32) : BitVec 32 :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c15_i32_141 : BitVec 32 := 15#32
  let v274 : BitVec 1 := Scalar.cmpi .eq v161 c15_i32_141
  let c1_i32_82 : BitVec 32 := 1#32
  let v157 : BitVec 32 := Scalar.addi v40 c1_i32_82
  let v158 : BitVec 32 := Scalar.select v156 v157 v40
  let c1_i32_143 : BitVec 32 := 1#32
  let v277 : BitVec 32 := Scalar.addi v158 c1_i32_143
  let c1_i32_144 : BitVec 32 := 1#32
  let v278 : BitVec 32 := Scalar.addi v161 c1_i32_144
  let v279 : BitVec 32 := Scalar.select v274 v277 v278
  let c512_i32_213 : BitVec 32 := 512#32
  let v412 : BitVec 32 := Scalar.muli v279 c512_i32_213
  v412
def k0_off30 (arg18 : BitVec 32) (arg19 : BitVec 32) : Fin 3 → Nat :=
  let c0_214 : Index := 0#32
  let c0_215 : Index := 0#32
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c15_i32_141 : BitVec 32 := 15#32
  let v274 : BitVec 1 := Scalar.cmpi .eq v161 c15_i32_141
  let c1_i32_82 : BitVec 32 := 1#32
  let v157 : BitVec 32 := Scalar.addi v40 c1_i32_82
  let v158 : BitVec 32 := Scalar.select v156 v157 v40
  let c1_i32_143 : BitVec 32 := 1#32
  let v277 : BitVec 32 := Scalar.addi v158 c1_i32_143
  let c1_i32_144 : BitVec 32 := 1#32
  let v278 : BitVec 32 := Scalar.addi v161 c1_i32_144
  let v279 : BitVec 32 := Scalar.select v274 v277 v278
  let c512_i32_213 : BitVec 32 := 512#32
  let v412 : BitVec 32 := Scalar.muli v279 c512_i32_213
  let v413 : BitVec 32 := v412
  let v414 : Index := Scalar.indexCast v413
  ![0, 0, v414.toNat]
def k0_mult43 (arg18 : BitVec 32) (arg19 : BitVec 32) : BitVec 32 :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c15_i32_141 : BitVec 32 := 15#32
  let v274 : BitVec 1 := Scalar.cmpi .eq v161 c15_i32_141
  let c1_i32_82 : BitVec 32 := 1#32
  let v157 : BitVec 32 := Scalar.addi v40 c1_i32_82
  let v158 : BitVec 32 := Scalar.select v156 v157 v40
  let c1_i32_143 : BitVec 32 := 1#32
  let v277 : BitVec 32 := Scalar.addi v158 c1_i32_143
  let c1_i32_144 : BitVec 32 := 1#32
  let v278 : BitVec 32 := Scalar.addi v161 c1_i32_144
  let v279 : BitVec 32 := Scalar.select v274 v277 v278
  let c512_i32_219 : BitVec 32 := 512#32
  let v420 : BitVec 32 := Scalar.muli v279 c512_i32_219
  v420
def k0_mult44 (arg18 : BitVec 32) (arg19 : BitVec 32) : BitVec 32 :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c15_i32_141 : BitVec 32 := 15#32
  let v274 : BitVec 1 := Scalar.cmpi .eq v161 c15_i32_141
  let c1_i32_82 : BitVec 32 := 1#32
  let v157 : BitVec 32 := Scalar.addi v40 c1_i32_82
  let v158 : BitVec 32 := Scalar.select v156 v157 v40
  let c1_i32_143 : BitVec 32 := 1#32
  let v277 : BitVec 32 := Scalar.addi v158 c1_i32_143
  let c1_i32_144 : BitVec 32 := 1#32
  let v278 : BitVec 32 := Scalar.addi v161 c1_i32_144
  let v279 : BitVec 32 := Scalar.select v274 v277 v278
  let c512_i32_225 : BitVec 32 := 512#32
  let v432 : BitVec 32 := Scalar.muli v279 c512_i32_225
  v432
def k0_off31 (arg18 : BitVec 32) (arg19 : BitVec 32) : Fin 2 → Nat :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c15_i32_141 : BitVec 32 := 15#32
  let v274 : BitVec 1 := Scalar.cmpi .eq v161 c15_i32_141
  let c1_i32_82 : BitVec 32 := 1#32
  let v157 : BitVec 32 := Scalar.addi v40 c1_i32_82
  let v158 : BitVec 32 := Scalar.select v156 v157 v40
  let c1_i32_143 : BitVec 32 := 1#32
  let v277 : BitVec 32 := Scalar.addi v158 c1_i32_143
  let c1_i32_144 : BitVec 32 := 1#32
  let v278 : BitVec 32 := Scalar.addi v161 c1_i32_144
  let v279 : BitVec 32 := Scalar.select v274 v277 v278
  let c512_i32_225 : BitVec 32 := 512#32
  let v432 : BitVec 32 := Scalar.muli v279 c512_i32_225
  let v433 : BitVec 32 := v432
  let v434 : Index := Scalar.indexCast v433
  let c0_226 : Index := 0#32
  ![v434.toNat, 0]
def k0_mult45 (arg18 : BitVec 32) (arg19 : BitVec 32) : BitVec 32 :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c15_i32_141 : BitVec 32 := 15#32
  let v274 : BitVec 1 := Scalar.cmpi .eq v161 c15_i32_141
  let c1_i32_82 : BitVec 32 := 1#32
  let v157 : BitVec 32 := Scalar.addi v40 c1_i32_82
  let v158 : BitVec 32 := Scalar.select v156 v157 v40
  let c1_i32_143 : BitVec 32 := 1#32
  let v277 : BitVec 32 := Scalar.addi v158 c1_i32_143
  let c1_i32_144 : BitVec 32 := 1#32
  let v278 : BitVec 32 := Scalar.addi v161 c1_i32_144
  let v279 : BitVec 32 := Scalar.select v274 v277 v278
  let c512_i32_228 : BitVec 32 := 512#32
  let v439 : BitVec 32 := Scalar.muli v279 c512_i32_228
  v439
def k0_mult46 (arg18 : BitVec 32) (arg19 : BitVec 32) : BitVec 32 :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c15_i32_141 : BitVec 32 := 15#32
  let v274 : BitVec 1 := Scalar.cmpi .eq v161 c15_i32_141
  let c1_i32_82 : BitVec 32 := 1#32
  let v157 : BitVec 32 := Scalar.addi v40 c1_i32_82
  let v158 : BitVec 32 := Scalar.select v156 v157 v40
  let c1_i32_142 : BitVec 32 := 1#32
  let v275 : BitVec 32 := Scalar.addi v158 c1_i32_142
  let v276 : BitVec 32 := Scalar.select v274 v275 v158
  let c512_i32_230 : BitVec 32 := 512#32
  let v443 : BitVec 32 := Scalar.muli v276 c512_i32_230
  v443
def k0_off32 (arg18 : BitVec 32) (arg19 : BitVec 32) : Fin 2 → Nat :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c15_i32_141 : BitVec 32 := 15#32
  let v274 : BitVec 1 := Scalar.cmpi .eq v161 c15_i32_141
  let c1_i32_82 : BitVec 32 := 1#32
  let v157 : BitVec 32 := Scalar.addi v40 c1_i32_82
  let v158 : BitVec 32 := Scalar.select v156 v157 v40
  let c1_i32_142 : BitVec 32 := 1#32
  let v275 : BitVec 32 := Scalar.addi v158 c1_i32_142
  let v276 : BitVec 32 := Scalar.select v274 v275 v158
  let c512_i32_230 : BitVec 32 := 512#32
  let v443 : BitVec 32 := Scalar.muli v276 c512_i32_230
  let v444 : BitVec 32 := v443
  let v445 : Index := Scalar.indexCast v444
  let c0_231 : Index := 0#32
  ![v445.toNat, 0]
def k0_mult47 (arg18 : BitVec 32) (arg19 : BitVec 32) : BitVec 32 :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c15_i32_141 : BitVec 32 := 15#32
  let v274 : BitVec 1 := Scalar.cmpi .eq v161 c15_i32_141
  let c1_i32_82 : BitVec 32 := 1#32
  let v157 : BitVec 32 := Scalar.addi v40 c1_i32_82
  let v158 : BitVec 32 := Scalar.select v156 v157 v40
  let c1_i32_142 : BitVec 32 := 1#32
  let v275 : BitVec 32 := Scalar.addi v158 c1_i32_142
  let v276 : BitVec 32 := Scalar.select v274 v275 v158
  let c512_i32_238 : BitVec 32 := 512#32
  let v461 : BitVec 32 := Scalar.muli v276 c512_i32_238
  v461
def k0_mult48 (arg18 : BitVec 32) (arg19 : BitVec 32) : BitVec 32 :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c15_i32_141 : BitVec 32 := 15#32
  let v274 : BitVec 1 := Scalar.cmpi .eq v161 c15_i32_141
  let c1_i32_82 : BitVec 32 := 1#32
  let v157 : BitVec 32 := Scalar.addi v40 c1_i32_82
  let v158 : BitVec 32 := Scalar.select v156 v157 v40
  let c1_i32_142 : BitVec 32 := 1#32
  let v275 : BitVec 32 := Scalar.addi v158 c1_i32_142
  let v276 : BitVec 32 := Scalar.select v274 v275 v158
  let c512_i32_240 : BitVec 32 := 512#32
  let v467 : BitVec 32 := Scalar.muli v276 c512_i32_240
  v467
def k0_off33 (arg18 : BitVec 32) (arg19 : BitVec 32) : Fin 2 → Nat :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c15_i32_141 : BitVec 32 := 15#32
  let v274 : BitVec 1 := Scalar.cmpi .eq v161 c15_i32_141
  let c1_i32_82 : BitVec 32 := 1#32
  let v157 : BitVec 32 := Scalar.addi v40 c1_i32_82
  let v158 : BitVec 32 := Scalar.select v156 v157 v40
  let c1_i32_142 : BitVec 32 := 1#32
  let v275 : BitVec 32 := Scalar.addi v158 c1_i32_142
  let v276 : BitVec 32 := Scalar.select v274 v275 v158
  let c512_i32_240 : BitVec 32 := 512#32
  let v467 : BitVec 32 := Scalar.muli v276 c512_i32_240
  let v468 : BitVec 32 := v467
  let v469 : Index := Scalar.indexCast v468
  let c0_241 : Index := 0#32
  ![v469.toNat, 0]
def k0_mult49 (arg18 : BitVec 32) (arg19 : BitVec 32) : BitVec 32 :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c15_i32_141 : BitVec 32 := 15#32
  let v274 : BitVec 1 := Scalar.cmpi .eq v161 c15_i32_141
  let c1_i32_82 : BitVec 32 := 1#32
  let v157 : BitVec 32 := Scalar.addi v40 c1_i32_82
  let v158 : BitVec 32 := Scalar.select v156 v157 v40
  let c1_i32_143 : BitVec 32 := 1#32
  let v277 : BitVec 32 := Scalar.addi v158 c1_i32_143
  let c1_i32_144 : BitVec 32 := 1#32
  let v278 : BitVec 32 := Scalar.addi v161 c1_i32_144
  let v279 : BitVec 32 := Scalar.select v274 v277 v278
  let c15_i32_201 : BitVec 32 := 15#32
  let v392 : BitVec 1 := Scalar.cmpi .eq v279 c15_i32_201
  let c1_i32_142 : BitVec 32 := 1#32
  let v275 : BitVec 32 := Scalar.addi v158 c1_i32_142
  let v276 : BitVec 32 := Scalar.select v274 v275 v158
  let c1_i32_202 : BitVec 32 := 1#32
  let v393 : BitVec 32 := Scalar.addi v276 c1_i32_202
  let v394 : BitVec 32 := Scalar.select v392 v393 v276
  let c15_i32_242 : BitVec 32 := 15#32
  let v471 : BitVec 32 := Scalar.minsi v394 c15_i32_242
  let c512_i32_244 : BitVec 32 := 512#32
  let v473 : BitVec 32 := Scalar.muli v471 c512_i32_244
  v473
def k0_off34 (arg18 : BitVec 32) (arg19 : BitVec 32) : Fin 2 → Nat :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c15_i32_141 : BitVec 32 := 15#32
  let v274 : BitVec 1 := Scalar.cmpi .eq v161 c15_i32_141
  let c1_i32_82 : BitVec 32 := 1#32
  let v157 : BitVec 32 := Scalar.addi v40 c1_i32_82
  let v158 : BitVec 32 := Scalar.select v156 v157 v40
  let c1_i32_143 : BitVec 32 := 1#32
  let v277 : BitVec 32 := Scalar.addi v158 c1_i32_143
  let c1_i32_144 : BitVec 32 := 1#32
  let v278 : BitVec 32 := Scalar.addi v161 c1_i32_144
  let v279 : BitVec 32 := Scalar.select v274 v277 v278
  let c15_i32_201 : BitVec 32 := 15#32
  let v392 : BitVec 1 := Scalar.cmpi .eq v279 c15_i32_201
  let c1_i32_142 : BitVec 32 := 1#32
  let v275 : BitVec 32 := Scalar.addi v158 c1_i32_142
  let v276 : BitVec 32 := Scalar.select v274 v275 v158
  let c1_i32_202 : BitVec 32 := 1#32
  let v393 : BitVec 32 := Scalar.addi v276 c1_i32_202
  let v394 : BitVec 32 := Scalar.select v392 v393 v276
  let c15_i32_242 : BitVec 32 := 15#32
  let v471 : BitVec 32 := Scalar.minsi v394 c15_i32_242
  let c512_i32_244 : BitVec 32 := 512#32
  let v473 : BitVec 32 := Scalar.muli v471 c512_i32_244
  let v474 : BitVec 32 := v473
  let v475 : Index := Scalar.indexCast v474
  let c0_245 : Index := 0#32
  ![v475.toNat, 0]
def k0_mult50 (arg18 : BitVec 32) (arg19 : BitVec 32) : BitVec 32 :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c15_i32_141 : BitVec 32 := 15#32
  let v274 : BitVec 1 := Scalar.cmpi .eq v161 c15_i32_141
  let c1_i32_82 : BitVec 32 := 1#32
  let v157 : BitVec 32 := Scalar.addi v40 c1_i32_82
  let v158 : BitVec 32 := Scalar.select v156 v157 v40
  let c1_i32_143 : BitVec 32 := 1#32
  let v277 : BitVec 32 := Scalar.addi v158 c1_i32_143
  let c1_i32_144 : BitVec 32 := 1#32
  let v278 : BitVec 32 := Scalar.addi v161 c1_i32_144
  let v279 : BitVec 32 := Scalar.select v274 v277 v278
  let c15_i32_201 : BitVec 32 := 15#32
  let v392 : BitVec 1 := Scalar.cmpi .eq v279 c15_i32_201
  let c1_i32_142 : BitVec 32 := 1#32
  let v275 : BitVec 32 := Scalar.addi v158 c1_i32_142
  let v276 : BitVec 32 := Scalar.select v274 v275 v158
  let c1_i32_203 : BitVec 32 := 1#32
  let v395 : BitVec 32 := Scalar.addi v276 c1_i32_203
  let c1_i32_204 : BitVec 32 := 1#32
  let v396 : BitVec 32 := Scalar.addi v279 c1_i32_204
  let v397 : BitVec 32 := Scalar.select v392 v395 v396
  let c15_i32_243 : BitVec 32 := 15#32
  let v472 : BitVec 32 := Scalar.minsi v397 c15_i32_243
  let c512_i32_246 : BitVec 32 := 512#32
  let v478 : BitVec 32 := Scalar.muli v472 c512_i32_246
  v478
def k0_off35 (arg18 : BitVec 32) (arg19 : BitVec 32) : Fin 2 → Nat :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c15_i32_141 : BitVec 32 := 15#32
  let v274 : BitVec 1 := Scalar.cmpi .eq v161 c15_i32_141
  let c1_i32_82 : BitVec 32 := 1#32
  let v157 : BitVec 32 := Scalar.addi v40 c1_i32_82
  let v158 : BitVec 32 := Scalar.select v156 v157 v40
  let c1_i32_143 : BitVec 32 := 1#32
  let v277 : BitVec 32 := Scalar.addi v158 c1_i32_143
  let c1_i32_144 : BitVec 32 := 1#32
  let v278 : BitVec 32 := Scalar.addi v161 c1_i32_144
  let v279 : BitVec 32 := Scalar.select v274 v277 v278
  let c15_i32_201 : BitVec 32 := 15#32
  let v392 : BitVec 1 := Scalar.cmpi .eq v279 c15_i32_201
  let c1_i32_142 : BitVec 32 := 1#32
  let v275 : BitVec 32 := Scalar.addi v158 c1_i32_142
  let v276 : BitVec 32 := Scalar.select v274 v275 v158
  let c1_i32_203 : BitVec 32 := 1#32
  let v395 : BitVec 32 := Scalar.addi v276 c1_i32_203
  let c1_i32_204 : BitVec 32 := 1#32
  let v396 : BitVec 32 := Scalar.addi v279 c1_i32_204
  let v397 : BitVec 32 := Scalar.select v392 v395 v396
  let c15_i32_243 : BitVec 32 := 15#32
  let v472 : BitVec 32 := Scalar.minsi v397 c15_i32_243
  let c512_i32_246 : BitVec 32 := 512#32
  let v478 : BitVec 32 := Scalar.muli v472 c512_i32_246
  let v479 : BitVec 32 := v478
  let v480 : Index := Scalar.indexCast v479
  let c0_247 : Index := 0#32
  ![v480.toNat, 0]
def k0_mult51 (arg18 : BitVec 32) (arg19 : BitVec 32) : BitVec 32 :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c15_i32_141 : BitVec 32 := 15#32
  let v274 : BitVec 1 := Scalar.cmpi .eq v161 c15_i32_141
  let c1_i32_82 : BitVec 32 := 1#32
  let v157 : BitVec 32 := Scalar.addi v40 c1_i32_82
  let v158 : BitVec 32 := Scalar.select v156 v157 v40
  let c1_i32_143 : BitVec 32 := 1#32
  let v277 : BitVec 32 := Scalar.addi v158 c1_i32_143
  let c1_i32_144 : BitVec 32 := 1#32
  let v278 : BitVec 32 := Scalar.addi v161 c1_i32_144
  let v279 : BitVec 32 := Scalar.select v274 v277 v278
  let c15_i32_201 : BitVec 32 := 15#32
  let v392 : BitVec 1 := Scalar.cmpi .eq v279 c15_i32_201
  let c1_i32_142 : BitVec 32 := 1#32
  let v275 : BitVec 32 := Scalar.addi v158 c1_i32_142
  let v276 : BitVec 32 := Scalar.select v274 v275 v158
  let c1_i32_202 : BitVec 32 := 1#32
  let v393 : BitVec 32 := Scalar.addi v276 c1_i32_202
  let v394 : BitVec 32 := Scalar.select v392 v393 v276
  let c15_i32_242 : BitVec 32 := 15#32
  let v471 : BitVec 32 := Scalar.minsi v394 c15_i32_242
  let c512_i32_253 : BitVec 32 := 512#32
  let v496 : BitVec 32 := Scalar.muli v471 c512_i32_253
  v496
def k0_off36 (arg18 : BitVec 32) (arg19 : BitVec 32) : Fin 2 → Nat :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c15_i32_141 : BitVec 32 := 15#32
  let v274 : BitVec 1 := Scalar.cmpi .eq v161 c15_i32_141
  let c1_i32_82 : BitVec 32 := 1#32
  let v157 : BitVec 32 := Scalar.addi v40 c1_i32_82
  let v158 : BitVec 32 := Scalar.select v156 v157 v40
  let c1_i32_143 : BitVec 32 := 1#32
  let v277 : BitVec 32 := Scalar.addi v158 c1_i32_143
  let c1_i32_144 : BitVec 32 := 1#32
  let v278 : BitVec 32 := Scalar.addi v161 c1_i32_144
  let v279 : BitVec 32 := Scalar.select v274 v277 v278
  let c15_i32_201 : BitVec 32 := 15#32
  let v392 : BitVec 1 := Scalar.cmpi .eq v279 c15_i32_201
  let c1_i32_142 : BitVec 32 := 1#32
  let v275 : BitVec 32 := Scalar.addi v158 c1_i32_142
  let v276 : BitVec 32 := Scalar.select v274 v275 v158
  let c1_i32_202 : BitVec 32 := 1#32
  let v393 : BitVec 32 := Scalar.addi v276 c1_i32_202
  let v394 : BitVec 32 := Scalar.select v392 v393 v276
  let c15_i32_242 : BitVec 32 := 15#32
  let v471 : BitVec 32 := Scalar.minsi v394 c15_i32_242
  let c512_i32_253 : BitVec 32 := 512#32
  let v496 : BitVec 32 := Scalar.muli v471 c512_i32_253
  let v497 : BitVec 32 := v496
  let v498 : Index := Scalar.indexCast v497
  let c0_254 : Index := 0#32
  ![v498.toNat, 0]
def k0_mult52 (arg18 : BitVec 32) (arg19 : BitVec 32) : BitVec 32 :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c15_i32_141 : BitVec 32 := 15#32
  let v274 : BitVec 1 := Scalar.cmpi .eq v161 c15_i32_141
  let c1_i32_82 : BitVec 32 := 1#32
  let v157 : BitVec 32 := Scalar.addi v40 c1_i32_82
  let v158 : BitVec 32 := Scalar.select v156 v157 v40
  let c1_i32_143 : BitVec 32 := 1#32
  let v277 : BitVec 32 := Scalar.addi v158 c1_i32_143
  let c1_i32_144 : BitVec 32 := 1#32
  let v278 : BitVec 32 := Scalar.addi v161 c1_i32_144
  let v279 : BitVec 32 := Scalar.select v274 v277 v278
  let c15_i32_201 : BitVec 32 := 15#32
  let v392 : BitVec 1 := Scalar.cmpi .eq v279 c15_i32_201
  let c1_i32_142 : BitVec 32 := 1#32
  let v275 : BitVec 32 := Scalar.addi v158 c1_i32_142
  let v276 : BitVec 32 := Scalar.select v274 v275 v158
  let c1_i32_203 : BitVec 32 := 1#32
  let v395 : BitVec 32 := Scalar.addi v276 c1_i32_203
  let c1_i32_204 : BitVec 32 := 1#32
  let v396 : BitVec 32 := Scalar.addi v279 c1_i32_204
  let v397 : BitVec 32 := Scalar.select v392 v395 v396
  let c15_i32_243 : BitVec 32 := 15#32
  let v472 : BitVec 32 := Scalar.minsi v397 c15_i32_243
  let c512_i32_255 : BitVec 32 := 512#32
  let v501 : BitVec 32 := Scalar.muli v472 c512_i32_255
  v501
def k0_off37 (arg18 : BitVec 32) (arg19 : BitVec 32) : Fin 3 → Nat :=
  let c0_256 : Index := 0#32
  let c0_257 : Index := 0#32
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c15_i32_141 : BitVec 32 := 15#32
  let v274 : BitVec 1 := Scalar.cmpi .eq v161 c15_i32_141
  let c1_i32_82 : BitVec 32 := 1#32
  let v157 : BitVec 32 := Scalar.addi v40 c1_i32_82
  let v158 : BitVec 32 := Scalar.select v156 v157 v40
  let c1_i32_143 : BitVec 32 := 1#32
  let v277 : BitVec 32 := Scalar.addi v158 c1_i32_143
  let c1_i32_144 : BitVec 32 := 1#32
  let v278 : BitVec 32 := Scalar.addi v161 c1_i32_144
  let v279 : BitVec 32 := Scalar.select v274 v277 v278
  let c15_i32_201 : BitVec 32 := 15#32
  let v392 : BitVec 1 := Scalar.cmpi .eq v279 c15_i32_201
  let c1_i32_142 : BitVec 32 := 1#32
  let v275 : BitVec 32 := Scalar.addi v158 c1_i32_142
  let v276 : BitVec 32 := Scalar.select v274 v275 v158
  let c1_i32_203 : BitVec 32 := 1#32
  let v395 : BitVec 32 := Scalar.addi v276 c1_i32_203
  let c1_i32_204 : BitVec 32 := 1#32
  let v396 : BitVec 32 := Scalar.addi v279 c1_i32_204
  let v397 : BitVec 32 := Scalar.select v392 v395 v396
  let c15_i32_243 : BitVec 32 := 15#32
  let v472 : BitVec 32 := Scalar.minsi v397 c15_i32_243
  let c512_i32_255 : BitVec 32 := 512#32
  let v501 : BitVec 32 := Scalar.muli v472 c512_i32_255
  let v502 : BitVec 32 := v501
  let v503 : Index := Scalar.indexCast v502
  ![0, 0, v503.toNat]
def k0_mult53 (arg18 : BitVec 32) (arg19 : BitVec 32) : BitVec 32 :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c15_i32_141 : BitVec 32 := 15#32
  let v274 : BitVec 1 := Scalar.cmpi .eq v161 c15_i32_141
  let c1_i32_82 : BitVec 32 := 1#32
  let v157 : BitVec 32 := Scalar.addi v40 c1_i32_82
  let v158 : BitVec 32 := Scalar.select v156 v157 v40
  let c1_i32_143 : BitVec 32 := 1#32
  let v277 : BitVec 32 := Scalar.addi v158 c1_i32_143
  let c1_i32_144 : BitVec 32 := 1#32
  let v278 : BitVec 32 := Scalar.addi v161 c1_i32_144
  let v279 : BitVec 32 := Scalar.select v274 v277 v278
  let c15_i32_201 : BitVec 32 := 15#32
  let v392 : BitVec 1 := Scalar.cmpi .eq v279 c15_i32_201
  let c1_i32_142 : BitVec 32 := 1#32
  let v275 : BitVec 32 := Scalar.addi v158 c1_i32_142
  let v276 : BitVec 32 := Scalar.select v274 v275 v158
  let c1_i32_203 : BitVec 32 := 1#32
  let v395 : BitVec 32 := Scalar.addi v276 c1_i32_203
  let c1_i32_204 : BitVec 32 := 1#32
  let v396 : BitVec 32 := Scalar.addi v279 c1_i32_204
  let v397 : BitVec 32 := Scalar.select v392 v395 v396
  let c512_i32_267 : BitVec 32 := 512#32
  let v518 : BitVec 32 := Scalar.muli v397 c512_i32_267
  v518
def k0_off38 (arg18 : BitVec 32) (arg19 : BitVec 32) : Fin 3 → Nat :=
  let c0_268 : Index := 0#32
  let c0_269 : Index := 0#32
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c15_i32_141 : BitVec 32 := 15#32
  let v274 : BitVec 1 := Scalar.cmpi .eq v161 c15_i32_141
  let c1_i32_82 : BitVec 32 := 1#32
  let v157 : BitVec 32 := Scalar.addi v40 c1_i32_82
  let v158 : BitVec 32 := Scalar.select v156 v157 v40
  let c1_i32_143 : BitVec 32 := 1#32
  let v277 : BitVec 32 := Scalar.addi v158 c1_i32_143
  let c1_i32_144 : BitVec 32 := 1#32
  let v278 : BitVec 32 := Scalar.addi v161 c1_i32_144
  let v279 : BitVec 32 := Scalar.select v274 v277 v278
  let c15_i32_201 : BitVec 32 := 15#32
  let v392 : BitVec 1 := Scalar.cmpi .eq v279 c15_i32_201
  let c1_i32_142 : BitVec 32 := 1#32
  let v275 : BitVec 32 := Scalar.addi v158 c1_i32_142
  let v276 : BitVec 32 := Scalar.select v274 v275 v158
  let c1_i32_203 : BitVec 32 := 1#32
  let v395 : BitVec 32 := Scalar.addi v276 c1_i32_203
  let c1_i32_204 : BitVec 32 := 1#32
  let v396 : BitVec 32 := Scalar.addi v279 c1_i32_204
  let v397 : BitVec 32 := Scalar.select v392 v395 v396
  let c512_i32_267 : BitVec 32 := 512#32
  let v518 : BitVec 32 := Scalar.muli v397 c512_i32_267
  let v519 : BitVec 32 := v518
  let v520 : Index := Scalar.indexCast v519
  ![0, 0, v520.toNat]
def k0_mult54 (arg18 : BitVec 32) (arg19 : BitVec 32) : BitVec 32 :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c15_i32_141 : BitVec 32 := 15#32
  let v274 : BitVec 1 := Scalar.cmpi .eq v161 c15_i32_141
  let c1_i32_82 : BitVec 32 := 1#32
  let v157 : BitVec 32 := Scalar.addi v40 c1_i32_82
  let v158 : BitVec 32 := Scalar.select v156 v157 v40
  let c1_i32_143 : BitVec 32 := 1#32
  let v277 : BitVec 32 := Scalar.addi v158 c1_i32_143
  let c1_i32_144 : BitVec 32 := 1#32
  let v278 : BitVec 32 := Scalar.addi v161 c1_i32_144
  let v279 : BitVec 32 := Scalar.select v274 v277 v278
  let c15_i32_201 : BitVec 32 := 15#32
  let v392 : BitVec 1 := Scalar.cmpi .eq v279 c15_i32_201
  let c1_i32_142 : BitVec 32 := 1#32
  let v275 : BitVec 32 := Scalar.addi v158 c1_i32_142
  let v276 : BitVec 32 := Scalar.select v274 v275 v158
  let c1_i32_203 : BitVec 32 := 1#32
  let v395 : BitVec 32 := Scalar.addi v276 c1_i32_203
  let c1_i32_204 : BitVec 32 := 1#32
  let v396 : BitVec 32 := Scalar.addi v279 c1_i32_204
  let v397 : BitVec 32 := Scalar.select v392 v395 v396
  let c512_i32_273 : BitVec 32 := 512#32
  let v530 : BitVec 32 := Scalar.muli v397 c512_i32_273
  v530
def k0_off39 (arg18 : BitVec 32) (arg19 : BitVec 32) : Fin 3 → Nat :=
  let c0_274 : Index := 0#32
  let c0_275 : Index := 0#32
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c15_i32_141 : BitVec 32 := 15#32
  let v274 : BitVec 1 := Scalar.cmpi .eq v161 c15_i32_141
  let c1_i32_82 : BitVec 32 := 1#32
  let v157 : BitVec 32 := Scalar.addi v40 c1_i32_82
  let v158 : BitVec 32 := Scalar.select v156 v157 v40
  let c1_i32_143 : BitVec 32 := 1#32
  let v277 : BitVec 32 := Scalar.addi v158 c1_i32_143
  let c1_i32_144 : BitVec 32 := 1#32
  let v278 : BitVec 32 := Scalar.addi v161 c1_i32_144
  let v279 : BitVec 32 := Scalar.select v274 v277 v278
  let c15_i32_201 : BitVec 32 := 15#32
  let v392 : BitVec 1 := Scalar.cmpi .eq v279 c15_i32_201
  let c1_i32_142 : BitVec 32 := 1#32
  let v275 : BitVec 32 := Scalar.addi v158 c1_i32_142
  let v276 : BitVec 32 := Scalar.select v274 v275 v158
  let c1_i32_203 : BitVec 32 := 1#32
  let v395 : BitVec 32 := Scalar.addi v276 c1_i32_203
  let c1_i32_204 : BitVec 32 := 1#32
  let v396 : BitVec 32 := Scalar.addi v279 c1_i32_204
  let v397 : BitVec 32 := Scalar.select v392 v395 v396
  let c512_i32_273 : BitVec 32 := 512#32
  let v530 : BitVec 32 := Scalar.muli v397 c512_i32_273
  let v531 : BitVec 32 := v530
  let v532 : Index := Scalar.indexCast v531
  ![0, 0, v532.toNat]
def k0_mult55 (arg18 : BitVec 32) (arg19 : BitVec 32) : BitVec 32 :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c15_i32_141 : BitVec 32 := 15#32
  let v274 : BitVec 1 := Scalar.cmpi .eq v161 c15_i32_141
  let c1_i32_82 : BitVec 32 := 1#32
  let v157 : BitVec 32 := Scalar.addi v40 c1_i32_82
  let v158 : BitVec 32 := Scalar.select v156 v157 v40
  let c1_i32_143 : BitVec 32 := 1#32
  let v277 : BitVec 32 := Scalar.addi v158 c1_i32_143
  let c1_i32_144 : BitVec 32 := 1#32
  let v278 : BitVec 32 := Scalar.addi v161 c1_i32_144
  let v279 : BitVec 32 := Scalar.select v274 v277 v278
  let c15_i32_201 : BitVec 32 := 15#32
  let v392 : BitVec 1 := Scalar.cmpi .eq v279 c15_i32_201
  let c1_i32_142 : BitVec 32 := 1#32
  let v275 : BitVec 32 := Scalar.addi v158 c1_i32_142
  let v276 : BitVec 32 := Scalar.select v274 v275 v158
  let c1_i32_203 : BitVec 32 := 1#32
  let v395 : BitVec 32 := Scalar.addi v276 c1_i32_203
  let c1_i32_204 : BitVec 32 := 1#32
  let v396 : BitVec 32 := Scalar.addi v279 c1_i32_204
  let v397 : BitVec 32 := Scalar.select v392 v395 v396
  let c512_i32_279 : BitVec 32 := 512#32
  let v538 : BitVec 32 := Scalar.muli v397 c512_i32_279
  v538
def k0_mult56 (arg18 : BitVec 32) (arg19 : BitVec 32) : BitVec 32 :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c15_i32_141 : BitVec 32 := 15#32
  let v274 : BitVec 1 := Scalar.cmpi .eq v161 c15_i32_141
  let c1_i32_82 : BitVec 32 := 1#32
  let v157 : BitVec 32 := Scalar.addi v40 c1_i32_82
  let v158 : BitVec 32 := Scalar.select v156 v157 v40
  let c1_i32_143 : BitVec 32 := 1#32
  let v277 : BitVec 32 := Scalar.addi v158 c1_i32_143
  let c1_i32_144 : BitVec 32 := 1#32
  let v278 : BitVec 32 := Scalar.addi v161 c1_i32_144
  let v279 : BitVec 32 := Scalar.select v274 v277 v278
  let c15_i32_201 : BitVec 32 := 15#32
  let v392 : BitVec 1 := Scalar.cmpi .eq v279 c15_i32_201
  let c1_i32_142 : BitVec 32 := 1#32
  let v275 : BitVec 32 := Scalar.addi v158 c1_i32_142
  let v276 : BitVec 32 := Scalar.select v274 v275 v158
  let c1_i32_203 : BitVec 32 := 1#32
  let v395 : BitVec 32 := Scalar.addi v276 c1_i32_203
  let c1_i32_204 : BitVec 32 := 1#32
  let v396 : BitVec 32 := Scalar.addi v279 c1_i32_204
  let v397 : BitVec 32 := Scalar.select v392 v395 v396
  let c512_i32_285 : BitVec 32 := 512#32
  let v550 : BitVec 32 := Scalar.muli v397 c512_i32_285
  v550
def k0_off40 (arg18 : BitVec 32) (arg19 : BitVec 32) : Fin 2 → Nat :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c15_i32_141 : BitVec 32 := 15#32
  let v274 : BitVec 1 := Scalar.cmpi .eq v161 c15_i32_141
  let c1_i32_82 : BitVec 32 := 1#32
  let v157 : BitVec 32 := Scalar.addi v40 c1_i32_82
  let v158 : BitVec 32 := Scalar.select v156 v157 v40
  let c1_i32_143 : BitVec 32 := 1#32
  let v277 : BitVec 32 := Scalar.addi v158 c1_i32_143
  let c1_i32_144 : BitVec 32 := 1#32
  let v278 : BitVec 32 := Scalar.addi v161 c1_i32_144
  let v279 : BitVec 32 := Scalar.select v274 v277 v278
  let c15_i32_201 : BitVec 32 := 15#32
  let v392 : BitVec 1 := Scalar.cmpi .eq v279 c15_i32_201
  let c1_i32_142 : BitVec 32 := 1#32
  let v275 : BitVec 32 := Scalar.addi v158 c1_i32_142
  let v276 : BitVec 32 := Scalar.select v274 v275 v158
  let c1_i32_203 : BitVec 32 := 1#32
  let v395 : BitVec 32 := Scalar.addi v276 c1_i32_203
  let c1_i32_204 : BitVec 32 := 1#32
  let v396 : BitVec 32 := Scalar.addi v279 c1_i32_204
  let v397 : BitVec 32 := Scalar.select v392 v395 v396
  let c512_i32_285 : BitVec 32 := 512#32
  let v550 : BitVec 32 := Scalar.muli v397 c512_i32_285
  let v551 : BitVec 32 := v550
  let v552 : Index := Scalar.indexCast v551
  let c0_286 : Index := 0#32
  ![v552.toNat, 0]
def k0_mult57 (arg18 : BitVec 32) (arg19 : BitVec 32) : BitVec 32 :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c15_i32_141 : BitVec 32 := 15#32
  let v274 : BitVec 1 := Scalar.cmpi .eq v161 c15_i32_141
  let c1_i32_82 : BitVec 32 := 1#32
  let v157 : BitVec 32 := Scalar.addi v40 c1_i32_82
  let v158 : BitVec 32 := Scalar.select v156 v157 v40
  let c1_i32_143 : BitVec 32 := 1#32
  let v277 : BitVec 32 := Scalar.addi v158 c1_i32_143
  let c1_i32_144 : BitVec 32 := 1#32
  let v278 : BitVec 32 := Scalar.addi v161 c1_i32_144
  let v279 : BitVec 32 := Scalar.select v274 v277 v278
  let c15_i32_201 : BitVec 32 := 15#32
  let v392 : BitVec 1 := Scalar.cmpi .eq v279 c15_i32_201
  let c1_i32_142 : BitVec 32 := 1#32
  let v275 : BitVec 32 := Scalar.addi v158 c1_i32_142
  let v276 : BitVec 32 := Scalar.select v274 v275 v158
  let c1_i32_203 : BitVec 32 := 1#32
  let v395 : BitVec 32 := Scalar.addi v276 c1_i32_203
  let c1_i32_204 : BitVec 32 := 1#32
  let v396 : BitVec 32 := Scalar.addi v279 c1_i32_204
  let v397 : BitVec 32 := Scalar.select v392 v395 v396
  let c512_i32_288 : BitVec 32 := 512#32
  let v557 : BitVec 32 := Scalar.muli v397 c512_i32_288
  v557
def k0_mult58 (arg18 : BitVec 32) (arg19 : BitVec 32) : BitVec 32 :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c15_i32_141 : BitVec 32 := 15#32
  let v274 : BitVec 1 := Scalar.cmpi .eq v161 c15_i32_141
  let c1_i32_82 : BitVec 32 := 1#32
  let v157 : BitVec 32 := Scalar.addi v40 c1_i32_82
  let v158 : BitVec 32 := Scalar.select v156 v157 v40
  let c1_i32_143 : BitVec 32 := 1#32
  let v277 : BitVec 32 := Scalar.addi v158 c1_i32_143
  let c1_i32_144 : BitVec 32 := 1#32
  let v278 : BitVec 32 := Scalar.addi v161 c1_i32_144
  let v279 : BitVec 32 := Scalar.select v274 v277 v278
  let c15_i32_201 : BitVec 32 := 15#32
  let v392 : BitVec 1 := Scalar.cmpi .eq v279 c15_i32_201
  let c1_i32_142 : BitVec 32 := 1#32
  let v275 : BitVec 32 := Scalar.addi v158 c1_i32_142
  let v276 : BitVec 32 := Scalar.select v274 v275 v158
  let c1_i32_202 : BitVec 32 := 1#32
  let v393 : BitVec 32 := Scalar.addi v276 c1_i32_202
  let v394 : BitVec 32 := Scalar.select v392 v393 v276
  let c512_i32_290 : BitVec 32 := 512#32
  let v561 : BitVec 32 := Scalar.muli v394 c512_i32_290
  v561
def k0_off41 (arg18 : BitVec 32) (arg19 : BitVec 32) : Fin 2 → Nat :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c15_i32_141 : BitVec 32 := 15#32
  let v274 : BitVec 1 := Scalar.cmpi .eq v161 c15_i32_141
  let c1_i32_82 : BitVec 32 := 1#32
  let v157 : BitVec 32 := Scalar.addi v40 c1_i32_82
  let v158 : BitVec 32 := Scalar.select v156 v157 v40
  let c1_i32_143 : BitVec 32 := 1#32
  let v277 : BitVec 32 := Scalar.addi v158 c1_i32_143
  let c1_i32_144 : BitVec 32 := 1#32
  let v278 : BitVec 32 := Scalar.addi v161 c1_i32_144
  let v279 : BitVec 32 := Scalar.select v274 v277 v278
  let c15_i32_201 : BitVec 32 := 15#32
  let v392 : BitVec 1 := Scalar.cmpi .eq v279 c15_i32_201
  let c1_i32_142 : BitVec 32 := 1#32
  let v275 : BitVec 32 := Scalar.addi v158 c1_i32_142
  let v276 : BitVec 32 := Scalar.select v274 v275 v158
  let c1_i32_202 : BitVec 32 := 1#32
  let v393 : BitVec 32 := Scalar.addi v276 c1_i32_202
  let v394 : BitVec 32 := Scalar.select v392 v393 v276
  let c512_i32_290 : BitVec 32 := 512#32
  let v561 : BitVec 32 := Scalar.muli v394 c512_i32_290
  let v562 : BitVec 32 := v561
  let v563 : Index := Scalar.indexCast v562
  let c0_291 : Index := 0#32
  ![v563.toNat, 0]
def k0_mult59 (arg18 : BitVec 32) (arg19 : BitVec 32) : BitVec 32 :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c15_i32_141 : BitVec 32 := 15#32
  let v274 : BitVec 1 := Scalar.cmpi .eq v161 c15_i32_141
  let c1_i32_82 : BitVec 32 := 1#32
  let v157 : BitVec 32 := Scalar.addi v40 c1_i32_82
  let v158 : BitVec 32 := Scalar.select v156 v157 v40
  let c1_i32_143 : BitVec 32 := 1#32
  let v277 : BitVec 32 := Scalar.addi v158 c1_i32_143
  let c1_i32_144 : BitVec 32 := 1#32
  let v278 : BitVec 32 := Scalar.addi v161 c1_i32_144
  let v279 : BitVec 32 := Scalar.select v274 v277 v278
  let c15_i32_201 : BitVec 32 := 15#32
  let v392 : BitVec 1 := Scalar.cmpi .eq v279 c15_i32_201
  let c1_i32_142 : BitVec 32 := 1#32
  let v275 : BitVec 32 := Scalar.addi v158 c1_i32_142
  let v276 : BitVec 32 := Scalar.select v274 v275 v158
  let c1_i32_202 : BitVec 32 := 1#32
  let v393 : BitVec 32 := Scalar.addi v276 c1_i32_202
  let v394 : BitVec 32 := Scalar.select v392 v393 v276
  let c512_i32_298 : BitVec 32 := 512#32
  let v579 : BitVec 32 := Scalar.muli v394 c512_i32_298
  v579
def k0_mult60 (arg18 : BitVec 32) (arg19 : BitVec 32) : BitVec 32 :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c15_i32_141 : BitVec 32 := 15#32
  let v274 : BitVec 1 := Scalar.cmpi .eq v161 c15_i32_141
  let c1_i32_82 : BitVec 32 := 1#32
  let v157 : BitVec 32 := Scalar.addi v40 c1_i32_82
  let v158 : BitVec 32 := Scalar.select v156 v157 v40
  let c1_i32_143 : BitVec 32 := 1#32
  let v277 : BitVec 32 := Scalar.addi v158 c1_i32_143
  let c1_i32_144 : BitVec 32 := 1#32
  let v278 : BitVec 32 := Scalar.addi v161 c1_i32_144
  let v279 : BitVec 32 := Scalar.select v274 v277 v278
  let c15_i32_201 : BitVec 32 := 15#32
  let v392 : BitVec 1 := Scalar.cmpi .eq v279 c15_i32_201
  let c1_i32_142 : BitVec 32 := 1#32
  let v275 : BitVec 32 := Scalar.addi v158 c1_i32_142
  let v276 : BitVec 32 := Scalar.select v274 v275 v158
  let c1_i32_202 : BitVec 32 := 1#32
  let v393 : BitVec 32 := Scalar.addi v276 c1_i32_202
  let v394 : BitVec 32 := Scalar.select v392 v393 v276
  let c512_i32_300 : BitVec 32 := 512#32
  let v585 : BitVec 32 := Scalar.muli v394 c512_i32_300
  v585
def k0_off42 (arg18 : BitVec 32) (arg19 : BitVec 32) : Fin 2 → Nat :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c15_i32_141 : BitVec 32 := 15#32
  let v274 : BitVec 1 := Scalar.cmpi .eq v161 c15_i32_141
  let c1_i32_82 : BitVec 32 := 1#32
  let v157 : BitVec 32 := Scalar.addi v40 c1_i32_82
  let v158 : BitVec 32 := Scalar.select v156 v157 v40
  let c1_i32_143 : BitVec 32 := 1#32
  let v277 : BitVec 32 := Scalar.addi v158 c1_i32_143
  let c1_i32_144 : BitVec 32 := 1#32
  let v278 : BitVec 32 := Scalar.addi v161 c1_i32_144
  let v279 : BitVec 32 := Scalar.select v274 v277 v278
  let c15_i32_201 : BitVec 32 := 15#32
  let v392 : BitVec 1 := Scalar.cmpi .eq v279 c15_i32_201
  let c1_i32_142 : BitVec 32 := 1#32
  let v275 : BitVec 32 := Scalar.addi v158 c1_i32_142
  let v276 : BitVec 32 := Scalar.select v274 v275 v158
  let c1_i32_202 : BitVec 32 := 1#32
  let v393 : BitVec 32 := Scalar.addi v276 c1_i32_202
  let v394 : BitVec 32 := Scalar.select v392 v393 v276
  let c512_i32_300 : BitVec 32 := 512#32
  let v585 : BitVec 32 := Scalar.muli v394 c512_i32_300
  let v586 : BitVec 32 := v585
  let v587 : Index := Scalar.indexCast v586
  let c0_301 : Index := 0#32
  ![v587.toNat, 0]
def k0_mult61 (arg18 : BitVec 32) (arg19 : BitVec 32) : BitVec 32 :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c15_i32_141 : BitVec 32 := 15#32
  let v274 : BitVec 1 := Scalar.cmpi .eq v161 c15_i32_141
  let c1_i32_82 : BitVec 32 := 1#32
  let v157 : BitVec 32 := Scalar.addi v40 c1_i32_82
  let v158 : BitVec 32 := Scalar.select v156 v157 v40
  let c1_i32_143 : BitVec 32 := 1#32
  let v277 : BitVec 32 := Scalar.addi v158 c1_i32_143
  let c1_i32_144 : BitVec 32 := 1#32
  let v278 : BitVec 32 := Scalar.addi v161 c1_i32_144
  let v279 : BitVec 32 := Scalar.select v274 v277 v278
  let c15_i32_201 : BitVec 32 := 15#32
  let v392 : BitVec 1 := Scalar.cmpi .eq v279 c15_i32_201
  let c1_i32_142 : BitVec 32 := 1#32
  let v275 : BitVec 32 := Scalar.addi v158 c1_i32_142
  let v276 : BitVec 32 := Scalar.select v274 v275 v158
  let c1_i32_203 : BitVec 32 := 1#32
  let v395 : BitVec 32 := Scalar.addi v276 c1_i32_203
  let c1_i32_204 : BitVec 32 := 1#32
  let v396 : BitVec 32 := Scalar.addi v279 c1_i32_204
  let v397 : BitVec 32 := Scalar.select v392 v395 v396
  let c15_i32_261 : BitVec 32 := 15#32
  let v510 : BitVec 1 := Scalar.cmpi .eq v397 c15_i32_261
  let c1_i32_202 : BitVec 32 := 1#32
  let v393 : BitVec 32 := Scalar.addi v276 c1_i32_202
  let v394 : BitVec 32 := Scalar.select v392 v393 v276
  let c1_i32_262 : BitVec 32 := 1#32
  let v511 : BitVec 32 := Scalar.addi v394 c1_i32_262
  let v512 : BitVec 32 := Scalar.select v510 v511 v394
  let c15_i32_302 : BitVec 32 := 15#32
  let v589 : BitVec 32 := Scalar.minsi v512 c15_i32_302
  let c512_i32_304 : BitVec 32 := 512#32
  let v591 : BitVec 32 := Scalar.muli v589 c512_i32_304
  v591
def k0_off43 (arg18 : BitVec 32) (arg19 : BitVec 32) : Fin 2 → Nat :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c15_i32_141 : BitVec 32 := 15#32
  let v274 : BitVec 1 := Scalar.cmpi .eq v161 c15_i32_141
  let c1_i32_82 : BitVec 32 := 1#32
  let v157 : BitVec 32 := Scalar.addi v40 c1_i32_82
  let v158 : BitVec 32 := Scalar.select v156 v157 v40
  let c1_i32_143 : BitVec 32 := 1#32
  let v277 : BitVec 32 := Scalar.addi v158 c1_i32_143
  let c1_i32_144 : BitVec 32 := 1#32
  let v278 : BitVec 32 := Scalar.addi v161 c1_i32_144
  let v279 : BitVec 32 := Scalar.select v274 v277 v278
  let c15_i32_201 : BitVec 32 := 15#32
  let v392 : BitVec 1 := Scalar.cmpi .eq v279 c15_i32_201
  let c1_i32_142 : BitVec 32 := 1#32
  let v275 : BitVec 32 := Scalar.addi v158 c1_i32_142
  let v276 : BitVec 32 := Scalar.select v274 v275 v158
  let c1_i32_203 : BitVec 32 := 1#32
  let v395 : BitVec 32 := Scalar.addi v276 c1_i32_203
  let c1_i32_204 : BitVec 32 := 1#32
  let v396 : BitVec 32 := Scalar.addi v279 c1_i32_204
  let v397 : BitVec 32 := Scalar.select v392 v395 v396
  let c15_i32_261 : BitVec 32 := 15#32
  let v510 : BitVec 1 := Scalar.cmpi .eq v397 c15_i32_261
  let c1_i32_202 : BitVec 32 := 1#32
  let v393 : BitVec 32 := Scalar.addi v276 c1_i32_202
  let v394 : BitVec 32 := Scalar.select v392 v393 v276
  let c1_i32_262 : BitVec 32 := 1#32
  let v511 : BitVec 32 := Scalar.addi v394 c1_i32_262
  let v512 : BitVec 32 := Scalar.select v510 v511 v394
  let c15_i32_302 : BitVec 32 := 15#32
  let v589 : BitVec 32 := Scalar.minsi v512 c15_i32_302
  let c512_i32_304 : BitVec 32 := 512#32
  let v591 : BitVec 32 := Scalar.muli v589 c512_i32_304
  let v592 : BitVec 32 := v591
  let v593 : Index := Scalar.indexCast v592
  let c0_305 : Index := 0#32
  ![v593.toNat, 0]
def k0_mult62 (arg18 : BitVec 32) (arg19 : BitVec 32) : BitVec 32 :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c15_i32_141 : BitVec 32 := 15#32
  let v274 : BitVec 1 := Scalar.cmpi .eq v161 c15_i32_141
  let c1_i32_82 : BitVec 32 := 1#32
  let v157 : BitVec 32 := Scalar.addi v40 c1_i32_82
  let v158 : BitVec 32 := Scalar.select v156 v157 v40
  let c1_i32_143 : BitVec 32 := 1#32
  let v277 : BitVec 32 := Scalar.addi v158 c1_i32_143
  let c1_i32_144 : BitVec 32 := 1#32
  let v278 : BitVec 32 := Scalar.addi v161 c1_i32_144
  let v279 : BitVec 32 := Scalar.select v274 v277 v278
  let c15_i32_201 : BitVec 32 := 15#32
  let v392 : BitVec 1 := Scalar.cmpi .eq v279 c15_i32_201
  let c1_i32_142 : BitVec 32 := 1#32
  let v275 : BitVec 32 := Scalar.addi v158 c1_i32_142
  let v276 : BitVec 32 := Scalar.select v274 v275 v158
  let c1_i32_203 : BitVec 32 := 1#32
  let v395 : BitVec 32 := Scalar.addi v276 c1_i32_203
  let c1_i32_204 : BitVec 32 := 1#32
  let v396 : BitVec 32 := Scalar.addi v279 c1_i32_204
  let v397 : BitVec 32 := Scalar.select v392 v395 v396
  let c15_i32_261 : BitVec 32 := 15#32
  let v510 : BitVec 1 := Scalar.cmpi .eq v397 c15_i32_261
  let c1_i32_202 : BitVec 32 := 1#32
  let v393 : BitVec 32 := Scalar.addi v276 c1_i32_202
  let v394 : BitVec 32 := Scalar.select v392 v393 v276
  let c1_i32_263 : BitVec 32 := 1#32
  let v513 : BitVec 32 := Scalar.addi v394 c1_i32_263
  let c1_i32_264 : BitVec 32 := 1#32
  let v514 : BitVec 32 := Scalar.addi v397 c1_i32_264
  let v515 : BitVec 32 := Scalar.select v510 v513 v514
  let c15_i32_303 : BitVec 32 := 15#32
  let v590 : BitVec 32 := Scalar.minsi v515 c15_i32_303
  let c512_i32_306 : BitVec 32 := 512#32
  let v596 : BitVec 32 := Scalar.muli v590 c512_i32_306
  v596
def k0_off44 (arg18 : BitVec 32) (arg19 : BitVec 32) : Fin 2 → Nat :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c15_i32_141 : BitVec 32 := 15#32
  let v274 : BitVec 1 := Scalar.cmpi .eq v161 c15_i32_141
  let c1_i32_82 : BitVec 32 := 1#32
  let v157 : BitVec 32 := Scalar.addi v40 c1_i32_82
  let v158 : BitVec 32 := Scalar.select v156 v157 v40
  let c1_i32_143 : BitVec 32 := 1#32
  let v277 : BitVec 32 := Scalar.addi v158 c1_i32_143
  let c1_i32_144 : BitVec 32 := 1#32
  let v278 : BitVec 32 := Scalar.addi v161 c1_i32_144
  let v279 : BitVec 32 := Scalar.select v274 v277 v278
  let c15_i32_201 : BitVec 32 := 15#32
  let v392 : BitVec 1 := Scalar.cmpi .eq v279 c15_i32_201
  let c1_i32_142 : BitVec 32 := 1#32
  let v275 : BitVec 32 := Scalar.addi v158 c1_i32_142
  let v276 : BitVec 32 := Scalar.select v274 v275 v158
  let c1_i32_203 : BitVec 32 := 1#32
  let v395 : BitVec 32 := Scalar.addi v276 c1_i32_203
  let c1_i32_204 : BitVec 32 := 1#32
  let v396 : BitVec 32 := Scalar.addi v279 c1_i32_204
  let v397 : BitVec 32 := Scalar.select v392 v395 v396
  let c15_i32_261 : BitVec 32 := 15#32
  let v510 : BitVec 1 := Scalar.cmpi .eq v397 c15_i32_261
  let c1_i32_202 : BitVec 32 := 1#32
  let v393 : BitVec 32 := Scalar.addi v276 c1_i32_202
  let v394 : BitVec 32 := Scalar.select v392 v393 v276
  let c1_i32_263 : BitVec 32 := 1#32
  let v513 : BitVec 32 := Scalar.addi v394 c1_i32_263
  let c1_i32_264 : BitVec 32 := 1#32
  let v514 : BitVec 32 := Scalar.addi v397 c1_i32_264
  let v515 : BitVec 32 := Scalar.select v510 v513 v514
  let c15_i32_303 : BitVec 32 := 15#32
  let v590 : BitVec 32 := Scalar.minsi v515 c15_i32_303
  let c512_i32_306 : BitVec 32 := 512#32
  let v596 : BitVec 32 := Scalar.muli v590 c512_i32_306
  let v597 : BitVec 32 := v596
  let v598 : Index := Scalar.indexCast v597
  let c0_307 : Index := 0#32
  ![v598.toNat, 0]
def k0_mult63 (arg18 : BitVec 32) (arg19 : BitVec 32) : BitVec 32 :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c15_i32_141 : BitVec 32 := 15#32
  let v274 : BitVec 1 := Scalar.cmpi .eq v161 c15_i32_141
  let c1_i32_82 : BitVec 32 := 1#32
  let v157 : BitVec 32 := Scalar.addi v40 c1_i32_82
  let v158 : BitVec 32 := Scalar.select v156 v157 v40
  let c1_i32_143 : BitVec 32 := 1#32
  let v277 : BitVec 32 := Scalar.addi v158 c1_i32_143
  let c1_i32_144 : BitVec 32 := 1#32
  let v278 : BitVec 32 := Scalar.addi v161 c1_i32_144
  let v279 : BitVec 32 := Scalar.select v274 v277 v278
  let c15_i32_201 : BitVec 32 := 15#32
  let v392 : BitVec 1 := Scalar.cmpi .eq v279 c15_i32_201
  let c1_i32_142 : BitVec 32 := 1#32
  let v275 : BitVec 32 := Scalar.addi v158 c1_i32_142
  let v276 : BitVec 32 := Scalar.select v274 v275 v158
  let c1_i32_203 : BitVec 32 := 1#32
  let v395 : BitVec 32 := Scalar.addi v276 c1_i32_203
  let c1_i32_204 : BitVec 32 := 1#32
  let v396 : BitVec 32 := Scalar.addi v279 c1_i32_204
  let v397 : BitVec 32 := Scalar.select v392 v395 v396
  let c15_i32_261 : BitVec 32 := 15#32
  let v510 : BitVec 1 := Scalar.cmpi .eq v397 c15_i32_261
  let c1_i32_202 : BitVec 32 := 1#32
  let v393 : BitVec 32 := Scalar.addi v276 c1_i32_202
  let v394 : BitVec 32 := Scalar.select v392 v393 v276
  let c1_i32_262 : BitVec 32 := 1#32
  let v511 : BitVec 32 := Scalar.addi v394 c1_i32_262
  let v512 : BitVec 32 := Scalar.select v510 v511 v394
  let c15_i32_302 : BitVec 32 := 15#32
  let v589 : BitVec 32 := Scalar.minsi v512 c15_i32_302
  let c512_i32_313 : BitVec 32 := 512#32
  let v614 : BitVec 32 := Scalar.muli v589 c512_i32_313
  v614
def k0_off45 (arg18 : BitVec 32) (arg19 : BitVec 32) : Fin 2 → Nat :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c15_i32_141 : BitVec 32 := 15#32
  let v274 : BitVec 1 := Scalar.cmpi .eq v161 c15_i32_141
  let c1_i32_82 : BitVec 32 := 1#32
  let v157 : BitVec 32 := Scalar.addi v40 c1_i32_82
  let v158 : BitVec 32 := Scalar.select v156 v157 v40
  let c1_i32_143 : BitVec 32 := 1#32
  let v277 : BitVec 32 := Scalar.addi v158 c1_i32_143
  let c1_i32_144 : BitVec 32 := 1#32
  let v278 : BitVec 32 := Scalar.addi v161 c1_i32_144
  let v279 : BitVec 32 := Scalar.select v274 v277 v278
  let c15_i32_201 : BitVec 32 := 15#32
  let v392 : BitVec 1 := Scalar.cmpi .eq v279 c15_i32_201
  let c1_i32_142 : BitVec 32 := 1#32
  let v275 : BitVec 32 := Scalar.addi v158 c1_i32_142
  let v276 : BitVec 32 := Scalar.select v274 v275 v158
  let c1_i32_203 : BitVec 32 := 1#32
  let v395 : BitVec 32 := Scalar.addi v276 c1_i32_203
  let c1_i32_204 : BitVec 32 := 1#32
  let v396 : BitVec 32 := Scalar.addi v279 c1_i32_204
  let v397 : BitVec 32 := Scalar.select v392 v395 v396
  let c15_i32_261 : BitVec 32 := 15#32
  let v510 : BitVec 1 := Scalar.cmpi .eq v397 c15_i32_261
  let c1_i32_202 : BitVec 32 := 1#32
  let v393 : BitVec 32 := Scalar.addi v276 c1_i32_202
  let v394 : BitVec 32 := Scalar.select v392 v393 v276
  let c1_i32_262 : BitVec 32 := 1#32
  let v511 : BitVec 32 := Scalar.addi v394 c1_i32_262
  let v512 : BitVec 32 := Scalar.select v510 v511 v394
  let c15_i32_302 : BitVec 32 := 15#32
  let v589 : BitVec 32 := Scalar.minsi v512 c15_i32_302
  let c512_i32_313 : BitVec 32 := 512#32
  let v614 : BitVec 32 := Scalar.muli v589 c512_i32_313
  let v615 : BitVec 32 := v614
  let v616 : Index := Scalar.indexCast v615
  let c0_314 : Index := 0#32
  ![v616.toNat, 0]
def k0_mult64 (arg18 : BitVec 32) (arg19 : BitVec 32) : BitVec 32 :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c15_i32_141 : BitVec 32 := 15#32
  let v274 : BitVec 1 := Scalar.cmpi .eq v161 c15_i32_141
  let c1_i32_82 : BitVec 32 := 1#32
  let v157 : BitVec 32 := Scalar.addi v40 c1_i32_82
  let v158 : BitVec 32 := Scalar.select v156 v157 v40
  let c1_i32_143 : BitVec 32 := 1#32
  let v277 : BitVec 32 := Scalar.addi v158 c1_i32_143
  let c1_i32_144 : BitVec 32 := 1#32
  let v278 : BitVec 32 := Scalar.addi v161 c1_i32_144
  let v279 : BitVec 32 := Scalar.select v274 v277 v278
  let c15_i32_201 : BitVec 32 := 15#32
  let v392 : BitVec 1 := Scalar.cmpi .eq v279 c15_i32_201
  let c1_i32_142 : BitVec 32 := 1#32
  let v275 : BitVec 32 := Scalar.addi v158 c1_i32_142
  let v276 : BitVec 32 := Scalar.select v274 v275 v158
  let c1_i32_203 : BitVec 32 := 1#32
  let v395 : BitVec 32 := Scalar.addi v276 c1_i32_203
  let c1_i32_204 : BitVec 32 := 1#32
  let v396 : BitVec 32 := Scalar.addi v279 c1_i32_204
  let v397 : BitVec 32 := Scalar.select v392 v395 v396
  let c15_i32_261 : BitVec 32 := 15#32
  let v510 : BitVec 1 := Scalar.cmpi .eq v397 c15_i32_261
  let c1_i32_202 : BitVec 32 := 1#32
  let v393 : BitVec 32 := Scalar.addi v276 c1_i32_202
  let v394 : BitVec 32 := Scalar.select v392 v393 v276
  let c1_i32_263 : BitVec 32 := 1#32
  let v513 : BitVec 32 := Scalar.addi v394 c1_i32_263
  let c1_i32_264 : BitVec 32 := 1#32
  let v514 : BitVec 32 := Scalar.addi v397 c1_i32_264
  let v515 : BitVec 32 := Scalar.select v510 v513 v514
  let c15_i32_303 : BitVec 32 := 15#32
  let v590 : BitVec 32 := Scalar.minsi v515 c15_i32_303
  let c512_i32_315 : BitVec 32 := 512#32
  let v619 : BitVec 32 := Scalar.muli v590 c512_i32_315
  v619
def k0_off46 (arg18 : BitVec 32) (arg19 : BitVec 32) : Fin 3 → Nat :=
  let c0_316 : Index := 0#32
  let c0_317 : Index := 0#32
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c15_i32_141 : BitVec 32 := 15#32
  let v274 : BitVec 1 := Scalar.cmpi .eq v161 c15_i32_141
  let c1_i32_82 : BitVec 32 := 1#32
  let v157 : BitVec 32 := Scalar.addi v40 c1_i32_82
  let v158 : BitVec 32 := Scalar.select v156 v157 v40
  let c1_i32_143 : BitVec 32 := 1#32
  let v277 : BitVec 32 := Scalar.addi v158 c1_i32_143
  let c1_i32_144 : BitVec 32 := 1#32
  let v278 : BitVec 32 := Scalar.addi v161 c1_i32_144
  let v279 : BitVec 32 := Scalar.select v274 v277 v278
  let c15_i32_201 : BitVec 32 := 15#32
  let v392 : BitVec 1 := Scalar.cmpi .eq v279 c15_i32_201
  let c1_i32_142 : BitVec 32 := 1#32
  let v275 : BitVec 32 := Scalar.addi v158 c1_i32_142
  let v276 : BitVec 32 := Scalar.select v274 v275 v158
  let c1_i32_203 : BitVec 32 := 1#32
  let v395 : BitVec 32 := Scalar.addi v276 c1_i32_203
  let c1_i32_204 : BitVec 32 := 1#32
  let v396 : BitVec 32 := Scalar.addi v279 c1_i32_204
  let v397 : BitVec 32 := Scalar.select v392 v395 v396
  let c15_i32_261 : BitVec 32 := 15#32
  let v510 : BitVec 1 := Scalar.cmpi .eq v397 c15_i32_261
  let c1_i32_202 : BitVec 32 := 1#32
  let v393 : BitVec 32 := Scalar.addi v276 c1_i32_202
  let v394 : BitVec 32 := Scalar.select v392 v393 v276
  let c1_i32_263 : BitVec 32 := 1#32
  let v513 : BitVec 32 := Scalar.addi v394 c1_i32_263
  let c1_i32_264 : BitVec 32 := 1#32
  let v514 : BitVec 32 := Scalar.addi v397 c1_i32_264
  let v515 : BitVec 32 := Scalar.select v510 v513 v514
  let c15_i32_303 : BitVec 32 := 15#32
  let v590 : BitVec 32 := Scalar.minsi v515 c15_i32_303
  let c512_i32_315 : BitVec 32 := 512#32
  let v619 : BitVec 32 := Scalar.muli v590 c512_i32_315
  let v620 : BitVec 32 := v619
  let v621 : Index := Scalar.indexCast v620
  ![0, 0, v621.toNat]
def k0_mult65 (arg18 : BitVec 32) (arg19 : BitVec 32) : BitVec 32 :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c15_i32_141 : BitVec 32 := 15#32
  let v274 : BitVec 1 := Scalar.cmpi .eq v161 c15_i32_141
  let c1_i32_82 : BitVec 32 := 1#32
  let v157 : BitVec 32 := Scalar.addi v40 c1_i32_82
  let v158 : BitVec 32 := Scalar.select v156 v157 v40
  let c1_i32_143 : BitVec 32 := 1#32
  let v277 : BitVec 32 := Scalar.addi v158 c1_i32_143
  let c1_i32_144 : BitVec 32 := 1#32
  let v278 : BitVec 32 := Scalar.addi v161 c1_i32_144
  let v279 : BitVec 32 := Scalar.select v274 v277 v278
  let c15_i32_201 : BitVec 32 := 15#32
  let v392 : BitVec 1 := Scalar.cmpi .eq v279 c15_i32_201
  let c1_i32_142 : BitVec 32 := 1#32
  let v275 : BitVec 32 := Scalar.addi v158 c1_i32_142
  let v276 : BitVec 32 := Scalar.select v274 v275 v158
  let c1_i32_203 : BitVec 32 := 1#32
  let v395 : BitVec 32 := Scalar.addi v276 c1_i32_203
  let c1_i32_204 : BitVec 32 := 1#32
  let v396 : BitVec 32 := Scalar.addi v279 c1_i32_204
  let v397 : BitVec 32 := Scalar.select v392 v395 v396
  let c15_i32_261 : BitVec 32 := 15#32
  let v510 : BitVec 1 := Scalar.cmpi .eq v397 c15_i32_261
  let c1_i32_202 : BitVec 32 := 1#32
  let v393 : BitVec 32 := Scalar.addi v276 c1_i32_202
  let v394 : BitVec 32 := Scalar.select v392 v393 v276
  let c1_i32_263 : BitVec 32 := 1#32
  let v513 : BitVec 32 := Scalar.addi v394 c1_i32_263
  let c1_i32_264 : BitVec 32 := 1#32
  let v514 : BitVec 32 := Scalar.addi v397 c1_i32_264
  let v515 : BitVec 32 := Scalar.select v510 v513 v514
  let c512_i32_327 : BitVec 32 := 512#32
  let v636 : BitVec 32 := Scalar.muli v515 c512_i32_327
  v636
def k0_off47 (arg18 : BitVec 32) (arg19 : BitVec 32) : Fin 3 → Nat :=
  let c0_328 : Index := 0#32
  let c0_329 : Index := 0#32
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c15_i32_141 : BitVec 32 := 15#32
  let v274 : BitVec 1 := Scalar.cmpi .eq v161 c15_i32_141
  let c1_i32_82 : BitVec 32 := 1#32
  let v157 : BitVec 32 := Scalar.addi v40 c1_i32_82
  let v158 : BitVec 32 := Scalar.select v156 v157 v40
  let c1_i32_143 : BitVec 32 := 1#32
  let v277 : BitVec 32 := Scalar.addi v158 c1_i32_143
  let c1_i32_144 : BitVec 32 := 1#32
  let v278 : BitVec 32 := Scalar.addi v161 c1_i32_144
  let v279 : BitVec 32 := Scalar.select v274 v277 v278
  let c15_i32_201 : BitVec 32 := 15#32
  let v392 : BitVec 1 := Scalar.cmpi .eq v279 c15_i32_201
  let c1_i32_142 : BitVec 32 := 1#32
  let v275 : BitVec 32 := Scalar.addi v158 c1_i32_142
  let v276 : BitVec 32 := Scalar.select v274 v275 v158
  let c1_i32_203 : BitVec 32 := 1#32
  let v395 : BitVec 32 := Scalar.addi v276 c1_i32_203
  let c1_i32_204 : BitVec 32 := 1#32
  let v396 : BitVec 32 := Scalar.addi v279 c1_i32_204
  let v397 : BitVec 32 := Scalar.select v392 v395 v396
  let c15_i32_261 : BitVec 32 := 15#32
  let v510 : BitVec 1 := Scalar.cmpi .eq v397 c15_i32_261
  let c1_i32_202 : BitVec 32 := 1#32
  let v393 : BitVec 32 := Scalar.addi v276 c1_i32_202
  let v394 : BitVec 32 := Scalar.select v392 v393 v276
  let c1_i32_263 : BitVec 32 := 1#32
  let v513 : BitVec 32 := Scalar.addi v394 c1_i32_263
  let c1_i32_264 : BitVec 32 := 1#32
  let v514 : BitVec 32 := Scalar.addi v397 c1_i32_264
  let v515 : BitVec 32 := Scalar.select v510 v513 v514
  let c512_i32_327 : BitVec 32 := 512#32
  let v636 : BitVec 32 := Scalar.muli v515 c512_i32_327
  let v637 : BitVec 32 := v636
  let v638 : Index := Scalar.indexCast v637
  ![0, 0, v638.toNat]
def k0_mult66 (arg18 : BitVec 32) (arg19 : BitVec 32) : BitVec 32 :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c15_i32_141 : BitVec 32 := 15#32
  let v274 : BitVec 1 := Scalar.cmpi .eq v161 c15_i32_141
  let c1_i32_82 : BitVec 32 := 1#32
  let v157 : BitVec 32 := Scalar.addi v40 c1_i32_82
  let v158 : BitVec 32 := Scalar.select v156 v157 v40
  let c1_i32_143 : BitVec 32 := 1#32
  let v277 : BitVec 32 := Scalar.addi v158 c1_i32_143
  let c1_i32_144 : BitVec 32 := 1#32
  let v278 : BitVec 32 := Scalar.addi v161 c1_i32_144
  let v279 : BitVec 32 := Scalar.select v274 v277 v278
  let c15_i32_201 : BitVec 32 := 15#32
  let v392 : BitVec 1 := Scalar.cmpi .eq v279 c15_i32_201
  let c1_i32_142 : BitVec 32 := 1#32
  let v275 : BitVec 32 := Scalar.addi v158 c1_i32_142
  let v276 : BitVec 32 := Scalar.select v274 v275 v158
  let c1_i32_203 : BitVec 32 := 1#32
  let v395 : BitVec 32 := Scalar.addi v276 c1_i32_203
  let c1_i32_204 : BitVec 32 := 1#32
  let v396 : BitVec 32 := Scalar.addi v279 c1_i32_204
  let v397 : BitVec 32 := Scalar.select v392 v395 v396
  let c15_i32_261 : BitVec 32 := 15#32
  let v510 : BitVec 1 := Scalar.cmpi .eq v397 c15_i32_261
  let c1_i32_202 : BitVec 32 := 1#32
  let v393 : BitVec 32 := Scalar.addi v276 c1_i32_202
  let v394 : BitVec 32 := Scalar.select v392 v393 v276
  let c1_i32_263 : BitVec 32 := 1#32
  let v513 : BitVec 32 := Scalar.addi v394 c1_i32_263
  let c1_i32_264 : BitVec 32 := 1#32
  let v514 : BitVec 32 := Scalar.addi v397 c1_i32_264
  let v515 : BitVec 32 := Scalar.select v510 v513 v514
  let c512_i32_333 : BitVec 32 := 512#32
  let v648 : BitVec 32 := Scalar.muli v515 c512_i32_333
  v648
def k0_off48 (arg18 : BitVec 32) (arg19 : BitVec 32) : Fin 3 → Nat :=
  let c0_334 : Index := 0#32
  let c0_335 : Index := 0#32
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c15_i32_141 : BitVec 32 := 15#32
  let v274 : BitVec 1 := Scalar.cmpi .eq v161 c15_i32_141
  let c1_i32_82 : BitVec 32 := 1#32
  let v157 : BitVec 32 := Scalar.addi v40 c1_i32_82
  let v158 : BitVec 32 := Scalar.select v156 v157 v40
  let c1_i32_143 : BitVec 32 := 1#32
  let v277 : BitVec 32 := Scalar.addi v158 c1_i32_143
  let c1_i32_144 : BitVec 32 := 1#32
  let v278 : BitVec 32 := Scalar.addi v161 c1_i32_144
  let v279 : BitVec 32 := Scalar.select v274 v277 v278
  let c15_i32_201 : BitVec 32 := 15#32
  let v392 : BitVec 1 := Scalar.cmpi .eq v279 c15_i32_201
  let c1_i32_142 : BitVec 32 := 1#32
  let v275 : BitVec 32 := Scalar.addi v158 c1_i32_142
  let v276 : BitVec 32 := Scalar.select v274 v275 v158
  let c1_i32_203 : BitVec 32 := 1#32
  let v395 : BitVec 32 := Scalar.addi v276 c1_i32_203
  let c1_i32_204 : BitVec 32 := 1#32
  let v396 : BitVec 32 := Scalar.addi v279 c1_i32_204
  let v397 : BitVec 32 := Scalar.select v392 v395 v396
  let c15_i32_261 : BitVec 32 := 15#32
  let v510 : BitVec 1 := Scalar.cmpi .eq v397 c15_i32_261
  let c1_i32_202 : BitVec 32 := 1#32
  let v393 : BitVec 32 := Scalar.addi v276 c1_i32_202
  let v394 : BitVec 32 := Scalar.select v392 v393 v276
  let c1_i32_263 : BitVec 32 := 1#32
  let v513 : BitVec 32 := Scalar.addi v394 c1_i32_263
  let c1_i32_264 : BitVec 32 := 1#32
  let v514 : BitVec 32 := Scalar.addi v397 c1_i32_264
  let v515 : BitVec 32 := Scalar.select v510 v513 v514
  let c512_i32_333 : BitVec 32 := 512#32
  let v648 : BitVec 32 := Scalar.muli v515 c512_i32_333
  let v649 : BitVec 32 := v648
  let v650 : Index := Scalar.indexCast v649
  ![0, 0, v650.toNat]
def k0_mult67 (arg18 : BitVec 32) (arg19 : BitVec 32) : BitVec 32 :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c15_i32_141 : BitVec 32 := 15#32
  let v274 : BitVec 1 := Scalar.cmpi .eq v161 c15_i32_141
  let c1_i32_82 : BitVec 32 := 1#32
  let v157 : BitVec 32 := Scalar.addi v40 c1_i32_82
  let v158 : BitVec 32 := Scalar.select v156 v157 v40
  let c1_i32_143 : BitVec 32 := 1#32
  let v277 : BitVec 32 := Scalar.addi v158 c1_i32_143
  let c1_i32_144 : BitVec 32 := 1#32
  let v278 : BitVec 32 := Scalar.addi v161 c1_i32_144
  let v279 : BitVec 32 := Scalar.select v274 v277 v278
  let c15_i32_201 : BitVec 32 := 15#32
  let v392 : BitVec 1 := Scalar.cmpi .eq v279 c15_i32_201
  let c1_i32_142 : BitVec 32 := 1#32
  let v275 : BitVec 32 := Scalar.addi v158 c1_i32_142
  let v276 : BitVec 32 := Scalar.select v274 v275 v158
  let c1_i32_203 : BitVec 32 := 1#32
  let v395 : BitVec 32 := Scalar.addi v276 c1_i32_203
  let c1_i32_204 : BitVec 32 := 1#32
  let v396 : BitVec 32 := Scalar.addi v279 c1_i32_204
  let v397 : BitVec 32 := Scalar.select v392 v395 v396
  let c15_i32_261 : BitVec 32 := 15#32
  let v510 : BitVec 1 := Scalar.cmpi .eq v397 c15_i32_261
  let c1_i32_202 : BitVec 32 := 1#32
  let v393 : BitVec 32 := Scalar.addi v276 c1_i32_202
  let v394 : BitVec 32 := Scalar.select v392 v393 v276
  let c1_i32_263 : BitVec 32 := 1#32
  let v513 : BitVec 32 := Scalar.addi v394 c1_i32_263
  let c1_i32_264 : BitVec 32 := 1#32
  let v514 : BitVec 32 := Scalar.addi v397 c1_i32_264
  let v515 : BitVec 32 := Scalar.select v510 v513 v514
  let c512_i32_339 : BitVec 32 := 512#32
  let v656 : BitVec 32 := Scalar.muli v515 c512_i32_339
  v656
def k0_mult68 (arg18 : BitVec 32) (arg19 : BitVec 32) : BitVec 32 :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c15_i32_141 : BitVec 32 := 15#32
  let v274 : BitVec 1 := Scalar.cmpi .eq v161 c15_i32_141
  let c1_i32_82 : BitVec 32 := 1#32
  let v157 : BitVec 32 := Scalar.addi v40 c1_i32_82
  let v158 : BitVec 32 := Scalar.select v156 v157 v40
  let c1_i32_143 : BitVec 32 := 1#32
  let v277 : BitVec 32 := Scalar.addi v158 c1_i32_143
  let c1_i32_144 : BitVec 32 := 1#32
  let v278 : BitVec 32 := Scalar.addi v161 c1_i32_144
  let v279 : BitVec 32 := Scalar.select v274 v277 v278
  let c15_i32_201 : BitVec 32 := 15#32
  let v392 : BitVec 1 := Scalar.cmpi .eq v279 c15_i32_201
  let c1_i32_142 : BitVec 32 := 1#32
  let v275 : BitVec 32 := Scalar.addi v158 c1_i32_142
  let v276 : BitVec 32 := Scalar.select v274 v275 v158
  let c1_i32_203 : BitVec 32 := 1#32
  let v395 : BitVec 32 := Scalar.addi v276 c1_i32_203
  let c1_i32_204 : BitVec 32 := 1#32
  let v396 : BitVec 32 := Scalar.addi v279 c1_i32_204
  let v397 : BitVec 32 := Scalar.select v392 v395 v396
  let c15_i32_261 : BitVec 32 := 15#32
  let v510 : BitVec 1 := Scalar.cmpi .eq v397 c15_i32_261
  let c1_i32_202 : BitVec 32 := 1#32
  let v393 : BitVec 32 := Scalar.addi v276 c1_i32_202
  let v394 : BitVec 32 := Scalar.select v392 v393 v276
  let c1_i32_263 : BitVec 32 := 1#32
  let v513 : BitVec 32 := Scalar.addi v394 c1_i32_263
  let c1_i32_264 : BitVec 32 := 1#32
  let v514 : BitVec 32 := Scalar.addi v397 c1_i32_264
  let v515 : BitVec 32 := Scalar.select v510 v513 v514
  let c512_i32_345 : BitVec 32 := 512#32
  let v668 : BitVec 32 := Scalar.muli v515 c512_i32_345
  v668
def k0_off49 (arg18 : BitVec 32) (arg19 : BitVec 32) : Fin 2 → Nat :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c15_i32_141 : BitVec 32 := 15#32
  let v274 : BitVec 1 := Scalar.cmpi .eq v161 c15_i32_141
  let c1_i32_82 : BitVec 32 := 1#32
  let v157 : BitVec 32 := Scalar.addi v40 c1_i32_82
  let v158 : BitVec 32 := Scalar.select v156 v157 v40
  let c1_i32_143 : BitVec 32 := 1#32
  let v277 : BitVec 32 := Scalar.addi v158 c1_i32_143
  let c1_i32_144 : BitVec 32 := 1#32
  let v278 : BitVec 32 := Scalar.addi v161 c1_i32_144
  let v279 : BitVec 32 := Scalar.select v274 v277 v278
  let c15_i32_201 : BitVec 32 := 15#32
  let v392 : BitVec 1 := Scalar.cmpi .eq v279 c15_i32_201
  let c1_i32_142 : BitVec 32 := 1#32
  let v275 : BitVec 32 := Scalar.addi v158 c1_i32_142
  let v276 : BitVec 32 := Scalar.select v274 v275 v158
  let c1_i32_203 : BitVec 32 := 1#32
  let v395 : BitVec 32 := Scalar.addi v276 c1_i32_203
  let c1_i32_204 : BitVec 32 := 1#32
  let v396 : BitVec 32 := Scalar.addi v279 c1_i32_204
  let v397 : BitVec 32 := Scalar.select v392 v395 v396
  let c15_i32_261 : BitVec 32 := 15#32
  let v510 : BitVec 1 := Scalar.cmpi .eq v397 c15_i32_261
  let c1_i32_202 : BitVec 32 := 1#32
  let v393 : BitVec 32 := Scalar.addi v276 c1_i32_202
  let v394 : BitVec 32 := Scalar.select v392 v393 v276
  let c1_i32_263 : BitVec 32 := 1#32
  let v513 : BitVec 32 := Scalar.addi v394 c1_i32_263
  let c1_i32_264 : BitVec 32 := 1#32
  let v514 : BitVec 32 := Scalar.addi v397 c1_i32_264
  let v515 : BitVec 32 := Scalar.select v510 v513 v514
  let c512_i32_345 : BitVec 32 := 512#32
  let v668 : BitVec 32 := Scalar.muli v515 c512_i32_345
  let v669 : BitVec 32 := v668
  let v670 : Index := Scalar.indexCast v669
  let c0_346 : Index := 0#32
  ![v670.toNat, 0]
def k0_mult69 (arg18 : BitVec 32) (arg19 : BitVec 32) : BitVec 32 :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c15_i32_141 : BitVec 32 := 15#32
  let v274 : BitVec 1 := Scalar.cmpi .eq v161 c15_i32_141
  let c1_i32_82 : BitVec 32 := 1#32
  let v157 : BitVec 32 := Scalar.addi v40 c1_i32_82
  let v158 : BitVec 32 := Scalar.select v156 v157 v40
  let c1_i32_143 : BitVec 32 := 1#32
  let v277 : BitVec 32 := Scalar.addi v158 c1_i32_143
  let c1_i32_144 : BitVec 32 := 1#32
  let v278 : BitVec 32 := Scalar.addi v161 c1_i32_144
  let v279 : BitVec 32 := Scalar.select v274 v277 v278
  let c15_i32_201 : BitVec 32 := 15#32
  let v392 : BitVec 1 := Scalar.cmpi .eq v279 c15_i32_201
  let c1_i32_142 : BitVec 32 := 1#32
  let v275 : BitVec 32 := Scalar.addi v158 c1_i32_142
  let v276 : BitVec 32 := Scalar.select v274 v275 v158
  let c1_i32_203 : BitVec 32 := 1#32
  let v395 : BitVec 32 := Scalar.addi v276 c1_i32_203
  let c1_i32_204 : BitVec 32 := 1#32
  let v396 : BitVec 32 := Scalar.addi v279 c1_i32_204
  let v397 : BitVec 32 := Scalar.select v392 v395 v396
  let c15_i32_261 : BitVec 32 := 15#32
  let v510 : BitVec 1 := Scalar.cmpi .eq v397 c15_i32_261
  let c1_i32_202 : BitVec 32 := 1#32
  let v393 : BitVec 32 := Scalar.addi v276 c1_i32_202
  let v394 : BitVec 32 := Scalar.select v392 v393 v276
  let c1_i32_263 : BitVec 32 := 1#32
  let v513 : BitVec 32 := Scalar.addi v394 c1_i32_263
  let c1_i32_264 : BitVec 32 := 1#32
  let v514 : BitVec 32 := Scalar.addi v397 c1_i32_264
  let v515 : BitVec 32 := Scalar.select v510 v513 v514
  let c512_i32_348 : BitVec 32 := 512#32
  let v675 : BitVec 32 := Scalar.muli v515 c512_i32_348
  v675
def k0_mult70 (arg18 : BitVec 32) (arg19 : BitVec 32) : BitVec 32 :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c15_i32_141 : BitVec 32 := 15#32
  let v274 : BitVec 1 := Scalar.cmpi .eq v161 c15_i32_141
  let c1_i32_82 : BitVec 32 := 1#32
  let v157 : BitVec 32 := Scalar.addi v40 c1_i32_82
  let v158 : BitVec 32 := Scalar.select v156 v157 v40
  let c1_i32_143 : BitVec 32 := 1#32
  let v277 : BitVec 32 := Scalar.addi v158 c1_i32_143
  let c1_i32_144 : BitVec 32 := 1#32
  let v278 : BitVec 32 := Scalar.addi v161 c1_i32_144
  let v279 : BitVec 32 := Scalar.select v274 v277 v278
  let c15_i32_201 : BitVec 32 := 15#32
  let v392 : BitVec 1 := Scalar.cmpi .eq v279 c15_i32_201
  let c1_i32_142 : BitVec 32 := 1#32
  let v275 : BitVec 32 := Scalar.addi v158 c1_i32_142
  let v276 : BitVec 32 := Scalar.select v274 v275 v158
  let c1_i32_203 : BitVec 32 := 1#32
  let v395 : BitVec 32 := Scalar.addi v276 c1_i32_203
  let c1_i32_204 : BitVec 32 := 1#32
  let v396 : BitVec 32 := Scalar.addi v279 c1_i32_204
  let v397 : BitVec 32 := Scalar.select v392 v395 v396
  let c15_i32_261 : BitVec 32 := 15#32
  let v510 : BitVec 1 := Scalar.cmpi .eq v397 c15_i32_261
  let c1_i32_202 : BitVec 32 := 1#32
  let v393 : BitVec 32 := Scalar.addi v276 c1_i32_202
  let v394 : BitVec 32 := Scalar.select v392 v393 v276
  let c1_i32_262 : BitVec 32 := 1#32
  let v511 : BitVec 32 := Scalar.addi v394 c1_i32_262
  let v512 : BitVec 32 := Scalar.select v510 v511 v394
  let c512_i32_350 : BitVec 32 := 512#32
  let v679 : BitVec 32 := Scalar.muli v512 c512_i32_350
  v679
def k0_off50 (arg18 : BitVec 32) (arg19 : BitVec 32) : Fin 2 → Nat :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c15_i32_141 : BitVec 32 := 15#32
  let v274 : BitVec 1 := Scalar.cmpi .eq v161 c15_i32_141
  let c1_i32_82 : BitVec 32 := 1#32
  let v157 : BitVec 32 := Scalar.addi v40 c1_i32_82
  let v158 : BitVec 32 := Scalar.select v156 v157 v40
  let c1_i32_143 : BitVec 32 := 1#32
  let v277 : BitVec 32 := Scalar.addi v158 c1_i32_143
  let c1_i32_144 : BitVec 32 := 1#32
  let v278 : BitVec 32 := Scalar.addi v161 c1_i32_144
  let v279 : BitVec 32 := Scalar.select v274 v277 v278
  let c15_i32_201 : BitVec 32 := 15#32
  let v392 : BitVec 1 := Scalar.cmpi .eq v279 c15_i32_201
  let c1_i32_142 : BitVec 32 := 1#32
  let v275 : BitVec 32 := Scalar.addi v158 c1_i32_142
  let v276 : BitVec 32 := Scalar.select v274 v275 v158
  let c1_i32_203 : BitVec 32 := 1#32
  let v395 : BitVec 32 := Scalar.addi v276 c1_i32_203
  let c1_i32_204 : BitVec 32 := 1#32
  let v396 : BitVec 32 := Scalar.addi v279 c1_i32_204
  let v397 : BitVec 32 := Scalar.select v392 v395 v396
  let c15_i32_261 : BitVec 32 := 15#32
  let v510 : BitVec 1 := Scalar.cmpi .eq v397 c15_i32_261
  let c1_i32_202 : BitVec 32 := 1#32
  let v393 : BitVec 32 := Scalar.addi v276 c1_i32_202
  let v394 : BitVec 32 := Scalar.select v392 v393 v276
  let c1_i32_262 : BitVec 32 := 1#32
  let v511 : BitVec 32 := Scalar.addi v394 c1_i32_262
  let v512 : BitVec 32 := Scalar.select v510 v511 v394
  let c512_i32_350 : BitVec 32 := 512#32
  let v679 : BitVec 32 := Scalar.muli v512 c512_i32_350
  let v680 : BitVec 32 := v679
  let v681 : Index := Scalar.indexCast v680
  let c0_351 : Index := 0#32
  ![v681.toNat, 0]
def k0_mult71 (arg18 : BitVec 32) (arg19 : BitVec 32) : BitVec 32 :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c15_i32_141 : BitVec 32 := 15#32
  let v274 : BitVec 1 := Scalar.cmpi .eq v161 c15_i32_141
  let c1_i32_82 : BitVec 32 := 1#32
  let v157 : BitVec 32 := Scalar.addi v40 c1_i32_82
  let v158 : BitVec 32 := Scalar.select v156 v157 v40
  let c1_i32_143 : BitVec 32 := 1#32
  let v277 : BitVec 32 := Scalar.addi v158 c1_i32_143
  let c1_i32_144 : BitVec 32 := 1#32
  let v278 : BitVec 32 := Scalar.addi v161 c1_i32_144
  let v279 : BitVec 32 := Scalar.select v274 v277 v278
  let c15_i32_201 : BitVec 32 := 15#32
  let v392 : BitVec 1 := Scalar.cmpi .eq v279 c15_i32_201
  let c1_i32_142 : BitVec 32 := 1#32
  let v275 : BitVec 32 := Scalar.addi v158 c1_i32_142
  let v276 : BitVec 32 := Scalar.select v274 v275 v158
  let c1_i32_203 : BitVec 32 := 1#32
  let v395 : BitVec 32 := Scalar.addi v276 c1_i32_203
  let c1_i32_204 : BitVec 32 := 1#32
  let v396 : BitVec 32 := Scalar.addi v279 c1_i32_204
  let v397 : BitVec 32 := Scalar.select v392 v395 v396
  let c15_i32_261 : BitVec 32 := 15#32
  let v510 : BitVec 1 := Scalar.cmpi .eq v397 c15_i32_261
  let c1_i32_202 : BitVec 32 := 1#32
  let v393 : BitVec 32 := Scalar.addi v276 c1_i32_202
  let v394 : BitVec 32 := Scalar.select v392 v393 v276
  let c1_i32_262 : BitVec 32 := 1#32
  let v511 : BitVec 32 := Scalar.addi v394 c1_i32_262
  let v512 : BitVec 32 := Scalar.select v510 v511 v394
  let c512_i32_358 : BitVec 32 := 512#32
  let v697 : BitVec 32 := Scalar.muli v512 c512_i32_358
  v697
def k0_mult72 (arg18 : BitVec 32) (arg19 : BitVec 32) : BitVec 32 :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c15_i32_141 : BitVec 32 := 15#32
  let v274 : BitVec 1 := Scalar.cmpi .eq v161 c15_i32_141
  let c1_i32_82 : BitVec 32 := 1#32
  let v157 : BitVec 32 := Scalar.addi v40 c1_i32_82
  let v158 : BitVec 32 := Scalar.select v156 v157 v40
  let c1_i32_143 : BitVec 32 := 1#32
  let v277 : BitVec 32 := Scalar.addi v158 c1_i32_143
  let c1_i32_144 : BitVec 32 := 1#32
  let v278 : BitVec 32 := Scalar.addi v161 c1_i32_144
  let v279 : BitVec 32 := Scalar.select v274 v277 v278
  let c15_i32_201 : BitVec 32 := 15#32
  let v392 : BitVec 1 := Scalar.cmpi .eq v279 c15_i32_201
  let c1_i32_142 : BitVec 32 := 1#32
  let v275 : BitVec 32 := Scalar.addi v158 c1_i32_142
  let v276 : BitVec 32 := Scalar.select v274 v275 v158
  let c1_i32_203 : BitVec 32 := 1#32
  let v395 : BitVec 32 := Scalar.addi v276 c1_i32_203
  let c1_i32_204 : BitVec 32 := 1#32
  let v396 : BitVec 32 := Scalar.addi v279 c1_i32_204
  let v397 : BitVec 32 := Scalar.select v392 v395 v396
  let c15_i32_261 : BitVec 32 := 15#32
  let v510 : BitVec 1 := Scalar.cmpi .eq v397 c15_i32_261
  let c1_i32_202 : BitVec 32 := 1#32
  let v393 : BitVec 32 := Scalar.addi v276 c1_i32_202
  let v394 : BitVec 32 := Scalar.select v392 v393 v276
  let c1_i32_262 : BitVec 32 := 1#32
  let v511 : BitVec 32 := Scalar.addi v394 c1_i32_262
  let v512 : BitVec 32 := Scalar.select v510 v511 v394
  let c512_i32_360 : BitVec 32 := 512#32
  let v703 : BitVec 32 := Scalar.muli v512 c512_i32_360
  v703
def k0_off51 (arg18 : BitVec 32) (arg19 : BitVec 32) : Fin 2 → Nat :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c15_i32_141 : BitVec 32 := 15#32
  let v274 : BitVec 1 := Scalar.cmpi .eq v161 c15_i32_141
  let c1_i32_82 : BitVec 32 := 1#32
  let v157 : BitVec 32 := Scalar.addi v40 c1_i32_82
  let v158 : BitVec 32 := Scalar.select v156 v157 v40
  let c1_i32_143 : BitVec 32 := 1#32
  let v277 : BitVec 32 := Scalar.addi v158 c1_i32_143
  let c1_i32_144 : BitVec 32 := 1#32
  let v278 : BitVec 32 := Scalar.addi v161 c1_i32_144
  let v279 : BitVec 32 := Scalar.select v274 v277 v278
  let c15_i32_201 : BitVec 32 := 15#32
  let v392 : BitVec 1 := Scalar.cmpi .eq v279 c15_i32_201
  let c1_i32_142 : BitVec 32 := 1#32
  let v275 : BitVec 32 := Scalar.addi v158 c1_i32_142
  let v276 : BitVec 32 := Scalar.select v274 v275 v158
  let c1_i32_203 : BitVec 32 := 1#32
  let v395 : BitVec 32 := Scalar.addi v276 c1_i32_203
  let c1_i32_204 : BitVec 32 := 1#32
  let v396 : BitVec 32 := Scalar.addi v279 c1_i32_204
  let v397 : BitVec 32 := Scalar.select v392 v395 v396
  let c15_i32_261 : BitVec 32 := 15#32
  let v510 : BitVec 1 := Scalar.cmpi .eq v397 c15_i32_261
  let c1_i32_202 : BitVec 32 := 1#32
  let v393 : BitVec 32 := Scalar.addi v276 c1_i32_202
  let v394 : BitVec 32 := Scalar.select v392 v393 v276
  let c1_i32_262 : BitVec 32 := 1#32
  let v511 : BitVec 32 := Scalar.addi v394 c1_i32_262
  let v512 : BitVec 32 := Scalar.select v510 v511 v394
  let c512_i32_360 : BitVec 32 := 512#32
  let v703 : BitVec 32 := Scalar.muli v512 c512_i32_360
  let v704 : BitVec 32 := v703
  let v705 : Index := Scalar.indexCast v704
  let c0_361 : Index := 0#32
  ![v705.toNat, 0]
def k0_mult73 (arg18 : BitVec 32) (arg19 : BitVec 32) : BitVec 32 :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c15_i32_141 : BitVec 32 := 15#32
  let v274 : BitVec 1 := Scalar.cmpi .eq v161 c15_i32_141
  let c1_i32_82 : BitVec 32 := 1#32
  let v157 : BitVec 32 := Scalar.addi v40 c1_i32_82
  let v158 : BitVec 32 := Scalar.select v156 v157 v40
  let c1_i32_143 : BitVec 32 := 1#32
  let v277 : BitVec 32 := Scalar.addi v158 c1_i32_143
  let c1_i32_144 : BitVec 32 := 1#32
  let v278 : BitVec 32 := Scalar.addi v161 c1_i32_144
  let v279 : BitVec 32 := Scalar.select v274 v277 v278
  let c15_i32_201 : BitVec 32 := 15#32
  let v392 : BitVec 1 := Scalar.cmpi .eq v279 c15_i32_201
  let c1_i32_142 : BitVec 32 := 1#32
  let v275 : BitVec 32 := Scalar.addi v158 c1_i32_142
  let v276 : BitVec 32 := Scalar.select v274 v275 v158
  let c1_i32_203 : BitVec 32 := 1#32
  let v395 : BitVec 32 := Scalar.addi v276 c1_i32_203
  let c1_i32_204 : BitVec 32 := 1#32
  let v396 : BitVec 32 := Scalar.addi v279 c1_i32_204
  let v397 : BitVec 32 := Scalar.select v392 v395 v396
  let c15_i32_261 : BitVec 32 := 15#32
  let v510 : BitVec 1 := Scalar.cmpi .eq v397 c15_i32_261
  let c1_i32_202 : BitVec 32 := 1#32
  let v393 : BitVec 32 := Scalar.addi v276 c1_i32_202
  let v394 : BitVec 32 := Scalar.select v392 v393 v276
  let c1_i32_263 : BitVec 32 := 1#32
  let v513 : BitVec 32 := Scalar.addi v394 c1_i32_263
  let c1_i32_264 : BitVec 32 := 1#32
  let v514 : BitVec 32 := Scalar.addi v397 c1_i32_264
  let v515 : BitVec 32 := Scalar.select v510 v513 v514
  let c15_i32_321 : BitVec 32 := 15#32
  let v628 : BitVec 1 := Scalar.cmpi .eq v515 c15_i32_321
  let c1_i32_262 : BitVec 32 := 1#32
  let v511 : BitVec 32 := Scalar.addi v394 c1_i32_262
  let v512 : BitVec 32 := Scalar.select v510 v511 v394
  let c1_i32_322 : BitVec 32 := 1#32
  let v629 : BitVec 32 := Scalar.addi v512 c1_i32_322
  let v630 : BitVec 32 := Scalar.select v628 v629 v512
  let c15_i32_362 : BitVec 32 := 15#32
  let v707 : BitVec 32 := Scalar.minsi v630 c15_i32_362
  let c512_i32_364 : BitVec 32 := 512#32
  let v709 : BitVec 32 := Scalar.muli v707 c512_i32_364
  v709
def k0_off52 (arg18 : BitVec 32) (arg19 : BitVec 32) : Fin 2 → Nat :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c15_i32_141 : BitVec 32 := 15#32
  let v274 : BitVec 1 := Scalar.cmpi .eq v161 c15_i32_141
  let c1_i32_82 : BitVec 32 := 1#32
  let v157 : BitVec 32 := Scalar.addi v40 c1_i32_82
  let v158 : BitVec 32 := Scalar.select v156 v157 v40
  let c1_i32_143 : BitVec 32 := 1#32
  let v277 : BitVec 32 := Scalar.addi v158 c1_i32_143
  let c1_i32_144 : BitVec 32 := 1#32
  let v278 : BitVec 32 := Scalar.addi v161 c1_i32_144
  let v279 : BitVec 32 := Scalar.select v274 v277 v278
  let c15_i32_201 : BitVec 32 := 15#32
  let v392 : BitVec 1 := Scalar.cmpi .eq v279 c15_i32_201
  let c1_i32_142 : BitVec 32 := 1#32
  let v275 : BitVec 32 := Scalar.addi v158 c1_i32_142
  let v276 : BitVec 32 := Scalar.select v274 v275 v158
  let c1_i32_203 : BitVec 32 := 1#32
  let v395 : BitVec 32 := Scalar.addi v276 c1_i32_203
  let c1_i32_204 : BitVec 32 := 1#32
  let v396 : BitVec 32 := Scalar.addi v279 c1_i32_204
  let v397 : BitVec 32 := Scalar.select v392 v395 v396
  let c15_i32_261 : BitVec 32 := 15#32
  let v510 : BitVec 1 := Scalar.cmpi .eq v397 c15_i32_261
  let c1_i32_202 : BitVec 32 := 1#32
  let v393 : BitVec 32 := Scalar.addi v276 c1_i32_202
  let v394 : BitVec 32 := Scalar.select v392 v393 v276
  let c1_i32_263 : BitVec 32 := 1#32
  let v513 : BitVec 32 := Scalar.addi v394 c1_i32_263
  let c1_i32_264 : BitVec 32 := 1#32
  let v514 : BitVec 32 := Scalar.addi v397 c1_i32_264
  let v515 : BitVec 32 := Scalar.select v510 v513 v514
  let c15_i32_321 : BitVec 32 := 15#32
  let v628 : BitVec 1 := Scalar.cmpi .eq v515 c15_i32_321
  let c1_i32_262 : BitVec 32 := 1#32
  let v511 : BitVec 32 := Scalar.addi v394 c1_i32_262
  let v512 : BitVec 32 := Scalar.select v510 v511 v394
  let c1_i32_322 : BitVec 32 := 1#32
  let v629 : BitVec 32 := Scalar.addi v512 c1_i32_322
  let v630 : BitVec 32 := Scalar.select v628 v629 v512
  let c15_i32_362 : BitVec 32 := 15#32
  let v707 : BitVec 32 := Scalar.minsi v630 c15_i32_362
  let c512_i32_364 : BitVec 32 := 512#32
  let v709 : BitVec 32 := Scalar.muli v707 c512_i32_364
  let v710 : BitVec 32 := v709
  let v711 : Index := Scalar.indexCast v710
  let c0_365 : Index := 0#32
  ![v711.toNat, 0]
def k0_mult74 (arg18 : BitVec 32) (arg19 : BitVec 32) : BitVec 32 :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c15_i32_141 : BitVec 32 := 15#32
  let v274 : BitVec 1 := Scalar.cmpi .eq v161 c15_i32_141
  let c1_i32_82 : BitVec 32 := 1#32
  let v157 : BitVec 32 := Scalar.addi v40 c1_i32_82
  let v158 : BitVec 32 := Scalar.select v156 v157 v40
  let c1_i32_143 : BitVec 32 := 1#32
  let v277 : BitVec 32 := Scalar.addi v158 c1_i32_143
  let c1_i32_144 : BitVec 32 := 1#32
  let v278 : BitVec 32 := Scalar.addi v161 c1_i32_144
  let v279 : BitVec 32 := Scalar.select v274 v277 v278
  let c15_i32_201 : BitVec 32 := 15#32
  let v392 : BitVec 1 := Scalar.cmpi .eq v279 c15_i32_201
  let c1_i32_142 : BitVec 32 := 1#32
  let v275 : BitVec 32 := Scalar.addi v158 c1_i32_142
  let v276 : BitVec 32 := Scalar.select v274 v275 v158
  let c1_i32_203 : BitVec 32 := 1#32
  let v395 : BitVec 32 := Scalar.addi v276 c1_i32_203
  let c1_i32_204 : BitVec 32 := 1#32
  let v396 : BitVec 32 := Scalar.addi v279 c1_i32_204
  let v397 : BitVec 32 := Scalar.select v392 v395 v396
  let c15_i32_261 : BitVec 32 := 15#32
  let v510 : BitVec 1 := Scalar.cmpi .eq v397 c15_i32_261
  let c1_i32_202 : BitVec 32 := 1#32
  let v393 : BitVec 32 := Scalar.addi v276 c1_i32_202
  let v394 : BitVec 32 := Scalar.select v392 v393 v276
  let c1_i32_263 : BitVec 32 := 1#32
  let v513 : BitVec 32 := Scalar.addi v394 c1_i32_263
  let c1_i32_264 : BitVec 32 := 1#32
  let v514 : BitVec 32 := Scalar.addi v397 c1_i32_264
  let v515 : BitVec 32 := Scalar.select v510 v513 v514
  let c15_i32_321 : BitVec 32 := 15#32
  let v628 : BitVec 1 := Scalar.cmpi .eq v515 c15_i32_321
  let c1_i32_262 : BitVec 32 := 1#32
  let v511 : BitVec 32 := Scalar.addi v394 c1_i32_262
  let v512 : BitVec 32 := Scalar.select v510 v511 v394
  let c1_i32_323 : BitVec 32 := 1#32
  let v631 : BitVec 32 := Scalar.addi v512 c1_i32_323
  let c1_i32_324 : BitVec 32 := 1#32
  let v632 : BitVec 32 := Scalar.addi v515 c1_i32_324
  let v633 : BitVec 32 := Scalar.select v628 v631 v632
  let c15_i32_363 : BitVec 32 := 15#32
  let v708 : BitVec 32 := Scalar.minsi v633 c15_i32_363
  let c512_i32_366 : BitVec 32 := 512#32
  let v714 : BitVec 32 := Scalar.muli v708 c512_i32_366
  v714
def k0_off53 (arg18 : BitVec 32) (arg19 : BitVec 32) : Fin 2 → Nat :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c15_i32_141 : BitVec 32 := 15#32
  let v274 : BitVec 1 := Scalar.cmpi .eq v161 c15_i32_141
  let c1_i32_82 : BitVec 32 := 1#32
  let v157 : BitVec 32 := Scalar.addi v40 c1_i32_82
  let v158 : BitVec 32 := Scalar.select v156 v157 v40
  let c1_i32_143 : BitVec 32 := 1#32
  let v277 : BitVec 32 := Scalar.addi v158 c1_i32_143
  let c1_i32_144 : BitVec 32 := 1#32
  let v278 : BitVec 32 := Scalar.addi v161 c1_i32_144
  let v279 : BitVec 32 := Scalar.select v274 v277 v278
  let c15_i32_201 : BitVec 32 := 15#32
  let v392 : BitVec 1 := Scalar.cmpi .eq v279 c15_i32_201
  let c1_i32_142 : BitVec 32 := 1#32
  let v275 : BitVec 32 := Scalar.addi v158 c1_i32_142
  let v276 : BitVec 32 := Scalar.select v274 v275 v158
  let c1_i32_203 : BitVec 32 := 1#32
  let v395 : BitVec 32 := Scalar.addi v276 c1_i32_203
  let c1_i32_204 : BitVec 32 := 1#32
  let v396 : BitVec 32 := Scalar.addi v279 c1_i32_204
  let v397 : BitVec 32 := Scalar.select v392 v395 v396
  let c15_i32_261 : BitVec 32 := 15#32
  let v510 : BitVec 1 := Scalar.cmpi .eq v397 c15_i32_261
  let c1_i32_202 : BitVec 32 := 1#32
  let v393 : BitVec 32 := Scalar.addi v276 c1_i32_202
  let v394 : BitVec 32 := Scalar.select v392 v393 v276
  let c1_i32_263 : BitVec 32 := 1#32
  let v513 : BitVec 32 := Scalar.addi v394 c1_i32_263
  let c1_i32_264 : BitVec 32 := 1#32
  let v514 : BitVec 32 := Scalar.addi v397 c1_i32_264
  let v515 : BitVec 32 := Scalar.select v510 v513 v514
  let c15_i32_321 : BitVec 32 := 15#32
  let v628 : BitVec 1 := Scalar.cmpi .eq v515 c15_i32_321
  let c1_i32_262 : BitVec 32 := 1#32
  let v511 : BitVec 32 := Scalar.addi v394 c1_i32_262
  let v512 : BitVec 32 := Scalar.select v510 v511 v394
  let c1_i32_323 : BitVec 32 := 1#32
  let v631 : BitVec 32 := Scalar.addi v512 c1_i32_323
  let c1_i32_324 : BitVec 32 := 1#32
  let v632 : BitVec 32 := Scalar.addi v515 c1_i32_324
  let v633 : BitVec 32 := Scalar.select v628 v631 v632
  let c15_i32_363 : BitVec 32 := 15#32
  let v708 : BitVec 32 := Scalar.minsi v633 c15_i32_363
  let c512_i32_366 : BitVec 32 := 512#32
  let v714 : BitVec 32 := Scalar.muli v708 c512_i32_366
  let v715 : BitVec 32 := v714
  let v716 : Index := Scalar.indexCast v715
  let c0_367 : Index := 0#32
  ![v716.toNat, 0]
def k0_mult75 (arg18 : BitVec 32) (arg19 : BitVec 32) : BitVec 32 :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c15_i32_141 : BitVec 32 := 15#32
  let v274 : BitVec 1 := Scalar.cmpi .eq v161 c15_i32_141
  let c1_i32_82 : BitVec 32 := 1#32
  let v157 : BitVec 32 := Scalar.addi v40 c1_i32_82
  let v158 : BitVec 32 := Scalar.select v156 v157 v40
  let c1_i32_143 : BitVec 32 := 1#32
  let v277 : BitVec 32 := Scalar.addi v158 c1_i32_143
  let c1_i32_144 : BitVec 32 := 1#32
  let v278 : BitVec 32 := Scalar.addi v161 c1_i32_144
  let v279 : BitVec 32 := Scalar.select v274 v277 v278
  let c15_i32_201 : BitVec 32 := 15#32
  let v392 : BitVec 1 := Scalar.cmpi .eq v279 c15_i32_201
  let c1_i32_142 : BitVec 32 := 1#32
  let v275 : BitVec 32 := Scalar.addi v158 c1_i32_142
  let v276 : BitVec 32 := Scalar.select v274 v275 v158
  let c1_i32_203 : BitVec 32 := 1#32
  let v395 : BitVec 32 := Scalar.addi v276 c1_i32_203
  let c1_i32_204 : BitVec 32 := 1#32
  let v396 : BitVec 32 := Scalar.addi v279 c1_i32_204
  let v397 : BitVec 32 := Scalar.select v392 v395 v396
  let c15_i32_261 : BitVec 32 := 15#32
  let v510 : BitVec 1 := Scalar.cmpi .eq v397 c15_i32_261
  let c1_i32_202 : BitVec 32 := 1#32
  let v393 : BitVec 32 := Scalar.addi v276 c1_i32_202
  let v394 : BitVec 32 := Scalar.select v392 v393 v276
  let c1_i32_263 : BitVec 32 := 1#32
  let v513 : BitVec 32 := Scalar.addi v394 c1_i32_263
  let c1_i32_264 : BitVec 32 := 1#32
  let v514 : BitVec 32 := Scalar.addi v397 c1_i32_264
  let v515 : BitVec 32 := Scalar.select v510 v513 v514
  let c15_i32_321 : BitVec 32 := 15#32
  let v628 : BitVec 1 := Scalar.cmpi .eq v515 c15_i32_321
  let c1_i32_262 : BitVec 32 := 1#32
  let v511 : BitVec 32 := Scalar.addi v394 c1_i32_262
  let v512 : BitVec 32 := Scalar.select v510 v511 v394
  let c1_i32_322 : BitVec 32 := 1#32
  let v629 : BitVec 32 := Scalar.addi v512 c1_i32_322
  let v630 : BitVec 32 := Scalar.select v628 v629 v512
  let c15_i32_362 : BitVec 32 := 15#32
  let v707 : BitVec 32 := Scalar.minsi v630 c15_i32_362
  let c512_i32_373 : BitVec 32 := 512#32
  let v732 : BitVec 32 := Scalar.muli v707 c512_i32_373
  v732
def k0_off54 (arg18 : BitVec 32) (arg19 : BitVec 32) : Fin 2 → Nat :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c15_i32_141 : BitVec 32 := 15#32
  let v274 : BitVec 1 := Scalar.cmpi .eq v161 c15_i32_141
  let c1_i32_82 : BitVec 32 := 1#32
  let v157 : BitVec 32 := Scalar.addi v40 c1_i32_82
  let v158 : BitVec 32 := Scalar.select v156 v157 v40
  let c1_i32_143 : BitVec 32 := 1#32
  let v277 : BitVec 32 := Scalar.addi v158 c1_i32_143
  let c1_i32_144 : BitVec 32 := 1#32
  let v278 : BitVec 32 := Scalar.addi v161 c1_i32_144
  let v279 : BitVec 32 := Scalar.select v274 v277 v278
  let c15_i32_201 : BitVec 32 := 15#32
  let v392 : BitVec 1 := Scalar.cmpi .eq v279 c15_i32_201
  let c1_i32_142 : BitVec 32 := 1#32
  let v275 : BitVec 32 := Scalar.addi v158 c1_i32_142
  let v276 : BitVec 32 := Scalar.select v274 v275 v158
  let c1_i32_203 : BitVec 32 := 1#32
  let v395 : BitVec 32 := Scalar.addi v276 c1_i32_203
  let c1_i32_204 : BitVec 32 := 1#32
  let v396 : BitVec 32 := Scalar.addi v279 c1_i32_204
  let v397 : BitVec 32 := Scalar.select v392 v395 v396
  let c15_i32_261 : BitVec 32 := 15#32
  let v510 : BitVec 1 := Scalar.cmpi .eq v397 c15_i32_261
  let c1_i32_202 : BitVec 32 := 1#32
  let v393 : BitVec 32 := Scalar.addi v276 c1_i32_202
  let v394 : BitVec 32 := Scalar.select v392 v393 v276
  let c1_i32_263 : BitVec 32 := 1#32
  let v513 : BitVec 32 := Scalar.addi v394 c1_i32_263
  let c1_i32_264 : BitVec 32 := 1#32
  let v514 : BitVec 32 := Scalar.addi v397 c1_i32_264
  let v515 : BitVec 32 := Scalar.select v510 v513 v514
  let c15_i32_321 : BitVec 32 := 15#32
  let v628 : BitVec 1 := Scalar.cmpi .eq v515 c15_i32_321
  let c1_i32_262 : BitVec 32 := 1#32
  let v511 : BitVec 32 := Scalar.addi v394 c1_i32_262
  let v512 : BitVec 32 := Scalar.select v510 v511 v394
  let c1_i32_322 : BitVec 32 := 1#32
  let v629 : BitVec 32 := Scalar.addi v512 c1_i32_322
  let v630 : BitVec 32 := Scalar.select v628 v629 v512
  let c15_i32_362 : BitVec 32 := 15#32
  let v707 : BitVec 32 := Scalar.minsi v630 c15_i32_362
  let c512_i32_373 : BitVec 32 := 512#32
  let v732 : BitVec 32 := Scalar.muli v707 c512_i32_373
  let v733 : BitVec 32 := v732
  let v734 : Index := Scalar.indexCast v733
  let c0_374 : Index := 0#32
  ![v734.toNat, 0]
def k0_mult76 (arg18 : BitVec 32) (arg19 : BitVec 32) : BitVec 32 :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c15_i32_141 : BitVec 32 := 15#32
  let v274 : BitVec 1 := Scalar.cmpi .eq v161 c15_i32_141
  let c1_i32_82 : BitVec 32 := 1#32
  let v157 : BitVec 32 := Scalar.addi v40 c1_i32_82
  let v158 : BitVec 32 := Scalar.select v156 v157 v40
  let c1_i32_143 : BitVec 32 := 1#32
  let v277 : BitVec 32 := Scalar.addi v158 c1_i32_143
  let c1_i32_144 : BitVec 32 := 1#32
  let v278 : BitVec 32 := Scalar.addi v161 c1_i32_144
  let v279 : BitVec 32 := Scalar.select v274 v277 v278
  let c15_i32_201 : BitVec 32 := 15#32
  let v392 : BitVec 1 := Scalar.cmpi .eq v279 c15_i32_201
  let c1_i32_142 : BitVec 32 := 1#32
  let v275 : BitVec 32 := Scalar.addi v158 c1_i32_142
  let v276 : BitVec 32 := Scalar.select v274 v275 v158
  let c1_i32_203 : BitVec 32 := 1#32
  let v395 : BitVec 32 := Scalar.addi v276 c1_i32_203
  let c1_i32_204 : BitVec 32 := 1#32
  let v396 : BitVec 32 := Scalar.addi v279 c1_i32_204
  let v397 : BitVec 32 := Scalar.select v392 v395 v396
  let c15_i32_261 : BitVec 32 := 15#32
  let v510 : BitVec 1 := Scalar.cmpi .eq v397 c15_i32_261
  let c1_i32_202 : BitVec 32 := 1#32
  let v393 : BitVec 32 := Scalar.addi v276 c1_i32_202
  let v394 : BitVec 32 := Scalar.select v392 v393 v276
  let c1_i32_263 : BitVec 32 := 1#32
  let v513 : BitVec 32 := Scalar.addi v394 c1_i32_263
  let c1_i32_264 : BitVec 32 := 1#32
  let v514 : BitVec 32 := Scalar.addi v397 c1_i32_264
  let v515 : BitVec 32 := Scalar.select v510 v513 v514
  let c15_i32_321 : BitVec 32 := 15#32
  let v628 : BitVec 1 := Scalar.cmpi .eq v515 c15_i32_321
  let c1_i32_262 : BitVec 32 := 1#32
  let v511 : BitVec 32 := Scalar.addi v394 c1_i32_262
  let v512 : BitVec 32 := Scalar.select v510 v511 v394
  let c1_i32_323 : BitVec 32 := 1#32
  let v631 : BitVec 32 := Scalar.addi v512 c1_i32_323
  let c1_i32_324 : BitVec 32 := 1#32
  let v632 : BitVec 32 := Scalar.addi v515 c1_i32_324
  let v633 : BitVec 32 := Scalar.select v628 v631 v632
  let c15_i32_363 : BitVec 32 := 15#32
  let v708 : BitVec 32 := Scalar.minsi v633 c15_i32_363
  let c512_i32_375 : BitVec 32 := 512#32
  let v737 : BitVec 32 := Scalar.muli v708 c512_i32_375
  v737
def k0_off55 (arg18 : BitVec 32) (arg19 : BitVec 32) : Fin 3 → Nat :=
  let c0_376 : Index := 0#32
  let c0_377 : Index := 0#32
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c15_i32_141 : BitVec 32 := 15#32
  let v274 : BitVec 1 := Scalar.cmpi .eq v161 c15_i32_141
  let c1_i32_82 : BitVec 32 := 1#32
  let v157 : BitVec 32 := Scalar.addi v40 c1_i32_82
  let v158 : BitVec 32 := Scalar.select v156 v157 v40
  let c1_i32_143 : BitVec 32 := 1#32
  let v277 : BitVec 32 := Scalar.addi v158 c1_i32_143
  let c1_i32_144 : BitVec 32 := 1#32
  let v278 : BitVec 32 := Scalar.addi v161 c1_i32_144
  let v279 : BitVec 32 := Scalar.select v274 v277 v278
  let c15_i32_201 : BitVec 32 := 15#32
  let v392 : BitVec 1 := Scalar.cmpi .eq v279 c15_i32_201
  let c1_i32_142 : BitVec 32 := 1#32
  let v275 : BitVec 32 := Scalar.addi v158 c1_i32_142
  let v276 : BitVec 32 := Scalar.select v274 v275 v158
  let c1_i32_203 : BitVec 32 := 1#32
  let v395 : BitVec 32 := Scalar.addi v276 c1_i32_203
  let c1_i32_204 : BitVec 32 := 1#32
  let v396 : BitVec 32 := Scalar.addi v279 c1_i32_204
  let v397 : BitVec 32 := Scalar.select v392 v395 v396
  let c15_i32_261 : BitVec 32 := 15#32
  let v510 : BitVec 1 := Scalar.cmpi .eq v397 c15_i32_261
  let c1_i32_202 : BitVec 32 := 1#32
  let v393 : BitVec 32 := Scalar.addi v276 c1_i32_202
  let v394 : BitVec 32 := Scalar.select v392 v393 v276
  let c1_i32_263 : BitVec 32 := 1#32
  let v513 : BitVec 32 := Scalar.addi v394 c1_i32_263
  let c1_i32_264 : BitVec 32 := 1#32
  let v514 : BitVec 32 := Scalar.addi v397 c1_i32_264
  let v515 : BitVec 32 := Scalar.select v510 v513 v514
  let c15_i32_321 : BitVec 32 := 15#32
  let v628 : BitVec 1 := Scalar.cmpi .eq v515 c15_i32_321
  let c1_i32_262 : BitVec 32 := 1#32
  let v511 : BitVec 32 := Scalar.addi v394 c1_i32_262
  let v512 : BitVec 32 := Scalar.select v510 v511 v394
  let c1_i32_323 : BitVec 32 := 1#32
  let v631 : BitVec 32 := Scalar.addi v512 c1_i32_323
  let c1_i32_324 : BitVec 32 := 1#32
  let v632 : BitVec 32 := Scalar.addi v515 c1_i32_324
  let v633 : BitVec 32 := Scalar.select v628 v631 v632
  let c15_i32_363 : BitVec 32 := 15#32
  let v708 : BitVec 32 := Scalar.minsi v633 c15_i32_363
  let c512_i32_375 : BitVec 32 := 512#32
  let v737 : BitVec 32 := Scalar.muli v708 c512_i32_375
  let v738 : BitVec 32 := v737
  let v739 : Index := Scalar.indexCast v738
  ![0, 0, v739.toNat]
def k0_mult77 (arg18 : BitVec 32) (arg19 : BitVec 32) : BitVec 32 :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c15_i32_141 : BitVec 32 := 15#32
  let v274 : BitVec 1 := Scalar.cmpi .eq v161 c15_i32_141
  let c1_i32_82 : BitVec 32 := 1#32
  let v157 : BitVec 32 := Scalar.addi v40 c1_i32_82
  let v158 : BitVec 32 := Scalar.select v156 v157 v40
  let c1_i32_143 : BitVec 32 := 1#32
  let v277 : BitVec 32 := Scalar.addi v158 c1_i32_143
  let c1_i32_144 : BitVec 32 := 1#32
  let v278 : BitVec 32 := Scalar.addi v161 c1_i32_144
  let v279 : BitVec 32 := Scalar.select v274 v277 v278
  let c15_i32_201 : BitVec 32 := 15#32
  let v392 : BitVec 1 := Scalar.cmpi .eq v279 c15_i32_201
  let c1_i32_142 : BitVec 32 := 1#32
  let v275 : BitVec 32 := Scalar.addi v158 c1_i32_142
  let v276 : BitVec 32 := Scalar.select v274 v275 v158
  let c1_i32_203 : BitVec 32 := 1#32
  let v395 : BitVec 32 := Scalar.addi v276 c1_i32_203
  let c1_i32_204 : BitVec 32 := 1#32
  let v396 : BitVec 32 := Scalar.addi v279 c1_i32_204
  let v397 : BitVec 32 := Scalar.select v392 v395 v396
  let c15_i32_261 : BitVec 32 := 15#32
  let v510 : BitVec 1 := Scalar.cmpi .eq v397 c15_i32_261
  let c1_i32_202 : BitVec 32 := 1#32
  let v393 : BitVec 32 := Scalar.addi v276 c1_i32_202
  let v394 : BitVec 32 := Scalar.select v392 v393 v276
  let c1_i32_263 : BitVec 32 := 1#32
  let v513 : BitVec 32 := Scalar.addi v394 c1_i32_263
  let c1_i32_264 : BitVec 32 := 1#32
  let v514 : BitVec 32 := Scalar.addi v397 c1_i32_264
  let v515 : BitVec 32 := Scalar.select v510 v513 v514
  let c15_i32_321 : BitVec 32 := 15#32
  let v628 : BitVec 1 := Scalar.cmpi .eq v515 c15_i32_321
  let c1_i32_262 : BitVec 32 := 1#32
  let v511 : BitVec 32 := Scalar.addi v394 c1_i32_262
  let v512 : BitVec 32 := Scalar.select v510 v511 v394
  let c1_i32_323 : BitVec 32 := 1#32
  let v631 : BitVec 32 := Scalar.addi v512 c1_i32_323
  let c1_i32_324 : BitVec 32 := 1#32
  let v632 : BitVec 32 := Scalar.addi v515 c1_i32_324
  let v633 : BitVec 32 := Scalar.select v628 v631 v632
  let c512_i32_387 : BitVec 32 := 512#32
  let v754 : BitVec 32 := Scalar.muli v633 c512_i32_387
  v754
def k0_off56 (arg18 : BitVec 32) (arg19 : BitVec 32) : Fin 3 → Nat :=
  let c0_388 : Index := 0#32
  let c0_389 : Index := 0#32
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c15_i32_141 : BitVec 32 := 15#32
  let v274 : BitVec 1 := Scalar.cmpi .eq v161 c15_i32_141
  let c1_i32_82 : BitVec 32 := 1#32
  let v157 : BitVec 32 := Scalar.addi v40 c1_i32_82
  let v158 : BitVec 32 := Scalar.select v156 v157 v40
  let c1_i32_143 : BitVec 32 := 1#32
  let v277 : BitVec 32 := Scalar.addi v158 c1_i32_143
  let c1_i32_144 : BitVec 32 := 1#32
  let v278 : BitVec 32 := Scalar.addi v161 c1_i32_144
  let v279 : BitVec 32 := Scalar.select v274 v277 v278
  let c15_i32_201 : BitVec 32 := 15#32
  let v392 : BitVec 1 := Scalar.cmpi .eq v279 c15_i32_201
  let c1_i32_142 : BitVec 32 := 1#32
  let v275 : BitVec 32 := Scalar.addi v158 c1_i32_142
  let v276 : BitVec 32 := Scalar.select v274 v275 v158
  let c1_i32_203 : BitVec 32 := 1#32
  let v395 : BitVec 32 := Scalar.addi v276 c1_i32_203
  let c1_i32_204 : BitVec 32 := 1#32
  let v396 : BitVec 32 := Scalar.addi v279 c1_i32_204
  let v397 : BitVec 32 := Scalar.select v392 v395 v396
  let c15_i32_261 : BitVec 32 := 15#32
  let v510 : BitVec 1 := Scalar.cmpi .eq v397 c15_i32_261
  let c1_i32_202 : BitVec 32 := 1#32
  let v393 : BitVec 32 := Scalar.addi v276 c1_i32_202
  let v394 : BitVec 32 := Scalar.select v392 v393 v276
  let c1_i32_263 : BitVec 32 := 1#32
  let v513 : BitVec 32 := Scalar.addi v394 c1_i32_263
  let c1_i32_264 : BitVec 32 := 1#32
  let v514 : BitVec 32 := Scalar.addi v397 c1_i32_264
  let v515 : BitVec 32 := Scalar.select v510 v513 v514
  let c15_i32_321 : BitVec 32 := 15#32
  let v628 : BitVec 1 := Scalar.cmpi .eq v515 c15_i32_321
  let c1_i32_262 : BitVec 32 := 1#32
  let v511 : BitVec 32 := Scalar.addi v394 c1_i32_262
  let v512 : BitVec 32 := Scalar.select v510 v511 v394
  let c1_i32_323 : BitVec 32 := 1#32
  let v631 : BitVec 32 := Scalar.addi v512 c1_i32_323
  let c1_i32_324 : BitVec 32 := 1#32
  let v632 : BitVec 32 := Scalar.addi v515 c1_i32_324
  let v633 : BitVec 32 := Scalar.select v628 v631 v632
  let c512_i32_387 : BitVec 32 := 512#32
  let v754 : BitVec 32 := Scalar.muli v633 c512_i32_387
  let v755 : BitVec 32 := v754
  let v756 : Index := Scalar.indexCast v755
  ![0, 0, v756.toNat]
def k0_mult78 (arg18 : BitVec 32) (arg19 : BitVec 32) : BitVec 32 :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c15_i32_141 : BitVec 32 := 15#32
  let v274 : BitVec 1 := Scalar.cmpi .eq v161 c15_i32_141
  let c1_i32_82 : BitVec 32 := 1#32
  let v157 : BitVec 32 := Scalar.addi v40 c1_i32_82
  let v158 : BitVec 32 := Scalar.select v156 v157 v40
  let c1_i32_143 : BitVec 32 := 1#32
  let v277 : BitVec 32 := Scalar.addi v158 c1_i32_143
  let c1_i32_144 : BitVec 32 := 1#32
  let v278 : BitVec 32 := Scalar.addi v161 c1_i32_144
  let v279 : BitVec 32 := Scalar.select v274 v277 v278
  let c15_i32_201 : BitVec 32 := 15#32
  let v392 : BitVec 1 := Scalar.cmpi .eq v279 c15_i32_201
  let c1_i32_142 : BitVec 32 := 1#32
  let v275 : BitVec 32 := Scalar.addi v158 c1_i32_142
  let v276 : BitVec 32 := Scalar.select v274 v275 v158
  let c1_i32_203 : BitVec 32 := 1#32
  let v395 : BitVec 32 := Scalar.addi v276 c1_i32_203
  let c1_i32_204 : BitVec 32 := 1#32
  let v396 : BitVec 32 := Scalar.addi v279 c1_i32_204
  let v397 : BitVec 32 := Scalar.select v392 v395 v396
  let c15_i32_261 : BitVec 32 := 15#32
  let v510 : BitVec 1 := Scalar.cmpi .eq v397 c15_i32_261
  let c1_i32_202 : BitVec 32 := 1#32
  let v393 : BitVec 32 := Scalar.addi v276 c1_i32_202
  let v394 : BitVec 32 := Scalar.select v392 v393 v276
  let c1_i32_263 : BitVec 32 := 1#32
  let v513 : BitVec 32 := Scalar.addi v394 c1_i32_263
  let c1_i32_264 : BitVec 32 := 1#32
  let v514 : BitVec 32 := Scalar.addi v397 c1_i32_264
  let v515 : BitVec 32 := Scalar.select v510 v513 v514
  let c15_i32_321 : BitVec 32 := 15#32
  let v628 : BitVec 1 := Scalar.cmpi .eq v515 c15_i32_321
  let c1_i32_262 : BitVec 32 := 1#32
  let v511 : BitVec 32 := Scalar.addi v394 c1_i32_262
  let v512 : BitVec 32 := Scalar.select v510 v511 v394
  let c1_i32_323 : BitVec 32 := 1#32
  let v631 : BitVec 32 := Scalar.addi v512 c1_i32_323
  let c1_i32_324 : BitVec 32 := 1#32
  let v632 : BitVec 32 := Scalar.addi v515 c1_i32_324
  let v633 : BitVec 32 := Scalar.select v628 v631 v632
  let c512_i32_393 : BitVec 32 := 512#32
  let v766 : BitVec 32 := Scalar.muli v633 c512_i32_393
  v766
def k0_off57 (arg18 : BitVec 32) (arg19 : BitVec 32) : Fin 3 → Nat :=
  let c0_394 : Index := 0#32
  let c0_395 : Index := 0#32
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c15_i32_141 : BitVec 32 := 15#32
  let v274 : BitVec 1 := Scalar.cmpi .eq v161 c15_i32_141
  let c1_i32_82 : BitVec 32 := 1#32
  let v157 : BitVec 32 := Scalar.addi v40 c1_i32_82
  let v158 : BitVec 32 := Scalar.select v156 v157 v40
  let c1_i32_143 : BitVec 32 := 1#32
  let v277 : BitVec 32 := Scalar.addi v158 c1_i32_143
  let c1_i32_144 : BitVec 32 := 1#32
  let v278 : BitVec 32 := Scalar.addi v161 c1_i32_144
  let v279 : BitVec 32 := Scalar.select v274 v277 v278
  let c15_i32_201 : BitVec 32 := 15#32
  let v392 : BitVec 1 := Scalar.cmpi .eq v279 c15_i32_201
  let c1_i32_142 : BitVec 32 := 1#32
  let v275 : BitVec 32 := Scalar.addi v158 c1_i32_142
  let v276 : BitVec 32 := Scalar.select v274 v275 v158
  let c1_i32_203 : BitVec 32 := 1#32
  let v395 : BitVec 32 := Scalar.addi v276 c1_i32_203
  let c1_i32_204 : BitVec 32 := 1#32
  let v396 : BitVec 32 := Scalar.addi v279 c1_i32_204
  let v397 : BitVec 32 := Scalar.select v392 v395 v396
  let c15_i32_261 : BitVec 32 := 15#32
  let v510 : BitVec 1 := Scalar.cmpi .eq v397 c15_i32_261
  let c1_i32_202 : BitVec 32 := 1#32
  let v393 : BitVec 32 := Scalar.addi v276 c1_i32_202
  let v394 : BitVec 32 := Scalar.select v392 v393 v276
  let c1_i32_263 : BitVec 32 := 1#32
  let v513 : BitVec 32 := Scalar.addi v394 c1_i32_263
  let c1_i32_264 : BitVec 32 := 1#32
  let v514 : BitVec 32 := Scalar.addi v397 c1_i32_264
  let v515 : BitVec 32 := Scalar.select v510 v513 v514
  let c15_i32_321 : BitVec 32 := 15#32
  let v628 : BitVec 1 := Scalar.cmpi .eq v515 c15_i32_321
  let c1_i32_262 : BitVec 32 := 1#32
  let v511 : BitVec 32 := Scalar.addi v394 c1_i32_262
  let v512 : BitVec 32 := Scalar.select v510 v511 v394
  let c1_i32_323 : BitVec 32 := 1#32
  let v631 : BitVec 32 := Scalar.addi v512 c1_i32_323
  let c1_i32_324 : BitVec 32 := 1#32
  let v632 : BitVec 32 := Scalar.addi v515 c1_i32_324
  let v633 : BitVec 32 := Scalar.select v628 v631 v632
  let c512_i32_393 : BitVec 32 := 512#32
  let v766 : BitVec 32 := Scalar.muli v633 c512_i32_393
  let v767 : BitVec 32 := v766
  let v768 : Index := Scalar.indexCast v767
  ![0, 0, v768.toNat]
def k0_mult79 (arg18 : BitVec 32) (arg19 : BitVec 32) : BitVec 32 :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c15_i32_141 : BitVec 32 := 15#32
  let v274 : BitVec 1 := Scalar.cmpi .eq v161 c15_i32_141
  let c1_i32_82 : BitVec 32 := 1#32
  let v157 : BitVec 32 := Scalar.addi v40 c1_i32_82
  let v158 : BitVec 32 := Scalar.select v156 v157 v40
  let c1_i32_143 : BitVec 32 := 1#32
  let v277 : BitVec 32 := Scalar.addi v158 c1_i32_143
  let c1_i32_144 : BitVec 32 := 1#32
  let v278 : BitVec 32 := Scalar.addi v161 c1_i32_144
  let v279 : BitVec 32 := Scalar.select v274 v277 v278
  let c15_i32_201 : BitVec 32 := 15#32
  let v392 : BitVec 1 := Scalar.cmpi .eq v279 c15_i32_201
  let c1_i32_142 : BitVec 32 := 1#32
  let v275 : BitVec 32 := Scalar.addi v158 c1_i32_142
  let v276 : BitVec 32 := Scalar.select v274 v275 v158
  let c1_i32_203 : BitVec 32 := 1#32
  let v395 : BitVec 32 := Scalar.addi v276 c1_i32_203
  let c1_i32_204 : BitVec 32 := 1#32
  let v396 : BitVec 32 := Scalar.addi v279 c1_i32_204
  let v397 : BitVec 32 := Scalar.select v392 v395 v396
  let c15_i32_261 : BitVec 32 := 15#32
  let v510 : BitVec 1 := Scalar.cmpi .eq v397 c15_i32_261
  let c1_i32_202 : BitVec 32 := 1#32
  let v393 : BitVec 32 := Scalar.addi v276 c1_i32_202
  let v394 : BitVec 32 := Scalar.select v392 v393 v276
  let c1_i32_263 : BitVec 32 := 1#32
  let v513 : BitVec 32 := Scalar.addi v394 c1_i32_263
  let c1_i32_264 : BitVec 32 := 1#32
  let v514 : BitVec 32 := Scalar.addi v397 c1_i32_264
  let v515 : BitVec 32 := Scalar.select v510 v513 v514
  let c15_i32_321 : BitVec 32 := 15#32
  let v628 : BitVec 1 := Scalar.cmpi .eq v515 c15_i32_321
  let c1_i32_262 : BitVec 32 := 1#32
  let v511 : BitVec 32 := Scalar.addi v394 c1_i32_262
  let v512 : BitVec 32 := Scalar.select v510 v511 v394
  let c1_i32_323 : BitVec 32 := 1#32
  let v631 : BitVec 32 := Scalar.addi v512 c1_i32_323
  let c1_i32_324 : BitVec 32 := 1#32
  let v632 : BitVec 32 := Scalar.addi v515 c1_i32_324
  let v633 : BitVec 32 := Scalar.select v628 v631 v632
  let c512_i32_399 : BitVec 32 := 512#32
  let v774 : BitVec 32 := Scalar.muli v633 c512_i32_399
  v774
def k0_mult80 (arg18 : BitVec 32) (arg19 : BitVec 32) : BitVec 32 :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c15_i32_141 : BitVec 32 := 15#32
  let v274 : BitVec 1 := Scalar.cmpi .eq v161 c15_i32_141
  let c1_i32_82 : BitVec 32 := 1#32
  let v157 : BitVec 32 := Scalar.addi v40 c1_i32_82
  let v158 : BitVec 32 := Scalar.select v156 v157 v40
  let c1_i32_143 : BitVec 32 := 1#32
  let v277 : BitVec 32 := Scalar.addi v158 c1_i32_143
  let c1_i32_144 : BitVec 32 := 1#32
  let v278 : BitVec 32 := Scalar.addi v161 c1_i32_144
  let v279 : BitVec 32 := Scalar.select v274 v277 v278
  let c15_i32_201 : BitVec 32 := 15#32
  let v392 : BitVec 1 := Scalar.cmpi .eq v279 c15_i32_201
  let c1_i32_142 : BitVec 32 := 1#32
  let v275 : BitVec 32 := Scalar.addi v158 c1_i32_142
  let v276 : BitVec 32 := Scalar.select v274 v275 v158
  let c1_i32_203 : BitVec 32 := 1#32
  let v395 : BitVec 32 := Scalar.addi v276 c1_i32_203
  let c1_i32_204 : BitVec 32 := 1#32
  let v396 : BitVec 32 := Scalar.addi v279 c1_i32_204
  let v397 : BitVec 32 := Scalar.select v392 v395 v396
  let c15_i32_261 : BitVec 32 := 15#32
  let v510 : BitVec 1 := Scalar.cmpi .eq v397 c15_i32_261
  let c1_i32_202 : BitVec 32 := 1#32
  let v393 : BitVec 32 := Scalar.addi v276 c1_i32_202
  let v394 : BitVec 32 := Scalar.select v392 v393 v276
  let c1_i32_263 : BitVec 32 := 1#32
  let v513 : BitVec 32 := Scalar.addi v394 c1_i32_263
  let c1_i32_264 : BitVec 32 := 1#32
  let v514 : BitVec 32 := Scalar.addi v397 c1_i32_264
  let v515 : BitVec 32 := Scalar.select v510 v513 v514
  let c15_i32_321 : BitVec 32 := 15#32
  let v628 : BitVec 1 := Scalar.cmpi .eq v515 c15_i32_321
  let c1_i32_262 : BitVec 32 := 1#32
  let v511 : BitVec 32 := Scalar.addi v394 c1_i32_262
  let v512 : BitVec 32 := Scalar.select v510 v511 v394
  let c1_i32_323 : BitVec 32 := 1#32
  let v631 : BitVec 32 := Scalar.addi v512 c1_i32_323
  let c1_i32_324 : BitVec 32 := 1#32
  let v632 : BitVec 32 := Scalar.addi v515 c1_i32_324
  let v633 : BitVec 32 := Scalar.select v628 v631 v632
  let c512_i32_405 : BitVec 32 := 512#32
  let v786 : BitVec 32 := Scalar.muli v633 c512_i32_405
  v786
def k0_off58 (arg18 : BitVec 32) (arg19 : BitVec 32) : Fin 2 → Nat :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c15_i32_141 : BitVec 32 := 15#32
  let v274 : BitVec 1 := Scalar.cmpi .eq v161 c15_i32_141
  let c1_i32_82 : BitVec 32 := 1#32
  let v157 : BitVec 32 := Scalar.addi v40 c1_i32_82
  let v158 : BitVec 32 := Scalar.select v156 v157 v40
  let c1_i32_143 : BitVec 32 := 1#32
  let v277 : BitVec 32 := Scalar.addi v158 c1_i32_143
  let c1_i32_144 : BitVec 32 := 1#32
  let v278 : BitVec 32 := Scalar.addi v161 c1_i32_144
  let v279 : BitVec 32 := Scalar.select v274 v277 v278
  let c15_i32_201 : BitVec 32 := 15#32
  let v392 : BitVec 1 := Scalar.cmpi .eq v279 c15_i32_201
  let c1_i32_142 : BitVec 32 := 1#32
  let v275 : BitVec 32 := Scalar.addi v158 c1_i32_142
  let v276 : BitVec 32 := Scalar.select v274 v275 v158
  let c1_i32_203 : BitVec 32 := 1#32
  let v395 : BitVec 32 := Scalar.addi v276 c1_i32_203
  let c1_i32_204 : BitVec 32 := 1#32
  let v396 : BitVec 32 := Scalar.addi v279 c1_i32_204
  let v397 : BitVec 32 := Scalar.select v392 v395 v396
  let c15_i32_261 : BitVec 32 := 15#32
  let v510 : BitVec 1 := Scalar.cmpi .eq v397 c15_i32_261
  let c1_i32_202 : BitVec 32 := 1#32
  let v393 : BitVec 32 := Scalar.addi v276 c1_i32_202
  let v394 : BitVec 32 := Scalar.select v392 v393 v276
  let c1_i32_263 : BitVec 32 := 1#32
  let v513 : BitVec 32 := Scalar.addi v394 c1_i32_263
  let c1_i32_264 : BitVec 32 := 1#32
  let v514 : BitVec 32 := Scalar.addi v397 c1_i32_264
  let v515 : BitVec 32 := Scalar.select v510 v513 v514
  let c15_i32_321 : BitVec 32 := 15#32
  let v628 : BitVec 1 := Scalar.cmpi .eq v515 c15_i32_321
  let c1_i32_262 : BitVec 32 := 1#32
  let v511 : BitVec 32 := Scalar.addi v394 c1_i32_262
  let v512 : BitVec 32 := Scalar.select v510 v511 v394
  let c1_i32_323 : BitVec 32 := 1#32
  let v631 : BitVec 32 := Scalar.addi v512 c1_i32_323
  let c1_i32_324 : BitVec 32 := 1#32
  let v632 : BitVec 32 := Scalar.addi v515 c1_i32_324
  let v633 : BitVec 32 := Scalar.select v628 v631 v632
  let c512_i32_405 : BitVec 32 := 512#32
  let v786 : BitVec 32 := Scalar.muli v633 c512_i32_405
  let v787 : BitVec 32 := v786
  let v788 : Index := Scalar.indexCast v787
  let c0_406 : Index := 0#32
  ![v788.toNat, 0]
def k0_mult81 (arg18 : BitVec 32) (arg19 : BitVec 32) : BitVec 32 :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c15_i32_141 : BitVec 32 := 15#32
  let v274 : BitVec 1 := Scalar.cmpi .eq v161 c15_i32_141
  let c1_i32_82 : BitVec 32 := 1#32
  let v157 : BitVec 32 := Scalar.addi v40 c1_i32_82
  let v158 : BitVec 32 := Scalar.select v156 v157 v40
  let c1_i32_143 : BitVec 32 := 1#32
  let v277 : BitVec 32 := Scalar.addi v158 c1_i32_143
  let c1_i32_144 : BitVec 32 := 1#32
  let v278 : BitVec 32 := Scalar.addi v161 c1_i32_144
  let v279 : BitVec 32 := Scalar.select v274 v277 v278
  let c15_i32_201 : BitVec 32 := 15#32
  let v392 : BitVec 1 := Scalar.cmpi .eq v279 c15_i32_201
  let c1_i32_142 : BitVec 32 := 1#32
  let v275 : BitVec 32 := Scalar.addi v158 c1_i32_142
  let v276 : BitVec 32 := Scalar.select v274 v275 v158
  let c1_i32_203 : BitVec 32 := 1#32
  let v395 : BitVec 32 := Scalar.addi v276 c1_i32_203
  let c1_i32_204 : BitVec 32 := 1#32
  let v396 : BitVec 32 := Scalar.addi v279 c1_i32_204
  let v397 : BitVec 32 := Scalar.select v392 v395 v396
  let c15_i32_261 : BitVec 32 := 15#32
  let v510 : BitVec 1 := Scalar.cmpi .eq v397 c15_i32_261
  let c1_i32_202 : BitVec 32 := 1#32
  let v393 : BitVec 32 := Scalar.addi v276 c1_i32_202
  let v394 : BitVec 32 := Scalar.select v392 v393 v276
  let c1_i32_263 : BitVec 32 := 1#32
  let v513 : BitVec 32 := Scalar.addi v394 c1_i32_263
  let c1_i32_264 : BitVec 32 := 1#32
  let v514 : BitVec 32 := Scalar.addi v397 c1_i32_264
  let v515 : BitVec 32 := Scalar.select v510 v513 v514
  let c15_i32_321 : BitVec 32 := 15#32
  let v628 : BitVec 1 := Scalar.cmpi .eq v515 c15_i32_321
  let c1_i32_262 : BitVec 32 := 1#32
  let v511 : BitVec 32 := Scalar.addi v394 c1_i32_262
  let v512 : BitVec 32 := Scalar.select v510 v511 v394
  let c1_i32_323 : BitVec 32 := 1#32
  let v631 : BitVec 32 := Scalar.addi v512 c1_i32_323
  let c1_i32_324 : BitVec 32 := 1#32
  let v632 : BitVec 32 := Scalar.addi v515 c1_i32_324
  let v633 : BitVec 32 := Scalar.select v628 v631 v632
  let c512_i32_408 : BitVec 32 := 512#32
  let v793 : BitVec 32 := Scalar.muli v633 c512_i32_408
  v793
def k0_mult82 (arg18 : BitVec 32) (arg19 : BitVec 32) : BitVec 32 :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c15_i32_141 : BitVec 32 := 15#32
  let v274 : BitVec 1 := Scalar.cmpi .eq v161 c15_i32_141
  let c1_i32_82 : BitVec 32 := 1#32
  let v157 : BitVec 32 := Scalar.addi v40 c1_i32_82
  let v158 : BitVec 32 := Scalar.select v156 v157 v40
  let c1_i32_143 : BitVec 32 := 1#32
  let v277 : BitVec 32 := Scalar.addi v158 c1_i32_143
  let c1_i32_144 : BitVec 32 := 1#32
  let v278 : BitVec 32 := Scalar.addi v161 c1_i32_144
  let v279 : BitVec 32 := Scalar.select v274 v277 v278
  let c15_i32_201 : BitVec 32 := 15#32
  let v392 : BitVec 1 := Scalar.cmpi .eq v279 c15_i32_201
  let c1_i32_142 : BitVec 32 := 1#32
  let v275 : BitVec 32 := Scalar.addi v158 c1_i32_142
  let v276 : BitVec 32 := Scalar.select v274 v275 v158
  let c1_i32_203 : BitVec 32 := 1#32
  let v395 : BitVec 32 := Scalar.addi v276 c1_i32_203
  let c1_i32_204 : BitVec 32 := 1#32
  let v396 : BitVec 32 := Scalar.addi v279 c1_i32_204
  let v397 : BitVec 32 := Scalar.select v392 v395 v396
  let c15_i32_261 : BitVec 32 := 15#32
  let v510 : BitVec 1 := Scalar.cmpi .eq v397 c15_i32_261
  let c1_i32_202 : BitVec 32 := 1#32
  let v393 : BitVec 32 := Scalar.addi v276 c1_i32_202
  let v394 : BitVec 32 := Scalar.select v392 v393 v276
  let c1_i32_263 : BitVec 32 := 1#32
  let v513 : BitVec 32 := Scalar.addi v394 c1_i32_263
  let c1_i32_264 : BitVec 32 := 1#32
  let v514 : BitVec 32 := Scalar.addi v397 c1_i32_264
  let v515 : BitVec 32 := Scalar.select v510 v513 v514
  let c15_i32_321 : BitVec 32 := 15#32
  let v628 : BitVec 1 := Scalar.cmpi .eq v515 c15_i32_321
  let c1_i32_262 : BitVec 32 := 1#32
  let v511 : BitVec 32 := Scalar.addi v394 c1_i32_262
  let v512 : BitVec 32 := Scalar.select v510 v511 v394
  let c1_i32_322 : BitVec 32 := 1#32
  let v629 : BitVec 32 := Scalar.addi v512 c1_i32_322
  let v630 : BitVec 32 := Scalar.select v628 v629 v512
  let c512_i32_410 : BitVec 32 := 512#32
  let v797 : BitVec 32 := Scalar.muli v630 c512_i32_410
  v797
def k0_off59 (arg18 : BitVec 32) (arg19 : BitVec 32) : Fin 2 → Nat :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c15_i32_141 : BitVec 32 := 15#32
  let v274 : BitVec 1 := Scalar.cmpi .eq v161 c15_i32_141
  let c1_i32_82 : BitVec 32 := 1#32
  let v157 : BitVec 32 := Scalar.addi v40 c1_i32_82
  let v158 : BitVec 32 := Scalar.select v156 v157 v40
  let c1_i32_143 : BitVec 32 := 1#32
  let v277 : BitVec 32 := Scalar.addi v158 c1_i32_143
  let c1_i32_144 : BitVec 32 := 1#32
  let v278 : BitVec 32 := Scalar.addi v161 c1_i32_144
  let v279 : BitVec 32 := Scalar.select v274 v277 v278
  let c15_i32_201 : BitVec 32 := 15#32
  let v392 : BitVec 1 := Scalar.cmpi .eq v279 c15_i32_201
  let c1_i32_142 : BitVec 32 := 1#32
  let v275 : BitVec 32 := Scalar.addi v158 c1_i32_142
  let v276 : BitVec 32 := Scalar.select v274 v275 v158
  let c1_i32_203 : BitVec 32 := 1#32
  let v395 : BitVec 32 := Scalar.addi v276 c1_i32_203
  let c1_i32_204 : BitVec 32 := 1#32
  let v396 : BitVec 32 := Scalar.addi v279 c1_i32_204
  let v397 : BitVec 32 := Scalar.select v392 v395 v396
  let c15_i32_261 : BitVec 32 := 15#32
  let v510 : BitVec 1 := Scalar.cmpi .eq v397 c15_i32_261
  let c1_i32_202 : BitVec 32 := 1#32
  let v393 : BitVec 32 := Scalar.addi v276 c1_i32_202
  let v394 : BitVec 32 := Scalar.select v392 v393 v276
  let c1_i32_263 : BitVec 32 := 1#32
  let v513 : BitVec 32 := Scalar.addi v394 c1_i32_263
  let c1_i32_264 : BitVec 32 := 1#32
  let v514 : BitVec 32 := Scalar.addi v397 c1_i32_264
  let v515 : BitVec 32 := Scalar.select v510 v513 v514
  let c15_i32_321 : BitVec 32 := 15#32
  let v628 : BitVec 1 := Scalar.cmpi .eq v515 c15_i32_321
  let c1_i32_262 : BitVec 32 := 1#32
  let v511 : BitVec 32 := Scalar.addi v394 c1_i32_262
  let v512 : BitVec 32 := Scalar.select v510 v511 v394
  let c1_i32_322 : BitVec 32 := 1#32
  let v629 : BitVec 32 := Scalar.addi v512 c1_i32_322
  let v630 : BitVec 32 := Scalar.select v628 v629 v512
  let c512_i32_410 : BitVec 32 := 512#32
  let v797 : BitVec 32 := Scalar.muli v630 c512_i32_410
  let v798 : BitVec 32 := v797
  let v799 : Index := Scalar.indexCast v798
  let c0_411 : Index := 0#32
  ![v799.toNat, 0]
def k0_mult83 (arg18 : BitVec 32) (arg19 : BitVec 32) : BitVec 32 :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c15_i32_141 : BitVec 32 := 15#32
  let v274 : BitVec 1 := Scalar.cmpi .eq v161 c15_i32_141
  let c1_i32_82 : BitVec 32 := 1#32
  let v157 : BitVec 32 := Scalar.addi v40 c1_i32_82
  let v158 : BitVec 32 := Scalar.select v156 v157 v40
  let c1_i32_143 : BitVec 32 := 1#32
  let v277 : BitVec 32 := Scalar.addi v158 c1_i32_143
  let c1_i32_144 : BitVec 32 := 1#32
  let v278 : BitVec 32 := Scalar.addi v161 c1_i32_144
  let v279 : BitVec 32 := Scalar.select v274 v277 v278
  let c15_i32_201 : BitVec 32 := 15#32
  let v392 : BitVec 1 := Scalar.cmpi .eq v279 c15_i32_201
  let c1_i32_142 : BitVec 32 := 1#32
  let v275 : BitVec 32 := Scalar.addi v158 c1_i32_142
  let v276 : BitVec 32 := Scalar.select v274 v275 v158
  let c1_i32_203 : BitVec 32 := 1#32
  let v395 : BitVec 32 := Scalar.addi v276 c1_i32_203
  let c1_i32_204 : BitVec 32 := 1#32
  let v396 : BitVec 32 := Scalar.addi v279 c1_i32_204
  let v397 : BitVec 32 := Scalar.select v392 v395 v396
  let c15_i32_261 : BitVec 32 := 15#32
  let v510 : BitVec 1 := Scalar.cmpi .eq v397 c15_i32_261
  let c1_i32_202 : BitVec 32 := 1#32
  let v393 : BitVec 32 := Scalar.addi v276 c1_i32_202
  let v394 : BitVec 32 := Scalar.select v392 v393 v276
  let c1_i32_263 : BitVec 32 := 1#32
  let v513 : BitVec 32 := Scalar.addi v394 c1_i32_263
  let c1_i32_264 : BitVec 32 := 1#32
  let v514 : BitVec 32 := Scalar.addi v397 c1_i32_264
  let v515 : BitVec 32 := Scalar.select v510 v513 v514
  let c15_i32_321 : BitVec 32 := 15#32
  let v628 : BitVec 1 := Scalar.cmpi .eq v515 c15_i32_321
  let c1_i32_262 : BitVec 32 := 1#32
  let v511 : BitVec 32 := Scalar.addi v394 c1_i32_262
  let v512 : BitVec 32 := Scalar.select v510 v511 v394
  let c1_i32_322 : BitVec 32 := 1#32
  let v629 : BitVec 32 := Scalar.addi v512 c1_i32_322
  let v630 : BitVec 32 := Scalar.select v628 v629 v512
  let c512_i32_418 : BitVec 32 := 512#32
  let v815 : BitVec 32 := Scalar.muli v630 c512_i32_418
  v815
def k0_mult84 (arg18 : BitVec 32) (arg19 : BitVec 32) : BitVec 32 :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c15_i32_141 : BitVec 32 := 15#32
  let v274 : BitVec 1 := Scalar.cmpi .eq v161 c15_i32_141
  let c1_i32_82 : BitVec 32 := 1#32
  let v157 : BitVec 32 := Scalar.addi v40 c1_i32_82
  let v158 : BitVec 32 := Scalar.select v156 v157 v40
  let c1_i32_143 : BitVec 32 := 1#32
  let v277 : BitVec 32 := Scalar.addi v158 c1_i32_143
  let c1_i32_144 : BitVec 32 := 1#32
  let v278 : BitVec 32 := Scalar.addi v161 c1_i32_144
  let v279 : BitVec 32 := Scalar.select v274 v277 v278
  let c15_i32_201 : BitVec 32 := 15#32
  let v392 : BitVec 1 := Scalar.cmpi .eq v279 c15_i32_201
  let c1_i32_142 : BitVec 32 := 1#32
  let v275 : BitVec 32 := Scalar.addi v158 c1_i32_142
  let v276 : BitVec 32 := Scalar.select v274 v275 v158
  let c1_i32_203 : BitVec 32 := 1#32
  let v395 : BitVec 32 := Scalar.addi v276 c1_i32_203
  let c1_i32_204 : BitVec 32 := 1#32
  let v396 : BitVec 32 := Scalar.addi v279 c1_i32_204
  let v397 : BitVec 32 := Scalar.select v392 v395 v396
  let c15_i32_261 : BitVec 32 := 15#32
  let v510 : BitVec 1 := Scalar.cmpi .eq v397 c15_i32_261
  let c1_i32_202 : BitVec 32 := 1#32
  let v393 : BitVec 32 := Scalar.addi v276 c1_i32_202
  let v394 : BitVec 32 := Scalar.select v392 v393 v276
  let c1_i32_263 : BitVec 32 := 1#32
  let v513 : BitVec 32 := Scalar.addi v394 c1_i32_263
  let c1_i32_264 : BitVec 32 := 1#32
  let v514 : BitVec 32 := Scalar.addi v397 c1_i32_264
  let v515 : BitVec 32 := Scalar.select v510 v513 v514
  let c15_i32_321 : BitVec 32 := 15#32
  let v628 : BitVec 1 := Scalar.cmpi .eq v515 c15_i32_321
  let c1_i32_262 : BitVec 32 := 1#32
  let v511 : BitVec 32 := Scalar.addi v394 c1_i32_262
  let v512 : BitVec 32 := Scalar.select v510 v511 v394
  let c1_i32_322 : BitVec 32 := 1#32
  let v629 : BitVec 32 := Scalar.addi v512 c1_i32_322
  let v630 : BitVec 32 := Scalar.select v628 v629 v512
  let c512_i32_420 : BitVec 32 := 512#32
  let v821 : BitVec 32 := Scalar.muli v630 c512_i32_420
  v821
def k0_off60 (arg18 : BitVec 32) (arg19 : BitVec 32) : Fin 2 → Nat :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c15_i32_141 : BitVec 32 := 15#32
  let v274 : BitVec 1 := Scalar.cmpi .eq v161 c15_i32_141
  let c1_i32_82 : BitVec 32 := 1#32
  let v157 : BitVec 32 := Scalar.addi v40 c1_i32_82
  let v158 : BitVec 32 := Scalar.select v156 v157 v40
  let c1_i32_143 : BitVec 32 := 1#32
  let v277 : BitVec 32 := Scalar.addi v158 c1_i32_143
  let c1_i32_144 : BitVec 32 := 1#32
  let v278 : BitVec 32 := Scalar.addi v161 c1_i32_144
  let v279 : BitVec 32 := Scalar.select v274 v277 v278
  let c15_i32_201 : BitVec 32 := 15#32
  let v392 : BitVec 1 := Scalar.cmpi .eq v279 c15_i32_201
  let c1_i32_142 : BitVec 32 := 1#32
  let v275 : BitVec 32 := Scalar.addi v158 c1_i32_142
  let v276 : BitVec 32 := Scalar.select v274 v275 v158
  let c1_i32_203 : BitVec 32 := 1#32
  let v395 : BitVec 32 := Scalar.addi v276 c1_i32_203
  let c1_i32_204 : BitVec 32 := 1#32
  let v396 : BitVec 32 := Scalar.addi v279 c1_i32_204
  let v397 : BitVec 32 := Scalar.select v392 v395 v396
  let c15_i32_261 : BitVec 32 := 15#32
  let v510 : BitVec 1 := Scalar.cmpi .eq v397 c15_i32_261
  let c1_i32_202 : BitVec 32 := 1#32
  let v393 : BitVec 32 := Scalar.addi v276 c1_i32_202
  let v394 : BitVec 32 := Scalar.select v392 v393 v276
  let c1_i32_263 : BitVec 32 := 1#32
  let v513 : BitVec 32 := Scalar.addi v394 c1_i32_263
  let c1_i32_264 : BitVec 32 := 1#32
  let v514 : BitVec 32 := Scalar.addi v397 c1_i32_264
  let v515 : BitVec 32 := Scalar.select v510 v513 v514
  let c15_i32_321 : BitVec 32 := 15#32
  let v628 : BitVec 1 := Scalar.cmpi .eq v515 c15_i32_321
  let c1_i32_262 : BitVec 32 := 1#32
  let v511 : BitVec 32 := Scalar.addi v394 c1_i32_262
  let v512 : BitVec 32 := Scalar.select v510 v511 v394
  let c1_i32_322 : BitVec 32 := 1#32
  let v629 : BitVec 32 := Scalar.addi v512 c1_i32_322
  let v630 : BitVec 32 := Scalar.select v628 v629 v512
  let c512_i32_420 : BitVec 32 := 512#32
  let v821 : BitVec 32 := Scalar.muli v630 c512_i32_420
  let v822 : BitVec 32 := v821
  let v823 : Index := Scalar.indexCast v822
  let c0_421 : Index := 0#32
  ![v823.toNat, 0]
def k0_mult85 (arg18 : BitVec 32) (arg19 : BitVec 32) : BitVec 32 :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c15_i32_141 : BitVec 32 := 15#32
  let v274 : BitVec 1 := Scalar.cmpi .eq v161 c15_i32_141
  let c1_i32_82 : BitVec 32 := 1#32
  let v157 : BitVec 32 := Scalar.addi v40 c1_i32_82
  let v158 : BitVec 32 := Scalar.select v156 v157 v40
  let c1_i32_143 : BitVec 32 := 1#32
  let v277 : BitVec 32 := Scalar.addi v158 c1_i32_143
  let c1_i32_144 : BitVec 32 := 1#32
  let v278 : BitVec 32 := Scalar.addi v161 c1_i32_144
  let v279 : BitVec 32 := Scalar.select v274 v277 v278
  let c15_i32_201 : BitVec 32 := 15#32
  let v392 : BitVec 1 := Scalar.cmpi .eq v279 c15_i32_201
  let c1_i32_142 : BitVec 32 := 1#32
  let v275 : BitVec 32 := Scalar.addi v158 c1_i32_142
  let v276 : BitVec 32 := Scalar.select v274 v275 v158
  let c1_i32_203 : BitVec 32 := 1#32
  let v395 : BitVec 32 := Scalar.addi v276 c1_i32_203
  let c1_i32_204 : BitVec 32 := 1#32
  let v396 : BitVec 32 := Scalar.addi v279 c1_i32_204
  let v397 : BitVec 32 := Scalar.select v392 v395 v396
  let c15_i32_261 : BitVec 32 := 15#32
  let v510 : BitVec 1 := Scalar.cmpi .eq v397 c15_i32_261
  let c1_i32_202 : BitVec 32 := 1#32
  let v393 : BitVec 32 := Scalar.addi v276 c1_i32_202
  let v394 : BitVec 32 := Scalar.select v392 v393 v276
  let c1_i32_263 : BitVec 32 := 1#32
  let v513 : BitVec 32 := Scalar.addi v394 c1_i32_263
  let c1_i32_264 : BitVec 32 := 1#32
  let v514 : BitVec 32 := Scalar.addi v397 c1_i32_264
  let v515 : BitVec 32 := Scalar.select v510 v513 v514
  let c15_i32_321 : BitVec 32 := 15#32
  let v628 : BitVec 1 := Scalar.cmpi .eq v515 c15_i32_321
  let c1_i32_262 : BitVec 32 := 1#32
  let v511 : BitVec 32 := Scalar.addi v394 c1_i32_262
  let v512 : BitVec 32 := Scalar.select v510 v511 v394
  let c1_i32_323 : BitVec 32 := 1#32
  let v631 : BitVec 32 := Scalar.addi v512 c1_i32_323
  let c1_i32_324 : BitVec 32 := 1#32
  let v632 : BitVec 32 := Scalar.addi v515 c1_i32_324
  let v633 : BitVec 32 := Scalar.select v628 v631 v632
  let c15_i32_381 : BitVec 32 := 15#32
  let v746 : BitVec 1 := Scalar.cmpi .eq v633 c15_i32_381
  let c1_i32_322 : BitVec 32 := 1#32
  let v629 : BitVec 32 := Scalar.addi v512 c1_i32_322
  let v630 : BitVec 32 := Scalar.select v628 v629 v512
  let c1_i32_382 : BitVec 32 := 1#32
  let v747 : BitVec 32 := Scalar.addi v630 c1_i32_382
  let v748 : BitVec 32 := Scalar.select v746 v747 v630
  let c15_i32_422 : BitVec 32 := 15#32
  let v825 : BitVec 32 := Scalar.minsi v748 c15_i32_422
  let c512_i32_424 : BitVec 32 := 512#32
  let v827 : BitVec 32 := Scalar.muli v825 c512_i32_424
  v827
def k0_off61 (arg18 : BitVec 32) (arg19 : BitVec 32) : Fin 2 → Nat :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c15_i32_141 : BitVec 32 := 15#32
  let v274 : BitVec 1 := Scalar.cmpi .eq v161 c15_i32_141
  let c1_i32_82 : BitVec 32 := 1#32
  let v157 : BitVec 32 := Scalar.addi v40 c1_i32_82
  let v158 : BitVec 32 := Scalar.select v156 v157 v40
  let c1_i32_143 : BitVec 32 := 1#32
  let v277 : BitVec 32 := Scalar.addi v158 c1_i32_143
  let c1_i32_144 : BitVec 32 := 1#32
  let v278 : BitVec 32 := Scalar.addi v161 c1_i32_144
  let v279 : BitVec 32 := Scalar.select v274 v277 v278
  let c15_i32_201 : BitVec 32 := 15#32
  let v392 : BitVec 1 := Scalar.cmpi .eq v279 c15_i32_201
  let c1_i32_142 : BitVec 32 := 1#32
  let v275 : BitVec 32 := Scalar.addi v158 c1_i32_142
  let v276 : BitVec 32 := Scalar.select v274 v275 v158
  let c1_i32_203 : BitVec 32 := 1#32
  let v395 : BitVec 32 := Scalar.addi v276 c1_i32_203
  let c1_i32_204 : BitVec 32 := 1#32
  let v396 : BitVec 32 := Scalar.addi v279 c1_i32_204
  let v397 : BitVec 32 := Scalar.select v392 v395 v396
  let c15_i32_261 : BitVec 32 := 15#32
  let v510 : BitVec 1 := Scalar.cmpi .eq v397 c15_i32_261
  let c1_i32_202 : BitVec 32 := 1#32
  let v393 : BitVec 32 := Scalar.addi v276 c1_i32_202
  let v394 : BitVec 32 := Scalar.select v392 v393 v276
  let c1_i32_263 : BitVec 32 := 1#32
  let v513 : BitVec 32 := Scalar.addi v394 c1_i32_263
  let c1_i32_264 : BitVec 32 := 1#32
  let v514 : BitVec 32 := Scalar.addi v397 c1_i32_264
  let v515 : BitVec 32 := Scalar.select v510 v513 v514
  let c15_i32_321 : BitVec 32 := 15#32
  let v628 : BitVec 1 := Scalar.cmpi .eq v515 c15_i32_321
  let c1_i32_262 : BitVec 32 := 1#32
  let v511 : BitVec 32 := Scalar.addi v394 c1_i32_262
  let v512 : BitVec 32 := Scalar.select v510 v511 v394
  let c1_i32_323 : BitVec 32 := 1#32
  let v631 : BitVec 32 := Scalar.addi v512 c1_i32_323
  let c1_i32_324 : BitVec 32 := 1#32
  let v632 : BitVec 32 := Scalar.addi v515 c1_i32_324
  let v633 : BitVec 32 := Scalar.select v628 v631 v632
  let c15_i32_381 : BitVec 32 := 15#32
  let v746 : BitVec 1 := Scalar.cmpi .eq v633 c15_i32_381
  let c1_i32_322 : BitVec 32 := 1#32
  let v629 : BitVec 32 := Scalar.addi v512 c1_i32_322
  let v630 : BitVec 32 := Scalar.select v628 v629 v512
  let c1_i32_382 : BitVec 32 := 1#32
  let v747 : BitVec 32 := Scalar.addi v630 c1_i32_382
  let v748 : BitVec 32 := Scalar.select v746 v747 v630
  let c15_i32_422 : BitVec 32 := 15#32
  let v825 : BitVec 32 := Scalar.minsi v748 c15_i32_422
  let c512_i32_424 : BitVec 32 := 512#32
  let v827 : BitVec 32 := Scalar.muli v825 c512_i32_424
  let v828 : BitVec 32 := v827
  let v829 : Index := Scalar.indexCast v828
  let c0_425 : Index := 0#32
  ![v829.toNat, 0]
def k0_mult86 (arg18 : BitVec 32) (arg19 : BitVec 32) : BitVec 32 :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c15_i32_141 : BitVec 32 := 15#32
  let v274 : BitVec 1 := Scalar.cmpi .eq v161 c15_i32_141
  let c1_i32_82 : BitVec 32 := 1#32
  let v157 : BitVec 32 := Scalar.addi v40 c1_i32_82
  let v158 : BitVec 32 := Scalar.select v156 v157 v40
  let c1_i32_143 : BitVec 32 := 1#32
  let v277 : BitVec 32 := Scalar.addi v158 c1_i32_143
  let c1_i32_144 : BitVec 32 := 1#32
  let v278 : BitVec 32 := Scalar.addi v161 c1_i32_144
  let v279 : BitVec 32 := Scalar.select v274 v277 v278
  let c15_i32_201 : BitVec 32 := 15#32
  let v392 : BitVec 1 := Scalar.cmpi .eq v279 c15_i32_201
  let c1_i32_142 : BitVec 32 := 1#32
  let v275 : BitVec 32 := Scalar.addi v158 c1_i32_142
  let v276 : BitVec 32 := Scalar.select v274 v275 v158
  let c1_i32_203 : BitVec 32 := 1#32
  let v395 : BitVec 32 := Scalar.addi v276 c1_i32_203
  let c1_i32_204 : BitVec 32 := 1#32
  let v396 : BitVec 32 := Scalar.addi v279 c1_i32_204
  let v397 : BitVec 32 := Scalar.select v392 v395 v396
  let c15_i32_261 : BitVec 32 := 15#32
  let v510 : BitVec 1 := Scalar.cmpi .eq v397 c15_i32_261
  let c1_i32_202 : BitVec 32 := 1#32
  let v393 : BitVec 32 := Scalar.addi v276 c1_i32_202
  let v394 : BitVec 32 := Scalar.select v392 v393 v276
  let c1_i32_263 : BitVec 32 := 1#32
  let v513 : BitVec 32 := Scalar.addi v394 c1_i32_263
  let c1_i32_264 : BitVec 32 := 1#32
  let v514 : BitVec 32 := Scalar.addi v397 c1_i32_264
  let v515 : BitVec 32 := Scalar.select v510 v513 v514
  let c15_i32_321 : BitVec 32 := 15#32
  let v628 : BitVec 1 := Scalar.cmpi .eq v515 c15_i32_321
  let c1_i32_262 : BitVec 32 := 1#32
  let v511 : BitVec 32 := Scalar.addi v394 c1_i32_262
  let v512 : BitVec 32 := Scalar.select v510 v511 v394
  let c1_i32_323 : BitVec 32 := 1#32
  let v631 : BitVec 32 := Scalar.addi v512 c1_i32_323
  let c1_i32_324 : BitVec 32 := 1#32
  let v632 : BitVec 32 := Scalar.addi v515 c1_i32_324
  let v633 : BitVec 32 := Scalar.select v628 v631 v632
  let c15_i32_381 : BitVec 32 := 15#32
  let v746 : BitVec 1 := Scalar.cmpi .eq v633 c15_i32_381
  let c1_i32_322 : BitVec 32 := 1#32
  let v629 : BitVec 32 := Scalar.addi v512 c1_i32_322
  let v630 : BitVec 32 := Scalar.select v628 v629 v512
  let c1_i32_383 : BitVec 32 := 1#32
  let v749 : BitVec 32 := Scalar.addi v630 c1_i32_383
  let c1_i32_384 : BitVec 32 := 1#32
  let v750 : BitVec 32 := Scalar.addi v633 c1_i32_384
  let v751 : BitVec 32 := Scalar.select v746 v749 v750
  let c15_i32_423 : BitVec 32 := 15#32
  let v826 : BitVec 32 := Scalar.minsi v751 c15_i32_423
  let c512_i32_426 : BitVec 32 := 512#32
  let v832 : BitVec 32 := Scalar.muli v826 c512_i32_426
  v832
def k0_off62 (arg18 : BitVec 32) (arg19 : BitVec 32) : Fin 2 → Nat :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c15_i32_141 : BitVec 32 := 15#32
  let v274 : BitVec 1 := Scalar.cmpi .eq v161 c15_i32_141
  let c1_i32_82 : BitVec 32 := 1#32
  let v157 : BitVec 32 := Scalar.addi v40 c1_i32_82
  let v158 : BitVec 32 := Scalar.select v156 v157 v40
  let c1_i32_143 : BitVec 32 := 1#32
  let v277 : BitVec 32 := Scalar.addi v158 c1_i32_143
  let c1_i32_144 : BitVec 32 := 1#32
  let v278 : BitVec 32 := Scalar.addi v161 c1_i32_144
  let v279 : BitVec 32 := Scalar.select v274 v277 v278
  let c15_i32_201 : BitVec 32 := 15#32
  let v392 : BitVec 1 := Scalar.cmpi .eq v279 c15_i32_201
  let c1_i32_142 : BitVec 32 := 1#32
  let v275 : BitVec 32 := Scalar.addi v158 c1_i32_142
  let v276 : BitVec 32 := Scalar.select v274 v275 v158
  let c1_i32_203 : BitVec 32 := 1#32
  let v395 : BitVec 32 := Scalar.addi v276 c1_i32_203
  let c1_i32_204 : BitVec 32 := 1#32
  let v396 : BitVec 32 := Scalar.addi v279 c1_i32_204
  let v397 : BitVec 32 := Scalar.select v392 v395 v396
  let c15_i32_261 : BitVec 32 := 15#32
  let v510 : BitVec 1 := Scalar.cmpi .eq v397 c15_i32_261
  let c1_i32_202 : BitVec 32 := 1#32
  let v393 : BitVec 32 := Scalar.addi v276 c1_i32_202
  let v394 : BitVec 32 := Scalar.select v392 v393 v276
  let c1_i32_263 : BitVec 32 := 1#32
  let v513 : BitVec 32 := Scalar.addi v394 c1_i32_263
  let c1_i32_264 : BitVec 32 := 1#32
  let v514 : BitVec 32 := Scalar.addi v397 c1_i32_264
  let v515 : BitVec 32 := Scalar.select v510 v513 v514
  let c15_i32_321 : BitVec 32 := 15#32
  let v628 : BitVec 1 := Scalar.cmpi .eq v515 c15_i32_321
  let c1_i32_262 : BitVec 32 := 1#32
  let v511 : BitVec 32 := Scalar.addi v394 c1_i32_262
  let v512 : BitVec 32 := Scalar.select v510 v511 v394
  let c1_i32_323 : BitVec 32 := 1#32
  let v631 : BitVec 32 := Scalar.addi v512 c1_i32_323
  let c1_i32_324 : BitVec 32 := 1#32
  let v632 : BitVec 32 := Scalar.addi v515 c1_i32_324
  let v633 : BitVec 32 := Scalar.select v628 v631 v632
  let c15_i32_381 : BitVec 32 := 15#32
  let v746 : BitVec 1 := Scalar.cmpi .eq v633 c15_i32_381
  let c1_i32_322 : BitVec 32 := 1#32
  let v629 : BitVec 32 := Scalar.addi v512 c1_i32_322
  let v630 : BitVec 32 := Scalar.select v628 v629 v512
  let c1_i32_383 : BitVec 32 := 1#32
  let v749 : BitVec 32 := Scalar.addi v630 c1_i32_383
  let c1_i32_384 : BitVec 32 := 1#32
  let v750 : BitVec 32 := Scalar.addi v633 c1_i32_384
  let v751 : BitVec 32 := Scalar.select v746 v749 v750
  let c15_i32_423 : BitVec 32 := 15#32
  let v826 : BitVec 32 := Scalar.minsi v751 c15_i32_423
  let c512_i32_426 : BitVec 32 := 512#32
  let v832 : BitVec 32 := Scalar.muli v826 c512_i32_426
  let v833 : BitVec 32 := v832
  let v834 : Index := Scalar.indexCast v833
  let c0_427 : Index := 0#32
  ![v834.toNat, 0]
def k0_mult87 (arg18 : BitVec 32) (arg19 : BitVec 32) : BitVec 32 :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c15_i32_141 : BitVec 32 := 15#32
  let v274 : BitVec 1 := Scalar.cmpi .eq v161 c15_i32_141
  let c1_i32_82 : BitVec 32 := 1#32
  let v157 : BitVec 32 := Scalar.addi v40 c1_i32_82
  let v158 : BitVec 32 := Scalar.select v156 v157 v40
  let c1_i32_143 : BitVec 32 := 1#32
  let v277 : BitVec 32 := Scalar.addi v158 c1_i32_143
  let c1_i32_144 : BitVec 32 := 1#32
  let v278 : BitVec 32 := Scalar.addi v161 c1_i32_144
  let v279 : BitVec 32 := Scalar.select v274 v277 v278
  let c15_i32_201 : BitVec 32 := 15#32
  let v392 : BitVec 1 := Scalar.cmpi .eq v279 c15_i32_201
  let c1_i32_142 : BitVec 32 := 1#32
  let v275 : BitVec 32 := Scalar.addi v158 c1_i32_142
  let v276 : BitVec 32 := Scalar.select v274 v275 v158
  let c1_i32_203 : BitVec 32 := 1#32
  let v395 : BitVec 32 := Scalar.addi v276 c1_i32_203
  let c1_i32_204 : BitVec 32 := 1#32
  let v396 : BitVec 32 := Scalar.addi v279 c1_i32_204
  let v397 : BitVec 32 := Scalar.select v392 v395 v396
  let c15_i32_261 : BitVec 32 := 15#32
  let v510 : BitVec 1 := Scalar.cmpi .eq v397 c15_i32_261
  let c1_i32_202 : BitVec 32 := 1#32
  let v393 : BitVec 32 := Scalar.addi v276 c1_i32_202
  let v394 : BitVec 32 := Scalar.select v392 v393 v276
  let c1_i32_263 : BitVec 32 := 1#32
  let v513 : BitVec 32 := Scalar.addi v394 c1_i32_263
  let c1_i32_264 : BitVec 32 := 1#32
  let v514 : BitVec 32 := Scalar.addi v397 c1_i32_264
  let v515 : BitVec 32 := Scalar.select v510 v513 v514
  let c15_i32_321 : BitVec 32 := 15#32
  let v628 : BitVec 1 := Scalar.cmpi .eq v515 c15_i32_321
  let c1_i32_262 : BitVec 32 := 1#32
  let v511 : BitVec 32 := Scalar.addi v394 c1_i32_262
  let v512 : BitVec 32 := Scalar.select v510 v511 v394
  let c1_i32_323 : BitVec 32 := 1#32
  let v631 : BitVec 32 := Scalar.addi v512 c1_i32_323
  let c1_i32_324 : BitVec 32 := 1#32
  let v632 : BitVec 32 := Scalar.addi v515 c1_i32_324
  let v633 : BitVec 32 := Scalar.select v628 v631 v632
  let c15_i32_381 : BitVec 32 := 15#32
  let v746 : BitVec 1 := Scalar.cmpi .eq v633 c15_i32_381
  let c1_i32_322 : BitVec 32 := 1#32
  let v629 : BitVec 32 := Scalar.addi v512 c1_i32_322
  let v630 : BitVec 32 := Scalar.select v628 v629 v512
  let c1_i32_382 : BitVec 32 := 1#32
  let v747 : BitVec 32 := Scalar.addi v630 c1_i32_382
  let v748 : BitVec 32 := Scalar.select v746 v747 v630
  let c15_i32_422 : BitVec 32 := 15#32
  let v825 : BitVec 32 := Scalar.minsi v748 c15_i32_422
  let c512_i32_433 : BitVec 32 := 512#32
  let v850 : BitVec 32 := Scalar.muli v825 c512_i32_433
  v850
def k0_off63 (arg18 : BitVec 32) (arg19 : BitVec 32) : Fin 2 → Nat :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c15_i32_141 : BitVec 32 := 15#32
  let v274 : BitVec 1 := Scalar.cmpi .eq v161 c15_i32_141
  let c1_i32_82 : BitVec 32 := 1#32
  let v157 : BitVec 32 := Scalar.addi v40 c1_i32_82
  let v158 : BitVec 32 := Scalar.select v156 v157 v40
  let c1_i32_143 : BitVec 32 := 1#32
  let v277 : BitVec 32 := Scalar.addi v158 c1_i32_143
  let c1_i32_144 : BitVec 32 := 1#32
  let v278 : BitVec 32 := Scalar.addi v161 c1_i32_144
  let v279 : BitVec 32 := Scalar.select v274 v277 v278
  let c15_i32_201 : BitVec 32 := 15#32
  let v392 : BitVec 1 := Scalar.cmpi .eq v279 c15_i32_201
  let c1_i32_142 : BitVec 32 := 1#32
  let v275 : BitVec 32 := Scalar.addi v158 c1_i32_142
  let v276 : BitVec 32 := Scalar.select v274 v275 v158
  let c1_i32_203 : BitVec 32 := 1#32
  let v395 : BitVec 32 := Scalar.addi v276 c1_i32_203
  let c1_i32_204 : BitVec 32 := 1#32
  let v396 : BitVec 32 := Scalar.addi v279 c1_i32_204
  let v397 : BitVec 32 := Scalar.select v392 v395 v396
  let c15_i32_261 : BitVec 32 := 15#32
  let v510 : BitVec 1 := Scalar.cmpi .eq v397 c15_i32_261
  let c1_i32_202 : BitVec 32 := 1#32
  let v393 : BitVec 32 := Scalar.addi v276 c1_i32_202
  let v394 : BitVec 32 := Scalar.select v392 v393 v276
  let c1_i32_263 : BitVec 32 := 1#32
  let v513 : BitVec 32 := Scalar.addi v394 c1_i32_263
  let c1_i32_264 : BitVec 32 := 1#32
  let v514 : BitVec 32 := Scalar.addi v397 c1_i32_264
  let v515 : BitVec 32 := Scalar.select v510 v513 v514
  let c15_i32_321 : BitVec 32 := 15#32
  let v628 : BitVec 1 := Scalar.cmpi .eq v515 c15_i32_321
  let c1_i32_262 : BitVec 32 := 1#32
  let v511 : BitVec 32 := Scalar.addi v394 c1_i32_262
  let v512 : BitVec 32 := Scalar.select v510 v511 v394
  let c1_i32_323 : BitVec 32 := 1#32
  let v631 : BitVec 32 := Scalar.addi v512 c1_i32_323
  let c1_i32_324 : BitVec 32 := 1#32
  let v632 : BitVec 32 := Scalar.addi v515 c1_i32_324
  let v633 : BitVec 32 := Scalar.select v628 v631 v632
  let c15_i32_381 : BitVec 32 := 15#32
  let v746 : BitVec 1 := Scalar.cmpi .eq v633 c15_i32_381
  let c1_i32_322 : BitVec 32 := 1#32
  let v629 : BitVec 32 := Scalar.addi v512 c1_i32_322
  let v630 : BitVec 32 := Scalar.select v628 v629 v512
  let c1_i32_382 : BitVec 32 := 1#32
  let v747 : BitVec 32 := Scalar.addi v630 c1_i32_382
  let v748 : BitVec 32 := Scalar.select v746 v747 v630
  let c15_i32_422 : BitVec 32 := 15#32
  let v825 : BitVec 32 := Scalar.minsi v748 c15_i32_422
  let c512_i32_433 : BitVec 32 := 512#32
  let v850 : BitVec 32 := Scalar.muli v825 c512_i32_433
  let v851 : BitVec 32 := v850
  let v852 : Index := Scalar.indexCast v851
  let c0_434 : Index := 0#32
  ![v852.toNat, 0]
def k0_mult88 (arg18 : BitVec 32) (arg19 : BitVec 32) : BitVec 32 :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c15_i32_141 : BitVec 32 := 15#32
  let v274 : BitVec 1 := Scalar.cmpi .eq v161 c15_i32_141
  let c1_i32_82 : BitVec 32 := 1#32
  let v157 : BitVec 32 := Scalar.addi v40 c1_i32_82
  let v158 : BitVec 32 := Scalar.select v156 v157 v40
  let c1_i32_143 : BitVec 32 := 1#32
  let v277 : BitVec 32 := Scalar.addi v158 c1_i32_143
  let c1_i32_144 : BitVec 32 := 1#32
  let v278 : BitVec 32 := Scalar.addi v161 c1_i32_144
  let v279 : BitVec 32 := Scalar.select v274 v277 v278
  let c15_i32_201 : BitVec 32 := 15#32
  let v392 : BitVec 1 := Scalar.cmpi .eq v279 c15_i32_201
  let c1_i32_142 : BitVec 32 := 1#32
  let v275 : BitVec 32 := Scalar.addi v158 c1_i32_142
  let v276 : BitVec 32 := Scalar.select v274 v275 v158
  let c1_i32_203 : BitVec 32 := 1#32
  let v395 : BitVec 32 := Scalar.addi v276 c1_i32_203
  let c1_i32_204 : BitVec 32 := 1#32
  let v396 : BitVec 32 := Scalar.addi v279 c1_i32_204
  let v397 : BitVec 32 := Scalar.select v392 v395 v396
  let c15_i32_261 : BitVec 32 := 15#32
  let v510 : BitVec 1 := Scalar.cmpi .eq v397 c15_i32_261
  let c1_i32_202 : BitVec 32 := 1#32
  let v393 : BitVec 32 := Scalar.addi v276 c1_i32_202
  let v394 : BitVec 32 := Scalar.select v392 v393 v276
  let c1_i32_263 : BitVec 32 := 1#32
  let v513 : BitVec 32 := Scalar.addi v394 c1_i32_263
  let c1_i32_264 : BitVec 32 := 1#32
  let v514 : BitVec 32 := Scalar.addi v397 c1_i32_264
  let v515 : BitVec 32 := Scalar.select v510 v513 v514
  let c15_i32_321 : BitVec 32 := 15#32
  let v628 : BitVec 1 := Scalar.cmpi .eq v515 c15_i32_321
  let c1_i32_262 : BitVec 32 := 1#32
  let v511 : BitVec 32 := Scalar.addi v394 c1_i32_262
  let v512 : BitVec 32 := Scalar.select v510 v511 v394
  let c1_i32_323 : BitVec 32 := 1#32
  let v631 : BitVec 32 := Scalar.addi v512 c1_i32_323
  let c1_i32_324 : BitVec 32 := 1#32
  let v632 : BitVec 32 := Scalar.addi v515 c1_i32_324
  let v633 : BitVec 32 := Scalar.select v628 v631 v632
  let c15_i32_381 : BitVec 32 := 15#32
  let v746 : BitVec 1 := Scalar.cmpi .eq v633 c15_i32_381
  let c1_i32_322 : BitVec 32 := 1#32
  let v629 : BitVec 32 := Scalar.addi v512 c1_i32_322
  let v630 : BitVec 32 := Scalar.select v628 v629 v512
  let c1_i32_383 : BitVec 32 := 1#32
  let v749 : BitVec 32 := Scalar.addi v630 c1_i32_383
  let c1_i32_384 : BitVec 32 := 1#32
  let v750 : BitVec 32 := Scalar.addi v633 c1_i32_384
  let v751 : BitVec 32 := Scalar.select v746 v749 v750
  let c15_i32_423 : BitVec 32 := 15#32
  let v826 : BitVec 32 := Scalar.minsi v751 c15_i32_423
  let c512_i32_435 : BitVec 32 := 512#32
  let v855 : BitVec 32 := Scalar.muli v826 c512_i32_435
  v855
def k0_off64 (arg18 : BitVec 32) (arg19 : BitVec 32) : Fin 3 → Nat :=
  let c0_436 : Index := 0#32
  let c0_437 : Index := 0#32
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c15_i32_141 : BitVec 32 := 15#32
  let v274 : BitVec 1 := Scalar.cmpi .eq v161 c15_i32_141
  let c1_i32_82 : BitVec 32 := 1#32
  let v157 : BitVec 32 := Scalar.addi v40 c1_i32_82
  let v158 : BitVec 32 := Scalar.select v156 v157 v40
  let c1_i32_143 : BitVec 32 := 1#32
  let v277 : BitVec 32 := Scalar.addi v158 c1_i32_143
  let c1_i32_144 : BitVec 32 := 1#32
  let v278 : BitVec 32 := Scalar.addi v161 c1_i32_144
  let v279 : BitVec 32 := Scalar.select v274 v277 v278
  let c15_i32_201 : BitVec 32 := 15#32
  let v392 : BitVec 1 := Scalar.cmpi .eq v279 c15_i32_201
  let c1_i32_142 : BitVec 32 := 1#32
  let v275 : BitVec 32 := Scalar.addi v158 c1_i32_142
  let v276 : BitVec 32 := Scalar.select v274 v275 v158
  let c1_i32_203 : BitVec 32 := 1#32
  let v395 : BitVec 32 := Scalar.addi v276 c1_i32_203
  let c1_i32_204 : BitVec 32 := 1#32
  let v396 : BitVec 32 := Scalar.addi v279 c1_i32_204
  let v397 : BitVec 32 := Scalar.select v392 v395 v396
  let c15_i32_261 : BitVec 32 := 15#32
  let v510 : BitVec 1 := Scalar.cmpi .eq v397 c15_i32_261
  let c1_i32_202 : BitVec 32 := 1#32
  let v393 : BitVec 32 := Scalar.addi v276 c1_i32_202
  let v394 : BitVec 32 := Scalar.select v392 v393 v276
  let c1_i32_263 : BitVec 32 := 1#32
  let v513 : BitVec 32 := Scalar.addi v394 c1_i32_263
  let c1_i32_264 : BitVec 32 := 1#32
  let v514 : BitVec 32 := Scalar.addi v397 c1_i32_264
  let v515 : BitVec 32 := Scalar.select v510 v513 v514
  let c15_i32_321 : BitVec 32 := 15#32
  let v628 : BitVec 1 := Scalar.cmpi .eq v515 c15_i32_321
  let c1_i32_262 : BitVec 32 := 1#32
  let v511 : BitVec 32 := Scalar.addi v394 c1_i32_262
  let v512 : BitVec 32 := Scalar.select v510 v511 v394
  let c1_i32_323 : BitVec 32 := 1#32
  let v631 : BitVec 32 := Scalar.addi v512 c1_i32_323
  let c1_i32_324 : BitVec 32 := 1#32
  let v632 : BitVec 32 := Scalar.addi v515 c1_i32_324
  let v633 : BitVec 32 := Scalar.select v628 v631 v632
  let c15_i32_381 : BitVec 32 := 15#32
  let v746 : BitVec 1 := Scalar.cmpi .eq v633 c15_i32_381
  let c1_i32_322 : BitVec 32 := 1#32
  let v629 : BitVec 32 := Scalar.addi v512 c1_i32_322
  let v630 : BitVec 32 := Scalar.select v628 v629 v512
  let c1_i32_383 : BitVec 32 := 1#32
  let v749 : BitVec 32 := Scalar.addi v630 c1_i32_383
  let c1_i32_384 : BitVec 32 := 1#32
  let v750 : BitVec 32 := Scalar.addi v633 c1_i32_384
  let v751 : BitVec 32 := Scalar.select v746 v749 v750
  let c15_i32_423 : BitVec 32 := 15#32
  let v826 : BitVec 32 := Scalar.minsi v751 c15_i32_423
  let c512_i32_435 : BitVec 32 := 512#32
  let v855 : BitVec 32 := Scalar.muli v826 c512_i32_435
  let v856 : BitVec 32 := v855
  let v857 : Index := Scalar.indexCast v856
  ![0, 0, v857.toNat]
def k0_mult89 (arg18 : BitVec 32) (arg19 : BitVec 32) : BitVec 32 :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c15_i32_141 : BitVec 32 := 15#32
  let v274 : BitVec 1 := Scalar.cmpi .eq v161 c15_i32_141
  let c1_i32_82 : BitVec 32 := 1#32
  let v157 : BitVec 32 := Scalar.addi v40 c1_i32_82
  let v158 : BitVec 32 := Scalar.select v156 v157 v40
  let c1_i32_143 : BitVec 32 := 1#32
  let v277 : BitVec 32 := Scalar.addi v158 c1_i32_143
  let c1_i32_144 : BitVec 32 := 1#32
  let v278 : BitVec 32 := Scalar.addi v161 c1_i32_144
  let v279 : BitVec 32 := Scalar.select v274 v277 v278
  let c15_i32_201 : BitVec 32 := 15#32
  let v392 : BitVec 1 := Scalar.cmpi .eq v279 c15_i32_201
  let c1_i32_142 : BitVec 32 := 1#32
  let v275 : BitVec 32 := Scalar.addi v158 c1_i32_142
  let v276 : BitVec 32 := Scalar.select v274 v275 v158
  let c1_i32_203 : BitVec 32 := 1#32
  let v395 : BitVec 32 := Scalar.addi v276 c1_i32_203
  let c1_i32_204 : BitVec 32 := 1#32
  let v396 : BitVec 32 := Scalar.addi v279 c1_i32_204
  let v397 : BitVec 32 := Scalar.select v392 v395 v396
  let c15_i32_261 : BitVec 32 := 15#32
  let v510 : BitVec 1 := Scalar.cmpi .eq v397 c15_i32_261
  let c1_i32_202 : BitVec 32 := 1#32
  let v393 : BitVec 32 := Scalar.addi v276 c1_i32_202
  let v394 : BitVec 32 := Scalar.select v392 v393 v276
  let c1_i32_263 : BitVec 32 := 1#32
  let v513 : BitVec 32 := Scalar.addi v394 c1_i32_263
  let c1_i32_264 : BitVec 32 := 1#32
  let v514 : BitVec 32 := Scalar.addi v397 c1_i32_264
  let v515 : BitVec 32 := Scalar.select v510 v513 v514
  let c15_i32_321 : BitVec 32 := 15#32
  let v628 : BitVec 1 := Scalar.cmpi .eq v515 c15_i32_321
  let c1_i32_262 : BitVec 32 := 1#32
  let v511 : BitVec 32 := Scalar.addi v394 c1_i32_262
  let v512 : BitVec 32 := Scalar.select v510 v511 v394
  let c1_i32_323 : BitVec 32 := 1#32
  let v631 : BitVec 32 := Scalar.addi v512 c1_i32_323
  let c1_i32_324 : BitVec 32 := 1#32
  let v632 : BitVec 32 := Scalar.addi v515 c1_i32_324
  let v633 : BitVec 32 := Scalar.select v628 v631 v632
  let c15_i32_381 : BitVec 32 := 15#32
  let v746 : BitVec 1 := Scalar.cmpi .eq v633 c15_i32_381
  let c1_i32_322 : BitVec 32 := 1#32
  let v629 : BitVec 32 := Scalar.addi v512 c1_i32_322
  let v630 : BitVec 32 := Scalar.select v628 v629 v512
  let c1_i32_383 : BitVec 32 := 1#32
  let v749 : BitVec 32 := Scalar.addi v630 c1_i32_383
  let c1_i32_384 : BitVec 32 := 1#32
  let v750 : BitVec 32 := Scalar.addi v633 c1_i32_384
  let v751 : BitVec 32 := Scalar.select v746 v749 v750
  let c512_i32_447 : BitVec 32 := 512#32
  let v872 : BitVec 32 := Scalar.muli v751 c512_i32_447
  v872
def k0_off65 (arg18 : BitVec 32) (arg19 : BitVec 32) : Fin 3 → Nat :=
  let c0_448 : Index := 0#32
  let c0_449 : Index := 0#32
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c15_i32_141 : BitVec 32 := 15#32
  let v274 : BitVec 1 := Scalar.cmpi .eq v161 c15_i32_141
  let c1_i32_82 : BitVec 32 := 1#32
  let v157 : BitVec 32 := Scalar.addi v40 c1_i32_82
  let v158 : BitVec 32 := Scalar.select v156 v157 v40
  let c1_i32_143 : BitVec 32 := 1#32
  let v277 : BitVec 32 := Scalar.addi v158 c1_i32_143
  let c1_i32_144 : BitVec 32 := 1#32
  let v278 : BitVec 32 := Scalar.addi v161 c1_i32_144
  let v279 : BitVec 32 := Scalar.select v274 v277 v278
  let c15_i32_201 : BitVec 32 := 15#32
  let v392 : BitVec 1 := Scalar.cmpi .eq v279 c15_i32_201
  let c1_i32_142 : BitVec 32 := 1#32
  let v275 : BitVec 32 := Scalar.addi v158 c1_i32_142
  let v276 : BitVec 32 := Scalar.select v274 v275 v158
  let c1_i32_203 : BitVec 32 := 1#32
  let v395 : BitVec 32 := Scalar.addi v276 c1_i32_203
  let c1_i32_204 : BitVec 32 := 1#32
  let v396 : BitVec 32 := Scalar.addi v279 c1_i32_204
  let v397 : BitVec 32 := Scalar.select v392 v395 v396
  let c15_i32_261 : BitVec 32 := 15#32
  let v510 : BitVec 1 := Scalar.cmpi .eq v397 c15_i32_261
  let c1_i32_202 : BitVec 32 := 1#32
  let v393 : BitVec 32 := Scalar.addi v276 c1_i32_202
  let v394 : BitVec 32 := Scalar.select v392 v393 v276
  let c1_i32_263 : BitVec 32 := 1#32
  let v513 : BitVec 32 := Scalar.addi v394 c1_i32_263
  let c1_i32_264 : BitVec 32 := 1#32
  let v514 : BitVec 32 := Scalar.addi v397 c1_i32_264
  let v515 : BitVec 32 := Scalar.select v510 v513 v514
  let c15_i32_321 : BitVec 32 := 15#32
  let v628 : BitVec 1 := Scalar.cmpi .eq v515 c15_i32_321
  let c1_i32_262 : BitVec 32 := 1#32
  let v511 : BitVec 32 := Scalar.addi v394 c1_i32_262
  let v512 : BitVec 32 := Scalar.select v510 v511 v394
  let c1_i32_323 : BitVec 32 := 1#32
  let v631 : BitVec 32 := Scalar.addi v512 c1_i32_323
  let c1_i32_324 : BitVec 32 := 1#32
  let v632 : BitVec 32 := Scalar.addi v515 c1_i32_324
  let v633 : BitVec 32 := Scalar.select v628 v631 v632
  let c15_i32_381 : BitVec 32 := 15#32
  let v746 : BitVec 1 := Scalar.cmpi .eq v633 c15_i32_381
  let c1_i32_322 : BitVec 32 := 1#32
  let v629 : BitVec 32 := Scalar.addi v512 c1_i32_322
  let v630 : BitVec 32 := Scalar.select v628 v629 v512
  let c1_i32_383 : BitVec 32 := 1#32
  let v749 : BitVec 32 := Scalar.addi v630 c1_i32_383
  let c1_i32_384 : BitVec 32 := 1#32
  let v750 : BitVec 32 := Scalar.addi v633 c1_i32_384
  let v751 : BitVec 32 := Scalar.select v746 v749 v750
  let c512_i32_447 : BitVec 32 := 512#32
  let v872 : BitVec 32 := Scalar.muli v751 c512_i32_447
  let v873 : BitVec 32 := v872
  let v874 : Index := Scalar.indexCast v873
  ![0, 0, v874.toNat]
def k0_mult90 (arg18 : BitVec 32) (arg19 : BitVec 32) : BitVec 32 :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c15_i32_141 : BitVec 32 := 15#32
  let v274 : BitVec 1 := Scalar.cmpi .eq v161 c15_i32_141
  let c1_i32_82 : BitVec 32 := 1#32
  let v157 : BitVec 32 := Scalar.addi v40 c1_i32_82
  let v158 : BitVec 32 := Scalar.select v156 v157 v40
  let c1_i32_143 : BitVec 32 := 1#32
  let v277 : BitVec 32 := Scalar.addi v158 c1_i32_143
  let c1_i32_144 : BitVec 32 := 1#32
  let v278 : BitVec 32 := Scalar.addi v161 c1_i32_144
  let v279 : BitVec 32 := Scalar.select v274 v277 v278
  let c15_i32_201 : BitVec 32 := 15#32
  let v392 : BitVec 1 := Scalar.cmpi .eq v279 c15_i32_201
  let c1_i32_142 : BitVec 32 := 1#32
  let v275 : BitVec 32 := Scalar.addi v158 c1_i32_142
  let v276 : BitVec 32 := Scalar.select v274 v275 v158
  let c1_i32_203 : BitVec 32 := 1#32
  let v395 : BitVec 32 := Scalar.addi v276 c1_i32_203
  let c1_i32_204 : BitVec 32 := 1#32
  let v396 : BitVec 32 := Scalar.addi v279 c1_i32_204
  let v397 : BitVec 32 := Scalar.select v392 v395 v396
  let c15_i32_261 : BitVec 32 := 15#32
  let v510 : BitVec 1 := Scalar.cmpi .eq v397 c15_i32_261
  let c1_i32_202 : BitVec 32 := 1#32
  let v393 : BitVec 32 := Scalar.addi v276 c1_i32_202
  let v394 : BitVec 32 := Scalar.select v392 v393 v276
  let c1_i32_263 : BitVec 32 := 1#32
  let v513 : BitVec 32 := Scalar.addi v394 c1_i32_263
  let c1_i32_264 : BitVec 32 := 1#32
  let v514 : BitVec 32 := Scalar.addi v397 c1_i32_264
  let v515 : BitVec 32 := Scalar.select v510 v513 v514
  let c15_i32_321 : BitVec 32 := 15#32
  let v628 : BitVec 1 := Scalar.cmpi .eq v515 c15_i32_321
  let c1_i32_262 : BitVec 32 := 1#32
  let v511 : BitVec 32 := Scalar.addi v394 c1_i32_262
  let v512 : BitVec 32 := Scalar.select v510 v511 v394
  let c1_i32_323 : BitVec 32 := 1#32
  let v631 : BitVec 32 := Scalar.addi v512 c1_i32_323
  let c1_i32_324 : BitVec 32 := 1#32
  let v632 : BitVec 32 := Scalar.addi v515 c1_i32_324
  let v633 : BitVec 32 := Scalar.select v628 v631 v632
  let c15_i32_381 : BitVec 32 := 15#32
  let v746 : BitVec 1 := Scalar.cmpi .eq v633 c15_i32_381
  let c1_i32_322 : BitVec 32 := 1#32
  let v629 : BitVec 32 := Scalar.addi v512 c1_i32_322
  let v630 : BitVec 32 := Scalar.select v628 v629 v512
  let c1_i32_383 : BitVec 32 := 1#32
  let v749 : BitVec 32 := Scalar.addi v630 c1_i32_383
  let c1_i32_384 : BitVec 32 := 1#32
  let v750 : BitVec 32 := Scalar.addi v633 c1_i32_384
  let v751 : BitVec 32 := Scalar.select v746 v749 v750
  let c512_i32_453 : BitVec 32 := 512#32
  let v884 : BitVec 32 := Scalar.muli v751 c512_i32_453
  v884
def k0_off66 (arg18 : BitVec 32) (arg19 : BitVec 32) : Fin 3 → Nat :=
  let c0_454 : Index := 0#32
  let c0_455 : Index := 0#32
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c15_i32_141 : BitVec 32 := 15#32
  let v274 : BitVec 1 := Scalar.cmpi .eq v161 c15_i32_141
  let c1_i32_82 : BitVec 32 := 1#32
  let v157 : BitVec 32 := Scalar.addi v40 c1_i32_82
  let v158 : BitVec 32 := Scalar.select v156 v157 v40
  let c1_i32_143 : BitVec 32 := 1#32
  let v277 : BitVec 32 := Scalar.addi v158 c1_i32_143
  let c1_i32_144 : BitVec 32 := 1#32
  let v278 : BitVec 32 := Scalar.addi v161 c1_i32_144
  let v279 : BitVec 32 := Scalar.select v274 v277 v278
  let c15_i32_201 : BitVec 32 := 15#32
  let v392 : BitVec 1 := Scalar.cmpi .eq v279 c15_i32_201
  let c1_i32_142 : BitVec 32 := 1#32
  let v275 : BitVec 32 := Scalar.addi v158 c1_i32_142
  let v276 : BitVec 32 := Scalar.select v274 v275 v158
  let c1_i32_203 : BitVec 32 := 1#32
  let v395 : BitVec 32 := Scalar.addi v276 c1_i32_203
  let c1_i32_204 : BitVec 32 := 1#32
  let v396 : BitVec 32 := Scalar.addi v279 c1_i32_204
  let v397 : BitVec 32 := Scalar.select v392 v395 v396
  let c15_i32_261 : BitVec 32 := 15#32
  let v510 : BitVec 1 := Scalar.cmpi .eq v397 c15_i32_261
  let c1_i32_202 : BitVec 32 := 1#32
  let v393 : BitVec 32 := Scalar.addi v276 c1_i32_202
  let v394 : BitVec 32 := Scalar.select v392 v393 v276
  let c1_i32_263 : BitVec 32 := 1#32
  let v513 : BitVec 32 := Scalar.addi v394 c1_i32_263
  let c1_i32_264 : BitVec 32 := 1#32
  let v514 : BitVec 32 := Scalar.addi v397 c1_i32_264
  let v515 : BitVec 32 := Scalar.select v510 v513 v514
  let c15_i32_321 : BitVec 32 := 15#32
  let v628 : BitVec 1 := Scalar.cmpi .eq v515 c15_i32_321
  let c1_i32_262 : BitVec 32 := 1#32
  let v511 : BitVec 32 := Scalar.addi v394 c1_i32_262
  let v512 : BitVec 32 := Scalar.select v510 v511 v394
  let c1_i32_323 : BitVec 32 := 1#32
  let v631 : BitVec 32 := Scalar.addi v512 c1_i32_323
  let c1_i32_324 : BitVec 32 := 1#32
  let v632 : BitVec 32 := Scalar.addi v515 c1_i32_324
  let v633 : BitVec 32 := Scalar.select v628 v631 v632
  let c15_i32_381 : BitVec 32 := 15#32
  let v746 : BitVec 1 := Scalar.cmpi .eq v633 c15_i32_381
  let c1_i32_322 : BitVec 32 := 1#32
  let v629 : BitVec 32 := Scalar.addi v512 c1_i32_322
  let v630 : BitVec 32 := Scalar.select v628 v629 v512
  let c1_i32_383 : BitVec 32 := 1#32
  let v749 : BitVec 32 := Scalar.addi v630 c1_i32_383
  let c1_i32_384 : BitVec 32 := 1#32
  let v750 : BitVec 32 := Scalar.addi v633 c1_i32_384
  let v751 : BitVec 32 := Scalar.select v746 v749 v750
  let c512_i32_453 : BitVec 32 := 512#32
  let v884 : BitVec 32 := Scalar.muli v751 c512_i32_453
  let v885 : BitVec 32 := v884
  let v886 : Index := Scalar.indexCast v885
  ![0, 0, v886.toNat]
def k0_mult91 (arg18 : BitVec 32) (arg19 : BitVec 32) : BitVec 32 :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c15_i32_141 : BitVec 32 := 15#32
  let v274 : BitVec 1 := Scalar.cmpi .eq v161 c15_i32_141
  let c1_i32_82 : BitVec 32 := 1#32
  let v157 : BitVec 32 := Scalar.addi v40 c1_i32_82
  let v158 : BitVec 32 := Scalar.select v156 v157 v40
  let c1_i32_143 : BitVec 32 := 1#32
  let v277 : BitVec 32 := Scalar.addi v158 c1_i32_143
  let c1_i32_144 : BitVec 32 := 1#32
  let v278 : BitVec 32 := Scalar.addi v161 c1_i32_144
  let v279 : BitVec 32 := Scalar.select v274 v277 v278
  let c15_i32_201 : BitVec 32 := 15#32
  let v392 : BitVec 1 := Scalar.cmpi .eq v279 c15_i32_201
  let c1_i32_142 : BitVec 32 := 1#32
  let v275 : BitVec 32 := Scalar.addi v158 c1_i32_142
  let v276 : BitVec 32 := Scalar.select v274 v275 v158
  let c1_i32_203 : BitVec 32 := 1#32
  let v395 : BitVec 32 := Scalar.addi v276 c1_i32_203
  let c1_i32_204 : BitVec 32 := 1#32
  let v396 : BitVec 32 := Scalar.addi v279 c1_i32_204
  let v397 : BitVec 32 := Scalar.select v392 v395 v396
  let c15_i32_261 : BitVec 32 := 15#32
  let v510 : BitVec 1 := Scalar.cmpi .eq v397 c15_i32_261
  let c1_i32_202 : BitVec 32 := 1#32
  let v393 : BitVec 32 := Scalar.addi v276 c1_i32_202
  let v394 : BitVec 32 := Scalar.select v392 v393 v276
  let c1_i32_263 : BitVec 32 := 1#32
  let v513 : BitVec 32 := Scalar.addi v394 c1_i32_263
  let c1_i32_264 : BitVec 32 := 1#32
  let v514 : BitVec 32 := Scalar.addi v397 c1_i32_264
  let v515 : BitVec 32 := Scalar.select v510 v513 v514
  let c15_i32_321 : BitVec 32 := 15#32
  let v628 : BitVec 1 := Scalar.cmpi .eq v515 c15_i32_321
  let c1_i32_262 : BitVec 32 := 1#32
  let v511 : BitVec 32 := Scalar.addi v394 c1_i32_262
  let v512 : BitVec 32 := Scalar.select v510 v511 v394
  let c1_i32_323 : BitVec 32 := 1#32
  let v631 : BitVec 32 := Scalar.addi v512 c1_i32_323
  let c1_i32_324 : BitVec 32 := 1#32
  let v632 : BitVec 32 := Scalar.addi v515 c1_i32_324
  let v633 : BitVec 32 := Scalar.select v628 v631 v632
  let c15_i32_381 : BitVec 32 := 15#32
  let v746 : BitVec 1 := Scalar.cmpi .eq v633 c15_i32_381
  let c1_i32_322 : BitVec 32 := 1#32
  let v629 : BitVec 32 := Scalar.addi v512 c1_i32_322
  let v630 : BitVec 32 := Scalar.select v628 v629 v512
  let c1_i32_383 : BitVec 32 := 1#32
  let v749 : BitVec 32 := Scalar.addi v630 c1_i32_383
  let c1_i32_384 : BitVec 32 := 1#32
  let v750 : BitVec 32 := Scalar.addi v633 c1_i32_384
  let v751 : BitVec 32 := Scalar.select v746 v749 v750
  let c512_i32_459 : BitVec 32 := 512#32
  let v892 : BitVec 32 := Scalar.muli v751 c512_i32_459
  v892
def k0_mult92 (arg18 : BitVec 32) (arg19 : BitVec 32) : BitVec 32 :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c15_i32_141 : BitVec 32 := 15#32
  let v274 : BitVec 1 := Scalar.cmpi .eq v161 c15_i32_141
  let c1_i32_82 : BitVec 32 := 1#32
  let v157 : BitVec 32 := Scalar.addi v40 c1_i32_82
  let v158 : BitVec 32 := Scalar.select v156 v157 v40
  let c1_i32_143 : BitVec 32 := 1#32
  let v277 : BitVec 32 := Scalar.addi v158 c1_i32_143
  let c1_i32_144 : BitVec 32 := 1#32
  let v278 : BitVec 32 := Scalar.addi v161 c1_i32_144
  let v279 : BitVec 32 := Scalar.select v274 v277 v278
  let c15_i32_201 : BitVec 32 := 15#32
  let v392 : BitVec 1 := Scalar.cmpi .eq v279 c15_i32_201
  let c1_i32_142 : BitVec 32 := 1#32
  let v275 : BitVec 32 := Scalar.addi v158 c1_i32_142
  let v276 : BitVec 32 := Scalar.select v274 v275 v158
  let c1_i32_203 : BitVec 32 := 1#32
  let v395 : BitVec 32 := Scalar.addi v276 c1_i32_203
  let c1_i32_204 : BitVec 32 := 1#32
  let v396 : BitVec 32 := Scalar.addi v279 c1_i32_204
  let v397 : BitVec 32 := Scalar.select v392 v395 v396
  let c15_i32_261 : BitVec 32 := 15#32
  let v510 : BitVec 1 := Scalar.cmpi .eq v397 c15_i32_261
  let c1_i32_202 : BitVec 32 := 1#32
  let v393 : BitVec 32 := Scalar.addi v276 c1_i32_202
  let v394 : BitVec 32 := Scalar.select v392 v393 v276
  let c1_i32_263 : BitVec 32 := 1#32
  let v513 : BitVec 32 := Scalar.addi v394 c1_i32_263
  let c1_i32_264 : BitVec 32 := 1#32
  let v514 : BitVec 32 := Scalar.addi v397 c1_i32_264
  let v515 : BitVec 32 := Scalar.select v510 v513 v514
  let c15_i32_321 : BitVec 32 := 15#32
  let v628 : BitVec 1 := Scalar.cmpi .eq v515 c15_i32_321
  let c1_i32_262 : BitVec 32 := 1#32
  let v511 : BitVec 32 := Scalar.addi v394 c1_i32_262
  let v512 : BitVec 32 := Scalar.select v510 v511 v394
  let c1_i32_323 : BitVec 32 := 1#32
  let v631 : BitVec 32 := Scalar.addi v512 c1_i32_323
  let c1_i32_324 : BitVec 32 := 1#32
  let v632 : BitVec 32 := Scalar.addi v515 c1_i32_324
  let v633 : BitVec 32 := Scalar.select v628 v631 v632
  let c15_i32_381 : BitVec 32 := 15#32
  let v746 : BitVec 1 := Scalar.cmpi .eq v633 c15_i32_381
  let c1_i32_322 : BitVec 32 := 1#32
  let v629 : BitVec 32 := Scalar.addi v512 c1_i32_322
  let v630 : BitVec 32 := Scalar.select v628 v629 v512
  let c1_i32_383 : BitVec 32 := 1#32
  let v749 : BitVec 32 := Scalar.addi v630 c1_i32_383
  let c1_i32_384 : BitVec 32 := 1#32
  let v750 : BitVec 32 := Scalar.addi v633 c1_i32_384
  let v751 : BitVec 32 := Scalar.select v746 v749 v750
  let c512_i32_465 : BitVec 32 := 512#32
  let v904 : BitVec 32 := Scalar.muli v751 c512_i32_465
  v904
def k0_off67 (arg18 : BitVec 32) (arg19 : BitVec 32) : Fin 2 → Nat :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c15_i32_141 : BitVec 32 := 15#32
  let v274 : BitVec 1 := Scalar.cmpi .eq v161 c15_i32_141
  let c1_i32_82 : BitVec 32 := 1#32
  let v157 : BitVec 32 := Scalar.addi v40 c1_i32_82
  let v158 : BitVec 32 := Scalar.select v156 v157 v40
  let c1_i32_143 : BitVec 32 := 1#32
  let v277 : BitVec 32 := Scalar.addi v158 c1_i32_143
  let c1_i32_144 : BitVec 32 := 1#32
  let v278 : BitVec 32 := Scalar.addi v161 c1_i32_144
  let v279 : BitVec 32 := Scalar.select v274 v277 v278
  let c15_i32_201 : BitVec 32 := 15#32
  let v392 : BitVec 1 := Scalar.cmpi .eq v279 c15_i32_201
  let c1_i32_142 : BitVec 32 := 1#32
  let v275 : BitVec 32 := Scalar.addi v158 c1_i32_142
  let v276 : BitVec 32 := Scalar.select v274 v275 v158
  let c1_i32_203 : BitVec 32 := 1#32
  let v395 : BitVec 32 := Scalar.addi v276 c1_i32_203
  let c1_i32_204 : BitVec 32 := 1#32
  let v396 : BitVec 32 := Scalar.addi v279 c1_i32_204
  let v397 : BitVec 32 := Scalar.select v392 v395 v396
  let c15_i32_261 : BitVec 32 := 15#32
  let v510 : BitVec 1 := Scalar.cmpi .eq v397 c15_i32_261
  let c1_i32_202 : BitVec 32 := 1#32
  let v393 : BitVec 32 := Scalar.addi v276 c1_i32_202
  let v394 : BitVec 32 := Scalar.select v392 v393 v276
  let c1_i32_263 : BitVec 32 := 1#32
  let v513 : BitVec 32 := Scalar.addi v394 c1_i32_263
  let c1_i32_264 : BitVec 32 := 1#32
  let v514 : BitVec 32 := Scalar.addi v397 c1_i32_264
  let v515 : BitVec 32 := Scalar.select v510 v513 v514
  let c15_i32_321 : BitVec 32 := 15#32
  let v628 : BitVec 1 := Scalar.cmpi .eq v515 c15_i32_321
  let c1_i32_262 : BitVec 32 := 1#32
  let v511 : BitVec 32 := Scalar.addi v394 c1_i32_262
  let v512 : BitVec 32 := Scalar.select v510 v511 v394
  let c1_i32_323 : BitVec 32 := 1#32
  let v631 : BitVec 32 := Scalar.addi v512 c1_i32_323
  let c1_i32_324 : BitVec 32 := 1#32
  let v632 : BitVec 32 := Scalar.addi v515 c1_i32_324
  let v633 : BitVec 32 := Scalar.select v628 v631 v632
  let c15_i32_381 : BitVec 32 := 15#32
  let v746 : BitVec 1 := Scalar.cmpi .eq v633 c15_i32_381
  let c1_i32_322 : BitVec 32 := 1#32
  let v629 : BitVec 32 := Scalar.addi v512 c1_i32_322
  let v630 : BitVec 32 := Scalar.select v628 v629 v512
  let c1_i32_383 : BitVec 32 := 1#32
  let v749 : BitVec 32 := Scalar.addi v630 c1_i32_383
  let c1_i32_384 : BitVec 32 := 1#32
  let v750 : BitVec 32 := Scalar.addi v633 c1_i32_384
  let v751 : BitVec 32 := Scalar.select v746 v749 v750
  let c512_i32_465 : BitVec 32 := 512#32
  let v904 : BitVec 32 := Scalar.muli v751 c512_i32_465
  let v905 : BitVec 32 := v904
  let v906 : Index := Scalar.indexCast v905
  let c0_466 : Index := 0#32
  ![v906.toNat, 0]
def k0_mult93 (arg18 : BitVec 32) (arg19 : BitVec 32) : BitVec 32 :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c15_i32_141 : BitVec 32 := 15#32
  let v274 : BitVec 1 := Scalar.cmpi .eq v161 c15_i32_141
  let c1_i32_82 : BitVec 32 := 1#32
  let v157 : BitVec 32 := Scalar.addi v40 c1_i32_82
  let v158 : BitVec 32 := Scalar.select v156 v157 v40
  let c1_i32_143 : BitVec 32 := 1#32
  let v277 : BitVec 32 := Scalar.addi v158 c1_i32_143
  let c1_i32_144 : BitVec 32 := 1#32
  let v278 : BitVec 32 := Scalar.addi v161 c1_i32_144
  let v279 : BitVec 32 := Scalar.select v274 v277 v278
  let c15_i32_201 : BitVec 32 := 15#32
  let v392 : BitVec 1 := Scalar.cmpi .eq v279 c15_i32_201
  let c1_i32_142 : BitVec 32 := 1#32
  let v275 : BitVec 32 := Scalar.addi v158 c1_i32_142
  let v276 : BitVec 32 := Scalar.select v274 v275 v158
  let c1_i32_203 : BitVec 32 := 1#32
  let v395 : BitVec 32 := Scalar.addi v276 c1_i32_203
  let c1_i32_204 : BitVec 32 := 1#32
  let v396 : BitVec 32 := Scalar.addi v279 c1_i32_204
  let v397 : BitVec 32 := Scalar.select v392 v395 v396
  let c15_i32_261 : BitVec 32 := 15#32
  let v510 : BitVec 1 := Scalar.cmpi .eq v397 c15_i32_261
  let c1_i32_202 : BitVec 32 := 1#32
  let v393 : BitVec 32 := Scalar.addi v276 c1_i32_202
  let v394 : BitVec 32 := Scalar.select v392 v393 v276
  let c1_i32_263 : BitVec 32 := 1#32
  let v513 : BitVec 32 := Scalar.addi v394 c1_i32_263
  let c1_i32_264 : BitVec 32 := 1#32
  let v514 : BitVec 32 := Scalar.addi v397 c1_i32_264
  let v515 : BitVec 32 := Scalar.select v510 v513 v514
  let c15_i32_321 : BitVec 32 := 15#32
  let v628 : BitVec 1 := Scalar.cmpi .eq v515 c15_i32_321
  let c1_i32_262 : BitVec 32 := 1#32
  let v511 : BitVec 32 := Scalar.addi v394 c1_i32_262
  let v512 : BitVec 32 := Scalar.select v510 v511 v394
  let c1_i32_323 : BitVec 32 := 1#32
  let v631 : BitVec 32 := Scalar.addi v512 c1_i32_323
  let c1_i32_324 : BitVec 32 := 1#32
  let v632 : BitVec 32 := Scalar.addi v515 c1_i32_324
  let v633 : BitVec 32 := Scalar.select v628 v631 v632
  let c15_i32_381 : BitVec 32 := 15#32
  let v746 : BitVec 1 := Scalar.cmpi .eq v633 c15_i32_381
  let c1_i32_322 : BitVec 32 := 1#32
  let v629 : BitVec 32 := Scalar.addi v512 c1_i32_322
  let v630 : BitVec 32 := Scalar.select v628 v629 v512
  let c1_i32_383 : BitVec 32 := 1#32
  let v749 : BitVec 32 := Scalar.addi v630 c1_i32_383
  let c1_i32_384 : BitVec 32 := 1#32
  let v750 : BitVec 32 := Scalar.addi v633 c1_i32_384
  let v751 : BitVec 32 := Scalar.select v746 v749 v750
  let c512_i32_468 : BitVec 32 := 512#32
  let v911 : BitVec 32 := Scalar.muli v751 c512_i32_468
  v911
def k0_mult94 (arg18 : BitVec 32) (arg19 : BitVec 32) : BitVec 32 :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c15_i32_141 : BitVec 32 := 15#32
  let v274 : BitVec 1 := Scalar.cmpi .eq v161 c15_i32_141
  let c1_i32_82 : BitVec 32 := 1#32
  let v157 : BitVec 32 := Scalar.addi v40 c1_i32_82
  let v158 : BitVec 32 := Scalar.select v156 v157 v40
  let c1_i32_143 : BitVec 32 := 1#32
  let v277 : BitVec 32 := Scalar.addi v158 c1_i32_143
  let c1_i32_144 : BitVec 32 := 1#32
  let v278 : BitVec 32 := Scalar.addi v161 c1_i32_144
  let v279 : BitVec 32 := Scalar.select v274 v277 v278
  let c15_i32_201 : BitVec 32 := 15#32
  let v392 : BitVec 1 := Scalar.cmpi .eq v279 c15_i32_201
  let c1_i32_142 : BitVec 32 := 1#32
  let v275 : BitVec 32 := Scalar.addi v158 c1_i32_142
  let v276 : BitVec 32 := Scalar.select v274 v275 v158
  let c1_i32_203 : BitVec 32 := 1#32
  let v395 : BitVec 32 := Scalar.addi v276 c1_i32_203
  let c1_i32_204 : BitVec 32 := 1#32
  let v396 : BitVec 32 := Scalar.addi v279 c1_i32_204
  let v397 : BitVec 32 := Scalar.select v392 v395 v396
  let c15_i32_261 : BitVec 32 := 15#32
  let v510 : BitVec 1 := Scalar.cmpi .eq v397 c15_i32_261
  let c1_i32_202 : BitVec 32 := 1#32
  let v393 : BitVec 32 := Scalar.addi v276 c1_i32_202
  let v394 : BitVec 32 := Scalar.select v392 v393 v276
  let c1_i32_263 : BitVec 32 := 1#32
  let v513 : BitVec 32 := Scalar.addi v394 c1_i32_263
  let c1_i32_264 : BitVec 32 := 1#32
  let v514 : BitVec 32 := Scalar.addi v397 c1_i32_264
  let v515 : BitVec 32 := Scalar.select v510 v513 v514
  let c15_i32_321 : BitVec 32 := 15#32
  let v628 : BitVec 1 := Scalar.cmpi .eq v515 c15_i32_321
  let c1_i32_262 : BitVec 32 := 1#32
  let v511 : BitVec 32 := Scalar.addi v394 c1_i32_262
  let v512 : BitVec 32 := Scalar.select v510 v511 v394
  let c1_i32_323 : BitVec 32 := 1#32
  let v631 : BitVec 32 := Scalar.addi v512 c1_i32_323
  let c1_i32_324 : BitVec 32 := 1#32
  let v632 : BitVec 32 := Scalar.addi v515 c1_i32_324
  let v633 : BitVec 32 := Scalar.select v628 v631 v632
  let c15_i32_381 : BitVec 32 := 15#32
  let v746 : BitVec 1 := Scalar.cmpi .eq v633 c15_i32_381
  let c1_i32_322 : BitVec 32 := 1#32
  let v629 : BitVec 32 := Scalar.addi v512 c1_i32_322
  let v630 : BitVec 32 := Scalar.select v628 v629 v512
  let c1_i32_382 : BitVec 32 := 1#32
  let v747 : BitVec 32 := Scalar.addi v630 c1_i32_382
  let v748 : BitVec 32 := Scalar.select v746 v747 v630
  let c512_i32_470 : BitVec 32 := 512#32
  let v915 : BitVec 32 := Scalar.muli v748 c512_i32_470
  v915
def k0_off68 (arg18 : BitVec 32) (arg19 : BitVec 32) : Fin 2 → Nat :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c15_i32_141 : BitVec 32 := 15#32
  let v274 : BitVec 1 := Scalar.cmpi .eq v161 c15_i32_141
  let c1_i32_82 : BitVec 32 := 1#32
  let v157 : BitVec 32 := Scalar.addi v40 c1_i32_82
  let v158 : BitVec 32 := Scalar.select v156 v157 v40
  let c1_i32_143 : BitVec 32 := 1#32
  let v277 : BitVec 32 := Scalar.addi v158 c1_i32_143
  let c1_i32_144 : BitVec 32 := 1#32
  let v278 : BitVec 32 := Scalar.addi v161 c1_i32_144
  let v279 : BitVec 32 := Scalar.select v274 v277 v278
  let c15_i32_201 : BitVec 32 := 15#32
  let v392 : BitVec 1 := Scalar.cmpi .eq v279 c15_i32_201
  let c1_i32_142 : BitVec 32 := 1#32
  let v275 : BitVec 32 := Scalar.addi v158 c1_i32_142
  let v276 : BitVec 32 := Scalar.select v274 v275 v158
  let c1_i32_203 : BitVec 32 := 1#32
  let v395 : BitVec 32 := Scalar.addi v276 c1_i32_203
  let c1_i32_204 : BitVec 32 := 1#32
  let v396 : BitVec 32 := Scalar.addi v279 c1_i32_204
  let v397 : BitVec 32 := Scalar.select v392 v395 v396
  let c15_i32_261 : BitVec 32 := 15#32
  let v510 : BitVec 1 := Scalar.cmpi .eq v397 c15_i32_261
  let c1_i32_202 : BitVec 32 := 1#32
  let v393 : BitVec 32 := Scalar.addi v276 c1_i32_202
  let v394 : BitVec 32 := Scalar.select v392 v393 v276
  let c1_i32_263 : BitVec 32 := 1#32
  let v513 : BitVec 32 := Scalar.addi v394 c1_i32_263
  let c1_i32_264 : BitVec 32 := 1#32
  let v514 : BitVec 32 := Scalar.addi v397 c1_i32_264
  let v515 : BitVec 32 := Scalar.select v510 v513 v514
  let c15_i32_321 : BitVec 32 := 15#32
  let v628 : BitVec 1 := Scalar.cmpi .eq v515 c15_i32_321
  let c1_i32_262 : BitVec 32 := 1#32
  let v511 : BitVec 32 := Scalar.addi v394 c1_i32_262
  let v512 : BitVec 32 := Scalar.select v510 v511 v394
  let c1_i32_323 : BitVec 32 := 1#32
  let v631 : BitVec 32 := Scalar.addi v512 c1_i32_323
  let c1_i32_324 : BitVec 32 := 1#32
  let v632 : BitVec 32 := Scalar.addi v515 c1_i32_324
  let v633 : BitVec 32 := Scalar.select v628 v631 v632
  let c15_i32_381 : BitVec 32 := 15#32
  let v746 : BitVec 1 := Scalar.cmpi .eq v633 c15_i32_381
  let c1_i32_322 : BitVec 32 := 1#32
  let v629 : BitVec 32 := Scalar.addi v512 c1_i32_322
  let v630 : BitVec 32 := Scalar.select v628 v629 v512
  let c1_i32_382 : BitVec 32 := 1#32
  let v747 : BitVec 32 := Scalar.addi v630 c1_i32_382
  let v748 : BitVec 32 := Scalar.select v746 v747 v630
  let c512_i32_470 : BitVec 32 := 512#32
  let v915 : BitVec 32 := Scalar.muli v748 c512_i32_470
  let v916 : BitVec 32 := v915
  let v917 : Index := Scalar.indexCast v916
  let c0_471 : Index := 0#32
  ![v917.toNat, 0]
def k0_mult95 (arg18 : BitVec 32) (arg19 : BitVec 32) : BitVec 32 :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c15_i32_141 : BitVec 32 := 15#32
  let v274 : BitVec 1 := Scalar.cmpi .eq v161 c15_i32_141
  let c1_i32_82 : BitVec 32 := 1#32
  let v157 : BitVec 32 := Scalar.addi v40 c1_i32_82
  let v158 : BitVec 32 := Scalar.select v156 v157 v40
  let c1_i32_143 : BitVec 32 := 1#32
  let v277 : BitVec 32 := Scalar.addi v158 c1_i32_143
  let c1_i32_144 : BitVec 32 := 1#32
  let v278 : BitVec 32 := Scalar.addi v161 c1_i32_144
  let v279 : BitVec 32 := Scalar.select v274 v277 v278
  let c15_i32_201 : BitVec 32 := 15#32
  let v392 : BitVec 1 := Scalar.cmpi .eq v279 c15_i32_201
  let c1_i32_142 : BitVec 32 := 1#32
  let v275 : BitVec 32 := Scalar.addi v158 c1_i32_142
  let v276 : BitVec 32 := Scalar.select v274 v275 v158
  let c1_i32_203 : BitVec 32 := 1#32
  let v395 : BitVec 32 := Scalar.addi v276 c1_i32_203
  let c1_i32_204 : BitVec 32 := 1#32
  let v396 : BitVec 32 := Scalar.addi v279 c1_i32_204
  let v397 : BitVec 32 := Scalar.select v392 v395 v396
  let c15_i32_261 : BitVec 32 := 15#32
  let v510 : BitVec 1 := Scalar.cmpi .eq v397 c15_i32_261
  let c1_i32_202 : BitVec 32 := 1#32
  let v393 : BitVec 32 := Scalar.addi v276 c1_i32_202
  let v394 : BitVec 32 := Scalar.select v392 v393 v276
  let c1_i32_263 : BitVec 32 := 1#32
  let v513 : BitVec 32 := Scalar.addi v394 c1_i32_263
  let c1_i32_264 : BitVec 32 := 1#32
  let v514 : BitVec 32 := Scalar.addi v397 c1_i32_264
  let v515 : BitVec 32 := Scalar.select v510 v513 v514
  let c15_i32_321 : BitVec 32 := 15#32
  let v628 : BitVec 1 := Scalar.cmpi .eq v515 c15_i32_321
  let c1_i32_262 : BitVec 32 := 1#32
  let v511 : BitVec 32 := Scalar.addi v394 c1_i32_262
  let v512 : BitVec 32 := Scalar.select v510 v511 v394
  let c1_i32_323 : BitVec 32 := 1#32
  let v631 : BitVec 32 := Scalar.addi v512 c1_i32_323
  let c1_i32_324 : BitVec 32 := 1#32
  let v632 : BitVec 32 := Scalar.addi v515 c1_i32_324
  let v633 : BitVec 32 := Scalar.select v628 v631 v632
  let c15_i32_381 : BitVec 32 := 15#32
  let v746 : BitVec 1 := Scalar.cmpi .eq v633 c15_i32_381
  let c1_i32_322 : BitVec 32 := 1#32
  let v629 : BitVec 32 := Scalar.addi v512 c1_i32_322
  let v630 : BitVec 32 := Scalar.select v628 v629 v512
  let c1_i32_382 : BitVec 32 := 1#32
  let v747 : BitVec 32 := Scalar.addi v630 c1_i32_382
  let v748 : BitVec 32 := Scalar.select v746 v747 v630
  let c512_i32_478 : BitVec 32 := 512#32
  let v933 : BitVec 32 := Scalar.muli v748 c512_i32_478
  v933
def k0_mult96 (arg18 : BitVec 32) (arg19 : BitVec 32) : BitVec 32 :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c15_i32_141 : BitVec 32 := 15#32
  let v274 : BitVec 1 := Scalar.cmpi .eq v161 c15_i32_141
  let c1_i32_82 : BitVec 32 := 1#32
  let v157 : BitVec 32 := Scalar.addi v40 c1_i32_82
  let v158 : BitVec 32 := Scalar.select v156 v157 v40
  let c1_i32_143 : BitVec 32 := 1#32
  let v277 : BitVec 32 := Scalar.addi v158 c1_i32_143
  let c1_i32_144 : BitVec 32 := 1#32
  let v278 : BitVec 32 := Scalar.addi v161 c1_i32_144
  let v279 : BitVec 32 := Scalar.select v274 v277 v278
  let c15_i32_201 : BitVec 32 := 15#32
  let v392 : BitVec 1 := Scalar.cmpi .eq v279 c15_i32_201
  let c1_i32_142 : BitVec 32 := 1#32
  let v275 : BitVec 32 := Scalar.addi v158 c1_i32_142
  let v276 : BitVec 32 := Scalar.select v274 v275 v158
  let c1_i32_203 : BitVec 32 := 1#32
  let v395 : BitVec 32 := Scalar.addi v276 c1_i32_203
  let c1_i32_204 : BitVec 32 := 1#32
  let v396 : BitVec 32 := Scalar.addi v279 c1_i32_204
  let v397 : BitVec 32 := Scalar.select v392 v395 v396
  let c15_i32_261 : BitVec 32 := 15#32
  let v510 : BitVec 1 := Scalar.cmpi .eq v397 c15_i32_261
  let c1_i32_202 : BitVec 32 := 1#32
  let v393 : BitVec 32 := Scalar.addi v276 c1_i32_202
  let v394 : BitVec 32 := Scalar.select v392 v393 v276
  let c1_i32_263 : BitVec 32 := 1#32
  let v513 : BitVec 32 := Scalar.addi v394 c1_i32_263
  let c1_i32_264 : BitVec 32 := 1#32
  let v514 : BitVec 32 := Scalar.addi v397 c1_i32_264
  let v515 : BitVec 32 := Scalar.select v510 v513 v514
  let c15_i32_321 : BitVec 32 := 15#32
  let v628 : BitVec 1 := Scalar.cmpi .eq v515 c15_i32_321
  let c1_i32_262 : BitVec 32 := 1#32
  let v511 : BitVec 32 := Scalar.addi v394 c1_i32_262
  let v512 : BitVec 32 := Scalar.select v510 v511 v394
  let c1_i32_323 : BitVec 32 := 1#32
  let v631 : BitVec 32 := Scalar.addi v512 c1_i32_323
  let c1_i32_324 : BitVec 32 := 1#32
  let v632 : BitVec 32 := Scalar.addi v515 c1_i32_324
  let v633 : BitVec 32 := Scalar.select v628 v631 v632
  let c15_i32_381 : BitVec 32 := 15#32
  let v746 : BitVec 1 := Scalar.cmpi .eq v633 c15_i32_381
  let c1_i32_322 : BitVec 32 := 1#32
  let v629 : BitVec 32 := Scalar.addi v512 c1_i32_322
  let v630 : BitVec 32 := Scalar.select v628 v629 v512
  let c1_i32_382 : BitVec 32 := 1#32
  let v747 : BitVec 32 := Scalar.addi v630 c1_i32_382
  let v748 : BitVec 32 := Scalar.select v746 v747 v630
  let c512_i32_480 : BitVec 32 := 512#32
  let v939 : BitVec 32 := Scalar.muli v748 c512_i32_480
  v939
def k0_off69 (arg18 : BitVec 32) (arg19 : BitVec 32) : Fin 2 → Nat :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c15_i32_141 : BitVec 32 := 15#32
  let v274 : BitVec 1 := Scalar.cmpi .eq v161 c15_i32_141
  let c1_i32_82 : BitVec 32 := 1#32
  let v157 : BitVec 32 := Scalar.addi v40 c1_i32_82
  let v158 : BitVec 32 := Scalar.select v156 v157 v40
  let c1_i32_143 : BitVec 32 := 1#32
  let v277 : BitVec 32 := Scalar.addi v158 c1_i32_143
  let c1_i32_144 : BitVec 32 := 1#32
  let v278 : BitVec 32 := Scalar.addi v161 c1_i32_144
  let v279 : BitVec 32 := Scalar.select v274 v277 v278
  let c15_i32_201 : BitVec 32 := 15#32
  let v392 : BitVec 1 := Scalar.cmpi .eq v279 c15_i32_201
  let c1_i32_142 : BitVec 32 := 1#32
  let v275 : BitVec 32 := Scalar.addi v158 c1_i32_142
  let v276 : BitVec 32 := Scalar.select v274 v275 v158
  let c1_i32_203 : BitVec 32 := 1#32
  let v395 : BitVec 32 := Scalar.addi v276 c1_i32_203
  let c1_i32_204 : BitVec 32 := 1#32
  let v396 : BitVec 32 := Scalar.addi v279 c1_i32_204
  let v397 : BitVec 32 := Scalar.select v392 v395 v396
  let c15_i32_261 : BitVec 32 := 15#32
  let v510 : BitVec 1 := Scalar.cmpi .eq v397 c15_i32_261
  let c1_i32_202 : BitVec 32 := 1#32
  let v393 : BitVec 32 := Scalar.addi v276 c1_i32_202
  let v394 : BitVec 32 := Scalar.select v392 v393 v276
  let c1_i32_263 : BitVec 32 := 1#32
  let v513 : BitVec 32 := Scalar.addi v394 c1_i32_263
  let c1_i32_264 : BitVec 32 := 1#32
  let v514 : BitVec 32 := Scalar.addi v397 c1_i32_264
  let v515 : BitVec 32 := Scalar.select v510 v513 v514
  let c15_i32_321 : BitVec 32 := 15#32
  let v628 : BitVec 1 := Scalar.cmpi .eq v515 c15_i32_321
  let c1_i32_262 : BitVec 32 := 1#32
  let v511 : BitVec 32 := Scalar.addi v394 c1_i32_262
  let v512 : BitVec 32 := Scalar.select v510 v511 v394
  let c1_i32_323 : BitVec 32 := 1#32
  let v631 : BitVec 32 := Scalar.addi v512 c1_i32_323
  let c1_i32_324 : BitVec 32 := 1#32
  let v632 : BitVec 32 := Scalar.addi v515 c1_i32_324
  let v633 : BitVec 32 := Scalar.select v628 v631 v632
  let c15_i32_381 : BitVec 32 := 15#32
  let v746 : BitVec 1 := Scalar.cmpi .eq v633 c15_i32_381
  let c1_i32_322 : BitVec 32 := 1#32
  let v629 : BitVec 32 := Scalar.addi v512 c1_i32_322
  let v630 : BitVec 32 := Scalar.select v628 v629 v512
  let c1_i32_382 : BitVec 32 := 1#32
  let v747 : BitVec 32 := Scalar.addi v630 c1_i32_382
  let v748 : BitVec 32 := Scalar.select v746 v747 v630
  let c512_i32_480 : BitVec 32 := 512#32
  let v939 : BitVec 32 := Scalar.muli v748 c512_i32_480
  let v940 : BitVec 32 := v939
  let v941 : Index := Scalar.indexCast v940
  let c0_481 : Index := 0#32
  ![v941.toNat, 0]
def k0_mult97 (arg18 : BitVec 32) (arg19 : BitVec 32) : BitVec 32 :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c15_i32_141 : BitVec 32 := 15#32
  let v274 : BitVec 1 := Scalar.cmpi .eq v161 c15_i32_141
  let c1_i32_82 : BitVec 32 := 1#32
  let v157 : BitVec 32 := Scalar.addi v40 c1_i32_82
  let v158 : BitVec 32 := Scalar.select v156 v157 v40
  let c1_i32_143 : BitVec 32 := 1#32
  let v277 : BitVec 32 := Scalar.addi v158 c1_i32_143
  let c1_i32_144 : BitVec 32 := 1#32
  let v278 : BitVec 32 := Scalar.addi v161 c1_i32_144
  let v279 : BitVec 32 := Scalar.select v274 v277 v278
  let c15_i32_201 : BitVec 32 := 15#32
  let v392 : BitVec 1 := Scalar.cmpi .eq v279 c15_i32_201
  let c1_i32_142 : BitVec 32 := 1#32
  let v275 : BitVec 32 := Scalar.addi v158 c1_i32_142
  let v276 : BitVec 32 := Scalar.select v274 v275 v158
  let c1_i32_203 : BitVec 32 := 1#32
  let v395 : BitVec 32 := Scalar.addi v276 c1_i32_203
  let c1_i32_204 : BitVec 32 := 1#32
  let v396 : BitVec 32 := Scalar.addi v279 c1_i32_204
  let v397 : BitVec 32 := Scalar.select v392 v395 v396
  let c15_i32_261 : BitVec 32 := 15#32
  let v510 : BitVec 1 := Scalar.cmpi .eq v397 c15_i32_261
  let c1_i32_202 : BitVec 32 := 1#32
  let v393 : BitVec 32 := Scalar.addi v276 c1_i32_202
  let v394 : BitVec 32 := Scalar.select v392 v393 v276
  let c1_i32_263 : BitVec 32 := 1#32
  let v513 : BitVec 32 := Scalar.addi v394 c1_i32_263
  let c1_i32_264 : BitVec 32 := 1#32
  let v514 : BitVec 32 := Scalar.addi v397 c1_i32_264
  let v515 : BitVec 32 := Scalar.select v510 v513 v514
  let c15_i32_321 : BitVec 32 := 15#32
  let v628 : BitVec 1 := Scalar.cmpi .eq v515 c15_i32_321
  let c1_i32_262 : BitVec 32 := 1#32
  let v511 : BitVec 32 := Scalar.addi v394 c1_i32_262
  let v512 : BitVec 32 := Scalar.select v510 v511 v394
  let c1_i32_323 : BitVec 32 := 1#32
  let v631 : BitVec 32 := Scalar.addi v512 c1_i32_323
  let c1_i32_324 : BitVec 32 := 1#32
  let v632 : BitVec 32 := Scalar.addi v515 c1_i32_324
  let v633 : BitVec 32 := Scalar.select v628 v631 v632
  let c15_i32_381 : BitVec 32 := 15#32
  let v746 : BitVec 1 := Scalar.cmpi .eq v633 c15_i32_381
  let c1_i32_322 : BitVec 32 := 1#32
  let v629 : BitVec 32 := Scalar.addi v512 c1_i32_322
  let v630 : BitVec 32 := Scalar.select v628 v629 v512
  let c1_i32_383 : BitVec 32 := 1#32
  let v749 : BitVec 32 := Scalar.addi v630 c1_i32_383
  let c1_i32_384 : BitVec 32 := 1#32
  let v750 : BitVec 32 := Scalar.addi v633 c1_i32_384
  let v751 : BitVec 32 := Scalar.select v746 v749 v750
  let c15_i32_441 : BitVec 32 := 15#32
  let v864 : BitVec 1 := Scalar.cmpi .eq v751 c15_i32_441
  let c1_i32_382 : BitVec 32 := 1#32
  let v747 : BitVec 32 := Scalar.addi v630 c1_i32_382
  let v748 : BitVec 32 := Scalar.select v746 v747 v630
  let c1_i32_442 : BitVec 32 := 1#32
  let v865 : BitVec 32 := Scalar.addi v748 c1_i32_442
  let v866 : BitVec 32 := Scalar.select v864 v865 v748
  let c15_i32_482 : BitVec 32 := 15#32
  let v943 : BitVec 32 := Scalar.minsi v866 c15_i32_482
  let c512_i32_484 : BitVec 32 := 512#32
  let v945 : BitVec 32 := Scalar.muli v943 c512_i32_484
  v945
def k0_off70 (arg18 : BitVec 32) (arg19 : BitVec 32) : Fin 2 → Nat :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c15_i32_141 : BitVec 32 := 15#32
  let v274 : BitVec 1 := Scalar.cmpi .eq v161 c15_i32_141
  let c1_i32_82 : BitVec 32 := 1#32
  let v157 : BitVec 32 := Scalar.addi v40 c1_i32_82
  let v158 : BitVec 32 := Scalar.select v156 v157 v40
  let c1_i32_143 : BitVec 32 := 1#32
  let v277 : BitVec 32 := Scalar.addi v158 c1_i32_143
  let c1_i32_144 : BitVec 32 := 1#32
  let v278 : BitVec 32 := Scalar.addi v161 c1_i32_144
  let v279 : BitVec 32 := Scalar.select v274 v277 v278
  let c15_i32_201 : BitVec 32 := 15#32
  let v392 : BitVec 1 := Scalar.cmpi .eq v279 c15_i32_201
  let c1_i32_142 : BitVec 32 := 1#32
  let v275 : BitVec 32 := Scalar.addi v158 c1_i32_142
  let v276 : BitVec 32 := Scalar.select v274 v275 v158
  let c1_i32_203 : BitVec 32 := 1#32
  let v395 : BitVec 32 := Scalar.addi v276 c1_i32_203
  let c1_i32_204 : BitVec 32 := 1#32
  let v396 : BitVec 32 := Scalar.addi v279 c1_i32_204
  let v397 : BitVec 32 := Scalar.select v392 v395 v396
  let c15_i32_261 : BitVec 32 := 15#32
  let v510 : BitVec 1 := Scalar.cmpi .eq v397 c15_i32_261
  let c1_i32_202 : BitVec 32 := 1#32
  let v393 : BitVec 32 := Scalar.addi v276 c1_i32_202
  let v394 : BitVec 32 := Scalar.select v392 v393 v276
  let c1_i32_263 : BitVec 32 := 1#32
  let v513 : BitVec 32 := Scalar.addi v394 c1_i32_263
  let c1_i32_264 : BitVec 32 := 1#32
  let v514 : BitVec 32 := Scalar.addi v397 c1_i32_264
  let v515 : BitVec 32 := Scalar.select v510 v513 v514
  let c15_i32_321 : BitVec 32 := 15#32
  let v628 : BitVec 1 := Scalar.cmpi .eq v515 c15_i32_321
  let c1_i32_262 : BitVec 32 := 1#32
  let v511 : BitVec 32 := Scalar.addi v394 c1_i32_262
  let v512 : BitVec 32 := Scalar.select v510 v511 v394
  let c1_i32_323 : BitVec 32 := 1#32
  let v631 : BitVec 32 := Scalar.addi v512 c1_i32_323
  let c1_i32_324 : BitVec 32 := 1#32
  let v632 : BitVec 32 := Scalar.addi v515 c1_i32_324
  let v633 : BitVec 32 := Scalar.select v628 v631 v632
  let c15_i32_381 : BitVec 32 := 15#32
  let v746 : BitVec 1 := Scalar.cmpi .eq v633 c15_i32_381
  let c1_i32_322 : BitVec 32 := 1#32
  let v629 : BitVec 32 := Scalar.addi v512 c1_i32_322
  let v630 : BitVec 32 := Scalar.select v628 v629 v512
  let c1_i32_383 : BitVec 32 := 1#32
  let v749 : BitVec 32 := Scalar.addi v630 c1_i32_383
  let c1_i32_384 : BitVec 32 := 1#32
  let v750 : BitVec 32 := Scalar.addi v633 c1_i32_384
  let v751 : BitVec 32 := Scalar.select v746 v749 v750
  let c15_i32_441 : BitVec 32 := 15#32
  let v864 : BitVec 1 := Scalar.cmpi .eq v751 c15_i32_441
  let c1_i32_382 : BitVec 32 := 1#32
  let v747 : BitVec 32 := Scalar.addi v630 c1_i32_382
  let v748 : BitVec 32 := Scalar.select v746 v747 v630
  let c1_i32_442 : BitVec 32 := 1#32
  let v865 : BitVec 32 := Scalar.addi v748 c1_i32_442
  let v866 : BitVec 32 := Scalar.select v864 v865 v748
  let c15_i32_482 : BitVec 32 := 15#32
  let v943 : BitVec 32 := Scalar.minsi v866 c15_i32_482
  let c512_i32_484 : BitVec 32 := 512#32
  let v945 : BitVec 32 := Scalar.muli v943 c512_i32_484
  let v946 : BitVec 32 := v945
  let v947 : Index := Scalar.indexCast v946
  let c0_485 : Index := 0#32
  ![v947.toNat, 0]
def k0_mult98 (arg18 : BitVec 32) (arg19 : BitVec 32) : BitVec 32 :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c15_i32_141 : BitVec 32 := 15#32
  let v274 : BitVec 1 := Scalar.cmpi .eq v161 c15_i32_141
  let c1_i32_82 : BitVec 32 := 1#32
  let v157 : BitVec 32 := Scalar.addi v40 c1_i32_82
  let v158 : BitVec 32 := Scalar.select v156 v157 v40
  let c1_i32_143 : BitVec 32 := 1#32
  let v277 : BitVec 32 := Scalar.addi v158 c1_i32_143
  let c1_i32_144 : BitVec 32 := 1#32
  let v278 : BitVec 32 := Scalar.addi v161 c1_i32_144
  let v279 : BitVec 32 := Scalar.select v274 v277 v278
  let c15_i32_201 : BitVec 32 := 15#32
  let v392 : BitVec 1 := Scalar.cmpi .eq v279 c15_i32_201
  let c1_i32_142 : BitVec 32 := 1#32
  let v275 : BitVec 32 := Scalar.addi v158 c1_i32_142
  let v276 : BitVec 32 := Scalar.select v274 v275 v158
  let c1_i32_203 : BitVec 32 := 1#32
  let v395 : BitVec 32 := Scalar.addi v276 c1_i32_203
  let c1_i32_204 : BitVec 32 := 1#32
  let v396 : BitVec 32 := Scalar.addi v279 c1_i32_204
  let v397 : BitVec 32 := Scalar.select v392 v395 v396
  let c15_i32_261 : BitVec 32 := 15#32
  let v510 : BitVec 1 := Scalar.cmpi .eq v397 c15_i32_261
  let c1_i32_202 : BitVec 32 := 1#32
  let v393 : BitVec 32 := Scalar.addi v276 c1_i32_202
  let v394 : BitVec 32 := Scalar.select v392 v393 v276
  let c1_i32_263 : BitVec 32 := 1#32
  let v513 : BitVec 32 := Scalar.addi v394 c1_i32_263
  let c1_i32_264 : BitVec 32 := 1#32
  let v514 : BitVec 32 := Scalar.addi v397 c1_i32_264
  let v515 : BitVec 32 := Scalar.select v510 v513 v514
  let c15_i32_321 : BitVec 32 := 15#32
  let v628 : BitVec 1 := Scalar.cmpi .eq v515 c15_i32_321
  let c1_i32_262 : BitVec 32 := 1#32
  let v511 : BitVec 32 := Scalar.addi v394 c1_i32_262
  let v512 : BitVec 32 := Scalar.select v510 v511 v394
  let c1_i32_323 : BitVec 32 := 1#32
  let v631 : BitVec 32 := Scalar.addi v512 c1_i32_323
  let c1_i32_324 : BitVec 32 := 1#32
  let v632 : BitVec 32 := Scalar.addi v515 c1_i32_324
  let v633 : BitVec 32 := Scalar.select v628 v631 v632
  let c15_i32_381 : BitVec 32 := 15#32
  let v746 : BitVec 1 := Scalar.cmpi .eq v633 c15_i32_381
  let c1_i32_322 : BitVec 32 := 1#32
  let v629 : BitVec 32 := Scalar.addi v512 c1_i32_322
  let v630 : BitVec 32 := Scalar.select v628 v629 v512
  let c1_i32_383 : BitVec 32 := 1#32
  let v749 : BitVec 32 := Scalar.addi v630 c1_i32_383
  let c1_i32_384 : BitVec 32 := 1#32
  let v750 : BitVec 32 := Scalar.addi v633 c1_i32_384
  let v751 : BitVec 32 := Scalar.select v746 v749 v750
  let c15_i32_441 : BitVec 32 := 15#32
  let v864 : BitVec 1 := Scalar.cmpi .eq v751 c15_i32_441
  let c1_i32_382 : BitVec 32 := 1#32
  let v747 : BitVec 32 := Scalar.addi v630 c1_i32_382
  let v748 : BitVec 32 := Scalar.select v746 v747 v630
  let c1_i32_443 : BitVec 32 := 1#32
  let v867 : BitVec 32 := Scalar.addi v748 c1_i32_443
  let c1_i32_444 : BitVec 32 := 1#32
  let v868 : BitVec 32 := Scalar.addi v751 c1_i32_444
  let v869 : BitVec 32 := Scalar.select v864 v867 v868
  let c15_i32_483 : BitVec 32 := 15#32
  let v944 : BitVec 32 := Scalar.minsi v869 c15_i32_483
  let c512_i32_486 : BitVec 32 := 512#32
  let v950 : BitVec 32 := Scalar.muli v944 c512_i32_486
  v950
def k0_off71 (arg18 : BitVec 32) (arg19 : BitVec 32) : Fin 2 → Nat :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c15_i32_141 : BitVec 32 := 15#32
  let v274 : BitVec 1 := Scalar.cmpi .eq v161 c15_i32_141
  let c1_i32_82 : BitVec 32 := 1#32
  let v157 : BitVec 32 := Scalar.addi v40 c1_i32_82
  let v158 : BitVec 32 := Scalar.select v156 v157 v40
  let c1_i32_143 : BitVec 32 := 1#32
  let v277 : BitVec 32 := Scalar.addi v158 c1_i32_143
  let c1_i32_144 : BitVec 32 := 1#32
  let v278 : BitVec 32 := Scalar.addi v161 c1_i32_144
  let v279 : BitVec 32 := Scalar.select v274 v277 v278
  let c15_i32_201 : BitVec 32 := 15#32
  let v392 : BitVec 1 := Scalar.cmpi .eq v279 c15_i32_201
  let c1_i32_142 : BitVec 32 := 1#32
  let v275 : BitVec 32 := Scalar.addi v158 c1_i32_142
  let v276 : BitVec 32 := Scalar.select v274 v275 v158
  let c1_i32_203 : BitVec 32 := 1#32
  let v395 : BitVec 32 := Scalar.addi v276 c1_i32_203
  let c1_i32_204 : BitVec 32 := 1#32
  let v396 : BitVec 32 := Scalar.addi v279 c1_i32_204
  let v397 : BitVec 32 := Scalar.select v392 v395 v396
  let c15_i32_261 : BitVec 32 := 15#32
  let v510 : BitVec 1 := Scalar.cmpi .eq v397 c15_i32_261
  let c1_i32_202 : BitVec 32 := 1#32
  let v393 : BitVec 32 := Scalar.addi v276 c1_i32_202
  let v394 : BitVec 32 := Scalar.select v392 v393 v276
  let c1_i32_263 : BitVec 32 := 1#32
  let v513 : BitVec 32 := Scalar.addi v394 c1_i32_263
  let c1_i32_264 : BitVec 32 := 1#32
  let v514 : BitVec 32 := Scalar.addi v397 c1_i32_264
  let v515 : BitVec 32 := Scalar.select v510 v513 v514
  let c15_i32_321 : BitVec 32 := 15#32
  let v628 : BitVec 1 := Scalar.cmpi .eq v515 c15_i32_321
  let c1_i32_262 : BitVec 32 := 1#32
  let v511 : BitVec 32 := Scalar.addi v394 c1_i32_262
  let v512 : BitVec 32 := Scalar.select v510 v511 v394
  let c1_i32_323 : BitVec 32 := 1#32
  let v631 : BitVec 32 := Scalar.addi v512 c1_i32_323
  let c1_i32_324 : BitVec 32 := 1#32
  let v632 : BitVec 32 := Scalar.addi v515 c1_i32_324
  let v633 : BitVec 32 := Scalar.select v628 v631 v632
  let c15_i32_381 : BitVec 32 := 15#32
  let v746 : BitVec 1 := Scalar.cmpi .eq v633 c15_i32_381
  let c1_i32_322 : BitVec 32 := 1#32
  let v629 : BitVec 32 := Scalar.addi v512 c1_i32_322
  let v630 : BitVec 32 := Scalar.select v628 v629 v512
  let c1_i32_383 : BitVec 32 := 1#32
  let v749 : BitVec 32 := Scalar.addi v630 c1_i32_383
  let c1_i32_384 : BitVec 32 := 1#32
  let v750 : BitVec 32 := Scalar.addi v633 c1_i32_384
  let v751 : BitVec 32 := Scalar.select v746 v749 v750
  let c15_i32_441 : BitVec 32 := 15#32
  let v864 : BitVec 1 := Scalar.cmpi .eq v751 c15_i32_441
  let c1_i32_382 : BitVec 32 := 1#32
  let v747 : BitVec 32 := Scalar.addi v630 c1_i32_382
  let v748 : BitVec 32 := Scalar.select v746 v747 v630
  let c1_i32_443 : BitVec 32 := 1#32
  let v867 : BitVec 32 := Scalar.addi v748 c1_i32_443
  let c1_i32_444 : BitVec 32 := 1#32
  let v868 : BitVec 32 := Scalar.addi v751 c1_i32_444
  let v869 : BitVec 32 := Scalar.select v864 v867 v868
  let c15_i32_483 : BitVec 32 := 15#32
  let v944 : BitVec 32 := Scalar.minsi v869 c15_i32_483
  let c512_i32_486 : BitVec 32 := 512#32
  let v950 : BitVec 32 := Scalar.muli v944 c512_i32_486
  let v951 : BitVec 32 := v950
  let v952 : Index := Scalar.indexCast v951
  let c0_487 : Index := 0#32
  ![v952.toNat, 0]
def k0_mult99 (arg18 : BitVec 32) (arg19 : BitVec 32) : BitVec 32 :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c15_i32_141 : BitVec 32 := 15#32
  let v274 : BitVec 1 := Scalar.cmpi .eq v161 c15_i32_141
  let c1_i32_82 : BitVec 32 := 1#32
  let v157 : BitVec 32 := Scalar.addi v40 c1_i32_82
  let v158 : BitVec 32 := Scalar.select v156 v157 v40
  let c1_i32_143 : BitVec 32 := 1#32
  let v277 : BitVec 32 := Scalar.addi v158 c1_i32_143
  let c1_i32_144 : BitVec 32 := 1#32
  let v278 : BitVec 32 := Scalar.addi v161 c1_i32_144
  let v279 : BitVec 32 := Scalar.select v274 v277 v278
  let c15_i32_201 : BitVec 32 := 15#32
  let v392 : BitVec 1 := Scalar.cmpi .eq v279 c15_i32_201
  let c1_i32_142 : BitVec 32 := 1#32
  let v275 : BitVec 32 := Scalar.addi v158 c1_i32_142
  let v276 : BitVec 32 := Scalar.select v274 v275 v158
  let c1_i32_203 : BitVec 32 := 1#32
  let v395 : BitVec 32 := Scalar.addi v276 c1_i32_203
  let c1_i32_204 : BitVec 32 := 1#32
  let v396 : BitVec 32 := Scalar.addi v279 c1_i32_204
  let v397 : BitVec 32 := Scalar.select v392 v395 v396
  let c15_i32_261 : BitVec 32 := 15#32
  let v510 : BitVec 1 := Scalar.cmpi .eq v397 c15_i32_261
  let c1_i32_202 : BitVec 32 := 1#32
  let v393 : BitVec 32 := Scalar.addi v276 c1_i32_202
  let v394 : BitVec 32 := Scalar.select v392 v393 v276
  let c1_i32_263 : BitVec 32 := 1#32
  let v513 : BitVec 32 := Scalar.addi v394 c1_i32_263
  let c1_i32_264 : BitVec 32 := 1#32
  let v514 : BitVec 32 := Scalar.addi v397 c1_i32_264
  let v515 : BitVec 32 := Scalar.select v510 v513 v514
  let c15_i32_321 : BitVec 32 := 15#32
  let v628 : BitVec 1 := Scalar.cmpi .eq v515 c15_i32_321
  let c1_i32_262 : BitVec 32 := 1#32
  let v511 : BitVec 32 := Scalar.addi v394 c1_i32_262
  let v512 : BitVec 32 := Scalar.select v510 v511 v394
  let c1_i32_323 : BitVec 32 := 1#32
  let v631 : BitVec 32 := Scalar.addi v512 c1_i32_323
  let c1_i32_324 : BitVec 32 := 1#32
  let v632 : BitVec 32 := Scalar.addi v515 c1_i32_324
  let v633 : BitVec 32 := Scalar.select v628 v631 v632
  let c15_i32_381 : BitVec 32 := 15#32
  let v746 : BitVec 1 := Scalar.cmpi .eq v633 c15_i32_381
  let c1_i32_322 : BitVec 32 := 1#32
  let v629 : BitVec 32 := Scalar.addi v512 c1_i32_322
  let v630 : BitVec 32 := Scalar.select v628 v629 v512
  let c1_i32_383 : BitVec 32 := 1#32
  let v749 : BitVec 32 := Scalar.addi v630 c1_i32_383
  let c1_i32_384 : BitVec 32 := 1#32
  let v750 : BitVec 32 := Scalar.addi v633 c1_i32_384
  let v751 : BitVec 32 := Scalar.select v746 v749 v750
  let c15_i32_441 : BitVec 32 := 15#32
  let v864 : BitVec 1 := Scalar.cmpi .eq v751 c15_i32_441
  let c1_i32_382 : BitVec 32 := 1#32
  let v747 : BitVec 32 := Scalar.addi v630 c1_i32_382
  let v748 : BitVec 32 := Scalar.select v746 v747 v630
  let c1_i32_442 : BitVec 32 := 1#32
  let v865 : BitVec 32 := Scalar.addi v748 c1_i32_442
  let v866 : BitVec 32 := Scalar.select v864 v865 v748
  let c15_i32_482 : BitVec 32 := 15#32
  let v943 : BitVec 32 := Scalar.minsi v866 c15_i32_482
  let c512_i32_493 : BitVec 32 := 512#32
  let v968 : BitVec 32 := Scalar.muli v943 c512_i32_493
  v968
def k0_off72 (arg18 : BitVec 32) (arg19 : BitVec 32) : Fin 2 → Nat :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c15_i32_141 : BitVec 32 := 15#32
  let v274 : BitVec 1 := Scalar.cmpi .eq v161 c15_i32_141
  let c1_i32_82 : BitVec 32 := 1#32
  let v157 : BitVec 32 := Scalar.addi v40 c1_i32_82
  let v158 : BitVec 32 := Scalar.select v156 v157 v40
  let c1_i32_143 : BitVec 32 := 1#32
  let v277 : BitVec 32 := Scalar.addi v158 c1_i32_143
  let c1_i32_144 : BitVec 32 := 1#32
  let v278 : BitVec 32 := Scalar.addi v161 c1_i32_144
  let v279 : BitVec 32 := Scalar.select v274 v277 v278
  let c15_i32_201 : BitVec 32 := 15#32
  let v392 : BitVec 1 := Scalar.cmpi .eq v279 c15_i32_201
  let c1_i32_142 : BitVec 32 := 1#32
  let v275 : BitVec 32 := Scalar.addi v158 c1_i32_142
  let v276 : BitVec 32 := Scalar.select v274 v275 v158
  let c1_i32_203 : BitVec 32 := 1#32
  let v395 : BitVec 32 := Scalar.addi v276 c1_i32_203
  let c1_i32_204 : BitVec 32 := 1#32
  let v396 : BitVec 32 := Scalar.addi v279 c1_i32_204
  let v397 : BitVec 32 := Scalar.select v392 v395 v396
  let c15_i32_261 : BitVec 32 := 15#32
  let v510 : BitVec 1 := Scalar.cmpi .eq v397 c15_i32_261
  let c1_i32_202 : BitVec 32 := 1#32
  let v393 : BitVec 32 := Scalar.addi v276 c1_i32_202
  let v394 : BitVec 32 := Scalar.select v392 v393 v276
  let c1_i32_263 : BitVec 32 := 1#32
  let v513 : BitVec 32 := Scalar.addi v394 c1_i32_263
  let c1_i32_264 : BitVec 32 := 1#32
  let v514 : BitVec 32 := Scalar.addi v397 c1_i32_264
  let v515 : BitVec 32 := Scalar.select v510 v513 v514
  let c15_i32_321 : BitVec 32 := 15#32
  let v628 : BitVec 1 := Scalar.cmpi .eq v515 c15_i32_321
  let c1_i32_262 : BitVec 32 := 1#32
  let v511 : BitVec 32 := Scalar.addi v394 c1_i32_262
  let v512 : BitVec 32 := Scalar.select v510 v511 v394
  let c1_i32_323 : BitVec 32 := 1#32
  let v631 : BitVec 32 := Scalar.addi v512 c1_i32_323
  let c1_i32_324 : BitVec 32 := 1#32
  let v632 : BitVec 32 := Scalar.addi v515 c1_i32_324
  let v633 : BitVec 32 := Scalar.select v628 v631 v632
  let c15_i32_381 : BitVec 32 := 15#32
  let v746 : BitVec 1 := Scalar.cmpi .eq v633 c15_i32_381
  let c1_i32_322 : BitVec 32 := 1#32
  let v629 : BitVec 32 := Scalar.addi v512 c1_i32_322
  let v630 : BitVec 32 := Scalar.select v628 v629 v512
  let c1_i32_383 : BitVec 32 := 1#32
  let v749 : BitVec 32 := Scalar.addi v630 c1_i32_383
  let c1_i32_384 : BitVec 32 := 1#32
  let v750 : BitVec 32 := Scalar.addi v633 c1_i32_384
  let v751 : BitVec 32 := Scalar.select v746 v749 v750
  let c15_i32_441 : BitVec 32 := 15#32
  let v864 : BitVec 1 := Scalar.cmpi .eq v751 c15_i32_441
  let c1_i32_382 : BitVec 32 := 1#32
  let v747 : BitVec 32 := Scalar.addi v630 c1_i32_382
  let v748 : BitVec 32 := Scalar.select v746 v747 v630
  let c1_i32_442 : BitVec 32 := 1#32
  let v865 : BitVec 32 := Scalar.addi v748 c1_i32_442
  let v866 : BitVec 32 := Scalar.select v864 v865 v748
  let c15_i32_482 : BitVec 32 := 15#32
  let v943 : BitVec 32 := Scalar.minsi v866 c15_i32_482
  let c512_i32_493 : BitVec 32 := 512#32
  let v968 : BitVec 32 := Scalar.muli v943 c512_i32_493
  let v969 : BitVec 32 := v968
  let v970 : Index := Scalar.indexCast v969
  let c0_494 : Index := 0#32
  ![v970.toNat, 0]
def k0_mult100 (arg18 : BitVec 32) (arg19 : BitVec 32) : BitVec 32 :=
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c15_i32_141 : BitVec 32 := 15#32
  let v274 : BitVec 1 := Scalar.cmpi .eq v161 c15_i32_141
  let c1_i32_82 : BitVec 32 := 1#32
  let v157 : BitVec 32 := Scalar.addi v40 c1_i32_82
  let v158 : BitVec 32 := Scalar.select v156 v157 v40
  let c1_i32_143 : BitVec 32 := 1#32
  let v277 : BitVec 32 := Scalar.addi v158 c1_i32_143
  let c1_i32_144 : BitVec 32 := 1#32
  let v278 : BitVec 32 := Scalar.addi v161 c1_i32_144
  let v279 : BitVec 32 := Scalar.select v274 v277 v278
  let c15_i32_201 : BitVec 32 := 15#32
  let v392 : BitVec 1 := Scalar.cmpi .eq v279 c15_i32_201
  let c1_i32_142 : BitVec 32 := 1#32
  let v275 : BitVec 32 := Scalar.addi v158 c1_i32_142
  let v276 : BitVec 32 := Scalar.select v274 v275 v158
  let c1_i32_203 : BitVec 32 := 1#32
  let v395 : BitVec 32 := Scalar.addi v276 c1_i32_203
  let c1_i32_204 : BitVec 32 := 1#32
  let v396 : BitVec 32 := Scalar.addi v279 c1_i32_204
  let v397 : BitVec 32 := Scalar.select v392 v395 v396
  let c15_i32_261 : BitVec 32 := 15#32
  let v510 : BitVec 1 := Scalar.cmpi .eq v397 c15_i32_261
  let c1_i32_202 : BitVec 32 := 1#32
  let v393 : BitVec 32 := Scalar.addi v276 c1_i32_202
  let v394 : BitVec 32 := Scalar.select v392 v393 v276
  let c1_i32_263 : BitVec 32 := 1#32
  let v513 : BitVec 32 := Scalar.addi v394 c1_i32_263
  let c1_i32_264 : BitVec 32 := 1#32
  let v514 : BitVec 32 := Scalar.addi v397 c1_i32_264
  let v515 : BitVec 32 := Scalar.select v510 v513 v514
  let c15_i32_321 : BitVec 32 := 15#32
  let v628 : BitVec 1 := Scalar.cmpi .eq v515 c15_i32_321
  let c1_i32_262 : BitVec 32 := 1#32
  let v511 : BitVec 32 := Scalar.addi v394 c1_i32_262
  let v512 : BitVec 32 := Scalar.select v510 v511 v394
  let c1_i32_323 : BitVec 32 := 1#32
  let v631 : BitVec 32 := Scalar.addi v512 c1_i32_323
  let c1_i32_324 : BitVec 32 := 1#32
  let v632 : BitVec 32 := Scalar.addi v515 c1_i32_324
  let v633 : BitVec 32 := Scalar.select v628 v631 v632
  let c15_i32_381 : BitVec 32 := 15#32
  let v746 : BitVec 1 := Scalar.cmpi .eq v633 c15_i32_381
  let c1_i32_322 : BitVec 32 := 1#32
  let v629 : BitVec 32 := Scalar.addi v512 c1_i32_322
  let v630 : BitVec 32 := Scalar.select v628 v629 v512
  let c1_i32_383 : BitVec 32 := 1#32
  let v749 : BitVec 32 := Scalar.addi v630 c1_i32_383
  let c1_i32_384 : BitVec 32 := 1#32
  let v750 : BitVec 32 := Scalar.addi v633 c1_i32_384
  let v751 : BitVec 32 := Scalar.select v746 v749 v750
  let c15_i32_441 : BitVec 32 := 15#32
  let v864 : BitVec 1 := Scalar.cmpi .eq v751 c15_i32_441
  let c1_i32_382 : BitVec 32 := 1#32
  let v747 : BitVec 32 := Scalar.addi v630 c1_i32_382
  let v748 : BitVec 32 := Scalar.select v746 v747 v630
  let c1_i32_443 : BitVec 32 := 1#32
  let v867 : BitVec 32 := Scalar.addi v748 c1_i32_443
  let c1_i32_444 : BitVec 32 := 1#32
  let v868 : BitVec 32 := Scalar.addi v751 c1_i32_444
  let v869 : BitVec 32 := Scalar.select v864 v867 v868
  let c15_i32_483 : BitVec 32 := 15#32
  let v944 : BitVec 32 := Scalar.minsi v869 c15_i32_483
  let c512_i32_495 : BitVec 32 := 512#32
  let v973 : BitVec 32 := Scalar.muli v944 c512_i32_495
  v973
def k0_off73 (arg18 : BitVec 32) (arg19 : BitVec 32) : Fin 3 → Nat :=
  let c0_496 : Index := 0#32
  let c0_497 : Index := 0#32
  let c15_i32 : BitVec 32 := 15#32
  let v38 : BitVec 1 := Scalar.cmpi .eq arg19 c15_i32
  let c1_i32_24 : BitVec 32 := 1#32
  let v41 : BitVec 32 := Scalar.addi arg18 c1_i32_24
  let c1_i32_25 : BitVec 32 := 1#32
  let v42 : BitVec 32 := Scalar.addi arg19 c1_i32_25
  let v43 : BitVec 32 := Scalar.select v38 v41 v42
  let c15_i32_81 : BitVec 32 := 15#32
  let v156 : BitVec 1 := Scalar.cmpi .eq v43 c15_i32_81
  let c1_i32_23 : BitVec 32 := 1#32
  let v39 : BitVec 32 := Scalar.addi arg18 c1_i32_23
  let v40 : BitVec 32 := Scalar.select v38 v39 arg18
  let c1_i32_83 : BitVec 32 := 1#32
  let v159 : BitVec 32 := Scalar.addi v40 c1_i32_83
  let c1_i32_84 : BitVec 32 := 1#32
  let v160 : BitVec 32 := Scalar.addi v43 c1_i32_84
  let v161 : BitVec 32 := Scalar.select v156 v159 v160
  let c15_i32_141 : BitVec 32 := 15#32
  let v274 : BitVec 1 := Scalar.cmpi .eq v161 c15_i32_141
  let c1_i32_82 : BitVec 32 := 1#32
  let v157 : BitVec 32 := Scalar.addi v40 c1_i32_82
  let v158 : BitVec 32 := Scalar.select v156 v157 v40
  let c1_i32_143 : BitVec 32 := 1#32
  let v277 : BitVec 32 := Scalar.addi v158 c1_i32_143
  let c1_i32_144 : BitVec 32 := 1#32
  let v278 : BitVec 32 := Scalar.addi v161 c1_i32_144
  let v279 : BitVec 32 := Scalar.select v274 v277 v278
  let c15_i32_201 : BitVec 32 := 15#32
  let v392 : BitVec 1 := Scalar.cmpi .eq v279 c15_i32_201
  let c1_i32_142 : BitVec 32 := 1#32
  let v275 : BitVec 32 := Scalar.addi v158 c1_i32_142
  let v276 : BitVec 32 := Scalar.select v274 v275 v158
  let c1_i32_203 : BitVec 32 := 1#32
  let v395 : BitVec 32 := Scalar.addi v276 c1_i32_203
  let c1_i32_204 : BitVec 32 := 1#32
  let v396 : BitVec 32 := Scalar.addi v279 c1_i32_204
  let v397 : BitVec 32 := Scalar.select v392 v395 v396
  let c15_i32_261 : BitVec 32 := 15#32
  let v510 : BitVec 1 := Scalar.cmpi .eq v397 c15_i32_261
  let c1_i32_202 : BitVec 32 := 1#32
  let v393 : BitVec 32 := Scalar.addi v276 c1_i32_202
  let v394 : BitVec 32 := Scalar.select v392 v393 v276
  let c1_i32_263 : BitVec 32 := 1#32
  let v513 : BitVec 32 := Scalar.addi v394 c1_i32_263
  let c1_i32_264 : BitVec 32 := 1#32
  let v514 : BitVec 32 := Scalar.addi v397 c1_i32_264
  let v515 : BitVec 32 := Scalar.select v510 v513 v514
  let c15_i32_321 : BitVec 32 := 15#32
  let v628 : BitVec 1 := Scalar.cmpi .eq v515 c15_i32_321
  let c1_i32_262 : BitVec 32 := 1#32
  let v511 : BitVec 32 := Scalar.addi v394 c1_i32_262
  let v512 : BitVec 32 := Scalar.select v510 v511 v394
  let c1_i32_323 : BitVec 32 := 1#32
  let v631 : BitVec 32 := Scalar.addi v512 c1_i32_323
  let c1_i32_324 : BitVec 32 := 1#32
  let v632 : BitVec 32 := Scalar.addi v515 c1_i32_324
  let v633 : BitVec 32 := Scalar.select v628 v631 v632
  let c15_i32_381 : BitVec 32 := 15#32
  let v746 : BitVec 1 := Scalar.cmpi .eq v633 c15_i32_381
  let c1_i32_322 : BitVec 32 := 1#32
  let v629 : BitVec 32 := Scalar.addi v512 c1_i32_322
  let v630 : BitVec 32 := Scalar.select v628 v629 v512
  let c1_i32_383 : BitVec 32 := 1#32
  let v749 : BitVec 32 := Scalar.addi v630 c1_i32_383
  let c1_i32_384 : BitVec 32 := 1#32
  let v750 : BitVec 32 := Scalar.addi v633 c1_i32_384
  let v751 : BitVec 32 := Scalar.select v746 v749 v750
  let c15_i32_441 : BitVec 32 := 15#32
  let v864 : BitVec 1 := Scalar.cmpi .eq v751 c15_i32_441
  let c1_i32_382 : BitVec 32 := 1#32
  let v747 : BitVec 32 := Scalar.addi v630 c1_i32_382
  let v748 : BitVec 32 := Scalar.select v746 v747 v630
  let c1_i32_443 : BitVec 32 := 1#32
  let v867 : BitVec 32 := Scalar.addi v748 c1_i32_443
  let c1_i32_444 : BitVec 32 := 1#32
  let v868 : BitVec 32 := Scalar.addi v751 c1_i32_444
  let v869 : BitVec 32 := Scalar.select v864 v867 v868
  let c15_i32_483 : BitVec 32 := 15#32
  let v944 : BitVec 32 := Scalar.minsi v869 c15_i32_483
  let c512_i32_495 : BitVec 32 := 512#32
  let v973 : BitVec 32 := Scalar.muli v944 c512_i32_495
  let v974 : BitVec 32 := v973
  let v975 : Index := Scalar.indexCast v974
  ![0, 0, v975.toNat]

def k0_chk1_0 (arg18 : BitVec 32) (arg19 : BitVec 32) : Prop :=
  (512 ∣ (k0_mult5 arg19).toNat) ∧
  (∀ a, (k0_off1 arg19) a + S1x1x512.size a ≤ S1x1x8192.size a) ∧
  (512 ∣ (k0_mult6 arg19).toNat) ∧
  (∀ a, (k0_off2 arg19) a + S1x128x512.size a ≤ S1x128x8192.size a) ∧
  (512 ∣ (k0_mult7 arg19).toNat) ∧
  (512 ∣ (k0_mult8 arg19).toNat) ∧
  (∀ a, (k0_off3 arg19) a + S512x256.size a ≤ S8192x256.size a) ∧
  (512 ∣ (k0_mult9 arg19).toNat) ∧
  (∀ a, (k0_off5 arg19) a + S512x256.size a ≤ S8192x256.size a) ∧
  (512 ∣ (k0_mult13 arg18 arg19).toNat) ∧
  (∀ a, (k0_off7 arg18 arg19) a + S512x256.size a ≤ S8192x256.size a) ∧
  (512 ∣ (k0_mult14 arg18 arg19).toNat) ∧
  (∀ a, (k0_off8 arg18 arg19) a + S512x256.size a ≤ S8192x256.size a) ∧
  (512 ∣ (k0_mult15 arg18 arg19).toNat) ∧
  (∀ a, (k0_off9 arg18 arg19) a + S512x128.size a ≤ S8192x128.size a) ∧
  (512 ∣ (k0_mult16 arg18 arg19).toNat) ∧
  (∀ a, (k0_off10 arg18 arg19) a + S1x128x512.size a ≤ S1x128x8192.size a) ∧
  (512 ∣ (k0_mult17 arg18 arg19).toNat) ∧
  (∀ a, (k0_off11 arg18 arg19) a + S1x1x512.size a ≤ S1x1x8192.size a) ∧
  (512 ∣ (k0_mult18 arg18 arg19).toNat) ∧
  (∀ a, (k0_off12 arg18 arg19) a + S1x128x512.size a ≤ S1x128x8192.size a) ∧
  (512 ∣ (k0_mult19 arg18 arg19).toNat) ∧
  (512 ∣ (k0_mult20 arg18 arg19).toNat) ∧
  (∀ a, (k0_off13 arg18 arg19) a + S512x256.size a ≤ S8192x256.size a) ∧
  (512 ∣ (k0_mult21 arg18 arg19).toNat) ∧
  (512 ∣ (k0_mult22 arg18 arg19).toNat) ∧
  (∀ a, (k0_off14 arg18 arg19) a + S512x256.size a ≤ S8192x256.size a) ∧
  (512 ∣ (k0_mult23 arg18 arg19).toNat) ∧
  (∀ (hinb : ∀ a, (k0_off14 arg18 arg19) a + S512x256.size a ≤ S8192x256.size a), (Rect.unit (s := S8192x256) (k0_off14 arg18 arg19) S512x256.size hinb).PackedRows (EltTy.packing .bf16)) ∧
  (512 ∣ (k0_mult24 arg18 arg19).toNat) ∧
  (∀ a, (k0_off15 arg18 arg19) a + S512x128.size a ≤ S8192x128.size a) ∧
  (∀ (hinb : ∀ a, (k0_off15 arg18 arg19) a + S512x128.size a ≤ S8192x128.size a), (Rect.unit (s := S8192x128) (k0_off15 arg18 arg19) S512x128.size hinb).PackedRows (EltTy.packing .bf16))
def k0_chk1_1 (arg18 : BitVec 32) (arg19 : BitVec 32) : Prop :=
  (512 ∣ (k0_mult25 arg18 arg19).toNat) ∧
  (∀ a, (k0_off16 arg18 arg19) a + S512x256.size a ≤ S8192x256.size a) ∧
  (512 ∣ (k0_mult26 arg18 arg19).toNat) ∧
  (∀ a, (k0_off17 arg18 arg19) a + S512x256.size a ≤ S8192x256.size a) ∧
  (512 ∣ (k0_mult27 arg18 arg19).toNat) ∧
  (∀ a, (k0_off18 arg18 arg19) a + S512x128.size a ≤ S8192x128.size a) ∧
  (512 ∣ (k0_mult28 arg18 arg19).toNat) ∧
  (∀ a, (k0_off19 arg18 arg19) a + S1x128x512.size a ≤ S1x128x8192.size a) ∧
  (512 ∣ (k0_mult29 arg18 arg19).toNat) ∧
  (∀ a, (k0_off20 arg18 arg19) a + S1x1x512.size a ≤ S1x1x8192.size a) ∧
  (512 ∣ (k0_mult30 arg18 arg19).toNat) ∧
  (∀ a, (k0_off21 arg18 arg19) a + S1x128x512.size a ≤ S1x128x8192.size a) ∧
  (512 ∣ (k0_mult31 arg18 arg19).toNat) ∧
  (512 ∣ (k0_mult32 arg18 arg19).toNat) ∧
  (∀ a, (k0_off22 arg18 arg19) a + S512x256.size a ≤ S8192x256.size a) ∧
  (512 ∣ (k0_mult33 arg18 arg19).toNat) ∧
  (512 ∣ (k0_mult34 arg18 arg19).toNat) ∧
  (∀ a, (k0_off23 arg18 arg19) a + S512x256.size a ≤ S8192x256.size a) ∧
  (512 ∣ (k0_mult35 arg18 arg19).toNat) ∧
  (∀ (hinb : ∀ a, (k0_off23 arg18 arg19) a + S512x256.size a ≤ S8192x256.size a), (Rect.unit (s := S8192x256) (k0_off23 arg18 arg19) S512x256.size hinb).PackedRows (EltTy.packing .bf16)) ∧
  (512 ∣ (k0_mult36 arg18 arg19).toNat) ∧
  (∀ a, (k0_off24 arg18 arg19) a + S512x128.size a ≤ S8192x128.size a) ∧
  (∀ (hinb : ∀ a, (k0_off24 arg18 arg19) a + S512x128.size a ≤ S8192x128.size a), (Rect.unit (s := S8192x128) (k0_off24 arg18 arg19) S512x128.size hinb).PackedRows (EltTy.packing .bf16)) ∧
  (512 ∣ (k0_mult37 arg18 arg19).toNat) ∧
  (∀ a, (k0_off25 arg18 arg19) a + S512x256.size a ≤ S8192x256.size a) ∧
  (512 ∣ (k0_mult38 arg18 arg19).toNat) ∧
  (∀ a, (k0_off26 arg18 arg19) a + S512x256.size a ≤ S8192x256.size a) ∧
  (512 ∣ (k0_mult39 arg18 arg19).toNat) ∧
  (∀ a, (k0_off27 arg18 arg19) a + S512x128.size a ≤ S8192x128.size a) ∧
  (512 ∣ (k0_mult40 arg18 arg19).toNat) ∧
  (∀ a, (k0_off28 arg18 arg19) a + S1x128x512.size a ≤ S1x128x8192.size a) ∧
  (512 ∣ (k0_mult41 arg18 arg19).toNat)
def k0_chk1_2 (arg18 : BitVec 32) (arg19 : BitVec 32) : Prop :=
  (∀ a, (k0_off29 arg18 arg19) a + S1x1x512.size a ≤ S1x1x8192.size a) ∧
  (512 ∣ (k0_mult42 arg18 arg19).toNat) ∧
  (∀ a, (k0_off30 arg18 arg19) a + S1x128x512.size a ≤ S1x128x8192.size a) ∧
  (512 ∣ (k0_mult43 arg18 arg19).toNat) ∧
  (512 ∣ (k0_mult44 arg18 arg19).toNat) ∧
  (∀ a, (k0_off31 arg18 arg19) a + S512x256.size a ≤ S8192x256.size a) ∧
  (512 ∣ (k0_mult45 arg18 arg19).toNat) ∧
  (512 ∣ (k0_mult46 arg18 arg19).toNat) ∧
  (∀ a, (k0_off32 arg18 arg19) a + S512x256.size a ≤ S8192x256.size a) ∧
  (512 ∣ (k0_mult47 arg18 arg19).toNat) ∧
  (∀ (hinb : ∀ a, (k0_off32 arg18 arg19) a + S512x256.size a ≤ S8192x256.size a), (Rect.unit (s := S8192x256) (k0_off32 arg18 arg19) S512x256.size hinb).PackedRows (EltTy.packing .bf16)) ∧
  (512 ∣ (k0_mult48 arg18 arg19).toNat) ∧
  (∀ a, (k0_off33 arg18 arg19) a + S512x128.size a ≤ S8192x128.size a) ∧
  (∀ (hinb : ∀ a, (k0_off33 arg18 arg19) a + S512x128.size a ≤ S8192x128.size a), (Rect.unit (s := S8192x128) (k0_off33 arg18 arg19) S512x128.size hinb).PackedRows (EltTy.packing .bf16)) ∧
  (512 ∣ (k0_mult49 arg18 arg19).toNat) ∧
  (∀ a, (k0_off34 arg18 arg19) a + S512x256.size a ≤ S8192x256.size a) ∧
  (512 ∣ (k0_mult50 arg18 arg19).toNat) ∧
  (∀ a, (k0_off35 arg18 arg19) a + S512x256.size a ≤ S8192x256.size a) ∧
  (512 ∣ (k0_mult51 arg18 arg19).toNat) ∧
  (∀ a, (k0_off36 arg18 arg19) a + S512x128.size a ≤ S8192x128.size a) ∧
  (512 ∣ (k0_mult52 arg18 arg19).toNat) ∧
  (∀ a, (k0_off37 arg18 arg19) a + S1x128x512.size a ≤ S1x128x8192.size a) ∧
  (512 ∣ (k0_mult53 arg18 arg19).toNat) ∧
  (∀ a, (k0_off38 arg18 arg19) a + S1x1x512.size a ≤ S1x1x8192.size a) ∧
  (512 ∣ (k0_mult54 arg18 arg19).toNat) ∧
  (∀ a, (k0_off39 arg18 arg19) a + S1x128x512.size a ≤ S1x128x8192.size a) ∧
  (512 ∣ (k0_mult55 arg18 arg19).toNat) ∧
  (512 ∣ (k0_mult56 arg18 arg19).toNat) ∧
  (∀ a, (k0_off40 arg18 arg19) a + S512x256.size a ≤ S8192x256.size a) ∧
  (512 ∣ (k0_mult57 arg18 arg19).toNat) ∧
  (512 ∣ (k0_mult58 arg18 arg19).toNat) ∧
  (∀ a, (k0_off41 arg18 arg19) a + S512x256.size a ≤ S8192x256.size a)
def k0_chk1_3 (arg18 : BitVec 32) (arg19 : BitVec 32) : Prop :=
  (512 ∣ (k0_mult59 arg18 arg19).toNat) ∧
  (∀ (hinb : ∀ a, (k0_off41 arg18 arg19) a + S512x256.size a ≤ S8192x256.size a), (Rect.unit (s := S8192x256) (k0_off41 arg18 arg19) S512x256.size hinb).PackedRows (EltTy.packing .bf16)) ∧
  (512 ∣ (k0_mult60 arg18 arg19).toNat) ∧
  (∀ a, (k0_off42 arg18 arg19) a + S512x128.size a ≤ S8192x128.size a) ∧
  (∀ (hinb : ∀ a, (k0_off42 arg18 arg19) a + S512x128.size a ≤ S8192x128.size a), (Rect.unit (s := S8192x128) (k0_off42 arg18 arg19) S512x128.size hinb).PackedRows (EltTy.packing .bf16)) ∧
  (512 ∣ (k0_mult61 arg18 arg19).toNat) ∧
  (∀ a, (k0_off43 arg18 arg19) a + S512x256.size a ≤ S8192x256.size a) ∧
  (512 ∣ (k0_mult62 arg18 arg19).toNat) ∧
  (∀ a, (k0_off44 arg18 arg19) a + S512x256.size a ≤ S8192x256.size a) ∧
  (512 ∣ (k0_mult63 arg18 arg19).toNat) ∧
  (∀ a, (k0_off45 arg18 arg19) a + S512x128.size a ≤ S8192x128.size a) ∧
  (512 ∣ (k0_mult64 arg18 arg19).toNat) ∧
  (∀ a, (k0_off46 arg18 arg19) a + S1x128x512.size a ≤ S1x128x8192.size a) ∧
  (512 ∣ (k0_mult65 arg18 arg19).toNat) ∧
  (∀ a, (k0_off47 arg18 arg19) a + S1x1x512.size a ≤ S1x1x8192.size a) ∧
  (512 ∣ (k0_mult66 arg18 arg19).toNat) ∧
  (∀ a, (k0_off48 arg18 arg19) a + S1x128x512.size a ≤ S1x128x8192.size a) ∧
  (512 ∣ (k0_mult67 arg18 arg19).toNat) ∧
  (512 ∣ (k0_mult68 arg18 arg19).toNat) ∧
  (∀ a, (k0_off49 arg18 arg19) a + S512x256.size a ≤ S8192x256.size a) ∧
  (512 ∣ (k0_mult69 arg18 arg19).toNat) ∧
  (512 ∣ (k0_mult70 arg18 arg19).toNat) ∧
  (∀ a, (k0_off50 arg18 arg19) a + S512x256.size a ≤ S8192x256.size a) ∧
  (512 ∣ (k0_mult71 arg18 arg19).toNat) ∧
  (∀ (hinb : ∀ a, (k0_off50 arg18 arg19) a + S512x256.size a ≤ S8192x256.size a), (Rect.unit (s := S8192x256) (k0_off50 arg18 arg19) S512x256.size hinb).PackedRows (EltTy.packing .bf16)) ∧
  (512 ∣ (k0_mult72 arg18 arg19).toNat) ∧
  (∀ a, (k0_off51 arg18 arg19) a + S512x128.size a ≤ S8192x128.size a) ∧
  (∀ (hinb : ∀ a, (k0_off51 arg18 arg19) a + S512x128.size a ≤ S8192x128.size a), (Rect.unit (s := S8192x128) (k0_off51 arg18 arg19) S512x128.size hinb).PackedRows (EltTy.packing .bf16)) ∧
  (512 ∣ (k0_mult73 arg18 arg19).toNat) ∧
  (∀ a, (k0_off52 arg18 arg19) a + S512x256.size a ≤ S8192x256.size a) ∧
  (512 ∣ (k0_mult74 arg18 arg19).toNat) ∧
  (∀ a, (k0_off53 arg18 arg19) a + S512x256.size a ≤ S8192x256.size a)
def k0_chk1_4 (arg18 : BitVec 32) (arg19 : BitVec 32) : Prop :=
  (512 ∣ (k0_mult75 arg18 arg19).toNat) ∧
  (∀ a, (k0_off54 arg18 arg19) a + S512x128.size a ≤ S8192x128.size a) ∧
  (512 ∣ (k0_mult76 arg18 arg19).toNat) ∧
  (∀ a, (k0_off55 arg18 arg19) a + S1x128x512.size a ≤ S1x128x8192.size a) ∧
  (512 ∣ (k0_mult77 arg18 arg19).toNat) ∧
  (∀ a, (k0_off56 arg18 arg19) a + S1x1x512.size a ≤ S1x1x8192.size a) ∧
  (512 ∣ (k0_mult78 arg18 arg19).toNat) ∧
  (∀ a, (k0_off57 arg18 arg19) a + S1x128x512.size a ≤ S1x128x8192.size a) ∧
  (512 ∣ (k0_mult79 arg18 arg19).toNat) ∧
  (512 ∣ (k0_mult80 arg18 arg19).toNat) ∧
  (∀ a, (k0_off58 arg18 arg19) a + S512x256.size a ≤ S8192x256.size a) ∧
  (512 ∣ (k0_mult81 arg18 arg19).toNat) ∧
  (512 ∣ (k0_mult82 arg18 arg19).toNat) ∧
  (∀ a, (k0_off59 arg18 arg19) a + S512x256.size a ≤ S8192x256.size a) ∧
  (512 ∣ (k0_mult83 arg18 arg19).toNat) ∧
  (∀ (hinb : ∀ a, (k0_off59 arg18 arg19) a + S512x256.size a ≤ S8192x256.size a), (Rect.unit (s := S8192x256) (k0_off59 arg18 arg19) S512x256.size hinb).PackedRows (EltTy.packing .bf16)) ∧
  (512 ∣ (k0_mult84 arg18 arg19).toNat) ∧
  (∀ a, (k0_off60 arg18 arg19) a + S512x128.size a ≤ S8192x128.size a) ∧
  (∀ (hinb : ∀ a, (k0_off60 arg18 arg19) a + S512x128.size a ≤ S8192x128.size a), (Rect.unit (s := S8192x128) (k0_off60 arg18 arg19) S512x128.size hinb).PackedRows (EltTy.packing .bf16)) ∧
  (512 ∣ (k0_mult85 arg18 arg19).toNat) ∧
  (∀ a, (k0_off61 arg18 arg19) a + S512x256.size a ≤ S8192x256.size a) ∧
  (512 ∣ (k0_mult86 arg18 arg19).toNat) ∧
  (∀ a, (k0_off62 arg18 arg19) a + S512x256.size a ≤ S8192x256.size a) ∧
  (512 ∣ (k0_mult87 arg18 arg19).toNat) ∧
  (∀ a, (k0_off63 arg18 arg19) a + S512x128.size a ≤ S8192x128.size a) ∧
  (512 ∣ (k0_mult88 arg18 arg19).toNat) ∧
  (∀ a, (k0_off64 arg18 arg19) a + S1x128x512.size a ≤ S1x128x8192.size a) ∧
  (512 ∣ (k0_mult89 arg18 arg19).toNat) ∧
  (∀ a, (k0_off65 arg18 arg19) a + S1x1x512.size a ≤ S1x1x8192.size a) ∧
  (512 ∣ (k0_mult90 arg18 arg19).toNat) ∧
  (∀ a, (k0_off66 arg18 arg19) a + S1x128x512.size a ≤ S1x128x8192.size a) ∧
  (512 ∣ (k0_mult91 arg18 arg19).toNat)
def k0_chk1_5 (arg18 : BitVec 32) (arg19 : BitVec 32) : Prop :=
  (512 ∣ (k0_mult92 arg18 arg19).toNat) ∧
  (∀ a, (k0_off67 arg18 arg19) a + S512x256.size a ≤ S8192x256.size a) ∧
  (512 ∣ (k0_mult93 arg18 arg19).toNat) ∧
  (512 ∣ (k0_mult94 arg18 arg19).toNat) ∧
  (∀ a, (k0_off68 arg18 arg19) a + S512x256.size a ≤ S8192x256.size a) ∧
  (512 ∣ (k0_mult95 arg18 arg19).toNat) ∧
  (∀ (hinb : ∀ a, (k0_off68 arg18 arg19) a + S512x256.size a ≤ S8192x256.size a), (Rect.unit (s := S8192x256) (k0_off68 arg18 arg19) S512x256.size hinb).PackedRows (EltTy.packing .bf16)) ∧
  (512 ∣ (k0_mult96 arg18 arg19).toNat) ∧
  (∀ a, (k0_off69 arg18 arg19) a + S512x128.size a ≤ S8192x128.size a) ∧
  (∀ (hinb : ∀ a, (k0_off69 arg18 arg19) a + S512x128.size a ≤ S8192x128.size a), (Rect.unit (s := S8192x128) (k0_off69 arg18 arg19) S512x128.size hinb).PackedRows (EltTy.packing .bf16)) ∧
  (512 ∣ (k0_mult97 arg18 arg19).toNat) ∧
  (∀ a, (k0_off70 arg18 arg19) a + S512x256.size a ≤ S8192x256.size a) ∧
  (512 ∣ (k0_mult98 arg18 arg19).toNat) ∧
  (∀ a, (k0_off71 arg18 arg19) a + S512x256.size a ≤ S8192x256.size a) ∧
  (512 ∣ (k0_mult99 arg18 arg19).toNat) ∧
  (∀ a, (k0_off72 arg18 arg19) a + S512x128.size a ≤ S8192x128.size a) ∧
  (512 ∣ (k0_mult100 arg18 arg19).toNat) ∧
  (∀ a, (k0_off73 arg18 arg19) a + S1x128x512.size a ≤ S1x128x8192.size a)
def k0_chk1 (arg18 : BitVec 32) (arg19 : BitVec 32) : Prop :=
  k0_chk1_0 arg18 arg19 ∧
  k0_chk1_1 arg18 arg19 ∧
  k0_chk1_2 arg18 arg19 ∧
  k0_chk1_3 arg18 arg19 ∧
  k0_chk1_4 arg18 arg19 ∧
  k0_chk1_5 arg18 arg19
theorem k0_mult5_dvd : ∀ (arg18 : BitVec 32) (arg19 : BitVec 32) (k0_hw1 : k0_chk1 arg18 arg19), 512 ∣ (k0_mult5 arg19).toNat := fun arg18 arg19 k0_hw1 => k0_hw1.1.1
theorem k0_off1_inb : ∀ (arg18 : BitVec 32) (arg19 : BitVec 32) (k0_hw1 : k0_chk1 arg18 arg19), ∀ a, (k0_off1 arg19) a + S1x1x512.size a ≤ S1x1x8192.size a := fun arg18 arg19 k0_hw1 => k0_hw1.1.2.1
theorem k0_mult6_dvd : ∀ (arg18 : BitVec 32) (arg19 : BitVec 32) (k0_hw1 : k0_chk1 arg18 arg19), 512 ∣ (k0_mult6 arg19).toNat := fun arg18 arg19 k0_hw1 => k0_hw1.1.2.2.1
theorem k0_off2_inb : ∀ (arg18 : BitVec 32) (arg19 : BitVec 32) (k0_hw1 : k0_chk1 arg18 arg19), ∀ a, (k0_off2 arg19) a + S1x128x512.size a ≤ S1x128x8192.size a := fun arg18 arg19 k0_hw1 => k0_hw1.1.2.2.2.1
theorem k0_mult7_dvd : ∀ (arg18 : BitVec 32) (arg19 : BitVec 32) (k0_hw1 : k0_chk1 arg18 arg19), 512 ∣ (k0_mult7 arg19).toNat := fun arg18 arg19 k0_hw1 => k0_hw1.1.2.2.2.2.1
theorem k0_mult8_dvd : ∀ (arg18 : BitVec 32) (arg19 : BitVec 32) (k0_hw1 : k0_chk1 arg18 arg19), 512 ∣ (k0_mult8 arg19).toNat := fun arg18 arg19 k0_hw1 => k0_hw1.1.2.2.2.2.2.1
theorem k0_off3_inb : ∀ (arg18 : BitVec 32) (arg19 : BitVec 32) (k0_hw1 : k0_chk1 arg18 arg19), ∀ a, (k0_off3 arg19) a + S512x256.size a ≤ S8192x256.size a := fun arg18 arg19 k0_hw1 => k0_hw1.1.2.2.2.2.2.2.1
theorem k0_mult9_dvd : ∀ (arg18 : BitVec 32) (arg19 : BitVec 32) (k0_hw1 : k0_chk1 arg18 arg19), 512 ∣ (k0_mult9 arg19).toNat := fun arg18 arg19 k0_hw1 => k0_hw1.1.2.2.2.2.2.2.2.1
theorem k0_off5_inb : ∀ (arg18 : BitVec 32) (arg19 : BitVec 32) (k0_hw1 : k0_chk1 arg18 arg19), ∀ a, (k0_off5 arg19) a + S512x256.size a ≤ S8192x256.size a := fun arg18 arg19 k0_hw1 => k0_hw1.1.2.2.2.2.2.2.2.2.1
theorem k0_mult13_dvd : ∀ (arg18 : BitVec 32) (arg19 : BitVec 32) (k0_hw1 : k0_chk1 arg18 arg19), 512 ∣ (k0_mult13 arg18 arg19).toNat := fun arg18 arg19 k0_hw1 => k0_hw1.1.2.2.2.2.2.2.2.2.2.1
theorem k0_off7_inb : ∀ (arg18 : BitVec 32) (arg19 : BitVec 32) (k0_hw1 : k0_chk1 arg18 arg19), ∀ a, (k0_off7 arg18 arg19) a + S512x256.size a ≤ S8192x256.size a := fun arg18 arg19 k0_hw1 => k0_hw1.1.2.2.2.2.2.2.2.2.2.2.1
theorem k0_mult14_dvd : ∀ (arg18 : BitVec 32) (arg19 : BitVec 32) (k0_hw1 : k0_chk1 arg18 arg19), 512 ∣ (k0_mult14 arg18 arg19).toNat := fun arg18 arg19 k0_hw1 => k0_hw1.1.2.2.2.2.2.2.2.2.2.2.2.1
theorem k0_off8_inb : ∀ (arg18 : BitVec 32) (arg19 : BitVec 32) (k0_hw1 : k0_chk1 arg18 arg19), ∀ a, (k0_off8 arg18 arg19) a + S512x256.size a ≤ S8192x256.size a := fun arg18 arg19 k0_hw1 => k0_hw1.1.2.2.2.2.2.2.2.2.2.2.2.2.1
theorem k0_mult15_dvd : ∀ (arg18 : BitVec 32) (arg19 : BitVec 32) (k0_hw1 : k0_chk1 arg18 arg19), 512 ∣ (k0_mult15 arg18 arg19).toNat := fun arg18 arg19 k0_hw1 => k0_hw1.1.2.2.2.2.2.2.2.2.2.2.2.2.2.1
theorem k0_off9_inb : ∀ (arg18 : BitVec 32) (arg19 : BitVec 32) (k0_hw1 : k0_chk1 arg18 arg19), ∀ a, (k0_off9 arg18 arg19) a + S512x128.size a ≤ S8192x128.size a := fun arg18 arg19 k0_hw1 => k0_hw1.1.2.2.2.2.2.2.2.2.2.2.2.2.2.2.1
theorem k0_mult16_dvd : ∀ (arg18 : BitVec 32) (arg19 : BitVec 32) (k0_hw1 : k0_chk1 arg18 arg19), 512 ∣ (k0_mult16 arg18 arg19).toNat := fun arg18 arg19 k0_hw1 => k0_hw1.1.2.2.2.2.2.2.2.2.2.2.2.2.2.2.2.1
theorem k0_off10_inb : ∀ (arg18 : BitVec 32) (arg19 : BitVec 32) (k0_hw1 : k0_chk1 arg18 arg19), ∀ a, (k0_off10 arg18 arg19) a + S1x128x512.size a ≤ S1x128x8192.size a := fun arg18 arg19 k0_hw1 => k0_hw1.1.2.2.2.2.2.2.2.2.2.2.2.2.2.2.2.2.1
theorem k0_mult17_dvd : ∀ (arg18 : BitVec 32) (arg19 : BitVec 32) (k0_hw1 : k0_chk1 arg18 arg19), 512 ∣ (k0_mult17 arg18 arg19).toNat := fun arg18 arg19 k0_hw1 => k0_hw1.1.2.2.2.2.2.2.2.2.2.2.2.2.2.2.2.2.2.1
theorem k0_off11_inb : ∀ (arg18 : BitVec 32) (arg19 : BitVec 32) (k0_hw1 : k0_chk1 arg18 arg19), ∀ a, (k0_off11 arg18 arg19) a + S1x1x512.size a ≤ S1x1x8192.size a := fun arg18 arg19 k0_hw1 => k0_hw1.1.2.2.2.2.2.2.2.2.2.2.2.2.2.2.2.2.2.2.1
theorem k0_mult18_dvd : ∀ (arg18 : BitVec 32) (arg19 : BitVec 32) (k0_hw1 : k0_chk1 arg18 arg19), 512 ∣ (k0_mult18 arg18 arg19).toNat := fun arg18 arg19 k0_hw1 => k0_hw1.1.2.2.2.2.2.2.2.2.2.2.2.2.2.2.2.2.2.2.2.1
theorem k0_off12_inb : ∀ (arg18 : BitVec 32) (arg19 : BitVec 32) (k0_hw1 : k0_chk1 arg18 arg19), ∀ a, (k0_off12 arg18 arg19) a + S1x128x512.size a ≤ S1x128x8192.size a := fun arg18 arg19 k0_hw1 => k0_hw1.1.2.2.2.2.2.2.2.2.2.2.2.2.2.2.2.2.2.2.2.2.1
theorem k0_mult19_dvd : ∀ (arg18 : BitVec 32) (arg19 : BitVec 32) (k0_hw1 : k0_chk1 arg18 arg19), 512 ∣ (k0_mult19 arg18 arg19).toNat := fun arg18 arg19 k0_hw1 => k0_hw1.1.2.2.2.2.2.2.2.2.2.2.2.2.2.2.2.2.2.2.2.2.2.1
theorem k0_mult20_dvd : ∀ (arg18 : BitVec 32) (arg19 : BitVec 32) (k0_hw1 : k0_chk1 arg18 arg19), 512 ∣ (k0_mult20 arg18 arg19).toNat := fun arg18 arg19 k0_hw1 => k0_hw1.1.2.2.2.2.2.2.2.2.2.2.2.2.2.2.2.2.2.2.2.2.2.2.1
theorem k0_off13_inb : ∀ (arg18 : BitVec 32) (arg19 : BitVec 32) (k0_hw1 : k0_chk1 arg18 arg19), ∀ a, (k0_off13 arg18 arg19) a + S512x256.size a ≤ S8192x256.size a := fun arg18 arg19 k0_hw1 => k0_hw1.1.2.2.2.2.2.2.2.2.2.2.2.2.2.2.2.2.2.2.2.2.2.2.2.1
theorem k0_mult21_dvd : ∀ (arg18 : BitVec 32) (arg19 : BitVec 32) (k0_hw1 : k0_chk1 arg18 arg19), 512 ∣ (k0_mult21 arg18 arg19).toNat := fun arg18 arg19 k0_hw1 => k0_hw1.1.2.2.2.2.2.2.2.2.2.2.2.2.2.2.2.2.2.2.2.2.2.2.2.2.1
theorem k0_mult22_dvd : ∀ (arg18 : BitVec 32) (arg19 : BitVec 32) (k0_hw1 : k0_chk1 arg18 arg19), 512 ∣ (k0_mult22 arg18 arg19).toNat := fun arg18 arg19 k0_hw1 => k0_hw1.1.2.2.2.2.2.2.2.2.2.2.2.2.2.2.2.2.2.2.2.2.2.2.2.2.2.1
theorem k0_off14_inb : ∀ (arg18 : BitVec 32) (arg19 : BitVec 32) (k0_hw1 : k0_chk1 arg18 arg19), ∀ a, (k0_off14 arg18 arg19) a + S512x256.size a ≤ S8192x256.size a := fun arg18 arg19 k0_hw1 => k0_hw1.1.2.2.2.2.2.2.2.2.2.2.2.2.2.2.2.2.2.2.2.2.2.2.2.2.2.2.1
theorem k0_mult23_dvd : ∀ (arg18 : BitVec 32) (arg19 : BitVec 32) (k0_hw1 : k0_chk1 arg18 arg19), 512 ∣ (k0_mult23 arg18 arg19).toNat := fun arg18 arg19 k0_hw1 => k0_hw1.1.2.2.2.2.2.2.2.2.2.2.2.2.2.2.2.2.2.2.2.2.2.2.2.2.2.2.2.1
theorem k0_off14_packedbf16 : ∀ (arg18 : BitVec 32) (arg19 : BitVec 32) (k0_hw1 : k0_chk1 arg18 arg19), (Rect.unit (s := S8192x256) (k0_off14 arg18 arg19) S512x256.size (k0_off14_inb arg18 arg19 k0_hw1)).PackedRows (EltTy.packing .bf16) := fun arg18 arg19 k0_hw1 => k0_hw1.1.2.2.2.2.2.2.2.2.2.2.2.2.2.2.2.2.2.2.2.2.2.2.2.2.2.2.2.2.1 (k0_off14_inb arg18 arg19 k0_hw1)
theorem k0_mult24_dvd : ∀ (arg18 : BitVec 32) (arg19 : BitVec 32) (k0_hw1 : k0_chk1 arg18 arg19), 512 ∣ (k0_mult24 arg18 arg19).toNat := fun arg18 arg19 k0_hw1 => k0_hw1.1.2.2.2.2.2.2.2.2.2.2.2.2.2.2.2.2.2.2.2.2.2.2.2.2.2.2.2.2.2.1
theorem k0_off15_inb : ∀ (arg18 : BitVec 32) (arg19 : BitVec 32) (k0_hw1 : k0_chk1 arg18 arg19), ∀ a, (k0_off15 arg18 arg19) a + S512x128.size a ≤ S8192x128.size a := fun arg18 arg19 k0_hw1 => k0_hw1.1.2.2.2.2.2.2.2.2.2.2.2.2.2.2.2.2.2.2.2.2.2.2.2.2.2.2.2.2.2.2.1
theorem k0_off15_packedbf16 : ∀ (arg18 : BitVec 32) (arg19 : BitVec 32) (k0_hw1 : k0_chk1 arg18 arg19), (Rect.unit (s := S8192x128) (k0_off15 arg18 arg19) S512x128.size (k0_off15_inb arg18 arg19 k0_hw1)).PackedRows (EltTy.packing .bf16) := fun arg18 arg19 k0_hw1 => k0_hw1.1.2.2.2.2.2.2.2.2.2.2.2.2.2.2.2.2.2.2.2.2.2.2.2.2.2.2.2.2.2.2.2 (k0_off15_inb arg18 arg19 k0_hw1)
theorem k0_mult25_dvd : ∀ (arg18 : BitVec 32) (arg19 : BitVec 32) (k0_hw1 : k0_chk1 arg18 arg19), 512 ∣ (k0_mult25 arg18 arg19).toNat := fun arg18 arg19 k0_hw1 => k0_hw1.2.1.1
theorem k0_off16_inb : ∀ (arg18 : BitVec 32) (arg19 : BitVec 32) (k0_hw1 : k0_chk1 arg18 arg19), ∀ a, (k0_off16 arg18 arg19) a + S512x256.size a ≤ S8192x256.size a := fun arg18 arg19 k0_hw1 => k0_hw1.2.1.2.1
theorem k0_mult26_dvd : ∀ (arg18 : BitVec 32) (arg19 : BitVec 32) (k0_hw1 : k0_chk1 arg18 arg19), 512 ∣ (k0_mult26 arg18 arg19).toNat := fun arg18 arg19 k0_hw1 => k0_hw1.2.1.2.2.1
theorem k0_off17_inb : ∀ (arg18 : BitVec 32) (arg19 : BitVec 32) (k0_hw1 : k0_chk1 arg18 arg19), ∀ a, (k0_off17 arg18 arg19) a + S512x256.size a ≤ S8192x256.size a := fun arg18 arg19 k0_hw1 => k0_hw1.2.1.2.2.2.1
theorem k0_mult27_dvd : ∀ (arg18 : BitVec 32) (arg19 : BitVec 32) (k0_hw1 : k0_chk1 arg18 arg19), 512 ∣ (k0_mult27 arg18 arg19).toNat := fun arg18 arg19 k0_hw1 => k0_hw1.2.1.2.2.2.2.1
theorem k0_off18_inb : ∀ (arg18 : BitVec 32) (arg19 : BitVec 32) (k0_hw1 : k0_chk1 arg18 arg19), ∀ a, (k0_off18 arg18 arg19) a + S512x128.size a ≤ S8192x128.size a := fun arg18 arg19 k0_hw1 => k0_hw1.2.1.2.2.2.2.2.1
theorem k0_mult28_dvd : ∀ (arg18 : BitVec 32) (arg19 : BitVec 32) (k0_hw1 : k0_chk1 arg18 arg19), 512 ∣ (k0_mult28 arg18 arg19).toNat := fun arg18 arg19 k0_hw1 => k0_hw1.2.1.2.2.2.2.2.2.1
theorem k0_off19_inb : ∀ (arg18 : BitVec 32) (arg19 : BitVec 32) (k0_hw1 : k0_chk1 arg18 arg19), ∀ a, (k0_off19 arg18 arg19) a + S1x128x512.size a ≤ S1x128x8192.size a := fun arg18 arg19 k0_hw1 => k0_hw1.2.1.2.2.2.2.2.2.2.1
theorem k0_mult29_dvd : ∀ (arg18 : BitVec 32) (arg19 : BitVec 32) (k0_hw1 : k0_chk1 arg18 arg19), 512 ∣ (k0_mult29 arg18 arg19).toNat := fun arg18 arg19 k0_hw1 => k0_hw1.2.1.2.2.2.2.2.2.2.2.1
theorem k0_off20_inb : ∀ (arg18 : BitVec 32) (arg19 : BitVec 32) (k0_hw1 : k0_chk1 arg18 arg19), ∀ a, (k0_off20 arg18 arg19) a + S1x1x512.size a ≤ S1x1x8192.size a := fun arg18 arg19 k0_hw1 => k0_hw1.2.1.2.2.2.2.2.2.2.2.2.1
theorem k0_mult30_dvd : ∀ (arg18 : BitVec 32) (arg19 : BitVec 32) (k0_hw1 : k0_chk1 arg18 arg19), 512 ∣ (k0_mult30 arg18 arg19).toNat := fun arg18 arg19 k0_hw1 => k0_hw1.2.1.2.2.2.2.2.2.2.2.2.2.1
theorem k0_off21_inb : ∀ (arg18 : BitVec 32) (arg19 : BitVec 32) (k0_hw1 : k0_chk1 arg18 arg19), ∀ a, (k0_off21 arg18 arg19) a + S1x128x512.size a ≤ S1x128x8192.size a := fun arg18 arg19 k0_hw1 => k0_hw1.2.1.2.2.2.2.2.2.2.2.2.2.2.1
theorem k0_mult31_dvd : ∀ (arg18 : BitVec 32) (arg19 : BitVec 32) (k0_hw1 : k0_chk1 arg18 arg19), 512 ∣ (k0_mult31 arg18 arg19).toNat := fun arg18 arg19 k0_hw1 => k0_hw1.2.1.2.2.2.2.2.2.2.2.2.2.2.2.1
theorem k0_mult32_dvd : ∀ (arg18 : BitVec 32) (arg19 : BitVec 32) (k0_hw1 : k0_chk1 arg18 arg19), 512 ∣ (k0_mult32 arg18 arg19).toNat := fun arg18 arg19 k0_hw1 => k0_hw1.2.1.2.2.2.2.2.2.2.2.2.2.2.2.2.1
theorem k0_off22_inb : ∀ (arg18 : BitVec 32) (arg19 : BitVec 32) (k0_hw1 : k0_chk1 arg18 arg19), ∀ a, (k0_off22 arg18 arg19) a + S512x256.size a ≤ S8192x256.size a := fun arg18 arg19 k0_hw1 => k0_hw1.2.1.2.2.2.2.2.2.2.2.2.2.2.2.2.2.1
theorem k0_mult33_dvd : ∀ (arg18 : BitVec 32) (arg19 : BitVec 32) (k0_hw1 : k0_chk1 arg18 arg19), 512 ∣ (k0_mult33 arg18 arg19).toNat := fun arg18 arg19 k0_hw1 => k0_hw1.2.1.2.2.2.2.2.2.2.2.2.2.2.2.2.2.2.1
theorem k0_mult34_dvd : ∀ (arg18 : BitVec 32) (arg19 : BitVec 32) (k0_hw1 : k0_chk1 arg18 arg19), 512 ∣ (k0_mult34 arg18 arg19).toNat := fun arg18 arg19 k0_hw1 => k0_hw1.2.1.2.2.2.2.2.2.2.2.2.2.2.2.2.2.2.2.1
theorem k0_off23_inb : ∀ (arg18 : BitVec 32) (arg19 : BitVec 32) (k0_hw1 : k0_chk1 arg18 arg19), ∀ a, (k0_off23 arg18 arg19) a + S512x256.size a ≤ S8192x256.size a := fun arg18 arg19 k0_hw1 => k0_hw1.2.1.2.2.2.2.2.2.2.2.2.2.2.2.2.2.2.2.2.1
theorem k0_mult35_dvd : ∀ (arg18 : BitVec 32) (arg19 : BitVec 32) (k0_hw1 : k0_chk1 arg18 arg19), 512 ∣ (k0_mult35 arg18 arg19).toNat := fun arg18 arg19 k0_hw1 => k0_hw1.2.1.2.2.2.2.2.2.2.2.2.2.2.2.2.2.2.2.2.2.1
theorem k0_off23_packedbf16 : ∀ (arg18 : BitVec 32) (arg19 : BitVec 32) (k0_hw1 : k0_chk1 arg18 arg19), (Rect.unit (s := S8192x256) (k0_off23 arg18 arg19) S512x256.size (k0_off23_inb arg18 arg19 k0_hw1)).PackedRows (EltTy.packing .bf16) := fun arg18 arg19 k0_hw1 => k0_hw1.2.1.2.2.2.2.2.2.2.2.2.2.2.2.2.2.2.2.2.2.2.1 (k0_off23_inb arg18 arg19 k0_hw1)
theorem k0_mult36_dvd : ∀ (arg18 : BitVec 32) (arg19 : BitVec 32) (k0_hw1 : k0_chk1 arg18 arg19), 512 ∣ (k0_mult36 arg18 arg19).toNat := fun arg18 arg19 k0_hw1 => k0_hw1.2.1.2.2.2.2.2.2.2.2.2.2.2.2.2.2.2.2.2.2.2.2.1
theorem k0_off24_inb : ∀ (arg18 : BitVec 32) (arg19 : BitVec 32) (k0_hw1 : k0_chk1 arg18 arg19), ∀ a, (k0_off24 arg18 arg19) a + S512x128.size a ≤ S8192x128.size a := fun arg18 arg19 k0_hw1 => k0_hw1.2.1.2.2.2.2.2.2.2.2.2.2.2.2.2.2.2.2.2.2.2.2.2.1
theorem k0_off24_packedbf16 : ∀ (arg18 : BitVec 32) (arg19 : BitVec 32) (k0_hw1 : k0_chk1 arg18 arg19), (Rect.unit (s := S8192x128) (k0_off24 arg18 arg19) S512x128.size (k0_off24_inb arg18 arg19 k0_hw1)).PackedRows (EltTy.packing .bf16) := fun arg18 arg19 k0_hw1 => k0_hw1.2.1.2.2.2.2.2.2.2.2.2.2.2.2.2.2.2.2.2.2.2.2.2.2.1 (k0_off24_inb arg18 arg19 k0_hw1)
theorem k0_mult37_dvd : ∀ (arg18 : BitVec 32) (arg19 : BitVec 32) (k0_hw1 : k0_chk1 arg18 arg19), 512 ∣ (k0_mult37 arg18 arg19).toNat := fun arg18 arg19 k0_hw1 => k0_hw1.2.1.2.2.2.2.2.2.2.2.2.2.2.2.2.2.2.2.2.2.2.2.2.2.2.1
theorem k0_off25_inb : ∀ (arg18 : BitVec 32) (arg19 : BitVec 32) (k0_hw1 : k0_chk1 arg18 arg19), ∀ a, (k0_off25 arg18 arg19) a + S512x256.size a ≤ S8192x256.size a := fun arg18 arg19 k0_hw1 => k0_hw1.2.1.2.2.2.2.2.2.2.2.2.2.2.2.2.2.2.2.2.2.2.2.2.2.2.2.1
theorem k0_mult38_dvd : ∀ (arg18 : BitVec 32) (arg19 : BitVec 32) (k0_hw1 : k0_chk1 arg18 arg19), 512 ∣ (k0_mult38 arg18 arg19).toNat := fun arg18 arg19 k0_hw1 => k0_hw1.2.1.2.2.2.2.2.2.2.2.2.2.2.2.2.2.2.2.2.2.2.2.2.2.2.2.2.1
theorem k0_off26_inb : ∀ (arg18 : BitVec 32) (arg19 : BitVec 32) (k0_hw1 : k0_chk1 arg18 arg19), ∀ a, (k0_off26 arg18 arg19) a + S512x256.size a ≤ S8192x256.size a := fun arg18 arg19 k0_hw1 => k0_hw1.2.1.2.2.2.2.2.2.2.2.2.2.2.2.2.2.2.2.2.2.2.2.2.2.2.2.2.2.1
theorem k0_mult39_dvd : ∀ (arg18 : BitVec 32) (arg19 : BitVec 32) (k0_hw1 : k0_chk1 arg18 arg19), 512 ∣ (k0_mult39 arg18 arg19).toNat := fun arg18 arg19 k0_hw1 => k0_hw1.2.1.2.2.2.2.2.2.2.2.2.2.2.2.2.2.2.2.2.2.2.2.2.2.2.2.2.2.2.1
theorem k0_off27_inb : ∀ (arg18 : BitVec 32) (arg19 : BitVec 32) (k0_hw1 : k0_chk1 arg18 arg19), ∀ a, (k0_off27 arg18 arg19) a + S512x128.size a ≤ S8192x128.size a := fun arg18 arg19 k0_hw1 => k0_hw1.2.1.2.2.2.2.2.2.2.2.2.2.2.2.2.2.2.2.2.2.2.2.2.2.2.2.2.2.2.2.1
theorem k0_mult40_dvd : ∀ (arg18 : BitVec 32) (arg19 : BitVec 32) (k0_hw1 : k0_chk1 arg18 arg19), 512 ∣ (k0_mult40 arg18 arg19).toNat := fun arg18 arg19 k0_hw1 => k0_hw1.2.1.2.2.2.2.2.2.2.2.2.2.2.2.2.2.2.2.2.2.2.2.2.2.2.2.2.2.2.2.2.1
theorem k0_off28_inb : ∀ (arg18 : BitVec 32) (arg19 : BitVec 32) (k0_hw1 : k0_chk1 arg18 arg19), ∀ a, (k0_off28 arg18 arg19) a + S1x128x512.size a ≤ S1x128x8192.size a := fun arg18 arg19 k0_hw1 => k0_hw1.2.1.2.2.2.2.2.2.2.2.2.2.2.2.2.2.2.2.2.2.2.2.2.2.2.2.2.2.2.2.2.2.1
theorem k0_mult41_dvd : ∀ (arg18 : BitVec 32) (arg19 : BitVec 32) (k0_hw1 : k0_chk1 arg18 arg19), 512 ∣ (k0_mult41 arg18 arg19).toNat := fun arg18 arg19 k0_hw1 => k0_hw1.2.1.2.2.2.2.2.2.2.2.2.2.2.2.2.2.2.2.2.2.2.2.2.2.2.2.2.2.2.2.2.2.2
theorem k0_off29_inb : ∀ (arg18 : BitVec 32) (arg19 : BitVec 32) (k0_hw1 : k0_chk1 arg18 arg19), ∀ a, (k0_off29 arg18 arg19) a + S1x1x512.size a ≤ S1x1x8192.size a := fun arg18 arg19 k0_hw1 => k0_hw1.2.2.1.1
theorem k0_mult42_dvd : ∀ (arg18 : BitVec 32) (arg19 : BitVec 32) (k0_hw1 : k0_chk1 arg18 arg19), 512 ∣ (k0_mult42 arg18 arg19).toNat := fun arg18 arg19 k0_hw1 => k0_hw1.2.2.1.2.1
theorem k0_off30_inb : ∀ (arg18 : BitVec 32) (arg19 : BitVec 32) (k0_hw1 : k0_chk1 arg18 arg19), ∀ a, (k0_off30 arg18 arg19) a + S1x128x512.size a ≤ S1x128x8192.size a := fun arg18 arg19 k0_hw1 => k0_hw1.2.2.1.2.2.1
theorem k0_mult43_dvd : ∀ (arg18 : BitVec 32) (arg19 : BitVec 32) (k0_hw1 : k0_chk1 arg18 arg19), 512 ∣ (k0_mult43 arg18 arg19).toNat := fun arg18 arg19 k0_hw1 => k0_hw1.2.2.1.2.2.2.1
theorem k0_mult44_dvd : ∀ (arg18 : BitVec 32) (arg19 : BitVec 32) (k0_hw1 : k0_chk1 arg18 arg19), 512 ∣ (k0_mult44 arg18 arg19).toNat := fun arg18 arg19 k0_hw1 => k0_hw1.2.2.1.2.2.2.2.1
theorem k0_off31_inb : ∀ (arg18 : BitVec 32) (arg19 : BitVec 32) (k0_hw1 : k0_chk1 arg18 arg19), ∀ a, (k0_off31 arg18 arg19) a + S512x256.size a ≤ S8192x256.size a := fun arg18 arg19 k0_hw1 => k0_hw1.2.2.1.2.2.2.2.2.1
theorem k0_mult45_dvd : ∀ (arg18 : BitVec 32) (arg19 : BitVec 32) (k0_hw1 : k0_chk1 arg18 arg19), 512 ∣ (k0_mult45 arg18 arg19).toNat := fun arg18 arg19 k0_hw1 => k0_hw1.2.2.1.2.2.2.2.2.2.1
theorem k0_mult46_dvd : ∀ (arg18 : BitVec 32) (arg19 : BitVec 32) (k0_hw1 : k0_chk1 arg18 arg19), 512 ∣ (k0_mult46 arg18 arg19).toNat := fun arg18 arg19 k0_hw1 => k0_hw1.2.2.1.2.2.2.2.2.2.2.1
theorem k0_off32_inb : ∀ (arg18 : BitVec 32) (arg19 : BitVec 32) (k0_hw1 : k0_chk1 arg18 arg19), ∀ a, (k0_off32 arg18 arg19) a + S512x256.size a ≤ S8192x256.size a := fun arg18 arg19 k0_hw1 => k0_hw1.2.2.1.2.2.2.2.2.2.2.2.1
theorem k0_mult47_dvd : ∀ (arg18 : BitVec 32) (arg19 : BitVec 32) (k0_hw1 : k0_chk1 arg18 arg19), 512 ∣ (k0_mult47 arg18 arg19).toNat := fun arg18 arg19 k0_hw1 => k0_hw1.2.2.1.2.2.2.2.2.2.2.2.2.1
theorem k0_off32_packedbf16 : ∀ (arg18 : BitVec 32) (arg19 : BitVec 32) (k0_hw1 : k0_chk1 arg18 arg19), (Rect.unit (s := S8192x256) (k0_off32 arg18 arg19) S512x256.size (k0_off32_inb arg18 arg19 k0_hw1)).PackedRows (EltTy.packing .bf16) := fun arg18 arg19 k0_hw1 => k0_hw1.2.2.1.2.2.2.2.2.2.2.2.2.2.1 (k0_off32_inb arg18 arg19 k0_hw1)
theorem k0_mult48_dvd : ∀ (arg18 : BitVec 32) (arg19 : BitVec 32) (k0_hw1 : k0_chk1 arg18 arg19), 512 ∣ (k0_mult48 arg18 arg19).toNat := fun arg18 arg19 k0_hw1 => k0_hw1.2.2.1.2.2.2.2.2.2.2.2.2.2.2.1
theorem k0_off33_inb : ∀ (arg18 : BitVec 32) (arg19 : BitVec 32) (k0_hw1 : k0_chk1 arg18 arg19), ∀ a, (k0_off33 arg18 arg19) a + S512x128.size a ≤ S8192x128.size a := fun arg18 arg19 k0_hw1 => k0_hw1.2.2.1.2.2.2.2.2.2.2.2.2.2.2.2.1
theorem k0_off33_packedbf16 : ∀ (arg18 : BitVec 32) (arg19 : BitVec 32) (k0_hw1 : k0_chk1 arg18 arg19), (Rect.unit (s := S8192x128) (k0_off33 arg18 arg19) S512x128.size (k0_off33_inb arg18 arg19 k0_hw1)).PackedRows (EltTy.packing .bf16) := fun arg18 arg19 k0_hw1 => k0_hw1.2.2.1.2.2.2.2.2.2.2.2.2.2.2.2.2.1 (k0_off33_inb arg18 arg19 k0_hw1)
theorem k0_mult49_dvd : ∀ (arg18 : BitVec 32) (arg19 : BitVec 32) (k0_hw1 : k0_chk1 arg18 arg19), 512 ∣ (k0_mult49 arg18 arg19).toNat := fun arg18 arg19 k0_hw1 => k0_hw1.2.2.1.2.2.2.2.2.2.2.2.2.2.2.2.2.2.1
theorem k0_off34_inb : ∀ (arg18 : BitVec 32) (arg19 : BitVec 32) (k0_hw1 : k0_chk1 arg18 arg19), ∀ a, (k0_off34 arg18 arg19) a + S512x256.size a ≤ S8192x256.size a := fun arg18 arg19 k0_hw1 => k0_hw1.2.2.1.2.2.2.2.2.2.2.2.2.2.2.2.2.2.2.1
theorem k0_mult50_dvd : ∀ (arg18 : BitVec 32) (arg19 : BitVec 32) (k0_hw1 : k0_chk1 arg18 arg19), 512 ∣ (k0_mult50 arg18 arg19).toNat := fun arg18 arg19 k0_hw1 => k0_hw1.2.2.1.2.2.2.2.2.2.2.2.2.2.2.2.2.2.2.2.1
theorem k0_off35_inb : ∀ (arg18 : BitVec 32) (arg19 : BitVec 32) (k0_hw1 : k0_chk1 arg18 arg19), ∀ a, (k0_off35 arg18 arg19) a + S512x256.size a ≤ S8192x256.size a := fun arg18 arg19 k0_hw1 => k0_hw1.2.2.1.2.2.2.2.2.2.2.2.2.2.2.2.2.2.2.2.2.1
theorem k0_mult51_dvd : ∀ (arg18 : BitVec 32) (arg19 : BitVec 32) (k0_hw1 : k0_chk1 arg18 arg19), 512 ∣ (k0_mult51 arg18 arg19).toNat := fun arg18 arg19 k0_hw1 => k0_hw1.2.2.1.2.2.2.2.2.2.2.2.2.2.2.2.2.2.2.2.2.2.1
theorem k0_off36_inb : ∀ (arg18 : BitVec 32) (arg19 : BitVec 32) (k0_hw1 : k0_chk1 arg18 arg19), ∀ a, (k0_off36 arg18 arg19) a + S512x128.size a ≤ S8192x128.size a := fun arg18 arg19 k0_hw1 => k0_hw1.2.2.1.2.2.2.2.2.2.2.2.2.2.2.2.2.2.2.2.2.2.2.1
theorem k0_mult52_dvd : ∀ (arg18 : BitVec 32) (arg19 : BitVec 32) (k0_hw1 : k0_chk1 arg18 arg19), 512 ∣ (k0_mult52 arg18 arg19).toNat := fun arg18 arg19 k0_hw1 => k0_hw1.2.2.1.2.2.2.2.2.2.2.2.2.2.2.2.2.2.2.2.2.2.2.2.1
theorem k0_off37_inb : ∀ (arg18 : BitVec 32) (arg19 : BitVec 32) (k0_hw1 : k0_chk1 arg18 arg19), ∀ a, (k0_off37 arg18 arg19) a + S1x128x512.size a ≤ S1x128x8192.size a := fun arg18 arg19 k0_hw1 => k0_hw1.2.2.1.2.2.2.2.2.2.2.2.2.2.2.2.2.2.2.2.2.2.2.2.2.1
theorem k0_mult53_dvd : ∀ (arg18 : BitVec 32) (arg19 : BitVec 32) (k0_hw1 : k0_chk1 arg18 arg19), 512 ∣ (k0_mult53 arg18 arg19).toNat := fun arg18 arg19 k0_hw1 => k0_hw1.2.2.1.2.2.2.2.2.2.2.2.2.2.2.2.2.2.2.2.2.2.2.2.2.2.1
theorem k0_off38_inb : ∀ (arg18 : BitVec 32) (arg19 : BitVec 32) (k0_hw1 : k0_chk1 arg18 arg19), ∀ a, (k0_off38 arg18 arg19) a + S1x1x512.size a ≤ S1x1x8192.size a := fun arg18 arg19 k0_hw1 => k0_hw1.2.2.1.2.2.2.2.2.2.2.2.2.2.2.2.2.2.2.2.2.2.2.2.2.2.2.1
theorem k0_mult54_dvd : ∀ (arg18 : BitVec 32) (arg19 : BitVec 32) (k0_hw1 : k0_chk1 arg18 arg19), 512 ∣ (k0_mult54 arg18 arg19).toNat := fun arg18 arg19 k0_hw1 => k0_hw1.2.2.1.2.2.2.2.2.2.2.2.2.2.2.2.2.2.2.2.2.2.2.2.2.2.2.2.1
theorem k0_off39_inb : ∀ (arg18 : BitVec 32) (arg19 : BitVec 32) (k0_hw1 : k0_chk1 arg18 arg19), ∀ a, (k0_off39 arg18 arg19) a + S1x128x512.size a ≤ S1x128x8192.size a := fun arg18 arg19 k0_hw1 => k0_hw1.2.2.1.2.2.2.2.2.2.2.2.2.2.2.2.2.2.2.2.2.2.2.2.2.2.2.2.2.1
theorem k0_mult55_dvd : ∀ (arg18 : BitVec 32) (arg19 : BitVec 32) (k0_hw1 : k0_chk1 arg18 arg19), 512 ∣ (k0_mult55 arg18 arg19).toNat := fun arg18 arg19 k0_hw1 => k0_hw1.2.2.1.2.2.2.2.2.2.2.2.2.2.2.2.2.2.2.2.2.2.2.2.2.2.2.2.2.2.1
theorem k0_mult56_dvd : ∀ (arg18 : BitVec 32) (arg19 : BitVec 32) (k0_hw1 : k0_chk1 arg18 arg19), 512 ∣ (k0_mult56 arg18 arg19).toNat := fun arg18 arg19 k0_hw1 => k0_hw1.2.2.1.2.2.2.2.2.2.2.2.2.2.2.2.2.2.2.2.2.2.2.2.2.2.2.2.2.2.2.1
theorem k0_off40_inb : ∀ (arg18 : BitVec 32) (arg19 : BitVec 32) (k0_hw1 : k0_chk1 arg18 arg19), ∀ a, (k0_off40 arg18 arg19) a + S512x256.size a ≤ S8192x256.size a := fun arg18 arg19 k0_hw1 => k0_hw1.2.2.1.2.2.2.2.2.2.2.2.2.2.2.2.2.2.2.2.2.2.2.2.2.2.2.2.2.2.2.2.1
theorem k0_mult57_dvd : ∀ (arg18 : BitVec 32) (arg19 : BitVec 32) (k0_hw1 : k0_chk1 arg18 arg19), 512 ∣ (k0_mult57 arg18 arg19).toNat := fun arg18 arg19 k0_hw1 => k0_hw1.2.2.1.2.2.2.2.2.2.2.2.2.2.2.2.2.2.2.2.2.2.2.2.2.2.2.2.2.2.2.2.2.1
theorem k0_mult58_dvd : ∀ (arg18 : BitVec 32) (arg19 : BitVec 32) (k0_hw1 : k0_chk1 arg18 arg19), 512 ∣ (k0_mult58 arg18 arg19).toNat := fun arg18 arg19 k0_hw1 => k0_hw1.2.2.1.2.2.2.2.2.2.2.2.2.2.2.2.2.2.2.2.2.2.2.2.2.2.2.2.2.2.2.2.2.2.1
theorem k0_off41_inb : ∀ (arg18 : BitVec 32) (arg19 : BitVec 32) (k0_hw1 : k0_chk1 arg18 arg19), ∀ a, (k0_off41 arg18 arg19) a + S512x256.size a ≤ S8192x256.size a := fun arg18 arg19 k0_hw1 => k0_hw1.2.2.1.2.2.2.2.2.2.2.2.2.2.2.2.2.2.2.2.2.2.2.2.2.2.2.2.2.2.2.2.2.2.2
theorem k0_mult59_dvd : ∀ (arg18 : BitVec 32) (arg19 : BitVec 32) (k0_hw1 : k0_chk1 arg18 arg19), 512 ∣ (k0_mult59 arg18 arg19).toNat := fun arg18 arg19 k0_hw1 => k0_hw1.2.2.2.1.1
theorem k0_off41_packedbf16 : ∀ (arg18 : BitVec 32) (arg19 : BitVec 32) (k0_hw1 : k0_chk1 arg18 arg19), (Rect.unit (s := S8192x256) (k0_off41 arg18 arg19) S512x256.size (k0_off41_inb arg18 arg19 k0_hw1)).PackedRows (EltTy.packing .bf16) := fun arg18 arg19 k0_hw1 => k0_hw1.2.2.2.1.2.1 (k0_off41_inb arg18 arg19 k0_hw1)
theorem k0_mult60_dvd : ∀ (arg18 : BitVec 32) (arg19 : BitVec 32) (k0_hw1 : k0_chk1 arg18 arg19), 512 ∣ (k0_mult60 arg18 arg19).toNat := fun arg18 arg19 k0_hw1 => k0_hw1.2.2.2.1.2.2.1
theorem k0_off42_inb : ∀ (arg18 : BitVec 32) (arg19 : BitVec 32) (k0_hw1 : k0_chk1 arg18 arg19), ∀ a, (k0_off42 arg18 arg19) a + S512x128.size a ≤ S8192x128.size a := fun arg18 arg19 k0_hw1 => k0_hw1.2.2.2.1.2.2.2.1
theorem k0_off42_packedbf16 : ∀ (arg18 : BitVec 32) (arg19 : BitVec 32) (k0_hw1 : k0_chk1 arg18 arg19), (Rect.unit (s := S8192x128) (k0_off42 arg18 arg19) S512x128.size (k0_off42_inb arg18 arg19 k0_hw1)).PackedRows (EltTy.packing .bf16) := fun arg18 arg19 k0_hw1 => k0_hw1.2.2.2.1.2.2.2.2.1 (k0_off42_inb arg18 arg19 k0_hw1)
theorem k0_mult61_dvd : ∀ (arg18 : BitVec 32) (arg19 : BitVec 32) (k0_hw1 : k0_chk1 arg18 arg19), 512 ∣ (k0_mult61 arg18 arg19).toNat := fun arg18 arg19 k0_hw1 => k0_hw1.2.2.2.1.2.2.2.2.2.1
theorem k0_off43_inb : ∀ (arg18 : BitVec 32) (arg19 : BitVec 32) (k0_hw1 : k0_chk1 arg18 arg19), ∀ a, (k0_off43 arg18 arg19) a + S512x256.size a ≤ S8192x256.size a := fun arg18 arg19 k0_hw1 => k0_hw1.2.2.2.1.2.2.2.2.2.2.1
theorem k0_mult62_dvd : ∀ (arg18 : BitVec 32) (arg19 : BitVec 32) (k0_hw1 : k0_chk1 arg18 arg19), 512 ∣ (k0_mult62 arg18 arg19).toNat := fun arg18 arg19 k0_hw1 => k0_hw1.2.2.2.1.2.2.2.2.2.2.2.1
theorem k0_off44_inb : ∀ (arg18 : BitVec 32) (arg19 : BitVec 32) (k0_hw1 : k0_chk1 arg18 arg19), ∀ a, (k0_off44 arg18 arg19) a + S512x256.size a ≤ S8192x256.size a := fun arg18 arg19 k0_hw1 => k0_hw1.2.2.2.1.2.2.2.2.2.2.2.2.1
theorem k0_mult63_dvd : ∀ (arg18 : BitVec 32) (arg19 : BitVec 32) (k0_hw1 : k0_chk1 arg18 arg19), 512 ∣ (k0_mult63 arg18 arg19).toNat := fun arg18 arg19 k0_hw1 => k0_hw1.2.2.2.1.2.2.2.2.2.2.2.2.2.1
theorem k0_off45_inb : ∀ (arg18 : BitVec 32) (arg19 : BitVec 32) (k0_hw1 : k0_chk1 arg18 arg19), ∀ a, (k0_off45 arg18 arg19) a + S512x128.size a ≤ S8192x128.size a := fun arg18 arg19 k0_hw1 => k0_hw1.2.2.2.1.2.2.2.2.2.2.2.2.2.2.1
theorem k0_mult64_dvd : ∀ (arg18 : BitVec 32) (arg19 : BitVec 32) (k0_hw1 : k0_chk1 arg18 arg19), 512 ∣ (k0_mult64 arg18 arg19).toNat := fun arg18 arg19 k0_hw1 => k0_hw1.2.2.2.1.2.2.2.2.2.2.2.2.2.2.2.1
theorem k0_off46_inb : ∀ (arg18 : BitVec 32) (arg19 : BitVec 32) (k0_hw1 : k0_chk1 arg18 arg19), ∀ a, (k0_off46 arg18 arg19) a + S1x128x512.size a ≤ S1x128x8192.size a := fun arg18 arg19 k0_hw1 => k0_hw1.2.2.2.1.2.2.2.2.2.2.2.2.2.2.2.2.1
theorem k0_mult65_dvd : ∀ (arg18 : BitVec 32) (arg19 : BitVec 32) (k0_hw1 : k0_chk1 arg18 arg19), 512 ∣ (k0_mult65 arg18 arg19).toNat := fun arg18 arg19 k0_hw1 => k0_hw1.2.2.2.1.2.2.2.2.2.2.2.2.2.2.2.2.2.1
theorem k0_off47_inb : ∀ (arg18 : BitVec 32) (arg19 : BitVec 32) (k0_hw1 : k0_chk1 arg18 arg19), ∀ a, (k0_off47 arg18 arg19) a + S1x1x512.size a ≤ S1x1x8192.size a := fun arg18 arg19 k0_hw1 => k0_hw1.2.2.2.1.2.2.2.2.2.2.2.2.2.2.2.2.2.2.1
theorem k0_mult66_dvd : ∀ (arg18 : BitVec 32) (arg19 : BitVec 32) (k0_hw1 : k0_chk1 arg18 arg19), 512 ∣ (k0_mult66 arg18 arg19).toNat := fun arg18 arg19 k0_hw1 => k0_hw1.2.2.2.1.2.2.2.2.2.2.2.2.2.2.2.2.2.2.2.1
theorem k0_off48_inb : ∀ (arg18 : BitVec 32) (arg19 : BitVec 32) (k0_hw1 : k0_chk1 arg18 arg19), ∀ a, (k0_off48 arg18 arg19) a + S1x128x512.size a ≤ S1x128x8192.size a := fun arg18 arg19 k0_hw1 => k0_hw1.2.2.2.1.2.2.2.2.2.2.2.2.2.2.2.2.2.2.2.2.1
theorem k0_mult67_dvd : ∀ (arg18 : BitVec 32) (arg19 : BitVec 32) (k0_hw1 : k0_chk1 arg18 arg19), 512 ∣ (k0_mult67 arg18 arg19).toNat := fun arg18 arg19 k0_hw1 => k0_hw1.2.2.2.1.2.2.2.2.2.2.2.2.2.2.2.2.2.2.2.2.2.1
theorem k0_mult68_dvd : ∀ (arg18 : BitVec 32) (arg19 : BitVec 32) (k0_hw1 : k0_chk1 arg18 arg19), 512 ∣ (k0_mult68 arg18 arg19).toNat := fun arg18 arg19 k0_hw1 => k0_hw1.2.2.2.1.2.2.2.2.2.2.2.2.2.2.2.2.2.2.2.2.2.2.1
theorem k0_off49_inb : ∀ (arg18 : BitVec 32) (arg19 : BitVec 32) (k0_hw1 : k0_chk1 arg18 arg19), ∀ a, (k0_off49 arg18 arg19) a + S512x256.size a ≤ S8192x256.size a := fun arg18 arg19 k0_hw1 => k0_hw1.2.2.2.1.2.2.2.2.2.2.2.2.2.2.2.2.2.2.2.2.2.2.2.1
theorem k0_mult69_dvd : ∀ (arg18 : BitVec 32) (arg19 : BitVec 32) (k0_hw1 : k0_chk1 arg18 arg19), 512 ∣ (k0_mult69 arg18 arg19).toNat := fun arg18 arg19 k0_hw1 => k0_hw1.2.2.2.1.2.2.2.2.2.2.2.2.2.2.2.2.2.2.2.2.2.2.2.2.1
theorem k0_mult70_dvd : ∀ (arg18 : BitVec 32) (arg19 : BitVec 32) (k0_hw1 : k0_chk1 arg18 arg19), 512 ∣ (k0_mult70 arg18 arg19).toNat := fun arg18 arg19 k0_hw1 => k0_hw1.2.2.2.1.2.2.2.2.2.2.2.2.2.2.2.2.2.2.2.2.2.2.2.2.2.1
theorem k0_off50_inb : ∀ (arg18 : BitVec 32) (arg19 : BitVec 32) (k0_hw1 : k0_chk1 arg18 arg19), ∀ a, (k0_off50 arg18 arg19) a + S512x256.size a ≤ S8192x256.size a := fun arg18 arg19 k0_hw1 => k0_hw1.2.2.2.1.2.2.2.2.2.2.2.2.2.2.2.2.2.2.2.2.2.2.2.2.2.2.1
theorem k0_mult71_dvd : ∀ (arg18 : BitVec 32) (arg19 : BitVec 32) (k0_hw1 : k0_chk1 arg18 arg19), 512 ∣ (k0_mult71 arg18 arg19).toNat := fun arg18 arg19 k0_hw1 => k0_hw1.2.2.2.1.2.2.2.2.2.2.2.2.2.2.2.2.2.2.2.2.2.2.2.2.2.2.2.1
theorem k0_off50_packedbf16 : ∀ (arg18 : BitVec 32) (arg19 : BitVec 32) (k0_hw1 : k0_chk1 arg18 arg19), (Rect.unit (s := S8192x256) (k0_off50 arg18 arg19) S512x256.size (k0_off50_inb arg18 arg19 k0_hw1)).PackedRows (EltTy.packing .bf16) := fun arg18 arg19 k0_hw1 => k0_hw1.2.2.2.1.2.2.2.2.2.2.2.2.2.2.2.2.2.2.2.2.2.2.2.2.2.2.2.2.1 (k0_off50_inb arg18 arg19 k0_hw1)
theorem k0_mult72_dvd : ∀ (arg18 : BitVec 32) (arg19 : BitVec 32) (k0_hw1 : k0_chk1 arg18 arg19), 512 ∣ (k0_mult72 arg18 arg19).toNat := fun arg18 arg19 k0_hw1 => k0_hw1.2.2.2.1.2.2.2.2.2.2.2.2.2.2.2.2.2.2.2.2.2.2.2.2.2.2.2.2.2.1
theorem k0_off51_inb : ∀ (arg18 : BitVec 32) (arg19 : BitVec 32) (k0_hw1 : k0_chk1 arg18 arg19), ∀ a, (k0_off51 arg18 arg19) a + S512x128.size a ≤ S8192x128.size a := fun arg18 arg19 k0_hw1 => k0_hw1.2.2.2.1.2.2.2.2.2.2.2.2.2.2.2.2.2.2.2.2.2.2.2.2.2.2.2.2.2.2.1
theorem k0_off51_packedbf16 : ∀ (arg18 : BitVec 32) (arg19 : BitVec 32) (k0_hw1 : k0_chk1 arg18 arg19), (Rect.unit (s := S8192x128) (k0_off51 arg18 arg19) S512x128.size (k0_off51_inb arg18 arg19 k0_hw1)).PackedRows (EltTy.packing .bf16) := fun arg18 arg19 k0_hw1 => k0_hw1.2.2.2.1.2.2.2.2.2.2.2.2.2.2.2.2.2.2.2.2.2.2.2.2.2.2.2.2.2.2.2.1 (k0_off51_inb arg18 arg19 k0_hw1)
theorem k0_mult73_dvd : ∀ (arg18 : BitVec 32) (arg19 : BitVec 32) (k0_hw1 : k0_chk1 arg18 arg19), 512 ∣ (k0_mult73 arg18 arg19).toNat := fun arg18 arg19 k0_hw1 => k0_hw1.2.2.2.1.2.2.2.2.2.2.2.2.2.2.2.2.2.2.2.2.2.2.2.2.2.2.2.2.2.2.2.2.1
theorem k0_off52_inb : ∀ (arg18 : BitVec 32) (arg19 : BitVec 32) (k0_hw1 : k0_chk1 arg18 arg19), ∀ a, (k0_off52 arg18 arg19) a + S512x256.size a ≤ S8192x256.size a := fun arg18 arg19 k0_hw1 => k0_hw1.2.2.2.1.2.2.2.2.2.2.2.2.2.2.2.2.2.2.2.2.2.2.2.2.2.2.2.2.2.2.2.2.2.1
theorem k0_mult74_dvd : ∀ (arg18 : BitVec 32) (arg19 : BitVec 32) (k0_hw1 : k0_chk1 arg18 arg19), 512 ∣ (k0_mult74 arg18 arg19).toNat := fun arg18 arg19 k0_hw1 => k0_hw1.2.2.2.1.2.2.2.2.2.2.2.2.2.2.2.2.2.2.2.2.2.2.2.2.2.2.2.2.2.2.2.2.2.2.1
theorem k0_off53_inb : ∀ (arg18 : BitVec 32) (arg19 : BitVec 32) (k0_hw1 : k0_chk1 arg18 arg19), ∀ a, (k0_off53 arg18 arg19) a + S512x256.size a ≤ S8192x256.size a := fun arg18 arg19 k0_hw1 => k0_hw1.2.2.2.1.2.2.2.2.2.2.2.2.2.2.2.2.2.2.2.2.2.2.2.2.2.2.2.2.2.2.2.2.2.2.2
theorem k0_mult75_dvd : ∀ (arg18 : BitVec 32) (arg19 : BitVec 32) (k0_hw1 : k0_chk1 arg18 arg19), 512 ∣ (k0_mult75 arg18 arg19).toNat := fun arg18 arg19 k0_hw1 => k0_hw1.2.2.2.2.1.1
theorem k0_off54_inb : ∀ (arg18 : BitVec 32) (arg19 : BitVec 32) (k0_hw1 : k0_chk1 arg18 arg19), ∀ a, (k0_off54 arg18 arg19) a + S512x128.size a ≤ S8192x128.size a := fun arg18 arg19 k0_hw1 => k0_hw1.2.2.2.2.1.2.1
theorem k0_mult76_dvd : ∀ (arg18 : BitVec 32) (arg19 : BitVec 32) (k0_hw1 : k0_chk1 arg18 arg19), 512 ∣ (k0_mult76 arg18 arg19).toNat := fun arg18 arg19 k0_hw1 => k0_hw1.2.2.2.2.1.2.2.1
theorem k0_off55_inb : ∀ (arg18 : BitVec 32) (arg19 : BitVec 32) (k0_hw1 : k0_chk1 arg18 arg19), ∀ a, (k0_off55 arg18 arg19) a + S1x128x512.size a ≤ S1x128x8192.size a := fun arg18 arg19 k0_hw1 => k0_hw1.2.2.2.2.1.2.2.2.1
theorem k0_mult77_dvd : ∀ (arg18 : BitVec 32) (arg19 : BitVec 32) (k0_hw1 : k0_chk1 arg18 arg19), 512 ∣ (k0_mult77 arg18 arg19).toNat := fun arg18 arg19 k0_hw1 => k0_hw1.2.2.2.2.1.2.2.2.2.1
theorem k0_off56_inb : ∀ (arg18 : BitVec 32) (arg19 : BitVec 32) (k0_hw1 : k0_chk1 arg18 arg19), ∀ a, (k0_off56 arg18 arg19) a + S1x1x512.size a ≤ S1x1x8192.size a := fun arg18 arg19 k0_hw1 => k0_hw1.2.2.2.2.1.2.2.2.2.2.1
theorem k0_mult78_dvd : ∀ (arg18 : BitVec 32) (arg19 : BitVec 32) (k0_hw1 : k0_chk1 arg18 arg19), 512 ∣ (k0_mult78 arg18 arg19).toNat := fun arg18 arg19 k0_hw1 => k0_hw1.2.2.2.2.1.2.2.2.2.2.2.1
theorem k0_off57_inb : ∀ (arg18 : BitVec 32) (arg19 : BitVec 32) (k0_hw1 : k0_chk1 arg18 arg19), ∀ a, (k0_off57 arg18 arg19) a + S1x128x512.size a ≤ S1x128x8192.size a := fun arg18 arg19 k0_hw1 => k0_hw1.2.2.2.2.1.2.2.2.2.2.2.2.1
theorem k0_mult79_dvd : ∀ (arg18 : BitVec 32) (arg19 : BitVec 32) (k0_hw1 : k0_chk1 arg18 arg19), 512 ∣ (k0_mult79 arg18 arg19).toNat := fun arg18 arg19 k0_hw1 => k0_hw1.2.2.2.2.1.2.2.2.2.2.2.2.2.1
theorem k0_mult80_dvd : ∀ (arg18 : BitVec 32) (arg19 : BitVec 32) (k0_hw1 : k0_chk1 arg18 arg19), 512 ∣ (k0_mult80 arg18 arg19).toNat := fun arg18 arg19 k0_hw1 => k0_hw1.2.2.2.2.1.2.2.2.2.2.2.2.2.2.1
theorem k0_off58_inb : ∀ (arg18 : BitVec 32) (arg19 : BitVec 32) (k0_hw1 : k0_chk1 arg18 arg19), ∀ a, (k0_off58 arg18 arg19) a + S512x256.size a ≤ S8192x256.size a := fun arg18 arg19 k0_hw1 => k0_hw1.2.2.2.2.1.2.2.2.2.2.2.2.2.2.2.1
theorem k0_mult81_dvd : ∀ (arg18 : BitVec 32) (arg19 : BitVec 32) (k0_hw1 : k0_chk1 arg18 arg19), 512 ∣ (k0_mult81 arg18 arg19).toNat := fun arg18 arg19 k0_hw1 => k0_hw1.2.2.2.2.1.2.2.2.2.2.2.2.2.2.2.2.1
theorem k0_mult82_dvd : ∀ (arg18 : BitVec 32) (arg19 : BitVec 32) (k0_hw1 : k0_chk1 arg18 arg19), 512 ∣ (k0_mult82 arg18 arg19).toNat := fun arg18 arg19 k0_hw1 => k0_hw1.2.2.2.2.1.2.2.2.2.2.2.2.2.2.2.2.2.1
theorem k0_off59_inb : ∀ (arg18 : BitVec 32) (arg19 : BitVec 32) (k0_hw1 : k0_chk1 arg18 arg19), ∀ a, (k0_off59 arg18 arg19) a + S512x256.size a ≤ S8192x256.size a := fun arg18 arg19 k0_hw1 => k0_hw1.2.2.2.2.1.2.2.2.2.2.2.2.2.2.2.2.2.2.1
theorem k0_mult83_dvd : ∀ (arg18 : BitVec 32) (arg19 : BitVec 32) (k0_hw1 : k0_chk1 arg18 arg19), 512 ∣ (k0_mult83 arg18 arg19).toNat := fun arg18 arg19 k0_hw1 => k0_hw1.2.2.2.2.1.2.2.2.2.2.2.2.2.2.2.2.2.2.2.1
theorem k0_off59_packedbf16 : ∀ (arg18 : BitVec 32) (arg19 : BitVec 32) (k0_hw1 : k0_chk1 arg18 arg19), (Rect.unit (s := S8192x256) (k0_off59 arg18 arg19) S512x256.size (k0_off59_inb arg18 arg19 k0_hw1)).PackedRows (EltTy.packing .bf16) := fun arg18 arg19 k0_hw1 => k0_hw1.2.2.2.2.1.2.2.2.2.2.2.2.2.2.2.2.2.2.2.2.1 (k0_off59_inb arg18 arg19 k0_hw1)
theorem k0_mult84_dvd : ∀ (arg18 : BitVec 32) (arg19 : BitVec 32) (k0_hw1 : k0_chk1 arg18 arg19), 512 ∣ (k0_mult84 arg18 arg19).toNat := fun arg18 arg19 k0_hw1 => k0_hw1.2.2.2.2.1.2.2.2.2.2.2.2.2.2.2.2.2.2.2.2.2.1
theorem k0_off60_inb : ∀ (arg18 : BitVec 32) (arg19 : BitVec 32) (k0_hw1 : k0_chk1 arg18 arg19), ∀ a, (k0_off60 arg18 arg19) a + S512x128.size a ≤ S8192x128.size a := fun arg18 arg19 k0_hw1 => k0_hw1.2.2.2.2.1.2.2.2.2.2.2.2.2.2.2.2.2.2.2.2.2.2.1
theorem k0_off60_packedbf16 : ∀ (arg18 : BitVec 32) (arg19 : BitVec 32) (k0_hw1 : k0_chk1 arg18 arg19), (Rect.unit (s := S8192x128) (k0_off60 arg18 arg19) S512x128.size (k0_off60_inb arg18 arg19 k0_hw1)).PackedRows (EltTy.packing .bf16) := fun arg18 arg19 k0_hw1 => k0_hw1.2.2.2.2.1.2.2.2.2.2.2.2.2.2.2.2.2.2.2.2.2.2.2.1 (k0_off60_inb arg18 arg19 k0_hw1)
theorem k0_mult85_dvd : ∀ (arg18 : BitVec 32) (arg19 : BitVec 32) (k0_hw1 : k0_chk1 arg18 arg19), 512 ∣ (k0_mult85 arg18 arg19).toNat := fun arg18 arg19 k0_hw1 => k0_hw1.2.2.2.2.1.2.2.2.2.2.2.2.2.2.2.2.2.2.2.2.2.2.2.2.1
theorem k0_off61_inb : ∀ (arg18 : BitVec 32) (arg19 : BitVec 32) (k0_hw1 : k0_chk1 arg18 arg19), ∀ a, (k0_off61 arg18 arg19) a + S512x256.size a ≤ S8192x256.size a := fun arg18 arg19 k0_hw1 => k0_hw1.2.2.2.2.1.2.2.2.2.2.2.2.2.2.2.2.2.2.2.2.2.2.2.2.2.1
theorem k0_mult86_dvd : ∀ (arg18 : BitVec 32) (arg19 : BitVec 32) (k0_hw1 : k0_chk1 arg18 arg19), 512 ∣ (k0_mult86 arg18 arg19).toNat := fun arg18 arg19 k0_hw1 => k0_hw1.2.2.2.2.1.2.2.2.2.2.2.2.2.2.2.2.2.2.2.2.2.2.2.2.2.2.1
theorem k0_off62_inb : ∀ (arg18 : BitVec 32) (arg19 : BitVec 32) (k0_hw1 : k0_chk1 arg18 arg19), ∀ a, (k0_off62 arg18 arg19) a + S512x256.size a ≤ S8192x256.size a := fun arg18 arg19 k0_hw1 => k0_hw1.2.2.2.2.1.2.2.2.2.2.2.2.2.2.2.2.2.2.2.2.2.2.2.2.2.2.2.1
theorem k0_mult87_dvd : ∀ (arg18 : BitVec 32) (arg19 : BitVec 32) (k0_hw1 : k0_chk1 arg18 arg19), 512 ∣ (k0_mult87 arg18 arg19).toNat := fun arg18 arg19 k0_hw1 => k0_hw1.2.2.2.2.1.2.2.2.2.2.2.2.2.2.2.2.2.2.2.2.2.2.2.2.2.2.2.2.1
theorem k0_off63_inb : ∀ (arg18 : BitVec 32) (arg19 : BitVec 32) (k0_hw1 : k0_chk1 arg18 arg19), ∀ a, (k0_off63 arg18 arg19) a + S512x128.size a ≤ S8192x128.size a := fun arg18 arg19 k0_hw1 => k0_hw1.2.2.2.2.1.2.2.2.2.2.2.2.2.2.2.2.2.2.2.2.2.2.2.2.2.2.2.2.2.1
theorem k0_mult88_dvd : ∀ (arg18 : BitVec 32) (arg19 : BitVec 32) (k0_hw1 : k0_chk1 arg18 arg19), 512 ∣ (k0_mult88 arg18 arg19).toNat := fun arg18 arg19 k0_hw1 => k0_hw1.2.2.2.2.1.2.2.2.2.2.2.2.2.2.2.2.2.2.2.2.2.2.2.2.2.2.2.2.2.2.1
theorem k0_off64_inb : ∀ (arg18 : BitVec 32) (arg19 : BitVec 32) (k0_hw1 : k0_chk1 arg18 arg19), ∀ a, (k0_off64 arg18 arg19) a + S1x128x512.size a ≤ S1x128x8192.size a := fun arg18 arg19 k0_hw1 => k0_hw1.2.2.2.2.1.2.2.2.2.2.2.2.2.2.2.2.2.2.2.2.2.2.2.2.2.2.2.2.2.2.2.1
theorem k0_mult89_dvd : ∀ (arg18 : BitVec 32) (arg19 : BitVec 32) (k0_hw1 : k0_chk1 arg18 arg19), 512 ∣ (k0_mult89 arg18 arg19).toNat := fun arg18 arg19 k0_hw1 => k0_hw1.2.2.2.2.1.2.2.2.2.2.2.2.2.2.2.2.2.2.2.2.2.2.2.2.2.2.2.2.2.2.2.2.1
theorem k0_off65_inb : ∀ (arg18 : BitVec 32) (arg19 : BitVec 32) (k0_hw1 : k0_chk1 arg18 arg19), ∀ a, (k0_off65 arg18 arg19) a + S1x1x512.size a ≤ S1x1x8192.size a := fun arg18 arg19 k0_hw1 => k0_hw1.2.2.2.2.1.2.2.2.2.2.2.2.2.2.2.2.2.2.2.2.2.2.2.2.2.2.2.2.2.2.2.2.2.1
theorem k0_mult90_dvd : ∀ (arg18 : BitVec 32) (arg19 : BitVec 32) (k0_hw1 : k0_chk1 arg18 arg19), 512 ∣ (k0_mult90 arg18 arg19).toNat := fun arg18 arg19 k0_hw1 => k0_hw1.2.2.2.2.1.2.2.2.2.2.2.2.2.2.2.2.2.2.2.2.2.2.2.2.2.2.2.2.2.2.2.2.2.2.1
theorem k0_off66_inb : ∀ (arg18 : BitVec 32) (arg19 : BitVec 32) (k0_hw1 : k0_chk1 arg18 arg19), ∀ a, (k0_off66 arg18 arg19) a + S1x128x512.size a ≤ S1x128x8192.size a := fun arg18 arg19 k0_hw1 => k0_hw1.2.2.2.2.1.2.2.2.2.2.2.2.2.2.2.2.2.2.2.2.2.2.2.2.2.2.2.2.2.2.2.2.2.2.2.1
theorem k0_mult91_dvd : ∀ (arg18 : BitVec 32) (arg19 : BitVec 32) (k0_hw1 : k0_chk1 arg18 arg19), 512 ∣ (k0_mult91 arg18 arg19).toNat := fun arg18 arg19 k0_hw1 => k0_hw1.2.2.2.2.1.2.2.2.2.2.2.2.2.2.2.2.2.2.2.2.2.2.2.2.2.2.2.2.2.2.2.2.2.2.2.2
theorem k0_mult92_dvd : ∀ (arg18 : BitVec 32) (arg19 : BitVec 32) (k0_hw1 : k0_chk1 arg18 arg19), 512 ∣ (k0_mult92 arg18 arg19).toNat := fun arg18 arg19 k0_hw1 => k0_hw1.2.2.2.2.2.1
theorem k0_off67_inb : ∀ (arg18 : BitVec 32) (arg19 : BitVec 32) (k0_hw1 : k0_chk1 arg18 arg19), ∀ a, (k0_off67 arg18 arg19) a + S512x256.size a ≤ S8192x256.size a := fun arg18 arg19 k0_hw1 => k0_hw1.2.2.2.2.2.2.1
theorem k0_mult93_dvd : ∀ (arg18 : BitVec 32) (arg19 : BitVec 32) (k0_hw1 : k0_chk1 arg18 arg19), 512 ∣ (k0_mult93 arg18 arg19).toNat := fun arg18 arg19 k0_hw1 => k0_hw1.2.2.2.2.2.2.2.1
theorem k0_mult94_dvd : ∀ (arg18 : BitVec 32) (arg19 : BitVec 32) (k0_hw1 : k0_chk1 arg18 arg19), 512 ∣ (k0_mult94 arg18 arg19).toNat := fun arg18 arg19 k0_hw1 => k0_hw1.2.2.2.2.2.2.2.2.1
theorem k0_off68_inb : ∀ (arg18 : BitVec 32) (arg19 : BitVec 32) (k0_hw1 : k0_chk1 arg18 arg19), ∀ a, (k0_off68 arg18 arg19) a + S512x256.size a ≤ S8192x256.size a := fun arg18 arg19 k0_hw1 => k0_hw1.2.2.2.2.2.2.2.2.2.1
theorem k0_mult95_dvd : ∀ (arg18 : BitVec 32) (arg19 : BitVec 32) (k0_hw1 : k0_chk1 arg18 arg19), 512 ∣ (k0_mult95 arg18 arg19).toNat := fun arg18 arg19 k0_hw1 => k0_hw1.2.2.2.2.2.2.2.2.2.2.1
theorem k0_off68_packedbf16 : ∀ (arg18 : BitVec 32) (arg19 : BitVec 32) (k0_hw1 : k0_chk1 arg18 arg19), (Rect.unit (s := S8192x256) (k0_off68 arg18 arg19) S512x256.size (k0_off68_inb arg18 arg19 k0_hw1)).PackedRows (EltTy.packing .bf16) := fun arg18 arg19 k0_hw1 => k0_hw1.2.2.2.2.2.2.2.2.2.2.2.1 (k0_off68_inb arg18 arg19 k0_hw1)
theorem k0_mult96_dvd : ∀ (arg18 : BitVec 32) (arg19 : BitVec 32) (k0_hw1 : k0_chk1 arg18 arg19), 512 ∣ (k0_mult96 arg18 arg19).toNat := fun arg18 arg19 k0_hw1 => k0_hw1.2.2.2.2.2.2.2.2.2.2.2.2.1
theorem k0_off69_inb : ∀ (arg18 : BitVec 32) (arg19 : BitVec 32) (k0_hw1 : k0_chk1 arg18 arg19), ∀ a, (k0_off69 arg18 arg19) a + S512x128.size a ≤ S8192x128.size a := fun arg18 arg19 k0_hw1 => k0_hw1.2.2.2.2.2.2.2.2.2.2.2.2.2.1
theorem k0_off69_packedbf16 : ∀ (arg18 : BitVec 32) (arg19 : BitVec 32) (k0_hw1 : k0_chk1 arg18 arg19), (Rect.unit (s := S8192x128) (k0_off69 arg18 arg19) S512x128.size (k0_off69_inb arg18 arg19 k0_hw1)).PackedRows (EltTy.packing .bf16) := fun arg18 arg19 k0_hw1 => k0_hw1.2.2.2.2.2.2.2.2.2.2.2.2.2.2.1 (k0_off69_inb arg18 arg19 k0_hw1)
theorem k0_mult97_dvd : ∀ (arg18 : BitVec 32) (arg19 : BitVec 32) (k0_hw1 : k0_chk1 arg18 arg19), 512 ∣ (k0_mult97 arg18 arg19).toNat := fun arg18 arg19 k0_hw1 => k0_hw1.2.2.2.2.2.2.2.2.2.2.2.2.2.2.2.1
theorem k0_off70_inb : ∀ (arg18 : BitVec 32) (arg19 : BitVec 32) (k0_hw1 : k0_chk1 arg18 arg19), ∀ a, (k0_off70 arg18 arg19) a + S512x256.size a ≤ S8192x256.size a := fun arg18 arg19 k0_hw1 => k0_hw1.2.2.2.2.2.2.2.2.2.2.2.2.2.2.2.2.1
theorem k0_mult98_dvd : ∀ (arg18 : BitVec 32) (arg19 : BitVec 32) (k0_hw1 : k0_chk1 arg18 arg19), 512 ∣ (k0_mult98 arg18 arg19).toNat := fun arg18 arg19 k0_hw1 => k0_hw1.2.2.2.2.2.2.2.2.2.2.2.2.2.2.2.2.2.1
theorem k0_off71_inb : ∀ (arg18 : BitVec 32) (arg19 : BitVec 32) (k0_hw1 : k0_chk1 arg18 arg19), ∀ a, (k0_off71 arg18 arg19) a + S512x256.size a ≤ S8192x256.size a := fun arg18 arg19 k0_hw1 => k0_hw1.2.2.2.2.2.2.2.2.2.2.2.2.2.2.2.2.2.2.1
theorem k0_mult99_dvd : ∀ (arg18 : BitVec 32) (arg19 : BitVec 32) (k0_hw1 : k0_chk1 arg18 arg19), 512 ∣ (k0_mult99 arg18 arg19).toNat := fun arg18 arg19 k0_hw1 => k0_hw1.2.2.2.2.2.2.2.2.2.2.2.2.2.2.2.2.2.2.2.1
theorem k0_off72_inb : ∀ (arg18 : BitVec 32) (arg19 : BitVec 32) (k0_hw1 : k0_chk1 arg18 arg19), ∀ a, (k0_off72 arg18 arg19) a + S512x128.size a ≤ S8192x128.size a := fun arg18 arg19 k0_hw1 => k0_hw1.2.2.2.2.2.2.2.2.2.2.2.2.2.2.2.2.2.2.2.2.1
theorem k0_mult100_dvd : ∀ (arg18 : BitVec 32) (arg19 : BitVec 32) (k0_hw1 : k0_chk1 arg18 arg19), 512 ∣ (k0_mult100 arg18 arg19).toNat := fun arg18 arg19 k0_hw1 => k0_hw1.2.2.2.2.2.2.2.2.2.2.2.2.2.2.2.2.2.2.2.2.2.1
theorem k0_off73_inb : ∀ (arg18 : BitVec 32) (arg19 : BitVec 32) (k0_hw1 : k0_chk1 arg18 arg19), ∀ a, (k0_off73 arg18 arg19) a + S1x128x512.size a ≤ S1x128x8192.size a := fun arg18 arg19 k0_hw1 => k0_hw1.2.2.2.2.2.2.2.2.2.2.2.2.2.2.2.2.2.2.2.2.2.2

@[reducible] def k0_t2_loop : Scf.Loop 32 :=
  let c0_i32_20 : BitVec 32 := 0#32
  let c16_i32 : BitVec 32 := 16#32
  let v37 : BitVec 32 := Scalar.addi c0_i32_20 c16_i32
  let c1_i32_21 : BitVec 32 := 1#32
  ⟨c0_i32_20, v37, c1_i32_21⟩
def k0_mult101 (k0_t2 : Fin k0_t2_loop.trips) : BitVec 32 :=
  let c0_i32_20 : BitVec 32 := 0#32
  let c1_i32_21 : BitVec 32 := 1#32
  let arg17 : BitVec 32 := Scf.iv c0_i32_20 c1_i32_21 k0_t2
  let c512_i32 : BitVec 32 := 512#32
  let v38 : BitVec 32 := Scalar.muli arg17 c512_i32
  v38
def k0_off74 (k0_t2 : Fin k0_t2_loop.trips) : Fin 2 → Nat :=
  let c0_i32_20 : BitVec 32 := 0#32
  let c1_i32_21 : BitVec 32 := 1#32
  let arg17 : BitVec 32 := Scf.iv c0_i32_20 c1_i32_21 k0_t2
  let c512_i32 : BitVec 32 := 512#32
  let v38 : BitVec 32 := Scalar.muli arg17 c512_i32
  let v39 : BitVec 32 := v38
  let v40 : Index := Scalar.indexCast v39
  let c0_23 : Index := 0#32
  ![v40.toNat, 0]
def k0_mult102 (k0_t2 : Fin k0_t2_loop.trips) : BitVec 32 :=
  let c0_i32_20 : BitVec 32 := 0#32
  let c1_i32_21 : BitVec 32 := 1#32
  let arg17 : BitVec 32 := Scf.iv c0_i32_20 c1_i32_21 k0_t2
  let c512_i32_24 : BitVec 32 := 512#32
  let v43 : BitVec 32 := Scalar.muli arg17 c512_i32_24
  v43
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8192x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x8192 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x8192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8192x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8192x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8192x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S1x8192x8x192 : Shape := ⟨4, ![1, 8192, 8, 192]⟩
abbrev S1x8192x8x128 : Shape := ⟨4, ![1, 8192, 8, 128]⟩
abbrev S1x8x8192x8192 : Shape := ⟨4, ![1, 8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x1x8192x8192 : Shape := ⟨4, ![1, 1, 8192, 8192]⟩
abbrev S1x8x8192 : Shape := ⟨3, ![1, 8, 8192]⟩
abbrev S1x8x8192x1 : Shape := ⟨4, ![1, 8, 8192, 1]⟩
abbrev S1x8x128x8192 : Shape := ⟨4, ![1, 8, 128, 8192]⟩
abbrev S8x8192 : Shape := ⟨2, ![8, 8192]⟩
abbrev S1x8x8192x192 : Shape := ⟨4, ![1, 8, 8192, 192]⟩

abbrev nBuf : Space → Nat
  | .hbm => 107
  | .vmem => 0
  | .smem => 0
  | _ => 0

abbrev bufTy : (tb : Table) → Fin (tcTables nBuf tb) → BufTy
  | .hbm, ⟨0, _⟩ => ⟨S1x8192x8x192, .bf16⟩
  | .hbm, ⟨1, _⟩ => ⟨S1x8192x8x192, .bf16⟩
  | .hbm, ⟨2, _⟩ => ⟨S1x8192x8x128, .bf16⟩
  | .hbm, ⟨3, _⟩ => ⟨S1x8192x8x128, .bf16⟩
  | .hbm, ⟨4, _⟩ => ⟨S1x8192x8x192, .f32⟩
  | .hbm, ⟨5, _⟩ => ⟨S1x8192x8x192, .f32⟩
  | .hbm, ⟨6, _⟩ => ⟨S1x8x8192x8192, .f32⟩
  | .hbm, ⟨7, _⟩ => ⟨S1x8x8192x8192, .bf16⟩
  | .hbm, ⟨8, _⟩ => ⟨S1x8x8192x8192, .f32⟩
  | .hbm, ⟨9, _⟩ => ⟨S_, .f32⟩
  | .hbm, ⟨10, _⟩ => ⟨S1x8x8192x8192, .f32⟩
  | .hbm, ⟨11, _⟩ => ⟨S1x8x8192x8192, .f32⟩
  | .hbm, ⟨12, _⟩ => ⟨S8192, .i32⟩
  | .hbm, ⟨13, _⟩ => ⟨S1x8192, .i32⟩
  | .hbm, ⟨14, _⟩ => ⟨S8192x1, .i32⟩
  | .hbm, ⟨15, _⟩ => ⟨S8192x8192, .i32⟩
  | .hbm, ⟨16, _⟩ => ⟨S8192x8192, .i32⟩
  | .hbm, ⟨17, _⟩ => ⟨S8192x8192, .i1⟩
  | .hbm, ⟨18, _⟩ => ⟨S1x1x8192x8192, .i1⟩
  | .hbm, ⟨19, _⟩ => ⟨S_, .f32⟩
  | .hbm, ⟨20, _⟩ => ⟨S_, .f32⟩
  | .hbm, ⟨21, _⟩ => ⟨S1x8x8192x8192, .i1⟩
  | .hbm, ⟨22, _⟩ => ⟨S1x8x8192x8192, .f32⟩
  | .hbm, ⟨23, _⟩ => ⟨S1x8x8192x8192, .f32⟩
  | .hbm, ⟨24, _⟩ => ⟨S_, .f32⟩
  | .hbm, ⟨25, _⟩ => ⟨S1x8x8192x8192, .f32⟩
  | .hbm, ⟨26, _⟩ => ⟨S_, .f32⟩
  | .hbm, ⟨27, _⟩ => ⟨S1x8x8192, .f32⟩
  | .hbm, ⟨28, _⟩ => ⟨S1x8x8192x1, .f32⟩
  | .hbm, ⟨29, _⟩ => ⟨S1x8x8192x8192, .f32⟩
  | .hbm, ⟨30, _⟩ => ⟨S1x8x8192x8192, .i1⟩
  | .hbm, ⟨31, _⟩ => ⟨S1x8x8192x8192, .f32⟩
  | .hbm, ⟨32, _⟩ => ⟨S_, .f32⟩
  | .hbm, ⟨33, _⟩ => ⟨S1x8x8192, .f32⟩
  | .hbm, ⟨34, _⟩ => ⟨S_, .f32⟩
  | .hbm, ⟨35, _⟩ => ⟨S1x8x8192, .f32⟩
  | .hbm, ⟨36, _⟩ => ⟨S1x8x8192, .f32⟩
  | .hbm, ⟨37, _⟩ => ⟨S_, .f32⟩
  | .hbm, ⟨38, _⟩ => ⟨S1x8x8192, .f32⟩
  | .hbm, ⟨39, _⟩ => ⟨S1x8x8192, .i1⟩
  | .hbm, ⟨40, _⟩ => ⟨S_, .f32⟩
  | .hbm, ⟨41, _⟩ => ⟨S1x8x8192, .f32⟩
  | .hbm, ⟨42, _⟩ => ⟨S1x8x8192, .i1⟩
  | .hbm, ⟨43, _⟩ => ⟨S_, .f32⟩
  | .hbm, ⟨44, _⟩ => ⟨S1x8x8192, .f32⟩
  | .hbm, ⟨45, _⟩ => ⟨S_, .f32⟩
  | .hbm, ⟨46, _⟩ => ⟨S1x8x8192, .f32⟩
  | .hbm, ⟨47, _⟩ => ⟨S_, .f32⟩
  | .hbm, ⟨48, _⟩ => ⟨S1x8x8192, .f32⟩
  | .hbm, ⟨49, _⟩ => ⟨S1x8x8192, .f32⟩
  | .hbm, ⟨50, _⟩ => ⟨S1x8x8192, .f32⟩
  | .hbm, ⟨51, _⟩ => ⟨S1x8x8192x1, .f32⟩
  | .hbm, ⟨52, _⟩ => ⟨S1x8x8192x8192, .f32⟩
  | .hbm, ⟨53, _⟩ => ⟨S1x8x8192x8192, .f32⟩
  | .hbm, ⟨54, _⟩ => ⟨S1x8x8192x8192, .f32⟩
  | .hbm, ⟨55, _⟩ => ⟨S_, .f32⟩
  | .hbm, ⟨56, _⟩ => ⟨S1x8x8192, .f32⟩
  | .hbm, ⟨57, _⟩ => ⟨S1x8x8192x1, .f32⟩
  | .hbm, ⟨58, _⟩ => ⟨S1x8x8192x8192, .f32⟩
  | .hbm, ⟨59, _⟩ => ⟨S1x8x8192x8192, .f32⟩
  | .hbm, ⟨60, _⟩ => ⟨S1x8x8192x1, .f32⟩
  | .hbm, ⟨61, _⟩ => ⟨S_, .f32⟩
  | .hbm, ⟨62, _⟩ => ⟨S1x8x8192x1, .f32⟩
  | .hbm, ⟨63, _⟩ => ⟨S1x8x8192x1, .f32⟩
  | .hbm, ⟨64, _⟩ => ⟨S1x8x8192x8192, .bf16⟩
  | .hbm, ⟨65, _⟩ => ⟨S1x8x8192x8192, .f32⟩
  | .hbm, ⟨66, _⟩ => ⟨S1x8192x8x128, .f32⟩
  | .hbm, ⟨67, _⟩ => ⟨S1x8x128x8192, .f32⟩
  | .hbm, ⟨68, _⟩ => ⟨S1x8192x8x128, .f32⟩
  | .hbm, ⟨69, _⟩ => ⟨S1x8192x8x128, .bf16⟩
  | .hbm, ⟨70, _⟩ => ⟨S1x8192x8x128, .f32⟩
  | .hbm, ⟨71, _⟩ => ⟨S1x8x128x8192, .f32⟩
  | .hbm, ⟨72, _⟩ => ⟨S1x8x8192x8192, .f32⟩
  | .hbm, ⟨73, _⟩ => ⟨S1x8x128x8192, .f32⟩
  | .hbm, ⟨74, _⟩ => ⟨S1x8192x8x128, .f32⟩
  | .hbm, ⟨75, _⟩ => ⟨S1x8192x8x128, .bf16⟩
  | .hbm, ⟨76, _⟩ => ⟨S1x8x8192x8192, .bf16⟩
  | .hbm, ⟨77, _⟩ => ⟨S1x8x8192x8192, .f32⟩
  | .hbm, ⟨78, _⟩ => ⟨S1x8x8192x8192, .f32⟩
  | .hbm, ⟨79, _⟩ => ⟨S1x8x8192x8192, .f32⟩
  | .hbm, ⟨80, _⟩ => ⟨S1x8x8192x8192, .f32⟩
  | .hbm, ⟨81, _⟩ => ⟨S_, .f32⟩
  | .hbm, ⟨82, _⟩ => ⟨S1x8x8192, .f32⟩
  | .hbm, ⟨83, _⟩ => ⟨S1x8x8192x1, .f32⟩
  | .hbm, ⟨84, _⟩ => ⟨S1x8x8192x1, .f32⟩
  | .hbm, ⟨85, _⟩ => ⟨S1x8x8192x8192, .f32⟩
  | .hbm, ⟨86, _⟩ => ⟨S1x8x8192x8192, .f32⟩
  | .hbm, ⟨87, _⟩ => ⟨S_, .f32⟩
  | .hbm, ⟨88, _⟩ => ⟨S8x8192, .f32⟩
  | .hbm, ⟨89, _⟩ => ⟨S1x8x8192, .f32⟩
  | .hbm, ⟨90, _⟩ => ⟨S1x8x8192x8192, .f32⟩
  | .hbm, ⟨91, _⟩ => ⟨S1x8x8192x8192, .f32⟩
  | .hbm, ⟨92, _⟩ => ⟨S1x8x8192x8192, .f32⟩
  | .hbm, ⟨93, _⟩ => ⟨S_, .f32⟩
  | .hbm, ⟨94, _⟩ => ⟨S1x8x8192x8192, .f32⟩
  | .hbm, ⟨95, _⟩ => ⟨S1x8x8192x8192, .f32⟩
  | .hbm, ⟨96, _⟩ => ⟨S_, .f32⟩
  | .hbm, ⟨97, _⟩ => ⟨S1x8x8192x8192, .f32⟩
  | .hbm, ⟨98, _⟩ => ⟨S1x8x8192x8192, .f32⟩
  | .hbm, ⟨99, _⟩ => ⟨S1x8x8192x8192, .bf16⟩
  | .hbm, ⟨100, _⟩ => ⟨S1x8x8192x8192, .f32⟩
  | .hbm, ⟨101, _⟩ => ⟨S1x8x8192x192, .f32⟩
  | .hbm, ⟨102, _⟩ => ⟨S1x8192x8x192, .f32⟩
  | .hbm, ⟨103, _⟩ => ⟨S1x8x8192x192, .f32⟩
  | .hbm, ⟨104, _⟩ => ⟨S1x8192x8x192, .f32⟩
  | .hbm, ⟨105, _⟩ => ⟨S1x8192x8x192, .bf16⟩
  | .hbm, ⟨106, _⟩ => ⟨S1x8192x8x192, .bf16⟩
  | _, _ => ⟨S1x8192x8x192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_call0_v0 : Ref sig .tc := ⟨.hbm, 20, rfl⟩
abbrev main_v14_1 : Ref sig .tc := ⟨.hbm, 21, rfl⟩
abbrev main_call0_v2 : Ref sig .tc := ⟨.hbm, 22, rfl⟩
abbrev main_v14_0 : Ref sig .tc := ⟨.hbm, 23, rfl⟩
abbrev main_call0_cst : Ref sig .tc := ⟨.hbm, 24, rfl⟩
abbrev main_v14_2 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_cst_5 : Ref sig .tc := ⟨.hbm, 40, rfl⟩
abbrev main_v25 : Ref sig .tc := ⟨.hbm, 41, rfl⟩
abbrev main_v26 : Ref sig .tc := ⟨.hbm, 42, rfl⟩
abbrev main_cst_6 : Ref sig .tc := ⟨.hbm, 43, rfl⟩
abbrev main_v27 : Ref sig .tc := ⟨.hbm, 44, rfl⟩
abbrev main_cst_7 : Ref sig .tc := ⟨.hbm, 45, rfl⟩
abbrev main_v28 : Ref sig .tc := ⟨.hbm, 46, rfl⟩
abbrev main_cst_8 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_9 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_10 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_11 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_12 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_call1_cst : Ref sig .tc := ⟨.hbm, 93, rfl⟩
abbrev main_call1_v0 : Ref sig .tc := ⟨.hbm, 94, rfl⟩
abbrev main_v70 : Ref sig .tc := ⟨.hbm, 95, rfl⟩
abbrev main_cst_13 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩

abbrev nD : Nat := 1
abbrev τ : Topo := Topo.v7x

variable {F : FTy → Type} [FloatOps F]
-- ==== Kernel2.lean ====
abbrev S8192x1024 : Shape := ⟨2, ![8192, 1024]⟩
abbrev S8192x2048 : Shape := ⟨2, ![8192, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S1024x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S8192x1024, .f32⟩
  | .hbm, ⟨3, _⟩ => ⟨S8192x2048, .f32⟩
  | .hbm, ⟨4, _⟩ => ⟨S_, .f32⟩
  | .hbm, ⟨5, _⟩ => ⟨S1024x2048, .f32⟩
  | .hbm, ⟨6, _⟩ => ⟨S8192x2048, .f32⟩
  | .hbm, ⟨7, _⟩ => ⟨S2048x1024, .f32⟩
  | .hbm, ⟨8, _⟩ => ⟨S1024x2048, .f32⟩
  | .hbm, ⟨9, _⟩ => ⟨S1024x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel3.lean ====
abbrev S8192x4096 : Shape := ⟨2, ![8192, 4096]⟩
abbrev S8192x2048 : Shape := ⟨2, ![8192, 2048]⟩
abbrev S4096x2048 : Shape := ⟨2, ![4096, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S8192x2048, .bf16⟩
  | .hbm, ⟨2, _⟩ => ⟨S4096x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x4096 : Shape := ⟨2, ![8192, 4096]⟩
abbrev S8192x2048 : Shape := ⟨2, ![8192, 2048]⟩
abbrev S_ : Shape := ⟨0, ![]⟩
abbrev S2048x4096 : Shape := ⟨2, ![2048, 4096]⟩
abbrev S4096x2048 : Shape := ⟨2, ![4096, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x2048, .bf16⟩
  | .hbm, ⟨2, _⟩ => ⟨S8192x4096, .f32⟩
  | .hbm, ⟨3, _⟩ => ⟨S8192x2048, .f32⟩
  | .hbm, ⟨4, _⟩ => ⟨S_, .f32⟩
  | .hbm, ⟨5, _⟩ => ⟨S2048x4096, .f32⟩
  | .hbm, ⟨6, _⟩ => ⟨S8192x4096, .f32⟩
  | .hbm, ⟨7, _⟩ => ⟨S4096x2048, .f32⟩
  | .hbm, ⟨8, _⟩ => ⟨S2048x4096, .f32⟩
  | .hbm, ⟨9, _⟩ => ⟨S4096x2048, .f32⟩
  | .hbm, ⟨10, _⟩ => ⟨S4096x2048, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel4.lean ====
abbrev S8192x1024 : Shape := ⟨2, ![8192, 1024]⟩
abbrev S8192x2048 : Shape := ⟨2, ![8192, 2048]⟩
abbrev S1x2048 : Shape := ⟨2, ![1, 2048]⟩
abbrev S2048x2048 : Shape := ⟨2, ![2048, 2048]⟩
abbrev S8x2048 : Shape := ⟨2, ![8, 2048]⟩
abbrev S256x1024 : Shape := ⟨2, ![256, 1024]⟩
abbrev S256x2048 : Shape := ⟨2, ![256, 2048]⟩
abbrev S_ : Shape := ⟨0, ![]⟩
abbrev S16x2048 : Shape := ⟨2, ![16, 2048]⟩
abbrev S1024x2048 : Shape := ⟨2, ![1024, 2048]⟩
abbrev S32x8x2048 : Shape := ⟨3, ![32, 8, 2048]⟩
abbrev S2048 : Shape := ⟨1, ![2048]⟩
abbrev S1x8x2048 : Shape := ⟨3, ![1, 8, 2048]⟩
abbrev S1 : Shape := ⟨1, ![1]⟩
abbrev S1x1x1 : Shape := ⟨3, ![1, 1, 1]⟩

abbrev nBuf : Space → Nat
  | .hbm => 10
  | .vmem => 18
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x2048, .f32⟩
  | .hbm, ⟨3, _⟩ => ⟨S8192x2048, .f32⟩
  | .hbm, ⟨4, _⟩ => ⟨S1x2048, .f32⟩
  | .hbm, ⟨5, _⟩ => ⟨S2048x2048, .bf16⟩
  | .hbm, ⟨6, _⟩ => ⟨S8192x2048, .f32⟩
  | .hbm, ⟨7, _⟩ => ⟨S8192x2048, .bf16⟩
  | .hbm, ⟨8, _⟩ => ⟨S8192x2048, .bf16⟩
  | .hbm, ⟨9, _⟩ => ⟨S8x2048, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S1x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .bf16⟩
  | .local _ .vmem, ⟨12, _⟩ => ⟨S256x2048, .bf16⟩
  | .local _ .vmem, ⟨13, _⟩ => ⟨S256x2048, .bf16⟩
  | .local _ .vmem, ⟨14, _⟩ => ⟨S256x2048, .bf16⟩
  | .local _ .vmem, ⟨15, _⟩ => ⟨S8x2048, .f32⟩
  | .local _ .vmem, ⟨16, _⟩ => ⟨S2048x2048, .bf16⟩
  | .local _ .vmem, ⟨17, _⟩ => ⟨S16x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v44 : BitVec 1 := Scalar.cmpi .eq arg0 c31_i32
  let v45 : BitVec 32 := Scalar.extui v44
  let c0_i32_33 : BitVec 32 := 0#32
  let v46 : BitVec 1 := Scalar.cmpi .ne v45 c0_i32_33
  v46

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference4Ideal.lean ====
abbrev S8192x1024 : Shape := ⟨2, ![8192, 1024]⟩
abbrev S8192x2048 : Shape := ⟨2, ![8192, 2048]⟩
abbrev S1x2048 : Shape := ⟨2, ![1, 2048]⟩
abbrev S2048x2048 : Shape := ⟨2, ![2048, 2048]⟩
abbrev S_ : Shape := ⟨0, ![]⟩
abbrev S8192 : Shape := ⟨1, ![8192]⟩
abbrev S2048 : Shape := ⟨1, ![2048]⟩
abbrev S6x2048 : Shape := ⟨2, ![6, 2048]⟩
abbrev S8x2048 : Shape := ⟨2, ![8, 2048]⟩

abbrev nBuf : Space → Nat
  | .hbm => 50
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x2048, .f32⟩
  | .hbm, ⟨3, _⟩ => ⟨S8192x2048, .f32⟩
  | .hbm, ⟨4, _⟩ => ⟨S1x2048, .f32⟩
  | .hbm, ⟨5, _⟩ => ⟨S2048x2048, .bf16⟩
  | .hbm, ⟨6, _⟩ => ⟨S8192x2048, .bf16⟩
  | .hbm, ⟨7, _⟩ => ⟨S8192x2048, .f32⟩
  | .hbm, ⟨8, _⟩ => ⟨S2048x2048, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192x2048, .f32⟩
  | .hbm, ⟨17, _⟩ => ⟨S8192x2048, .f32⟩
  | .hbm, ⟨18, _⟩ => ⟨S_, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S8192, .f32⟩
  | .hbm, ⟨31, _⟩ => ⟨S_, .f32⟩
  | .hbm, ⟨32, _⟩ => ⟨S8192, .f32⟩
  | .hbm, ⟨33, _⟩ => ⟨S8192, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S_, .f32⟩
  | .hbm, ⟨40, _⟩ => ⟨S2048, .f32⟩
  | .hbm, ⟨41, _⟩ => ⟨S1x2048, .f32⟩
  | .hbm, ⟨42, _⟩ => ⟨S8192x2048, .f32⟩
  | .hbm, ⟨43, _⟩ => ⟨S8192x2048, .f32⟩
  | .hbm, ⟨44, _⟩ => ⟨S1x2048, .f32⟩
  | .hbm, ⟨45, _⟩ => ⟨S_, .f32⟩
  | .hbm, ⟨46, _⟩ => ⟨S6x2048, .f32⟩
  | .hbm, ⟨47, _⟩ => ⟨S8x2048, .f32⟩
  | .hbm, ⟨48, _⟩ => ⟨S8192x2048, .bf16⟩
  | .hbm, ⟨49, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_cst_4 : Ref sig .tc := ⟨.hbm, 27, rfl⟩
abbrev main_cst_5 : Ref sig .tc := ⟨.hbm, 28, rfl⟩
abbrev main_v16 : Ref sig .tc := ⟨.hbm, 29, rfl⟩
abbrev main_v17 : Ref sig .tc := ⟨.hbm, 30, rfl⟩
abbrev main_cst_6 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_7 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_8 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩

abbrev nD : Nat := 1
abbrev τ : Topo := Topo.v7x

variable {F : FTy → Type} [FloatOps F]
-- ==== Kernel5.lean ====
abbrev S8192x2048 : Shape := ⟨2, ![8192, 2048]⟩
abbrev S1x2048 : Shape := ⟨2, ![1, 2048]⟩
abbrev S8x2048 : Shape := ⟨2, ![8, 2048]⟩
abbrev S512x2048 : Shape := ⟨2, ![512, 2048]⟩
abbrev S24x2048 : Shape := ⟨2, ![24, 2048]⟩
abbrev S512 : Shape := ⟨1, ![512]⟩
abbrev S512x1 : Shape := ⟨2, ![512, 1]⟩
abbrev S64x8x2048 : Shape := ⟨3, ![64, 8, 2048]⟩
abbrev S2048 : Shape := ⟨1, ![2048]⟩

abbrev nBuf : Space → Nat
  | .hbm => 7
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S8192x2048, .f32⟩
  | .hbm, ⟨3, _⟩ => ⟨S1x2048, .f32⟩
  | .hbm, ⟨4, _⟩ => ⟨S1x2048, .f32⟩
  | .hbm, ⟨5, _⟩ => ⟨S8192x2048, .f32⟩
  | .hbm, ⟨6, _⟩ => ⟨S8x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S8x2048, .f32⟩
  | .local _ .vmem, ⟨11, _⟩ => ⟨S24x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v62 : BitVec 1 := Scalar.cmpi .eq arg0 c15_i32
  let v63 : BitVec 32 := Scalar.extui v62
  let c0_i32_30 : BitVec 32 := 0#32
  let v64 : BitVec 1 := Scalar.cmpi .ne v63 c0_i32_30
  v64

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference5Ideal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩
abbrev S5x2048 : Shape := ⟨2, ![5, 2048]⟩
abbrev S8x2048 : Shape := ⟨2, ![8, 2048]⟩

abbrev nBuf : Space → Nat
  | .hbm => 70
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S8192x2048, .f32⟩
  | .hbm, ⟨3, _⟩ => ⟨S1x2048, .f32⟩
  | .hbm, ⟨4, _⟩ => ⟨S1x2048, .f32⟩
  | .hbm, ⟨5, _⟩ => ⟨S_, .f32⟩
  | .hbm, ⟨6, _⟩ => ⟨S1x2048, .f32⟩
  | .hbm, ⟨7, _⟩ => ⟨S8192x2048, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S1x2048, .f32⟩
  | .hbm, ⟨28, _⟩ => ⟨S1x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S_, .f32⟩
  | .hbm, ⟨35, _⟩ => ⟨S2048, .f32⟩
  | .hbm, ⟨36, _⟩ => ⟨S1x2048, .f32⟩
  | .hbm, ⟨37, _⟩ => ⟨S8192x2048, .f32⟩
  | .hbm, ⟨38, _⟩ => ⟨S_, .f32⟩
  | .hbm, ⟨39, _⟩ => ⟨S2048, .f32⟩
  | .hbm, ⟨40, _⟩ => ⟨S1x2048, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S_, .f32⟩
  | .hbm, ⟨45, _⟩ => ⟨S2048, .f32⟩
  | .hbm, ⟨46, _⟩ => ⟨S1x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S_, .f32⟩
  | .hbm, ⟨51, _⟩ => ⟨S8192, .f32⟩
  | .hbm, ⟨52, _⟩ => ⟨S8192x1, .f32⟩
  | .hbm, ⟨53, _⟩ => ⟨S8192x2048, .f32⟩
  | .hbm, ⟨54, _⟩ => ⟨S8192x2048, .f32⟩
  | .hbm, ⟨55, _⟩ => ⟨S8192x1, .f32⟩
  | .hbm, ⟨56, _⟩ => ⟨S_, .f32⟩
  | .hbm, ⟨57, _⟩ => ⟨S8192x1, .f32⟩
  | .hbm, ⟨58, _⟩ => ⟨S8192x1, .f32⟩
  | .hbm, ⟨59, _⟩ => ⟨S_, .f32⟩
  | .hbm, ⟨60, _⟩ => ⟨S8192, .f32⟩
  | .hbm, ⟨61, _⟩ => ⟨S8192x2048, .f32⟩
  | .hbm, ⟨62, _⟩ => ⟨S8192x2048, .f32⟩
  | .hbm, ⟨63, _⟩ => ⟨S8192x2048, .f32⟩
  | .hbm, ⟨64, _⟩ => ⟨S8192x2048, .f32⟩
  | .hbm, ⟨65, _⟩ => ⟨S8192x2048, .f32⟩
  | .hbm, ⟨66, _⟩ => ⟨S8192x2048, .f32⟩
  | .hbm, ⟨67, _⟩ => ⟨S_, .f32⟩
  | .hbm, ⟨68, _⟩ => ⟨S5x2048, .f32⟩
  | .hbm, ⟨69, _⟩ => ⟨S8x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_9 : Ref sig .tc := ⟨.hbm, 56, rfl⟩
abbrev main_v41 : Ref sig .tc := ⟨.hbm, 57, rfl⟩
abbrev main_v42 : Ref sig .tc := ⟨.hbm, 58, rfl⟩
abbrev main_cst_10 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_11 : Ref sig .tc := ⟨.hbm, 67, rfl⟩
abbrev main_v50 : Ref sig .tc := ⟨.hbm, 68, rfl⟩
abbrev main_v51 : Ref sig .tc := ⟨.hbm, 69, rfl⟩

abbrev nD : Nat := 1
abbrev τ : Topo := Topo.v7x

variable {F : FTy → Type} [FloatOps F]
-- ==== Kernel6.lean ====
abbrev S8192x2048 : Shape := ⟨2, ![8192, 2048]⟩
abbrev S8192x1024 : Shape := ⟨2, ![8192, 1024]⟩
abbrev S8192x6144 : Shape := ⟨2, ![8192, 6144]⟩
abbrev S8x128x8192 : Shape := ⟨3, ![8, 128, 8192]⟩
abbrev S8x1x8192 : Shape := ⟨3, ![8, 1, 8192]⟩
abbrev S512x1024 : Shape := ⟨2, ![512, 1024]⟩
abbrev S8x128x512 : Shape := ⟨3, ![8, 128, 512]⟩
abbrev S8x1x512 : Shape := ⟨3, ![8, 1, 512]⟩
abbrev S8x128 : Shape := ⟨2, ![8, 128]⟩
abbrev S512x128 : Shape := ⟨2, ![512, 128]⟩
abbrev S128x512 : Shape := ⟨2, ![128, 512]⟩
abbrev S1x128x512 : Shape := ⟨3, ![1, 128, 512]⟩
abbrev S8x512 : Shape := ⟨2, ![8, 512]⟩
abbrev S1x512 : Shape := ⟨2, ![1, 512]⟩
abbrev S1x1x512 : Shape := ⟨3, ![1, 1, 512]⟩

abbrev nBuf : Space → Nat
  | .hbm => 6
  | .vmem => 12
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S8192x6144, .bf16⟩
  | .hbm, ⟨3, _⟩ => ⟨S8x128x8192, .bf16⟩
  | .hbm, ⟨4, _⟩ => ⟨S8192x1024, .bf16⟩
  | .hbm, ⟨5, _⟩ => ⟨S8x1x8192, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S8x128x512, .bf16⟩
  | .local _ .vmem, ⟨7, _⟩ => ⟨S8x128x512, .bf16⟩
  | .local _ .vmem, ⟨8, _⟩ => ⟨S512x1024, .bf16⟩
  | .local _ .vmem, ⟨9, _⟩ => ⟨S512x1024, .bf16⟩
  | .local _ .vmem, ⟨10, _⟩ => ⟨S8x1x512, .f32⟩
  | .local _ .vmem, ⟨11, _⟩ => ⟨S8x1x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference6Ideal.lean ====
abbrev S8192x2048 : Shape := ⟨2, ![8192, 2048]⟩
abbrev S8192x1024 : Shape := ⟨2, ![8192, 1024]⟩
abbrev S8192x6144 : Shape := ⟨2, ![8192, 6144]⟩
abbrev S_ : Shape := ⟨0, ![]⟩
abbrev S8192x8x128 : Shape := ⟨3, ![8192, 8, 128]⟩
abbrev S8x128x8192 : Shape := ⟨3, ![8, 128, 8192]⟩
abbrev S8192x8 : Shape := ⟨2, ![8192, 8]⟩
abbrev S8x8192 : Shape := ⟨2, ![8, 8192]⟩
abbrev S8x1x8192 : Shape := ⟨3, ![8, 1, 8192]⟩

abbrev nBuf : Space → Nat
  | .hbm => 38
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S8192x6144, .bf16⟩
  | .hbm, ⟨3, _⟩ => ⟨S8192x1024, .f32⟩
  | .hbm, ⟨4, _⟩ => ⟨S8192x1024, .bf16⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .bf16⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x8x128, .f32⟩
  | .hbm, ⟨29, _⟩ => ⟨S8x128x8192, .f32⟩
  | .hbm, ⟨30, _⟩ => ⟨S8192x1024, .f32⟩
  | .hbm, ⟨31, _⟩ => ⟨S8192x8x128, .f32⟩
  | .hbm, ⟨32, _⟩ => ⟨S_, .f32⟩
  | .hbm, ⟨33, _⟩ => ⟨S8192x8, .f32⟩
  | .hbm, ⟨34, _⟩ => ⟨S8x128x8192, .bf16⟩
  | .hbm, ⟨35, _⟩ => ⟨S8192x1024, .bf16⟩
  | .hbm, ⟨36, _⟩ => ⟨S8x8192, .f32⟩
  | .hbm, ⟨37, _⟩ => ⟨S8x1x8192, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v3_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v3_1 : Ref sig .tc := ⟨.hbm, 17, rfl⟩
abbrev main_v3_0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩

abbrev nD : Nat := 1
abbrev τ : Topo := Topo.v7x

variable {F : FTy → Type} [FloatOps F]
-- ==== Proof.KernelIdeal.Step.lean ====
/-
  One step of the flash backward kernel's loop over the pairs of blocks, as a program of its own. A trip of the loop
  is eight such steps, the even ones reading the two products from one pair of buffers and leaving the next pair's in
  the other, the odd ones the other way round. A step at the pair (key block `a`, query block `b`) turns the products
  it finds into the weights and the score gradients, adds the pair's contributions to the three accumulators, writes
  the key block's two results, and leaves the products of the next pair (clamped to the last one).
-/
module

public import proofs.«01_k».proof.Proof.Gen.KernelIdeal.Frame
public import proofs.«01_k».proof.Proof.Gen.KernelIdeal.Loops

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ### The pairs -/

/-- The pair after `(a, b)`: the next query block of the same key block, and after the last one the next key block
    from its own diagonal on. -/
def nxJ (a b : BitVec 32) : BitVec 32 := Scalar.select (Scalar.cmpi .eq b 15#32) (Scalar.addi a 1#32) a
def nxI (a b : BitVec 32) : BitVec 32 :=
  Scalar.select (Scalar.cmpi .eq b 15#32) (Scalar.addi a 1#32) (Scalar.addi b 1#32)

/-- A block number held within the sixteen there are. -/
def clampW (w : BitVec 32) : BitVec 32 := Scalar.minsi w 15#32

/-- Where block `w` starts: in an array of rows, and in an array of lanes. -/
def rowO (w : BitVec 32) : Fin 2 → Nat := ![(Scalar.indexCast (Scalar.muli w 512#32)).toNat, 0]
def colO (w : BitVec 32) : Fin 3 → Nat := ![0, 0, (Scalar.indexCast (Scalar.muli w 512#32)).toNat]

/-- What a step at the pair `(a, b)` needs of the two numbers: its blocks and the next pair's lie inside the arrays. -/
structure StepOk (a b : BitVec 32) : Prop where
  stat : ∀ x, colO b x + S1x1x512.size x ≤ S1x1x8192.size x
  cot : ∀ x, colO b x + S1x128x512.size x ≤ S1x128x8192.size x
  qrow : ∀ x, rowO b x + S512x256.size x ≤ S8192x256.size x
  krow : ∀ x, rowO a x + S512x256.size x ≤ S8192x256.size x
  kpack : (Rect.unit (s := S8192x256) (rowO a) S512x256.size krow).PackedRows (EltTy.packing .bf16)
  vrow : ∀ x, rowO a x + S512x128.size x ≤ S8192x128.size x
  vpack : (Rect.unit (s := S8192x128) (rowO a) S512x128.size vrow).PackedRows (EltTy.packing .bf16)
  knext : ∀ x, rowO (clampW (nxJ a b)) x + S512x256.size x ≤ S8192x256.size x
  qnext : ∀ x, rowO (clampW (nxI a b)) x + S512x256.size x ≤ S8192x256.size x
  vnext : ∀ x, rowO (clampW (nxJ a b)) x + S512x128.size x ≤ S8192x128.size x
  cnext : ∀ x, colO (clampW (nxI a b)) x + S1x128x512.size x ≤ S1x128x8192.size x

/-! ### The step -/

/-- One step, in the kernel's order of loads and stores. -/
def stepProg (arg1 : Memref sig .tc .vmem S8192x256 .bf16) (arg2 : Memref sig .tc .vmem S8192x128 .bf16)
    (arg3 : Memref sig .tc .vmem S8192x256 .bf16) (arg4 : Memref sig .tc .vmem S1x128x8192 .bf16)
    (arg5 arg6 : Memref sig .tc .vmem S1x1x8192 .f32)
    (arg8 : Memref sig .tc .vmem S8192x256 .bf16) (harg8 : arg8.IsWhole)
    (arg9 : Memref sig .tc .vmem S8192x128 .bf16) (harg9 : arg9.IsWhole)
    (sIn dpIn sOut dpOut : Memref sig .tc .vmem S512x512 .f32)
    (arg14 : Memref sig .tc .vmem S8192x256 .f32) (arg15 : Memref sig .tc .vmem S512x256 .f32)
    (arg16 : Memref sig .tc .vmem S128x512 .f32) (a b : BitVec 32) (ok : StepOk a b) :
    Prog (TpuEff nD τ sig (Elt F) Λ₀ .tc) PUnit := do
  let v45 : Vec F S512x512 .f32 ← Prog.lift (.load sIn (Rect.unit (s := S512x512) ![0, 0] S512x512.size inb_S512x512_S512x512_0_0).toLoadRect (View.loadsAt_vmem h_S512x512))
  let v49 : Vec F S1x1x512 .f32 ← Prog.lift (.load arg5 (Rect.unit (s := S1x1x8192) (colO b) S1x1x512.size ok.stat).toLoadRect (View.loadsAt_vmem h_S1x1x512))
  let v55 : Vec F S128x512 .f32 ← Prog.lift (.load arg16 (Rect.unit (s := S128x512) ![0, 0] S128x512.size inb_S128x512_S128x512_0_0).toLoadRect (View.loadsAt_vmem h_S128x512))
  let v61 : Vec F S1x128x512 .bf16 ← Prog.lift (.load arg4 (Rect.unit (s := S1x128x8192) (colO b) S1x128x512.size ok.cot).toLoadRect (View.loadsAt_vmem h_S1x128x512))
  let v65 : Vec F S512x512 .f32 ← Prog.lift (.load dpIn (Rect.unit (s := S512x512) ![0, 0] S512x512.size inb_S512x512_S512x512_0_0).toLoadRect (View.loadsAt_vmem h_S512x512))
  let v69 : Vec F S1x1x512 .f32 ← Prog.lift (.load arg6 (Rect.unit (s := S1x1x8192) (colO b) S1x1x512.size ok.stat).toLoadRect (View.loadsAt_vmem h_S1x1x512))
  let v75 : Vec F S512x256 .f32 ← Prog.lift (.load arg15 (Rect.unit (s := S512x256) ![0, 0] S512x256.size inb_S512x256_S512x256_0_0).toLoadRect (View.loadsAt_vmem h_S512x256))
  let v81 : Vec F S512x256 .bf16 ← Prog.lift (.load arg3 (Rect.unit (s := S8192x256) (rowO b) S512x256.size ok.qrow).toLoadRect (View.loadsAt_vmem h_S512x256))
  let v88 : Vec F S512x256 .f32 ← Prog.lift (.load arg14 (Rect.unit (s := S8192x256) (rowO b) S512x256.size ok.qrow).toLoadRect (View.loadsAt_vmem h_S512x256))
  let v92 : Vec F S512x256 .bf16 ← Prog.lift (.load arg1 (Rect.unit (s := S8192x256) (rowO a) S512x256.size ok.krow).toLoadRect (View.loadsAt_vmem h_S512x256))
  let _v97 : Vec F S512x256 .f32 ← Prog.lift (.load arg14 (Rect.unit (s := S8192x256) (rowO b) S512x256.size ok.qrow).toLoadRect (View.loadsAt_vmem h_S512x256))
  Prog.lift (.store arg14 (Rect.unit (s := S8192x256) (rowO b) S512x256.size ok.qrow) (k0_pay8 (k0_pay3 v45 v49) (k0_pay5 v65 v69) v88 v92) Finset.univ (View.stores_vmem_bits_univ h_S512x256 rfl) (.inl rfl))
  let _v100 : Vec F S128x512 .f32 ← Prog.lift (.load arg16 (Rect.unit (s := S128x512) ![0, 0] S128x512.size inb_S128x512_S128x512_0_0).toLoadRect (View.loadsAt_vmem h_S128x512))
  Prog.lift (.store arg16 (Rect.unit (s := S128x512) ![0, 0] S128x512.size inb_S128x512_S128x512_0_0) (k0_pay9 (k0_pay4 a b v45 v49 v55 v61)) Finset.univ (View.stores_vmem_bits_univ h_S128x512 rfl) (.inl rfl))
  let _v103 : Vec F S512x256 .f32 ← Prog.lift (.load arg15 (Rect.unit (s := S512x256) ![0, 0] S512x256.size inb_S512x256_S512x256_0_0).toLoadRect (View.loadsAt_vmem h_S512x256))
  Prog.lift (.store arg15 (Rect.unit (s := S512x256) ![0, 0] S512x256.size inb_S512x256_S512x256_0_0) (k0_pay10 (Scalar.cmpi .eq b a) (k0_pay3 v45 v49) (k0_pay5 v65 v69) v75 v81) Finset.univ (View.stores_vmem_bits_univ h_S512x256 rfl) (.inl rfl))
  let _v110 : Vec F S512x256 .bf16 ← Prog.lift (.load arg8 (Rect.unit (s := S8192x256) (rowO a) S512x256.size ok.krow).toLoadRect (View.loadsAt_vmem h_S512x256))
  Prog.lift (.store arg8 (Rect.unit (s := S8192x256) (rowO a) S512x256.size ok.krow) (k0_pay11 (Scalar.cmpi .eq b a) (k0_pay3 v45 v49) (k0_pay5 v65 v69) v75 v81) Finset.univ (View.stores_vmem h_S512x256 (harg8.storeExact_slice rfl _ ok.kpack) (fun _ => rfl)) (.inl rfl))
  let _v116 : Vec F S512x128 .bf16 ← Prog.lift (.load arg9 (Rect.unit (s := S8192x128) (rowO a) S512x128.size ok.vrow).toLoadRect (View.loadsAt_vmem h_S512x128))
  Prog.lift (.store arg9 (Rect.unit (s := S8192x128) (rowO a) S512x128.size ok.vrow) (k0_pay13 (k0_pay12 (k0_pay4 a b v45 v49 v55 v61))) Finset.univ (View.stores_vmem h_S512x128 (harg9.storeExact_slice rfl _ ok.vpack) (fun _ => rfl)) (.inl rfl))
  let v122 : Vec F S512x256 .bf16 ← Prog.lift (.load arg1 (Rect.unit (s := S8192x256) (rowO (clampW (nxJ a b))) S512x256.size ok.knext).toLoadRect (View.loadsAt_vmem h_S512x256))
  let v127 : Vec F S512x256 .bf16 ← Prog.lift (.load arg3 (Rect.unit (s := S8192x256) (rowO (clampW (nxI a b))) S512x256.size ok.qnext).toLoadRect (View.loadsAt_vmem h_S512x256))
  let _v139 : Vec F S512x512 .f32 ← Prog.lift (.load sOut (Rect.unit (s := S512x512) ![0, 0] S512x512.size inb_S512x512_S512x512_0_0).toLoadRect (View.loadsAt_vmem h_S512x512))
  Prog.lift (.store sOut (Rect.unit (s := S512x512) ![0, 0] S512x512.size inb_S512x512_S512x512_0_0) (k0_pay14 (nxJ a b) (nxI a b) v122 v127) Finset.univ (View.stores_vmem_bits_univ h_S512x512 rfl) (.inl rfl))
  let v145 : Vec F S512x128 .bf16 ← Prog.lift (.load arg2 (Rect.unit (s := S8192x128) (rowO (clampW (nxJ a b))) S512x128.size ok.vnext).toLoadRect (View.loadsAt_vmem h_S512x128))
  let v150 : Vec F S1x128x512 .bf16 ← Prog.lift (.load arg4 (Rect.unit (s := S1x128x8192) (colO (clampW (nxI a b))) S1x128x512.size ok.cnext).toLoadRect (View.loadsAt_vmem h_S1x128x512))
  let _v153 : Vec F S512x512 .f32 ← Prog.lift (.load dpOut (Rect.unit (s := S512x512) ![0, 0] S512x512.size inb_S512x512_S512x512_0_0).toLoadRect (View.loadsAt_vmem h_S512x512))
  Prog.lift (.store dpOut (Rect.unit (s := S512x512) ![0, 0] S512x512.size inb_S512x512_S512x512_0_0) (k0_pay17 (k0_pay15 v145) (k0_pay16 v150)) Finset.univ (View.stores_vmem_bits_univ h_S512x512 rfl) (.inl rfl))

/-! ### A trip is eight steps -/

/-- The pair `n` steps after `p`. -/
def seqW (p : BitVec 32 × BitVec 32) : ℕ → BitVec 32 × BitVec 32
  | 0 => p
  | n + 1 => (nxJ (seqW p n).1 (seqW p n).2, nxI (seqW p n).1 (seqW p n).2)

/-- A trip of the loop from the pair `(a, b)`: the kernel's two checks, then eight steps, the two pairs of buffers
    changing places. -/
def tripProg (arg1 : Memref sig .tc .vmem S8192x256 .bf16) (arg2 : Memref sig .tc .vmem S8192x128 .bf16)
    (arg3 : Memref sig .tc .vmem S8192x256 .bf16) (arg4 : Memref sig .tc .vmem S1x128x8192 .bf16)
    (arg5 arg6 : Memref sig .tc .vmem S1x1x8192 .f32)
    (arg8 : Memref sig .tc .vmem S8192x256 .bf16) (harg8 : arg8.IsWhole)
    (arg9 : Memref sig .tc .vmem S8192x128 .bf16) (harg9 : arg9.IsWhole)
    (arg10 arg11 arg12 arg13 : Memref sig .tc .vmem S512x512 .f32)
    (arg14 : Memref sig .tc .vmem S8192x256 .f32) (arg15 : Memref sig .tc .vmem S512x256 .f32)
    (arg16 : Memref sig .tc .vmem S128x512 .f32) (p : BitVec 32 × BitVec 32)
    (ok : ∀ n : Fin 8, StepOk (seqW p n.val).1 (seqW p n.val).2) :
    Prog (TpuEff nD τ sig (Elt F) Λ₀ .tc) (BitVec 32 × BitVec 32) := do
  let _ ← Prog.lift (TpuEff.assume (k0_chk2 p.1) (k0_chk2.dec p.1))
  let _ ← Prog.lift (TpuEff.assume (k0_chk1 p.1 p.2) (k0_chk1.dec p.1 p.2))
  stepProg arg1 arg2 arg3 arg4 arg5 arg6 arg8 harg8 arg9 harg9 arg10 arg12 arg11 arg13 arg14 arg15 arg16 _ _ (ok 0)
  stepProg arg1 arg2 arg3 arg4 arg5 arg6 arg8 harg8 arg9 harg9 arg11 arg13 arg10 arg12 arg14 arg15 arg16 _ _ (ok 1)
  stepProg arg1 arg2 arg3 arg4 arg5 arg6 arg8 harg8 arg9 harg9 arg10 arg12 arg11 arg13 arg14 arg15 arg16 _ _ (ok 2)
  stepProg arg1 arg2 arg3 arg4 arg5 arg6 arg8 harg8 arg9 harg9 arg11 arg13 arg10 arg12 arg14 arg15 arg16 _ _ (ok 3)
  stepProg arg1 arg2 arg3 arg4 arg5 arg6 arg8 harg8 arg9 harg9 arg10 arg12 arg11 arg13 arg14 arg15 arg16 _ _ (ok 4)
  stepProg arg1 arg2 arg3 arg4 arg5 arg6 arg8 harg8 arg9 harg9 arg11 arg13 arg10 arg12 arg14 arg15 arg16 _ _ (ok 5)
  stepProg arg1 arg2 arg3 arg4 arg5 arg6 arg8 harg8 arg9 harg9 arg10 arg12 arg11 arg13 arg14 arg15 arg16 _ _ (ok 6)
  stepProg arg1 arg2 arg3 arg4 arg5 arg6 arg8 harg8 arg9 harg9 arg11 arg13 arg10 arg12 arg14 arg15 arg16 _ _ (ok 7)
  pure (seqW p 8)

end Cert.Proof.KernelIdeal

end
-- ==== Proof.KernelIdeal.Pure.lean ====
/-
  What one step of the kernel's loop does to the buffers, as a function of their contents.
-/
module

public import proofs.«01_k».proof.Proof.KernelIdeal.Step
public import Idealize.ShloMosaic.Lib.VecWindow

@[expose] public section

noncomputable section

namespace Cert.Proof.KernelIdeal

open Cert.KernelIdeal Cert.KernelIdeal.Gen
open Idealize.ShloMosaic

variable {F : FTy → Type} [FloatOps F]

/-- The six input blocks of one head: keys, values, scaled queries, transposed cotangent, row log-sums, row sums. -/
structure Inp (F : FTy → Type) where
  k : Vec F S8192x256 .bf16
  v : Vec F S8192x128 .bf16
  q : Vec F S8192x256 .bf16
  g : Vec F S1x128x8192 .bf16
  lse : Vec F S1x1x8192 .f32
  del : Vec F S1x1x8192 .f32

/-- The buffers a step changes: the products of the pair at hand (scores and weight gradients, both transposed), the
    three accumulators, and the two results. -/
structure St (F : FTy → Type) where
  s : Vec F S512x512 .f32
  dp : Vec F S512x512 .f32
  dq : Vec F S8192x256 .f32
  dk : Vec F S512x256 .f32
  dv : Vec F S128x512 .f32
  outK : Vec F S8192x256 .bf16
  outV : Vec F S8192x128 .bf16

section
variable (X : Inp F) (S : St F) (a b : BitVec 32) (ok : StepOk a b)

/-- The pair's weights, and their gradient through the softmax before the weight is multiplied in. -/
def wgt : FVec F S512x512 .bf16 := k0_pay3 S.s (VecWindow.window X.lse (colO b) S1x1x512.size ok.stat)
def gap : FVec F S512x512 .bf16 := k0_pay5 S.dp (VecWindow.window X.del (colO b) S1x1x512.size ok.stat)

/-- The value gradient's accumulator after the pair. -/
def accV : FVec F S128x512 .f32 :=
  k0_pay4 a b S.s (VecWindow.window X.lse (colO b) S1x1x512.size ok.stat) S.dv (VecWindow.window X.g (colO b) S1x128x512.size ok.cot)

/-- The buffers after the step. -/
def stepSt : St F where
  s := k0_pay14 (nxJ a b) (nxI a b) (VecWindow.window X.k (rowO (clampW (nxJ a b))) S512x256.size ok.knext)
    (VecWindow.window X.q (rowO (clampW (nxI a b))) S512x256.size ok.qnext)
  dp := k0_pay17 (k0_pay15 (VecWindow.window X.v (rowO (clampW (nxJ a b))) S512x128.size ok.vnext))
    (k0_pay16 (VecWindow.window X.g (colO (clampW (nxI a b))) S1x128x512.size ok.cnext))
  dq := VecWindow.put S.dq (rowO b) S512x256.size (k0_pay8 (wgt X S a b ok) (gap X S a b ok)
    (VecWindow.window S.dq (rowO b) S512x256.size ok.qrow) (VecWindow.window X.k (rowO a) S512x256.size ok.krow))
  dk := k0_pay10 (Scalar.cmpi .eq b a) (wgt X S a b ok) (gap X S a b ok) S.dk (VecWindow.window X.q (rowO b) S512x256.size ok.qrow)
  dv := k0_pay9 (accV X S a b ok)
  outK := VecWindow.put S.outK (rowO a) S512x256.size (k0_pay11 (Scalar.cmpi .eq b a) (wgt X S a b ok) (gap X S a b ok) S.dk
    (VecWindow.window X.q (rowO b) S512x256.size ok.qrow))
  outV := VecWindow.put S.outV (rowO a) S512x128.size (k0_pay13 (k0_pay12 (accV X S a b ok)))

end

end Cert.Proof.KernelIdeal

end
-- ==== Proof.KernelIdeal.Run.lean ====
/-
  A step of the loop, run: from the buffers at the contents `S` it leaves them at `stepSt X S`, whatever the float
  operations are.
-/
module

public import proofs.«01_k».proof.Proof.KernelIdeal.Pure

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ
local notation "𝒱₀" => Variants.none

/-- A buffer whose own elements hold the values `X`. -/
def held (c : Dev nD) {sp : Space} {s : Shape} {e : EltTy} (m : Memref sig .tc sp s e) (X : Vec F s e) : sProp 𝕄 :=
  m.view.loc (c : Thread nD τ) ↦[m.view.set]{fullShare} m.view.rep (Val := Elt F) X

/-- A buffer whose own elements hold anything. -/
def some_ (F : FTy → Type) [FloatOps F] (c : Dev nD) {sp : Space} {s : Shape} {e : EltTy} (m : Memref sig .tc sp s e) :
    sProp (MT nD τ sig Unit (Elt F) ℕ (UR sig nD τ) ℕ) :=
  iprop(∃ X : Vec F s e, held c m X)

theorem held_some (c : Dev nD) {sp : Space} {s : Shape} {e : EltTy} (m : Memref sig .tc sp s e) (X : Vec F s e) :
    held c m X ⊢ some_ F c m := by
  unfold some_
  iintro H; iexists X; iexact H

/-- A load of a window. -/
theorem ld_window (c : Dev nD) {sp : CoreSpace} {s : Shape} {e : EltTy} (m : Memref sig .tc sp s e) (X : Vec F s e)
    {off size : Fin s.rank → ℕ} (inb : ∀ a, off a + size a ≤ s.size a)
    {hl : m.view.LoadsAt (Rect.unit off size inb).toLoadRect} {α : Type}
    {k : ((Rect.unit off size inb).toLoadRect.shape.Idx → Elt F e) → Prog (TpuEff nD τ sig (Elt F) Λ₀ .tc) α} {Q : α → sProp 𝕄} :
    held c m X ⊢ iprop((held c m X -∗ wp frame (wpE (defs₀ (F := F)) 𝒱₀ (c : Thread nD τ) none) Set.univ (k (VecWindow.window X off size inb)) Q)
      -∗ wp frame (wpE (defs₀ (F := F)) 𝒱₀ (c : Thread nD τ) none) Set.univ (.op (.load m (Rect.unit off size inb).toLoadRect hl) k) Q) := by
  rw [← View.readAt_rep_unit (Val := Elt F) m.view X inb rfl inb]
  exact wp_load (defs := defs₀ (F := F)) 𝒱₀ (c : Thread nD τ) none Set.univ (m := m) (r := (Rect.unit off size inb).toLoadRect)
    (S := m.view.set) (q := fullShare) (f := m.view.rep (Val := Elt F) X) (Finset.map_subset_map.mpr (Finset.subset_univ _))

/-- A load of the whole buffer. -/
theorem ld_full (c : Dev nD) {sp : CoreSpace} {s : Shape} {e : EltTy} (m : Memref sig .tc sp s e) (X : Vec F s e)
    {off : Fin s.rank → ℕ} (inb : ∀ a, off a + s.size a ≤ s.size a)
    {hl : m.view.LoadsAt (Rect.unit off s.size inb).toLoadRect} {α : Type}
    {k : ((Rect.unit off s.size inb).toLoadRect.shape.Idx → Elt F e) → Prog (TpuEff nD τ sig (Elt F) Λ₀ .tc) α} {Q : α → sProp 𝕄} :
    held c m X ⊢ iprop((held c m X -∗ wp frame (wpE (defs₀ (F := F)) 𝒱₀ (c : Thread nD τ) none) Set.univ (k X) Q)
      -∗ wp frame (wpE (defs₀ (F := F)) 𝒱₀ (c : Thread nD τ) none) Set.univ (.op (.load m (Rect.unit off s.size inb).toLoadRect hl) k) Q) := by
  have h := ld_window (F := F) c m X inb (hl := hl) (k := k) (Q := Q)
  have e : VecWindow.window X off s.size inb = X := by
    funext y; exact congrArg X (Rect.emb_unit_full inb y)
  rw [e] at h
  exact h

/-- A store over a window. -/
theorem st_put (c : Dev nD) {sp : CoreSpace} {s : Shape} {e : EltTy} (m : Memref sig .tc sp s e) (X : Vec F s e)
    {off size : Fin s.rank → ℕ} (inb : ∀ a, off a + size a ≤ s.size a) (w : (Rect.unit off size inb).shape.Idx → Elt F e)
    {hx} {hm} {α : Type} {k : PUnit → Prog (TpuEff nD τ sig (Elt F) Λ₀ .tc) α} {Q : α → sProp 𝕄} :
    held c m X ⊢ iprop((held c m (VecWindow.put X off size w) -∗ wp frame (wpE (defs₀ (F := F)) 𝒱₀ (c : Thread nD τ) none) Set.univ (k ⟨⟩) Q)
      -∗ wp frame (wpE (defs₀ (F := F)) 𝒱₀ (c : Thread nD τ) none) Set.univ (.op (.store m (Rect.unit off size inb) w Finset.univ hx hm) k) Q) := by
  have hS : (m.access (Rect.unit off size inb)).setOn Finset.univ ⊆ m.view.set := by
    intro y hy
    obtain ⟨z, -, rfl⟩ := Finset.mem_map.mp hy
    exact Finset.mem_map.mpr ⟨_, Finset.mem_univ _, rfl⟩
  have hr : (m.view.loc (c : Thread nD τ) ↦[m.view.set]{fullShare} (m.access (Rect.unit off size inb)).write (Elt F) (m.view.rep (Val := Elt F) X) w Finset.univ : sProp 𝕄)
      ⊢ held c m (VecWindow.put X off size w) :=
    pointsTo_rep_of_read (c : Thread nD τ) m _ fullShare _ (View.read_writes_rep_unit (Val := Elt F) m.view X inb w rfl)
  unfold held at hr ⊢
  iintro H HK
  iapply (wp_store (defs := defs₀ (F := F)) 𝒱₀ (c : Thread nD τ) none Set.univ (m := m) (r := Rect.unit off size inb) hS) $$ H
  iintro H2
  iapply HK
  iapply hr
  iexact H2

/-- A store over the whole buffer. -/
theorem st_full (c : Dev nD) {sp : CoreSpace} {s : Shape} {e : EltTy} (m : Memref sig .tc sp s e) (X : Vec F s e)
    {off : Fin s.rank → ℕ} (inb : ∀ a, off a + s.size a ≤ s.size a) (w : Vec F s e)
    {hx} {hm} {α : Type} {k : PUnit → Prog (TpuEff nD τ sig (Elt F) Λ₀ .tc) α} {Q : α → sProp 𝕄} :
    held c m X ⊢ iprop((held c m w -∗ wp frame (wpE (defs₀ (F := F)) 𝒱₀ (c : Thread nD τ) none) Set.univ (k ⟨⟩) Q)
      -∗ wp frame (wpE (defs₀ (F := F)) 𝒱₀ (c : Thread nD τ) none) Set.univ (.op (.store m (Rect.unit off s.size inb) w Finset.univ hx hm) k) Q) := by
  have h := st_put (F := F) c m X inb w (hx := hx) (hm := hm) (k := k) (Q := Q)
  have e : VecWindow.put X off s.size w = w := by
    funext y
    exact (congrArg (VecWindow.put X off s.size w) (Rect.emb_unit_full inb y).symm).trans
      (congrFun (VecWindow.window_put_same X off s.size inb w) y)
  rw [e] at h
  exact h

section
variable (c : Dev nD)
  (arg1 : Memref sig .tc .vmem S8192x256 .bf16) (arg2 : Memref sig .tc .vmem S8192x128 .bf16)
  (arg3 : Memref sig .tc .vmem S8192x256 .bf16) (arg4 : Memref sig .tc .vmem S1x128x8192 .bf16)
  (arg5 arg6 : Memref sig .tc .vmem S1x1x8192 .f32)
  (arg8 : Memref sig .tc .vmem S8192x256 .bf16) (harg8 : arg8.IsWhole)
  (arg9 : Memref sig .tc .vmem S8192x128 .bf16) (harg9 : arg9.IsWhole)
  (sIn dpIn sOut dpOut arg10 arg11 arg12 arg13 : Memref sig .tc .vmem S512x512 .f32)
  (arg14 : Memref sig .tc .vmem S8192x256 .f32) (arg15 : Memref sig .tc .vmem S512x256 .f32)
  (arg16 : Memref sig .tc .vmem S128x512 .f32)

/-- The six input blocks at their contents. -/
def inputs (X : Inp F) : sProp 𝕄 :=
  iprop(held c arg1 X.k ∗ held c arg2 X.v ∗ held c arg3 X.q ∗ held c arg4 X.g ∗ held c arg5 X.lse ∗ held c arg6 X.del)

/-- The buffers a step changes at the contents `S`: `sIn` and `dpIn` with the products of the pair at hand, the other
    two at anything. -/
def state (S : St F) : sProp 𝕄 :=
  iprop(held c sIn S.s ∗ held c dpIn S.dp ∗ some_ F c sOut ∗ some_ F c dpOut ∗ held c arg14 S.dq ∗ held c arg15 S.dk
    ∗ held c arg16 S.dv ∗ held c arg8 S.outK ∗ held c arg9 S.outV)

set_option maxHeartbeats 1600000 in
/-- One step, run. -/
theorem step_sound (X : Inp F) (S : St F) (a b : BitVec 32) (ok : StepOk a b) :
    iprop(inputs c arg1 arg2 arg3 arg4 arg5 arg6 X ∗ state c arg8 arg9 sIn dpIn sOut dpOut arg14 arg15 arg16 S)
      ⊢ wp frame (wpE (defs₀ (F := F)) 𝒱₀ (c : Thread nD τ) none) Set.univ
        (stepProg (F := F) arg1 arg2 arg3 arg4 arg5 arg6 arg8 harg8 arg9 harg9 sIn dpIn sOut dpOut arg14 arg15 arg16 a b ok)
        (fun _ => iprop(inputs c arg1 arg2 arg3 arg4 arg5 arg6 X
          ∗ state c arg8 arg9 sOut dpOut sIn dpIn arg14 arg15 arg16 (stepSt X S a b ok))) := by
  unfold stepProg inputs state some_
  simp only [Prog.bind_lift]
  iintro ⟨⟨H1, H2, H3, H4, H5, H6⟩, Hs, Hdp, ⟨%Y1, Hso⟩, ⟨%Y2, Hdpo⟩, H14, H15, H16, H8, H9⟩
  iapply (ld_full c sIn S.s _) $$ Hs; iintro Hs
  iapply (ld_window c arg5 X.lse ok.stat) $$ H5; iintro H5
  iapply (ld_full c arg16 S.dv _) $$ H16; iintro H16
  iapply (ld_window c arg4 X.g ok.cot) $$ H4; iintro H4
  iapply (ld_full c dpIn S.dp _) $$ Hdp; iintro Hdp
  iapply (ld_window c arg6 X.del ok.stat) $$ H6; iintro H6
  iapply (ld_full c arg15 S.dk _) $$ H15; iintro H15
  iapply (ld_window c arg3 X.q ok.qrow) $$ H3; iintro H3
  iapply (ld_window c arg14 S.dq ok.qrow) $$ H14; iintro H14
  iapply (ld_window c arg1 X.k ok.krow) $$ H1; iintro H1
  iapply (ld_window c arg14 S.dq ok.qrow) $$ H14; iintro H14
  iapply (st_put c arg14 S.dq ok.qrow _) $$ H14; iintro H14
  iapply (ld_full c arg16 S.dv _) $$ H16; iintro H16
  iapply (st_full c arg16 S.dv _ _) $$ H16; iintro H16
  iapply (ld_full c arg15 S.dk _) $$ H15; iintro H15
  iapply (st_full c arg15 S.dk _ _) $$ H15; iintro H15
  iapply (ld_window c arg8 S.outK ok.krow) $$ H8; iintro H8
  iapply (st_put c arg8 S.outK ok.krow _) $$ H8; iintro H8
  iapply (ld_window c arg9 S.outV ok.vrow) $$ H9; iintro H9
  iapply (st_put c arg9 S.outV ok.vrow _) $$ H9; iintro H9
  iapply (ld_window c arg1 X.k ok.knext) $$ H1; iintro H1
  iapply (ld_window c arg3 X.q ok.qnext) $$ H3; iintro H3
  iapply (ld_full c sOut Y1 _) $$ Hso; iintro Hso
  iapply (st_full c sOut Y1 _ _) $$ Hso; iintro Hso
  iapply (ld_window c arg2 X.v ok.vnext) $$ H2; iintro H2
  iapply (ld_window c arg4 X.g ok.cnext) $$ H4; iintro H4
  iapply (ld_full c dpOut Y2 _) $$ Hdpo; iintro Hdpo
  unfold Prog.lift
  iapply (st_full c dpOut Y2 _ _) $$ Hdpo; iintro Hdpo
  rw [wp_ret]; imodintro
  isplitl [H1 H2 H3 H4 H5 H6]
  · isplitl [H1]; · iexact H1
    isplitl [H2]; · iexact H2
    isplitl [H3]; · iexact H3
    isplitl [H4]; · iexact H4
    isplitl [H5]; · iexact H5
    iexact H6
  · isplitl [Hso]; · iexact Hso
    isplitl [Hdpo]; · iexact Hdpo
    isplitl [Hs]; · iexists _; iexact Hs
    isplitl [Hdp]; · iexists _; iexact Hdp
    isplitl [H14]; · iexact H14
    isplitl [H15]; · iexact H15
    isplitl [H16]; · iexact H16
    isplitl [H8]; · iexact H8
    iexact H9

end

end Cert.Proof.KernelIdeal

end
-- ==== Proof.KernelIdeal.Trip.lean ====
/-
  The printed region of the kernel's loop over the pairs is a trip of eight steps (`tripProg`): both sides are laid out
  as one chain of loads and stores, and the two chains are compared one by one.
-/
module

public import proofs.«01_k».proof.Proof.KernelIdeal.Step
@[expose] public section

noncomputable section

namespace Cert.Proof.KernelIdeal
open Cert.KernelIdeal Cert.KernelIdeal.Gen
open Idealize.ShloMosaic Idealize.SL.Sem
variable {F : FTy → Type} [FloatOps F]

-- the arithmetic of block numbers is compared as written, never computed
attribute [local irreducible] Scalar.select Scalar.cmpi Scalar.addi Scalar.minsi Scalar.muli Scalar.indexCast

/-- Two programs are equal if their first effects are and what follows is at every response. -/
theorem bind_eq.{v} {E : Type → Type v} {α β : Type} {m₁ m₂ : Prog E α} {f g : α → Prog E β} (h : m₁ = m₂) (h' : ∀ x, f x = g x) :
    m₁ >>= f = m₂ >>= g := by subst h; exact congrArg _ (funext h')
set_option maxRecDepth 65536 in
set_option maxHeartbeats 4000000 in
/-- The printed region of the loop is the trip above: the same loads and stores over the same payloads. -/
theorem body_eq_trip (i : grid0.Coords) (arg1 : Memref sig .tc .vmem S8192x256 .bf16) (harg1 : arg1.IsWhole) (arg2 : Memref sig .tc .vmem S8192x128 .bf16) (harg2 : arg2.IsWhole) (arg3 : Memref sig .tc .vmem S8192x256 .bf16) (harg3 : arg3.IsWhole) (arg4 : Memref sig .tc .vmem S1x128x8192 .bf16) (harg4 : arg4.IsWhole) (arg5 : Memref sig .tc .vmem S1x1x8192 .f32) (harg5 : arg5.IsWhole) (arg6 : Memref sig .tc .vmem S1x1x8192 .f32) (harg6 : arg6.IsWhole) (arg7 : Memref sig .tc .vmem S8192x256 .bf16) (harg7 : arg7.IsWhole) (arg8 : Memref sig .tc .vmem S8192x256 .bf16) (harg8 : arg8.IsWhole) (arg9 : Memref sig .tc .vmem S8192x128 .bf16) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S8192x256 .f32) (harg14 : arg14.IsWhole) (arg15 : Memref sig .tc .vmem S512x256 .f32) (harg15 : arg15.IsWhole) (arg16 : Memref sig .tc .vmem S128x512 .f32) (harg16 : arg16.IsWhole)
    (k : Fin k0_t1_loop.trips) (p : BitVec 32 × BitVec 32) (ok : ∀ n : Fin 8, StepOk (seqW p n.val).1 (seqW p n.val).2) :
    k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k p
      = tripProg arg1 arg2 arg3 arg4 arg5 arg6 arg8 harg8 arg9 harg9 arg10 arg11 arg12 arg13 arg14 arg15 arg16 p ok := by
  obtain ⟨a, b⟩ := p
  simp only [k0_t1_body, k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel, k0_part24_eq_skeleton, k0_part24_skel, k0_part25_eq_skeleton, k0_part25_skel, bind_assoc, pure_bind, tripProg, stepProg]
  refine bind_eq (id rfl) fun h2 => ?_
  refine bind_eq (id rfl) fun h1 => ?_
  repeat (refine bind_eq (id rfl) fun _ => ?_)
  exact id rfl

end Cert.Proof.KernelIdeal

end
-- ==== Proof.KernelIdeal.Pairs.lean ====
/-
  The walk over the pairs of blocks: from (0, 0) the pair (key block, query block) stays among 0 ≤ key ≤ query ≤ 15 for
  136 steps, and ends at (16, 16).
-/
module

public import proofs.«01_k».proof.Proof.KernelIdeal.Step

@[expose] public section

noncomputable section

namespace Cert.Proof.KernelIdeal

open Cert.KernelIdeal Cert.KernelIdeal.Gen
open Idealize.ShloMosaic

/-- The pair after `p`. -/
def nx (p : BitVec 32 × BitVec 32) : BitVec 32 × BitVec 32 := (nxJ p.1 p.2, nxI p.1 p.2)

theorem seqW_succ (p : BitVec 32 × BitVec 32) (n : ℕ) : seqW p (n + 1) = nx (seqW p n) := rfl

theorem seqW_nx (p : BitVec 32 × BitVec 32) (n : ℕ) : seqW (nx p) n = seqW p (n + 1) := by
  induction n with
  | zero => rfl
  | succ n ih => rw [seqW_succ, ih, ← seqW_succ]

theorem seqW_add (p : BitVec 32 × BitVec 32) (m n : ℕ) : seqW (seqW p m) n = seqW p (m + n) := by
  induction n with
  | zero => rfl
  | succ n ih => rw [seqW_succ, ih, ← seqW_succ]; rfl

/-- A pair of block numbers, the key's at most the query's. -/
def good (p : BitVec 32 × BitVec 32) : Bool := decide (p.1.toNat ≤ p.2.toNat) && decide (p.2.toNat ≤ 15)

/-- The next `n` pairs from `p` on are good. -/
def goods : ℕ → BitVec 32 × BitVec 32 → Bool
  | 0, _ => true
  | n + 1, p => good p && goods n (nx p)

theorem goods_spec : ∀ (n : ℕ) (p : BitVec 32 × BitVec 32), goods n p = true → ∀ t, t < n → good (seqW p t) = true
  | 0, _, _, t, ht => absurd ht (Nat.not_lt_zero t)
  | n + 1, p, h, 0, _ => (Bool.and_eq_true _ _ ▸ h).1
  | n + 1, p, h, t + 1, ht => by
      have h2 := (Bool.and_eq_true _ _ ▸ h : good p = true ∧ goods n (nx p) = true).2
      have := goods_spec n (nx p) h2 t (Nat.lt_of_succ_lt_succ ht)
      rwa [seqW_nx] at this

/-- `n` pairs on from `p`. -/
def walk : ℕ → BitVec 32 × BitVec 32 → BitVec 32 × BitVec 32
  | 0, p => p
  | n + 1, p => walk n (nx p)

theorem walk_eq : ∀ (n : ℕ) (p : BitVec 32 × BitVec 32), walk n p = seqW p n
  | 0, _ => rfl
  | n + 1, p => (walk_eq n (nx p)).trans (seqW_nx p n)

theorem goods_all : goods 136 (0#32, 0#32) = true := by decide +kernel
theorem walk_all : walk 136 (0#32, 0#32) = (16#32, 16#32) := by decide +kernel

/-- The pair before step `t`. -/
def pairW (t : ℕ) : BitVec 32 × BitVec 32 := seqW (0#32, 0#32) t

theorem pairW_end : pairW 136 = (16#32, 16#32) := (walk_eq _ _).symm.trans walk_all

theorem pairW_good {t : ℕ} (ht : t < 136) : (pairW t).1.toNat ≤ (pairW t).2.toNat ∧ (pairW t).2.toNat ≤ 15 := by
  have h := goods_spec _ _ goods_all t ht
  simpa [good, pairW] using h

theorem pairW_nat {t : ℕ} (ht : t < 136) :
    ∃ j i : Fin 16, j ≤ i ∧ pairW t = (BitVec.ofNat 32 j.val, BitVec.ofNat 32 i.val) := by
  obtain ⟨h1, h2⟩ := pairW_good ht
  refine ⟨⟨(pairW t).1.toNat, by omega⟩, ⟨(pairW t).2.toNat, by omega⟩, h1, ?_⟩
  exact Prod.ext (by simp) (by simp)

/-! ### What a step needs -/

/-- Block `j`'s number as a word. -/
abbrev wd (j : Fin 16) : BitVec 32 := BitVec.ofNat 32 j.val

theorem rowO_inb (j : Fin 16) : ∀ x, rowO (wd j) x + S512x256.size x ≤ S8192x256.size x := by
  revert j; decide +kernel
theorem rowO_inbV (j : Fin 16) : ∀ x, rowO (wd j) x + S512x128.size x ≤ S8192x128.size x := by
  revert j; decide +kernel
theorem colO_inb (j : Fin 16) : ∀ x, colO (wd j) x + S1x1x512.size x ≤ S1x1x8192.size x := by
  revert j; decide +kernel
theorem colO_inbG (j : Fin 16) : ∀ x, colO (wd j) x + S1x128x512.size x ≤ S1x128x8192.size x := by
  revert j; decide +kernel
theorem packK (j : Fin 16) : (Rect.unit (s := S8192x256) (rowO (wd j)) S512x256.size (rowO_inb j)).PackedRows (EltTy.packing .bf16) := by
  revert j; decide +kernel
theorem packV (j : Fin 16) : (Rect.unit (s := S8192x128) (rowO (wd j)) S512x128.size (rowO_inbV j)).PackedRows (EltTy.packing .bf16) := by
  revert j; decide +kernel

/-- The next pair, held within the blocks there are, is a pair of block numbers. -/
theorem clamp_next : ∀ j i : Fin 16, ∃ j' i' : Fin 16, clampW (nxJ (wd j) (wd i)) = wd j' ∧ clampW (nxI (wd j) (wd i)) = wd i' := by
  decide +kernel

theorem stepOk_wd (j i : Fin 16) : StepOk (wd j) (wd i) := by
  obtain ⟨j', i', hj, hi⟩ := clamp_next j i
  exact { stat := colO_inb i, cot := colO_inbG i, qrow := rowO_inb i, krow := rowO_inb j, kpack := packK j, vrow := rowO_inbV j,
          vpack := packV j, knext := hj ▸ rowO_inb j', qnext := hi ▸ rowO_inb i', vnext := hj ▸ rowO_inbV j', cnext := hi ▸ colO_inbG i' }

/-- Every pair of the walk is one a step runs at. -/
theorem stepOk_pairW {t : ℕ} (ht : t < 136) : StepOk (pairW t).1 (pairW t).2 := by
  obtain ⟨j, i, -, h⟩ := pairW_nat ht
  rw [h]; exact stepOk_wd j i

/-! ### What a trip checks -/

theorem trips_eq : k0_t1_loop.trips = 17 := by decide +kernel

theorem chk2_walk : ∀ k : Fin 17, k0_chk2 (walk (8 * k.val) (0#32, 0#32)).1 := by decide +kernel
theorem chk1_walk : ∀ k : Fin 17, k0_chk1 (walk (8 * k.val) (0#32, 0#32)).1 (walk (8 * k.val) (0#32, 0#32)).2 := by decide +kernel

end Cert.Proof.KernelIdeal

end
-- ==== Proof.KernelIdeal.Fold.lean ====
/-
  The 136 steps as a fold over the buffers' contents, and why the three results do not depend on what the results and
  the key block's accumulators held before the first step.
-/
module

public import proofs.«01_k».proof.Proof.KernelIdeal.Pure
public import proofs.«01_k».proof.Proof.KernelIdeal.Pairs

@[expose] public section

noncomputable section

namespace Cert.Proof.KernelIdeal

open Cert.KernelIdeal Cert.KernelIdeal.Gen
open Idealize.ShloMosaic

variable {F : FTy → Type} [FloatOps F]

/-- The buffers before step `t`, from `S` on. -/
def foldSt (X : Inp F) (S : St F) : ℕ → St F
  | 0 => S
  | t + 1 => if h : t < 136 then stepSt X (foldSt X S t) (pairW t).1 (pairW t).2 (stepOk_pairW h) else foldSt X S t

theorem foldSt_zero (X : Inp F) (S : St F) : foldSt X S 0 = S := by rw [foldSt]

theorem foldSt_succ (X : Inp F) (S : St F) {t : ℕ} (h : t < 136) (p : BitVec 32 × BitVec 32) (hp : p = pairW t) (ok : StepOk p.1 p.2) :
    stepSt X (foldSt X S t) p.1 p.2 ok = foldSt X S (t + 1) := by
  subst hp
  rw [foldSt, dif_pos h]

attribute [irreducible] foldSt

/-- The buffers before the first step: the products of the pair (0, 0), the query gradient's accumulator at zero, and
    whatever the others hold. -/
def initSt (X : Inp F) (dk : Vec F S512x256 .f32) (dv : Vec F S128x512 .f32) (outK : Vec F S8192x256 .bf16) (outV : Vec F S8192x128 .bf16) : St F where
  s := k0_pay111 (VecWindow.window X.k ![0, 0] S512x256.size inb_S8192x256_S512x256_0_0) (VecWindow.window X.q ![0, 0] S512x256.size inb_S8192x256_S512x256_0_0)
  dp := k0_pay112 (VecWindow.window X.v ![0, 0] S512x128.size inb_S8192x128_S512x128_0_0) (VecWindow.window X.g ![0, 0, 0] S1x128x512.size inb_S1x128x8192_S1x128x512_0_0_0)
  dq := k0_pay110
  dk := dk
  dv := dv
  outK := outK
  outV := outV

/-- Rows written into the results before step `t`. -/
def writtenK (t : ℕ) (y : S8192x256.Idx) : Prop := ∃ t' < t, ∀ x, rowO (pairW t').1 x ≤ (y x).val ∧ (y x).val < rowO (pairW t').1 x + S512x256.size x
def writtenV (t : ℕ) (y : S8192x128.Idx) : Prop := ∃ t' < t, ∀ x, rowO (pairW t').1 x ≤ (y x).val ∧ (y x).val < rowO (pairW t').1 x + S512x128.size x

/-- Two states that agree on all a step after the first reads, and on the rows written so far. -/
structure Agree (t : ℕ) (S S' : St F) : Prop where
  s : S.s = S'.s
  dp : S.dp = S'.dp
  dq : S.dq = S'.dq
  dk : t ≠ 0 → S.dk = S'.dk
  dv : t ≠ 0 → S.dv = S'.dv
  outK : ∀ y, writtenK t y → S.outK y = S'.outK y
  outV : ∀ y, writtenV t y → S.outV y = S'.outV y

theorem put_congr {α : Type} {s : Shape} (P : s.Idx → Prop) (x x' : s.Idx → α) (off size : Fin s.rank → ℕ) (w : ((a : Fin s.rank) → Fin (size a)) → α)
    (h : ∀ y, P y → x y = x' y) (y : s.Idx) (hy : (∀ a, off a ≤ (y a).val ∧ (y a).val < off a + size a) ∨ P y) :
    VecWindow.put x off size w y = VecWindow.put x' off size w y := by
  unfold VecWindow.put
  by_cases hw : ∀ a, off a ≤ (y a).val ∧ (y a).val < off a + size a
  · rw [dif_pos hw, dif_pos hw]
  · rw [dif_neg hw, dif_neg hw]; exact h y (hy.resolve_left hw)

/-- On a diagonal pair the accumulator's earlier contents are dropped. -/
theorem pay7_diag (w g : FVec F S512x512 .bf16) (x x' : Vec F S512x256 .f32) (q : Vec F S512x256 .bf16) :
    k0_pay7 (Scalar.cmpi .eq 0#32 0#32) w g x q = k0_pay7 (Scalar.cmpi .eq 0#32 0#32) w g x' q := rfl
theorem pay4_diag (s : Vec F S512x512 .f32) (l : Vec F S1x1x512 .f32) (x x' : Vec F S128x512 .f32) (g : Vec F S1x128x512 .bf16) :
    k0_pay4 0#32 0#32 s l x g = k0_pay4 0#32 0#32 s l x' g := rfl

theorem agree_step (X : Inp F) (S S' : St F) (t : ℕ) (ht : t < 136) (h : Agree t S S') :
    Agree (t + 1) (stepSt X S (pairW t).1 (pairW t).2 (stepOk_pairW ht)) (stepSt X S' (pairW t).1 (pairW t).2 (stepOk_pairW ht)) := by
  have hw : wgt X S (pairW t).1 (pairW t).2 (stepOk_pairW ht) = wgt X S' (pairW t).1 (pairW t).2 (stepOk_pairW ht) := by
    unfold wgt; rw [h.s]
  have hg : gap X S (pairW t).1 (pairW t).2 (stepOk_pairW ht) = gap X S' (pairW t).1 (pairW t).2 (stepOk_pairW ht) := by
    unfold gap; rw [h.dp]
  have hv : accV X S (pairW t).1 (pairW t).2 (stepOk_pairW ht) = accV X S' (pairW t).1 (pairW t).2 (stepOk_pairW ht) := by
    unfold accV; rw [h.s]
    by_cases h0 : t = 0
    · subst h0; exact pay4_diag _ _ _ _ _
    · rw [h.dv h0]
  have hk : ∀ q, k0_pay7 (Scalar.cmpi .eq (pairW t).2 (pairW t).1) (wgt X S (pairW t).1 (pairW t).2 (stepOk_pairW ht)) (gap X S (pairW t).1 (pairW t).2 (stepOk_pairW ht)) S.dk q
      = k0_pay7 (Scalar.cmpi .eq (pairW t).2 (pairW t).1) (wgt X S' (pairW t).1 (pairW t).2 (stepOk_pairW ht)) (gap X S' (pairW t).1 (pairW t).2 (stepOk_pairW ht)) S'.dk q := by
    intro q; rw [hw, hg]
    by_cases h0 : t = 0
    · subst h0; exact pay7_diag _ _ _ _ _
    · rw [h.dk h0]
  refine ⟨rfl, rfl, ?_, fun _ => ?_, fun _ => ?_, fun y hy => ?_, fun y hy => ?_⟩
  · simp only [stepSt, hw, hg, h.dq]
  · simp only [stepSt, k0_pay10, hk]
  · simp only [stepSt, hv]
  · simp only [stepSt, k0_pay11, hk]
    refine put_congr (writtenK t) _ _ _ _ _ h.outK y ?_
    obtain ⟨t', ht', hc⟩ := hy
    rcases Nat.lt_succ_iff_lt_or_eq.mp ht' with h1 | rfl
    · exact .inr ⟨t', h1, hc⟩
    · exact .inl hc
  · simp only [stepSt, hv]
    refine put_congr (writtenV t) _ _ _ _ _ h.outV y ?_
    obtain ⟨t', ht', hc⟩ := hy
    rcases Nat.lt_succ_iff_lt_or_eq.mp ht' with h1 | rfl
    · exact .inr ⟨t', h1, hc⟩
    · exact .inl hc

theorem agree_fold (X : Inp F) (S S' : St F) (h0 : Agree 0 S S') : ∀ t ≤ 136, Agree t (foldSt X S t) (foldSt X S' t)
  | 0, _ => by rw [foldSt_zero, foldSt_zero]; exact h0
  | t + 1, ht => by
      have ih := agree_fold X S S' h0 t (Nat.le_of_succ_le ht)
      rw [← foldSt_succ X S ht _ rfl (stepOk_pairW ht), ← foldSt_succ X S' ht _ rfl (stepOk_pairW ht)]
      exact agree_step X _ _ t ht ih

/-- Every row block is the key block of some step. -/
theorem key_block : ∀ j : Fin 16, ∃ t : Fin 136, (walk t.val (0#32, 0#32)).1 = wd j := by
  decide +kernel

theorem rowO_wd (j : Fin 16) : rowO (wd j) = ![j.val * 512, 0] := by
  revert j; decide +kernel

theorem writtenK_all (y : S8192x256.Idx) : writtenK 136 y := by
  have h0 : (y 0).val < 8192 := (y 0).isLt
  have h1 : (y 1).val < 256 := (y 1).isLt
  obtain ⟨t, ht⟩ := key_block ⟨(y 0).val / 512, by omega⟩
  refine ⟨t.val, t.isLt, ?_⟩
  rw [walk_eq] at ht
  unfold pairW
  rw [ht, rowO_wd]
  intro x
  match x with
  | ⟨0, _⟩ => show (y 0).val / 512 * 512 ≤ (y 0).val ∧ (y 0).val < (y 0).val / 512 * 512 + 512; omega
  | ⟨1, _⟩ => show 0 ≤ (y 1).val ∧ (y 1).val < 0 + 256; omega

theorem writtenV_all (y : S8192x128.Idx) : writtenV 136 y := by
  have h0 : (y 0).val < 8192 := (y 0).isLt
  have h1 : (y 1).val < 128 := (y 1).isLt
  obtain ⟨t, ht⟩ := key_block ⟨(y 0).val / 512, by omega⟩
  refine ⟨t.val, t.isLt, ?_⟩
  rw [walk_eq] at ht
  unfold pairW
  rw [ht, rowO_wd]
  intro x
  match x with
  | ⟨0, _⟩ => show (y 0).val / 512 * 512 ≤ (y 0).val ∧ (y 0).val < (y 0).val / 512 * 512 + 512; omega
  | ⟨1, _⟩ => show 0 ≤ (y 1).val ∧ (y 1).val < 0 + 128; omega

/-- The state the results are read off: the fold from some contents of what is overwritten anyway. -/
def lastSt (X : Inp F) : St F :=
  foldSt X (initSt X (constant S512x256 .f32 0x00000000#32) (constant S128x512 .f32 0x00000000#32) (constant S8192x256 .bf16 0x0000#16)
    (constant S8192x128 .bf16 0x0000#16)) 136

theorem agree_init (X : Inp F) (dk dv outK outV dk' dv' outK' outV') : Agree 0 (initSt X dk dv outK outV) (initSt X dk' dv' outK' outV') :=
  ⟨rfl, rfl, rfl, fun h => absurd rfl h, fun h => absurd rfl h,
    fun y hy => by obtain ⟨_, h, _⟩ := hy; exact absurd h (Nat.not_lt_zero _), fun y hy => by obtain ⟨_, h, _⟩ := hy; exact absurd h (Nat.not_lt_zero _)⟩

theorem agree_last (X : Inp F) (dk dv outK outV) : Agree 136 (foldSt X (initSt X dk dv outK outV) 136) (lastSt X) := by
  unfold lastSt
  exact agree_fold X _ _ (agree_init X dk dv outK outV _ _ _ _) 136 le_rfl

theorem last_outK (X : Inp F) (dk dv outK outV) : (foldSt X (initSt X dk dv outK outV) 136).outK = (lastSt X).outK :=
  funext fun y => (agree_last X dk dv outK outV).outK y (writtenK_all y)
theorem last_outV (X : Inp F) (dk dv outK outV) : (foldSt X (initSt X dk dv outK outV) 136).outV = (lastSt X).outV :=
  funext fun y => (agree_last X dk dv outK outV).outV y (writtenV_all y)
theorem last_dq (X : Inp F) (dk dv outK outV) : (foldSt X (initSt X dk dv outK outV) 136).dq = (lastSt X).dq :=
  (agree_last X dk dv outK outV).dq

/-! ### The query gradient, copied out -/

/-- The query gradient's result after `n` of its sixteen blocks are copied out. -/
def finQ (dq : Vec F S8192x256 .f32) (Y : Vec F S8192x256 .bf16) : ℕ → Vec F S8192x256 .bf16
  | 0 => Y
  | n + 1 => if h : n < k0_t2_loop.trips then
      VecWindow.put (finQ dq Y n) (k0_off74 ⟨n, h⟩) S512x256.size (k0_pay2 (VecWindow.window dq (k0_off74 ⟨n, h⟩) S512x256.size (k0_off74_inb ⟨n, h⟩)))
    else finQ dq Y n

theorem trips2_eq : k0_t2_loop.trips = 16 := by decide +kernel

theorem off74_eq : ∀ n : Fin k0_t2_loop.trips, k0_off74 n = ![n.val * 512, 0] := by decide +kernel

theorem finQ_apply (dq : Vec F S8192x256 .f32) (Y : Vec F S8192x256 .bf16) : ∀ n ≤ 16, ∀ y : S8192x256.Idx, (y 0).val < n * 512 →
    finQ dq Y n y = truncf .bf16 dq bitsLt_bf16_f32 y
  | 0, _, y, h => absurd h (by omega)
  | n + 1, hn, y, h => by
      have h1 : (y 1).val < 256 := (y 1).isLt
      have hlt : n < k0_t2_loop.trips := by rw [trips2_eq]; omega
      rw [finQ, dif_pos hlt]
      have ho : k0_off74 ⟨n, hlt⟩ = ![n * 512, 0] := off74_eq ⟨n, hlt⟩
      unfold VecWindow.put
      by_cases hw : ∀ a, k0_off74 ⟨n, hlt⟩ a ≤ (y a).val ∧ (y a).val < k0_off74 ⟨n, hlt⟩ a + S512x256.size a
      · rw [dif_pos hw]
        show FloatOps.truncf _ _ _ = FloatOps.truncf _ _ _
        congr 1
        exact congrArg dq (funext fun a => Fin.ext (by
          show k0_off74 ⟨n, hlt⟩ a + 1 * ((y a).val - k0_off74 ⟨n, hlt⟩ a) = (y a).val
          have := hw a; omega))
      · rw [dif_neg hw]
        refine finQ_apply dq Y n (by omega) y ?_
        by_contra hc
        refine hw fun a => ?_
        rw [ho]
        match a with
        | ⟨0, _⟩ => show n * 512 ≤ (y 0).val ∧ (y 0).val < n * 512 + 512; omega
        | ⟨1, _⟩ => show 0 ≤ (y 1).val ∧ (y 1).val < 0 + 256; omega

theorem finQ_all (dq : Vec F S8192x256 .f32) (Y : Vec F S8192x256 .bf16) : finQ dq Y k0_t2_loop.trips = truncf .bf16 dq bitsLt_bf16_f32 := by
  rw [trips2_eq]
  funext y
  exact finQ_apply dq Y 16 le_rfl y (by have : (y 0).val < 8192 := (y 0).isLt; omega)

/-! ### The three results -/

def outQ (X : Inp F) : Vec F S8192x256 .bf16 := truncf .bf16 (lastSt X).dq bitsLt_bf16_f32
def outK (X : Inp F) : Vec F S8192x256 .bf16 := (lastSt X).outK
def outV (X : Inp F) : Vec F S8192x128 .bf16 := (lastSt X).outV

end Cert.Proof.KernelIdeal

end
-- ==== Proof.KernelIdeal.Body.lean ====
/-
  The kernel's body, run: the trips of the first loop carry the buffers through the 136 steps, the second loop copies the
  query gradient out; from the six input blocks the three results are `outQ`, `outK`, `outV` of them.
-/
module

public import proofs.«01_k».proof.Proof.KernelIdeal.Run
public import proofs.«01_k».proof.Proof.KernelIdeal.Trip
public import proofs.«01_k».proof.Proof.KernelIdeal.Fold

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ
local notation "𝒱₀" => Variants.none

/-- One program after another. -/
theorem wp_seq (c : Dev nD) {α β : Type} {P : sProp 𝕄} {R : α → sProp 𝕄} {Q : β → sProp 𝕄}
    (p : Prog (TpuEff nD τ sig (Elt F) Λ₀ .tc) α) (k : α → Prog (TpuEff nD τ sig (Elt F) Λ₀ .tc) β)
    (h1 : P ⊢ wp frame (wpE (defs₀ (F := F)) 𝒱₀ (c : Thread nD τ) none) Set.univ p R)
    (h2 : ∀ x, R x ⊢ wp frame (wpE (defs₀ (F := F)) 𝒱₀ (c : Thread nD τ) none) Set.univ (k x) Q) :
    P ⊢ wp frame (wpE (defs₀ (F := F)) 𝒱₀ (c : Thread nD τ) none) Set.univ (p >>= k) Q := by
  rw [wp_bind]
  exact h1.trans (wp_mono _ _ _ h2)

section
variable (c : Dev nD) (i : grid0.Coords)
  (arg1 : Memref sig .tc .vmem S8192x256 .bf16) (harg1 : arg1.IsWhole)
  (arg2 : Memref sig .tc .vmem S8192x128 .bf16) (harg2 : arg2.IsWhole)
  (arg3 : Memref sig .tc .vmem S8192x256 .bf16) (harg3 : arg3.IsWhole)
  (arg4 : Memref sig .tc .vmem S1x128x8192 .bf16) (harg4 : arg4.IsWhole)
  (arg5 : Memref sig .tc .vmem S1x1x8192 .f32) (harg5 : arg5.IsWhole)
  (arg6 : Memref sig .tc .vmem S1x1x8192 .f32) (harg6 : arg6.IsWhole)
  (arg7 : Memref sig .tc .vmem S8192x256 .bf16) (harg7 : arg7.IsWhole)
  (arg8 : Memref sig .tc .vmem S8192x256 .bf16) (harg8 : arg8.IsWhole)
  (arg9 : Memref sig .tc .vmem S8192x128 .bf16) (harg9 : arg9.IsWhole)
  (arg10 : Memref sig .tc .vmem S512x512 .f32) (harg10 : arg10.IsWhole)
  (arg11 : Memref sig .tc .vmem S512x512 .f32) (harg11 : arg11.IsWhole)
  (arg12 : Memref sig .tc .vmem S512x512 .f32) (harg12 : arg12.IsWhole)
  (arg13 : Memref sig .tc .vmem S512x512 .f32) (harg13 : arg13.IsWhole)
  (arg14 : Memref sig .tc .vmem S8192x256 .f32) (harg14 : arg14.IsWhole)
  (arg15 : Memref sig .tc .vmem S512x256 .f32) (harg15 : arg15.IsWhole)
  (arg16 : Memref sig .tc .vmem S128x512 .f32) (harg16 : arg16.IsWhole)

/-- What a trip starts from, and ends with, before step `t`. -/
def before (X : Inp F) (S : St F) (t : ℕ) : sProp 𝕄 :=
  iprop(inputs c arg1 arg2 arg3 arg4 arg5 arg6 X ∗ state c arg8 arg9 arg10 arg12 arg11 arg13 arg14 arg15 arg16 (foldSt X S t))

/-- The same with the two pairs of buffers changed places. -/
def before' (X : Inp F) (S : St F) (t : ℕ) : sProp 𝕄 :=
  iprop(inputs c arg1 arg2 arg3 arg4 arg5 arg6 X ∗ state c arg8 arg9 arg11 arg13 arg10 arg12 arg14 arg15 arg16 (foldSt X S t))

theorem step_even (X : Inp F) (S : St F) (t : ℕ) (ht : t < 136) (p : BitVec 32 × BitVec 32) (hp : p = pairW t) (ok : StepOk p.1 p.2) :
    before c arg1 arg2 arg3 arg4 arg5 arg6 arg8 arg9 arg10 arg11 arg12 arg13 arg14 arg15 arg16 X S t
      ⊢ wp frame (wpE (defs₀ (F := F)) 𝒱₀ (c : Thread nD τ) none) Set.univ
        (stepProg (F := F) arg1 arg2 arg3 arg4 arg5 arg6 arg8 harg8 arg9 harg9 arg10 arg12 arg11 arg13 arg14 arg15 arg16 p.1 p.2 ok)
        (fun _ => before' c arg1 arg2 arg3 arg4 arg5 arg6 arg8 arg9 arg10 arg11 arg12 arg13 arg14 arg15 arg16 X S (t + 1)) := by
  unfold before before'
  rw [← foldSt_succ X S ht p hp ok]
  exact step_sound c arg1 arg2 arg3 arg4 arg5 arg6 arg8 harg8 arg9 harg9 arg10 arg12 arg11 arg13 arg14 arg15 arg16 X (foldSt X S t) p.1 p.2 ok

theorem step_odd (X : Inp F) (S : St F) (t : ℕ) (ht : t < 136) (p : BitVec 32 × BitVec 32) (hp : p = pairW t) (ok : StepOk p.1 p.2) :
    before' c arg1 arg2 arg3 arg4 arg5 arg6 arg8 arg9 arg10 arg11 arg12 arg13 arg14 arg15 arg16 X S t
      ⊢ wp frame (wpE (defs₀ (F := F)) 𝒱₀ (c : Thread nD τ) none) Set.univ
        (stepProg (F := F) arg1 arg2 arg3 arg4 arg5 arg6 arg8 harg8 arg9 harg9 arg11 arg13 arg10 arg12 arg14 arg15 arg16 p.1 p.2 ok)
        (fun _ => before c arg1 arg2 arg3 arg4 arg5 arg6 arg8 arg9 arg10 arg11 arg12 arg13 arg14 arg15 arg16 X S (t + 1)) := by
  unfold before before'
  rw [← foldSt_succ X S ht p hp ok]
  exact step_sound c arg1 arg2 arg3 arg4 arg5 arg6 arg8 harg8 arg9 harg9 arg11 arg13 arg10 arg12 arg14 arg15 arg16 X (foldSt X S t) p.1 p.2 ok

/-- The first loop's invariant: the pair at hand is the one before step `8 k`, and the buffers have run `8 k` steps. -/
def loopInv (X : Inp F) (S : St F) (k : ℕ) (p : BitVec 32 × BitVec 32) : sProp 𝕄 :=
  iprop(⌜p = pairW (8 * k)⌝ ∗ before c arg1 arg2 arg3 arg4 arg5 arg6 arg8 arg9 arg10 arg11 arg12 arg13 arg14 arg15 arg16 X S (8 * k))

theorem trip_sound (X : Inp F) (S : St F) (k : Fin k0_t1_loop.trips) (p : BitVec 32 × BitVec 32) :
    loopInv c arg1 arg2 arg3 arg4 arg5 arg6 arg8 arg9 arg10 arg11 arg12 arg13 arg14 arg15 arg16 X S k.val p
      ⊢ wp frame (wpE (defs₀ (F := F)) 𝒱₀ (c : Thread nD τ) none) Set.univ
        (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k p)
        (loopInv c arg1 arg2 arg3 arg4 arg5 arg6 arg8 arg9 arg10 arg11 arg12 arg13 arg14 arg15 arg16 X S (k.val + 1)) := by
  unfold loopInv
  iintro ⟨%hp, H⟩
  have hk : k.val < 17 := trips_eq ▸ k.isLt
  have hpn : ∀ n, seqW p n = pairW (8 * k.val + n) := fun n => by rw [hp]; exact seqW_add _ _ _
  have ok : ∀ n : Fin 8, StepOk (seqW p n.val).1 (seqW p n.val).2 := fun n => by
    rw [hpn]; exact stepOk_pairW (by have := n.isLt; omega)
  rw [body_eq_trip (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k p ok]
  have h2 : k0_chk2 p.1 := by
    have := chk2_walk ⟨k.val, hk⟩
    rw [walk_eq] at this; rw [hp]; exact this
  have h1 : k0_chk1 p.1 p.2 := by
    have := chk1_walk ⟨k.val, hk⟩
    rw [walk_eq] at this; rw [hp]; exact this
  unfold tripProg
  simp only [Prog.bind_lift]
  iapply (wp_assume 𝒱₀ (c : Thread nD τ) none Set.univ h2)
  iapply (wp_assume 𝒱₀ (c : Thread nD τ) none Set.univ h1)
  have key : before c arg1 arg2 arg3 arg4 arg5 arg6 arg8 arg9 arg10 arg11 arg12 arg13 arg14 arg15 arg16 X S (8 * k.val + 8)
      ⊢ wp frame (wpE (defs₀ (F := F)) 𝒱₀ (c : Thread nD τ) none) Set.univ (pure (seqW p 8))
        (fun r => iprop(⌜r = pairW (8 * (k.val + 1))⌝ ∗ before c arg1 arg2 arg3 arg4 arg5 arg6 arg8 arg9 arg10 arg11 arg12 arg13 arg14 arg15 arg16 X S (8 * (k.val + 1)))) := by
    rw [Prog.pure_eq_ret, wp_ret]
    iintro H
    imodintro
    isplitr
    · ipureintro; exact hpn 8
    · iexact H
  have chain := wp_seq c _ _ (step_even c arg1 arg2 arg3 arg4 arg5 arg6 arg8 harg8 arg9 harg9 arg10 arg11 arg12 arg13 arg14 arg15 arg16 X S (8 * k.val) (by omega) _ (hpn 0) (ok 0))
    fun _ => wp_seq c _ _ (step_odd c arg1 arg2 arg3 arg4 arg5 arg6 arg8 harg8 arg9 harg9 arg10 arg11 arg12 arg13 arg14 arg15 arg16 X S (8 * k.val + 1) (by omega) _ (hpn 1) (ok 1))
    fun _ => wp_seq c _ _ (step_even c arg1 arg2 arg3 arg4 arg5 arg6 arg8 harg8 arg9 harg9 arg10 arg11 arg12 arg13 arg14 arg15 arg16 X S (8 * k.val + 2) (by omega) _ (hpn 2) (ok 2))
    fun _ => wp_seq c _ _ (step_odd c arg1 arg2 arg3 arg4 arg5 arg6 arg8 harg8 arg9 harg9 arg10 arg11 arg12 arg13 arg14 arg15 arg16 X S (8 * k.val + 3) (by omega) _ (hpn 3) (ok 3))
    fun _ => wp_seq c _ _ (step_even c arg1 arg2 arg3 arg4 arg5 arg6 arg8 harg8 arg9 harg9 arg10 arg11 arg12 arg13 arg14 arg15 arg16 X S (8 * k.val + 4) (by omega) _ (hpn 4) (ok 4))
    fun _ => wp_seq c _ _ (step_odd c arg1 arg2 arg3 arg4 arg5 arg6 arg8 harg8 arg9 harg9 arg10 arg11 arg12 arg13 arg14 arg15 arg16 X S (8 * k.val + 5) (by omega) _ (hpn 5) (ok 5))
    fun _ => wp_seq c _ _ (step_even c arg1 arg2 arg3 arg4 arg5 arg6 arg8 harg8 arg9 harg9 arg10 arg11 arg12 arg13 arg14 arg15 arg16 X S (8 * k.val + 6) (by omega) _ (hpn 6) (ok 6))
    fun _ => wp_seq c _ _ (step_odd c arg1 arg2 arg3 arg4 arg5 arg6 arg8 harg8 arg9 harg9 arg10 arg11 arg12 arg13 arg14 arg15 arg16 X S (8 * k.val + 7) (by omega) _ (hpn 7) (ok 7))
    fun _ => key
  iapply chain
  iexact H

/-- A trip of the second loop copies one block of the query gradient. -/
theorem finish_sound (dq : Vec F S8192x256 .f32) (Y : Vec F S8192x256 .bf16) (k : Fin k0_t2_loop.trips) (u : Unit) :
    iprop(held c arg14 dq ∗ held c arg7 (finQ dq Y k.val))
      ⊢ wp frame (wpE (defs₀ (F := F)) 𝒱₀ (c : Thread nD τ) none) Set.univ
        (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k u)
        (fun _ => iprop(held c arg14 dq ∗ held c arg7 (finQ dq Y (k.val + 1)))) := by
  have e : finQ dq Y (k.val + 1) = VecWindow.put (finQ dq Y k.val) (k0_off74 k) S512x256.size
      (k0_pay2 (VecWindow.window dq (k0_off74 k) S512x256.size (k0_off74_inb k))) := by
    rw [finQ, dif_pos k.isLt]
  rw [e]
  simp only [k0_t2_body, bind_assoc, Prog.bind_lift, pure_bind]
  iintro ⟨H14, H7⟩
  iapply (ld_window c arg14 dq (k0_off74_inb k)) $$ H14; iintro H14
  iapply (ld_window c arg7 (finQ dq Y k.val) (k0_off74_inb k)) $$ H7; iintro H7
  iapply (st_put c arg7 (finQ dq Y k.val) (k0_off74_inb k) _) $$ H7; iintro H7
  simp only [Prog.pure_eq_ret, Prog.bind_ret]
  rw [wp_ret]; imodintro
  isplitl [H14]; · iexact H14
  iexact H7

set_option maxHeartbeats 1600000 in
/-- The kernel's body. -/
theorem kernel_sound (X : Inp F) :
    iprop(inputs c arg1 arg2 arg3 arg4 arg5 arg6 X
        ∗ (some_ F c arg7 ∗ some_ F c arg8 ∗ some_ F c arg9)
        ∗ (some_ F c arg10 ∗ some_ F c arg11 ∗ some_ F c arg12 ∗ some_ F c arg13 ∗ some_ F c arg14 ∗ some_ F c arg15 ∗ some_ F c arg16))
      ⊢ wp frame (wpE (defs₀ (F := F)) 𝒱₀ (c : Thread nD τ) none) Set.univ
        (cc0_flash_bwd (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16)
        (fun _ => iprop(inputs c arg1 arg2 arg3 arg4 arg5 arg6 X
        ∗ (held c arg7 (outQ X) ∗ held c arg8 (outK X) ∗ held c arg9 (outV X))
        ∗ (some_ F c arg10 ∗ some_ F c arg11 ∗ some_ F c arg12 ∗ some_ F c arg13 ∗ some_ F c arg14 ∗ some_ F c arg15 ∗ some_ F c arg16))) := by
  rw [cc0_flash_bwd_eq_skeleton]; unfold cc0_flash_bwd_skel
  rw [k0_part26_eq_skeleton]; unfold k0_part26_skel
  simp only [bind_assoc, Prog.bind_lift, pure_bind]
  unfold some_ inputs
  iintro ⟨⟨H1, H2, H3, H4, H5, H6⟩, ⟨⟨%Y7, H7⟩, ⟨%Y8, H8⟩, ⟨%Y9, H9⟩⟩, ⟨%Y10, H10⟩, ⟨%Y11, H11⟩, ⟨%Y12, H12⟩, ⟨%Y13, H13⟩, ⟨%Y14, H14⟩, ⟨%Y15, H15⟩, ⟨%Y16, H16⟩⟩
  iapply (ld_full c arg14 Y14 _) $$ H14; iintro H14
  iapply (st_full c arg14 Y14 _ _) $$ H14; iintro H14
  iapply (ld_window c arg1 X.k inb_S8192x256_S512x256_0_0) $$ H1; iintro H1
  iapply (ld_window c arg3 X.q inb_S8192x256_S512x256_0_0) $$ H3; iintro H3
  iapply (ld_full c arg10 Y10 _) $$ H10; iintro H10
  iapply (st_full c arg10 Y10 _ _) $$ H10; iintro H10
  iapply (ld_window c arg2 X.v inb_S8192x128_S512x128_0_0) $$ H2; iintro H2
  iapply (ld_window c arg4 X.g inb_S1x128x8192_S1x128x512_0_0_0) $$ H4; iintro H4
  iapply (ld_full c arg12 Y12 _) $$ H12; iintro H12
  iapply (st_full c arg12 Y12 _ _) $$ H12; iintro H12
  iapply (Scf.wp_for_bind frame (wpE (defs₀ (F := F)) 𝒱₀ (c : Thread nD τ) none) Set.univ _ _ _ _ _ _
    (loopInv c arg1 arg2 arg3 arg4 arg5 arg6 arg8 arg9 arg10 arg11 arg12 arg13 arg14 arg15 arg16 X (initSt X Y15 Y16 Y8 Y9))
    (trip_sound c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X (initSt X Y15 Y16 Y8 Y9))) $$ [H1 H2 H3 H4 H5 H6 H8 H9 H10 H11 H12 H13 H14 H15 H16]
  · unfold loopInv before inputs state some_
    rw [Nat.mul_zero, foldSt_zero]
    isplitr; · ipureintro; rfl
    isplitl [H1 H2 H3 H4 H5 H6]
    · isplitl [H1]; · iexact H1
      isplitl [H2]; · iexact H2
      isplitl [H3]; · iexact H3
      isplitl [H4]; · iexact H4
      isplitl [H5]; · iexact H5
      iexact H6
    isplitl [H10]; · iexact H10
    isplitl [H12]; · iexact H12
    isplitl [H11]; · iexists _; iexact H11
    isplitl [H13]; · iexists _; iexact H13
    isplitl [H14]; · iexact H14
    isplitl [H15]; · iexact H15
    isplitl [H16]; · iexact H16
    isplitl [H8]; · iexact H8
    iexact H9
  iintro %p Hinv
  have e17 : Scf.trips k0_t1_loop.lb k0_t1_loop.ub k0_t1_loop.st = 17 := trips_eq
  rw [e17]
  unfold loopInv before inputs state
  rw [show 8 * 17 = 136 from rfl, last_outK, last_outV, last_dq]
  icases Hinv with ⟨-, ⟨H1, H2, H3, H4, H5, H6⟩, H10, H12, H11, H13, H14, H15, H16, H8, H9⟩
  iapply (Scf.wp_for_bind frame (wpE (defs₀ (F := F)) 𝒱₀ (c : Thread nD τ) none) Set.univ _ _ _ _ _ _
    (fun k (_ : Unit) => iprop(held c arg14 (lastSt X).dq ∗ held c arg7 (finQ (lastSt X).dq Y7 k)))
    (finish_sound c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (lastSt X).dq Y7)) $$ [H14 H7]
  · isplitl [H14]; · iexact H14
    iexact H7
  iintro %u ⟨H14, H7⟩
  have e2 : finQ (lastSt X).dq Y7 (Scf.trips k0_t2_loop.lb k0_t2_loop.ub k0_t2_loop.st) = outQ X := finQ_all _ _
  rw [e2]
  rw [Prog.pure_eq_ret, wp_ret]; imodintro
  isplitl [H1 H2 H3 H4 H5 H6]
  · isplitl [H1]; · iexact H1
    isplitl [H2]; · iexact H2
    isplitl [H3]; · iexact H3
    isplitl [H4]; · iexact H4
    isplitl [H5]; · iexact H5
    iexact H6
  isplitl [H7 H8 H9]
  · isplitl [H7]; · iexact H7
    isplitl [H8]; · iexact H8
    iexact H9
  isplitl [H10]; · iexists _; iexact H10
  isplitl [H11]; · unfold some_; iexact H11
  isplitl [H12]; · iexists _; iexact H12
  isplitl [H13]; · unfold some_; iexact H13
  isplitl [H14]; · iexists _; iexact H14
  isplitl [H15]; · iexists _; iexact H15
  iexists _; iexact H16

end

end Cert.Proof.KernelIdeal

end
-- ==== Proof.KernelIdeal.Launch.lean ====
/-
  The launch: the pipeline over the eight heads around the kernel's body, and @main's frame, for any float values.
-/
module

public import proofs.«01_k».proof.Proof.KernelIdeal.Body
public import Idealize.ShloMosaic.Lib.Claim

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ### Ways of holding a buffer -/

theorem owns_held (c : Dev nD) {sp : Space} {s : Shape} {e : EltTy} (b : Memref sig .tc sp s e) (X : Vec F s e) :
    (owns (c : Thread nD τ) b fullShare X : sProp 𝕄) ⊢ held c b X := by
  unfold owns held
  iintro ⟨%f, %hf, H⟩
  iapply (pointsTo_rep_of_read (Val := Elt F) (c : Thread nD τ) b f fullShare X hf)
  iexact H

theorem held_owns (c : Dev nD) {sp : Space} {s : Shape} {e : EltTy} (b : Memref sig .tc sp s e) (X : Vec F s e) :
    held c b X ⊢ (owns (c : Thread nD τ) b fullShare X : sProp 𝕄) := by
  unfold owns held
  iintro H
  iexists _
  isplitr; · ipureintro; exact View.read_rep (Val := Elt F) b.view X
  iexact H

theorem scratch_some (c : Dev nD) (b : Ref sig .tc) :
    (iprop(∃ f : Buf (Elt F) ((c : Thread nD τ).loc b), ((c : Thread nD τ).loc b) ↦{fullShare} f) : sProp 𝕄) ⊢ some_ F c (Memref.whole b) := by
  unfold some_
  iintro ⟨%f, H⟩
  iexists ((Memref.whole b).view.read (Elt F) f)
  unfold held
  iapply (pointsTo_rep_of_read (Val := Elt F) (c : Thread nD τ) (Memref.whole b) f fullShare _ rfl)
  rw [show (Memref.whole b).view.set = Finset.univ from View.set_whole b]
  iexact H

theorem some_scratch (c : Dev nD) (b : Ref sig .tc) :
    some_ F c (Memref.whole b) ⊢ (iprop(∃ f : Buf (Elt F) ((c : Thread nD τ).loc b), ((c : Thread nD τ).loc b) ↦{fullShare} f) : sProp 𝕄) := by
  unfold some_ held
  iintro ⟨%X, H⟩
  iexists _
  rw [show (Memref.whole b).view.set = Finset.univ from View.set_whole b]
  iexact H

/-! ### The pipeline's proof data -/

/-- The six input blocks at a point. -/
def inpAt (c : Dev nD) (t : Fin cfg0.N) : Inp F where
  k := iblk m c 0 t
  v := iblk m c 1 t
  q := iblk m c 2 t
  g := iblk m c 3 t
  lse := iblk m c 4 t
  del := iblk m c 5 t

/-- The arrays as the region finds them; after the body at a point each input's buffer at its block and each result's at
    what the body leaves there. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outQ (inpAt m c t)
    | ⟨7, _⟩ => outK (inpAt m c t)
    | ⟨8, _⟩ => outV (inpAt m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outQ (inpAt m c t) := by dsimp only [dats]
theorem after0_7 (c : Dev nD) (t : Fin cfg0.N) : (dats m 0 c).after 7 t = outK (inpAt m c t) := by dsimp only [dats]
theorem after0_8 (c : Dev nD) (t : Fin cfg0.N) : (dats m 0 c).after 8 t = outV (inpAt m c t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ### The body at a point -/

/-- What the body is called with, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl,
    after0_0, after0_1, after0_2, after0_3, after0_4, after0_5, after0_6, after0_7, after0_8]
  unfold Pipeline.ΦA
  rw [scopedRest0_eq]
  iintro ⟨⟨⟨HS0, HS1, HS2, HS3, HS4, HS5, HS6⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (wp_wand_r Idealize.ShloMosaic.frame (wpE (defs₀ (F := F)) Variants.none (c : Thread nD τ) none) Set.univ)
  isplitl [HS0 HS1 HS2 HS3 HS4 HS5 HS6 H0 H1 H2 H3 H4 H5 H6 H7 H8]
  · iapply (kernel_sound c (grid0.coords t) _ _ _ _ _ _ _ _ _ _ _ _ _ _ _ _ _ _ _ _ _ _ _ _ _ _ _ _ _ _ _ _ (inpAt m c t))
    unfold inputs
    isplitl [H0 H1 H2 H3 H4 H5]
    · isplitl [H0]; · iapply (owns_held c _ _); iexact H0
      isplitl [H1]; · iapply (owns_held c _ _); iexact H1
      isplitl [H2]; · iapply (owns_held c _ _); iexact H2
      isplitl [H3]; · iapply (owns_held c _ _); iexact H3
      isplitl [H4]; · iapply (owns_held c _ _); iexact H4
      iapply (owns_held c _ _); iexact H5
    isplitl [H6 H7 H8]
    · isplitl [H6]; · iapply (held_some c _ _); iapply (owns_held c _ _); iexact H6
      isplitl [H7]; · iapply (held_some c _ _); iapply (owns_held c _ _); iexact H7
      iapply (held_some c _ _); iapply (owns_held c _ _); iexact H8
    isplitl [HS0]; · iapply (scratch_some c cc0_scratch0); iexact HS0
    isplitl [HS1]; · iapply (scratch_some c cc0_scratch1); iexact HS1
    isplitl [HS2]; · iapply (scratch_some c cc0_scratch2); iexact HS2
    isplitl [HS3]; · iapply (scratch_some c cc0_scratch3); iexact HS3
    isplitl [HS4]; · iapply (scratch_some c cc0_scratch4); iexact HS4
    isplitl [HS5]; · iapply (scratch_some c cc0_scratch5); iexact HS5
    iapply (scratch_some c cc0_scratch6); iexact HS6
  unfold inputs
  iintro %_ ⟨⟨H0, H1, H2, H3, H4, H5⟩, ⟨H6, H7, H8⟩, HS0, HS1, HS2, HS3, HS4, HS5, HS6⟩
  isplitl [HS0 HS1 HS2 HS3 HS4 HS5 HS6 Hr]
  · isplitl [HS0 HS1 HS2 HS3 HS4 HS5 HS6]
    · isplitl [HS0]; · iapply (some_scratch c cc0_scratch0); iexact HS0
      isplitl [HS1]; · iapply (some_scratch c cc0_scratch1); iexact HS1
      isplitl [HS2]; · iapply (some_scratch c cc0_scratch2); iexact HS2
      isplitl [HS3]; · iapply (some_scratch c cc0_scratch3); iexact HS3
      isplitl [HS4]; · iapply (some_scratch c cc0_scratch4); iexact HS4
      isplitl [HS5]; · iapply (some_scratch c cc0_scratch5); iexact HS5
      iapply (some_scratch c cc0_scratch6); iexact HS6
    iexact Hr
  isplitl [Ho]; · iexact Ho
  isplitl [H0]; · iapply (held_owns c _ _); iexact H0
  isplitl [H1]; · iapply (held_owns c _ _); iexact H1
  isplitl [H2]; · iapply (held_owns c _ _); iexact H2
  isplitl [H3]; · iapply (held_owns c _ _); iexact H3
  isplitl [H4]; · iapply (held_owns c _ _); iexact H4
  isplitl [H5]; · iapply (held_owns c _ _); iexact H5
  isplitl [H6]; · iapply (held_owns c _ _); iexact H6
  isplitl [H7]; · iapply (held_owns c _ _); iexact H7
  iapply (held_owns c _ _); iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ### The run and the frame -/

set_option backward.isDefEq.respectTransparency.types false in
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- Every execution of @main ends, with every array of the pipeline at what the proof data says and every other buffer at
    what the host operations after the region leave. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- And every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Proof.KernelIdeal

end
-- ==== Proof.Same.lean ====
/-
  The two printed programs are one program over any float values, so one run serves both.
-/
module

public import proofs.«01_k».proof.Proof.Gen.Kernel
public import proofs.«01_k».proof.Proof.Gen.KernelIdeal
public import proofs.«01_k».proof.Proof.Gen.Kernel2
public import proofs.«01_k».proof.Proof.Gen.Kernel2Ideal
public import proofs.«01_k».proof.Proof.Gen.Kernel3
public import proofs.«01_k».proof.Proof.Gen.Kernel3Ideal
public import proofs.«01_k».proof.Proof.Gen.Kernel4
public import proofs.«01_k».proof.Proof.Gen.Kernel4Ideal
public import proofs.«01_k».proof.Proof.Gen.Kernel5
public import proofs.«01_k».proof.Proof.Gen.Kernel5Ideal
public import proofs.«01_k».proof.Proof.Gen.Kernel6
public import proofs.«01_k».proof.Proof.Gen.Kernel6Ideal

@[expose] public section

noncomputable section

namespace Cert.Proof

open Idealize.ShloMosaic Idealize.ShloMosaic.TcCoe Idealize.SL.Sem

variable {F : FTy → Type} [FloatOps F]

set_option maxHeartbeats 1000000 in
theorem same_defs₀ : Cert.Kernel.defs₀ (F := F) = Cert.KernelIdeal.defs₀ (F := F) := by
  unfold Cert.Kernel.defs₀ Cert.KernelIdeal.defs₀
  refine congrArg Defs.onTc ?_
  funext l a
  match l, a with
  | 0, (t, s) => exact rfl

set_option maxHeartbeats 1000000 in
theorem same_defs : Cert.Kernel.defs (F := F) = Cert.KernelIdeal.defs (F := F) := by
  unfold Cert.Kernel.defs Cert.KernelIdeal.defs
  rw [same_defs₀]
  rfl

set_option maxHeartbeats 1000000 in
theorem same_main : Cert.Kernel.main (F := F) = Cert.KernelIdeal.main (F := F) := rfl

theorem same_defs₀_2 : Cert.Kernel2.defs₀ (F := F) = Cert.Kernel2Ideal.defs₀ (F := F) := by
  unfold Cert.Kernel2.defs₀ Cert.Kernel2Ideal.defs₀
  refine congrArg Defs.onTc ?_
  funext l a
  match l, a with
  | 0, (t, s) => exact rfl

theorem same_defs_2 : Cert.Kernel2.defs (F := F) = Cert.Kernel2Ideal.defs (F := F) := by
  unfold Cert.Kernel2.defs Cert.Kernel2Ideal.defs
  rw [same_defs₀_2]
  rfl

theorem same_main_2 : Cert.Kernel2.main (F := F) = Cert.Kernel2Ideal.main (F := F) := rfl

theorem same_defs₀_3 : Cert.Kernel3.defs₀ (F := F) = Cert.Kernel3Ideal.defs₀ (F := F) := by
  unfold Cert.Kernel3.defs₀ Cert.Kernel3Ideal.defs₀
  refine congrArg Defs.onTc ?_
  funext l a
  match l, a with
  | 0, (t, s) => exact rfl

theorem same_defs_3 : Cert.Kernel3.defs (F := F) = Cert.Kernel3Ideal.defs (F := F) := by
  unfold Cert.Kernel3.defs Cert.Kernel3Ideal.defs
  rw [same_defs₀_3]
  rfl

theorem same_main_3 : Cert.Kernel3.main (F := F) = Cert.Kernel3Ideal.main (F := F) := rfl

theorem same_defs₀_4 : Cert.Kernel4.defs₀ (F := F) = Cert.Kernel4Ideal.defs₀ (F := F) := by
  unfold Cert.Kernel4.defs₀ Cert.Kernel4Ideal.defs₀
  refine congrArg Defs.onTc ?_
  funext l a
  match l, a with
  | 0, (t, s) => exact rfl

theorem same_defs_4 : Cert.Kernel4.defs (F := F) = Cert.Kernel4Ideal.defs (F := F) := by
  unfold Cert.Kernel4.defs Cert.Kernel4Ideal.defs
  rw [same_defs₀_4]
  rfl

theorem same_main_4 : Cert.Kernel4.main (F := F) = Cert.Kernel4Ideal.main (F := F) := rfl

theorem same_defs₀_5 : Cert.Kernel5.defs₀ (F := F) = Cert.Kernel5Ideal.defs₀ (F := F) := by
  unfold Cert.Kernel5.defs₀ Cert.Kernel5Ideal.defs₀
  refine congrArg Defs.onTc ?_
  funext l a
  match l, a with
  | 0, (t, s) => exact rfl

theorem same_defs_5 : Cert.Kernel5.defs (F := F) = Cert.Kernel5Ideal.defs (F := F) := by
  unfold Cert.Kernel5.defs Cert.Kernel5Ideal.defs
  rw [same_defs₀_5]
  rfl

theorem same_main_5 : Cert.Kernel5.main (F := F) = Cert.Kernel5Ideal.main (F := F) := rfl

theorem same_defs₀_6 : Cert.Kernel6.defs₀ (F := F) = Cert.Kernel6Ideal.defs₀ (F := F) := by
  unfold Cert.Kernel6.defs₀ Cert.Kernel6Ideal.defs₀
  refine congrArg Defs.onTc ?_
  funext l a
  match l, a with
  | 0, (t, s) => exact rfl

theorem same_defs_6 : Cert.Kernel6.defs (F := F) = Cert.Kernel6Ideal.defs (F := F) := by
  unfold Cert.Kernel6.defs Cert.Kernel6Ideal.defs
  rw [same_defs₀_6]
  rfl

theorem same_main_6 : Cert.Kernel6.main (F := F) = Cert.Kernel6Ideal.main (F := F) := rfl

end Cert.Proof

end
-- ==== Proof.KernelIdeal.Pay.lean ====
/-
  The step's arithmetic over the extended reals, element by element.
-/
module

public import proofs.«01_k».proof.Proof.KernelIdeal.Fold
public import Idealize.ShloMosaic.Lib.Pointwise

@[expose] public section

noncomputable section

namespace Cert.Proof.KernelIdeal

open Cert.KernelIdeal Cert.KernelIdeal.Gen
open Idealize.ShloMosaic Idealize.ShloMosaic.Pointwise

theorem ofBits_neg_inf : Ideal.ofBits .f32 0xFF800000#32 = ⊥ := by
  simp [Ideal.ofBits, Ideal.ieee]

theorem pay3_apply (s : Vec Ideal S512x512 .f32) (l : Vec Ideal S1x1x512 .f32) (c r : Fin 512) :
    k0_pay3 s l (ix2 c r) = Ideal.exp2 (s (ix2 c r) - l (ix3 0 0 r)) := by
  pointwise [k0_pay3]
  rfl

theorem pay5_apply (s : Vec Ideal S512x512 .f32) (l : Vec Ideal S1x1x512 .f32) (c r : Fin 512) :
    k0_pay5 s l (ix2 c r) = s (ix2 c r) - l (ix3 0 0 r) := by
  pointwise [k0_pay5]

theorem pay7_apply (b : BitVec 1) (w g : FVec Ideal S512x512 .bf16) (x : Vec Ideal S512x256 .f32) (q : Vec Ideal S512x256 .bf16) (c : Fin 512) (d : Fin 256) :
    k0_pay7 b w g x q (ix2 c d) = Scalar.select b 0 (x (ix2 c d)) + ∑ r : Fin 512, (w (ix2 c r) * g (ix2 c r)) * q (ix2 r d) := by
  pointwise [k0_pay7, k0_pay6]

theorem pay8_apply (w g : FVec Ideal S512x512 .bf16) (x : Vec Ideal S512x256 .f32) (k : Vec Ideal S512x256 .bf16) (r : Fin 512) (d : Fin 256) :
    k0_pay8 w g x k (ix2 r d) = x (ix2 r d) + ∑ c : Fin 512, (w (ix2 c r) * g (ix2 c r)) * k (ix2 c d) := by
  pointwise [k0_pay8, k0_pay6]

theorem pay4_apply (a b : BitVec 32) (s : Vec Ideal S512x512 .f32) (l : Vec Ideal S1x1x512 .f32) (x : Vec Ideal S128x512 .f32) (g : Vec Ideal S1x128x512 .bf16) (e : Fin 128) (c : Fin 512) :
    k0_pay4 a b s l x g (ix2 e c) = Scalar.select (Scalar.cmpi .eq b a) 0 (x (ix2 e c)) + ∑ r : Fin 512, g (ix3 0 e r) * k0_pay3 s l (ix2 c r) := by
  pointwise [k0_pay4]

theorem pay14_apply (a b : BitVec 32) (k q : Vec Ideal S512x256 .bf16) (c r : Fin 512) :
    k0_pay14 a b k q (ix2 c r) = Scalar.select (Scalar.cmpi .sle (Scalar.subi (BitVec.ofNat 32 c.val) (BitVec.ofNat 32 r.val)) (Scalar.muli (Scalar.subi (Scalar.minsi b 15#32) (Scalar.minsi a 15#32)) 512#32))
      (∑ d : Fin 256, k (ix2 c d) * q (ix2 r d)) ⊥ := by
  pointwise [k0_pay14]
  rw [ofBits_neg_inf]
  rfl

theorem pay111_apply (k q : Vec Ideal S512x256 .bf16) (c r : Fin 512) :
    k0_pay111 k q (ix2 c r) = Scalar.select (Scalar.cmpi .sle (Scalar.subi (BitVec.ofNat 32 c.val) (BitVec.ofNat 32 r.val)) 0#32)
      (∑ d : Fin 256, k (ix2 c d) * q (ix2 r d)) ⊥ := by
  pointwise [k0_pay111]
  rw [ofBits_neg_inf]
  rfl

theorem pay112_apply (v : Vec Ideal S512x128 .bf16) (g : Vec Ideal S1x128x512 .bf16) (c r : Fin 512) :
    k0_pay112 v g (ix2 c r) = ∑ e : Fin 128, v (ix2 c e) * g (ix3 0 e r) := by
  pointwise [k0_pay112]

theorem pay110_apply (r : Fin 8192) (d : Fin 256) : k0_pay110 (F := Ideal) (ix2 r d) = 0 := by
  pointwise [k0_pay110]

theorem pay9_eq (x : FVec Ideal S128x512 .f32) (e : Fin 128) (c : Fin 512) : k0_pay9 x (ix2 e c) = x (ix2 e c) := by
  pointwise [k0_pay9]

theorem pay10_eq (b : BitVec 1) (w g : FVec Ideal S512x512 .bf16) (x : Vec Ideal S512x256 .f32) (q : Vec Ideal S512x256 .bf16) (c : Fin 512) (d : Fin 256) :
    k0_pay10 b w g x q (ix2 c d) = k0_pay7 b w g x q (ix2 c d) := by
  pointwise [k0_pay10]

theorem pay11_eq (b : BitVec 1) (w g : FVec Ideal S512x512 .bf16) (x : Vec Ideal S512x256 .f32) (q : Vec Ideal S512x256 .bf16) (c : Fin 512) (d : Fin 256) :
    k0_pay11 b w g x q (ix2 c d) = k0_pay7 b w g x q (ix2 c d) := by
  pointwise [k0_pay11]

theorem pay17_apply (v : Vec Ideal S512x128 .bf16) (g : Vec Ideal S1x128x512 .bf16) (c r : Fin 512) :
    k0_pay17 (k0_pay15 v) (k0_pay16 g) (ix2 c r) = ∑ e : Fin 128, v (ix2 c e) * g (ix3 0 e r) := by
  pointwise [k0_pay17, k0_pay15, k0_pay16]

theorem pay13_apply (x : FVec Ideal S128x512 .f32) (c : Fin 512) (e : Fin 128) : k0_pay13 (k0_pay12 x) (ix2 c e) = x (ix2 e c) := by
  pointwise [k0_pay13, k0_pay12]

end Cert.Proof.KernelIdeal

end
-- ==== Proof.KernelIdeal.Head.lean ====
/-
  One head's three results over the extended reals: the fold over the pairs of blocks is three sums over all rows.
-/
module

public import proofs.«01_k».proof.Proof.KernelIdeal.Pay

@[expose] public section

noncomputable section

namespace Cert.Proof.KernelIdeal

open Cert.KernelIdeal Cert.KernelIdeal.Gen
open Idealize.ShloMosaic Idealize.ShloMosaic.Pointwise

/-! ### Rows and blocks -/

/-- Row `c` of block `j`. -/
def gb (j : Fin 16) (c : Fin 512) : Fin 8192 := ⟨j.val * 512 + c.val, by omega⟩

theorem gb_val (j : Fin 16) (c : Fin 512) : (gb j c).val = j.val * 512 + c.val := rfl

/-- A block number held within the sixteen there are. -/
def cl (j : ℕ) : Fin 16 := ⟨min j 15, by omega⟩

theorem cl_val (j : Fin 16) : cl j.val = j := Fin.ext (by show min j.val 15 = j.val; omega)

/-- The pair after `(j, i)`. -/
def nj (j i : ℕ) : ℕ := if i = 15 then j + 1 else j
def ni (j i : ℕ) : ℕ := if i = 15 then j + 1 else i + 1

theorem next_eq : ∀ j i : Fin 16, nxJ (wd j) (wd i) = BitVec.ofNat 32 (nj j i) ∧ nxI (wd j) (wd i) = BitVec.ofNat 32 (ni j i)
    ∧ clampW (nxJ (wd j) (wd i)) = wd (cl (nj j i)) ∧ clampW (nxI (wd j) (wd i)) = wd (cl (ni j i)) := by
  decide +kernel

theorem eq_word : ∀ j i : Fin 16, Scalar.cmpi .eq (wd i) (wd j) = if i = j then 1#1 else 0#1 := by
  decide +kernel

theorem mask_word (j i : Fin 16) (c r : Fin 512) :
    Scalar.cmpi .sle (Scalar.subi (BitVec.ofNat 32 c.val) (BitVec.ofNat 32 r.val)) (Scalar.muli (Scalar.subi (wd i) (wd j)) 512#32)
      = if gb j c ≤ gb i r then 1#1 else 0#1 := by
  have hc := c.isLt
  have hr := r.isLt
  have hD : ∀ j i : Fin 16, (Scalar.muli (Scalar.subi (wd i) (wd j)) 512#32).toInt = ((i.val : ℤ) - j.val) * 512 := by decide +kernel
  have hA : (Scalar.subi (BitVec.ofNat 32 c.val) (BitVec.ofNat 32 r.val)).toInt = (c.val : ℤ) - r.val := by
    show (BitVec.ofNat 32 c.val - BitVec.ofNat 32 r.val).toInt = _
    have hn : ∀ n : Fin 512, (BitVec.ofNat 32 n.val).toInt = (n.val : ℤ) := by decide +kernel
    rw [BitVec.toInt_sub, hn, hn, Int.bmod_def]
    omega
  show IntOp.cmpi .sle _ _ = _
  unfold IntOp.cmpi
  simp only [BitVec.sle_eq_decide, hA, hD]
  have hiff : ((c.val : ℤ) - r.val ≤ ((i.val : ℤ) - j.val) * 512) ↔ gb j c ≤ gb i r := by
    rw [Fin.le_def, gb_val, gb_val]; omega
  by_cases h : gb j c ≤ gb i r
  · simp [h, hiff]
  · simp [h, hiff]

section windows
variable {α : Type}

theorem colO_wd (j : Fin 16) : colO (wd j) = ![0, 0, j.val * 512] := by
  revert j; decide +kernel

theorem win_row256 (x : S8192x256.Idx → α) (j : Fin 16) (h) (c : Fin 512) (d : Fin 256) :
    VecWindow.window x (rowO (wd j)) S512x256.size h (ix2 c d) = x (ix2 (gb j c) d) := by
  refine congrArg x (funext fun a => Fin.ext ?_)
  match a with
  | ⟨0, _⟩ => show rowO (wd j) 0 + 1 * c.val = j.val * 512 + c.val; rw [rowO_wd]; simp
  | ⟨1, _⟩ => show rowO (wd j) 1 + 1 * d.val = d.val; rw [rowO_wd]; simp

theorem win_row128 (x : S8192x128.Idx → α) (j : Fin 16) (h) (c : Fin 512) (d : Fin 128) :
    VecWindow.window x (rowO (wd j)) S512x128.size h (ix2 c d) = x (ix2 (gb j c) d) := by
  refine congrArg x (funext fun a => Fin.ext ?_)
  match a with
  | ⟨0, _⟩ => show rowO (wd j) 0 + 1 * c.val = j.val * 512 + c.val; rw [rowO_wd]; simp
  | ⟨1, _⟩ => show rowO (wd j) 1 + 1 * d.val = d.val; rw [rowO_wd]; simp

theorem win_col1 (x : S1x1x8192.Idx → α) (j : Fin 16) (h) (r : Fin 512) :
    VecWindow.window x (colO (wd j)) S1x1x512.size h (ix3 0 0 r) = x (ix3 0 0 (gb j r)) := by
  refine congrArg x (funext fun a => Fin.ext ?_)
  match a with
  | ⟨0, _⟩ => show colO (wd j) 0 + 1 * 0 = 0; rw [colO_wd]; simp
  | ⟨1, _⟩ => show colO (wd j) 1 + 1 * 0 = 0; rw [colO_wd]; simp
  | ⟨2, _⟩ => show colO (wd j) 2 + 1 * r.val = j.val * 512 + r.val; rw [colO_wd]; simp

theorem win_col128 (x : S1x128x8192.Idx → α) (j : Fin 16) (h) (e : Fin 128) (r : Fin 512) :
    VecWindow.window x (colO (wd j)) S1x128x512.size h (ix3 0 e r) = x (ix3 0 e (gb j r)) := by
  refine congrArg x (funext fun a => Fin.ext ?_)
  match a with
  | ⟨0, _⟩ => show colO (wd j) 0 + 1 * 0 = 0; rw [colO_wd]; simp
  | ⟨1, _⟩ => show colO (wd j) 1 + 1 * e.val = e.val; rw [colO_wd]; simp
  | ⟨2, _⟩ => show colO (wd j) 2 + 1 * r.val = j.val * 512 + r.val; rw [colO_wd]; simp

theorem win_at {s : Shape} {sz : Fin s.rank → ℕ} (x : s.Idx → α) {off off' : Fin s.rank → ℕ} (e : off = off') (h) :
    VecWindow.window x off sz h = VecWindow.window x off' sz (e ▸ h) := by
  subst e; rfl

theorem put_row256_in (x : S8192x256.Idx → α) (j : Fin 16) (w : S512x256.Idx → α) (c : Fin 512) (d : Fin 256) :
    VecWindow.put x (rowO (wd j)) S512x256.size w (ix2 (gb j c) d) = w (ix2 c d) := by
  have hc := c.isLt
  have hd := d.isLt
  unfold VecWindow.put
  rw [dif_pos (fun a => by
    rw [rowO_wd]
    match a with
    | ⟨0, _⟩ => show j.val * 512 ≤ j.val * 512 + c.val ∧ j.val * 512 + c.val < j.val * 512 + 512; omega
    | ⟨1, _⟩ => show 0 ≤ d.val ∧ d.val < 0 + 256; omega)]
  refine congrArg w (funext fun a => Fin.ext ?_)
  match a with
  | ⟨0, _⟩ => show j.val * 512 + c.val - rowO (wd j) 0 = c.val; rw [rowO_wd]; simp
  | ⟨1, _⟩ => show d.val - rowO (wd j) 1 = d.val; rw [rowO_wd]; simp

theorem put_row256_out (x : S8192x256.Idx → α) (j : Fin 16) (w : S512x256.Idx → α) (R : Fin 8192) (d : Fin 256) (h : R.val / 512 ≠ j.val) :
    VecWindow.put x (rowO (wd j)) S512x256.size w (ix2 R d) = x (ix2 R d) := by
  unfold VecWindow.put
  rw [dif_neg]
  intro hw
  have h0 := hw 0
  rw [rowO_wd] at h0
  have h1 : j.val * 512 ≤ R.val ∧ R.val < j.val * 512 + 512 := h0
  omega

theorem put_row128_in (x : S8192x128.Idx → α) (j : Fin 16) (w : S512x128.Idx → α) (c : Fin 512) (d : Fin 128) :
    VecWindow.put x (rowO (wd j)) S512x128.size w (ix2 (gb j c) d) = w (ix2 c d) := by
  have hc := c.isLt
  have hd := d.isLt
  unfold VecWindow.put
  rw [dif_pos (fun a => by
    rw [rowO_wd]
    match a with
    | ⟨0, _⟩ => show j.val * 512 ≤ j.val * 512 + c.val ∧ j.val * 512 + c.val < j.val * 512 + 512; omega
    | ⟨1, _⟩ => show 0 ≤ d.val ∧ d.val < 0 + 128; omega)]
  refine congrArg w (funext fun a => Fin.ext ?_)
  match a with
  | ⟨0, _⟩ => show j.val * 512 + c.val - rowO (wd j) 0 = c.val; rw [rowO_wd]; simp
  | ⟨1, _⟩ => show d.val - rowO (wd j) 1 = d.val; rw [rowO_wd]; simp

theorem put_row128_out (x : S8192x128.Idx → α) (j : Fin 16) (w : S512x128.Idx → α) (R : Fin 8192) (d : Fin 128) (h : R.val / 512 ≠ j.val) :
    VecWindow.put x (rowO (wd j)) S512x128.size w (ix2 R d) = x (ix2 R d) := by
  unfold VecWindow.put
  rw [dif_neg]
  intro hw
  have h0 := hw 0
  rw [rowO_wd] at h0
  have h1 : j.val * 512 ≤ R.val ∧ R.val < j.val * 512 + 512 := h0
  omega

end windows

/-- A row in block `j` is one of its 512. -/
theorem eq_gb (R : Fin 8192) (j : Fin 16) (h : R.val / 512 = j.val) : ∃ c : Fin 512, R = gb j c :=
  ⟨⟨R.val % 512, by omega⟩, Fin.ext (by show R.val = j.val * 512 + R.val % 512; omega)⟩

theorem gb_div (j : Fin 16) (c : Fin 512) : (gb j c).val / 512 = j.val := by
  rw [gb_val]; omega

theorem gb_inj (j : Fin 16) : Function.Injective (gb j) := fun c c' h => Fin.ext (by
  have := congrArg Fin.val h
  rw [gb_val, gb_val] at this; omega)

/-! ### Sums by blocks -/

theorem sum_blk (j : Fin 16) (f : Fin 8192 → EReal) (p : Fin 8192 → Prop) [DecidablePred p] (hp : ∀ c, p c ↔ c.val / 512 = j.val) :
    ∑ c ∈ Finset.univ.filter p, f c = ∑ c : Fin 512, f (gb j c) := by
  rw [← Finset.sum_image (s := Finset.univ) (g := gb j) (f := f) (fun a _ b _ h => gb_inj j h)]
  refine Finset.sum_congr (Finset.ext fun R => ?_) fun _ _ => rfl
  rw [Finset.mem_filter, Finset.mem_image, hp]
  constructor
  · rintro ⟨-, h⟩
    obtain ⟨c, rfl⟩ := eq_gb R j h
    exact ⟨c, Finset.mem_univ _, rfl⟩
  · rintro ⟨c, -, rfl⟩
    exact ⟨Finset.mem_univ _, gb_div j c⟩

theorem sum_add_blk (j : Fin 16) (f : Fin 8192 → EReal) (p q : Fin 8192 → Prop) [DecidablePred p] [DecidablePred q]
    (h : ∀ c, p c ↔ q c ∨ c.val / 512 = j.val) (hd : ∀ c, q c → c.val / 512 ≠ j.val) :
    ∑ c ∈ Finset.univ.filter p, f c = ∑ c ∈ Finset.univ.filter q, f c + ∑ c : Fin 512, f (gb j c) := by
  rw [← sum_blk j f (fun c => c.val / 512 = j.val) fun _ => Iff.rfl, ← Finset.sum_union]
  · refine Finset.sum_congr (Finset.ext fun R => ?_) fun _ _ => rfl
    rw [Finset.mem_union, Finset.mem_filter, Finset.mem_filter, Finset.mem_filter, h]
    exact ⟨fun ⟨a, b⟩ => b.imp (fun b => ⟨a, b⟩) fun b => ⟨a, b⟩, fun o => o.elim (fun b => ⟨b.1, .inl b.2⟩) fun b => ⟨b.1, .inr b.2⟩⟩
  · rw [Finset.disjoint_filter]
    exact fun c _ => hd c

/-! ### What the sums are of -/

section
variable (X : Inp Ideal)

/-- The score of key `c` and query `r`, the weight, its gradient and the score's gradient. -/
def sc (c r : Fin 8192) : EReal := ∑ d : Fin 256, X.k (ix2 c d) * X.q (ix2 r d)
def pw (c r : Fin 8192) : EReal := if c ≤ r then Ideal.exp2 (sc X c r - X.lse (ix3 0 0 r)) else 0
def dpv (c r : Fin 8192) : EReal := ∑ e : Fin 128, X.v (ix2 c e) * X.g (ix3 0 e r)
def dsv (c r : Fin 8192) : EReal := pw X c r * (dpv X c r - X.del (ix3 0 0 r))

/-- What the buffers hold before the step at the pair `(j, i)`. -/
structure Inv (j i : ℕ) (S : St Ideal) : Prop where
  s : ∀ c r : Fin 512, S.s (ix2 c r) = if gb (cl j) c ≤ gb (cl i) r then sc X (gb (cl j) c) (gb (cl i) r) else ⊥
  dp : ∀ c r : Fin 512, S.dp (ix2 c r) = dpv X (gb (cl j) c) (gb (cl i) r)
  dq : ∀ (r : Fin 8192) (d : Fin 256), S.dq (ix2 r d) =
    ∑ c ∈ Finset.univ.filter (fun c : Fin 8192 => c.val / 512 ≤ r.val / 512 ∧ (c.val / 512 < j ∨ (c.val / 512 = j ∧ r.val / 512 < i))),
      dsv X c r * X.k (ix2 c d)
  dk : i ≠ j → ∀ (c : Fin 512) (C : Fin 8192) (d : Fin 256), C.val = j * 512 + c.val → S.dk (ix2 c d) =
    ∑ r ∈ Finset.univ.filter (fun r : Fin 8192 => j ≤ r.val / 512 ∧ r.val / 512 < i), dsv X C r * X.q (ix2 r d)
  dv : i ≠ j → ∀ (c : Fin 512) (C : Fin 8192) (e : Fin 128), C.val = j * 512 + c.val → S.dv (ix2 e c) =
    ∑ r ∈ Finset.univ.filter (fun r : Fin 8192 => j ≤ r.val / 512 ∧ r.val / 512 < i), X.g (ix3 0 e r) * pw X C r
  outK : ∀ (C : Fin 8192) (d : Fin 256), C.val / 512 < j → S.outK (ix2 C d) =
    ∑ r ∈ Finset.univ.filter (fun r : Fin 8192 => C.val / 512 ≤ r.val / 512), dsv X C r * X.q (ix2 r d)
  outV : ∀ (C : Fin 8192) (e : Fin 128), C.val / 512 < j → S.outV (ix2 C e) =
    ∑ r ∈ Finset.univ.filter (fun r : Fin 8192 => C.val / 512 ≤ r.val / 512), X.g (ix3 0 e r) * pw X C r

theorem score_eq (n m : BitVec 32) (A B : Fin 16) (hn : clampW n = wd A) (hm : clampW m = wd B) (hk hq) (c r : Fin 512) :
    k0_pay14 n m (VecWindow.window X.k (rowO (clampW n)) S512x256.size hk) (VecWindow.window X.q (rowO (clampW m)) S512x256.size hq) (ix2 c r)
      = if gb A c ≤ gb B r then sc X (gb A c) (gb B r) else ⊥ := by
  rw [pay14_apply]
  have e1 : Scalar.minsi n 15#32 = wd A := hn
  have e2 : Scalar.minsi m 15#32 = wd B := hm
  rw [e1, e2, mask_word, win_at X.k (congrArg rowO hn), win_at X.q (congrArg rowO hm)]
  by_cases hm : gb A c ≤ gb B r
  · rw [if_pos hm, if_pos hm, ValueIdx.select_one]
    exact Finset.sum_congr rfl fun d _ => congrArg₂ (· * ·) (win_row256 _ _ _ _ _) (win_row256 _ _ _ _ _)
  · rw [if_neg hm, if_neg hm, ValueIdx.select_zero]

theorem dp_eq (n m : BitVec 32) (A B : Fin 16) (hn : clampW n = wd A) (hm : clampW m = wd B) (hk hq) (c r : Fin 512) :
    k0_pay17 (k0_pay15 (VecWindow.window X.v (rowO (clampW n)) S512x128.size hk)) (k0_pay16 (VecWindow.window X.g (colO (clampW m)) S1x128x512.size hq)) (ix2 c r)
      = dpv X (gb A c) (gb B r) := by
  rw [pay17_apply, win_at X.v (congrArg rowO hn), win_at X.g (congrArg colO hm)]
  exact Finset.sum_congr rfl fun d _ => congrArg₂ (· * ·) (win_row128 _ _ _ _ _) (win_col128 _ _ _ _ _)

variable {X}

section step
variable {S : St Ideal} {j i : Fin 16} (ok : StepOk (wd j) (wd i)) (h : Inv X j i S)
include h

theorem wgt_eq (c r : Fin 512) : wgt X S (wd j) (wd i) ok (ix2 c r) = pw X (gb j c) (gb i r) := by
  unfold wgt
  rw [pay3_apply, win_col1, h.s, cl_val, cl_val]
  unfold pw
  by_cases hm : gb j c ≤ gb i r
  · rw [if_pos hm, if_pos hm]
  · rw [if_neg hm, if_neg hm, sub_eq_add_neg, EReal.bot_add, Ideal.exp2_bot]

theorem gap_eq (c r : Fin 512) : gap X S (wd j) (wd i) ok (ix2 c r) = dpv X (gb j c) (gb i r) - X.del (ix3 0 0 (gb i r)) := by
  unfold gap
  rw [pay5_apply, win_col1, h.dp, cl_val, cl_val]

/-- The key block's two accumulators after the step: the sums up to and with this block of queries. -/
theorem dk_eq (hji : j ≤ i) (c : Fin 512) (d : Fin 256) :
    k0_pay7 (Scalar.cmpi .eq (wd i) (wd j)) (wgt X S (wd j) (wd i) ok) (gap X S (wd j) (wd i) ok) S.dk
        (VecWindow.window X.q (rowO (wd i)) S512x256.size ok.qrow) (ix2 c d)
      = ∑ r ∈ Finset.univ.filter (fun r : Fin 8192 => j.val ≤ r.val / 512 ∧ r.val / 512 < i.val + 1), dsv X (gb j c) r * X.q (ix2 r d) := by
  have hji' : j.val ≤ i.val := hji
  rw [sum_add_blk i _ _ (fun r : Fin 8192 => j.val ≤ r.val / 512 ∧ r.val / 512 < i.val) (fun r => by omega) (fun r => by omega), pay7_apply, eq_word]
  refine congrArg₂ (· + ·) ?_ ?_
  · by_cases hij : i = j
    · subst hij
      rw [if_pos rfl, ValueIdx.select_one, Finset.filter_false_of_mem (fun r _ => by omega), Finset.sum_empty]
    · rw [if_neg hij, ValueIdx.select_zero]
      exact h.dk (fun e => hij (Fin.ext e)) c (gb j c) d rfl
  · refine Finset.sum_congr rfl fun r _ => ?_
    rw [wgt_eq ok h, gap_eq ok h, win_row256]; rfl

theorem dv_eq (hji : j ≤ i) (c : Fin 512) (e : Fin 128) :
    accV X S (wd j) (wd i) ok (ix2 e c)
      = ∑ r ∈ Finset.univ.filter (fun r : Fin 8192 => j.val ≤ r.val / 512 ∧ r.val / 512 < i.val + 1), X.g (ix3 0 e r) * pw X (gb j c) r := by
  have hji' : j.val ≤ i.val := hji
  rw [sum_add_blk i _ _ (fun r : Fin 8192 => j.val ≤ r.val / 512 ∧ r.val / 512 < i.val) (fun r => by omega) (fun r => by omega)]
  unfold accV
  rw [pay4_apply, eq_word]
  refine congrArg₂ (· + ·) ?_ ?_
  · by_cases hij : i = j
    · subst hij
      rw [if_pos rfl, ValueIdx.select_one, Finset.filter_false_of_mem (fun r _ => by omega), Finset.sum_empty]
    · rw [if_neg hij, ValueIdx.select_zero]
      exact h.dv (fun e => hij (Fin.ext e)) c (gb j c) e rfl
  · refine Finset.sum_congr rfl fun r _ => ?_
    rw [win_col128]
    exact congrArg _ (wgt_eq ok h c r)

theorem inv_step (hji : j ≤ i) : Inv X (nj j i) (ni j i) (stepSt X S (wd j) (wd i) ok) := by
  have hji' : j.val ≤ i.val := hji
  obtain ⟨hn1, hn2, hc1, hc2⟩ := next_eq j i
  have hj15 := j.isLt
  have hi15 := i.isLt
  refine ⟨fun c r => ?_, fun c r => ?_, fun r d => ?_, fun hne c C d hC => ?_, fun hne c C e hC => ?_, fun C d hC => ?_, fun C e hC => ?_⟩
  · dsimp only [stepSt]
    exact score_eq X _ _ _ _ hc1 hc2 _ _ c r
  · dsimp only [stepSt]
    exact dp_eq X _ _ _ _ hc1 hc2 _ _ c r
  · dsimp only [stepSt]
    by_cases hr : r.val / 512 = i.val
    · obtain ⟨r', rfl⟩ := eq_gb r i hr
      rw [put_row256_in, pay8_apply, win_row256, h.dq, gb_div]
      refine Eq.trans (congrArg₂ (· + ·) rfl ?_) (sum_add_blk j (fun c => dsv X c (gb i r') * X.k (ix2 c d)) _
        (fun c : Fin 8192 => c.val / 512 ≤ i.val ∧ (c.val / 512 < j.val ∨ (c.val / 512 = j.val ∧ i.val < i.val)))
        (fun c => by unfold nj ni; split_ifs <;> omega) (fun c => by omega)).symm
      refine Finset.sum_congr rfl fun c _ => ?_
      rw [wgt_eq ok h, gap_eq ok h, win_row256]; rfl
    · rw [put_row256_out _ _ _ _ _ hr, h.dq]
      refine Finset.sum_congr (Finset.filter_congr fun c _ => ?_) fun _ _ => rfl
      unfold nj ni; split_ifs <;> omega
  · dsimp only [stepSt]
    have hi : i.val ≠ 15 := fun e => hne (by unfold nj ni; rw [if_pos e, if_pos e])
    have e1 : nj j i = j.val := if_neg hi
    have e2 : ni j i = i.val + 1 := if_neg hi
    rw [pay10_eq, dk_eq ok h hji, e1, e2]
    rw [e1] at hC
    rw [show C = gb j c from Fin.ext hC]
  · dsimp only [stepSt]
    have hi : i.val ≠ 15 := fun e => hne (by unfold nj ni; rw [if_pos e, if_pos e])
    have e1 : nj j i = j.val := if_neg hi
    have e2 : ni j i = i.val + 1 := if_neg hi
    rw [pay9_eq, dv_eq ok h hji, e1, e2]
    rw [e1] at hC
    rw [show C = gb j c from Fin.ext hC]
  · dsimp only [stepSt]
    by_cases hr : C.val / 512 = j.val
    · obtain ⟨c, rfl⟩ := eq_gb C j hr
      rw [put_row256_in, pay11_eq, dk_eq ok h hji]
      have hi : i.val = 15 := by
        by_contra hi
        have e1 : nj j i = j.val := if_neg hi
        omega
      refine Finset.sum_congr (Finset.filter_congr fun r _ => ?_) fun _ _ => rfl
      rw [gb_div]; omega
    · rw [put_row256_out _ _ _ _ _ hr]
      refine h.outK C d ?_
      unfold nj at hC; split_ifs at hC <;> omega
  · dsimp only [stepSt]
    by_cases hr : C.val / 512 = j.val
    · obtain ⟨c, rfl⟩ := eq_gb C j hr
      rw [put_row128_in, pay13_apply, dv_eq ok h hji]
      have hi : i.val = 15 := by
        by_contra hi
        have e1 : nj j i = j.val := if_neg hi
        omega
      refine Finset.sum_congr (Finset.filter_congr fun r _ => ?_) fun _ _ => rfl
      rw [gb_div]; omega
    · rw [put_row128_out _ _ _ _ _ hr]
      refine h.outV C e ?_
      unfold nj at hC; split_ifs at hC <;> omega

end step

/-! ### From the first pair to the last -/

theorem inv_init (dk dv outK outV) : Inv X 0 0 (initSt X dk dv outK outV) := by
  have e0 : (![0, 0] : Fin 2 → ℕ) = rowO (wd 0) := (rowO_wd 0).symm
  have e1 : (![0, 0, 0] : Fin 3 → ℕ) = colO (wd 0) := (colO_wd 0).symm
  have hcl : cl 0 = 0 := rfl
  refine ⟨fun c r => ?_, fun c r => ?_, fun r d => ?_, fun hne => absurd rfl hne, fun hne => absurd rfl hne, fun C d hC => absurd hC (by omega), fun C d hC => absurd hC (by omega)⟩
  · show k0_pay111 _ _ (ix2 c r) = _
    rw [pay111_apply]
    have hm := mask_word 0 0 c r
    have hz : Scalar.muli (Scalar.subi (wd 0) (wd 0)) 512#32 = 0#32 := by decide
    rw [hz] at hm
    rw [hm, hcl]
    rw [win_at X.k e0, win_at X.q e0]
    by_cases hm : gb 0 c ≤ gb 0 r
    · rw [if_pos hm, if_pos hm, ValueIdx.select_one]
      exact Finset.sum_congr rfl fun d _ => congrArg₂ (· * ·) (win_row256 _ _ _ _ _) (win_row256 _ _ _ _ _)
    · rw [if_neg hm, if_neg hm, ValueIdx.select_zero]
  · show k0_pay112 _ _ (ix2 c r) = _
    rw [pay112_apply, hcl]
    rw [win_at X.v e0, win_at X.g e1]
    exact Finset.sum_congr rfl fun d _ => congrArg₂ (· * ·) (win_row128 _ _ _ _ _) (win_col128 _ _ _ _ _)
  · show k0_pay110 (ix2 r d) = _
    rw [pay110_apply, Finset.filter_false_of_mem (fun c _ => by omega), Finset.sum_empty]

theorem inv_fold (S : St Ideal) (h0 : Inv X 0 0 S) : ∀ t ≤ 136, ∃ j i : ℕ, pairW t = (BitVec.ofNat 32 j, BitVec.ofNat 32 i) ∧ j ≤ 16 ∧ i ≤ 16 ∧ Inv X j i (foldSt X S t)
  | 0, _ => ⟨0, 0, rfl, by omega, by omega, by rw [foldSt_zero]; exact h0⟩
  | t + 1, ht => by
      obtain ⟨j, i, hp, hj, hi, hI⟩ := inv_fold S h0 t (Nat.le_of_succ_le ht)
      obtain ⟨j', i', hji, hp'⟩ := pairW_nat (t := t) ht
      have hw : ∀ a b : ℕ, a ≤ 16 → b ≤ 16 → BitVec.ofNat 32 a = BitVec.ofNat 32 b → a = b := fun a b ha hb e => by
        have := congrArg BitVec.toNat e
        simp only [BitVec.toNat_ofNat] at this
        omega
      have ej : j = j'.val := hw _ _ hj (by omega) (congrArg Prod.fst (hp.symm.trans hp'))
      have ei : i = i'.val := hw _ _ hi (by omega) (congrArg Prod.snd (hp.symm.trans hp'))
      subst ej ei
      have hs := inv_step (stepOk_wd j' i') hI hji
      rw [foldSt_succ X S ht (wd j', wd i') hp'.symm (stepOk_wd j' i')] at hs
      refine ⟨_, _, ?_, ?_, ?_, hs⟩
      · obtain ⟨hn1, hn2, -⟩ := next_eq j' i'
        have : pairW (t + 1) = (nxJ (pairW t).1 (pairW t).2, nxI (pairW t).1 (pairW t).2) := seqW_succ _ _
        rw [this, hp', hn1, hn2]
      · unfold nj; split_ifs <;> omega
      · unfold ni; split_ifs <;> omega

theorem inv_last : Inv X 16 16 (lastSt X) := by
  unfold lastSt
  obtain ⟨j, i, hp, hj, hi, hI⟩ := inv_fold (X := X) _ (inv_init (X := X) _ _ _ _) 136 le_rfl
  rw [pairW_end] at hp
  have hw : ∀ a : ℕ, a ≤ 16 → 16#32 = BitVec.ofNat 32 a → a = 16 := fun a ha e => by
    have := congrArg BitVec.toNat e
    simp only [BitVec.toNat_ofNat] at this
    omega
  obtain rfl := hw j hj (congrArg Prod.fst hp)
  obtain rfl := hw i hi (congrArg Prod.snd hp)
  exact hI

/-! ### The three results -/

theorem pw_masked {c r : Fin 8192} (h : r.val < c.val) : pw X c r = 0 := if_neg (by rw [Fin.le_def]; omega)
theorem dsv_masked {c r : Fin 8192} (h : r.val < c.val) : dsv X c r = 0 := by unfold dsv; rw [pw_masked h, zero_mul]

theorem outQ_apply (r : Fin 8192) (d : Fin 256) : outQ X (ix2 r d) = ∑ c : Fin 8192, dsv X c r * X.k (ix2 c d) := by
  show (lastSt X).dq (ix2 r d) = _
  rw [inv_last.dq r d]
  refine Finset.sum_subset (Finset.filter_subset _ _) fun c _ hc => ?_
  rw [Finset.mem_filter] at hc
  rw [dsv_masked (by have := r.isLt; have := c.isLt; by_contra hlt; exact hc ⟨Finset.mem_univ _, by omega⟩), zero_mul]

theorem outK_apply (c : Fin 8192) (d : Fin 256) : outK X (ix2 c d) = ∑ r : Fin 8192, dsv X c r * X.q (ix2 r d) := by
  show (lastSt X).outK (ix2 c d) = _
  rw [inv_last.outK c d (by have := c.isLt; omega)]
  refine Finset.sum_subset (Finset.filter_subset _ _) fun r _ hr => ?_
  rw [Finset.mem_filter] at hr
  rw [dsv_masked (by by_contra hlt; exact hr ⟨Finset.mem_univ _, by omega⟩), zero_mul]

theorem outV_apply (c : Fin 8192) (e : Fin 128) : outV X (ix2 c e) = ∑ r : Fin 8192, X.g (ix3 0 e r) * pw X c r := by
  show (lastSt X).outV (ix2 c e) = _
  rw [inv_last.outV c e (by have := c.isLt; omega)]
  refine Finset.sum_subset (Finset.filter_subset _ _) fun r _ hr => ?_
  rw [Finset.mem_filter] at hr
  rw [pw_masked (by by_contra hlt; exact hr ⟨Finset.mem_univ _, by omega⟩), mul_zero]

end

end Cert.Proof.KernelIdeal

end
-- ==== Proof.KernelIdeal.Arrays.lean ====
/-
  The launch's arrays: head `h` of an input is its columns (or its leading index), and so is head `h` of a result.
-/
module

public import proofs.«01_k».proof.Proof.KernelIdeal.Launch
public import proofs.«01_k».proof.Proof.KernelIdeal.Head

@[expose] public section

noncomputable section

namespace Cert.Proof.KernelIdeal

open Cert.KernelIdeal Cert.KernelIdeal.Gen
open Idealize.ShloMosaic Idealize.ShloMosaic.TcCoe Idealize.ShloMosaic.Pointwise
open Idealize.SL Idealize.SL.Sem

variable (m : (ℓ : Loc nD τ sig) → Buf (Elt Ideal) ℓ)

/-- The grid point of head `h`, and the columns of head `h`. -/
def pt (h : Fin 8) : Fin cfg0.N := ⟨h.val, h.isLt⟩
def c256 (h : Fin 8) (d : Fin 256) : Fin 2048 := ⟨h.val * 256 + d.val, by omega⟩
def c128 (h : Fin 8) (d : Fin 128) : Fin 1024 := ⟨h.val * 128 + d.val, by omega⟩

theorem idx0 : ∀ t : Fin cfg0.N, win0_0.index t (0 : Fin 2) = 0 ∧ win0_0.index t (1 : Fin 2) = t.val := (by decide +kernel : ∀ t : Fin grid0.N, _)
theorem idx1 : ∀ t : Fin cfg0.N, win0_1.index t (0 : Fin 2) = 0 ∧ win0_1.index t (1 : Fin 2) = t.val := (by decide +kernel : ∀ t : Fin grid0.N, _)
theorem idx2 : ∀ t : Fin cfg0.N, win0_2.index t (0 : Fin 2) = 0 ∧ win0_2.index t (1 : Fin 2) = t.val := (by decide +kernel : ∀ t : Fin grid0.N, _)
theorem idx3 : ∀ t : Fin cfg0.N, win0_3.index t (0 : Fin 3) = t.val ∧ win0_3.index t (1 : Fin 3) = 0 ∧ win0_3.index t (2 : Fin 3) = 0 :=
  (by decide +kernel : ∀ t : Fin grid0.N, _)
theorem idx4 : ∀ t : Fin cfg0.N, win0_4.index t (0 : Fin 3) = t.val ∧ win0_4.index t (1 : Fin 3) = 0 ∧ win0_4.index t (2 : Fin 3) = 0 :=
  (by decide +kernel : ∀ t : Fin grid0.N, _)
theorem idx5 : ∀ t : Fin cfg0.N, win0_5.index t (0 : Fin 3) = t.val ∧ win0_5.index t (1 : Fin 3) = 0 ∧ win0_5.index t (2 : Fin 3) = 0 :=
  (by decide +kernel : ∀ t : Fin grid0.N, _)
theorem idx6 : ∀ t : Fin cfg0.N, win0_6.index t (0 : Fin 2) = 0 ∧ win0_6.index t (1 : Fin 2) = t.val := (by decide +kernel : ∀ t : Fin grid0.N, _)
theorem idx7 : ∀ t : Fin cfg0.N, win0_7.index t (0 : Fin 2) = 0 ∧ win0_7.index t (1 : Fin 2) = t.val := (by decide +kernel : ∀ t : Fin grid0.N, _)
theorem idx8 : ∀ t : Fin cfg0.N, win0_8.index t (0 : Fin 2) = 0 ∧ win0_8.index t (1 : Fin 2) = t.val := (by decide +kernel : ∀ t : Fin grid0.N, _)

/-! ### The inputs -/

theorem in_k (c : Dev nD) (h : Fin 8) (r : Fin 8192) (d : Fin 256) :
    (inpAt m c (pt h)).k (ix2 r d) = V m c main_v47 (ix2 r (c256 h d)) := by
  obtain ⟨e0, e1⟩ := idx0 (pt h)
  show V m c main_v47 (((cfg0.win 0).blk (pt h)).view.emb (ix2 r d)) = _
  refine congrArg _ (funext fun a => Fin.ext ?_)
  match a with
  | ⟨0, _⟩ => show win0_0.index (pt h) (0 : Fin 2) * 8192 + 1 * r.val = r.val; omega
  | ⟨1, _⟩ => show win0_0.index (pt h) (1 : Fin 2) * 256 + 1 * d.val = h.val * 256 + d.val; rw [e1]; show h.val * 256 + _ = _; omega

theorem in_v (c : Dev nD) (h : Fin 8) (r : Fin 8192) (d : Fin 128) :
    (inpAt m c (pt h)).v (ix2 r d) = V m c main_v48 (ix2 r (c128 h d)) := by
  obtain ⟨e0, e1⟩ := idx1 (pt h)
  show V m c main_v48 (((cfg0.win 1).blk (pt h)).view.emb (ix2 r d)) = _
  refine congrArg _ (funext fun a => Fin.ext ?_)
  match a with
  | ⟨0, _⟩ => show win0_1.index (pt h) (0 : Fin 2) * 8192 + 1 * r.val = r.val; omega
  | ⟨1, _⟩ => show win0_1.index (pt h) (1 : Fin 2) * 128 + 1 * d.val = h.val * 128 + d.val; rw [e1]; show h.val * 128 + _ = _; omega

theorem in_q (c : Dev nD) (h : Fin 8) (r : Fin 8192) (d : Fin 256) :
    (inpAt m c (pt h)).q (ix2 r d) = V m c main_v45 (ix2 r (c256 h d)) := by
  obtain ⟨e0, e1⟩ := idx2 (pt h)
  show V m c main_v45 (((cfg0.win 2).blk (pt h)).view.emb (ix2 r d)) = _
  refine congrArg _ (funext fun a => Fin.ext ?_)
  match a with
  | ⟨0, _⟩ => show win0_2.index (pt h) (0 : Fin 2) * 8192 + 1 * r.val = r.val; omega
  | ⟨1, _⟩ => show win0_2.index (pt h) (1 : Fin 2) * 256 + 1 * d.val = h.val * 256 + d.val; rw [e1]; show h.val * 256 + _ = _; omega

theorem in_g (c : Dev nD) (h : Fin 8) (e : Fin 128) (r : Fin 8192) :
    (inpAt m c (pt h)).g (ix3 0 e r) = V m c main_v49 (ix3 h e r) := by
  obtain ⟨e0, e1, e2⟩ := idx3 (pt h)
  show V m c main_v49 (((cfg0.win 3).blk (pt h)).view.emb (ix3 0 e r)) = _
  refine congrArg _ (funext fun a => Fin.ext ?_)
  match a with
  | ⟨0, _⟩ => show win0_3.index (pt h) (0 : Fin 3) * 1 + 1 * 0 = h.val; rw [e0]; show h.val * 1 + _ = _; omega
  | ⟨1, _⟩ => show win0_3.index (pt h) (1 : Fin 3) * 128 + 1 * e.val = e.val; omega
  | ⟨2, _⟩ => show win0_3.index (pt h) (2 : Fin 3) * 8192 + 1 * r.val = r.val; omega

theorem in_lse (c : Dev nD) (h : Fin 8) (r : Fin 8192) :
    (inpAt m c (pt h)).lse (ix3 0 0 r) = V m c main_v35 (ix3 h 0 r) := by
  obtain ⟨e0, e1, e2⟩ := idx4 (pt h)
  show V m c main_v35 (((cfg0.win 4).blk (pt h)).view.emb (ix3 0 0 r)) = _
  refine congrArg _ (funext fun a => Fin.ext ?_)
  match a with
  | ⟨0, _⟩ => show win0_4.index (pt h) (0 : Fin 3) * 1 + 1 * 0 = h.val; rw [e0]; show h.val * 1 + _ = _; omega
  | ⟨1, _⟩ => show win0_4.index (pt h) (1 : Fin 3) * 1 + 1 * 0 = 0; omega
  | ⟨2, _⟩ => show win0_4.index (pt h) (2 : Fin 3) * 8192 + 1 * r.val = r.val; omega

theorem in_del (c : Dev nD) (h : Fin 8) (r : Fin 8192) :
    (inpAt m c (pt h)).del (ix3 0 0 r) = V m c main_v39 (ix3 h 0 r) := by
  obtain ⟨e0, e1, e2⟩ := idx5 (pt h)
  show V m c main_v39 (((cfg0.win 5).blk (pt h)).view.emb (ix3 0 0 r)) = _
  refine congrArg _ (funext fun a => Fin.ext ?_)
  match a with
  | ⟨0, _⟩ => show win0_5.index (pt h) (0 : Fin 3) * 1 + 1 * 0 = h.val; rw [e0]; show h.val * 1 + _ = _; omega
  | ⟨1, _⟩ => show win0_5.index (pt h) (1 : Fin 3) * 1 + 1 * 0 = 0; omega
  | ⟨2, _⟩ => show win0_5.index (pt h) (2 : Fin 3) * 8192 + 1 * r.val = r.val; omega

/-! ### The results -/

/-- The three result arrays, column by column. -/
def arrQ (c : Dev nD) : S8192x2048.Idx → EReal := fun i =>
  outQ (inpAt m c (pt ⟨(i 1).val / 256, by have : (i 1).val < 2048 := (i 1).isLt; omega⟩)) (ix2 (i 0) ⟨(i 1).val % 256, by omega⟩)
def arrK (c : Dev nD) : S8192x2048.Idx → EReal := fun i =>
  outK (inpAt m c (pt ⟨(i 1).val / 256, by have : (i 1).val < 2048 := (i 1).isLt; omega⟩)) (ix2 (i 0) ⟨(i 1).val % 256, by omega⟩)
def arrV (c : Dev nD) : S8192x1024.Idx → EReal := fun i =>
  outV (inpAt m c (pt ⟨(i 1).val / 128, by have : (i 1).val < 1024 := (i 1).isLt; omega⟩)) (ix2 (i 0) ⟨(i 1).val % 128, by omega⟩)

theorem emb6 (t : Fin cfg0.N) (r : Fin 8192) (d : Fin 256) : ((cfg0.win 6).blk t).view.emb (ix2 r d) = ix2 r (c256 ⟨t.val, t.isLt⟩ d) := by
  obtain ⟨e0, e1⟩ := idx6 t
  refine funext fun a => Fin.ext ?_
  match a with
  | ⟨0, _⟩ => show win0_6.index t (0 : Fin 2) * 8192 + 1 * r.val = r.val; omega
  | ⟨1, _⟩ => show win0_6.index t (1 : Fin 2) * 256 + 1 * d.val = t.val * 256 + d.val; omega
theorem emb7 (t : Fin cfg0.N) (r : Fin 8192) (d : Fin 256) : ((cfg0.win 7).blk t).view.emb (ix2 r d) = ix2 r (c256 ⟨t.val, t.isLt⟩ d) := by
  obtain ⟨e0, e1⟩ := idx7 t
  refine funext fun a => Fin.ext ?_
  match a with
  | ⟨0, _⟩ => show win0_7.index t (0 : Fin 2) * 8192 + 1 * r.val = r.val; omega
  | ⟨1, _⟩ => show win0_7.index t (1 : Fin 2) * 256 + 1 * d.val = t.val * 256 + d.val; omega
theorem emb8 (t : Fin cfg0.N) (r : Fin 8192) (d : Fin 128) : ((cfg0.win 8).blk t).view.emb (ix2 r d) = ix2 r (c128 ⟨t.val, t.isLt⟩ d) := by
  obtain ⟨e0, e1⟩ := idx8 t
  refine funext fun a => Fin.ext ?_
  match a with
  | ⟨0, _⟩ => show win0_8.index t (0 : Fin 2) * 8192 + 1 * r.val = r.val; omega
  | ⟨1, _⟩ => show win0_8.index t (1 : Fin 2) * 128 + 1 * d.val = t.val * 128 + d.val; omega

theorem arrQ_col (c : Dev nD) (h : Fin 8) (r : Fin 8192) (d : Fin 256) : arrQ m c (ix2 r (c256 h d)) = outQ (inpAt m c (pt h)) (ix2 r d) := by
  have hh : (⟨(h.val * 256 + d.val) / 256, by omega⟩ : Fin 8) = h := Fin.ext (by show (h.val * 256 + d.val) / 256 = h.val; omega)
  have hd : (⟨(h.val * 256 + d.val) % 256, by omega⟩ : Fin 256) = d := Fin.ext (by show (h.val * 256 + d.val) % 256 = d.val; omega)
  show outQ (inpAt m c (pt ⟨(h.val * 256 + d.val) / 256, _⟩)) (ix2 r ⟨(h.val * 256 + d.val) % 256, _⟩) = _
  rw [hh, hd]
theorem arrK_col (c : Dev nD) (h : Fin 8) (r : Fin 8192) (d : Fin 256) : arrK m c (ix2 r (c256 h d)) = outK (inpAt m c (pt h)) (ix2 r d) := by
  have hh : (⟨(h.val * 256 + d.val) / 256, by omega⟩ : Fin 8) = h := Fin.ext (by show (h.val * 256 + d.val) / 256 = h.val; omega)
  have hd : (⟨(h.val * 256 + d.val) % 256, by omega⟩ : Fin 256) = d := Fin.ext (by show (h.val * 256 + d.val) % 256 = d.val; omega)
  show outK (inpAt m c (pt ⟨(h.val * 256 + d.val) / 256, _⟩)) (ix2 r ⟨(h.val * 256 + d.val) % 256, _⟩) = _
  rw [hh, hd]
theorem arrV_col (c : Dev nD) (h : Fin 8) (r : Fin 8192) (d : Fin 128) : arrV m c (ix2 r (c128 h d)) = outV (inpAt m c (pt h)) (ix2 r d) := by
  have hh : (⟨(h.val * 128 + d.val) / 128, by omega⟩ : Fin 8) = h := Fin.ext (by show (h.val * 128 + d.val) / 128 = h.val; omega)
  have hd : (⟨(h.val * 128 + d.val) % 128, by omega⟩ : Fin 128) = d := Fin.ext (by show (h.val * 128 + d.val) % 128 = d.val; omega)
  show outV (inpAt m c (pt ⟨(h.val * 128 + d.val) / 128, _⟩)) (ix2 r ⟨(h.val * 128 + d.val) % 128, _⟩) = _
  rw [hh, hd]

theorem ix2_of {n k : ℕ} (y : (a : Fin 2) → Fin (![n, k] a)) : y = ix2 (n0 := n) (n1 := k) (y 0) (y 1) := by
  funext a
  match a with
  | ⟨0, _⟩ => rfl
  | ⟨1, _⟩ => rfl

theorem final6 (c : Dev nD) : (dats m 0 c).arrAt 6 cfg0.N = arrQ m c := by
  refine (dats m 0 c).arrAt_eq_of_cover 6 (arrQ m c) (fun t _ => ?_) fun i => ?_
  · have hf : (dats m 0 c).flushed 6 t = (cfg0.win 6).cut (grid0.coords t) ((dats m 0 c).after 6 t) := rfl
    rw [hf, after0_6]
    funext y
    show outQ (inpAt m c t) y = arrQ m c (((cfg0.win 6).blk t).view.emb y)
    obtain ⟨r, d, rfl⟩ : ∃ (r : Fin 8192) (d : Fin 256), y = ix2 r d := ⟨y 0, y 1, ix2_of y⟩
    rw [emb6, arrQ_col]; rfl
  · obtain ⟨r, d, rfl⟩ : ∃ (r : Fin 8192) (d : Fin 2048), i = ix2 r d := ⟨i 0, i 1, ix2_of i⟩
    refine ⟨pt ⟨d.val / 256, by omega⟩, flush0_6 _, ?_⟩
    have h := ((cfg0.win 6).blk (pt ⟨d.val / 256, by omega⟩)).view.emb_mem_set (ix2 r (⟨d.val % 256, by omega⟩ : Fin 256))
    rw [emb6] at h
    rwa [show c256 ⟨(pt ⟨d.val / 256, by omega⟩).val, (pt ⟨d.val / 256, by omega⟩).isLt⟩ (⟨d.val % 256, by omega⟩ : Fin 256) = d from
      Fin.ext (by show d.val / 256 * 256 + d.val % 256 = d.val; omega)] at h

theorem final7 (c : Dev nD) : (dats m 0 c).arrAt 7 cfg0.N = arrK m c := by
  refine (dats m 0 c).arrAt_eq_of_cover 7 (arrK m c) (fun t _ => ?_) fun i => ?_
  · have hf : (dats m 0 c).flushed 7 t = (cfg0.win 7).cut (grid0.coords t) ((dats m 0 c).after 7 t) := rfl
    rw [hf, after0_7]
    funext y
    show outK (inpAt m c t) y = arrK m c (((cfg0.win 7).blk t).view.emb y)
    obtain ⟨r, d, rfl⟩ : ∃ (r : Fin 8192) (d : Fin 256), y = ix2 r d := ⟨y 0, y 1, ix2_of y⟩
    rw [emb7, arrK_col]; rfl
  · obtain ⟨r, d, rfl⟩ : ∃ (r : Fin 8192) (d : Fin 2048), i = ix2 r d := ⟨i 0, i 1, ix2_of i⟩
    refine ⟨pt ⟨d.val / 256, by omega⟩, flush0_7 _, ?_⟩
    have h := ((cfg0.win 7).blk (pt ⟨d.val / 256, by omega⟩)).view.emb_mem_set (ix2 r (⟨d.val % 256, by omega⟩ : Fin 256))
    rw [emb7] at h
    rwa [show c256 ⟨(pt ⟨d.val / 256, by omega⟩).val, (pt ⟨d.val / 256, by omega⟩).isLt⟩ (⟨d.val % 256, by omega⟩ : Fin 256) = d from
      Fin.ext (by show d.val / 256 * 256 + d.val % 256 = d.val; omega)] at h

theorem final8 (c : Dev nD) : (dats m 0 c).arrAt 8 cfg0.N = arrV m c := by
  refine (dats m 0 c).arrAt_eq_of_cover 8 (arrV m c) (fun t _ => ?_) fun i => ?_
  · have hf : (dats m 0 c).flushed 8 t = (cfg0.win 8).cut (grid0.coords t) ((dats m 0 c).after 8 t) := rfl
    rw [hf, after0_8]
    funext y
    show outV (inpAt m c t) y = arrV m c (((cfg0.win 8).blk t).view.emb y)
    obtain ⟨r, d, rfl⟩ : ∃ (r : Fin 8192) (d : Fin 128), y = ix2 r d := ⟨y 0, y 1, ix2_of y⟩
    rw [emb8, arrV_col]; rfl
  · obtain ⟨r, d, rfl⟩ : ∃ (r : Fin 8192) (d : Fin 1024), i = ix2 r d := ⟨i 0, i 1, ix2_of i⟩
    refine ⟨pt ⟨d.val / 128, by omega⟩, flush0_8 _, ?_⟩
    have h := ((cfg0.win 8).blk (pt ⟨d.val / 128, by omega⟩)).view.emb_mem_set (ix2 r (⟨d.val % 128, by omega⟩ : Fin 128))
    rw [emb8] at h
    rwa [show c128 ⟨(pt ⟨d.val / 128, by omega⟩).val, (pt ⟨d.val / 128, by omega⟩).isLt⟩ (⟨d.val % 128, by omega⟩ : Fin 128) = d from
      Fin.ext (by show d.val / 128 * 128 + d.val % 128 = d.val; omega)] at h

end Cert.Proof.KernelIdeal

end
-- ==== Proof.Spec.lean ====
/-
  One head of the attention's gradient over the extended reals, as the kernel computes it: the scaled queries in the
  scores' base, the rows' log-sums and the rows' sums.
-/
module

public import Idealize.ShloMosaic.Lib.Pointwise

@[expose] public section

noncomputable section

namespace Cert.Proof.Spec

open Idealize.ShloMosaic

/-- The scores' scale, and the logarithm of two. -/
def scale : EReal := Ideal.ofBits .f32 0x3D93CD3A#32
def ln2 : EReal := Ideal.log (Ideal.ofBits .f32 0x40000000#32)

variable (Q K : Fin 8192 → Fin 192 → EReal) (W D : Fin 8192 → Fin 128 → EReal)

/-- Masked scores, a row's greatest, their exponentials from it, and a row's sum. -/
def sm (r k : Fin 8192) : EReal := if k ≤ r then (∑ d, Q r d * K k d) * scale else ⊥
def top (r : Fin 8192) : EReal := Finset.univ.fold max ⊥ (sm Q K r)
def ex (r k : Fin 8192) : EReal := Ideal.exp (sm Q K r k - top Q K r)
def tot (r : Fin 8192) : EReal := ∑ k, ex Q K r k

/-- A row's log-sum in base two, and a row's sum of output times cotangent. -/
def lse (r : Fin 8192) : EReal := Ideal.div (top Q K r + Ideal.log (tot Q K r)) ln2
def del (r : Fin 8192) : EReal := ∑ e, D r e * ∑ k, W k e * Ideal.div (ex Q K r k) (tot Q K r)

/-- The weight of key `c` for query `r`, the score's gradient, and the three results. -/
def kw (c r : Fin 8192) : EReal := if c ≤ r then Ideal.exp2 (∑ d, K c d * (Q r d * Ideal.div scale ln2) - lse Q K r) else 0
def kd (c r : Fin 8192) : EReal := kw Q K c r * (∑ e, W c e * D r e - del Q K W D r)
def kdq (r : Fin 8192) (d : Fin 192) : EReal := (∑ c, kd Q K W D c r * K c d) * scale
def kdk (c : Fin 8192) (d : Fin 192) : EReal := (∑ r, kd Q K W D c r * (Q r d * Ideal.div scale ln2)) * ln2
def kdv (c : Fin 8192) (e : Fin 128) : EReal := ∑ r, D r e * kw Q K c r

/-- A comparison of two row numbers as words is one of the numbers. -/
theorem le_word (k r : Fin 8192) : IntOp.cmpi .sle (BitVec.ofNat 32 k.val) (BitVec.ofNat 32 r.val) = if k ≤ r then 1#1 else 0#1 := by
  have hn : ∀ n : Fin 8192, (BitVec.ofNat 32 n.val).toInt = (n.val : ℤ) := fun n => by
    have := n.isLt
    rw [BitVec.toInt_eq_toNat_cond, BitVec.toNat_ofNat, Nat.mod_eq_of_lt (by omega), if_pos (by omega)]
  unfold IntOp.cmpi
  simp only [BitVec.sle_eq_decide, hn]
  have hiff : ((k.val : ℤ) ≤ (r.val : ℤ)) ↔ k ≤ r := by rw [Fin.le_def]; omega
  by_cases h : k ≤ r
  · simp [h, hiff]
  · simp [h, hiff]

/-- A sum over lanes of which those past the width are zero. -/
theorem sum_pad (f : Fin 192 → EReal) : ∑ d : Fin 256, (if h : d.val < 192 then f ⟨d.val, h⟩ else 0) = ∑ d, f d := by
  rw [show (∑ d : Fin 256, (if h : d.val < 192 then f ⟨d.val, h⟩ else 0)) = ∑ d : Fin (192 + 64), (if h : d.val < 192 then f ⟨d.val, h⟩ else 0) from rfl,
    Fin.sum_univ_add]
  rw [Finset.sum_eq_zero (s := Finset.univ) (f := fun i : Fin 64 => _) fun i _ => dif_neg (by show ¬ 192 + i.val < 192; omega), add_zero]
  exact Finset.sum_congr rfl fun d _ => dif_pos d.isLt

end Cert.Proof.Spec

end
-- ==== Proof.KernelIdeal.Prep.lean ====
/-
  What the operations before the launch leave in the six inputs, and what those after it make of the three results.
-/
module

public import proofs.«01_k».proof.Proof.KernelIdeal.Arrays
public import proofs.«01_k».proof.Proof.Spec
public import Idealize.ShloMosaic.Lib.StableHlo.ReadAt

@[expose] public section

noncomputable section

namespace Cert.Proof.KernelIdeal

open Cert.KernelIdeal Cert.KernelIdeal.Gen
open Idealize.ShloMosaic Idealize.ShloMosaic.TcCoe Idealize.ShloMosaic.Pointwise
open Idealize.SL Idealize.SL.Sem

variable (m : (ℓ : Loc nD τ sig) → Buf (Elt Ideal) ℓ)

/-! ### The operations before the launch, in two lines -/

theorem after_two (a b : List (HloOp τ sig (Elt Ideal))) (W : Valuation τ sig (Elt Ideal)) :
    StableHlo.after (a ++ b) W = StableHlo.after b (StableHlo.after a W) := by
  induction a generalizing W with
  | nil => rfl
  | cons op a ih => exact ih _

/-- What the buffers hold once the masked scores are there. -/
def U1 (c : Dev nD) : Valuation τ sig (Elt Ideal) := StableHlo.after (hostOps0 ++ hostOps0_1) (fun b => m (c, b))

theorem V_two (c : Dev nD) (b : Ref sig .tc) :
    V m c b = StableHlo.after (hostOps0_2 ++ (hostOps0_3 ++ (hostOps0_4 ++ (hostOps0_5 ++ hostOps0_6)))) (U1 m c) (Proc.devRef .tc b) := by
  unfold U1
  rw [← after_two]
  rfl

/-- Row maxima and row sums of the masked scores, and the log-sums of the two. -/
def mxOf (S : FVec Ideal S8x8192x8192 .f32) : FVec Ideal S8x8192x1 .f32 :=
  broadcastInDim S8x8192x1 ![0, 1] bcast_S8x8192_S8x8192x1_0_1
    (Host.reduce (FloatOps.maximumf (F := Ideal) (φ := .f32)) S (constant (F := Ideal) S_ .f32 4286578688#32) reducesTo_S8x8192x8192_S8x8192_d2 h_S_)
def smOf (S : FVec Ideal S8x8192x8192 .f32) (M : FVec Ideal S8x8192x1 .f32) : FVec Ideal S8x8192x1 .f32 :=
  broadcastInDim S8x8192x1 ![0, 1] bcast_S8x8192_S8x8192x1_0_1
    (Host.reduceAdd (Host.exp (subf S (broadcastInDim S8x8192x8192 ![0, 1, 2] bcast_S8x8192x1_S8x8192x8192_0_1_2 M)))
      (constant S_ .f32 0#32) reducesTo_S8x8192x8192_S8x8192_d2 h_S_)
def lsOf (M T : FVec Ideal S8x8192x1 .f32) (l : FVec Ideal S_ .f32) : FVec Ideal S8x1x8192 .f32 :=
  shapeCast S8x1x8192 (Host.divf (addf M (Host.log T)) (broadcastInDim S8x8192x1 ![] bcast_S_S8x8192x1 l)) shapeCasts_S8x8192x1_S8x1x8192

theorem u_v35 (c : Dev nD) : V m c main_v35 = lsOf (mxOf (U1 m c (Proc.devRef .tc main_v19)))
    (smOf (U1 m c (Proc.devRef .tc main_v19)) (mxOf (U1 m c (Proc.devRef .tc main_v19)))) (U1 m c (Proc.devRef .tc main_v4)) := by
  rw [V_two]
  unfold lsOf smOf mxOf
  after_reads_simp
  rfl

theorem lsOf_at (M T : FVec Ideal S8x8192x1 .f32) (l : FVec Ideal S_ .f32) (h : Fin 8) (r : Fin 8192) :
    lsOf M T l (ix3 h 0 r) = Ideal.div (M (ix3 h r 0) + Ideal.log (T (ix3 h r 0))) (l ix0) := by
  pointwise [lsOf]

theorem smOf_at (S : FVec Ideal S8x8192x8192 .f32) (M : FVec Ideal S8x8192x1 .f32) (h : Fin 8) (r : Fin 8192) :
    smOf S M (ix3 h r 0) = ∑ k : Fin 8192, Ideal.exp (S (ix3 h r k) - M (ix3 h r 0)) := by
  pointwise [smOf]

theorem mxOf_at (S : FVec Ideal S8x8192x8192 .f32) (h : Fin 8) (r : Fin 8192) :
    mxOf S (ix3 h r 0) = Finset.univ.fold max (Ideal.ofBits .f32 0xFF800000#32) (fun k : Fin 8192 => S (ix3 h r k)) := by
  pointwise [mxOf]

/-- The masked scores, values and cotangent there. -/
abbrev s19 (c : Dev nD) : FVec Ideal S8x8192x8192 .f32 := U1 m c (Proc.devRef .tc main_v19)
abbrev s7 (c : Dev nD) : FVec Ideal S8192x8x128 .f32 := U1 m c (Proc.devRef .tc main_v7)
abbrev s8 (c : Dev nD) : FVec Ideal S8192x8x128 .f32 := U1 m c (Proc.devRef .tc main_v8)

theorem u_v39 (c : Dev nD) (h : Fin 8) (r : Fin 8192) : (V m c main_v39 (ix3 h 0 r) : EReal) =
    ∑ e : Fin 128, (s8 m c (ix3 r h e) : EReal) * ∑ k : Fin 8192, (s7 m c (ix3 k h e) : EReal) *
      Ideal.div (Ideal.exp ((s19 m c (ix3 h r k) : EReal) - mxOf (s19 m c) (ix3 h r 0))) (smOf (s19 m c) (mxOf (s19 m c)) (ix3 h r 0)) := by
  simp only [smOf_at, mxOf_at]
  rw [V_two]
  after_reads_at
  try rfl

theorem u_v4 (c : Dev nD) : V m c main_v4 ix0 = Spec.ln2 := by
  rw [V_two]
  after_reads_at
  unfold U1
  after_reads_at
  rfl

theorem u1_v4 (c : Dev nD) : U1 m c (Proc.devRef .tc main_v4) ix0 = Spec.ln2 := by
  unfold U1
  after_reads_at
  rfl

/-! ### Over the arguments -/

/-- One head of each argument. -/
def aQ (c : Dev nD) (h : Fin 8) (r : Fin 8192) (d : Fin 192) : EReal := m (c, Proc.devRef .tc main_arg0) (ix4 0 r h d)
def aK (c : Dev nD) (h : Fin 8) (r : Fin 8192) (d : Fin 192) : EReal := m (c, Proc.devRef .tc main_arg1) (ix4 0 r h d)
def aW (c : Dev nD) (h : Fin 8) (r : Fin 8192) (e : Fin 128) : EReal := m (c, Proc.devRef .tc main_arg2) (ix4 0 r h e)
def aD (c : Dev nD) (h : Fin 8) (r : Fin 8192) (e : Fin 128) : EReal := m (c, Proc.devRef .tc main_arg3) (ix4 0 r h e)

theorem u1_v19 (c : Dev nD) (h : Fin 8) (r k : Fin 8192) : U1 m c (Proc.devRef .tc main_v19) (ix3 h r k) = Spec.sm (aQ m c h) (aK m c h) r k := by
  unfold U1
  after_reads_at
  rw [Spec.le_word]
  unfold Spec.sm
  by_cases hk : k ≤ r
  · rw [if_pos hk, if_pos hk, ValueIdx.select_one]; rfl
  · rw [if_neg hk, if_neg hk, ValueIdx.select_zero]; exact ofBits_neg_inf

theorem u1_v7 (c : Dev nD) (h : Fin 8) (k : Fin 8192) (e : Fin 128) : U1 m c (Proc.devRef .tc main_v7) (ix3 k h e) = aW m c h k e := by
  unfold U1
  after_reads_at
  rfl
theorem u1_v8 (c : Dev nD) (h : Fin 8) (k : Fin 8192) (e : Fin 128) : U1 m c (Proc.devRef .tc main_v8) (ix3 k h e) = aD m c h k e := by
  unfold U1
  after_reads_at
  rfl

theorem mx_at (c : Dev nD) (h : Fin 8) (r : Fin 8192) : mxOf (U1 m c (Proc.devRef .tc main_v19)) (ix3 h r 0) = Spec.top (aQ m c h) (aK m c h) r := by
  rw [mxOf_at, ofBits_neg_inf]
  unfold Spec.top
  congr 1
  funext k
  exact u1_v19 m c h r k

theorem ls_at (c : Dev nD) (h : Fin 8) (r : Fin 8192) :
    smOf (U1 m c (Proc.devRef .tc main_v19)) (mxOf (U1 m c (Proc.devRef .tc main_v19))) (ix3 h r 0) = Spec.tot (aQ m c h) (aK m c h) r := by
  rw [smOf_at]
  refine Finset.sum_congr rfl fun k _ => ?_
  rw [mx_at, u1_v19]; rfl

theorem X_lse (c : Dev nD) (h : Fin 8) (r : Fin 8192) : (inpAt m c (pt h)).lse (ix3 0 0 r) = Spec.lse (aQ m c h) (aK m c h) r := by
  rw [in_lse, u_v35, lsOf_at, mx_at, ls_at, u1_v4]; rfl

theorem X_del (c : Dev nD) (h : Fin 8) (r : Fin 8192) : (inpAt m c (pt h)).del (ix3 0 0 r) = Spec.del (aQ m c h) (aK m c h) (aW m c h) (aD m c h) r := by
  rw [in_del, u_v39]
  refine Finset.sum_congr rfl fun e _ => congrArg₂ (· * ·) (u1_v8 m c h r e) (Finset.sum_congr rfl fun k _ => congrArg₂ (· * ·) (u1_v7 m c h k e) ?_)
  rw [mx_at, ls_at, show (s19 m c (ix3 h r k) : EReal) = _ from u1_v19 m c h r k]; rfl

theorem zero_word : FloatOps.sitofp (F := Ideal) .bf16 0#32 = (0 : EReal) := by
  show (((0#32 : BitVec 32).toInt : ℝ) : EReal) = 0
  simp

theorem X_k (c : Dev nD) (h : Fin 8) (r : Fin 8192) (d : Fin 256) :
    (inpAt m c (pt h)).k (ix2 r d) = if hd : d.val < 192 then aK m c h r ⟨d.val, hd⟩ else 0 := by
  rw [in_k]
  unfold V
  after_reads_at
  have h1 : (c256 h d).val / 256 = h.val := by show (h.val * 256 + d.val) / 256 = h.val; omega
  have h2 : (c256 h d).val % 256 = d.val := by show (h.val * 256 + d.val) % 256 = d.val; omega
  by_cases hd : d.val < 192
  · rw [dif_pos hd, dif_pos ⟨by omega, by omega⟩]
    unfold aK
    simp only [h1, h2]
  · rw [dif_neg hd, dif_neg (by omega)]
    exact zero_word

theorem X_q (c : Dev nD) (h : Fin 8) (r : Fin 8192) (d : Fin 256) :
    (inpAt m c (pt h)).q (ix2 r d) = if hd : d.val < 192 then aQ m c h r ⟨d.val, hd⟩ * Ideal.div Spec.scale Spec.ln2 else 0 := by
  rw [in_q]
  unfold V
  after_reads_at
  have h1 : (c256 h d).val / 256 = h.val := by show (h.val * 256 + d.val) / 256 = h.val; omega
  have h2 : (c256 h d).val % 256 = d.val := by show (h.val * 256 + d.val) % 256 = d.val; omega
  by_cases hd : d.val < 192
  · rw [dif_pos hd, dif_pos ⟨by omega, by omega⟩]
    unfold aQ
    simp only [h1, h2]
    rfl
  · rw [dif_neg hd, dif_neg (by omega)]
    exact zero_word

theorem X_v (c : Dev nD) (h : Fin 8) (r : Fin 8192) (e : Fin 128) : (inpAt m c (pt h)).v (ix2 r e) = aW m c h r e := by
  rw [in_v]
  unfold V
  after_reads_at
  have h1 : (c128 h e).val / 128 = h.val := by show (h.val * 128 + e.val) / 128 = h.val; omega
  have h2 : (c128 h e).val % 128 = e.val := by show (h.val * 128 + e.val) % 128 = e.val; omega
  unfold aW
  simp only [h1, h2]

theorem X_g (c : Dev nD) (h : Fin 8) (e : Fin 128) (r : Fin 8192) : (inpAt m c (pt h)).g (ix3 0 e r) = aD m c h r e := by
  rw [in_g]
  unfold V
  after_reads_at
  rfl

/-! ### One head -/

section
variable (c : Dev nD) (h : Fin 8)

theorem pw_eq (k r : Fin 8192) : pw (inpAt m c (pt h)) k r = Spec.kw (aQ m c h) (aK m c h) k r := by
  unfold pw Spec.kw sc
  rw [X_lse, ← Spec.sum_pad (fun d => aK m c h k d * (aQ m c h r d * Ideal.div Spec.scale Spec.ln2))]
  have hs : (∑ d : Fin 256, (inpAt m c (pt h)).k (ix2 k d) * (inpAt m c (pt h)).q (ix2 r d) : EReal)
      = ∑ d : Fin 256, if hd : d.val < 192 then aK m c h k ⟨d.val, hd⟩ * (aQ m c h r ⟨d.val, hd⟩ * Ideal.div Spec.scale Spec.ln2) else 0 := by
    refine Finset.sum_congr rfl fun d _ => ?_
    rw [X_k, X_q]
    by_cases hd : d.val < 192
    · rw [dif_pos hd, dif_pos hd, dif_pos hd]
    · rw [dif_neg hd, dif_neg hd, dif_neg hd, mul_zero]
  rw [hs]

theorem dsv_eq (k r : Fin 8192) : dsv (inpAt m c (pt h)) k r = Spec.kd (aQ m c h) (aK m c h) (aW m c h) (aD m c h) k r := by
  unfold dsv Spec.kd dpv
  rw [pw_eq, X_del]
  refine congrArg (fun z => _ * (z - _)) (Finset.sum_congr rfl fun e _ => ?_)
  rw [X_v, X_g]

end

/-! ### The operations after it -/

/-- What the buffers hold when the launch ends. -/
def U2 (c : Dev nD) : Valuation τ sig (Elt Ideal) := Pipeline.withArrays spec0 c (V0 m c) fun w => (dats m 0 c).arrAt w cfg0.N

theorem tail_two (c : Dev nD) (b : Ref sig .tc) :
    Pipeline.afterTail₀ cfgs (dats m) 0 (V0 m) [hostOps1] c b = StableHlo.after hostOps1 (U2 m c) (Proc.devRef .tc b) := rfl

theorem arr_inj : Function.Injective (Pipeline.arrRef spec0) := by decide

theorem u2_dq (c : Dev nD) : U2 m c (Proc.devRef .tc main_v50_0) = arrQ m c := (Pipeline.withArrays_arr spec0 arr_inj c (V0 m c) _ 6).trans (final6 m c)
theorem u2_dk (c : Dev nD) : U2 m c (Proc.devRef .tc main_v50_1) = arrK m c := (Pipeline.withArrays_arr spec0 arr_inj c (V0 m c) _ 7).trans (final7 m c)
theorem u2_dv (c : Dev nD) : U2 m c (Proc.devRef .tc main_v50_2) = arrV m c := (Pipeline.withArrays_arr spec0 arr_inj c (V0 m c) _ 8).trans (final8 m c)
theorem u2_v4 (c : Dev nD) : U2 m c (Proc.devRef .tc main_v4) = V m c main_v4 :=
  Pipeline.withArrays_of_ne spec0 c (V0 m c) _ main_v4 (by exact (by decide : ∀ w, Pipeline.arrRef spec0 w ≠ main_v4))

theorem tail_v63 (c : Dev nD) (h : Fin 8) (d : Fin 192) (r : Fin 8192) :
    Pipeline.afterTail₀ cfgs (dats m) 0 (V0 m) [hostOps1] c main_v63 (ix4 0 r h d) = Spec.kdq (aQ m c h) (aK m c h) (aW m c h) (aD m c h) r d := by
  rw [tail_two]
  after_reads_at
  rw [u2_dq]
  refine congrArg (· * Spec.scale) ((arrQ_col m c h r ⟨d.val, by omega⟩).trans ?_)
  rw [outQ_apply]
  refine Finset.sum_congr rfl fun k _ => ?_
  rw [dsv_eq, X_k, dif_pos d.isLt]

theorem tail_v64 (c : Dev nD) (h : Fin 8) (d : Fin 192) (r : Fin 8192) :
    Pipeline.afterTail₀ cfgs (dats m) 0 (V0 m) [hostOps1] c main_v64 (ix4 0 r h d) = Spec.kdk (aQ m c h) (aK m c h) (aW m c h) (aD m c h) r d := by
  rw [tail_two]
  after_reads_at
  rw [u2_dk, u2_v4, u_v4]
  refine congrArg (· * Spec.ln2) ((arrK_col m c h r ⟨d.val, by omega⟩).trans ?_)
  rw [outK_apply]
  refine Finset.sum_congr rfl fun k _ => ?_
  rw [dsv_eq, X_q, dif_pos d.isLt]

theorem tail_v65 (c : Dev nD) (h : Fin 8) (e : Fin 128) (r : Fin 8192) :
    Pipeline.afterTail₀ cfgs (dats m) 0 (V0 m) [hostOps1] c main_v65 (ix4 0 r h e) = Spec.kdv (aQ m c h) (aK m c h) (aD m c h) r e := by
  rw [tail_two]
  after_reads_at
  rw [u2_dv]
  refine (arrV_col m c h r e).trans ?_
  rw [outV_apply]
  refine Finset.sum_congr rfl fun k _ => ?_
  rw [pw_eq, X_g]

/-! ### The run -/

theorem run_values (ρ : Dev nD → PrngReg) : θ_run defs (onTc (τ := τ) (main (F := Ideal))) ⟨m, fun _ => 0, ρ⟩ (fun r => ∀ c : Dev nD,
      r.2.mem ((c.tc : Thread nD τ).loc main_v63) = Pipeline.afterTail₀ cfgs (dats m) 0 (V0 m) [hostOps1] c main_v63
      ∧ r.2.mem ((c.tc : Thread nD τ).loc main_v64) = Pipeline.afterTail₀ cfgs (dats m) 0 (V0 m) [hostOps1] c main_v64
      ∧ r.2.mem ((c.tc : Thread nD τ).loc main_v65) = Pipeline.afterTail₀ cfgs (dats m) 0 (V0 m) [hostOps1] c main_v65
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).2 main_v63 (Pipeline.mem_restRefs_of main_v63 (by decide) (by decide)),
      (h c).2 main_v64 (Pipeline.mem_restRefs_of main_v64 (by decide) (by decide)),
      (h c).2 main_v65 (Pipeline.mem_restRefs_of main_v65 (by decide) (by decide)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩) (run_main m ρ)

end Cert.Proof.KernelIdeal

end
-- ==== Proof.RefSpec.lean ====
/-
  One head of the attention's gradient over the extended reals, as the reference computes it: the derivative of the quotient.
-/
module

public import proofs.«01_k».proof.Proof.Spec

@[expose] public section

noncomputable section

namespace Cert.Proof.Spec

open Idealize.ShloMosaic

variable (Q K : Fin 8192 → Fin 192 → EReal) (W D : Fin 8192 → Fin 128 → EReal)

/-- The cotangent of a weight, and that of a row's sum of exponentials. -/
def rt (r k : Fin 8192) : EReal := ∑ e, D r e * W k e
def rn (r : Fin 8192) : EReal := -∑ k, rt W D r k * Ideal.div 1 (tot Q K r * tot Q K r) * ex Q K r k

/-- The scores' gradient, and the three results. -/
def rd (r k : Fin 8192) : EReal :=
  if k ≤ r then (Ideal.div (rt W D r k) (tot Q K r) + rn Q K W D r) * ex Q K r k * scale else 0
def rdq (r : Fin 8192) (d : Fin 192) : EReal := ∑ k, rd Q K W D r k * K k d
def rdk (k : Fin 8192) (d : Fin 192) : EReal := ∑ r, rd Q K W D r k * Q r d
def rdv (k : Fin 8192) (e : Fin 128) : EReal := ∑ r, D r e * Ideal.div (ex Q K r k) (tot Q K r)

end Cert.Proof.Spec

end
-- ==== Proof.Ref.lean ====
/-
  The reference's three results, read at an index.
-/
module

public import proofs.«01_k».proof.Proof.Gen.ReferenceIdeal.Read
public import proofs.«01_k».proof.Proof.RefSpec

@[expose] public section

noncomputable section

namespace Cert.Proof.ReferenceIdeal

open Cert.ReferenceIdeal Cert.ReferenceIdeal.Read
open Idealize.ShloMosaic Idealize.ShloMosaic.TcCoe Idealize.ShloMosaic.Pointwise

variable (x0 x1 : (⟨S1x8192x8x192, .bf16⟩ : BufTy).Contents (Elt Ideal)) (x2 x3 : (⟨S1x8192x8x128, .bf16⟩ : BufTy).Contents (Elt Ideal))

/-- One head of an argument. -/
def hd192 (x : (⟨S1x8192x8x192, .bf16⟩ : BufTy).Contents (Elt Ideal)) (h : Fin 8) (r : Fin 8192) (d : Fin 192) : EReal := x (ix4 0 r h d)
def hd128 (x : (⟨S1x8192x8x128, .bf16⟩ : BufTy).Contents (Elt Ideal)) (h : Fin 8) (r : Fin 8192) (e : Fin 128) : EReal := x (ix4 0 r h e)

theorem ofBits_neg_inf : Ideal.ofBits .f32 0xFF800000#32 = ⊥ := by
  simp [Ideal.ofBits, Ideal.ieee]

/-- A row's maximum. -/
def mxR (X : FVec Ideal S1x8x8192x8192 .f32) : FVec Ideal S1x8x8192 .f32 :=
  Host.reduce (FloatOps.maximumf (F := Ideal) (φ := .f32)) X (constant (F := Ideal) S_ .f32 4286578688#32) Gen.reducesTo_S1x8x8192x8192_S1x8x8192_d3 Gen.h_S_

theorem mxR_at (X : FVec Ideal S1x8x8192x8192 .f32) (h : Fin 8) (r : Fin 8192) :
    (mxR X (ix3 0 h r) : EReal) = Finset.univ.fold max (Ideal.ofBits .f32 0xFF800000#32) (fun k : Fin 8192 => (X (ix4 0 h r k) : EReal)) := by
  pointwise [mxR]

theorem v15_eq : val_main_v15 (F := Ideal) x0 x1 = mxR (val_main_v14_0 (F := Ideal) x0 x1) := by
  unfold val_main_v15 mxR val_main_cst_1
  rfl

/-- A sum over two axes of size one. -/
theorem sum_unit (x : S1x8x8192x1.Idx → EReal) (h : Fin 8) (r : Fin 8192) :
    Ideal.hostReduceAdd Gen.reducesTo_S1x8x8192x1_S8x8192_d0_3 x 0 (ix2 h r) = x (ix4 0 h r 0) := by
  unfold Ideal.hostReduceAdd
  have hs : (Finset.univ.filter fun i => Gen.reducesTo_S1x8x8192x1_S8x8192_d0_3.drop i = ix2 h r) = {ix4 0 h r 0} := by
    refine Finset.ext fun i => ?_
    rw [Finset.mem_filter, Finset.mem_singleton]
    refine ⟨fun hi => ?_, fun hi => ⟨Finset.mem_univ _, ?_⟩⟩
    · have h1 : i 1 = h := Fin.ext (congrArg (fun j : S8x8192.Idx => (j 0).val) hi.2)
      have h2 : i 2 = r := Fin.ext (congrArg (fun j : S8x8192.Idx => (j 1).val) hi.2)
      funext a
      match a with
      | ⟨0, _⟩ => exact Subsingleton.elim (α := Fin 1) _ _
      | ⟨1, _⟩ => exact h1
      | ⟨2, _⟩ => exact h2
      | ⟨3, _⟩ => exact Subsingleton.elim (α := Fin 1) _ _
    · subst hi
      funext a
      match a with
      | ⟨0, _⟩ => rfl
      | ⟨1, _⟩ => rfl
  rw [hs, Finset.sum_singleton, zero_add]

theorem sel {x y : EReal} (k r : Fin 8192) :
    Scalar.select (IntOp.cmpi CmpIPredicate.sle (BitVec.ofNat 32 k.val) (BitVec.ofNat 32 r.val)) x y = if k ≤ r then x else y := by
  rw [Spec.le_word]
  by_cases h : k ≤ r
  · rw [if_pos h, if_pos h]; rfl
  · rw [if_neg h, if_neg h]; rfl

/-! ### The exponentials -/

theorem sm_at (h : Fin 8) (r k : Fin 8192) :
    (val_main_v14_0 (F := Ideal) x0 x1 (ix4 0 h r k) : EReal) = Spec.sm (hd192 x0 h) (hd192 x1 h) r k := by
  pointwise [val_main_v14_0, val_main_v14_1, val_main_v13, val_main_v12, val_main_v11, val_main_v10, val_main_v9, val_main_v8, val_main_v7,
    val_main_v6, val_main_v5, val_main_v4, val_main_v3, val_main_v2, val_main_v1, val_main_v0, val_main_cst, val_main_call0_v2, val_main_call0_v0, val_main_cst_0]
  refine (sel k r).trans ?_
  unfold Spec.sm
  refine congrArg₂ (fun x y : EReal => if k ≤ r then x else y) rfl ofBits_neg_inf

theorem max_at (X Y : FVec Ideal S1x8x8192 .f32) (h : Fin 8) (r : Fin 8192) :
    (maximumf X Y (ix3 0 h r) : EReal) = max (X (ix3 0 h r) : EReal) (Y (ix3 0 h r) : EReal) := by
  pointwise []

theorem v21_at (h : Fin 8) (r : Fin 8192) : (val_main_v21 (F := Ideal) (ix3 0 h r) : EReal) = Ideal.ofBits .f32 0xFF800000#32 := by
  pointwise [val_main_v21, val_main_cst_3]

theorem v22_eq : val_main_v22 (F := Ideal) x0 x1 = maximumf (val_main_v21 (F := Ideal)) (mxR (val_main_v14_0 (F := Ideal) x0 x1)) := by
  rw [← v15_eq]
  unfold val_main_v22
  rfl

theorem top_at (h : Fin 8) (r : Fin 8192) : (val_main_v22 (F := Ideal) x0 x1 (ix3 0 h r) : EReal) = Spec.top (hd192 x0 h) (hd192 x1 h) r := by
  rw [v22_eq, max_at, v21_at, mxR_at, ofBits_neg_inf, bot_sup_eq]
  unfold Spec.top
  exact congrArg (fun f => Finset.univ.fold max (⊥ : EReal) f) (funext fun k => sm_at x0 x1 h r k)

theorem v35_at (h : Fin 8) (r k : Fin 8192) : (val_main_v35 (F := Ideal) x0 x1 (ix4 0 h r k) : EReal) =
    Ideal.exp ((val_main_v14_0 (F := Ideal) x0 x1 (ix4 0 h r k) : EReal) - (val_main_v22 (F := Ideal) x0 x1 (ix3 0 h r) : EReal)) := by
  pointwise [val_main_v35, val_main_v34, val_main_v33, val_main_v32]

theorem ex_at (h : Fin 8) (r k : Fin 8192) : (val_main_v35 (F := Ideal) x0 x1 (ix4 0 h r k) : EReal) = Spec.ex (hd192 x0 h) (hd192 x1 h) r k := by
  rw [v35_at, sm_at, top_at]
  rfl

theorem v37_at (h : Fin 8) (r : Fin 8192) : (val_main_v37 (F := Ideal) x0 x1 (ix4 0 h r 0) : EReal) =
    ∑ k : Fin 8192, (val_main_v35 (F := Ideal) x0 x1 (ix4 0 h r k) : EReal) := by
  pointwise [val_main_v37, val_main_v36, val_main_cst_9]

theorem tot_at (h : Fin 8) (r : Fin 8192) : (val_main_v37 (F := Ideal) x0 x1 (ix4 0 h r 0) : EReal) = Spec.tot (hd192 x0 h) (hd192 x1 h) r := by
  rw [v37_at]
  exact Finset.sum_congr rfl fun k _ => ex_at x0 x1 h r k

/-! ### The gradients -/

theorem v54_at (h : Fin 8) (k : Fin 8192) (e : Fin 128) : (val_main_v54 (F := Ideal) x0 x1 x3 (ix4 0 k h e) : EReal) =
    ∑ r : Fin 8192, (x3 (ix4 0 r h e) : EReal) * Ideal.div (val_main_v35 (F := Ideal) x0 x1 (ix4 0 h r k) : EReal) (val_main_v37 (F := Ideal) x0 x1 (ix4 0 h r 0) : EReal) := by
  pointwise [val_main_v54, val_main_v53, val_main_v52, val_main_v50, val_main_v49, val_main_v44, val_main_v43, val_main_v39, val_main_v38]

theorem dv_at (h : Fin 8) (k : Fin 8192) (e : Fin 128) :
    (val_main_v54 (F := Ideal) x0 x1 x3 (ix4 0 k h e) : EReal) = Spec.rdv (hd192 x0 h) (hd192 x1 h) (hd128 x3 h) k e := by
  rw [v54_at]
  exact Finset.sum_congr rfl fun r _ => by rw [ex_at, tot_at]; rfl

theorem rt_at (h : Fin 8) (r k : Fin 8192) : (val_main_v56 (F := Ideal) x2 x3 (ix4 0 h r k) : EReal) = Spec.rt (hd128 x2 h) (hd128 x3 h) r k := by
  pointwise [val_main_v56, val_main_v55, val_main_v51, val_main_v50, val_main_v49, val_main_v45]
  rfl

theorem v62_at (h : Fin 8) (r : Fin 8192) : (val_main_v62 (F := Ideal) x0 x1 x2 x3 (ix4 0 h r 0) : EReal) =
    -∑ k : Fin 8192, (val_main_v56 (F := Ideal) x2 x3 (ix4 0 h r k) : EReal) *
      Ideal.div 1 ((val_main_v37 (F := Ideal) x0 x1 (ix4 0 h r 0) : EReal) * (val_main_v37 (F := Ideal) x0 x1 (ix4 0 h r 0) : EReal)) *
      (val_main_v35 (F := Ideal) x0 x1 (ix4 0 h r k) : EReal) := by
  pointwise [val_main_v62, val_main_v61, val_main_v60, val_main_v59, val_main_v58, val_main_v57, val_main_v42, val_main_v41, val_main_v40, val_main_cst_10, val_main_cst_11]

theorem rn_at (h : Fin 8) (r : Fin 8192) :
    (val_main_v62 (F := Ideal) x0 x1 x2 x3 (ix4 0 h r 0) : EReal) = Spec.rn (hd192 x0 h) (hd192 x1 h) (hd128 x2 h) (hd128 x3 h) r := by
  rw [v62_at, tot_at]
  exact congrArg Neg.neg (Finset.sum_congr rfl fun k _ => by rw [ex_at, rt_at])

theorem rm_at (h : Fin 8) (r : Fin 8192) :
    (val_main_v65 (F := Ideal) x0 x1 x2 x3 (ix2 h r) : EReal) = Spec.rn (hd192 x0 h) (hd192 x1 h) (hd128 x2 h) (hd128 x3 h) r := by
  pointwise [val_main_v65, val_main_cst_12]
  exact (sum_unit _ h r).trans (rn_at x0 x1 x2 x3 h r)

theorem v74_at (h : Fin 8) (r k : Fin 8192) : (val_main_v74 (F := Ideal) x0 x1 x2 x3 (ix4 0 h r k) : EReal) =
    if k ≤ r then (Ideal.div (val_main_v56 (F := Ideal) x2 x3 (ix4 0 h r k) : EReal) (val_main_v37 (F := Ideal) x0 x1 (ix4 0 h r 0) : EReal) +
      (val_main_v65 (F := Ideal) x0 x1 x2 x3 (ix2 h r) : EReal)) * (val_main_v35 (F := Ideal) x0 x1 (ix4 0 h r k) : EReal) * Spec.scale else 0 := by
  pointwise [val_main_v74, val_main_v73, val_main_v72, val_main_v71, val_main_v70, val_main_v69, val_main_v68, val_main_v67, val_main_v66, val_main_v64, val_main_v63,
    val_main_v14_1, val_main_v13, val_main_v12, val_main_v11, val_main_v10, val_main_v9, val_main_v8, val_main_v7, val_main_call1_v0, val_main_call1_cst, val_main_cst_13]
  exact sel k r

theorem rd_at (h : Fin 8) (r k : Fin 8192) :
    (val_main_v74 (F := Ideal) x0 x1 x2 x3 (ix4 0 h r k) : EReal) = Spec.rd (hd192 x0 h) (hd192 x1 h) (hd128 x2 h) (hd128 x3 h) r k := by
  rw [v74_at, rt_at, tot_at, rm_at, ex_at]
  rfl

theorem v80_at (h : Fin 8) (r : Fin 8192) (d : Fin 192) : (val_main_v80 (F := Ideal) x0 x1 x2 x3 (ix4 0 r h d) : EReal) =
    ∑ k : Fin 8192, (val_main_v74 (F := Ideal) x0 x1 x2 x3 (ix4 0 h r k) : EReal) * (x1 (ix4 0 k h d) : EReal) := by
  pointwise [val_main_v80, val_main_v78, val_main_v77, val_main_v1]

theorem dq_at (h : Fin 8) (r : Fin 8192) (d : Fin 192) :
    (val_main_v80 (F := Ideal) x0 x1 x2 x3 (ix4 0 r h d) : EReal) = Spec.rdq (hd192 x0 h) (hd192 x1 h) (hd128 x2 h) (hd128 x3 h) r d := by
  rw [v80_at]
  exact Finset.sum_congr rfl fun k _ => by rw [rd_at]; rfl

theorem v79_at (h : Fin 8) (k : Fin 8192) (d : Fin 192) : (val_main_v79 (F := Ideal) x0 x1 x2 x3 (ix4 0 k h d) : EReal) =
    ∑ r : Fin 8192, (val_main_v74 (F := Ideal) x0 x1 x2 x3 (ix4 0 h r k) : EReal) * (x0 (ix4 0 r h d) : EReal) := by
  pointwise [val_main_v79, val_main_v76, val_main_v75, val_main_v0]

theorem dk_at (h : Fin 8) (k : Fin 8192) (d : Fin 192) :
    (val_main_v79 (F := Ideal) x0 x1 x2 x3 (ix4 0 k h d) : EReal) = Spec.rdk (hd192 x0 h) (hd192 x1 h) (hd128 x2 h) (hd128 x3 h) k d := by
  rw [v79_at]
  exact Finset.sum_congr rfl fun r _ => by rw [rd_at]; rfl

end Cert.Proof.ReferenceIdeal

end
-- ==== Proof.Math.lean ====
/-
  On finite arguments the kernel's gradient is the reference's, a head at a time: both are one formula over the reals.
-/
module

public import proofs.«01_k».proof.Proof.RefSpec

@[expose] public section

noncomputable section

namespace Cert.Proof.Spec

open Idealize.ShloMosaic

/-! ### Real numbers among the extended reals -/

theorem coe_sum' {ι : Type} [Fintype ι] (f : ι → ℝ) : (∑ i, (f i : EReal)) = ((∑ i, f i : ℝ) : EReal) := by
  classical
  induction (Finset.univ : Finset ι) using Finset.induction_on with
  | empty => simp
  | insert a s ha ih => rw [Finset.sum_insert ha, Finset.sum_insert ha, ih, EReal.coe_add]

theorem div_real (x : ℝ) {y : ℝ} (h : y ≠ 0) : Ideal.div (x : EReal) (y : EReal) = ((x / y : ℝ) : EReal) := by
  rw [Ideal.div_coe h, ← EReal.coe_mul, mul_one_div]

theorem scale_real : ∃ σ : ℝ, scale = (σ : EReal) := by
  unfold scale
  simp only [Ideal.ofBits, Ideal.ieee]
  exact ⟨_, rfl⟩

theorem ln2_real : ln2 = (Real.log 2 : EReal) := by
  have h : Ideal.ofBits .f32 0x40000000#32 = ((2 : ℝ) : EReal) := by
    simp [Ideal.ofBits, Ideal.ieee]
    rw [← EReal.coe_mul]
    norm_num
  unfold ln2
  rw [h, Ideal.log_coe, if_neg (by norm_num)]

theorem log2_ne : Real.log 2 ≠ 0 := (Real.log_pos (by norm_num)).ne'

/-! ### The formula over the reals -/

variable (q k : Fin 8192 → Fin 192 → ℝ) (w o : Fin 8192 → Fin 128 → ℝ) (σ T : ℝ) (t : Fin 8192 → ℝ)

def xs (r c : Fin 8192) : ℝ := (∑ d, q r d * k c d) * σ
def xe (r c : Fin 8192) : ℝ := if c ≤ r then Real.exp (xs q k σ r c - t r) else 0
def xl (r : Fin 8192) : ℝ := ∑ c, xe q k σ t r c
def xt (r c : Fin 8192) : ℝ := ∑ e, o r e * w c e
def xm (r : Fin 8192) : ℝ := ∑ c, xt w o r c * xe q k σ t r c
def xd (r c : Fin 8192) : ℝ := xe q k σ t r c / xl q k σ t r * (xt w o r c - xm q k w o σ t r / xl q k σ t r)

theorem xe_nonneg (r c : Fin 8192) : 0 ≤ xe q k σ t r c := by
  unfold xe
  by_cases h : c ≤ r
  · rw [if_pos h]; exact (Real.exp_pos _).le
  · rw [if_neg h]

theorem xl_pos (r : Fin 8192) : 0 < xl q k σ t r := by
  refine lt_of_lt_of_le (b := xe q k σ t r r) ?_ (Finset.single_le_sum (fun c _ => xe_nonneg q k σ t r c) (Finset.mem_univ r))
  unfold xe
  rw [if_pos le_rfl]
  exact Real.exp_pos _

/-! ### The shared values -/

section
variable {Q K : Fin 8192 → Fin 192 → EReal} {W D : Fin 8192 → Fin 128 → EReal} {q k w o σ t}
variable (hQ : ∀ r d, Q r d = (q r d : EReal)) (hK : ∀ r d, K r d = (k r d : EReal))
variable (hW : ∀ r e, W r e = (w r e : EReal)) (hD : ∀ r e, D r e = (o r e : EReal)) (hσ : scale = (σ : EReal))

include hQ hK hσ

theorem sm_real (r c : Fin 8192) : sm Q K r c = if c ≤ r then (xs q k σ r c : EReal) else ⊥ := by
  unfold sm xs
  by_cases h : c ≤ r
  · rw [if_pos h, if_pos h, EReal.coe_mul, ← coe_sum', hσ]
    simp only [hQ, hK, EReal.coe_mul]
  · rw [if_neg h, if_neg h]

theorem top_real (r : Fin 8192) : ∃ T : ℝ, top Q K r = (T : EReal) := by
  have h1 : top Q K r ≠ ⊤ := by
    refine ne_of_lt ?_
    unfold top
    rw [Finset.fold_max_lt]
    refine ⟨bot_lt_top, fun c _ => ?_⟩
    rw [sm_real hQ hK hσ]
    by_cases h : c ≤ r
    · rw [if_pos h]; exact EReal.coe_lt_top _
    · rw [if_neg h]; exact bot_lt_top
  have h2 : top Q K r ≠ ⊥ := by
    refine ne_of_gt (lt_of_lt_of_le (EReal.bot_lt_coe (xs q k σ r r)) ?_)
    unfold top
    rw [Finset.le_fold_max]
    refine Or.inr ⟨r, Finset.mem_univ r, ?_⟩
    rw [sm_real hQ hK hσ, if_pos le_rfl]
  exact ⟨(top Q K r).toReal, (EReal.coe_toReal h1 h2).symm⟩

variable (ht : ∀ r, top Q K r = (t r : EReal))
include ht

theorem ex_real (r c : Fin 8192) : ex Q K r c = (xe q k σ t r c : EReal) := by
  unfold ex xe
  rw [sm_real hQ hK hσ, ht]
  by_cases h : c ≤ r
  · rw [if_pos h, if_pos h, ← EReal.coe_sub, Ideal.exp_coe]
  · rw [if_neg h, if_neg h, EReal.bot_sub, Ideal.exp_bot, EReal.coe_zero]

theorem tot_real (r : Fin 8192) : tot Q K r = (xl q k σ t r : EReal) := by
  unfold tot xl
  simp only [ex_real hQ hK hσ ht]
  exact coe_sum' _

theorem quot_real (r c : Fin 8192) : Ideal.div (ex Q K r c) (tot Q K r) = ((xe q k σ t r c / xl q k σ t r : ℝ) : EReal) := by
  rw [ex_real hQ hK hσ ht, tot_real hQ hK hσ ht, div_real _ (xl_pos q k σ t r).ne']

theorem lse_real (r : Fin 8192) : lse Q K r = (((t r + Real.log (xl q k σ t r)) / Real.log 2 : ℝ) : EReal) := by
  unfold lse
  rw [tot_real hQ hK hσ ht, ht, ln2_real, Ideal.log_coe, if_neg (not_le.mpr (xl_pos q k σ t r)), ← EReal.coe_add, div_real _ log2_ne]

theorem kw_real (c r : Fin 8192) : kw Q K c r = ((xe q k σ t r c / xl q k σ t r : ℝ) : EReal) := by
  have hl := xl_pos q k σ t r
  unfold kw
  by_cases h : c ≤ r
  · rw [if_pos h, lse_real hQ hK hσ ht, hσ, ln2_real, div_real _ log2_ne]
    simp only [hQ, hK, ← EReal.coe_mul]
    rw [coe_sum', ← EReal.coe_sub, Ideal.exp2_coe]
    refine congrArg _ ?_
    have hs : ∑ d, k c d * (q r d * (σ / Real.log 2)) = xs q k σ r c / Real.log 2 := by
      unfold xs
      rw [Finset.sum_mul, Finset.sum_div]
      exact Finset.sum_congr rfl fun d _ => by ring
    rw [hs, ← sub_div]
    show (2 : ℝ) ^ (_ : ℝ) = _
    rw [Real.rpow_def_of_pos (by norm_num), mul_div_cancel₀ _ log2_ne]
    unfold xe
    rw [if_pos h, ← sub_sub, Real.exp_sub, Real.exp_log hl]
  · rw [if_neg h]
    unfold xe
    rw [if_neg h, zero_div, EReal.coe_zero]

/-! ### The two results for the values -/

theorem kdv_eq (c : Fin 8192) (e : Fin 128) : kdv Q K D c e = rdv Q K D c e := by
  unfold kdv rdv
  exact Finset.sum_congr rfl fun r _ => by rw [kw_real hQ hK hσ ht, quot_real hQ hK hσ ht]

include hW hD

theorem rt_real (r c : Fin 8192) : rt W D r c = (xt w o r c : EReal) := by
  unfold rt xt
  simp only [hW, hD, ← EReal.coe_mul]
  exact coe_sum' _

theorem del_real (r : Fin 8192) : del Q K W D r = ((xm q k w o σ t r / xl q k σ t r : ℝ) : EReal) := by
  unfold del
  simp only [quot_real hQ hK hσ ht, hW, hD, ← EReal.coe_mul, coe_sum']
  refine congrArg _ ?_
  unfold xm xt
  simp only [Finset.mul_sum, Finset.sum_mul, Finset.sum_div]
  rw [Finset.sum_comm]
  exact Finset.sum_congr rfl fun c _ => Finset.sum_congr rfl fun e _ => by ring

theorem rn_real (r : Fin 8192) :
    rn Q K W D r = ((-(xm q k w o σ t r / (xl q k σ t r * xl q k σ t r)) : ℝ) : EReal) := by
  have hl := (xl_pos q k σ t r).ne'
  unfold rn
  rw [tot_real hQ hK hσ ht, ← EReal.coe_mul, ← EReal.coe_one, div_real _ (mul_ne_zero hl hl)]
  simp only [ex_real hQ hK hσ ht, rt_real hQ hK hW hD hσ ht, ← EReal.coe_mul, coe_sum', ← EReal.coe_neg]
  refine congrArg _ (congrArg _ ?_)
  unfold xm
  rw [Finset.sum_div]
  exact Finset.sum_congr rfl fun c _ => by ring

theorem kd_real (c r : Fin 8192) : kd Q K W D c r = (xd q k w o σ t r c : EReal) := by
  unfold kd
  rw [kw_real hQ hK hσ ht, del_real hQ hK hW hD hσ ht]
  simp only [hW, hD, ← EReal.coe_mul, coe_sum', ← EReal.coe_sub]
  refine congrArg _ ?_
  unfold xd xt
  refine congrArg₂ _ rfl (congrArg₂ _ (Finset.sum_congr rfl fun e _ => mul_comm _ _) rfl)

theorem rd_real (r c : Fin 8192) : rd Q K W D r c = ((xd q k w o σ t r c * σ : ℝ) : EReal) := by
  have hl := (xl_pos q k σ t r).ne'
  unfold rd
  by_cases h : c ≤ r
  · rw [if_pos h, tot_real hQ hK hσ ht, ex_real hQ hK hσ ht, rt_real hQ hK hW hD hσ ht, rn_real hQ hK hW hD hσ ht, div_real _ hl, hσ,
      ← EReal.coe_add, ← EReal.coe_mul, ← EReal.coe_mul]
    refine congrArg _ ?_
    unfold xd
    field_simp
    ring
  · rw [if_neg h]
    unfold xd xe
    rw [if_neg h, zero_div, zero_mul, zero_mul, EReal.coe_zero]

theorem kdq_eq (r : Fin 8192) (d : Fin 192) : kdq Q K W D r d = rdq Q K W D r d := by
  unfold kdq rdq
  simp only [kd_real hQ hK hW hD hσ ht, rd_real hQ hK hW hD hσ ht, hK, hσ, ← EReal.coe_mul, coe_sum']
  refine congrArg _ ?_
  rw [Finset.sum_mul]
  exact Finset.sum_congr rfl fun c _ => by ring

theorem kdk_eq (c : Fin 8192) (d : Fin 192) : kdk Q K W D c d = rdk Q K W D c d := by
  have h2 := log2_ne
  unfold kdk rdk
  simp only [kd_real hQ hK hW hD hσ ht, rd_real hQ hK hW hD hσ ht, hQ, hσ, ln2_real, div_real _ h2, ← EReal.coe_mul, coe_sum']
  refine congrArg _ ?_
  rw [Finset.sum_mul]
  exact Finset.sum_congr rfl fun r _ => by field_simp

end

/-! ### On finite arguments -/

theorem real_of {a b : Type} {f : a → b → EReal} (h : ∀ x y, f x y ≠ ⊤ ∧ f x y ≠ ⊥) : ∃ g : a → b → ℝ, ∀ x y, f x y = (g x y : EReal) :=
  ⟨fun x y => (f x y).toReal, fun x y => (EReal.coe_toReal (h x y).1 (h x y).2).symm⟩

/-- The kernel's three results are the reference's. -/
theorem results_eq {Q K : Fin 8192 → Fin 192 → EReal} {W D : Fin 8192 → Fin 128 → EReal}
    (hQ : ∀ r d, Q r d ≠ ⊤ ∧ Q r d ≠ ⊥) (hK : ∀ r d, K r d ≠ ⊤ ∧ K r d ≠ ⊥)
    (hW : ∀ r e, W r e ≠ ⊤ ∧ W r e ≠ ⊥) (hD : ∀ r e, D r e ≠ ⊤ ∧ D r e ≠ ⊥) :
    kdq Q K W D = rdq Q K W D ∧ kdk Q K W D = rdk Q K W D ∧ kdv Q K D = rdv Q K D := by
  obtain ⟨q, hq⟩ := real_of hQ
  obtain ⟨k, hk⟩ := real_of hK
  obtain ⟨w, hw⟩ := real_of hW
  obtain ⟨o, ho⟩ := real_of hD
  obtain ⟨σ, hσ⟩ := scale_real
  obtain ⟨t, ht⟩ := Classical.axiomOfChoice (top_real hq hk hσ)
  exact ⟨funext fun r => funext fun d => kdq_eq hq hk hw ho hσ ht r d, funext fun c => funext fun d => kdk_eq hq hk hw ho hσ ht c d,
    funext fun c => funext fun e => kdv_eq hq hk hσ ht c e⟩

end Cert.Proof.Spec

end
-- ==== Proof.Finite.lean ====
/-
  What the precondition says of an argument's element: it is a real number.
-/
module

public import proofs.«01_k».proof.Pre_finite
public import Idealize.ShloMosaic.Lib.Pointwise

@[expose] public section

noncomputable section

namespace Cert.Proof.Finite

open Cert.Pre_finite
open Idealize.ShloMosaic Idealize.ShloMosaic.Pointwise

theorem facts : Cert.Pre_finite.Facts where
  bitsLt_bf16_f32 := by decide
  bcast_S_S1x8192x8x192 := by decide
  bcast_S_S1x8192x8x128 := by decide

attribute [local instance] facts

variable (x0 x1 : FVec Ideal S1x8192x8x192 .bf16) (x2 x3 : FVec Ideal S1x8192x8x128 .bf16)

theorem of_word {x : EReal} (h : BitVec.ofBool (decide (FloatOps.absf (F := Ideal) (φ := .f32) x < Ideal.ofBits .f32 0x7F800000#32)) = 1#1) :
    x ≠ ⊤ ∧ x ≠ ⊥ := by
  have h1 : FloatOps.absf (F := Ideal) (φ := .f32) x < ⊤ := by
    refine lt_of_lt_of_le ?_ le_top (b := Ideal.ofBits .f32 0x7F800000#32)
    by_contra hn
    rw [decide_eq_false hn] at h
    exact absurd h (by decide)
  constructor <;> rintro rfl <;> exact absurd h1 (by decide +revert)

theorem at_0 (h : Fin 8) (r : Fin 8192) (d : Fin 192) (e : (fn (F := Ideal) x0 x1 x2 x3).1 = fun _ => 1#1) :
    (x0 (ix4 0 r h d) : EReal) ≠ ⊤ ∧ (x0 (ix4 0 r h d) : EReal) ≠ ⊥ := by
  have e' := congrFun e (ix4 0 r h d)
  revert e'
  pointwise [fn]
  exact of_word

theorem at_1 (h : Fin 8) (r : Fin 8192) (d : Fin 192) (e : (fn (F := Ideal) x0 x1 x2 x3).2.1 = fun _ => 1#1) :
    (x1 (ix4 0 r h d) : EReal) ≠ ⊤ ∧ (x1 (ix4 0 r h d) : EReal) ≠ ⊥ := by
  have e' := congrFun e (ix4 0 r h d)
  revert e'
  pointwise [fn]
  exact of_word

theorem at_2 (h : Fin 8) (r : Fin 8192) (d : Fin 128) (e : (fn (F := Ideal) x0 x1 x2 x3).2.2.1 = fun _ => 1#1) :
    (x2 (ix4 0 r h d) : EReal) ≠ ⊤ ∧ (x2 (ix4 0 r h d) : EReal) ≠ ⊥ := by
  have e' := congrFun e (ix4 0 r h d)
  revert e'
  pointwise [fn]
  exact of_word

theorem at_3 (h : Fin 8) (r : Fin 8192) (d : Fin 128) (e : (fn (F := Ideal) x0 x1 x2 x3).2.2.2 = fun _ => 1#1) :
    (x3 (ix4 0 r h d) : EReal) ≠ ⊤ ∧ (x3 (ix4 0 r h d) : EReal) ≠ ⊥ := by
  have e' := congrFun e (ix4 0 r h d)
  revert e'
  pointwise [fn]
  exact of_word

end Cert.Proof.Finite

end
-- ==== Proof.Values.lean ====
/-
  The kernel's three results are the reference's.
-/
module

public import proofs.«01_k».proof.Defs
public import proofs.«01_k».proof.Proof.KernelIdeal.Prep
public import proofs.«01_k».proof.Proof.Ref
public import proofs.«01_k».proof.Proof.Math
public import proofs.«01_k».proof.Proof.Finite
public import proofs.«01_k».proof.Proof.Gen.ReferenceIdeal.Run

@[expose] public section

noncomputable section

namespace Cert.Proof

open Cert.KernelIdeal Cert.KernelIdeal.Gen
open Idealize.ShloMosaic Idealize.ShloMosaic.TcCoe Idealize.ShloMosaic.Pointwise Idealize.SL.Sem

/-- An index of an array of one batch, by its row, head and lane. -/
theorem ix4_of {n k l : ℕ} (y : (a : Fin 4) → Fin (![1, n, k, l] a)) : y = ix4 (0 : Fin 1) (y 1 : Fin n) (y 2 : Fin k) (y 3 : Fin l) := by
  funext a
  match a with
  | ⟨0, _⟩ => exact Subsingleton.elim (α := Fin 1) _ _
  | ⟨1, _⟩ => rfl
  | ⟨2, _⟩ => rfl
  | ⟨3, _⟩ => rfl

variable (m : (ℓ : Loc nD τ sig) → Buf (Elt Ideal) ℓ)

/-- The arguments of a device, as arrays. -/
abbrev b0 (c : Dev nD) : (⟨Cert.ReferenceIdeal.S1x8192x8x192, .bf16⟩ : BufTy).Contents (Elt Ideal) := m ((c.tc : Thread nD τ).loc main_arg0)
abbrev b1 (c : Dev nD) : (⟨Cert.ReferenceIdeal.S1x8192x8x192, .bf16⟩ : BufTy).Contents (Elt Ideal) := m ((c.tc : Thread nD τ).loc main_arg1)
abbrev b2 (c : Dev nD) : (⟨Cert.ReferenceIdeal.S1x8192x8x128, .bf16⟩ : BufTy).Contents (Elt Ideal) := m ((c.tc : Thread nD τ).loc main_arg2)
abbrev b3 (c : Dev nD) : (⟨Cert.ReferenceIdeal.S1x8192x8x128, .bf16⟩ : BufTy).Contents (Elt Ideal) := m ((c.tc : Thread nD τ).loc main_arg3)

abbrev w0 (c : Dev nD) : (⟨Cert.ReferenceIdeal.S1x8192x8x192, .bf16⟩ : BufTy).Contents (Elt Ideal) :=
  Cert.ReferenceIdeal.Read.val_main_v80 (F := Ideal) (b0 m c) (b1 m c) (b2 m c) (b3 m c)
abbrev w1 (c : Dev nD) : (⟨Cert.ReferenceIdeal.S1x8192x8x192, .bf16⟩ : BufTy).Contents (Elt Ideal) :=
  Cert.ReferenceIdeal.Read.val_main_v79 (F := Ideal) (b0 m c) (b1 m c) (b2 m c) (b3 m c)
abbrev w2 (c : Dev nD) : (⟨Cert.ReferenceIdeal.S1x8192x8x128, .bf16⟩ : BufTy).Contents (Elt Ideal) :=
  Cert.ReferenceIdeal.Read.val_main_v54 (F := Ideal) (b0 m c) (b1 m c) (b3 m c)

theorem heads_eq (hm : Cert.Pre_KernelIdeal_finite (hPre_finite := Finite.facts) m) (c : Dev nD) (h : Fin 8) :
    Spec.kdq (ReferenceIdeal.hd192 (b0 m c) h) (ReferenceIdeal.hd192 (b1 m c) h) (ReferenceIdeal.hd128 (b2 m c) h) (ReferenceIdeal.hd128 (b3 m c) h)
      = Spec.rdq (ReferenceIdeal.hd192 (b0 m c) h) (ReferenceIdeal.hd192 (b1 m c) h) (ReferenceIdeal.hd128 (b2 m c) h) (ReferenceIdeal.hd128 (b3 m c) h)
    ∧ Spec.kdk (ReferenceIdeal.hd192 (b0 m c) h) (ReferenceIdeal.hd192 (b1 m c) h) (ReferenceIdeal.hd128 (b2 m c) h) (ReferenceIdeal.hd128 (b3 m c) h)
      = Spec.rdk (ReferenceIdeal.hd192 (b0 m c) h) (ReferenceIdeal.hd192 (b1 m c) h) (ReferenceIdeal.hd128 (b2 m c) h) (ReferenceIdeal.hd128 (b3 m c) h)
    ∧ Spec.kdv (ReferenceIdeal.hd192 (b0 m c) h) (ReferenceIdeal.hd192 (b1 m c) h) (ReferenceIdeal.hd128 (b3 m c) h)
      = Spec.rdv (ReferenceIdeal.hd192 (b0 m c) h) (ReferenceIdeal.hd192 (b1 m c) h) (ReferenceIdeal.hd128 (b3 m c) h) := by
  obtain ⟨h0, h1, h2, h3⟩ := hm c
  exact Spec.results_eq (fun r d => Finite.at_0 _ _ _ _ h r d h0) (fun r d => Finite.at_1 _ _ _ _ h r d h1)
    (fun r d => Finite.at_2 _ _ _ _ h r d h2) (fun r d => Finite.at_3 _ _ _ _ h r d h3)

theorem v63_eq (hm : Cert.Pre_KernelIdeal_finite (hPre_finite := Finite.facts) m) (c : Dev nD) :
    Pipeline.afterTail₀ cfgs (KernelIdeal.dats m) 0 (V0 m) [hostOps1] c main_v63 = w0 m c := by
  funext y
  rw [ix4_of (n := 8192) (k := 8) (l := 192) y]
  refine (KernelIdeal.tail_v63 m c _ _ _).trans (Eq.trans ?_ (ReferenceIdeal.dq_at _ _ _ _ _ _ _).symm)
  exact congrFun (congrFun (heads_eq m hm c _).1 _) _

theorem v64_eq (hm : Cert.Pre_KernelIdeal_finite (hPre_finite := Finite.facts) m) (c : Dev nD) :
    Pipeline.afterTail₀ cfgs (KernelIdeal.dats m) 0 (V0 m) [hostOps1] c main_v64 = w1 m c := by
  funext y
  rw [ix4_of (n := 8192) (k := 8) (l := 192) y]
  refine (KernelIdeal.tail_v64 m c _ _ _).trans (Eq.trans ?_ (ReferenceIdeal.dk_at _ _ _ _ _ _ _).symm)
  exact congrFun (congrFun (heads_eq m hm c _).2.1 _) _

theorem v65_eq (hm : Cert.Pre_KernelIdeal_finite (hPre_finite := Finite.facts) m) (c : Dev nD) :
    Pipeline.afterTail₀ cfgs (KernelIdeal.dats m) 0 (V0 m) [hostOps1] c main_v65 = w2 m c := by
  funext y
  rw [ix4_of (n := 8192) (k := 8) (l := 128) y]
  refine (KernelIdeal.tail_v65 m c _ _ _).trans (Eq.trans ?_ (ReferenceIdeal.dv_at _ _ _ _ _ _).symm)
  exact congrFun (congrFun (heads_eq m hm c _).2.2 _) _

theorem values : Cert.algebraic_KernelIdeal_ReferenceIdeal_pre_finite (hKernelIdeal := Cert.KernelIdeal.Gen.facts)
    (hReferenceIdeal := Cert.ReferenceIdeal.Gen.facts) (hPre_finite := Finite.facts) := by
  intro m g m' g' hm hargs
  refine ⟨fun c => w0 m c, fun c => w1 m c, fun c => w2 m c, ?_, ?_⟩
  · refine (θ_run Cert.KernelIdeal.defs _ _).mono (fun r h c => ?_) (KernelIdeal.run_values m g)
    obtain ⟨h0, h1, h2, h3⟩ := h c
    exact ⟨h0.trans (v63_eq m hm c), h1.trans (v64_eq m hm c), h2.trans (v65_eq m hm c), h3⟩
  · refine (θ_run Cert.ReferenceIdeal.defs _ _).mono (fun r h c => ?_) (Cert.ReferenceIdeal.Value.run (F := Ideal) m' g')
    obtain ⟨h0, h1, h2, h3, h4, h5, h6⟩ := h c
    obtain ⟨a0, a1, a2, a3⟩ := hargs c
    refine ⟨h0.trans ?_, h1.trans ?_, h2.trans ?_, h3, h4, h5, h6⟩
    · rw [Cert.ReferenceIdeal.Read.val_main_v80_eq, a0, a1, a2, a3]
    · rw [Cert.ReferenceIdeal.Read.val_main_v79_eq, a0, a1, a2, a3]
    · rw [Cert.ReferenceIdeal.Read.val_main_v54_eq, a0, a1, a3]

end Cert.Proof

end
-- ==== Proof.Blocks.lean ====
/-
  A sum over the rows as the four sums over the row blocks a product is accumulated in.
-/
module

public import Idealize.ShloMosaic.Lib.Pointwise

@[expose] public section

noncomputable section

namespace Cert.Proof

theorem sum_blocks (f : Fin 8192 → EReal) :
    ∑ r, f r = ((∑ k : Fin 2048, f ⟨2048 * 0 + k.val, by omega⟩ + ∑ k : Fin 2048, f ⟨2048 * 1 + k.val, by omega⟩)
      + ∑ k : Fin 2048, f ⟨2048 * 2 + k.val, by omega⟩) + ∑ k : Fin 2048, f ⟨2048 * 3 + k.val, by omega⟩ := by
  have e := (Equiv.sum_comp (finProdFinEquiv : Fin 4 × Fin 2048 ≃ Fin (4 * 2048)) f).symm
  rw [Fintype.sum_prod_type, Fin.sum_univ_four] at e
  refine e.trans ?_
  refine congrArg₂ (· + ·) (congrArg₂ (· + ·) (congrArg₂ (· + ·) ?_ ?_) ?_) ?_
  all_goals exact Finset.sum_congr rfl fun k _ => congrArg f (Fin.ext (Nat.add_comm _ _))

end Cert.Proof

end
-- ==== Proof.Kernel2Ideal.Product.lean ====
/-
  The array the accumulated product leaves, over the extended reals: at a row and a column, the sum of the
  products of the two arguments' entries over all the token rows.
-/
module

public import proofs.«01_k».proof.Proof.Blocks
public import proofs.«01_k».proof.Proof.Gen.Kernel2Ideal.Value

@[expose] public section

noncomputable section

namespace Cert.Proof.Kernel2Ideal

open Cert.Kernel2Ideal Cert.Kernel2Ideal.Gen Cert.Kernel2Ideal.Value
open Idealize.ShloMosaic Idealize.ShloMosaic.TcCoe Idealize.ShloMosaic.Pointwise Idealize.SL.Sem

theorem zeros : (![0, 0] : Fin 2 → Nat) = fun _ => 0 := funext fun a => by fin_cases a <;> rfl

section Cases

variable {F : FTy → Type} [FloatOps F]

/-- The first point of a block leaves the product of its row block, over zero. -/
theorem first (c : Dev nD) (i : grid0.Coords) (a3 : Memref sig .tc .vmem S2048x1024 .bf16) (h3 : a3.IsWhole)
    (a4 : Memref sig .tc .vmem S2048x1024 .bf16) (h4 : a4.IsWhole) (a5 : Memref sig .tc .vmem S1024x1024 .bf16) (h5 : a5.IsWhole)
    (a6 : Memref sig .tc .vmem S1024x1024 .f32) (h6 : a6.IsWhole) (hc0 : cond0_0 i) (hc1 : ¬cond0_1 i)
    (x y : Vec F S2048x1024 .bf16) :
    sout0_A_0 c i a3 h3 a4 h4 a5 h5 a6 h6 hc0 hc1 x y = k0_pay2 k0_pay1 x y := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S1024x1024) zeros, View.readCov_unit_zero (S := S1024x1024) _ zeros]
  simp only [View.readAt_eq_ld, h3.read_unread, h4.read_unread, View.ld_unit_zero (S := S2048x1024) zeros]

/-- A later point adds the product of its row block to what the scratch held. -/
theorem next (c : Dev nD) (i : grid0.Coords) (a3 : Memref sig .tc .vmem S2048x1024 .bf16) (h3 : a3.IsWhole)
    (a4 : Memref sig .tc .vmem S2048x1024 .bf16) (h4 : a4.IsWhole) (a5 : Memref sig .tc .vmem S1024x1024 .bf16) (h5 : a5.IsWhole)
    (a6 : Memref sig .tc .vmem S1024x1024 .f32) (h6 : a6.IsWhole) (hc0 : ¬cond0_0 i) (hc1 : ¬cond0_1 i)
    (x y : Vec F S2048x1024 .bf16) (s : Vec F S1024x1024 .f32) :
    sout0_B_0 c i a3 h3 a4 h4 a5 h5 a6 h6 hc0 hc1 x y s = k0_pay2 s x y := by
  unfold sout0_B_0
  rw [View.read_writes_eq_canon _ _ _ (scover0_B_0 c i a3 h3 a4 h4 a5 h5 a6 h6 hc0 hc1 x y s)]
  unfold kernelRun0_B
  dsimp only
  rw [View.canon_unit_zero zeros]
  simp only [View.readAt_eq_ld, h3.read_unread, h4.read_unread, h6.read_unread, View.ld_unit_zero (S := S2048x1024) zeros,
    View.ld_unit_zero (S := S1024x1024) zeros]

/-- The last point of a block stores the scratch, its own product added, as the block. -/
theorem last (c : Dev nD) (i : grid0.Coords) (a3 : Memref sig .tc .vmem S2048x1024 .bf16) (h3 : a3.IsWhole)
    (a4 : Memref sig .tc .vmem S2048x1024 .bf16) (h4 : a4.IsWhole) (a5 : Memref sig .tc .vmem S1024x1024 .bf16) (h5 : a5.IsWhole)
    (a6 : Memref sig .tc .vmem S1024x1024 .f32) (h6 : a6.IsWhole) (hc0 : ¬cond0_0 i) (hc1 : cond0_1 i)
    (x y : Vec F S2048x1024 .bf16) (s : Vec F S1024x1024 .f32) :
    out0_C_2 c i a3 h3 a4 h4 a5 h5 a6 h6 hc0 hc1 x y s = k0_pay3 (k0_pay2 s x y) := by
  unfold out0_C_2
  rw [View.read_writes_eq_canon _ _ _ (cover0_C_2 c i a3 h3 a4 h4 a5 h5 a6 h6 hc0 hc1 x y s)]
  unfold kernelRun0_C
  dsimp only
  sl_unfold_words
  rw [View.canon_unit_zero zeros, View.readCov_unit_zero (S := S1024x1024) _ zeros]
  simp only [View.readAt_eq_ld, h3.read_unread, h4.read_unread, h6.read_unread, View.ld_unit_zero (S := S2048x1024) zeros,
    View.ld_unit_zero (S := S1024x1024) zeros]

end Cases

/-- A point's sum at a row and a column. -/
theorem sum_at (s : Vec Ideal S1024x1024 .f32) (x y : Vec Ideal S2048x1024 .bf16) (a b : Fin 1024) :
    (k0_pay2 s x y (ix2 a b) : EReal) = s (ix2 a b) + ∑ k : Fin 2048, x (ix2 k a) * y (ix2 k b) := by
  pointwise [k0_pay2]

theorem zero_at (a b : Fin 1024) : (k0_pay1 (F := Ideal) (ix2 a b) : EReal) = 0 := by
  pointwise [k0_pay1]

theorem cast_at (s : Vec Ideal S1024x1024 .f32) (a b : Fin 1024) : (k0_pay3 s (ix2 a b) : EReal) = s (ix2 a b) := by
  pointwise [k0_pay3]

variable (m : (ℓ : Loc nD τ sig) → Buf (Elt Ideal) ℓ)

/-- The two arguments of a device. -/
abbrev y0 (c : Dev nD) : (⟨S8192x1024, .bf16⟩ : BufTy).Contents (Elt Ideal) := m ((c.tc : Thread nD τ).loc main_arg0)
abbrev d0 (c : Dev nD) : (⟨S8192x2048, .bf16⟩ : BufTy).Contents (Elt Ideal) := m ((c.tc : Thread nD τ).loc main_arg1)

/-- A point's row blocks of the two arguments. -/
abbrev left (c : Dev nD) (t : Fin cfg0.N) : Vec Ideal S2048x1024 .bf16 := iblk m c 0 t
abbrev right (c : Dev nD) (t : Fin cfg0.N) : Vec Ideal S2048x1024 .bf16 := iblk m c 1 t

theorem index_0 : ∀ t : Fin cfg0.N, win0_0.index t (0 : Fin 2) = t.val % 4 ∧ win0_0.index t (1 : Fin 2) = t.val / 8 :=
  (by decide +kernel : ∀ t : Fin grid0.N, _)

theorem index_1 : ∀ t : Fin cfg0.N, win0_1.index t (0 : Fin 2) = t.val % 4 ∧ win0_1.index t (1 : Fin 2) = t.val / 4 % 2 :=
  (by decide +kernel : ∀ t : Fin grid0.N, _)

/-- A row block of the first argument, at its row and column. -/
theorem left_at (c : Dev nD) (t : Fin cfg0.N) (k : Fin 2048) (a : Fin 1024) (r : Fin 8192) (a' : Fin 1024)
    (hr : r.val = 2048 * (t.val % 4) + k.val) (ha : a'.val = 1024 * (t.val / 8) + a.val) :
    (left m c t (ix2 k a) : EReal) = y0 m c (ix2 r a') := by
  have hi := index_0 t
  unfold left iblk
  rw [View.read_apply]
  show V m c main_arg0 _ = m (c.tc.loc main_arg0) _
  unfold V
  refine congrArg _ (funext fun x => Fin.ext ?_)
  match x with
  | ⟨0, _⟩ => show win0_0.index t 0 * 2048 + 1 * k.val = r.val; rw [hi.1]; omega
  | ⟨1, _⟩ => show win0_0.index t 1 * 1024 + 1 * a.val = a'.val; rw [hi.2]; omega

/-- A row block of the second argument, at its row and column. -/
theorem right_at (c : Dev nD) (t : Fin cfg0.N) (k : Fin 2048) (b : Fin 1024) (r : Fin 8192) (b' : Fin 2048)
    (hr : r.val = 2048 * (t.val % 4) + k.val) (hb : b'.val = 1024 * (t.val / 4 % 2) + b.val) :
    (right m c t (ix2 k b) : EReal) = d0 m c (ix2 r b') := by
  have hi := index_1 t
  unfold right iblk
  rw [View.read_apply]
  show V m c main_arg1 _ = m (c.tc.loc main_arg1) _
  unfold V
  refine congrArg _ (funext fun x => Fin.ext ?_)
  match x with
  | ⟨0, _⟩ => show win0_1.index t 0 * 2048 + 1 * k.val = r.val; rw [hi.1]; omega
  | ⟨1, _⟩ => show win0_1.index t 1 * 1024 + 1 * b.val = b'.val; rw [hi.2, hb]; omega

/-- The products of one row block, summed. -/
theorem block_at (c : Dev nD) (t : Fin cfg0.N) (a b : Fin 1024) (a' : Fin 1024) (b' : Fin 2048) (q : ℕ) (hq4 : q < 4)
    (hq : t.val % 4 = q) (ha : a'.val = 1024 * (t.val / 8) + a.val) (hb : b'.val = 1024 * (t.val / 4 % 2) + b.val) :
    (∑ k : Fin 2048, (left m c t (ix2 k a) : EReal) * (right m c t (ix2 k b) : EReal))
      = ∑ k : Fin 2048, (y0 m c (ix2 (⟨2048 * q + k.val, by omega⟩ : Fin 8192) a') : EReal) * (d0 m c (ix2 (⟨2048 * q + k.val, by omega⟩ : Fin 8192) b') : EReal) :=
  Finset.sum_congr rfl fun k _ => congrArg₂ (· * ·)
    (left_at m c t k a ⟨2048 * q + k.val, by omega⟩ a' (by rw [hq]) ha) (right_at m c t k b ⟨2048 * q + k.val, by omega⟩ b' (by rw [hq]) hb)

/-- What the last point of a block stores is the whole sum. -/
theorem stored_at (c : Dev nD) (t : Fin cfg0.N) (h : t.val % 4 = 3) (a b : Fin 1024) (a' : Fin 1024) (b' : Fin 2048)
    (ha : a'.val = 1024 * (t.val / 8) + a.val) (hb : b'.val = 1024 * (t.val / 4 % 2) + b.val) :
    ((outsAt0 m c t.val t.isLt).1 (ix2 a b) : EReal) = ∑ r : Fin 8192, (y0 m c (ix2 r a') : EReal) * (d0 m c (ix2 r b') : EReal) := by
  obtain ⟨t, ht⟩ := t
  obtain ⟨n, rfl⟩ : ∃ n, t = n + 1 + 1 + 1 := ⟨t - 3, by dsimp only at h; omega⟩
  dsimp only at h ha hb
  have e3 := outsAt0_C m c ⟨n + 1 + 1 + 1, ht⟩ (by dsimp only; omega) (by dsimp only; omega)
  have e2 := outsAt0_B m c ⟨n + 1 + 1, by omega⟩ (by dsimp only; omega) (by dsimp only; omega)
  have e1 := outsAt0_B m c ⟨n + 1, by omega⟩ (by dsimp only; omega) (by dsimp only; omega)
  have e0 := outsAt0_A m c ⟨n, by omega⟩ (by dsimp only; omega) (by dsimp only; omega)
  rw [first] at e0
  rw [next] at e1 e2
  rw [last] at e3
  simp only [Nat.add_sub_cancel] at e1 e2 e3
  rw [congrArg Prod.fst e3]
  dsimp only
  rw [cast_at, sum_at, congrArg Prod.snd e2]
  dsimp only
  rw [sum_at, congrArg Prod.snd e1]
  dsimp only
  rw [sum_at, congrArg Prod.snd e0]
  dsimp only
  rw [sum_at, zero_at, zero_add, sum_blocks]
  refine congrArg₂ (· + ·) (congrArg₂ (· + ·) (congrArg₂ (· + ·) ?_ ?_) ?_) ?_
  · exact block_at m c ⟨n, by omega⟩ a b a' b' 0 (by omega) (show (n) % 4 = 0 by omega)
      (show a'.val = 1024 * ((n) / 8) + a.val by omega) (show b'.val = 1024 * ((n) / 4 % 2) + b.val by omega)
  · exact block_at m c ⟨n + 1, by omega⟩ a b a' b' 1 (by omega) (show (n + 1) % 4 = 1 by omega)
      (show a'.val = 1024 * ((n + 1) / 8) + a.val by omega) (show b'.val = 1024 * ((n + 1) / 4 % 2) + b.val by omega)
  · exact block_at m c ⟨n + 1 + 1, by omega⟩ a b a' b' 2 (by omega) (show (n + 1 + 1) % 4 = 2 by omega)
      (show a'.val = 1024 * ((n + 1 + 1) / 8) + a.val by omega) (show b'.val = 1024 * ((n + 1 + 1) / 4 % 2) + b.val by omega)
  · exact block_at m c ⟨n + 1 + 1 + 1, by omega⟩ a b a' b' 3 (by omega) (show (n + 1 + 1 + 1) % 4 = 3 by omega)
      (show a'.val = 1024 * ((n + 1 + 1 + 1) / 8) + a.val by omega) (show b'.val = 1024 * ((n + 1 + 1 + 1) / 4 % 2) + b.val by omega)

/-- The array after the run, at a row and a column. -/
theorem array_at (c : Dev nD) (a : Fin 1024) (b : Fin 2048) :
    (G2 m c (ix2 a b) : EReal) = ∑ r : Fin 8192, (y0 m c (ix2 r a) : EReal) * (d0 m c (ix2 r b) : EReal) := by
  have hN : cfg0.N = 8 := N_0
  have hp : pt2Of (ix2 a b) < cfg0.N := by
    rw [hN]
    show 4 * (2 * (a.val / 1024 - 0) + 1 * (b.val / 1024 - 0)) + 3 < 8
    omega
  unfold G2
  rw [dif_pos hp, ← outsAt0_sweep m c _ hp]
  have hl : loc2Of (ix2 a b) = ix2 (⟨a.val % 1024, by omega⟩ : Fin 1024) (⟨b.val % 1024, by omega⟩ : Fin 1024) := by
    funext x
    match x with
    | ⟨0, _⟩ => rfl
    | ⟨1, _⟩ => rfl
  rw [hl]
  refine stored_at m c ⟨pt2Of (ix2 a b), hp⟩ ?_ _ _ a b ?_ ?_
  · show (4 * (2 * (a.val / 1024 - 0) + 1 * (b.val / 1024 - 0)) + 3) % 4 = 3
    omega
  · show a.val = 1024 * ((4 * (2 * (a.val / 1024 - 0) + 1 * (b.val / 1024 - 0)) + 3) / 8) + a.val % 1024
    omega
  · show b.val = 1024 * ((4 * (2 * (a.val / 1024 - 0) + 1 * (b.val / 1024 - 0)) + 3) / 4 % 2) + b.val % 1024
    omega

end Cert.Proof.Kernel2Ideal

end
-- ==== Proof.Kernel3Ideal.Product.lean ====
/-
  The array the accumulated product leaves, over the extended reals: at a row and a column, the sum of the
  products of the two arguments' entries over all the token rows.
-/
module

public import proofs.«01_k».proof.Proof.Blocks
public import proofs.«01_k».proof.Proof.Gen.Kernel3Ideal.Value

@[expose] public section

noncomputable section

namespace Cert.Proof.Kernel3Ideal

open Cert.Kernel3Ideal Cert.Kernel3Ideal.Gen Cert.Kernel3Ideal.Value
open Idealize.ShloMosaic Idealize.ShloMosaic.TcCoe Idealize.ShloMosaic.Pointwise Idealize.SL.Sem

theorem zeros : (![0, 0] : Fin 2 → Nat) = fun _ => 0 := funext fun a => by fin_cases a <;> rfl

section Cases

variable {F : FTy → Type} [FloatOps F]

/-- The first point of a block leaves the product of its row block, over zero. -/
theorem first (c : Dev nD) (i : grid0.Coords) (a3 : Memref sig .tc .vmem S2048x1024 .bf16) (h3 : a3.IsWhole)
    (a4 : Memref sig .tc .vmem S2048x1024 .bf16) (h4 : a4.IsWhole) (a5 : Memref sig .tc .vmem S1024x1024 .bf16) (h5 : a5.IsWhole)
    (a6 : Memref sig .tc .vmem S1024x1024 .f32) (h6 : a6.IsWhole) (hc0 : cond0_0 i) (hc1 : ¬cond0_1 i)
    (x y : Vec F S2048x1024 .bf16) :
    sout0_A_0 c i a3 h3 a4 h4 a5 h5 a6 h6 hc0 hc1 x y = k0_pay2 k0_pay1 x y := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S1024x1024) zeros, View.readCov_unit_zero (S := S1024x1024) _ zeros]
  simp only [View.readAt_eq_ld, h3.read_unread, h4.read_unread, View.ld_unit_zero (S := S2048x1024) zeros]

/-- A later point adds the product of its row block to what the scratch held. -/
theorem next (c : Dev nD) (i : grid0.Coords) (a3 : Memref sig .tc .vmem S2048x1024 .bf16) (h3 : a3.IsWhole)
    (a4 : Memref sig .tc .vmem S2048x1024 .bf16) (h4 : a4.IsWhole) (a5 : Memref sig .tc .vmem S1024x1024 .bf16) (h5 : a5.IsWhole)
    (a6 : Memref sig .tc .vmem S1024x1024 .f32) (h6 : a6.IsWhole) (hc0 : ¬cond0_0 i) (hc1 : ¬cond0_1 i)
    (x y : Vec F S2048x1024 .bf16) (s : Vec F S1024x1024 .f32) :
    sout0_B_0 c i a3 h3 a4 h4 a5 h5 a6 h6 hc0 hc1 x y s = k0_pay2 s x y := by
  unfold sout0_B_0
  rw [View.read_writes_eq_canon _ _ _ (scover0_B_0 c i a3 h3 a4 h4 a5 h5 a6 h6 hc0 hc1 x y s)]
  unfold kernelRun0_B
  dsimp only
  rw [View.canon_unit_zero zeros]
  simp only [View.readAt_eq_ld, h3.read_unread, h4.read_unread, h6.read_unread, View.ld_unit_zero (S := S2048x1024) zeros,
    View.ld_unit_zero (S := S1024x1024) zeros]

/-- The last point of a block stores the scratch, its own product added, as the block. -/
theorem last (c : Dev nD) (i : grid0.Coords) (a3 : Memref sig .tc .vmem S2048x1024 .bf16) (h3 : a3.IsWhole)
    (a4 : Memref sig .tc .vmem S2048x1024 .bf16) (h4 : a4.IsWhole) (a5 : Memref sig .tc .vmem S1024x1024 .bf16) (h5 : a5.IsWhole)
    (a6 : Memref sig .tc .vmem S1024x1024 .f32) (h6 : a6.IsWhole) (hc0 : ¬cond0_0 i) (hc1 : cond0_1 i)
    (x y : Vec F S2048x1024 .bf16) (s : Vec F S1024x1024 .f32) :
    out0_C_2 c i a3 h3 a4 h4 a5 h5 a6 h6 hc0 hc1 x y s = k0_pay3 (k0_pay2 s x y) := by
  unfold out0_C_2
  rw [View.read_writes_eq_canon _ _ _ (cover0_C_2 c i a3 h3 a4 h4 a5 h5 a6 h6 hc0 hc1 x y s)]
  unfold kernelRun0_C
  dsimp only
  sl_unfold_words
  rw [View.canon_unit_zero zeros, View.readCov_unit_zero (S := S1024x1024) _ zeros]
  simp only [View.readAt_eq_ld, h3.read_unread, h4.read_unread, h6.read_unread, View.ld_unit_zero (S := S2048x1024) zeros,
    View.ld_unit_zero (S := S1024x1024) zeros]

end Cases

/-- A point's sum at a row and a column. -/
theorem sum_at (s : Vec Ideal S1024x1024 .f32) (x y : Vec Ideal S2048x1024 .bf16) (a b : Fin 1024) :
    (k0_pay2 s x y (ix2 a b) : EReal) = s (ix2 a b) + ∑ k : Fin 2048, x (ix2 k a) * y (ix2 k b) := by
  pointwise [k0_pay2]

theorem zero_at (a b : Fin 1024) : (k0_pay1 (F := Ideal) (ix2 a b) : EReal) = 0 := by
  pointwise [k0_pay1]

theorem cast_at (s : Vec Ideal S1024x1024 .f32) (a b : Fin 1024) : (k0_pay3 s (ix2 a b) : EReal) = s (ix2 a b) := by
  pointwise [k0_pay3]

variable (m : (ℓ : Loc nD τ sig) → Buf (Elt Ideal) ℓ)

/-- The two arguments of a device. -/
abbrev y0 (c : Dev nD) : (⟨S8192x4096, .bf16⟩ : BufTy).Contents (Elt Ideal) := m ((c.tc : Thread nD τ).loc main_arg0)
abbrev d0 (c : Dev nD) : (⟨S8192x2048, .bf16⟩ : BufTy).Contents (Elt Ideal) := m ((c.tc : Thread nD τ).loc main_arg1)

/-- A point's row blocks of the two arguments. -/
abbrev left (c : Dev nD) (t : Fin cfg0.N) : Vec Ideal S2048x1024 .bf16 := iblk m c 0 t
abbrev right (c : Dev nD) (t : Fin cfg0.N) : Vec Ideal S2048x1024 .bf16 := iblk m c 1 t

theorem index_0 : ∀ t : Fin cfg0.N, win0_0.index t (0 : Fin 2) = t.val % 4 ∧ win0_0.index t (1 : Fin 2) = t.val / 8 :=
  (by decide +kernel : ∀ t : Fin grid0.N, _)

theorem index_1 : ∀ t : Fin cfg0.N, win0_1.index t (0 : Fin 2) = t.val % 4 ∧ win0_1.index t (1 : Fin 2) = t.val / 4 % 2 :=
  (by decide +kernel : ∀ t : Fin grid0.N, _)

/-- A row block of the first argument, at its row and column. -/
theorem left_at (c : Dev nD) (t : Fin cfg0.N) (k : Fin 2048) (a : Fin 1024) (r : Fin 8192) (a' : Fin 4096)
    (hr : r.val = 2048 * (t.val % 4) + k.val) (ha : a'.val = 1024 * (t.val / 8) + a.val) :
    (left m c t (ix2 k a) : EReal) = y0 m c (ix2 r a') := by
  have hi := index_0 t
  unfold left iblk
  rw [View.read_apply]
  show V m c main_arg0 _ = m (c.tc.loc main_arg0) _
  unfold V
  refine congrArg _ (funext fun x => Fin.ext ?_)
  match x with
  | ⟨0, _⟩ => show win0_0.index t 0 * 2048 + 1 * k.val = r.val; rw [hi.1]; omega
  | ⟨1, _⟩ => show win0_0.index t 1 * 1024 + 1 * a.val = a'.val; rw [hi.2]; omega

/-- A row block of the second argument, at its row and column. -/
theorem right_at (c : Dev nD) (t : Fin cfg0.N) (k : Fin 2048) (b : Fin 1024) (r : Fin 8192) (b' : Fin 2048)
    (hr : r.val = 2048 * (t.val % 4) + k.val) (hb : b'.val = 1024 * (t.val / 4 % 2) + b.val) :
    (right m c t (ix2 k b) : EReal) = d0 m c (ix2 r b') := by
  have hi := index_1 t
  unfold right iblk
  rw [View.read_apply]
  show V m c main_arg1 _ = m (c.tc.loc main_arg1) _
  unfold V
  refine congrArg _ (funext fun x => Fin.ext ?_)
  match x with
  | ⟨0, _⟩ => show win0_1.index t 0 * 2048 + 1 * k.val = r.val; rw [hi.1]; omega
  | ⟨1, _⟩ => show win0_1.index t 1 * 1024 + 1 * b.val = b'.val; rw [hi.2, hb]; omega

/-- The products of one row block, summed. -/
theorem block_at (c : Dev nD) (t : Fin cfg0.N) (a b : Fin 1024) (a' : Fin 4096) (b' : Fin 2048) (q : ℕ) (hq4 : q < 4)
    (hq : t.val % 4 = q) (ha : a'.val = 1024 * (t.val / 8) + a.val) (hb : b'.val = 1024 * (t.val / 4 % 2) + b.val) :
    (∑ k : Fin 2048, (left m c t (ix2 k a) : EReal) * (right m c t (ix2 k b) : EReal))
      = ∑ k : Fin 2048, (y0 m c (ix2 (⟨2048 * q + k.val, by omega⟩ : Fin 8192) a') : EReal) * (d0 m c (ix2 (⟨2048 * q + k.val, by omega⟩ : Fin 8192) b') : EReal) :=
  Finset.sum_congr rfl fun k _ => congrArg₂ (· * ·)
    (left_at m c t k a ⟨2048 * q + k.val, by omega⟩ a' (by rw [hq]) ha) (right_at m c t k b ⟨2048 * q + k.val, by omega⟩ b' (by rw [hq]) hb)

/-- What the last point of a block stores is the whole sum. -/
theorem stored_at (c : Dev nD) (t : Fin cfg0.N) (h : t.val % 4 = 3) (a b : Fin 1024) (a' : Fin 4096) (b' : Fin 2048)
    (ha : a'.val = 1024 * (t.val / 8) + a.val) (hb : b'.val = 1024 * (t.val / 4 % 2) + b.val) :
    ((outsAt0 m c t.val t.isLt).1 (ix2 a b) : EReal) = ∑ r : Fin 8192, (y0 m c (ix2 r a') : EReal) * (d0 m c (ix2 r b') : EReal) := by
  obtain ⟨t, ht⟩ := t
  obtain ⟨n, rfl⟩ : ∃ n, t = n + 1 + 1 + 1 := ⟨t - 3, by dsimp only at h; omega⟩
  dsimp only at h ha hb
  have e3 := outsAt0_C m c ⟨n + 1 + 1 + 1, ht⟩ (by dsimp only; omega) (by dsimp only; omega)
  have e2 := outsAt0_B m c ⟨n + 1 + 1, by omega⟩ (by dsimp only; omega) (by dsimp only; omega)
  have e1 := outsAt0_B m c ⟨n + 1, by omega⟩ (by dsimp only; omega) (by dsimp only; omega)
  have e0 := outsAt0_A m c ⟨n, by omega⟩ (by dsimp only; omega) (by dsimp only; omega)
  rw [first] at e0
  rw [next] at e1 e2
  rw [last] at e3
  simp only [Nat.add_sub_cancel] at e1 e2 e3
  rw [congrArg Prod.fst e3]
  dsimp only
  rw [cast_at, sum_at, congrArg Prod.snd e2]
  dsimp only
  rw [sum_at, congrArg Prod.snd e1]
  dsimp only
  rw [sum_at, congrArg Prod.snd e0]
  dsimp only
  rw [sum_at, zero_at, zero_add, sum_blocks]
  refine congrArg₂ (· + ·) (congrArg₂ (· + ·) (congrArg₂ (· + ·) ?_ ?_) ?_) ?_
  · exact block_at m c ⟨n, by omega⟩ a b a' b' 0 (by omega) (show (n) % 4 = 0 by omega)
      (show a'.val = 1024 * ((n) / 8) + a.val by omega) (show b'.val = 1024 * ((n) / 4 % 2) + b.val by omega)
  · exact block_at m c ⟨n + 1, by omega⟩ a b a' b' 1 (by omega) (show (n + 1) % 4 = 1 by omega)
      (show a'.val = 1024 * ((n + 1) / 8) + a.val by omega) (show b'.val = 1024 * ((n + 1) / 4 % 2) + b.val by omega)
  · exact block_at m c ⟨n + 1 + 1, by omega⟩ a b a' b' 2 (by omega) (show (n + 1 + 1) % 4 = 2 by omega)
      (show a'.val = 1024 * ((n + 1 + 1) / 8) + a.val by omega) (show b'.val = 1024 * ((n + 1 + 1) / 4 % 2) + b.val by omega)
  · exact block_at m c ⟨n + 1 + 1 + 1, by omega⟩ a b a' b' 3 (by omega) (show (n + 1 + 1 + 1) % 4 = 3 by omega)
      (show a'.val = 1024 * ((n + 1 + 1 + 1) / 8) + a.val by omega) (show b'.val = 1024 * ((n + 1 + 1 + 1) / 4 % 2) + b.val by omega)

/-- The array after the run, at a row and a column. -/
theorem array_at (c : Dev nD) (a : Fin 4096) (b : Fin 2048) :
    (G2 m c (ix2 a b) : EReal) = ∑ r : Fin 8192, (y0 m c (ix2 r a) : EReal) * (d0 m c (ix2 r b) : EReal) := by
  have hN : cfg0.N = 32 := N_0
  have hp : pt2Of (ix2 a b) < cfg0.N := by
    rw [hN]
    show 4 * (2 * (a.val / 1024 - 0) + 1 * (b.val / 1024 - 0)) + 3 < 32
    omega
  unfold G2
  rw [dif_pos hp, ← outsAt0_sweep m c _ hp]
  have hl : loc2Of (ix2 a b) = ix2 (⟨a.val % 1024, by omega⟩ : Fin 1024) (⟨b.val % 1024, by omega⟩ : Fin 1024) := by
    funext x
    match x with
    | ⟨0, _⟩ => rfl
    | ⟨1, _⟩ => rfl
  rw [hl]
  refine stored_at m c ⟨pt2Of (ix2 a b), hp⟩ ?_ _ _ a b ?_ ?_
  · show (4 * (2 * (a.val / 1024 - 0) + 1 * (b.val / 1024 - 0)) + 3) % 4 = 3
    omega
  · show a.val = 1024 * ((4 * (2 * (a.val / 1024 - 0) + 1 * (b.val / 1024 - 0)) + 3) / 8) + a.val % 1024
    omega
  · show b.val = 1024 * ((4 * (2 * (a.val / 1024 - 0) + 1 * (b.val / 1024 - 0)) + 3) / 4 % 2) + b.val % 1024
    omega

end Cert.Proof.Kernel3Ideal

end
-- ==== Proof.Weights.lean ====
/-
  The two weight gradients: the accumulated products are the references' products.
-/
module

public import proofs.«01_k».proof.Defs
public import proofs.«01_k».proof.Proof.Kernel2Ideal.Product
public import proofs.«01_k».proof.Proof.Kernel3Ideal.Product
public import proofs.«01_k».proof.Proof.Gen.Reference2Ideal.Run
public import proofs.«01_k».proof.Proof.Gen.Reference2Ideal.Read
public import proofs.«01_k».proof.Proof.Gen.Reference3Ideal.Run
public import proofs.«01_k».proof.Proof.Gen.Reference3Ideal.Read

@[expose] public section

noncomputable section

namespace Cert.Proof

open Idealize.ShloMosaic Idealize.ShloMosaic.TcCoe Idealize.ShloMosaic.Pointwise Idealize.SL.Sem

/-- An index of a matrix, by its row and column. -/
theorem ix2_of {n k : ℕ} (y : (a : Fin 2) → Fin (![n, k] a)) : y = ix2 (y 0 : Fin n) (y 1 : Fin k) := by
  funext a
  match a with
  | ⟨0, _⟩ => rfl
  | ⟨1, _⟩ => rfl

section Attention

open Cert.Reference2Ideal

theorem weights2_at (y : (⟨S8192x1024, .bf16⟩ : BufTy).Contents (Elt Ideal)) (d : (⟨S8192x2048, .bf16⟩ : BufTy).Contents (Elt Ideal))
    (a : Fin 1024) (b : Fin 2048) :
    (Read.val_main_v6 (F := Ideal) y d (ix2 a b) : EReal) = ∑ r : Fin 8192, (y (ix2 r a) : EReal) * (d (ix2 r b) : EReal) := by
  rw [Read.val_main_v6_apply, Read.val_main_v5_apply, Read.val_main_v4_apply]
  refine Finset.sum_congr rfl fun r _ => (mul_comm _ _).trans (congrArg₂ (· * ·) (congrArg y ?_) (congrArg d ?_))
  · funext x
    match x with
    | ⟨0, _⟩ => rfl
    | ⟨1, _⟩ => rfl
  · funext x
    match x with
    | ⟨0, _⟩ => rfl
    | ⟨1, _⟩ => rfl

end Attention

theorem values2 : Cert.algebraic_Kernel2Ideal_Reference2Ideal (hKernel2Ideal := Cert.Kernel2Ideal.Gen.facts)
    (hReference2Ideal := Cert.Reference2Ideal.Gen.facts) := by
  intro m g m' g' _ hargs
  refine ⟨fun c => Cert.Kernel2Ideal.Value.G2 m c, Cert.Kernel2Ideal.Value.run m g, ?_⟩
  refine (θ_run Cert.Reference2Ideal.defs _ _).mono (fun r h c => ?_) (Cert.Reference2Ideal.Value.run (F := Ideal) m' g')
  obtain ⟨h0, h1, h2⟩ := h c
  obtain ⟨a0, a1⟩ := hargs c
  refine ⟨h0.trans ?_, h1, h2⟩
  rw [Cert.Reference2Ideal.Read.val_main_v6_eq, a0, a1]
  funext y
  rw [ix2_of (n := 1024) (k := 2048) y]
  exact (weights2_at _ _ _ _).trans (Kernel2Ideal.array_at m c _ _).symm

section Convolution

open Cert.Reference3Ideal

theorem weights3_at (y : (⟨S8192x4096, .bf16⟩ : BufTy).Contents (Elt Ideal)) (d : (⟨S8192x2048, .bf16⟩ : BufTy).Contents (Elt Ideal))
    (a : Fin 4096) (b : Fin 2048) :
    (Read.val_main_v7 (F := Ideal) y d (ix2 a b) : EReal) = ∑ r : Fin 8192, (y (ix2 r a) : EReal) * (d (ix2 r b) : EReal) := by
  rw [Read.val_main_v7_apply, Read.val_main_v6_apply, Read.val_main_v5_apply, Read.val_main_v4_apply]
  refine Finset.sum_congr rfl fun r _ => congrArg₂ (· * ·) (congrArg y ?_) (congrArg d ?_)
  · funext x
    match x with
    | ⟨0, _⟩ => rfl
    | ⟨1, _⟩ => rfl
  · funext x
    match x with
    | ⟨0, _⟩ => rfl
    | ⟨1, _⟩ => rfl

end Convolution

theorem values3 : Cert.algebraic_Kernel3Ideal_Reference3Ideal (hKernel3Ideal := Cert.Kernel3Ideal.Gen.facts)
    (hReference3Ideal := Cert.Reference3Ideal.Gen.facts) := by
  intro m g m' g' _ hargs
  refine ⟨fun c => Cert.Kernel3Ideal.Value.G2 m c, Cert.Kernel3Ideal.Value.run m g, ?_⟩
  refine (θ_run Cert.Reference3Ideal.defs _ _).mono (fun r h c => ?_) (Cert.Reference3Ideal.Value.run (F := Ideal) m' g')
  obtain ⟨h0, h1, h2⟩ := h c
  obtain ⟨a0, a1⟩ := hargs c
  refine ⟨h0.trans ?_, h1, h2⟩
  rw [Cert.Reference3Ideal.Read.val_main_v7_eq, a0, a1]
  funext y
  rw [ix2_of (n := 4096) (k := 2048) y]
  exact (weights3_at _ _ _ _).trans (Kernel3Ideal.array_at m c _ _).symm

end Cert.Proof

end
-- ==== Proof.Kernel4Ideal.Pay.lean ====
/-
  The layer's last product and its loss, a point's blocks: at a row and a column, over the extended reals.
-/
module

public import proofs.«01_k».proof.Proof.Gen.Kernel4Ideal.Skeleton
public import Idealize.ShloMosaic.Lib.Pointwise

@[expose] public section

noncomputable section

namespace Cert.Proof.Kernel4Ideal

open Cert.Kernel4Ideal Cert.Kernel4Ideal.Gen
open Idealize.ShloMosaic Idealize.ShloMosaic.Pointwise

variable (v3 v6 : Vec Ideal S256x1024 .bf16) (v4 v7 : Vec Ideal S1024x2048 .bf16) (g : Vec Ideal S1x2048 .f32) (x y : Vec Ideal S256x2048 .f32)

/-- The layer's product, the two halves of the row added. -/
theorem product_at (p : Fin 256) (b : Fin 2048) :
    (k0_pay8 v3 v4 v6 v7 (ix2 p b) : EReal) = ∑ k : Fin 1024, v3 (ix2 p k) * v4 (ix2 k b) + ∑ k : Fin 1024, v6 (ix2 p k) * v7 (ix2 k b) := by
  pointwise [k0_pay8]

/-- The layer's result less the target. -/
theorem diff_at (p : Fin 256) (b : Fin 2048) :
    (k0_pay9 v3 v4 v6 v7 g x y (ix2 p b) : EReal) = x (ix2 p b) + g (ix2 0 b) * k0_pay8 v3 v4 v6 v7 (ix2 p b) - y (ix2 p b) := by
  pointwise [k0_pay9]

/-- The result's gradient. -/
theorem dout_at (p : Fin 256) (b : Fin 2048) :
    (k0_pay10 v3 v4 v6 v7 g x y (ix2 p b) : EReal) = k0_pay9 v3 v4 v6 v7 g x y (ix2 p b) * Scalar.ofBits (F := Ideal) .f32 0x3A000000#32 := by
  pointwise [k0_pay10]

/-- The product's gradient. -/
theorem dy_at (p : Fin 256) (b : Fin 2048) (d : FVec Ideal S256x2048 .f32) :
    (k0_pay2 g d (ix2 p b) : EReal) = d (ix2 p b) * g (ix2 0 b) := by
  pointwise [k0_pay2]

/-- The gradient of the product's left factor. -/
theorem dycat_at (p : Fin 256) (b : Fin 2048) (d : FVec Ideal S256x2048 .f32) (w : Vec Ideal S2048x2048 .bf16) :
    (k0_pay3 g d w (ix2 p b) : EReal) = ∑ k : Fin 2048, k0_pay2 g d (ix2 p k) * w (ix2 b k) := by
  pointwise [k0_pay3]

/-- A point's addition to the gate's sums, by the row modulo eight. -/
theorem gates_at (q : Fin 8) (b : Fin 2048) (s : Vec Ideal S8x2048 .f32) :
    (k0_pay11 v3 v4 v6 v7 g x y s (ix2 q b) : EReal) = s (ix2 q b) + ∑ u : Fin 32,
      k0_pay10 v3 v4 v6 v7 g x y (ix2 (⟨u.val * 8 + q.val, by omega⟩ : Fin 256) b) * k0_pay8 v3 v4 v6 v7 (ix2 (⟨u.val * 8 + q.val, by omega⟩ : Fin 256) b) := by
  pointwise [k0_pay11]

/-- A point's addition to the squares' sums, by the row modulo eight. -/
theorem squares_at (q : Fin 8) (b : Fin 2048) (d : FVec Ideal S256x2048 .f32) (s : Vec Ideal S8x2048 .f32) :
    (k0_pay1 d s (ix2 q b) : EReal) = s (ix2 q b) + ∑ u : Fin 32,
      d (ix2 (⟨u.val * 8 + q.val, by omega⟩ : Fin 256) b) * d (ix2 (⟨u.val * 8 + q.val, by omega⟩ : Fin 256) b) := by
  pointwise [k0_pay1]

/-- The gate's gradient, from its eight sums. -/
theorem gate_at (b : Fin 2048) (s : Vec Ideal S8x2048 .f32) :
    (k0_pay5 s (ix2 0 b) : EReal) = ∑ q : Fin 8, s (ix2 q b) := by
  pointwise [k0_pay5]

/-- The loss, from all the squares' sums. -/
theorem loss_at (b : Fin 2048) (s : Vec Ideal S8x2048 .f32) :
    (k0_pay6 s (ix2 0 b) : EReal) = (∑ q : Fin 8, ∑ k : Fin 2048, s (ix2 q k)) * Scalar.ofBits (F := Ideal) .f32 0x39800000#32 := by
  pointwise [k0_pay6]

/-- The rows of the statistics that hold nothing. -/
theorem zero_at (q : Fin 8) (b : Fin 2048) : (k0_pay4 (F := Ideal) (ix2 q b) : EReal) = 0 := by
  pointwise [k0_pay4]

/-- The sums before the first point. -/
theorem zeros_at (q : Fin 16) (b : Fin 2048) : (k0_pay7 (F := Ideal) (ix2 q b) : EReal) = 0 := by
  pointwise [k0_pay7]

end Cert.Proof.Kernel4Ideal

end
-- ==== Proof.Kernel4Ideal.Cases.lean ====
/-
  What a point of the layer's last product leaves: its blocks of the three results, the copied weights, the
  sums it carries on, and at the last point the statistics.
-/
module

public import proofs.«01_k».proof.Proof.Gen.Kernel4Ideal.Value
public import Idealize.ShloMosaic.Lib.Pointwise

@[expose] public section

noncomputable section

namespace Cert.Proof.Kernel4Ideal

open Cert.Kernel4Ideal Cert.Kernel4Ideal.Gen Cert.Kernel4Ideal.Value
open Idealize.ShloMosaic Idealize.ShloMosaic.TcCoe Idealize.ShloMosaic.Pointwise Idealize.SL.Sem

variable {F : FTy → Type} [FloatOps F]

theorem origin : (![0, 0] : Fin 2 → Nat) = fun _ => 0 := funext fun a => by fin_cases a <;> rfl

/-- The halves of the weights, and of the sums the points carry. -/
abbrev top (w : Vec F S2048x2048 .bf16) : Vec F S1024x2048 .bf16 :=
  View.ld w (Rect.unit (s := S2048x2048) ![0, 0] S1024x2048.size inb_S2048x2048_S1024x2048_0_0)
abbrev bot (w : Vec F S2048x2048 .bf16) : Vec F S1024x2048 .bf16 :=
  View.ld w (Rect.unit (s := S2048x2048) ![1024, 0] S1024x2048.size inb_S2048x2048_S1024x2048_1024_0)
abbrev low (s : Vec F S16x2048 .f32) : Vec F S8x2048 .f32 :=
  View.ld s (Rect.unit (s := S16x2048) ![0, 0] S8x2048.size inb_S16x2048_S8x2048_0_0)
abbrev high (s : Vec F S16x2048 .f32) : Vec F S8x2048 .f32 :=
  View.ld s (Rect.unit (s := S16x2048) ![8, 0] S8x2048.size inb_S16x2048_S8x2048_8_0)

/-- The copied weights are the argument. -/
theorem copied (w : Vec F S2048x2048 .bf16) :
    View.canon (Val := Elt F) [⟨Rect.whole S2048x2048, ReadAs.same.apply (View.read (Elt F) (View.whole main_arg5) w)⟩] = w := by
  funext y
  have h := View.canon_cons_emb (Val := Elt F) (e := .bf16) (Rect.whole S2048x2048) w [] y
  have hy : (Rect.whole S2048x2048).emb y = y := funext fun a => Fin.ext (show 0 + 1 * (y a).val = (y a).val by omega)
  rw [hy] at h
  exact h

/-- Two stores of eight rows, read back; the first half as one store above any other leaves it. -/
theorem high_stored (P : Vec F S8x2048 .f32) (L : List (View.Piece (Elt F) S16x2048 .f32)) :
    high (View.canon (⟨Rect.unit (s := S16x2048) ![8, 0] ![8, 2048] inb_S16x2048_S8x2048_8_0, P⟩ :: L)) = P :=
  funext fun j => View.canon_cons_emb (Val := Elt F) (e := .f32) (Rect.unit (s := S16x2048) ![8, 0] ![8, 2048] inb_S16x2048_S8x2048_8_0) P L j

theorem low_stored (P : Vec F S8x2048 .f32) (L : List (View.Piece (Elt F) S16x2048 .f32)) :
    low (View.canon (⟨Rect.unit (s := S16x2048) ![0, 0] S8x2048.size inb_S16x2048_S8x2048_0_0, P⟩ :: L)) = P :=
  funext fun j => View.canon_cons_emb (Val := Elt F) (e := .f32) (Rect.unit (s := S16x2048) ![0, 0] S8x2048.size inb_S16x2048_S8x2048_0_0) P L j

theorem low_below (P : Vec F S8x2048 .f32) (L : List (View.Piece (Elt F) S16x2048 .f32)) :
    low (View.canon (⟨Rect.unit (s := S16x2048) ![8, 0] ![8, 2048] inb_S16x2048_S8x2048_8_0, P⟩ :: L)) = low (View.canon L) :=
  funext fun j => View.canon_cons_of_not_mem _ L (LoadRect.idx_not_mem_of_disj
    (B := (Rect.unit (s := S16x2048) ![0, 0] S8x2048.size inb_S16x2048_S8x2048_0_0).toLoadRect) (show LoadRect.disj (Rect.unit (s := S16x2048) ![8, 0] ![8, 2048] inb_S16x2048_S8x2048_8_0) _ = true by decide) j)

theorem high_above (P : Vec F S8x2048 .f32) (L : List (View.Piece (Elt F) S16x2048 .f32)) :
    high (View.canon (⟨Rect.unit (s := S16x2048) ![0, 0] S8x2048.size inb_S16x2048_S8x2048_0_0, P⟩ :: L)) = high (View.canon L) :=
  funext fun j => View.canon_cons_of_not_mem _ L (LoadRect.idx_not_mem_of_disj
    (B := (Rect.unit (s := S16x2048) ![8, 0] S8x2048.size inb_S16x2048_S8x2048_8_0).toLoadRect) (show LoadRect.disj (Rect.unit (s := S16x2048) ![0, 0] S8x2048.size inb_S16x2048_S8x2048_0_0) _ = true by decide) j)

/-- Eight rows stored whole, then the first row, then the second. -/
abbrev rows (P1 P0 : Vec F S1x2048 .f32) (P : Vec F S8x2048 .f32) : List (View.Piece (Elt F) S8x2048 .f32) :=
  [⟨Rect.unit (s := S8x2048) ![1, 0] ![1, 2048] inb_S8x2048_S1x2048_1_0, P1⟩, ⟨Rect.unit (s := S8x2048) ![0, 0] ![1, 2048] inb_S8x2048_S1x2048_0_0, P0⟩,
    ⟨Rect.unit (s := S8x2048) ![0, 0] ![8, 2048] inb_S8x2048_S8x2048_0_0, P⟩]

theorem emb_row (o : ℕ) (inb) (q : Fin 8) (hq : q.val = o) (b : Fin 2048) :
    (Rect.unit (s := S8x2048) ![o, 0] ![1, 2048] inb).emb (ix2 (0 : Fin 1) b) = ix2 q b := by
  funext a
  refine Fin.ext ?_
  match a with
  | ⟨0, _⟩ => show o + 1 * 0 = q.val; omega
  | ⟨1, _⟩ => show 0 + 1 * b.val = b.val; omega

theorem off_row (o : ℕ) (inb) (q : Fin 8) (hq : q.val ≠ o) (b : Fin 2048) :
    (ix2 q b : S8x2048.Idx) ∉ (Rect.unit (s := S8x2048) ![o, 0] ![1, 2048] inb).set := by
  intro h
  obtain ⟨x, hx⟩ := LoadRect.exists_idx_of_mem _ h
  have h0 : o + 1 * (x 0).val = q.val := congrArg (fun y : S8x2048.Idx => (y 0).val) hx
  have h1 : (x 0).val < 1 := (x 0).isLt
  omega

theorem stored_1 (P1 P0 : Vec F S1x2048 .f32) (P : Vec F S8x2048 .f32) (b : Fin 2048) :
    View.canon (rows P1 P0 P) (ix2 1 b) = P1 (ix2 0 b) := by
  have h := View.canon_cons_emb (Val := Elt F) (e := .f32) (Rect.unit (s := S8x2048) ![1, 0] ![1, 2048] inb_S8x2048_S1x2048_1_0) P1
    [⟨Rect.unit (s := S8x2048) ![0, 0] ![1, 2048] inb_S8x2048_S1x2048_0_0, P0⟩, ⟨Rect.unit (s := S8x2048) ![0, 0] ![8, 2048] inb_S8x2048_S8x2048_0_0, P⟩] (ix2 0 b)
  rw [emb_row 1 _ 1 rfl b] at h
  exact h

theorem stored_0 (P1 P0 : Vec F S1x2048 .f32) (P : Vec F S8x2048 .f32) (b : Fin 2048) :
    View.canon (rows P1 P0 P) (ix2 0 b) = P0 (ix2 0 b) := by
  have h := View.canon_cons_emb (Val := Elt F) (e := .f32) (Rect.unit (s := S8x2048) ![0, 0] ![1, 2048] inb_S8x2048_S1x2048_0_0) P0
    [⟨Rect.unit (s := S8x2048) ![0, 0] ![8, 2048] inb_S8x2048_S8x2048_0_0, P⟩] (ix2 0 b)
  rw [emb_row 0 _ 0 rfl b] at h
  have h' := View.canon_cons_of_not_mem (Val := Elt F) (e := .f32) ⟨Rect.unit (s := S8x2048) ![1, 0] ![1, 2048] inb_S8x2048_S1x2048_1_0, P1⟩
    [⟨Rect.unit (s := S8x2048) ![0, 0] ![1, 2048] inb_S8x2048_S1x2048_0_0, P0⟩, ⟨Rect.unit (s := S8x2048) ![0, 0] ![8, 2048] inb_S8x2048_S8x2048_0_0, P⟩] (off_row 1 inb_S8x2048_S1x2048_1_0 0 (by decide) b)
  exact h'.trans h

theorem stored_2 (P1 P0 : Vec F S1x2048 .f32) (P : Vec F S8x2048 .f32) (q : Fin 8) (hq : 2 ≤ q.val) (b : Fin 2048) :
    View.canon (rows P1 P0 P) (ix2 q b) = P (ix2 q b) := by
  have h := View.canon_cons_of_not_mem (Val := Elt F) (e := .f32) ⟨Rect.unit (s := S8x2048) ![1, 0] ![1, 2048] inb_S8x2048_S1x2048_1_0, P1⟩
    [⟨Rect.unit (s := S8x2048) ![0, 0] ![1, 2048] inb_S8x2048_S1x2048_0_0, P0⟩, ⟨Rect.unit (s := S8x2048) ![0, 0] ![8, 2048] inb_S8x2048_S8x2048_0_0, P⟩] (off_row 1 inb_S8x2048_S1x2048_1_0 q (by omega) b)
  have h' := View.canon_cons_of_not_mem (Val := Elt F) (e := .f32) ⟨Rect.unit (s := S8x2048) ![0, 0] ![1, 2048] inb_S8x2048_S1x2048_0_0, P0⟩
    [⟨Rect.unit (s := S8x2048) ![0, 0] ![8, 2048] inb_S8x2048_S8x2048_0_0, P⟩] (off_row 0 inb_S8x2048_S1x2048_0_0 q (by omega) b)
  exact h.trans (h'.trans (congrFun (View.canon_unit_zero (S := S8x2048) origin _ P) _))

section Cases

variable (c : Dev nD) (i : grid0.Coords) (a1 : Memref sig .tc .vmem S256x1024 .bf16) (h1 : a1.IsWhole)
  (a2 : Memref sig .tc .vmem S256x1024 .bf16) (h2 : a2.IsWhole) (a3 : Memref sig .tc .vmem S256x2048 .f32) (h3 : a3.IsWhole)
  (a4 : Memref sig .tc .vmem S256x2048 .f32) (h4 : a4.IsWhole) (a5 : Memref sig .tc .vmem S1x2048 .f32) (h5 : a5.IsWhole)
  (a7 : Memref sig .tc .vmem S256x2048 .f32) (h7 : a7.IsWhole) (a8 : Memref sig .tc .vmem S256x2048 .bf16) (h8 : a8.IsWhole)
  (a9 : Memref sig .tc .vmem S256x2048 .bf16) (h9 : a9.IsWhole) (a10 : Memref sig .tc .vmem S8x2048 .f32) (h10 : a10.IsWhole)
  (a11 : Memref sig .tc .vmem S2048x2048 .bf16) (h11 : a11.IsWhole) (a13 : Memref sig .tc .vmem S16x2048 .f32) (h13 : a13.IsWhole)
  (x0 x1 : Vec F S256x1024 .bf16) (x2 x3 : Vec F S256x2048 .f32) (x4 : Vec F S1x2048 .f32)
  (w : Vec F S2048x2048 .bf16) (s : Vec F S16x2048 .f32) (w' : Vec F S2048x2048 .bf16)

/-- The first point, which copies the weights and starts the sums at zero. -/
theorem first (hc0 : cond0_0 i) (hc1 : ¬cond0_1 i) :
    out0_A_5 c i a1 h1 a2 h2 a3 h3 a4 h4 a5 h5 a7 h7 a8 h8 a9 h9 a10 h10 a11 h11 a13 h13 hc0 hc1 x0 x1 x2 x3 x4 w
        = k0_pay10 x0 (top w) x1 (bot w) x4 x2 x3
      ∧ out0_A_6 c i a1 h1 a2 h2 a3 h3 a4 h4 a5 h5 a7 h7 a8 h8 a9 h9 a10 h10 a11 h11 a13 h13 hc0 hc1 x0 x1 x2 x3 x4 w
        = k0_pay2 x4 (k0_pay10 x0 (top w) x1 (bot w) x4 x2 x3)
      ∧ out0_A_7 c i a1 h1 a2 h2 a3 h3 a4 h4 a5 h5 a7 h7 a8 h8 a9 h9 a10 h10 a11 h11 a13 h13 hc0 hc1 x0 x1 x2 x3 x4 w
        = k0_pay3 x4 (k0_pay10 x0 (top w) x1 (bot w) x4 x2 x3) w
      ∧ sout0_A_0 c i a1 h1 a2 h2 a3 h3 a4 h4 a5 h5 a7 h7 a8 h8 a9 h9 a10 h10 a11 h11 a13 h13 hc0 hc1 x0 x1 x2 x3 x4 w
        = w
      ∧ low (sout0_A_1 c i a1 h1 a2 h2 a3 h3 a4 h4 a5 h5 a7 h7 a8 h8 a9 h9 a10 h10 a11 h11 a13 h13 hc0 hc1 x0 x1 x2 x3 x4 w)
        = k0_pay11 x0 (top w) x1 (bot w) x4 x2 x3 (low (k0_pay7 (F := F)))
      ∧ high (sout0_A_1 c i a1 h1 a2 h2 a3 h3 a4 h4 a5 h5 a7 h7 a8 h8 a9 h9 a10 h10 a11 h11 a13 h13 hc0 hc1 x0 x1 x2 x3 x4 w)
        = k0_pay1 (k0_pay9 x0 (top w) x1 (bot w) x4 x2 x3) (high (k0_pay7 (F := F))) := by
  refine ⟨?_, ?_, ?_, ?_, ?_, ?_⟩
  · unfold out0_A_5
    rw [View.read_writes_eq_canon _ _ _ (cover0_A_5 c i a1 h1 a2 h2 a3 h3 a4 h4 a5 h5 a7 h7 a8 h8 a9 h9 a10 h10 a11 h11 a13 h13 hc0 hc1 x0 x1 x2 x3 x4 w)]
    unfold kernelRun0_A
    dsimp only
    sl_unfold_words
    rw [View.canon_unit_zero origin]
    simp only [View.readAt_eq_ld, View.readCov_eq_canon', h1.read_unread, h2.read_unread, h3.read_unread, h4.read_unread, h5.read_unread, h11.read_unread, h13.read_unread,
      View.ld_unit_zero (S := S256x1024) origin, View.ld_unit_zero (S := S256x2048) origin,
      View.ld_unit_zero (S := S1x2048) origin, View.ld_unit_zero (S := S2048x2048) origin]
    exact congrArg (fun v => k0_pay10 x0 (top v) x1 (bot v) x4 x2 x3) (copied w)
  · unfold out0_A_6
    rw [View.read_writes_eq_canon _ _ _ (cover0_A_6 c i a1 h1 a2 h2 a3 h3 a4 h4 a5 h5 a7 h7 a8 h8 a9 h9 a10 h10 a11 h11 a13 h13 hc0 hc1 x0 x1 x2 x3 x4 w)]
    unfold kernelRun0_A
    dsimp only
    sl_unfold_words
    rw [View.canon_unit_zero origin]
    simp only [View.readAt_eq_ld, View.readCov_eq_canon', h1.read_unread, h2.read_unread, h3.read_unread, h4.read_unread, h5.read_unread, h11.read_unread, h13.read_unread,
      View.ld_unit_zero (S := S256x1024) origin, View.ld_unit_zero (S := S256x2048) origin,
      View.ld_unit_zero (S := S1x2048) origin, View.ld_unit_zero (S := S2048x2048) origin]
    exact congrArg (fun v => k0_pay2 x4 (k0_pay10 x0 (top v) x1 (bot v) x4 x2 x3)) (copied w)
  · unfold out0_A_7
    rw [View.read_writes_eq_canon _ _ _ (cover0_A_7 c i a1 h1 a2 h2 a3 h3 a4 h4 a5 h5 a7 h7 a8 h8 a9 h9 a10 h10 a11 h11 a13 h13 hc0 hc1 x0 x1 x2 x3 x4 w)]
    unfold kernelRun0_A
    dsimp only
    sl_unfold_words
    rw [View.canon_unit_zero origin]
    simp only [View.readAt_eq_ld, View.readCov_eq_canon', h1.read_unread, h2.read_unread, h3.read_unread, h4.read_unread, h5.read_unread, h11.read_unread, h13.read_unread,
      View.ld_unit_zero (S := S256x1024) origin, View.ld_unit_zero (S := S256x2048) origin,
      View.ld_unit_zero (S := S1x2048) origin, View.ld_unit_zero (S := S2048x2048) origin]
    exact congrArg₂ (fun v u => k0_pay3 x4 (k0_pay10 x0 (top v) x1 (bot v) x4 x2 x3) u) (copied w)
      ((View.ld_unit_zero (S := S2048x2048) origin _ _).trans (copied w))
  · unfold sout0_A_0
    rw [View.read_writes_eq_canon _ _ _ (scover0_A_0 c i a1 h1 a2 h2 a3 h3 a4 h4 a5 h5 a7 h7 a8 h8 a9 h9 a10 h10 a11 h11 a13 h13 hc0 hc1 x0 x1 x2 x3 x4 w)]
    unfold kernelRun0_A
    dsimp only
    sl_unfold_words
    exact copied w
  · unfold sout0_A_1
    rw [View.read_writes_eq_canon _ _ _ (scover0_A_1 c i a1 h1 a2 h2 a3 h3 a4 h4 a5 h5 a7 h7 a8 h8 a9 h9 a10 h10 a11 h11 a13 h13 hc0 hc1 x0 x1 x2 x3 x4 w)]
    unfold kernelRun0_A
    dsimp only
    sl_unfold_words
    simp only [View.readAt_eq_ld, View.readCov_eq_canon', h1.read_unread, h2.read_unread, h3.read_unread, h4.read_unread, h5.read_unread, h11.read_unread, h13.read_unread,
      View.ld_unit_zero (S := S256x1024) origin, View.ld_unit_zero (S := S256x2048) origin,
      View.ld_unit_zero (S := S1x2048) origin, View.ld_unit_zero (S := S2048x2048) origin]
    rw [low_below, low_stored]
    exact congrArg₂ (fun v u => k0_pay11 x0 (top v) x1 (bot v) x4 x2 x3 (low u)) (copied w) (View.canon_unit_zero origin _ _)
  · unfold sout0_A_1
    rw [View.read_writes_eq_canon _ _ _ (scover0_A_1 c i a1 h1 a2 h2 a3 h3 a4 h4 a5 h5 a7 h7 a8 h8 a9 h9 a10 h10 a11 h11 a13 h13 hc0 hc1 x0 x1 x2 x3 x4 w)]
    unfold kernelRun0_A
    dsimp only
    sl_unfold_words
    simp only [View.readAt_eq_ld, View.readCov_eq_canon', h1.read_unread, h2.read_unread, h3.read_unread, h4.read_unread, h5.read_unread, h11.read_unread, h13.read_unread,
      View.ld_unit_zero (S := S256x1024) origin, View.ld_unit_zero (S := S256x2048) origin,
      View.ld_unit_zero (S := S1x2048) origin, View.ld_unit_zero (S := S2048x2048) origin]
    rw [high_stored]
    exact congrArg₂ (fun v u => k0_pay1 (k0_pay9 x0 (top v) x1 (bot v) x4 x2 x3) u) (copied w)
      ((high_above _ _).trans (congrArg high (View.canon_unit_zero origin _ _)))

/-- A later point, over what the point before left. -/
theorem next (hc0 : ¬cond0_0 i) (hc1 : ¬cond0_1 i) :
    out0_B_5 c i a1 h1 a2 h2 a3 h3 a4 h4 a5 h5 a7 h7 a8 h8 a9 h9 a10 h10 a11 h11 a13 h13 hc0 hc1 x0 x1 x2 x3 x4 w s w'
        = k0_pay10 x0 (top w) x1 (bot w) x4 x2 x3
      ∧ out0_B_6 c i a1 h1 a2 h2 a3 h3 a4 h4 a5 h5 a7 h7 a8 h8 a9 h9 a10 h10 a11 h11 a13 h13 hc0 hc1 x0 x1 x2 x3 x4 w s w'
        = k0_pay2 x4 (k0_pay10 x0 (top w) x1 (bot w) x4 x2 x3)
      ∧ out0_B_7 c i a1 h1 a2 h2 a3 h3 a4 h4 a5 h5 a7 h7 a8 h8 a9 h9 a10 h10 a11 h11 a13 h13 hc0 hc1 x0 x1 x2 x3 x4 w s w'
        = k0_pay3 x4 (k0_pay10 x0 (top w) x1 (bot w) x4 x2 x3) w
      ∧ low (sout0_B_1 c i a1 h1 a2 h2 a3 h3 a4 h4 a5 h5 a7 h7 a8 h8 a9 h9 a10 h10 a11 h11 a13 h13 hc0 hc1 x0 x1 x2 x3 x4 w s w')
        = k0_pay11 x0 (top w) x1 (bot w) x4 x2 x3 (low s)
      ∧ high (sout0_B_1 c i a1 h1 a2 h2 a3 h3 a4 h4 a5 h5 a7 h7 a8 h8 a9 h9 a10 h10 a11 h11 a13 h13 hc0 hc1 x0 x1 x2 x3 x4 w s w')
        = k0_pay1 (k0_pay9 x0 (top w) x1 (bot w) x4 x2 x3) (high s) := by
  refine ⟨?_, ?_, ?_, ?_, ?_⟩
  · unfold out0_B_5
    rw [View.read_writes_eq_canon _ _ _ (cover0_B_5 c i a1 h1 a2 h2 a3 h3 a4 h4 a5 h5 a7 h7 a8 h8 a9 h9 a10 h10 a11 h11 a13 h13 hc0 hc1 x0 x1 x2 x3 x4 w s w')]
    unfold kernelRun0_B
    dsimp only
    sl_unfold_words
    rw [View.canon_unit_zero origin]
    simp only [View.readAt_eq_ld, View.readCov_eq_canon', h1.read_unread, h2.read_unread, h3.read_unread, h4.read_unread, h5.read_unread, h11.read_unread, h13.read_unread,
      View.ld_unit_zero (S := S256x1024) origin, View.ld_unit_zero (S := S256x2048) origin,
      View.ld_unit_zero (S := S1x2048) origin, View.ld_unit_zero (S := S2048x2048) origin]
  · unfold out0_B_6
    rw [View.read_writes_eq_canon _ _ _ (cover0_B_6 c i a1 h1 a2 h2 a3 h3 a4 h4 a5 h5 a7 h7 a8 h8 a9 h9 a10 h10 a11 h11 a13 h13 hc0 hc1 x0 x1 x2 x3 x4 w s w')]
    unfold kernelRun0_B
    dsimp only
    sl_unfold_words
    rw [View.canon_unit_zero origin]
    simp only [View.readAt_eq_ld, View.readCov_eq_canon', h1.read_unread, h2.read_unread, h3.read_unread, h4.read_unread, h5.read_unread, h11.read_unread, h13.read_unread,
      View.ld_unit_zero (S := S256x1024) origin, View.ld_unit_zero (S := S256x2048) origin,
      View.ld_unit_zero (S := S1x2048) origin, View.ld_unit_zero (S := S2048x2048) origin]
  · unfold out0_B_7
    rw [View.read_writes_eq_canon _ _ _ (cover0_B_7 c i a1 h1 a2 h2 a3 h3 a4 h4 a5 h5 a7 h7 a8 h8 a9 h9 a10 h10 a11 h11 a13 h13 hc0 hc1 x0 x1 x2 x3 x4 w s w')]
    unfold kernelRun0_B
    dsimp only
    sl_unfold_words
    rw [View.canon_unit_zero origin]
    simp only [View.readAt_eq_ld, View.readCov_eq_canon', h1.read_unread, h2.read_unread, h3.read_unread, h4.read_unread, h5.read_unread, h11.read_unread, h13.read_unread,
      View.ld_unit_zero (S := S256x1024) origin, View.ld_unit_zero (S := S256x2048) origin,
      View.ld_unit_zero (S := S1x2048) origin, View.ld_unit_zero (S := S2048x2048) origin]
  · unfold sout0_B_1
    rw [View.read_writes_eq_canon _ _ _ (scover0_B_1 c i a1 h1 a2 h2 a3 h3 a4 h4 a5 h5 a7 h7 a8 h8 a9 h9 a10 h10 a11 h11 a13 h13 hc0 hc1 x0 x1 x2 x3 x4 w s w')]
    unfold kernelRun0_B
    dsimp only
    sl_unfold_words
    simp only [View.readAt_eq_ld, View.readCov_eq_canon', h1.read_unread, h2.read_unread, h3.read_unread, h4.read_unread, h5.read_unread, h11.read_unread, h13.read_unread,
      View.ld_unit_zero (S := S256x1024) origin, View.ld_unit_zero (S := S256x2048) origin,
      View.ld_unit_zero (S := S1x2048) origin, View.ld_unit_zero (S := S2048x2048) origin]
    rw [low_below, low_stored]
  · unfold sout0_B_1
    rw [View.read_writes_eq_canon _ _ _ (scover0_B_1 c i a1 h1 a2 h2 a3 h3 a4 h4 a5 h5 a7 h7 a8 h8 a9 h9 a10 h10 a11 h11 a13 h13 hc0 hc1 x0 x1 x2 x3 x4 w s w')]
    unfold kernelRun0_B
    dsimp only
    sl_unfold_words
    simp only [View.readAt_eq_ld, View.readCov_eq_canon', h1.read_unread, h2.read_unread, h3.read_unread, h4.read_unread, h5.read_unread, h11.read_unread, h13.read_unread,
      View.ld_unit_zero (S := S256x1024) origin, View.ld_unit_zero (S := S256x2048) origin,
      View.ld_unit_zero (S := S1x2048) origin, View.ld_unit_zero (S := S2048x2048) origin]
    rw [high_stored]

/-- The last point's blocks. -/
theorem last (hc0 : ¬cond0_0 i) (hc1 : cond0_1 i) :
    out0_C_5 c i a1 h1 a2 h2 a3 h3 a4 h4 a5 h5 a7 h7 a8 h8 a9 h9 a10 h10 a11 h11 a13 h13 hc0 hc1 x0 x1 x2 x3 x4 w s w'
        = k0_pay10 x0 (top w) x1 (bot w) x4 x2 x3
      ∧ out0_C_6 c i a1 h1 a2 h2 a3 h3 a4 h4 a5 h5 a7 h7 a8 h8 a9 h9 a10 h10 a11 h11 a13 h13 hc0 hc1 x0 x1 x2 x3 x4 w s w'
        = k0_pay2 x4 (k0_pay10 x0 (top w) x1 (bot w) x4 x2 x3)
      ∧ out0_C_7 c i a1 h1 a2 h2 a3 h3 a4 h4 a5 h5 a7 h7 a8 h8 a9 h9 a10 h10 a11 h11 a13 h13 hc0 hc1 x0 x1 x2 x3 x4 w s w'
        = k0_pay3 x4 (k0_pay10 x0 (top w) x1 (bot w) x4 x2 x3) w := by
  refine ⟨?_, ?_, ?_⟩
  · unfold out0_C_5
    rw [View.read_writes_eq_canon _ _ _ (cover0_C_5 c i a1 h1 a2 h2 a3 h3 a4 h4 a5 h5 a7 h7 a8 h8 a9 h9 a10 h10 a11 h11 a13 h13 hc0 hc1 x0 x1 x2 x3 x4 w s w')]
    unfold kernelRun0_C
    dsimp only
    sl_unfold_words
    rw [View.canon_unit_zero origin]
    simp only [View.readAt_eq_ld, View.readCov_eq_canon', h1.read_unread, h2.read_unread, h3.read_unread, h4.read_unread, h5.read_unread, h11.read_unread, h13.read_unread,
      View.ld_unit_zero (S := S256x1024) origin, View.ld_unit_zero (S := S256x2048) origin,
      View.ld_unit_zero (S := S1x2048) origin, View.ld_unit_zero (S := S2048x2048) origin]
  · unfold out0_C_6
    rw [View.read_writes_eq_canon _ _ _ (cover0_C_6 c i a1 h1 a2 h2 a3 h3 a4 h4 a5 h5 a7 h7 a8 h8 a9 h9 a10 h10 a11 h11 a13 h13 hc0 hc1 x0 x1 x2 x3 x4 w s w')]
    unfold kernelRun0_C
    dsimp only
    sl_unfold_words
    rw [View.canon_unit_zero origin]
    simp only [View.readAt_eq_ld, View.readCov_eq_canon', h1.read_unread, h2.read_unread, h3.read_unread, h4.read_unread, h5.read_unread, h11.read_unread, h13.read_unread,
      View.ld_unit_zero (S := S256x1024) origin, View.ld_unit_zero (S := S256x2048) origin,
      View.ld_unit_zero (S := S1x2048) origin, View.ld_unit_zero (S := S2048x2048) origin]
  · unfold out0_C_7
    rw [View.read_writes_eq_canon _ _ _ (cover0_C_7 c i a1 h1 a2 h2 a3 h3 a4 h4 a5 h5 a7 h7 a8 h8 a9 h9 a10 h10 a11 h11 a13 h13 hc0 hc1 x0 x1 x2 x3 x4 w s w')]
    unfold kernelRun0_C
    dsimp only
    sl_unfold_words
    rw [View.canon_unit_zero origin]
    simp only [View.readAt_eq_ld, View.readCov_eq_canon', h1.read_unread, h2.read_unread, h3.read_unread, h4.read_unread, h5.read_unread, h11.read_unread, h13.read_unread,
      View.ld_unit_zero (S := S256x1024) origin, View.ld_unit_zero (S := S256x2048) origin,
      View.ld_unit_zero (S := S1x2048) origin, View.ld_unit_zero (S := S2048x2048) origin]

/-- The last point's statistics: the gate's gradient, the loss, and rows of zeros. -/
theorem final (hc0 : ¬cond0_0 i) (hc1 : cond0_1 i) (b : Fin 2048) :
    out0_C_8 c i a1 h1 a2 h2 a3 h3 a4 h4 a5 h5 a7 h7 a8 h8 a9 h9 a10 h10 a11 h11 a13 h13 hc0 hc1 x0 x1 x2 x3 x4 w s w' (ix2 0 b)
        = k0_pay5 (k0_pay11 x0 (top w) x1 (bot w) x4 x2 x3 (low s)) (ix2 0 b)
      ∧ out0_C_8 c i a1 h1 a2 h2 a3 h3 a4 h4 a5 h5 a7 h7 a8 h8 a9 h9 a10 h10 a11 h11 a13 h13 hc0 hc1 x0 x1 x2 x3 x4 w s w' (ix2 1 b)
        = k0_pay6 (k0_pay1 (k0_pay9 x0 (top w) x1 (bot w) x4 x2 x3) (high s)) (ix2 0 b)
      ∧ ∀ q : Fin 8, 2 ≤ q.val → out0_C_8 c i a1 h1 a2 h2 a3 h3 a4 h4 a5 h5 a7 h7 a8 h8 a9 h9 a10 h10 a11 h11 a13 h13 hc0 hc1 x0 x1 x2 x3 x4 w s w' (ix2 q b) = k0_pay4 (F := F) (ix2 q b) := by
  refine ⟨?_, ?_, fun q hq => ?_⟩
  · unfold out0_C_8
    rw [View.read_writes_eq_canon _ _ _ (cover0_C_8 c i a1 h1 a2 h2 a3 h3 a4 h4 a5 h5 a7 h7 a8 h8 a9 h9 a10 h10 a11 h11 a13 h13 hc0 hc1 x0 x1 x2 x3 x4 w s w')]
    unfold kernelRun0_C
    dsimp only
    sl_unfold_words
    simp only [View.readAt_eq_ld, View.readCov_eq_canon', h1.read_unread, h2.read_unread, h3.read_unread, h4.read_unread, h5.read_unread, h11.read_unread, h13.read_unread,
      View.ld_unit_zero (S := S256x1024) origin, View.ld_unit_zero (S := S256x2048) origin,
      View.ld_unit_zero (S := S1x2048) origin, View.ld_unit_zero (S := S2048x2048) origin]
    refine (stored_0 _ _ _ b).trans ?_
    exact congrArg (fun u => k0_pay5 u (ix2 0 b)) ((low_below _ _).trans (low_stored _ _))
  · unfold out0_C_8
    rw [View.read_writes_eq_canon _ _ _ (cover0_C_8 c i a1 h1 a2 h2 a3 h3 a4 h4 a5 h5 a7 h7 a8 h8 a9 h9 a10 h10 a11 h11 a13 h13 hc0 hc1 x0 x1 x2 x3 x4 w s w')]
    unfold kernelRun0_C
    dsimp only
    sl_unfold_words
    simp only [View.readAt_eq_ld, View.readCov_eq_canon', h1.read_unread, h2.read_unread, h3.read_unread, h4.read_unread, h5.read_unread, h11.read_unread, h13.read_unread,
      View.ld_unit_zero (S := S256x1024) origin, View.ld_unit_zero (S := S256x2048) origin,
      View.ld_unit_zero (S := S1x2048) origin, View.ld_unit_zero (S := S2048x2048) origin]
    refine (stored_1 _ _ _ b).trans ?_
    exact congrArg (fun u => k0_pay6 u (ix2 0 b)) (high_stored _ _)
  · unfold out0_C_8
    rw [View.read_writes_eq_canon _ _ _ (cover0_C_8 c i a1 h1 a2 h2 a3 h3 a4 h4 a5 h5 a7 h7 a8 h8 a9 h9 a10 h10 a11 h11 a13 h13 hc0 hc1 x0 x1 x2 x3 x4 w s w')]
    unfold kernelRun0_C
    dsimp only
    sl_unfold_words
    simp only [View.readAt_eq_ld, View.readCov_eq_canon', h1.read_unread, h2.read_unread, h3.read_unread, h4.read_unread, h5.read_unread, h11.read_unread, h13.read_unread,
      View.ld_unit_zero (S := S256x1024) origin, View.ld_unit_zero (S := S256x2048) origin,
      View.ld_unit_zero (S := S1x2048) origin, View.ld_unit_zero (S := S2048x2048) origin]
    exact stored_2 _ _ _ q hq b

end Cases

end Cert.Proof.Kernel4Ideal

end
-- ==== Proof.Kernel4Ideal.Points.lean ====
/-
  The layer's last product and its loss: the run's thirty-two points, over the extended reals.
-/
module

public import proofs.«01_k».proof.Proof.Kernel4Ideal.Pay
public import proofs.«01_k».proof.Proof.Kernel4Ideal.Cases

@[expose] public section

noncomputable section

namespace Cert.Proof.Kernel4Ideal

open Cert.Kernel4Ideal Cert.Kernel4Ideal.Gen
open Idealize.ShloMosaic Idealize.ShloMosaic.TcCoe Idealize.ShloMosaic.Pointwise Idealize.SL.Sem

/-! ### What the run computes, of the six arguments -/

section Layer

variable (yc ya : (⟨S8192x1024, .bf16⟩ : BufTy).Contents (Elt Ideal)) (x t : (⟨S8192x2048, .f32⟩ : BufTy).Contents (Elt Ideal))
  (g : (⟨S1x2048, .f32⟩ : BufTy).Contents (Elt Ideal)) (w : (⟨S2048x2048, .bf16⟩ : BufTy).Contents (Elt Ideal))

/-- The product's entry. -/
def Y (r : Fin 8192) (b : Fin 2048) : EReal :=
  ∑ k : Fin 1024, (yc (ix2 r k) : EReal) * (w (ix2 (⟨k.val, by omega⟩ : Fin 2048) b) : EReal)
    + ∑ k : Fin 1024, (ya (ix2 r k) : EReal) * (w (ix2 (⟨1024 + k.val, by omega⟩ : Fin 2048) b) : EReal)

/-- The layer's result less the target. -/
def D (r : Fin 8192) (b : Fin 2048) : EReal :=
  (x (ix2 r b) : EReal) + (g (ix2 0 b) : EReal) * Y yc ya w r b - (t (ix2 r b) : EReal)

/-- The result's gradient. -/
def O (r : Fin 8192) (b : Fin 2048) : EReal := D yc ya x t g w r b * Scalar.ofBits (F := Ideal) .f32 0x3A000000#32

/-- The product's gradient. -/
def E (r : Fin 8192) (b : Fin 2048) : EReal := O yc ya x t g w r b * (g (ix2 0 b) : EReal)

/-- The gradient of the product's left factor. -/
def C (r : Fin 8192) (j : Fin 2048) : EReal := ∑ b : Fin 2048, E yc ya x t g w r b * (w (ix2 j b) : EReal)

/-- A row's part of the gate's gradient, and its square. -/
def gatePart (b : Fin 2048) (r : Fin 8192) : EReal := O yc ya x t g w r b * Y yc ya w r b
def square (b : Fin 2048) (r : Fin 8192) : EReal := D yc ya x t g w r b * D yc ya x t g w r b

/-- The statistics: the gate's gradient, the loss, and rows of zeros. -/
def T (q : Fin 8) (b : Fin 2048) : EReal :=
  if q.val = 0 then ∑ r : Fin 8192, gatePart yc ya x t g w b r
  else if q.val = 1 then (∑ k : Fin 2048, ∑ r : Fin 8192, square yc ya x t g w k r) * Scalar.ofBits (F := Ideal) .f32 0x39800000#32
  else 0

end Layer

/-- An index of a matrix, by its row and column. -/
theorem ix2_of {n k : ℕ} (y : (a : Fin 2) → Fin (![n, k] a)) : y = ix2 (y 0 : Fin n) (y 1 : Fin k) := by
  funext a
  match a with
  | ⟨0, _⟩ => rfl
  | ⟨1, _⟩ => rfl

/-! ### Sums by blocks of rows -/

/-- A function of the rows, zero past the last. -/
def past (f : Fin 8192 → EReal) (n : ℕ) : EReal := if h : n < 8192 then f ⟨n, h⟩ else 0

theorem past_of (f : Fin 8192 → EReal) (r : Fin 8192) (n : ℕ) (h : r.val = n) : past f n = f r := by
  subst h
  exact dif_pos r.isLt

theorem sum_mul (F : ℕ → EReal) (n : ℕ) : ∀ k : ℕ, ∑ i ∈ Finset.range (k * n), F i = ∑ a ∈ Finset.range k, ∑ b ∈ Finset.range n, F (n * a + b)
  | 0 => by simp
  | k + 1 => by rw [Nat.succ_mul, Finset.sum_range_add, Finset.sum_range_succ, sum_mul F n k, Nat.mul_comm n k]

/-- Rows summed by their residue modulo eight within each block of 256. -/
theorem sum_rows (f : Fin 8192 → EReal) :
    ∑ q : Fin 8, ∑ j ∈ Finset.range 32, ∑ u : Fin 32, past f (256 * j + (u.val * 8 + q.val)) = ∑ r : Fin 8192, f r := by
  have h : ∑ r : Fin 8192, f r = ∑ n ∈ Finset.range (32 * 256), past f n := by
    rw [show 32 * 256 = 8192 from rfl, Finset.sum_range]
    exact Finset.sum_congr rfl fun r _ => (past_of f r r.val rfl).symm
  rw [h, sum_mul, Finset.sum_comm]
  refine Finset.sum_congr rfl fun j _ => ?_
  rw [show 256 = 32 * 8 from rfl, sum_mul (fun b => past f (32 * 8 * j + b)), Finset.sum_comm, Finset.sum_range]
  refine Finset.sum_congr rfl fun u _ => ?_
  rw [Finset.sum_range]
  exact Finset.sum_congr rfl fun q _ => by rw [Nat.mul_comm 8 u.val]

/-! ### A point's blocks -/

variable (m : (ℓ : Loc nD τ sig) → Buf (Elt Ideal) ℓ) (c : Dev nD)

/-- The six arguments of a device. -/
abbrev yc : (⟨S8192x1024, .bf16⟩ : BufTy).Contents (Elt Ideal) := m ((c.tc : Thread nD τ).loc main_arg0)
abbrev ya : (⟨S8192x1024, .bf16⟩ : BufTy).Contents (Elt Ideal) := m ((c.tc : Thread nD τ).loc main_arg1)
abbrev xx : (⟨S8192x2048, .f32⟩ : BufTy).Contents (Elt Ideal) := m ((c.tc : Thread nD τ).loc main_arg2)
abbrev tt : (⟨S8192x2048, .f32⟩ : BufTy).Contents (Elt Ideal) := m ((c.tc : Thread nD τ).loc main_arg3)
abbrev gg : (⟨S1x2048, .f32⟩ : BufTy).Contents (Elt Ideal) := m ((c.tc : Thread nD τ).loc main_arg4)
abbrev ww : (⟨S2048x2048, .bf16⟩ : BufTy).Contents (Elt Ideal) := m ((c.tc : Thread nD τ).loc main_arg5)

/-- A point's blocks of the first five. -/
abbrev b0 (t : Fin cfg0.N) : Vec Ideal S256x1024 .bf16 := iblk m c 0 t
abbrev b1 (t : Fin cfg0.N) : Vec Ideal S256x1024 .bf16 := iblk m c 1 t
abbrev b2 (t : Fin cfg0.N) : Vec Ideal S256x2048 .f32 := iblk m c 2 t
abbrev b3 (t : Fin cfg0.N) : Vec Ideal S256x2048 .f32 := iblk m c 3 t
abbrev b4 (t : Fin cfg0.N) : Vec Ideal S1x2048 .f32 := iblk m c 4 t

theorem index_0 : ∀ t : Fin cfg0.N, win0_0.index t (0 : Fin 2) = t.val ∧ win0_0.index t (1 : Fin 2) = 0 := (by decide +kernel : ∀ t : Fin grid0.N, _)
theorem index_1 : ∀ t : Fin cfg0.N, win0_1.index t (0 : Fin 2) = t.val ∧ win0_1.index t (1 : Fin 2) = 0 := (by decide +kernel : ∀ t : Fin grid0.N, _)
theorem index_2 : ∀ t : Fin cfg0.N, win0_2.index t (0 : Fin 2) = t.val ∧ win0_2.index t (1 : Fin 2) = 0 := (by decide +kernel : ∀ t : Fin grid0.N, _)
theorem index_3 : ∀ t : Fin cfg0.N, win0_3.index t (0 : Fin 2) = t.val ∧ win0_3.index t (1 : Fin 2) = 0 := (by decide +kernel : ∀ t : Fin grid0.N, _)
theorem index_4 : ∀ t : Fin cfg0.N, win0_4.index t (0 : Fin 2) = 0 ∧ win0_4.index t (1 : Fin 2) = 0 := (by decide +kernel : ∀ t : Fin grid0.N, _)

theorem b0_at (t : Fin cfg0.N) (p : Fin 256) (k : Fin 1024) (r : Fin 8192) (hr : r.val = 256 * t.val + p.val) :
    (b0 m c t (ix2 p k) : EReal) = yc m c (ix2 r k) := by
  have hi := index_0 t
  unfold b0 iblk
  rw [View.read_apply]
  show V m c main_arg0 _ = m (c.tc.loc main_arg0) _
  unfold V
  refine congrArg _ (funext fun x => Fin.ext ?_)
  match x with
  | ⟨0, _⟩ => show win0_0.index t 0 * 256 + 1 * p.val = r.val; rw [hi.1]; omega
  | ⟨1, _⟩ => show win0_0.index t 1 * 1024 + 1 * k.val = k.val; rw [hi.2]; omega

theorem b1_at (t : Fin cfg0.N) (p : Fin 256) (k : Fin 1024) (r : Fin 8192) (hr : r.val = 256 * t.val + p.val) :
    (b1 m c t (ix2 p k) : EReal) = ya m c (ix2 r k) := by
  have hi := index_1 t
  unfold b1 iblk
  rw [View.read_apply]
  show V m c main_arg1 _ = m (c.tc.loc main_arg1) _
  unfold V
  refine congrArg _ (funext fun x => Fin.ext ?_)
  match x with
  | ⟨0, _⟩ => show win0_1.index t 0 * 256 + 1 * p.val = r.val; rw [hi.1]; omega
  | ⟨1, _⟩ => show win0_1.index t 1 * 1024 + 1 * k.val = k.val; rw [hi.2]; omega

theorem b2_at (t : Fin cfg0.N) (p : Fin 256) (b : Fin 2048) (r : Fin 8192) (hr : r.val = 256 * t.val + p.val) :
    (b2 m c t (ix2 p b) : EReal) = xx m c (ix2 r b) := by
  have hi := index_2 t
  unfold b2 iblk
  rw [View.read_apply]
  show V m c main_arg2 _ = m (c.tc.loc main_arg2) _
  unfold V
  refine congrArg _ (funext fun x => Fin.ext ?_)
  match x with
  | ⟨0, _⟩ => show win0_2.index t 0 * 256 + 1 * p.val = r.val; rw [hi.1]; omega
  | ⟨1, _⟩ => show win0_2.index t 1 * 2048 + 1 * b.val = b.val; rw [hi.2]; omega

theorem b3_at (t : Fin cfg0.N) (p : Fin 256) (b : Fin 2048) (r : Fin 8192) (hr : r.val = 256 * t.val + p.val) :
    (b3 m c t (ix2 p b) : EReal) = tt m c (ix2 r b) := by
  have hi := index_3 t
  unfold b3 iblk
  rw [View.read_apply]
  show V m c main_arg3 _ = m (c.tc.loc main_arg3) _
  unfold V
  refine congrArg _ (funext fun x => Fin.ext ?_)
  match x with
  | ⟨0, _⟩ => show win0_3.index t 0 * 256 + 1 * p.val = r.val; rw [hi.1]; omega
  | ⟨1, _⟩ => show win0_3.index t 1 * 2048 + 1 * b.val = b.val; rw [hi.2]; omega

theorem b4_at (t : Fin cfg0.N) (b : Fin 2048) : (b4 m c t (ix2 0 b) : EReal) = gg m c (ix2 0 b) := by
  have hi := index_4 t
  unfold b4 iblk
  rw [View.read_apply]
  show V m c main_arg4 _ = m (c.tc.loc main_arg4) _
  unfold V
  refine congrArg _ (funext fun x => Fin.ext ?_)
  match x with
  | ⟨0, _⟩ => show win0_4.index t 0 * 1 + 1 * 0 = 0; rw [hi.1]
  | ⟨1, _⟩ => show win0_4.index t 1 * 2048 + 1 * b.val = b.val; rw [hi.2]; omega

theorem top_at (w : Vec Ideal S2048x2048 .bf16) (k : Fin 1024) (b : Fin 2048) : top w (ix2 k b) = w (ix2 (⟨k.val, by omega⟩ : Fin 2048) b) := by
  refine congrArg w (funext fun x => Fin.ext ?_)
  match x with
  | ⟨0, _⟩ => show 0 + 1 * k.val = k.val; omega
  | ⟨1, _⟩ => show 0 + 1 * b.val = b.val; omega

theorem bot_at (w : Vec Ideal S2048x2048 .bf16) (k : Fin 1024) (b : Fin 2048) : bot w (ix2 k b) = w (ix2 (⟨1024 + k.val, by omega⟩ : Fin 2048) b) := by
  refine congrArg w (funext fun x => Fin.ext ?_)
  match x with
  | ⟨0, _⟩ => show 1024 + 1 * k.val = 1024 + k.val; omega
  | ⟨1, _⟩ => show 0 + 1 * b.val = b.val; omega

/-- A point's product, difference and gradient. -/
abbrev prod (t : Fin cfg0.N) : FVec Ideal S256x2048 .f32 := k0_pay8 (b0 m c t) (top (ww m c)) (b1 m c t) (bot (ww m c))
abbrev diff (t : Fin cfg0.N) : FVec Ideal S256x2048 .f32 := k0_pay9 (b0 m c t) (top (ww m c)) (b1 m c t) (bot (ww m c)) (b4 m c t) (b2 m c t) (b3 m c t)
abbrev dout (t : Fin cfg0.N) : FVec Ideal S256x2048 .f32 := k0_pay10 (b0 m c t) (top (ww m c)) (b1 m c t) (bot (ww m c)) (b4 m c t) (b2 m c t) (b3 m c t)

variable (t : Fin cfg0.N) (p : Fin 256) (b : Fin 2048) (r : Fin 8192) (hr : r.val = 256 * t.val + p.val)
include hr

theorem prod_row : (prod m c t (ix2 p b) : EReal) = Y (yc m c) (ya m c) (ww m c) r b := by
  refine (product_at _ _ _ _ p b).trans ?_
  unfold Y
  refine congrArg₂ (· + ·) (Finset.sum_congr rfl fun k _ => ?_) (Finset.sum_congr rfl fun k _ => ?_)
  · exact congrArg₂ (· * ·) (b0_at m c t p k r hr) (top_at _ k b)
  · exact congrArg₂ (· * ·) (b1_at m c t p k r hr) (bot_at _ k b)

theorem diff_row : (diff m c t (ix2 p b) : EReal) = D (yc m c) (ya m c) (xx m c) (tt m c) (gg m c) (ww m c) r b := by
  refine (diff_at _ _ _ _ _ _ _ p b).trans ?_
  unfold D
  exact congrArg₂ (· - ·) (congrArg₂ (· + ·) (b2_at m c t p b r hr) (congrArg₂ (· * ·) (b4_at m c t b) (prod_row m c t p b r hr))) (b3_at m c t p b r hr)

theorem dout_row : (dout m c t (ix2 p b) : EReal) = O (yc m c) (ya m c) (xx m c) (tt m c) (gg m c) (ww m c) r b := by
  refine (dout_at _ _ _ _ _ _ _ p b).trans ?_
  unfold O
  exact congrArg (· * _) (diff_row m c t p b r hr)

theorem dy_row : (k0_pay2 (b4 m c t) (dout m c t) (ix2 p b) : EReal) = E (yc m c) (ya m c) (xx m c) (tt m c) (gg m c) (ww m c) r b := by
  refine (dy_at _ p b _).trans ?_
  unfold E
  exact congrArg₂ (· * ·) (dout_row m c t p b r hr) (b4_at m c t b)

theorem dycat_row : (k0_pay3 (b4 m c t) (dout m c t) (ww m c) (ix2 p b) : EReal) = C (yc m c) (ya m c) (xx m c) (tt m c) (gg m c) (ww m c) r b := by
  refine (dycat_at _ p b _ _).trans ?_
  unfold C
  exact Finset.sum_congr rfl fun k _ => congrArg (· * _) (dy_row m c t p k r hr)

omit hr

theorem gates_row (q : Fin 8) (s : Vec Ideal S8x2048 .f32) :
    (k0_pay11 (b0 m c t) (top (ww m c)) (b1 m c t) (bot (ww m c)) (b4 m c t) (b2 m c t) (b3 m c t) s (ix2 q b) : EReal)
      = s (ix2 q b) + ∑ u : Fin 32, past (gatePart (yc m c) (ya m c) (xx m c) (tt m c) (gg m c) (ww m c) b) (256 * t.val + (u.val * 8 + q.val)) := by
  have hN : cfg0.N = 32 := N_0
  refine (gates_at _ _ _ _ _ _ _ q b s).trans (congrArg (_ + ·) (Finset.sum_congr rfl fun u _ => ?_))
  have hr : 256 * t.val + (u.val * 8 + q.val) < 8192 := by have := t.isLt; omega
  rw [past_of _ ⟨_, hr⟩ _ rfl]
  exact congrArg₂ (· * ·) (dout_row m c t _ b ⟨_, hr⟩ rfl) (prod_row m c t _ b ⟨_, hr⟩ rfl)

theorem squares_row (q : Fin 8) (s : Vec Ideal S8x2048 .f32) :
    (k0_pay1 (diff m c t) s (ix2 q b) : EReal)
      = s (ix2 q b) + ∑ u : Fin 32, past (square (yc m c) (ya m c) (xx m c) (tt m c) (gg m c) (ww m c) b) (256 * t.val + (u.val * 8 + q.val)) := by
  have hN : cfg0.N = 32 := N_0
  refine (squares_at q b _ s).trans (congrArg (_ + ·) (Finset.sum_congr rfl fun u _ => ?_))
  have hr : 256 * t.val + (u.val * 8 + q.val) < 8192 := by have := t.isLt; omega
  rw [past_of _ ⟨_, hr⟩ _ rfl]
  exact congrArg₂ (· * ·) (diff_row m c t _ b ⟨_, hr⟩ rfl) (diff_row m c t _ b ⟨_, hr⟩ rfl)

theorem zeros_row (y : S16x2048.Idx) : (k0_pay7 (F := Ideal) y : EReal) = 0 := by
  rw [ix2_of (n := 16) (k := 2048) y]
  exact zeros_at _ _

/-! ### The points in turn -/

/-- The first point's memrefs and blocks, and a later point's, with what the point before left. -/
abbrev first_of (h0 : t.val % 32 = 0) (h1 : ¬t.val % 32 = 31) := first (F := Ideal) c (grid0.coords t) (ms0_0 t) (hs0_0 t) (ms0_1 t) (hs0_1 t) (ms0_2 t) (hs0_2 t) (ms0_3 t) (hs0_3 t) (ms0_4 t) (hs0_4 t)
  (ms0_5 t) (hs0_5 t) (ms0_6 t) (hs0_6 t) (ms0_7 t) (hs0_7 t) (ms0_8 t) (hs0_8 t) scM0_0 (Memref.isWhole_whole _) scM0_1 (Memref.isWhole_whole _)
  (b0 m c t) (b1 m c t) (b2 m c t) (b3 m c t) (b4 m c t)
  (ww m c) ((hcond0_0 t).mpr h0) (fun h => h1 ((hcond0_1 t).mp h))
abbrev next_of (s : Vec Ideal S16x2048 .f32) (h0 : ¬t.val % 32 = 0) (h1 : ¬t.val % 32 = 31) := next (F := Ideal) c (grid0.coords t) (ms0_0 t) (hs0_0 t) (ms0_1 t) (hs0_1 t) (ms0_2 t) (hs0_2 t) (ms0_3 t) (hs0_3 t) (ms0_4 t) (hs0_4 t)
  (ms0_5 t) (hs0_5 t) (ms0_6 t) (hs0_6 t) (ms0_7 t) (hs0_7 t) (ms0_8 t) (hs0_8 t) scM0_0 (Memref.isWhole_whole _) scM0_1 (Memref.isWhole_whole _)
  (b0 m c t) (b1 m c t) (b2 m c t) (b3 m c t) (b4 m c t)
  (ww m c) s (ww m c) (fun h => h0 ((hcond0_0 t).mp h)) (fun h => h1 ((hcond0_1 t).mp h))
abbrev last_of (s : Vec Ideal S16x2048 .f32) (h0 : ¬t.val % 32 = 0) (h1 : t.val % 32 = 31) := last (F := Ideal) c (grid0.coords t) (ms0_0 t) (hs0_0 t) (ms0_1 t) (hs0_1 t) (ms0_2 t) (hs0_2 t) (ms0_3 t) (hs0_3 t) (ms0_4 t) (hs0_4 t)
  (ms0_5 t) (hs0_5 t) (ms0_6 t) (hs0_6 t) (ms0_7 t) (hs0_7 t) (ms0_8 t) (hs0_8 t) scM0_0 (Memref.isWhole_whole _) scM0_1 (Memref.isWhole_whole _)
  (b0 m c t) (b1 m c t) (b2 m c t) (b3 m c t) (b4 m c t)
  (ww m c) s (ww m c) (fun h => h0 ((hcond0_0 t).mp h)) ((hcond0_1 t).mpr h1)
abbrev final_of (s : Vec Ideal S16x2048 .f32) (h0 : ¬t.val % 32 = 0) (h1 : t.val % 32 = 31) (b : Fin 2048) := final (F := Ideal) c (grid0.coords t) (ms0_0 t) (hs0_0 t) (ms0_1 t) (hs0_1 t) (ms0_2 t) (hs0_2 t) (ms0_3 t) (hs0_3 t) (ms0_4 t) (hs0_4 t)
  (ms0_5 t) (hs0_5 t) (ms0_6 t) (hs0_6 t) (ms0_7 t) (hs0_7 t) (ms0_8 t) (hs0_8 t) scM0_0 (Memref.isWhole_whole _) scM0_1 (Memref.isWhole_whole _)
  (b0 m c t) (b1 m c t) (b2 m c t) (b3 m c t) (b4 m c t)
  (ww m c) s (ww m c) (fun h => h0 ((hcond0_0 t).mp h)) ((hcond0_1 t).mpr h1) b

theorem whole_kept : V m c main_arg5 = ww m c := rfl

/-- The weights' scratch after any point. -/
theorem weights_kept : ∀ (n : ℕ) (hn : n < cfg0.N), (outsAt0 m c n hn).2.2.2.2.1 = ww m c
  | 0, hn => by
    have e := outsAt0_A m c ⟨0, hn⟩ (show 0 % 32 = 0 by decide) (show ¬0 % 32 = 31 by decide)
    have h := (first_of m c ⟨0, hn⟩ (show 0 % 32 = 0 by decide) (show ¬0 % 32 = 31 by decide)).2.2.2.1
    rw [whole_kept] at e
    rw [congrArg (fun o => o.2.2.2.2.1) e]
    dsimp only
    exact h
  | n + 1, hn => by
    have hN : cfg0.N = 32 := N_0
    by_cases h : (n + 1) % 32 = 31
    · rw [congrArg (fun o => o.2.2.2.2.1) (outsAt0_C m c ⟨n + 1, hn⟩ (show ¬(n + 1) % 32 = 0 by omega) h)]
      dsimp only
      unfold sout0_C_0
      exact weights_kept n (Nat.lt_of_succ_lt hn)
    · rw [congrArg (fun o => o.2.2.2.2.1) (outsAt0_B m c ⟨n + 1, hn⟩ (show ¬(n + 1) % 32 = 0 by omega) h)]
      dsimp only
      unfold sout0_B_0
      exact weights_kept n (Nat.lt_of_succ_lt hn)

abbrev sumsBefore : Vec Ideal S16x2048 .f32 := (outsAt0 m c (t.val - 1) (Nat.lt_of_le_of_lt (Nat.sub_le _ _) t.isLt)).2.2.2.2.2

/-- What a point leaves of the three results by rows. -/
theorem outs_rows : (outsAt0 m c t.val t.isLt).1 = dout m c t
    ∧ (outsAt0 m c t.val t.isLt).2.1 = k0_pay2 (b4 m c t) (dout m c t)
    ∧ (outsAt0 m c t.val t.isLt).2.2.1 = k0_pay3 (b4 m c t) (dout m c t) (ww m c) := by
  by_cases h0 : t.val % 32 = 0
  · have h1 : ¬t.val % 32 = 31 := by omega
    have h := first_of m c t h0 h1
    rw [outsAt0_A m c t h0 h1, whole_kept]
    dsimp only
    exact ⟨h.1, h.2.1, h.2.2.1⟩
  · have hk := weights_kept m c (t.val - 1) (Nat.lt_of_le_of_lt (Nat.sub_le _ _) t.isLt)
    by_cases h1 : t.val % 32 = 31
    · have h := last_of m c t (sumsBefore m c t) h0 h1
      rw [outsAt0_C m c t h0 h1, hk, whole_kept]
      dsimp only
      exact h
    · have h := next_of m c t (sumsBefore m c t) h0 h1
      rw [outsAt0_B m c t h0 h1, hk, whole_kept]
      dsimp only
      exact ⟨h.1, h.2.1, h.2.2.1⟩

/-- The sums a point leaves, over the sums before it. -/
theorem sums_first (h0 : t.val % 32 = 0) (h1 : ¬t.val % 32 = 31) :
    low (outsAt0 m c t.val t.isLt).2.2.2.2.2
        = k0_pay11 (b0 m c t) (top (ww m c)) (b1 m c t) (bot (ww m c)) (b4 m c t) (b2 m c t) (b3 m c t) (low (k0_pay7 (F := Ideal)))
      ∧ high (outsAt0 m c t.val t.isLt).2.2.2.2.2 = k0_pay1 (diff m c t) (high (k0_pay7 (F := Ideal))) := by
  have h := first_of m c t h0 h1
  rw [outsAt0_A m c t h0 h1, whole_kept]
  dsimp only
  exact h.2.2.2.2

theorem sums_next (h0 : ¬t.val % 32 = 0) (h1 : ¬t.val % 32 = 31) :
    low (outsAt0 m c t.val t.isLt).2.2.2.2.2
        = k0_pay11 (b0 m c t) (top (ww m c)) (b1 m c t) (bot (ww m c)) (b4 m c t) (b2 m c t) (b3 m c t) (low (sumsBefore m c t))
      ∧ high (outsAt0 m c t.val t.isLt).2.2.2.2.2 = k0_pay1 (diff m c t) (high (sumsBefore m c t)) := by
  have hk := weights_kept m c (t.val - 1) (Nat.lt_of_le_of_lt (Nat.sub_le _ _) t.isLt)
  have h := next_of m c t (sumsBefore m c t) h0 h1
  rw [outsAt0_B m c t h0 h1, hk, whole_kept]
  dsimp only
  exact h.2.2.2

theorem stats_last (h0 : ¬t.val % 32 = 0) (h1 : t.val % 32 = 31) :
    (outsAt0 m c t.val t.isLt).2.2.2.1 (ix2 0 b)
        = k0_pay5 (k0_pay11 (b0 m c t) (top (ww m c)) (b1 m c t) (bot (ww m c)) (b4 m c t) (b2 m c t) (b3 m c t) (low (sumsBefore m c t))) (ix2 0 b)
      ∧ (outsAt0 m c t.val t.isLt).2.2.2.1 (ix2 1 b) = k0_pay6 (k0_pay1 (diff m c t) (high (sumsBefore m c t))) (ix2 0 b)
      ∧ ∀ q : Fin 8, 2 ≤ q.val → (outsAt0 m c t.val t.isLt).2.2.2.1 (ix2 q b) = k0_pay4 (F := Ideal) (ix2 q b) := by
  have hk := weights_kept m c (t.val - 1) (Nat.lt_of_le_of_lt (Nat.sub_le _ _) t.isLt)
  have h := final_of m c t (sumsBefore m c t) h0 h1 b
  rw [outsAt0_C m c t h0 h1, hk, whole_kept]
  dsimp only
  exact h

/-- The two sums after a point before the last, by the row modulo eight. -/
theorem sums_at (q : Fin 8) : ∀ (n : ℕ) (hn : n < cfg0.N), n < 31 →
    (low (outsAt0 m c n hn).2.2.2.2.2 (ix2 q b) : EReal) = ∑ j ∈ Finset.range (n + 1), ∑ u : Fin 32,
        past (gatePart (yc m c) (ya m c) (xx m c) (tt m c) (gg m c) (ww m c) b) (256 * j + (u.val * 8 + q.val))
    ∧ (high (outsAt0 m c n hn).2.2.2.2.2 (ix2 q b) : EReal) = ∑ j ∈ Finset.range (n + 1), ∑ u : Fin 32,
        past (square (yc m c) (ya m c) (xx m c) (tt m c) (gg m c) (ww m c) b) (256 * j + (u.val * 8 + q.val))
  | 0, hn, h31 => by
    have h := sums_first m c ⟨0, hn⟩ rfl (show ¬0 % 32 = 31 by decide)
    have zl : (low (F := Ideal) (k0_pay7 (F := Ideal)) (ix2 q b) : EReal) = 0 := by
      unfold low
      exact zeros_row _
    have zh : (high (F := Ideal) (k0_pay7 (F := Ideal)) (ix2 q b) : EReal) = 0 := by
      unfold high
      exact zeros_row _
    rw [Finset.sum_range_one, Finset.sum_range_one]
    constructor
    · refine (congrFun h.1 _).trans ((gates_row m c ⟨0, hn⟩ b q _).trans ?_)
      rw [zl, zero_add]
    · refine (congrFun h.2 _).trans ((squares_row m c ⟨0, hn⟩ b q _).trans ?_)
      rw [zh, zero_add]
  | n + 1, hn, h31 => by
    have ih := sums_at q n (Nat.lt_of_succ_lt hn) (by omega)
    have h := sums_next m c ⟨n + 1, hn⟩ (show ¬(n + 1) % 32 = 0 by omega) (show ¬(n + 1) % 32 = 31 by omega)
    rw [Finset.sum_range_succ, Finset.sum_range_succ (fun j => ∑ u : Fin 32, past (square _ _ _ _ _ _ b) _)]
    constructor
    · exact (congrFun h.1 _).trans ((gates_row m c ⟨n + 1, hn⟩ b q _).trans (congrArg (· + _) ih.1))
    · exact (congrFun h.2 _).trans ((squares_row m c ⟨n + 1, hn⟩ b q _).trans (congrArg (· + _) ih.2))

/-- The last point's statistics. -/
theorem stats_at (n : ℕ) (hn : n + 1 < cfg0.N) (h30 : n = 30) (q : Fin 8) :
    ((outsAt0 m c (n + 1) hn).2.2.2.1 (ix2 q b) : EReal) = T (yc m c) (ya m c) (xx m c) (tt m c) (gg m c) (ww m c) q b := by
  have ih := fun q b => sums_at m c b q n (Nat.lt_of_succ_lt hn) (by omega)
  have h := stats_last m c ⟨n + 1, hn⟩ b (show ¬(n + 1) % 32 = 0 by omega) (show (n + 1) % 32 = 31 by omega)
  have hr : Finset.range 32 = Finset.range (n + 1 + 1) := congrArg _ (by omega)
  unfold T
  by_cases q0 : q.val = 0
  · obtain rfl : q = 0 := Fin.ext q0
    rw [if_pos (show (0 : Fin 8).val = 0 from rfl), ← sum_rows]
    refine h.1.trans ((gate_at b _).trans (Finset.sum_congr rfl fun q _ => ?_))
    rw [hr, Finset.sum_range_succ]
    exact (gates_row m c ⟨n + 1, hn⟩ b q _).trans (congrArg (fun v : EReal => v + _) (ih q b).1)
  · rw [if_neg q0]
    by_cases q1 : q.val = 1
    · obtain rfl : q = 1 := Fin.ext q1
      rw [if_pos (show (1 : Fin 8).val = 1 from rfl)]
      refine h.2.1.trans ((loss_at b _).trans (congrArg (· * _) ?_))
      rw [Finset.sum_comm]
      refine Finset.sum_congr rfl fun k _ => ?_
      rw [← sum_rows]
      refine Finset.sum_congr rfl fun q _ => ?_
      rw [hr, Finset.sum_range_succ]
      exact (squares_row m c ⟨n + 1, hn⟩ k q _).trans (congrArg (fun v : EReal => v + _) (ih q k).2)
    · rw [if_neg q1]
      exact (h.2.2 q (by omega)).trans (zero_at q b)

end Cert.Proof.Kernel4Ideal

end
-- ==== Proof.Kernel4Ideal.Arrays.lean ====
/-
  The layer's last product and its loss: the four arrays after the run.
-/
module

public import proofs.«01_k».proof.Proof.Kernel4Ideal.Points

@[expose] public section

noncomputable section

namespace Cert.Proof.Kernel4Ideal

open Cert.Kernel4Ideal Cert.Kernel4Ideal.Gen
open Idealize.ShloMosaic Idealize.ShloMosaic.TcCoe Idealize.ShloMosaic.Pointwise Idealize.SL.Sem

variable (m : (ℓ : Loc nD τ sig) → Buf (Elt Ideal) ℓ) (c : Dev nD)

/-- A matrix by its entries. -/
abbrev mat {n k : ℕ} (f : Fin n → Fin k → EReal) : ((i : Fin 2) → Fin (![n, k] i)) → EReal := fun y => f (y 0) (y 1)

theorem index_5 : ∀ t : Fin cfg0.N, win0_5.index t (0 : Fin 2) = t.val ∧ win0_5.index t (1 : Fin 2) = 0 := (by decide +kernel : ∀ t : Fin grid0.N, _)
theorem index_6 : ∀ t : Fin cfg0.N, win0_6.index t (0 : Fin 2) = t.val ∧ win0_6.index t (1 : Fin 2) = 0 := (by decide +kernel : ∀ t : Fin grid0.N, _)
theorem index_7 : ∀ t : Fin cfg0.N, win0_7.index t (0 : Fin 2) = t.val ∧ win0_7.index t (1 : Fin 2) = 0 := (by decide +kernel : ∀ t : Fin grid0.N, _)
theorem index_8 : ∀ t : Fin cfg0.N, win0_8.index t (0 : Fin 2) = 0 ∧ win0_8.index t (1 : Fin 2) = 0 := (by decide +kernel : ∀ t : Fin grid0.N, _)
theorem flushes_5 : ∀ t : Fin cfg0.N, (cfg0.win 5).flush t = true := (by decide +kernel : ∀ t : Fin grid0.N, _)
theorem flushes_6 : ∀ t : Fin cfg0.N, (cfg0.win 6).flush t = true := (by decide +kernel : ∀ t : Fin grid0.N, _)
theorem flushes_7 : ∀ t : Fin cfg0.N, (cfg0.win 7).flush t = true := (by decide +kernel : ∀ t : Fin grid0.N, _)
theorem flushes_8 : ∀ t : Fin cfg0.N, (cfg0.win 8).flush t = true ↔ t.val = 31 := (by decide +kernel : ∀ t : Fin grid0.N, _)

/-- The row a point's block holds. -/
abbrev rowOf (t : Fin cfg0.N) (p : Fin 256) : Fin 8192 := ⟨256 * t.val + p.val, by have hN : cfg0.N = 32 := N_0; have := t.isLt; omega⟩
abbrev pointOf (r : Fin 8192) : Fin cfg0.N := ⟨r.val / 256, by have hN : cfg0.N = 32 := N_0; omega⟩

theorem emb_5 (t : Fin cfg0.N) (p : Fin 256) (b : Fin 2048) : ((cfg0.win 5).blk t).view.emb (ix2 p b) = ix2 (rowOf t p) b := by
  have hi := index_5 t
  refine funext fun a => Fin.ext ?_
  match a with
  | ⟨0, _⟩ => show win0_5.index t (0 : Fin 2) * 256 + 1 * p.val = 256 * t.val + p.val; rw [hi.1]; omega
  | ⟨1, _⟩ => show win0_5.index t (1 : Fin 2) * 2048 + 1 * b.val = b.val; rw [hi.2]; omega

def doutArr : (⟨S8192x2048, .f32⟩ : BufTy).Contents (Elt Ideal) := mat (O (yc m c) (ya m c) (xx m c) (tt m c) (gg m c) (ww m c))

theorem array_5 : (dats m 0 c).arrAt 5 cfg0.N = doutArr m c := by
  refine (dats m 0 c).arrAt_eq_of_cover 5 (doutArr m c) (fun t _ => ?_) fun i => ?_
  · rw [Value.flushed5]
    funext y
    show (outsAt0 m c t.val t.isLt).1 y = doutArr m c (((cfg0.win 5).blk t).view.emb y)
    obtain ⟨p, b, rfl⟩ : ∃ (p : Fin 256) (b : Fin 2048), y = ix2 p b := ⟨y 0, y 1, ix2_of y⟩
    rw [emb_5, (outs_rows m c t).1]
    exact dout_row m c t p b (rowOf t p) rfl
  · obtain ⟨r, b, rfl⟩ : ∃ (r : Fin 8192) (b : Fin 2048), i = ix2 r b := ⟨i 0, i 1, ix2_of i⟩
    refine ⟨pointOf r, flushes_5 _, ?_⟩
    have h := ((cfg0.win 5).blk (pointOf r)).view.emb_mem_set (ix2 (⟨r.val % 256, by omega⟩ : Fin 256) b)
    rw [emb_5] at h
    rwa [show rowOf (pointOf r) ⟨r.val % 256, by omega⟩ = r from Fin.ext (by show 256 * (r.val / 256) + r.val % 256 = r.val; omega)] at h

theorem emb_6 (t : Fin cfg0.N) (p : Fin 256) (b : Fin 2048) : ((cfg0.win 6).blk t).view.emb (ix2 p b) = ix2 (rowOf t p) b := by
  have hi := index_6 t
  refine funext fun a => Fin.ext ?_
  match a with
  | ⟨0, _⟩ => show win0_6.index t (0 : Fin 2) * 256 + 1 * p.val = 256 * t.val + p.val; rw [hi.1]; omega
  | ⟨1, _⟩ => show win0_6.index t (1 : Fin 2) * 2048 + 1 * b.val = b.val; rw [hi.2]; omega

def dyArr : (⟨S8192x2048, .bf16⟩ : BufTy).Contents (Elt Ideal) := mat (E (yc m c) (ya m c) (xx m c) (tt m c) (gg m c) (ww m c))

theorem array_6 : (dats m 0 c).arrAt 6 cfg0.N = dyArr m c := by
  refine (dats m 0 c).arrAt_eq_of_cover 6 (dyArr m c) (fun t _ => ?_) fun i => ?_
  · rw [Value.flushed6]
    funext y
    show (outsAt0 m c t.val t.isLt).2.1 y = dyArr m c (((cfg0.win 6).blk t).view.emb y)
    obtain ⟨p, b, rfl⟩ : ∃ (p : Fin 256) (b : Fin 2048), y = ix2 p b := ⟨y 0, y 1, ix2_of y⟩
    rw [emb_6, (outs_rows m c t).2.1]
    exact dy_row m c t p b (rowOf t p) rfl
  · obtain ⟨r, b, rfl⟩ : ∃ (r : Fin 8192) (b : Fin 2048), i = ix2 r b := ⟨i 0, i 1, ix2_of i⟩
    refine ⟨pointOf r, flushes_6 _, ?_⟩
    have h := ((cfg0.win 6).blk (pointOf r)).view.emb_mem_set (ix2 (⟨r.val % 256, by omega⟩ : Fin 256) b)
    rw [emb_6] at h
    rwa [show rowOf (pointOf r) ⟨r.val % 256, by omega⟩ = r from Fin.ext (by show 256 * (r.val / 256) + r.val % 256 = r.val; omega)] at h

theorem emb_7 (t : Fin cfg0.N) (p : Fin 256) (b : Fin 2048) : ((cfg0.win 7).blk t).view.emb (ix2 p b) = ix2 (rowOf t p) b := by
  have hi := index_7 t
  refine funext fun a => Fin.ext ?_
  match a with
  | ⟨0, _⟩ => show win0_7.index t (0 : Fin 2) * 256 + 1 * p.val = 256 * t.val + p.val; rw [hi.1]; omega
  | ⟨1, _⟩ => show win0_7.index t (1 : Fin 2) * 2048 + 1 * b.val = b.val; rw [hi.2]; omega

def dycatArr : (⟨S8192x2048, .bf16⟩ : BufTy).Contents (Elt Ideal) := mat (C (yc m c) (ya m c) (xx m c) (tt m c) (gg m c) (ww m c))

theorem array_7 : (dats m 0 c).arrAt 7 cfg0.N = dycatArr m c := by
  refine (dats m 0 c).arrAt_eq_of_cover 7 (dycatArr m c) (fun t _ => ?_) fun i => ?_
  · rw [Value.flushed7]
    funext y
    show (outsAt0 m c t.val t.isLt).2.2.1 y = dycatArr m c (((cfg0.win 7).blk t).view.emb y)
    obtain ⟨p, b, rfl⟩ : ∃ (p : Fin 256) (b : Fin 2048), y = ix2 p b := ⟨y 0, y 1, ix2_of y⟩
    rw [emb_7, (outs_rows m c t).2.2]
    exact dycat_row m c t p b (rowOf t p) rfl
  · obtain ⟨r, b, rfl⟩ : ∃ (r : Fin 8192) (b : Fin 2048), i = ix2 r b := ⟨i 0, i 1, ix2_of i⟩
    refine ⟨pointOf r, flushes_7 _, ?_⟩
    have h := ((cfg0.win 7).blk (pointOf r)).view.emb_mem_set (ix2 (⟨r.val % 256, by omega⟩ : Fin 256) b)
    rw [emb_7] at h
    rwa [show rowOf (pointOf r) ⟨r.val % 256, by omega⟩ = r from Fin.ext (by show 256 * (r.val / 256) + r.val % 256 = r.val; omega)] at h

theorem emb_8 (t : Fin cfg0.N) (q : Fin 8) (b : Fin 2048) : ((cfg0.win 8).blk t).view.emb (ix2 q b) = ix2 q b := by
  have hi := index_8 t
  refine funext fun a => Fin.ext ?_
  match a with
  | ⟨0, _⟩ => show win0_8.index t (0 : Fin 2) * 8 + 1 * q.val = q.val; rw [hi.1]; omega
  | ⟨1, _⟩ => show win0_8.index t (1 : Fin 2) * 2048 + 1 * b.val = b.val; rw [hi.2]; omega

def statsArr : (⟨S8x2048, .f32⟩ : BufTy).Contents (Elt Ideal) := mat (T (yc m c) (ya m c) (xx m c) (tt m c) (gg m c) (ww m c))

theorem array_8 : (dats m 0 c).arrAt 8 cfg0.N = statsArr m c := by
  have hN : cfg0.N = 32 := N_0
  refine (dats m 0 c).arrAt_eq_of_cover 8 (statsArr m c) (fun t hf => ?_) fun i => ?_
  · have ht := (flushes_8 t).mp hf
    rw [Value.flushed8]
    funext y
    show (outsAt0 m c t.val t.isLt).2.2.2.1 y = statsArr m c (((cfg0.win 8).blk t).view.emb y)
    obtain ⟨q, b, rfl⟩ : ∃ (q : Fin 8) (b : Fin 2048), y = ix2 q b := ⟨y 0, y 1, ix2_of y⟩
    rw [emb_8]
    obtain ⟨t, hlt⟩ := t
    obtain ⟨n, rfl⟩ : ∃ n, t = n + 1 := ⟨t - 1, by dsimp only at ht; omega⟩
    exact stats_at m c b n hlt (by dsimp only at ht; omega) q
  · obtain ⟨q, b, rfl⟩ : ∃ (q : Fin 8) (b : Fin 2048), i = ix2 q b := ⟨i 0, i 1, ix2_of i⟩
    have h31 : 31 < cfg0.N := by rw [hN]; decide
    refine ⟨⟨31, h31⟩, (flushes_8 _).mpr rfl, ?_⟩
    have h := ((cfg0.win 8).blk ⟨31, h31⟩).view.emb_mem_set (ix2 q b)
    rwa [emb_8] at h

end Cert.Proof.Kernel4Ideal

end
-- ==== Proof.Loss.lean ====
/-
  The layer's last product, its loss and their gradients: the run's arrays are the reference's.
-/
module

public import proofs.«01_k».proof.Defs
public import proofs.«01_k».proof.Proof.Kernel4Ideal.Arrays
public import proofs.«01_k».proof.Proof.Gen.Reference4Ideal.Run
public import proofs.«01_k».proof.Proof.Gen.Reference4Ideal.Read

@[expose] public section

noncomputable section

namespace Cert.Proof.Loss

open Idealize.ShloMosaic Idealize.ShloMosaic.TcCoe Idealize.ShloMosaic.Pointwise Idealize.SL.Sem

/-! ### The constants, and sums of nonnegative terms -/

theorem word_two : Ideal.ofBits .f32 0x40000000#32 = ((2 : ℝ) : EReal) := by
  simp [Ideal.ofBits, Ideal.ieee]
  rw [← EReal.coe_mul]
  norm_num
theorem word_half : Ideal.ofBits .f32 0x3F000000#32 = ((1 / 2 : ℝ) : EReal) := by
  simp [Ideal.ofBits, Ideal.ieee]
  rw [← EReal.coe_mul]
  norm_num
theorem word_one : Ideal.ofBits .f32 0x3F800000#32 = ((1 : ℝ) : EReal) := by
  simp [Ideal.ofBits, Ideal.ieee]
  rw [← EReal.coe_mul]
  norm_num
theorem word_row : Ideal.ofBits .f32 0x45000000#32 = ((2048 : ℝ) : EReal) := by
  simp [Ideal.ofBits, Ideal.ieee]
  rw [← EReal.coe_mul]
  norm_num
theorem word_grad : Ideal.ofBits .f32 0x3A000000#32 = ((1 / 2048 : ℝ) : EReal) := by
  simp [Ideal.ofBits, Ideal.ieee]
  rw [← EReal.coe_mul]
  norm_num
theorem word_loss : Ideal.ofBits .f32 0x39800000#32 = ((1 / 4096 : ℝ) : EReal) := by
  simp [Ideal.ofBits, Ideal.ieee]
  rw [← EReal.coe_mul]
  norm_num
theorem word_zero : Ideal.ofBits .f32 0x00000000#32 = 0 := by
  simp [Ideal.ofBits, Ideal.ieee]

theorem square_nonneg (x : EReal) : 0 ≤ x * x := by
  rcases le_total 0 x with h | h
  · exact mul_nonneg h h
  · have h' : 0 ≤ -x := EReal.neg_nonneg.mpr h
    have := mul_nonneg h' h'
    rwa [EReal.neg_mul, mul_comm, EReal.neg_mul, neg_neg] at this

/-- A factor taken out of a sum of nonnegative terms. -/
theorem sum_mul_of_nonneg {ι : Type} (s : Finset ι) (f : ι → EReal) (hf : ∀ i, 0 ≤ f i) (a : EReal) :
    ∑ i ∈ s, f i * a = (∑ i ∈ s, f i) * a := by
  classical
  induction s using Finset.induction_on with
  | empty => simp
  | insert i s hi ih => rw [Finset.sum_insert hi, Finset.sum_insert hi, ih, EReal.right_distrib_of_nonneg (hf i) (Finset.sum_nonneg fun j _ => hf j)]

/-! ### The reference at a row and a column -/

section Reads

open Cert.Reference4Ideal

variable (x0 x1 : (⟨S8192x1024, .bf16⟩ : BufTy).Contents (Elt Ideal)) (x2 x3 : (⟨S8192x2048, .f32⟩ : BufTy).Contents (Elt Ideal))
  (x4 : (⟨S1x2048, .f32⟩ : BufTy).Contents (Elt Ideal)) (x5 : (⟨S2048x2048, .bf16⟩ : BufTy).Contents (Elt Ideal))

theorem cat_low (r : Fin 8192) (k : Fin 1024) :
    (Read.val_main_v0 (F := Ideal) x0 x1 (ix2 r (⟨k.val, by omega⟩ : Fin 2048)) : EReal) = x0 (ix2 r k) := by
  pointwise [Read.val_main_v0]

theorem cat_high (r : Fin 8192) (k : Fin 1024) :
    (Read.val_main_v0 (F := Ideal) x0 x1 (ix2 r (⟨1024 + k.val, by omega⟩ : Fin 2048)) : EReal) = x1 (ix2 r k) := by
  pointwise [Read.val_main_v0]

theorem product_at (r : Fin 8192) (b : Fin 2048) :
    (Read.val_main_v3 (F := Ideal) x0 x1 x5 (ix2 r b) : EReal) = Kernel4Ideal.Y x0 x1 x5 r b := by
  have hl : ∀ k : Fin 2048, Read.lidx_main_v3 (ix2 r b) k = ix2 r k := fun k => by
    funext x
    match x with
    | ⟨0, _⟩ => rfl
    | ⟨1, _⟩ => rfl
  have hr : ∀ k : Fin 2048, Read.ridx_main_v3 (ix2 r b) k = ix2 k b := fun k => by
    funext x
    match x with
    | ⟨0, _⟩ => rfl
    | ⟨1, _⟩ => rfl
  rw [Read.val_main_v3_apply]
  simp only [hl, hr, Read.val_main_v1_apply, Read.val_main_v2_apply]
  refine (Fin.sum_univ_add (a := 1024) (b := 1024) _).trans ?_
  unfold Kernel4Ideal.Y
  refine congrArg₂ (· + ·) (Finset.sum_congr rfl fun k _ => ?_) (Finset.sum_congr rfl fun k _ => ?_)
  · exact congrArg₂ (fun u v : EReal => u * v) (cat_low x0 x1 r k) rfl
  · exact congrArg₂ (fun u v : EReal => u * v) (cat_high x0 x1 r k) rfl

theorem diff_at (r : Fin 8192) (b : Fin 2048) :
    (Read.val_main_v7 (F := Ideal) x0 x1 x2 x3 x4 x5 (ix2 r b) : EReal) = Kernel4Ideal.D x0 x1 x2 x3 x4 x5 r b := by
  have hg : Read.idx_main_v4 (ix2 r b) = ix2 (0 : Fin 1) b := by
    funext x
    match x with
    | ⟨0, _⟩ => rfl
    | ⟨1, _⟩ => rfl
  rw [Read.val_main_v7_apply, Read.val_main_v6_apply, Read.val_main_v5_apply, Read.val_main_v4_apply, hg]
  unfold Kernel4Ideal.D
  exact congrArg (fun v : EReal => (x2 (ix2 r b) : EReal) + (x4 (ix2 0 b) : EReal) * v - (x3 (ix2 r b) : EReal)) (product_at x0 x1 x5 r b)

theorem dout_at (r : Fin 8192) (b : Fin 2048) :
    (Read.val_main_v21 (F := Ideal) x0 x1 x2 x3 x4 x5 (ix2 r b) : EReal) = Kernel4Ideal.O x0 x1 x2 x3 x4 x5 r b := by
  rw [Read.val_main_v21_apply, Read.val_main_v20_apply, Read.val_main_v19_apply, Read.val_main_v17_apply, Read.val_main_v16_apply,
    Read.val_main_v18_apply, Read.val_main_v10_apply, Read.val_main_v9_apply]
  show Ideal.div (Ideal.ofBits .f32 0x3F000000#32 * Ideal.ofBits .f32 0x3F800000#32) (Ideal.ofBits .f32 0x45000000#32)
    * (Ideal.ofBits .f32 0x40000000#32 * (Read.val_main_v7 (F := Ideal) x0 x1 x2 x3 x4 x5 (ix2 r b) : EReal))
    = Kernel4Ideal.D x0 x1 x2 x3 x4 x5 r b * Ideal.ofBits .f32 0x3A000000#32
  rw [diff_at, word_half, word_one, word_row, word_two, word_grad, Ideal.div_coe (by norm_num), ← mul_assoc, mul_comm]
  refine congrArg (fun v : EReal => Kernel4Ideal.D x0 x1 x2 x3 x4 x5 r b * v) ?_
  rw [← EReal.coe_mul, ← EReal.coe_mul, ← EReal.coe_mul]
  norm_num

theorem dy_at (r : Fin 8192) (b : Fin 2048) :
    (Read.val_main_v23 (F := Ideal) x0 x1 x2 x3 x4 x5 (ix2 r b) : EReal) = Kernel4Ideal.E x0 x1 x2 x3 x4 x5 r b := by
  have hg : Read.idx_main_v22 (ix2 r b) = ix2 (0 : Fin 1) b := by
    funext x
    match x with
    | ⟨0, _⟩ => rfl
    | ⟨1, _⟩ => rfl
  rw [Read.val_main_v23_apply, Read.val_main_v22_apply, hg]
  unfold Kernel4Ideal.E
  exact (mul_comm (x4 (ix2 0 b) : EReal) _).trans (congrArg (fun v : EReal => v * (x4 (ix2 0 b) : EReal)) (dout_at x0 x1 x2 x3 x4 x5 r b))

theorem dycat_at (r : Fin 8192) (j : Fin 2048) :
    (Read.val_main_v28 (F := Ideal) x0 x1 x2 x3 x4 x5 (ix2 r j) : EReal) = Kernel4Ideal.C x0 x1 x2 x3 x4 x5 r j := by
  have hl : ∀ k : Fin 2048, Read.lidx_main_v28 (ix2 r j) k = ix2 r k := fun k => by
    funext x
    match x with
    | ⟨0, _⟩ => rfl
    | ⟨1, _⟩ => rfl
  have hr : ∀ k : Fin 2048, Read.ridx_main_v28 (ix2 r j) k = ix2 j k := fun k => by
    funext x
    match x with
    | ⟨0, _⟩ => rfl
    | ⟨1, _⟩ => rfl
  rw [Read.val_main_v28_apply]
  unfold Kernel4Ideal.C
  refine Finset.sum_congr rfl fun k _ => ?_
  rw [hl, hr, Read.val_main_v2_apply]
  exact congrArg (fun v : EReal => v * (x5 (ix2 j k) : EReal)) (dy_at x0 x1 x2 x3 x4 x5 r k)

theorem gate_at (b : Fin 2048) :
    (Read.val_main_v26 (F := Ideal) x0 x1 x2 x3 x4 x5 (ix2 0 b) : EReal) = ∑ r : Fin 8192, Kernel4Ideal.gatePart x0 x1 x2 x3 x4 x5 b r := by
  have hb : ∀ k : Fin 8192, Read.idx_main_v25 (Read.idx_main_v26 (ix2 (0 : Fin 1) b)) k = ix2 k b := fun k => by
    funext x
    match x with
    | ⟨0, _⟩ => rfl
    | ⟨1, _⟩ => exact Fin.ext (show 0 * 2048 + b.val = b.val by omega)
  rw [Read.val_main_v26_apply, Read.val_main_v25_apply]
  refine (congrArg₂ (fun u v : EReal => u + v) (show _ = (0 : EReal) from word_zero) (Finset.sum_congr rfl fun r _ => ?_)).trans (zero_add _)
  rw [hb, Read.val_main_v24_apply]
  exact congrArg₂ (fun u v : EReal => u * v) (dout_at x0 x1 x2 x3 x4 x5 r b) (product_at x0 x1 x5 r b)

/-- The indices of a row of the rows' means. -/
def rowIdx : S8192.Idx ≃ Fin 8192 where
  toFun y := y 0
  invFun r := fun a => match a with | ⟨0, _⟩ => r
  left_inv y := by
    funext a
    match a with
    | ⟨0, _⟩ => rfl
  right_inv r := rfl

theorem loss_at (i : S_.Idx) :
    (Read.val_main_v15 (F := Ideal) x0 x1 x2 x3 x4 x5 i : EReal)
      = (∑ k : Fin 2048, ∑ r : Fin 8192, Kernel4Ideal.square x0 x1 x2 x3 x4 x5 k r) * Ideal.ofBits .f32 0x39800000#32 := by
  have hs : ∀ y : S8192.Idx, (Read.val_main_v13 (F := Ideal) x0 x1 x2 x3 x4 x5 y : EReal)
      = (∑ k : Fin 2048, Kernel4Ideal.square x0 x1 x2 x3 x4 x5 k (rowIdx y)) * ((1 / 2048 : ℝ) : EReal) := fun y => by
    have hy : ∀ k : Fin 2048, Read.idx_main_v11 y k = ix2 (rowIdx y) k := fun k => by
      funext x
      match x with
      | ⟨0, _⟩ => rfl
      | ⟨1, _⟩ => rfl
    rw [Read.val_main_v13_apply, Read.val_main_v12_apply, Read.val_main_v11_apply]
    show Ideal.div (Ideal.ofBits .f32 0x00000000#32 + ∑ k : Fin 2048, (Read.val_main_v8 (F := Ideal) x0 x1 x2 x3 x4 x5 (Read.idx_main_v11 y k) : EReal))
      (Ideal.ofBits .f32 0x45000000#32) = _
    rw [word_zero, word_row, zero_add, Ideal.div_coe (by norm_num)]
    refine congrArg (fun v : EReal => v * ((1 / 2048 : ℝ) : EReal)) (Finset.sum_congr rfl fun k _ => ?_)
    rw [hy, Read.val_main_v8_apply]
    exact congrArg (fun v : EReal => v * v) (diff_at x0 x1 x2 x3 x4 x5 (rowIdx y) k)
  rw [Read.val_main_v15_apply, Read.val_main_v14_apply]
  show Ideal.ofBits .f32 0x3F000000#32 * (Ideal.ofBits .f32 0x00000000#32 + ∑ y : S8192.Idx, (Read.val_main_v13 (F := Ideal) x0 x1 x2 x3 x4 x5 y : EReal)) = _
  rw [word_zero, zero_add, Finset.sum_congr rfl fun y _ => hs y,
    Equiv.sum_comp rowIdx fun r => (∑ k : Fin 2048, Kernel4Ideal.square x0 x1 x2 x3 x4 x5 k r) * ((1 / 2048 : ℝ) : EReal),
    sum_mul_of_nonneg Finset.univ (fun r => ∑ k : Fin 2048, Kernel4Ideal.square x0 x1 x2 x3 x4 x5 k r)
      fun r => Finset.sum_nonneg fun k _ => square_nonneg (Kernel4Ideal.D x0 x1 x2 x3 x4 x5 r k)]
  rw [Finset.sum_comm, mul_comm, mul_assoc, word_half, word_loss, ← EReal.coe_mul]
  norm_num

theorem stats_at (q : Fin 8) (b : Fin 2048) :
    (Read.val_main_v31 (F := Ideal) x0 x1 x2 x3 x4 x5 (ix2 q b) : EReal) = Kernel4Ideal.T x0 x1 x2 x3 x4 x5 q b := by
  have h : (Read.val_main_v31 (F := Ideal) x0 x1 x2 x3 x4 x5 (ix2 q b) : EReal)
      = if q.val = 0 then (Read.val_main_v26 (F := Ideal) x0 x1 x2 x3 x4 x5 (ix2 0 b) : EReal)
        else if q.val = 1 then (Read.val_main_v29 (F := Ideal) x0 x1 x2 x3 x4 x5 (ix2 0 b) : EReal)
        else 0 := by
    match q with
    | 0 => pointwise [Read.val_main_v31]
    | 1 => pointwise [Read.val_main_v31]
    | 2 => pointwise [Read.val_main_v31, Read.val_main_v30, Read.val_main_cst_8]
    | 3 => pointwise [Read.val_main_v31, Read.val_main_v30, Read.val_main_cst_8]
    | 4 => pointwise [Read.val_main_v31, Read.val_main_v30, Read.val_main_cst_8]
    | 5 => pointwise [Read.val_main_v31, Read.val_main_v30, Read.val_main_cst_8]
    | 6 => pointwise [Read.val_main_v31, Read.val_main_v30, Read.val_main_cst_8]
    | 7 => pointwise [Read.val_main_v31, Read.val_main_v30, Read.val_main_cst_8]
  rw [h, Read.val_main_v29_apply, gate_at, loss_at]
  rfl

end Reads

theorem values4 : Cert.algebraic_Kernel4Ideal_Reference4Ideal (hKernel4Ideal := Cert.Kernel4Ideal.Gen.facts)
    (hReference4Ideal := Cert.Reference4Ideal.Gen.facts) := by
  intro m g m' g' _ hargs
  refine ⟨fun c => Kernel4Ideal.doutArr m c, fun c => Kernel4Ideal.dyArr m c, fun c => Kernel4Ideal.dycatArr m c, fun c => Kernel4Ideal.statsArr m c, ?_, ?_⟩
  · refine (θ_run Cert.Kernel4Ideal.defs _ _).mono (fun r h c => ?_) (Cert.Kernel4Ideal.Value.run_blocks (F := Ideal) m g)
    obtain ⟨h0, h1, h2, h3, h⟩ := h c
    exact ⟨h0.trans (Kernel4Ideal.array_5 m c), h1.trans (Kernel4Ideal.array_6 m c), h2.trans (Kernel4Ideal.array_7 m c),
      h3.trans (Kernel4Ideal.array_8 m c), h⟩
  · refine (θ_run Cert.Reference4Ideal.defs _ _).mono (fun r h c => ?_) (Cert.Reference4Ideal.Value.run (F := Ideal) m' g')
    obtain ⟨h0, h1, h2, h3, h⟩ := h c
    obtain ⟨a0, a1, a2, a3, a4, a5⟩ := hargs c
    refine ⟨h0.trans ?_, h1.trans ?_, h2.trans ?_, h3.trans ?_, h⟩
    · rw [Cert.Reference4Ideal.Read.val_main_v21_eq, a0, a1, a2, a3, a4, a5]
      funext y
      rw [Kernel4Ideal.ix2_of (n := 8192) (k := 2048) y]
      exact dout_at _ _ _ _ _ _ (y 0) (y 1)
    · rw [Cert.Reference4Ideal.Read.val_main_v32_eq, a0, a1, a2, a3, a4, a5]
      funext y
      rw [Kernel4Ideal.ix2_of (n := 8192) (k := 2048) y]
      exact dy_at _ _ _ _ _ _ (y 0) (y 1)
    · rw [Cert.Reference4Ideal.Read.val_main_v33_eq, a0, a1, a2, a3, a4, a5]
      funext y
      rw [Kernel4Ideal.ix2_of (n := 8192) (k := 2048) y]
      exact dycat_at _ _ _ _ _ _ (y 0) (y 1)
    · rw [Cert.Reference4Ideal.Read.val_main_v31_eq, a0, a1, a2, a3, a4, a5]
      funext y
      rw [Kernel4Ideal.ix2_of (n := 8) (k := 2048) y]
      exact stats_at _ _ _ _ _ _ (y 0) (y 1)

end Cert.Proof.Loss

end
-- ==== Proof.Kernel5Ideal.Pay.lean ====
/-
  The modulated norm's gradient, a point's blocks: at a row and a column, over the extended reals.
-/
module

public import proofs.«01_k».proof.Proof.Gen.Kernel5Ideal.Skeleton
public import Idealize.ShloMosaic.Lib.Pointwise

@[expose] public section

noncomputable section

namespace Cert.Proof.Kernel5Ideal

open Cert.Kernel5Ideal Cert.Kernel5Ideal.Gen
open Idealize.ShloMosaic Idealize.ShloMosaic.Pointwise

variable (x : Vec Ideal S512x2048 .f32) (dh : Vec Ideal S512x2048 .bf16) (g sc : Vec Ideal S1x2048 .f32) (s : Vec Ideal S8x2048 .f32)

/-- A row's reciprocal root of its mean square. -/
theorem root_at (p : Fin 512) :
    (k0_pay10 x (ix2 p 0) : EReal)
      = Ideal.rsqrt ((∑ k : Fin 2048, x (ix2 p k) * x (ix2 p k)) * Scalar.ofBits (F := Ideal) .f32 0x3A000000#32 + Scalar.ofBits (F := Ideal) .f32 0x358637BD#32) := by
  pointwise [k0_pay10]

/-- The normed row. -/
theorem normed_at (p : Fin 512) (b : Fin 2048) : (k0_pay11 x (ix2 p b) : EReal) = x (ix2 p b) * k0_pay10 x (ix2 p 0) := by
  pointwise [k0_pay11]

theorem given_at (p : Fin 512) (b : Fin 2048) : (k0_pay12 dh (ix2 p b) : EReal) = dh (ix2 p b) := by
  pointwise [k0_pay12]

theorem one_plus_at (b : Fin 2048) : (k0_pay13 sc (ix2 0 b) : EReal) = Scalar.ofBits (F := Ideal) .f32 0x3F800000#32 + sc (ix2 0 b) := by
  pointwise [k0_pay13]

/-- A point's additions to the three sums, by the row modulo eight. -/
theorem shift_at (q : Fin 8) (b : Fin 2048) :
    (k0_pay14 dh s (ix2 q b) : EReal) = s (ix2 q b) + ∑ u : Fin 64, k0_pay12 dh (ix2 (⟨u.val * 8 + q.val, by omega⟩ : Fin 512) b) := by
  pointwise [k0_pay14]

theorem scale_at (q : Fin 8) (b : Fin 2048) :
    (k0_pay1 (k0_pay15 x dh g s) (ix2 q b) : EReal) = s (ix2 q b) + ∑ u : Fin 64,
      k0_pay12 dh (ix2 (⟨u.val * 8 + q.val, by omega⟩ : Fin 512) b) * (k0_pay11 x (ix2 (⟨u.val * 8 + q.val, by omega⟩ : Fin 512) b) * g (ix2 0 b)) := by
  pointwise [k0_pay1, k0_pay15]

theorem gain_at (q : Fin 8) (b : Fin 2048) (xn d : FVec Ideal S512x2048 .f32) (os : FVec Ideal S1x2048 .f32) :
    (k0_pay3 xn d os s (ix2 q b) : EReal) = s (ix2 q b) + ∑ u : Fin 64,
      d (ix2 (⟨u.val * 8 + q.val, by omega⟩ : Fin 512) b) * os (ix2 0 b) * xn (ix2 (⟨u.val * 8 + q.val, by omega⟩ : Fin 512) b) := by
  pointwise [k0_pay3, k0_pay2]

/-- The gradient of x. -/
theorem grad_at (p : Fin 512) (b : Fin 2048) (r : FVec Ideal S512x1 .f32) (xn d : FVec Ideal S512x2048 .f32) (os : FVec Ideal S1x2048 .f32)
    (dout : Vec Ideal S512x2048 .f32) :
    (k0_pay4 r xn d g os dout (ix2 p b) : EReal) = dout (ix2 p b) + r (ix2 p 0) * (d (ix2 p b) * os (ix2 0 b) * g (ix2 0 b)
      - xn (ix2 p b) * ((∑ k : Fin 2048, d (ix2 p k) * os (ix2 0 k) * g (ix2 0 k) * xn (ix2 p k)) * Scalar.ofBits (F := Ideal) .f32 0x3A000000#32)) := by
  pointwise [k0_pay4, k0_pay2]

/-- The statistics, from the eight rows of each sum. -/
theorem row0_at (b : Fin 2048) : (k0_pay6 s (ix2 0 b) : EReal) = ∑ q : Fin 8, s (ix2 q b) := by
  pointwise [k0_pay6]
theorem row1_at (b : Fin 2048) : (k0_pay7 s (ix2 0 b) : EReal) = ∑ q : Fin 8, s (ix2 q b) := by
  pointwise [k0_pay7]
theorem row2_at (b : Fin 2048) : (k0_pay8 s (ix2 0 b) : EReal) = ∑ q : Fin 8, s (ix2 q b) := by
  pointwise [k0_pay8]

/-- The rows of the statistics that hold nothing. -/
theorem zero_at (q : Fin 8) (b : Fin 2048) : (k0_pay5 (F := Ideal) (ix2 q b) : EReal) = 0 := by
  pointwise [k0_pay5]

/-- The sums before the first point. -/
theorem zeros_at (q : Fin 24) (b : Fin 2048) : (k0_pay9 (F := Ideal) (ix2 q b) : EReal) = 0 := by
  pointwise [k0_pay9]

end Cert.Proof.Kernel5Ideal

end
-- ==== Proof.Kernel5Ideal.Cases.lean ====
/-
  The modulated norm's gradient: what each kind of point leaves in its outputs and in the buffer it
  carries, as the program's own expressions.
-/
module

public import proofs.«01_k».proof.Proof.Gen.Kernel5Ideal.Value
public import proofs.«01_k».proof.Proof.Kernel4Ideal.Cases

@[expose] public section

noncomputable section

namespace Cert.Proof.Kernel5Ideal

open Cert.Kernel5Ideal Cert.Kernel5Ideal.Gen Cert.Kernel5Ideal.Value
open Idealize.ShloMosaic Idealize.ShloMosaic.TcCoe Idealize.ShloMosaic.Pointwise Idealize.SL.Sem
open Cert.Proof.Kernel4Ideal (origin emb_row off_row)

variable {F : FTy → Type} [FloatOps F]

/-- The three sums a point carries, eight rows each. -/
abbrev part (o : ℕ) (h : ∀ a, (![o, 0] : Fin 2 → ℕ) a + S8x2048.size a ≤ S24x2048.size a) (s : Vec F S24x2048 .f32) : Vec F S8x2048 .f32 :=
  View.ld s (Rect.unit (s := S24x2048) ![o, 0] S8x2048.size h)
abbrev low (s : Vec F S24x2048 .f32) : Vec F S8x2048 .f32 := part 0 inb_S24x2048_S8x2048_0_0 s
abbrev mid (s : Vec F S24x2048 .f32) : Vec F S8x2048 .f32 := part 8 inb_S24x2048_S8x2048_8_0 s
abbrev high (s : Vec F S24x2048 .f32) : Vec F S8x2048 .f32 := part 16 inb_S24x2048_S8x2048_16_0 s

/-- A sum stored, read back; and a store of another sum above it. -/
theorem stored (o : ℕ) (h) (P : Vec F S8x2048 .f32) (L : List (View.Piece (Elt F) S24x2048 .f32)) :
    part o h (View.canon (⟨Rect.unit (s := S24x2048) ![o, 0] S8x2048.size h, P⟩ :: L)) = P :=
  funext fun j => View.canon_cons_emb (Val := Elt F) (e := .f32) (Rect.unit (s := S24x2048) ![o, 0] S8x2048.size h) P L j

theorem above (o o' : ℕ) (h) (h') (hd : o + 8 ≤ o' ∨ o' + 8 ≤ o) (P : Vec F S8x2048 .f32) (L : List (View.Piece (Elt F) S24x2048 .f32)) :
    part o h (View.canon (⟨Rect.unit (s := S24x2048) ![o', 0] S8x2048.size h', P⟩ :: L)) = part o h (View.canon L) :=
  funext fun j => View.canon_cons_of_not_mem _ L (LoadRect.idx_not_mem_of_disj
    (B := (Rect.unit (s := S24x2048) ![o, 0] S8x2048.size h).toLoadRect)
    (show LoadRect.disj (Rect.unit (s := S24x2048) ![o', 0] S8x2048.size h') _ = true from
      decide_eq_true ⟨(0 : Fin 2), Or.inr (Or.inr (show o' + 1 * (8 - 1) < o ∨ o + 1 * (8 - 1) < o' by omega))⟩) j)

/-- A row stored among eight, and the rows it leaves. -/
theorem row_stored (o : ℕ) (h) (P : Vec F S1x2048 .f32) (L : List (View.Piece (Elt F) S8x2048 .f32)) (q : Fin 8) (hq : q.val = o) (b : Fin 2048) :
    View.canon (⟨Rect.unit (s := S8x2048) ![o, 0] ![1, 2048] h, P⟩ :: L) (ix2 q b) = P (ix2 0 b) := by
  have e := View.canon_cons_emb (Val := Elt F) (e := .f32) (Rect.unit (s := S8x2048) ![o, 0] ![1, 2048] h) P L (ix2 0 b)
  rw [emb_row o h q hq b] at e
  exact e

theorem row_above (o : ℕ) (h) (P : Vec F S1x2048 .f32) (L : List (View.Piece (Elt F) S8x2048 .f32)) (q : Fin 8) (hq : q.val ≠ o) (b : Fin 2048) :
    View.canon (⟨Rect.unit (s := S8x2048) ![o, 0] ![1, 2048] h, P⟩ :: L) (ix2 q b) = View.canon L (ix2 q b) :=
  View.canon_cons_of_not_mem (Val := Elt F) (e := .f32) ⟨Rect.unit (s := S8x2048) ![o, 0] ![1, 2048] h, P⟩ L (off_row o h q hq b)

section Cases

variable (c : Dev nD) (i : grid0.Coords) (a1 : Memref sig .tc .vmem S512x2048 .f32) (h1 : a1.IsWhole) (a2 : Memref sig .tc .vmem S512x2048 .bf16) (h2 : a2.IsWhole)
  (a3 : Memref sig .tc .vmem S512x2048 .f32) (h3 : a3.IsWhole) (a4 : Memref sig .tc .vmem S1x2048 .f32) (h4 : a4.IsWhole) (a5 : Memref sig .tc .vmem S1x2048 .f32) (h5 : a5.IsWhole)
  (a6 : Memref sig .tc .vmem S512x2048 .f32) (h6 : a6.IsWhole) (a7 : Memref sig .tc .vmem S8x2048 .f32) (h7 : a7.IsWhole) (a8 : Memref sig .tc .vmem S24x2048 .f32) (h8 : a8.IsWhole)
  (x0 : Vec F S512x2048 .f32) (x1 : Vec F S512x2048 .bf16) (x2 : Vec F S512x2048 .f32) (x3 : Vec F S1x2048 .f32) (x4 : Vec F S1x2048 .f32) (s : Vec F S24x2048 .f32)

/-- The first point. -/
theorem first (hc0 : cond0_0 i) (hc1 : ¬cond0_1 i) :
    out0_A_5 c i a1 h1 a2 h2 a3 h3 a4 h4 a5 h5 a6 h6 a7 h7 a8 h8 hc0 hc1 x0 x1 x2 x3 x4
        = k0_pay4 (k0_pay10 x0) (k0_pay11 x0) (k0_pay12 x1) x3 (k0_pay13 x4) x2
      ∧ low (sout0_A_0 c i a1 h1 a2 h2 a3 h3 a4 h4 a5 h5 a6 h6 a7 h7 a8 h8 hc0 hc1 x0 x1 x2 x3 x4)
        = k0_pay14 x1 (low (k0_pay9 (F := F)))
      ∧ mid (sout0_A_0 c i a1 h1 a2 h2 a3 h3 a4 h4 a5 h5 a6 h6 a7 h7 a8 h8 hc0 hc1 x0 x1 x2 x3 x4)
        = k0_pay1 (k0_pay15 x0 x1 x3 (mid (k0_pay9 (F := F))))
      ∧ high (sout0_A_0 c i a1 h1 a2 h2 a3 h3 a4 h4 a5 h5 a6 h6 a7 h7 a8 h8 hc0 hc1 x0 x1 x2 x3 x4)
        = k0_pay3 (k0_pay11 x0) (k0_pay12 x1) (k0_pay13 x4) (high (k0_pay9 (F := F))) := by
  refine ⟨?_, ?_, ?_, ?_⟩
  · unfold out0_A_5
    rw [View.read_writes_eq_canon _ _ _ (cover0_A_5 c i a1 h1 a2 h2 a3 h3 a4 h4 a5 h5 a6 h6 a7 h7 a8 h8 hc0 hc1 x0 x1 x2 x3 x4)]
    unfold kernelRun0_A
    dsimp only
    sl_unfold_words
    rw [View.canon_unit_zero origin]
    simp only [View.readAt_eq_ld, View.readCov_eq_canon', h1.read_unread, h2.read_unread, h3.read_unread, h4.read_unread, h5.read_unread, h8.read_unread,
      View.ld_unit_zero (S := S512x2048) origin, View.ld_unit_zero (S := S1x2048) origin]
  · unfold sout0_A_0
    rw [View.read_writes_eq_canon _ _ _ (scover0_A_0 c i a1 h1 a2 h2 a3 h3 a4 h4 a5 h5 a6 h6 a7 h7 a8 h8 hc0 hc1 x0 x1 x2 x3 x4)]
    unfold kernelRun0_A
    dsimp only
    sl_unfold_words
    simp only [View.readAt_eq_ld, View.readCov_eq_canon', h1.read_unread, h2.read_unread, h3.read_unread, h4.read_unread, h5.read_unread, h8.read_unread,
      View.ld_unit_zero (S := S512x2048) origin, View.ld_unit_zero (S := S1x2048) origin]
    refine (above 0 16 _ _ (by decide) _ _).trans ((above 0 8 _ _ (by decide) _ _).trans ((stored 0 _ _ _).trans ?_))
    exact congrArg (k0_pay14 x1) (congrArg (part 0 _) (View.canon_unit_zero (S := S24x2048) origin _ _))
  · unfold sout0_A_0
    rw [View.read_writes_eq_canon _ _ _ (scover0_A_0 c i a1 h1 a2 h2 a3 h3 a4 h4 a5 h5 a6 h6 a7 h7 a8 h8 hc0 hc1 x0 x1 x2 x3 x4)]
    unfold kernelRun0_A
    dsimp only
    sl_unfold_words
    simp only [View.readAt_eq_ld, View.readCov_eq_canon', h1.read_unread, h2.read_unread, h3.read_unread, h4.read_unread, h5.read_unread, h8.read_unread,
      View.ld_unit_zero (S := S512x2048) origin, View.ld_unit_zero (S := S1x2048) origin]
    refine (above 8 16 _ _ (by decide) _ _).trans ((stored 8 _ _ _).trans ?_)
    exact congrArg (fun u => k0_pay1 (k0_pay15 x0 x1 x3 u)) ((above 8 0 _ _ (by decide) _ _).trans (congrArg (part 8 _) (View.canon_unit_zero (S := S24x2048) origin _ _)))
  · unfold sout0_A_0
    rw [View.read_writes_eq_canon _ _ _ (scover0_A_0 c i a1 h1 a2 h2 a3 h3 a4 h4 a5 h5 a6 h6 a7 h7 a8 h8 hc0 hc1 x0 x1 x2 x3 x4)]
    unfold kernelRun0_A
    dsimp only
    sl_unfold_words
    simp only [View.readAt_eq_ld, View.readCov_eq_canon', h1.read_unread, h2.read_unread, h3.read_unread, h4.read_unread, h5.read_unread, h8.read_unread,
      View.ld_unit_zero (S := S512x2048) origin, View.ld_unit_zero (S := S1x2048) origin]
    refine (stored 16 _ _ _).trans ?_
    exact congrArg (k0_pay3 (k0_pay11 x0) (k0_pay12 x1) (k0_pay13 x4))
      ((above 16 8 _ _ (by decide) _ _).trans ((above 16 0 _ _ (by decide) _ _).trans (congrArg (part 16 _) (View.canon_unit_zero (S := S24x2048) origin _ _))))

/-- A point between the first and the last. -/
theorem next (hc0 : ¬cond0_0 i) (hc1 : ¬cond0_1 i) :
    out0_B_5 c i a1 h1 a2 h2 a3 h3 a4 h4 a5 h5 a6 h6 a7 h7 a8 h8 hc0 hc1 x0 x1 x2 x3 x4 s
        = k0_pay4 (k0_pay10 x0) (k0_pay11 x0) (k0_pay12 x1) x3 (k0_pay13 x4) x2
      ∧ low (sout0_B_0 c i a1 h1 a2 h2 a3 h3 a4 h4 a5 h5 a6 h6 a7 h7 a8 h8 hc0 hc1 x0 x1 x2 x3 x4 s)
        = k0_pay14 x1 (low s)
      ∧ mid (sout0_B_0 c i a1 h1 a2 h2 a3 h3 a4 h4 a5 h5 a6 h6 a7 h7 a8 h8 hc0 hc1 x0 x1 x2 x3 x4 s)
        = k0_pay1 (k0_pay15 x0 x1 x3 (mid s))
      ∧ high (sout0_B_0 c i a1 h1 a2 h2 a3 h3 a4 h4 a5 h5 a6 h6 a7 h7 a8 h8 hc0 hc1 x0 x1 x2 x3 x4 s)
        = k0_pay3 (k0_pay11 x0) (k0_pay12 x1) (k0_pay13 x4) (high s) := by
  refine ⟨?_, ?_, ?_, ?_⟩
  · unfold out0_B_5
    rw [View.read_writes_eq_canon _ _ _ (cover0_B_5 c i a1 h1 a2 h2 a3 h3 a4 h4 a5 h5 a6 h6 a7 h7 a8 h8 hc0 hc1 x0 x1 x2 x3 x4 s)]
    unfold kernelRun0_B
    dsimp only
    sl_unfold_words
    rw [View.canon_unit_zero origin]
    simp only [View.readAt_eq_ld, View.readCov_eq_canon', h1.read_unread, h2.read_unread, h3.read_unread, h4.read_unread, h5.read_unread, h8.read_unread,
      View.ld_unit_zero (S := S512x2048) origin, View.ld_unit_zero (S := S1x2048) origin]
  · unfold sout0_B_0
    rw [View.read_writes_eq_canon _ _ _ (scover0_B_0 c i a1 h1 a2 h2 a3 h3 a4 h4 a5 h5 a6 h6 a7 h7 a8 h8 hc0 hc1 x0 x1 x2 x3 x4 s)]
    unfold kernelRun0_B
    dsimp only
    sl_unfold_words
    simp only [View.readAt_eq_ld, View.readCov_eq_canon', h1.read_unread, h2.read_unread, h3.read_unread, h4.read_unread, h5.read_unread, h8.read_unread,
      View.ld_unit_zero (S := S512x2048) origin, View.ld_unit_zero (S := S1x2048) origin]
    refine (above 0 16 _ _ (by decide) _ _).trans ((above 0 8 _ _ (by decide) _ _).trans ((stored 0 _ _ _).trans ?_))
    rfl
  · unfold sout0_B_0
    rw [View.read_writes_eq_canon _ _ _ (scover0_B_0 c i a1 h1 a2 h2 a3 h3 a4 h4 a5 h5 a6 h6 a7 h7 a8 h8 hc0 hc1 x0 x1 x2 x3 x4 s)]
    unfold kernelRun0_B
    dsimp only
    sl_unfold_words
    simp only [View.readAt_eq_ld, View.readCov_eq_canon', h1.read_unread, h2.read_unread, h3.read_unread, h4.read_unread, h5.read_unread, h8.read_unread,
      View.ld_unit_zero (S := S512x2048) origin, View.ld_unit_zero (S := S1x2048) origin]
    refine (above 8 16 _ _ (by decide) _ _).trans ((stored 8 _ _ _).trans ?_)
    rfl
  · unfold sout0_B_0
    rw [View.read_writes_eq_canon _ _ _ (scover0_B_0 c i a1 h1 a2 h2 a3 h3 a4 h4 a5 h5 a6 h6 a7 h7 a8 h8 hc0 hc1 x0 x1 x2 x3 x4 s)]
    unfold kernelRun0_B
    dsimp only
    sl_unfold_words
    simp only [View.readAt_eq_ld, View.readCov_eq_canon', h1.read_unread, h2.read_unread, h3.read_unread, h4.read_unread, h5.read_unread, h8.read_unread,
      View.ld_unit_zero (S := S512x2048) origin, View.ld_unit_zero (S := S1x2048) origin]
    refine (stored 16 _ _ _).trans ?_
    rfl

/-- The last point, with the statistics: the three gradients, and rows of zeros. -/
theorem last (hc0 : ¬cond0_0 i) (hc1 : cond0_1 i) :
    out0_C_5 c i a1 h1 a2 h2 a3 h3 a4 h4 a5 h5 a6 h6 a7 h7 a8 h8 hc0 hc1 x0 x1 x2 x3 x4 s
        = k0_pay4 (k0_pay10 x0) (k0_pay11 x0) (k0_pay12 x1) x3 (k0_pay13 x4) x2
      ∧ (∀ b : Fin 2048, out0_C_6 c i a1 h1 a2 h2 a3 h3 a4 h4 a5 h5 a6 h6 a7 h7 a8 h8 hc0 hc1 x0 x1 x2 x3 x4 s (ix2 0 b) = k0_pay6 (k0_pay14 x1 (low s)) (ix2 0 b))
      ∧ (∀ b : Fin 2048, out0_C_6 c i a1 h1 a2 h2 a3 h3 a4 h4 a5 h5 a6 h6 a7 h7 a8 h8 hc0 hc1 x0 x1 x2 x3 x4 s (ix2 1 b) = k0_pay7 (k0_pay1 (k0_pay15 x0 x1 x3 (mid s))) (ix2 0 b))
      ∧ (∀ b : Fin 2048, out0_C_6 c i a1 h1 a2 h2 a3 h3 a4 h4 a5 h5 a6 h6 a7 h7 a8 h8 hc0 hc1 x0 x1 x2 x3 x4 s (ix2 2 b) = k0_pay8 (k0_pay3 (k0_pay11 x0) (k0_pay12 x1) (k0_pay13 x4) (high s)) (ix2 0 b))
      ∧ ∀ (q : Fin 8) (hq : 3 ≤ q.val) (b : Fin 2048), out0_C_6 c i a1 h1 a2 h2 a3 h3 a4 h4 a5 h5 a6 h6 a7 h7 a8 h8 hc0 hc1 x0 x1 x2 x3 x4 s (ix2 q b) = k0_pay5 (F := F) (ix2 q b) := by
  refine ⟨?_, fun b => ?_, fun b => ?_, fun b => ?_, fun q hq b => ?_⟩
  · unfold out0_C_5
    rw [View.read_writes_eq_canon _ _ _ (cover0_C_5 c i a1 h1 a2 h2 a3 h3 a4 h4 a5 h5 a6 h6 a7 h7 a8 h8 hc0 hc1 x0 x1 x2 x3 x4 s)]
    unfold kernelRun0_C
    dsimp only
    sl_unfold_words
    rw [View.canon_unit_zero origin]
    simp only [View.readAt_eq_ld, View.readCov_eq_canon', h1.read_unread, h2.read_unread, h3.read_unread, h4.read_unread, h5.read_unread, h8.read_unread,
      View.ld_unit_zero (S := S512x2048) origin, View.ld_unit_zero (S := S1x2048) origin]
  · unfold out0_C_6
    rw [View.read_writes_eq_canon _ _ _ (cover0_C_6 c i a1 h1 a2 h2 a3 h3 a4 h4 a5 h5 a6 h6 a7 h7 a8 h8 hc0 hc1 x0 x1 x2 x3 x4 s)]
    unfold kernelRun0_C
    dsimp only
    sl_unfold_words
    simp only [View.readAt_eq_ld, View.readCov_eq_canon', h1.read_unread, h2.read_unread, h3.read_unread, h4.read_unread, h5.read_unread, h8.read_unread,
      View.ld_unit_zero (S := S512x2048) origin, View.ld_unit_zero (S := S1x2048) origin]
    refine (row_above 2 _ _ _ 0 (by decide) b).trans ((row_above 1 _ _ _ 0 (by decide) b).trans ((row_stored 0 _ _ _ 0 rfl b).trans ?_))
    exact congrArg (fun u => k0_pay6 u (ix2 0 b)) ((above 0 16 _ _ (by decide) _ _).trans ((above 0 8 _ _ (by decide) _ _).trans (stored 0 _ _ _)))
  · unfold out0_C_6
    rw [View.read_writes_eq_canon _ _ _ (cover0_C_6 c i a1 h1 a2 h2 a3 h3 a4 h4 a5 h5 a6 h6 a7 h7 a8 h8 hc0 hc1 x0 x1 x2 x3 x4 s)]
    unfold kernelRun0_C
    dsimp only
    sl_unfold_words
    simp only [View.readAt_eq_ld, View.readCov_eq_canon', h1.read_unread, h2.read_unread, h3.read_unread, h4.read_unread, h5.read_unread, h8.read_unread,
      View.ld_unit_zero (S := S512x2048) origin, View.ld_unit_zero (S := S1x2048) origin]
    refine (row_above 2 _ _ _ 1 (by decide) b).trans ((row_stored 1 _ _ _ 1 rfl b).trans ?_)
    exact congrArg (fun u => k0_pay7 u (ix2 0 b)) ((above 8 16 _ _ (by decide) _ _).trans (stored 8 _ _ _))
  · unfold out0_C_6
    rw [View.read_writes_eq_canon _ _ _ (cover0_C_6 c i a1 h1 a2 h2 a3 h3 a4 h4 a5 h5 a6 h6 a7 h7 a8 h8 hc0 hc1 x0 x1 x2 x3 x4 s)]
    unfold kernelRun0_C
    dsimp only
    sl_unfold_words
    simp only [View.readAt_eq_ld, View.readCov_eq_canon', h1.read_unread, h2.read_unread, h3.read_unread, h4.read_unread, h5.read_unread, h8.read_unread,
      View.ld_unit_zero (S := S512x2048) origin, View.ld_unit_zero (S := S1x2048) origin]
    refine (row_stored 2 _ _ _ 2 rfl b).trans ?_
    exact congrArg (fun u => k0_pay8 u (ix2 0 b)) (stored 16 _ _ _)
  · unfold out0_C_6
    rw [View.read_writes_eq_canon _ _ _ (cover0_C_6 c i a1 h1 a2 h2 a3 h3 a4 h4 a5 h5 a6 h6 a7 h7 a8 h8 hc0 hc1 x0 x1 x2 x3 x4 s)]
    unfold kernelRun0_C
    dsimp only
    sl_unfold_words
    simp only [View.readAt_eq_ld, View.readCov_eq_canon', h1.read_unread, h2.read_unread, h3.read_unread, h4.read_unread, h5.read_unread, h8.read_unread,
      View.ld_unit_zero (S := S512x2048) origin, View.ld_unit_zero (S := S1x2048) origin]
    exact (row_above 2 _ _ _ q (by omega) b).trans ((row_above 1 _ _ _ q (by omega) b).trans ((row_above 0 _ _ _ q (by omega) b).trans
      (congrFun (View.canon_unit_zero (S := S8x2048) origin _ _) _)))

end Cases

end Cert.Proof.Kernel5Ideal

end
-- ==== Proof.Kernel5Ideal.Points.lean ====
/-
  The modulated norm's gradient: the run's sixteen points and the two arrays after it, over the extended reals.
-/
module

public import proofs.«01_k».proof.Proof.Kernel5Ideal.Pay
public import proofs.«01_k».proof.Proof.Kernel5Ideal.Cases
public import proofs.«01_k».proof.Proof.Kernel4Ideal.Arrays

@[expose] public section

noncomputable section

namespace Cert.Proof.Kernel5Ideal

open Cert.Kernel5Ideal Cert.Kernel5Ideal.Gen
open Idealize.ShloMosaic Idealize.ShloMosaic.TcCoe Idealize.ShloMosaic.Pointwise Idealize.SL.Sem
open Cert.Proof.Kernel4Ideal (ix2_of past past_of sum_mul mat)

/-! ### What the run computes, of the five arguments -/

section Norm

variable (x : (⟨S8192x2048, .f32⟩ : BufTy).Contents (Elt Ideal)) (dh : (⟨S8192x2048, .bf16⟩ : BufTy).Contents (Elt Ideal))
  (dout : (⟨S8192x2048, .f32⟩ : BufTy).Contents (Elt Ideal)) (g sc : (⟨S1x2048, .f32⟩ : BufTy).Contents (Elt Ideal))

/-- A row's reciprocal root, and its normed entries. -/
def R (r : Fin 8192) : EReal :=
  Ideal.rsqrt ((∑ k : Fin 2048, (x (ix2 r k) : EReal) * (x (ix2 r k) : EReal)) * Scalar.ofBits (F := Ideal) .f32 0x3A000000#32 + Scalar.ofBits (F := Ideal) .f32 0x358637BD#32)
def N (r : Fin 8192) (b : Fin 2048) : EReal := (x (ix2 r b) : EReal) * R x r

/-- The gradient of the norm with its gain, and of the norm. -/
def W (r : Fin 8192) (b : Fin 2048) : EReal :=
  (dh (ix2 r b) : EReal) * (Scalar.ofBits (F := Ideal) .f32 0x3F800000#32 + (sc (ix2 0 b) : EReal))
def Z (r : Fin 8192) (b : Fin 2048) : EReal := W dh sc r b * (g (ix2 0 b) : EReal)

/-- The gradient of x. -/
def G (r : Fin 8192) (b : Fin 2048) : EReal :=
  (dout (ix2 r b) : EReal) + R x r * (Z dh g sc r b - N x r b * ((∑ k : Fin 2048, Z dh g sc r k * N x r k) * Scalar.ofBits (F := Ideal) .f32 0x3A000000#32))

/-- A row's part of the gradients of the shift, the scale and the gain. -/
def shiftPart (b : Fin 2048) (r : Fin 8192) : EReal := (dh (ix2 r b) : EReal)
def scalePart (b : Fin 2048) (r : Fin 8192) : EReal := (dh (ix2 r b) : EReal) * (N x r b * (g (ix2 0 b) : EReal))
def gainPart (b : Fin 2048) (r : Fin 8192) : EReal := W dh sc r b * N x r b

/-- The statistics: the three gradients, and rows of zeros. -/
def T (q : Fin 8) (b : Fin 2048) : EReal :=
  if q.val = 0 then ∑ r : Fin 8192, shiftPart dh b r
  else if q.val = 1 then ∑ r : Fin 8192, scalePart x dh g b r
  else if q.val = 2 then ∑ r : Fin 8192, gainPart x dh sc b r
  else 0

end Norm

/-- Rows summed by their residue modulo eight within each block of 512. -/
theorem sum_rows (f : Fin 8192 → EReal) :
    ∑ q : Fin 8, ∑ j ∈ Finset.range 16, ∑ u : Fin 64, past f (512 * j + (u.val * 8 + q.val)) = ∑ r : Fin 8192, f r := by
  have h : ∑ r : Fin 8192, f r = ∑ n ∈ Finset.range (16 * 512), past f n := by
    rw [show 16 * 512 = 8192 from rfl, Finset.sum_range]
    exact Finset.sum_congr rfl fun r _ => (past_of f r r.val rfl).symm
  rw [h, sum_mul, Finset.sum_comm]
  refine Finset.sum_congr rfl fun j _ => ?_
  rw [show 512 = 64 * 8 from rfl, sum_mul (fun b => past f (64 * 8 * j + b)), Finset.sum_comm, Finset.sum_range]
  refine Finset.sum_congr rfl fun u _ => ?_
  rw [Finset.sum_range]
  exact Finset.sum_congr rfl fun q _ => by rw [Nat.mul_comm 8 u.val]

/-! ### A point's blocks -/

variable (m : (ℓ : Loc nD τ sig) → Buf (Elt Ideal) ℓ) (c : Dev nD)

/-- The five arguments of a device. -/
abbrev ax : (⟨S8192x2048, .f32⟩ : BufTy).Contents (Elt Ideal) := m ((c.tc : Thread nD τ).loc main_arg0)
abbrev ad : (⟨S8192x2048, .bf16⟩ : BufTy).Contents (Elt Ideal) := m ((c.tc : Thread nD τ).loc main_arg1)
abbrev ao : (⟨S8192x2048, .f32⟩ : BufTy).Contents (Elt Ideal) := m ((c.tc : Thread nD τ).loc main_arg2)
abbrev ag : (⟨S1x2048, .f32⟩ : BufTy).Contents (Elt Ideal) := m ((c.tc : Thread nD τ).loc main_arg3)
abbrev ac : (⟨S1x2048, .f32⟩ : BufTy).Contents (Elt Ideal) := m ((c.tc : Thread nD τ).loc main_arg4)

/-- A point's blocks of them. -/
abbrev b0 (t : Fin cfg0.N) : Vec Ideal S512x2048 .f32 := iblk m c 0 t
abbrev b1 (t : Fin cfg0.N) : Vec Ideal S512x2048 .bf16 := iblk m c 1 t
abbrev b2 (t : Fin cfg0.N) : Vec Ideal S512x2048 .f32 := iblk m c 2 t
abbrev b3 (t : Fin cfg0.N) : Vec Ideal S1x2048 .f32 := iblk m c 3 t
abbrev b4 (t : Fin cfg0.N) : Vec Ideal S1x2048 .f32 := iblk m c 4 t

theorem index_0 : ∀ t : Fin cfg0.N, win0_0.index t (0 : Fin 2) = t.val ∧ win0_0.index t (1 : Fin 2) = 0 := (by decide +kernel : ∀ t : Fin grid0.N, _)
theorem index_1 : ∀ t : Fin cfg0.N, win0_1.index t (0 : Fin 2) = t.val ∧ win0_1.index t (1 : Fin 2) = 0 := (by decide +kernel : ∀ t : Fin grid0.N, _)
theorem index_2 : ∀ t : Fin cfg0.N, win0_2.index t (0 : Fin 2) = t.val ∧ win0_2.index t (1 : Fin 2) = 0 := (by decide +kernel : ∀ t : Fin grid0.N, _)
theorem index_3 : ∀ t : Fin cfg0.N, win0_3.index t (0 : Fin 2) = 0 ∧ win0_3.index t (1 : Fin 2) = 0 := (by decide +kernel : ∀ t : Fin grid0.N, _)
theorem index_4 : ∀ t : Fin cfg0.N, win0_4.index t (0 : Fin 2) = 0 ∧ win0_4.index t (1 : Fin 2) = 0 := (by decide +kernel : ∀ t : Fin grid0.N, _)

theorem b0_at (t : Fin cfg0.N) (p : Fin 512) (b : Fin 2048) (r : Fin 8192) (hr : r.val = 512 * t.val + p.val) :
    (b0 m c t (ix2 p b) : EReal) = ax m c (ix2 r b) := by
  have hi := index_0 t
  unfold b0 iblk
  rw [View.read_apply]
  show V m c main_arg0 _ = m (c.tc.loc main_arg0) _
  unfold V
  refine congrArg _ (funext fun x => Fin.ext ?_)
  match x with
  | ⟨0, _⟩ => show win0_0.index t 0 * 512 + 1 * p.val = r.val; rw [hi.1]; omega
  | ⟨1, _⟩ => show win0_0.index t 1 * 2048 + 1 * b.val = b.val; rw [hi.2]; omega

theorem b1_at (t : Fin cfg0.N) (p : Fin 512) (b : Fin 2048) (r : Fin 8192) (hr : r.val = 512 * t.val + p.val) :
    (b1 m c t (ix2 p b) : EReal) = ad m c (ix2 r b) := by
  have hi := index_1 t
  unfold b1 iblk
  rw [View.read_apply]
  show V m c main_arg1 _ = m (c.tc.loc main_arg1) _
  unfold V
  refine congrArg _ (funext fun x => Fin.ext ?_)
  match x with
  | ⟨0, _⟩ => show win0_1.index t 0 * 512 + 1 * p.val = r.val; rw [hi.1]; omega
  | ⟨1, _⟩ => show win0_1.index t 1 * 2048 + 1 * b.val = b.val; rw [hi.2]; omega

theorem b2_at (t : Fin cfg0.N) (p : Fin 512) (b : Fin 2048) (r : Fin 8192) (hr : r.val = 512 * t.val + p.val) :
    (b2 m c t (ix2 p b) : EReal) = ao m c (ix2 r b) := by
  have hi := index_2 t
  unfold b2 iblk
  rw [View.read_apply]
  show V m c main_arg2 _ = m (c.tc.loc main_arg2) _
  unfold V
  refine congrArg _ (funext fun x => Fin.ext ?_)
  match x with
  | ⟨0, _⟩ => show win0_2.index t 0 * 512 + 1 * p.val = r.val; rw [hi.1]; omega
  | ⟨1, _⟩ => show win0_2.index t 1 * 2048 + 1 * b.val = b.val; rw [hi.2]; omega

theorem b3_at (t : Fin cfg0.N) (b : Fin 2048) : (b3 m c t (ix2 0 b) : EReal) = ag m c (ix2 0 b) := by
  have hi := index_3 t
  unfold b3 iblk
  rw [View.read_apply]
  show V m c main_arg3 _ = m (c.tc.loc main_arg3) _
  unfold V
  refine congrArg _ (funext fun x => Fin.ext ?_)
  match x with
  | ⟨0, _⟩ => show win0_3.index t 0 * 1 + 1 * 0 = 0; rw [hi.1]
  | ⟨1, _⟩ => show win0_3.index t 1 * 2048 + 1 * b.val = b.val; rw [hi.2]; omega

theorem b4_at (t : Fin cfg0.N) (b : Fin 2048) : (b4 m c t (ix2 0 b) : EReal) = ac m c (ix2 0 b) := by
  have hi := index_4 t
  unfold b4 iblk
  rw [View.read_apply]
  show V m c main_arg4 _ = m (c.tc.loc main_arg4) _
  unfold V
  refine congrArg _ (funext fun x => Fin.ext ?_)
  match x with
  | ⟨0, _⟩ => show win0_4.index t 0 * 1 + 1 * 0 = 0; rw [hi.1]
  | ⟨1, _⟩ => show win0_4.index t 1 * 2048 + 1 * b.val = b.val; rw [hi.2]; omega

/-- The row a point's block holds. -/
abbrev rowOf (t : Fin cfg0.N) (p : Fin 512) : Fin 8192 := ⟨512 * t.val + p.val, by have hN : cfg0.N = 16 := N_0; have := t.isLt; omega⟩
abbrev pointOf (r : Fin 8192) : Fin cfg0.N := ⟨r.val / 512, by have hN : cfg0.N = 16 := N_0; omega⟩

variable (t : Fin cfg0.N) (p : Fin 512) (b : Fin 2048) (r : Fin 8192) (hr : r.val = 512 * t.val + p.val)
include hr

theorem root_row : (k0_pay10 (b0 m c t) (ix2 p 0) : EReal) = R (ax m c) r := by
  refine (root_at _ p).trans ?_
  unfold R
  refine congrArg (fun v => Ideal.rsqrt (v * _ + _)) (Finset.sum_congr rfl fun k _ => ?_)
  exact congrArg₂ (· * ·) (b0_at m c t p k r hr) (b0_at m c t p k r hr)

theorem normed_row : (k0_pay11 (b0 m c t) (ix2 p b) : EReal) = N (ax m c) r b := by
  refine (normed_at _ p b).trans ?_
  unfold N
  exact congrArg₂ (· * ·) (b0_at m c t p b r hr) (root_row m c t p r hr)

theorem given_row : (k0_pay12 (b1 m c t) (ix2 p b) : EReal) = ad m c (ix2 r b) := (given_at _ p b).trans (b1_at m c t p b r hr)

theorem gain_row : (k0_pay12 (b1 m c t) (ix2 p b) : EReal) * (k0_pay13 (b4 m c t) (ix2 0 b) : EReal) = W (ad m c) (ac m c) r b := by
  unfold W
  exact congrArg₂ (· * ·) (given_row m c t p b r hr) ((one_plus_at _ b).trans (congrArg (_ + ·) (b4_at m c t b)))

theorem norm_row : (k0_pay12 (b1 m c t) (ix2 p b) : EReal) * (k0_pay13 (b4 m c t) (ix2 0 b) : EReal) * (b3 m c t (ix2 0 b) : EReal) = Z (ad m c) (ag m c) (ac m c) r b := by
  unfold Z
  exact congrArg₂ (· * ·) (gain_row m c t p b r hr) (b3_at m c t b)

/-- A point's block of the gradient of x. -/
abbrev grad (t : Fin cfg0.N) : FVec Ideal S512x2048 .f32 :=
  k0_pay4 (k0_pay10 (b0 m c t)) (k0_pay11 (b0 m c t)) (k0_pay12 (b1 m c t)) (b3 m c t) (k0_pay13 (b4 m c t)) (b2 m c t)

theorem grad_row : (grad m c t (ix2 p b) : EReal) = G (ax m c) (ad m c) (ao m c) (ag m c) (ac m c) r b := by
  refine (grad_at _ p b _ _ _ _ _).trans ?_
  unfold G
  refine congrArg₂ (· + ·) (b2_at m c t p b r hr) (congrArg₂ (· * ·) (root_row m c t p r hr) ?_)
  refine congrArg₂ (· - ·) (norm_row m c t p b r hr) (congrArg₂ (· * ·) (normed_row m c t p b r hr) (congrArg (· * _) ?_))
  exact Finset.sum_congr rfl fun k _ => congrArg₂ (· * ·) (norm_row m c t p k r hr) (normed_row m c t p k r hr)

omit hr

/-- A point's three sums, over those before it. -/
abbrev shifts (t : Fin cfg0.N) (s : Vec Ideal S8x2048 .f32) : FVec Ideal S8x2048 .f32 := k0_pay14 (b1 m c t) s
abbrev scales (t : Fin cfg0.N) (s : Vec Ideal S8x2048 .f32) : FVec Ideal S8x2048 .f32 := k0_pay1 (k0_pay15 (b0 m c t) (b1 m c t) (b3 m c t) s)
abbrev gains (t : Fin cfg0.N) (s : Vec Ideal S8x2048 .f32) : FVec Ideal S8x2048 .f32 := k0_pay3 (k0_pay11 (b0 m c t)) (k0_pay12 (b1 m c t)) (k0_pay13 (b4 m c t)) s

theorem below (q : Fin 8) (u : Fin 64) : 512 * t.val + (u.val * 8 + q.val) < 8192 := by
  have hN : cfg0.N = 16 := N_0
  have := t.isLt
  omega

theorem shifts_row (q : Fin 8) (s : Vec Ideal S8x2048 .f32) :
    (shifts m c t s (ix2 q b) : EReal) = s (ix2 q b) + ∑ u : Fin 64, past (shiftPart (ad m c) b) (512 * t.val + (u.val * 8 + q.val)) := by
  refine (shift_at _ s q b).trans (congrArg (_ + ·) (Finset.sum_congr rfl fun u _ => ?_))
  rw [past_of _ ⟨_, below t q u⟩ _ rfl]
  exact given_row m c t _ b ⟨_, below t q u⟩ rfl

theorem scales_row (q : Fin 8) (s : Vec Ideal S8x2048 .f32) :
    (scales m c t s (ix2 q b) : EReal) = s (ix2 q b) + ∑ u : Fin 64, past (scalePart (ax m c) (ad m c) (ag m c) b) (512 * t.val + (u.val * 8 + q.val)) := by
  refine (scale_at _ _ _ s q b).trans (congrArg (_ + ·) (Finset.sum_congr rfl fun u _ => ?_))
  rw [past_of _ ⟨_, below t q u⟩ _ rfl]
  exact congrArg₂ (· * ·) (given_row m c t _ b ⟨_, below t q u⟩ rfl) (congrArg₂ (· * ·) (normed_row m c t _ b ⟨_, below t q u⟩ rfl) (b3_at m c t b))

theorem gains_row (q : Fin 8) (s : Vec Ideal S8x2048 .f32) :
    (gains m c t s (ix2 q b) : EReal) = s (ix2 q b) + ∑ u : Fin 64, past (gainPart (ax m c) (ad m c) (ac m c) b) (512 * t.val + (u.val * 8 + q.val)) := by
  refine (gain_at s q b _ _ _).trans (congrArg (_ + ·) (Finset.sum_congr rfl fun u _ => ?_))
  rw [past_of _ ⟨_, below t q u⟩ _ rfl]
  exact congrArg₂ (· * ·) (gain_row m c t _ b ⟨_, below t q u⟩ rfl) (normed_row m c t _ b ⟨_, below t q u⟩ rfl)

theorem zeros_row (y : S24x2048.Idx) : (k0_pay9 (F := Ideal) y : EReal) = 0 := by
  rw [ix2_of (n := 24) (k := 2048) y]
  exact zeros_at _ _

/-! ### The points in turn -/

/-- Each kind of point at its memrefs and blocks, with the sums the point before left. -/
abbrev first_of (h0 : t.val % 16 = 0) (h1 : ¬t.val % 16 = 15) := first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
  (b0 m c t) (b1 m c t) (b2 m c t) (b3 m c t) (b4 m c t)
  ((hcond0_0 t).mpr h0) (fun h => h1 ((hcond0_1 t).mp h))
abbrev next_of (s : Vec Ideal S24x2048 .f32) (h0 : ¬t.val % 16 = 0) (h1 : ¬t.val % 16 = 15) := next (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
  (b0 m c t) (b1 m c t) (b2 m c t) (b3 m c t) (b4 m c t)
  s (fun h => h0 ((hcond0_0 t).mp h)) (fun h => h1 ((hcond0_1 t).mp h))
abbrev last_of (s : Vec Ideal S24x2048 .f32) (h0 : ¬t.val % 16 = 0) (h1 : t.val % 16 = 15) := last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
  (b0 m c t) (b1 m c t) (b2 m c t) (b3 m c t) (b4 m c t)
  s (fun h => h0 ((hcond0_0 t).mp h)) ((hcond0_1 t).mpr h1)

abbrev sumsBefore : Vec Ideal S24x2048 .f32 := (outsAt0 m c (t.val - 1) (Nat.lt_of_le_of_lt (Nat.sub_le _ _) t.isLt)).2.2

/-- What a point leaves of the gradient of x. -/
theorem outs_rows : (outsAt0 m c t.val t.isLt).1 = grad m c t := by
  by_cases h0 : t.val % 16 = 0
  · have h1 : ¬t.val % 16 = 15 := by omega
    have h := first_of m c t h0 h1
    rw [outsAt0_A m c t h0 h1]
    dsimp only
    exact h.1
  · by_cases h1 : t.val % 16 = 15
    · have h := last_of m c t (sumsBefore m c t) h0 h1
      rw [outsAt0_C m c t h0 h1]
      dsimp only
      exact h.1
    · have h := next_of m c t (sumsBefore m c t) h0 h1
      rw [outsAt0_B m c t h0 h1]
      dsimp only
      exact h.1

/-- The sums a point leaves, over the sums before it. -/
theorem sums_first (h0 : t.val % 16 = 0) (h1 : ¬t.val % 16 = 15) :
    low (outsAt0 m c t.val t.isLt).2.2 = shifts m c t (low (k0_pay9 (F := Ideal)))
      ∧ mid (outsAt0 m c t.val t.isLt).2.2 = scales m c t (mid (k0_pay9 (F := Ideal)))
      ∧ high (outsAt0 m c t.val t.isLt).2.2 = gains m c t (high (k0_pay9 (F := Ideal))) := by
  have h := first_of m c t h0 h1
  rw [outsAt0_A m c t h0 h1]
  dsimp only
  exact h.2

theorem sums_next (h0 : ¬t.val % 16 = 0) (h1 : ¬t.val % 16 = 15) :
    low (outsAt0 m c t.val t.isLt).2.2 = shifts m c t (low (sumsBefore m c t))
      ∧ mid (outsAt0 m c t.val t.isLt).2.2 = scales m c t (mid (sumsBefore m c t))
      ∧ high (outsAt0 m c t.val t.isLt).2.2 = gains m c t (high (sumsBefore m c t)) := by
  have h := next_of m c t (sumsBefore m c t) h0 h1
  rw [outsAt0_B m c t h0 h1]
  dsimp only
  exact h.2

theorem stats_last (h0 : ¬t.val % 16 = 0) (h1 : t.val % 16 = 15) :
    (∀ b : Fin 2048, ((outsAt0 m c t.val t.isLt).2.1 (ix2 0 b) : EReal) = k0_pay6 (F := Ideal) (shifts m c t (low (sumsBefore m c t))) (ix2 0 b))
      ∧ (∀ b : Fin 2048, ((outsAt0 m c t.val t.isLt).2.1 (ix2 1 b) : EReal) = k0_pay7 (F := Ideal) (scales m c t (mid (sumsBefore m c t))) (ix2 0 b))
      ∧ (∀ b : Fin 2048, ((outsAt0 m c t.val t.isLt).2.1 (ix2 2 b) : EReal) = k0_pay8 (F := Ideal) (gains m c t (high (sumsBefore m c t))) (ix2 0 b))
      ∧ ∀ (q : Fin 8) (hq : 3 ≤ q.val) (b : Fin 2048), (outsAt0 m c t.val t.isLt).2.1 (ix2 q b) = k0_pay5 (F := Ideal) (ix2 q b) := by
  have h := last_of m c t (sumsBefore m c t) h0 h1
  rw [outsAt0_C m c t h0 h1]
  dsimp only
  exact h.2

/-- The sums of the rows below a point's end, by the row modulo eight. -/
abbrev upto (f : Fin 8192 → EReal) (n : ℕ) (q : Fin 8) : EReal := ∑ j ∈ Finset.range n, ∑ u : Fin 64, past f (512 * j + (u.val * 8 + q.val))

/-- The three sums after a point before the last. -/
theorem sums_at (q : Fin 8) : ∀ (n : ℕ) (hn : n < cfg0.N), n < 15 →
    (low (outsAt0 m c n hn).2.2 (ix2 q b) : EReal) = upto (shiftPart (ad m c) b) (n + 1) q
    ∧ (mid (outsAt0 m c n hn).2.2 (ix2 q b) : EReal) = upto (scalePart (ax m c) (ad m c) (ag m c) b) (n + 1) q
    ∧ (high (outsAt0 m c n hn).2.2 (ix2 q b) : EReal) = upto (gainPart (ax m c) (ad m c) (ac m c) b) (n + 1) q
  | 0, hn, h15 => by
    have h := sums_first m c ⟨0, hn⟩ rfl (show ¬0 % 16 = 15 by decide)
    have zl : (low (F := Ideal) (k0_pay9 (F := Ideal)) (ix2 q b) : EReal) = 0 := by
      unfold low
      exact zeros_row _
    have zm : (mid (F := Ideal) (k0_pay9 (F := Ideal)) (ix2 q b) : EReal) = 0 := by
      unfold mid
      exact zeros_row _
    have zh : (high (F := Ideal) (k0_pay9 (F := Ideal)) (ix2 q b) : EReal) = 0 := by
      unfold high
      exact zeros_row _
    unfold upto
    rw [Finset.sum_range_one, Finset.sum_range_one, Finset.sum_range_one]
    refine ⟨(congrFun h.1 _).trans ((shifts_row m c ⟨0, hn⟩ b q _).trans ?_), (congrFun h.2.1 _).trans ((scales_row m c ⟨0, hn⟩ b q _).trans ?_),
      (congrFun h.2.2 _).trans ((gains_row m c ⟨0, hn⟩ b q _).trans ?_)⟩
    · rw [zl, zero_add]
    · rw [zm, zero_add]
    · rw [zh, zero_add]
  | n + 1, hn, h15 => by
    have ih := sums_at q n (Nat.lt_of_succ_lt hn) (by omega)
    have h := sums_next m c ⟨n + 1, hn⟩ (show ¬(n + 1) % 16 = 0 by omega) (show ¬(n + 1) % 16 = 15 by omega)
    have e : ∀ f, upto f (n + 1 + 1) q = upto f (n + 1) q + ∑ u : Fin 64, past f (512 * (n + 1) + (u.val * 8 + q.val)) := fun f => Finset.sum_range_succ _ _
    rw [e, e, e]
    exact ⟨(congrFun h.1 _).trans ((shifts_row m c ⟨n + 1, hn⟩ b q _).trans (congrArg (· + _) ih.1)),
      (congrFun h.2.1 _).trans ((scales_row m c ⟨n + 1, hn⟩ b q _).trans (congrArg (· + _) ih.2.1)),
      (congrFun h.2.2 _).trans ((gains_row m c ⟨n + 1, hn⟩ b q _).trans (congrArg (· + _) ih.2.2))⟩

/-- The last point's statistics. -/
theorem stats_at (n : ℕ) (hn : n + 1 < cfg0.N) (h14 : n = 14) (q : Fin 8) :
    ((outsAt0 m c (n + 1) hn).2.1 (ix2 q b) : EReal) = T (ax m c) (ad m c) (ag m c) (ac m c) q b := by
  have ih := fun q b => sums_at m c b q n (Nat.lt_of_succ_lt hn) (by omega)
  have h := stats_last m c ⟨n + 1, hn⟩ (show ¬(n + 1) % 16 = 0 by omega) (show (n + 1) % 16 = 15 by omega)
  have hr : Finset.range 16 = Finset.range (n + 1 + 1) := congrArg _ (by omega)
  unfold T
  by_cases q0 : q.val = 0
  · obtain rfl : q = 0 := Fin.ext q0
    rw [if_pos (show (0 : Fin 8).val = 0 from rfl), ← sum_rows]
    refine (h.1 b).trans ((row0_at _ b).trans (Finset.sum_congr rfl fun q _ => ?_))
    rw [hr, Finset.sum_range_succ]
    exact (shifts_row m c ⟨n + 1, hn⟩ b q _).trans (congrArg (fun v : EReal => v + _) (ih q b).1)
  rw [if_neg q0]
  by_cases q1 : q.val = 1
  · obtain rfl : q = 1 := Fin.ext q1
    rw [if_pos (show (1 : Fin 8).val = 1 from rfl), ← sum_rows]
    refine (h.2.1 b).trans ((row1_at _ b).trans (Finset.sum_congr rfl fun q _ => ?_))
    rw [hr, Finset.sum_range_succ]
    exact (scales_row m c ⟨n + 1, hn⟩ b q _).trans (congrArg (fun v : EReal => v + _) (ih q b).2.1)
  rw [if_neg q1]
  by_cases q2 : q.val = 2
  · obtain rfl : q = 2 := Fin.ext q2
    rw [if_pos (show (2 : Fin 8).val = 2 from rfl), ← sum_rows]
    refine (h.2.2.1 b).trans ((row2_at _ b).trans (Finset.sum_congr rfl fun q _ => ?_))
    rw [hr, Finset.sum_range_succ]
    exact (gains_row m c ⟨n + 1, hn⟩ b q _).trans (congrArg (fun v : EReal => v + _) (ih q b).2.2)
  rw [if_neg q2]
  exact (h.2.2.2 q (by omega) b).trans (zero_at q b)

/-! ### The arrays after the run -/

theorem index_5 : ∀ t : Fin cfg0.N, win0_5.index t (0 : Fin 2) = t.val ∧ win0_5.index t (1 : Fin 2) = 0 := (by decide +kernel : ∀ t : Fin grid0.N, _)
theorem index_6 : ∀ t : Fin cfg0.N, win0_6.index t (0 : Fin 2) = 0 ∧ win0_6.index t (1 : Fin 2) = 0 := (by decide +kernel : ∀ t : Fin grid0.N, _)
theorem flushes_5 : ∀ t : Fin cfg0.N, (cfg0.win 5).flush t = true := (by decide +kernel : ∀ t : Fin grid0.N, _)
theorem flushes_6 : ∀ t : Fin cfg0.N, (cfg0.win 6).flush t = true ↔ t.val = 15 := (by decide +kernel : ∀ t : Fin grid0.N, _)

theorem emb_5 : ((cfg0.win 5).blk t).view.emb (ix2 p b) = ix2 (rowOf t p) b := by
  have hi := index_5 t
  refine funext fun a => Fin.ext ?_
  match a with
  | ⟨0, _⟩ => show win0_5.index t (0 : Fin 2) * 512 + 1 * p.val = 512 * t.val + p.val; rw [hi.1]; omega
  | ⟨1, _⟩ => show win0_5.index t (1 : Fin 2) * 2048 + 1 * b.val = b.val; rw [hi.2]; omega

theorem emb_6 (q : Fin 8) : ((cfg0.win 6).blk t).view.emb (ix2 q b) = ix2 q b := by
  have hi := index_6 t
  refine funext fun a => Fin.ext ?_
  match a with
  | ⟨0, _⟩ => show win0_6.index t (0 : Fin 2) * 8 + 1 * q.val = q.val; rw [hi.1]; omega
  | ⟨1, _⟩ => show win0_6.index t (1 : Fin 2) * 2048 + 1 * b.val = b.val; rw [hi.2]; omega

def gradArr : (⟨S8192x2048, .f32⟩ : BufTy).Contents (Elt Ideal) := mat (G (ax m c) (ad m c) (ao m c) (ag m c) (ac m c))
def statsArr : (⟨S8x2048, .f32⟩ : BufTy).Contents (Elt Ideal) := mat (T (ax m c) (ad m c) (ag m c) (ac m c))

theorem array_5 : (dats m 0 c).arrAt 5 cfg0.N = gradArr m c := by
  refine (dats m 0 c).arrAt_eq_of_cover 5 (gradArr m c) (fun t _ => ?_) fun i => ?_
  · rw [Value.flushed5]
    funext y
    show (outsAt0 m c t.val t.isLt).1 y = gradArr m c (((cfg0.win 5).blk t).view.emb y)
    obtain ⟨p, b, rfl⟩ : ∃ (p : Fin 512) (b : Fin 2048), y = ix2 p b := ⟨y 0, y 1, ix2_of y⟩
    rw [emb_5, outs_rows m c t]
    exact grad_row m c t p b (rowOf t p) rfl
  · obtain ⟨r, b, rfl⟩ : ∃ (r : Fin 8192) (b : Fin 2048), i = ix2 r b := ⟨i 0, i 1, ix2_of i⟩
    refine ⟨pointOf r, flushes_5 _, ?_⟩
    have h := ((cfg0.win 5).blk (pointOf r)).view.emb_mem_set (ix2 (⟨r.val % 512, by omega⟩ : Fin 512) b)
    rw [emb_5] at h
    rwa [show rowOf (pointOf r) ⟨r.val % 512, by omega⟩ = r from Fin.ext (by show 512 * (r.val / 512) + r.val % 512 = r.val; omega)] at h

theorem array_6 : (dats m 0 c).arrAt 6 cfg0.N = statsArr m c := by
  have hN : cfg0.N = 16 := N_0
  refine (dats m 0 c).arrAt_eq_of_cover 6 (statsArr m c) (fun t hf => ?_) fun i => ?_
  · have ht := (flushes_6 t).mp hf
    rw [Value.flushed6]
    funext y
    show (outsAt0 m c t.val t.isLt).2.1 y = statsArr m c (((cfg0.win 6).blk t).view.emb y)
    obtain ⟨q, b, rfl⟩ : ∃ (q : Fin 8) (b : Fin 2048), y = ix2 q b := ⟨y 0, y 1, ix2_of y⟩
    rw [emb_6]
    obtain ⟨t, hlt⟩ := t
    obtain ⟨n, rfl⟩ : ∃ n, t = n + 1 := ⟨t - 1, by dsimp only at ht; omega⟩
    exact stats_at m c b n hlt (by dsimp only at ht; omega) q
  · obtain ⟨q, b, rfl⟩ : ∃ (q : Fin 8) (b : Fin 2048), i = ix2 q b := ⟨i 0, i 1, ix2_of i⟩
    have h15 : 15 < cfg0.N := by rw [hN]; decide
    refine ⟨⟨15, h15⟩, (flushes_6 _).mpr rfl, ?_⟩
    have h := ((cfg0.win 6).blk ⟨15, h15⟩).view.emb_mem_set (ix2 q b)
    rwa [emb_6] at h

end Cert.Proof.Kernel5Ideal

end
-- ==== Proof.Prenorm.lean ====
/-
  The modulated norm's gradient: the run's arrays are the reference's.
-/
module

public import proofs.«01_k».proof.Defs
public import proofs.«01_k».proof.Proof.Kernel5Ideal.Points
public import proofs.«01_k».proof.Proof.Loss
public import proofs.«01_k».proof.Proof.Gen.Reference5Ideal.Run
public import proofs.«01_k».proof.Proof.Gen.Reference5Ideal.Read

@[expose] public section

noncomputable section

namespace Cert.Proof.Prenorm

open Idealize.ShloMosaic Idealize.ShloMosaic.TcCoe Idealize.ShloMosaic.Pointwise Idealize.SL.Sem
open Cert.Proof.Loss (word_one word_row word_grad word_zero square_nonneg)

/-! ### The equation of a row -/

theorem word_eps : Ideal.ofBits .f32 0x358637BD#32 = ((8796093 / 8796093022208 : ℝ) : EReal) := by
  simp [Ideal.ofBits, Ideal.ieee]
  rw [← EReal.coe_mul]
  norm_num
theorem word_neg_half : Ideal.ofBits .f32 0xBF000000#32 = ((-(1 / 2) : ℝ) : EReal) := by
  simp [Ideal.ofBits, Ideal.ieee]
  rw [← EReal.coe_mul]
  norm_num

/-- A nonnegative real taken out of a sum of any terms. -/
theorem sum_mul_coe {ι : Type} (s : Finset ι) (f : ι → EReal) (a : ℝ) (ha : 0 ≤ a) :
    ∑ i ∈ s, f i * (a : EReal) = (∑ i ∈ s, f i) * (a : EReal) := by
  classical
  induction s using Finset.induction_on with
  | empty => simp
  | insert i s hi ih =>
    rw [Finset.sum_insert hi, Finset.sum_insert hi, ih,
      EReal.right_distrib_of_nonneg_of_ne_top (EReal.coe_nonneg.mpr ha) (EReal.coe_ne_top a)]

/-- A row's mean square with its constant: infinite, or a positive real. -/
theorem mean_cases (n : EReal) (hn : 0 ≤ n) :
    n * ((1 / 2048 : ℝ) : EReal) + ((8796093 / 8796093022208 : ℝ) : EReal) = ⊤
      ∨ ∃ a : ℝ, 0 < a ∧ n * ((1 / 2048 : ℝ) : EReal) + ((8796093 / 8796093022208 : ℝ) : EReal) = (a : EReal) := by
  induction n with
  | bot => exact absurd hn (by simp)
  | top =>
    left
    rw [EReal.top_mul_coe_of_pos (by norm_num), EReal.top_add_coe]
  | coe r =>
    right
    have hr : 0 ≤ r := EReal.coe_nonneg.mp hn
    exact ⟨r * (1 / 2048) + 8796093 / 8796093022208, by positivity, by rw [EReal.coe_add, EReal.coe_mul]⟩

/-- Twice a product with half a factor. -/
theorem halves (q : EReal) (h : ℝ) (hh : 0 ≤ h) : q * ((-h : ℝ) : EReal) + q * ((-h : ℝ) : EReal) = -(q * ((h + h : ℝ) : EReal)) := by
  have e : q * ((-h : ℝ) : EReal) = (-q) * (h : EReal) := by
    rw [EReal.coe_neg, mul_comm, EReal.neg_mul, EReal.neg_mul, mul_comm]
  rw [e, ← EReal.left_distrib_of_nonneg (EReal.coe_nonneg.mpr hh) (EReal.coe_nonneg.mpr hh), ← EReal.coe_add, EReal.neg_mul]

/-- The two forms of the gradient through a row's norm. -/
theorem grad_eq (v : EReal) (hv : v = ⊤ ∨ ∃ a : ℝ, 0 < a ∧ v = (a : EReal)) (x z : EReal) (X Z : Fin 2048 → EReal) :
    z * Ideal.rsqrt v + x * Ideal.div ((∑ k : Fin 2048, X k * Z k) * (((-(1 / 2) : ℝ) : EReal) * Ideal.div (Ideal.rsqrt v) v)) ((2048 : ℝ) : EReal)
        + Ideal.div ((∑ k : Fin 2048, X k * Z k) * (((-(1 / 2) : ℝ) : EReal) * Ideal.div (Ideal.rsqrt v) v)) ((2048 : ℝ) : EReal) * x
      = Ideal.rsqrt v * (z - x * Ideal.rsqrt v * ((∑ k : Fin 2048, Z k * (X k * Ideal.rsqrt v)) * ((1 / 2048 : ℝ) : EReal))) := by
  rw [Ideal.div_coe (by norm_num : (2048 : ℝ) ≠ 0)]
  obtain rfl | ⟨a, ha, rfl⟩ := hv
  · rw [Ideal.rsqrt_top]
    have h : Ideal.div 0 ⊤ = 0 := by
      unfold Ideal.div
      rw [if_neg EReal.top_ne_zero, zero_mul]
    rw [h]
    simp only [mul_zero, zero_mul, add_zero]
  · have hs : 0 < Real.sqrt a := Real.sqrt_pos.mpr ha
    rw [Ideal.rsqrt_coe, if_neg (not_lt.mpr ha.le), if_neg ha.ne']
    obtain ⟨ρ, hρ⟩ : ∃ ρ : ℝ, (Real.sqrt a)⁻¹ = ρ := ⟨_, rfl⟩
    have hp : 0 < ρ := hρ ▸ inv_pos.mpr hs
    have ha' : 1 / a = ρ * ρ := by
      rw [← hρ, ← mul_inv, Real.mul_self_sqrt ha.le, one_div]
    rw [hρ, Ideal.div_coe ha.ne', ha']
    have e : ∑ k : Fin 2048, Z k * (X k * (ρ : EReal)) = (∑ k : Fin 2048, X k * Z k) * (ρ : EReal) := by
      rw [← sum_mul_coe _ _ ρ hp.le]
      exact Finset.sum_congr rfl fun k _ => by rw [← mul_assoc, mul_comm (Z k)]
    rw [e]
    generalize (∑ k : Fin 2048, X k * Z k) = S
    have k1 : S * (((-(1 / 2) : ℝ) : EReal) * ((ρ : EReal) * ((ρ * ρ : ℝ) : EReal))) * ((1 / 2048 : ℝ) : EReal)
        = S * ((-(ρ * ρ * ρ / 4096) : ℝ) : EReal) := by
      rw [← EReal.coe_mul, ← EReal.coe_mul, mul_assoc, ← EReal.coe_mul]
      congr 2
      ring
    have k2 : x * (ρ : EReal) * (S * (ρ : EReal) * ((1 / 2048 : ℝ) : EReal)) = x * S * ((ρ * ρ / 2048 : ℝ) : EReal) := by
      rw [mul_assoc S, ← EReal.coe_mul, mul_mul_mul_comm, ← EReal.coe_mul]
      congr 2
      ring
    rw [k1, k2, mul_comm _ x, ← mul_assoc x S, add_assoc, halves _ _ (by positivity), sub_eq_add_neg,
      EReal.left_distrib_of_nonneg_of_ne_top (EReal.coe_nonneg.mpr hp.le) (EReal.coe_ne_top ρ), mul_comm (ρ : EReal) z]
    refine congrArg (z * (ρ : EReal) + ·) ?_
    rw [mul_comm (ρ : EReal), EReal.neg_mul, mul_assoc (x * S), ← EReal.coe_mul]
    congr 3
    ring

/-! ### The reference at a row and a column -/

section Reads

open Cert.Reference5Ideal

variable (x0 : (⟨S8192x2048, .f32⟩ : BufTy).Contents (Elt Ideal)) (x1 : (⟨S8192x2048, .bf16⟩ : BufTy).Contents (Elt Ideal))
  (x2 : (⟨S8192x2048, .f32⟩ : BufTy).Contents (Elt Ideal)) (x3 x4 : (⟨S1x2048, .f32⟩ : BufTy).Contents (Elt Ideal))

/-- A row's mean square with its constant. -/
def mean (r : Fin 8192) : EReal :=
  (∑ k : Fin 2048, (x0 (ix2 r k) : EReal) * (x0 (ix2 r k) : EReal)) * ((1 / 2048 : ℝ) : EReal) + ((8796093 / 8796093022208 : ℝ) : EReal)

theorem root_eq (r : Fin 8192) : Kernel5Ideal.R x0 r = Ideal.rsqrt (mean x0 r) := by
  unfold Kernel5Ideal.R mean
  show Ideal.rsqrt (_ * Ideal.ofBits .f32 0x3A000000#32 + Ideal.ofBits .f32 0x358637BD#32) = _
  rw [word_grad, word_eps]

theorem mean_at (r : Fin 8192) : (Read.val_main_v7 (F := Ideal) x0 (ix2 r 0) : EReal) = mean x0 r := by
  have hi : ∀ k : Fin 2048, Read.idx_main_v2 (Read.idx_main_v3 (ix2 r (0 : Fin 1))) k = ix2 r k := fun k => by
    funext x
    match x with
    | ⟨0, _⟩ => rfl
    | ⟨1, _⟩ => rfl
  rw [Read.val_main_v7_apply, Read.val_main_v6_apply, Read.val_main_v5_apply, Read.val_main_v4_apply, Read.val_main_v3_apply, Read.val_main_v2_apply]
  simp only [hi, Read.val_main_v1_apply]
  show Ideal.div (Ideal.ofBits .f32 0x00000000#32 + ∑ k : Fin 2048, (x0 (ix2 r k) : EReal) * (x0 (ix2 r k) : EReal)) (Ideal.ofBits .f32 0x45000000#32)
    + Ideal.ofBits .f32 0x358637BD#32 = _
  rw [word_zero, word_row, word_eps, zero_add, Ideal.div_coe (by norm_num)]
  rfl

theorem root_at (r : Fin 8192) : (Read.val_main_v8 (F := Ideal) x0 (ix2 r 0) : EReal) = Ideal.rsqrt (mean x0 r) := by
  rw [Read.val_main_v8_apply]
  exact congrArg Ideal.rsqrt (mean_at x0 r)

theorem normed_at (r : Fin 8192) (b : Fin 2048) : (Read.val_main_v13 (F := Ideal) x0 (ix2 r b) : EReal) = Kernel5Ideal.N x0 r b := by
  have hi : Read.idx_main_v12 (ix2 r b) = ix2 r (0 : Fin 1) := by
    funext x
    match x with
    | ⟨0, _⟩ => rfl
    | ⟨1, _⟩ => rfl
  rw [Read.val_main_v13_apply, Read.val_main_v12_apply, hi]
  unfold Kernel5Ideal.N
  rw [root_eq]
  exact congrArg (fun v : EReal => (x0 (ix2 r b) : EReal) * v) (root_at x0 r)

theorem gain_at (r : Fin 8192) (b : Fin 2048) : (Read.val_main_v29 (F := Ideal) x1 x4 (ix2 r b) : EReal) = Kernel5Ideal.W x1 x4 r b := by
  have hi : Read.idx_main_v28 (ix2 r b) = ix2 (0 : Fin 1) b := by
    funext x
    match x with
    | ⟨0, _⟩ => rfl
    | ⟨1, _⟩ => rfl
  rw [Read.val_main_v29_apply, Read.val_main_v28_apply, hi, Read.val_main_v17_apply, Read.val_main_v16_apply]
  rfl

theorem norm_at (r : Fin 8192) (b : Fin 2048) : (Read.val_main_v34 (F := Ideal) x1 x3 x4 (ix2 r b) : EReal) = Kernel5Ideal.Z x1 x3 x4 r b := by
  have hi : Read.idx_main_v33 (ix2 r b) = ix2 (0 : Fin 1) b := by
    funext x
    match x with
    | ⟨0, _⟩ => rfl
    | ⟨1, _⟩ => rfl
  rw [Read.val_main_v34_apply, Read.val_main_v33_apply, hi]
  unfold Kernel5Ideal.Z
  exact congrArg (fun v : EReal => v * (x3 (ix2 0 b) : EReal)) (gain_at x1 x4 r b)

/-- A row's factor of x in the gradient of x. -/
theorem factor_at (r : Fin 8192) (b : Fin 2048) :
    (Read.val_main_v44 (F := Ideal) x0 x1 x3 x4 (ix2 r b) : EReal)
      = Ideal.div ((∑ k : Fin 2048, (x0 (ix2 r k) : EReal) * Kernel5Ideal.Z x1 x3 x4 r k)
          * (((-(1 / 2) : ℝ) : EReal) * Ideal.div (Ideal.rsqrt (mean x0 r)) (mean x0 r))) ((2048 : ℝ) : EReal) := by
  have hk : ∀ k : Fin 1, Read.idx_main_v43 (Read.idx_main_v44 (ix2 r b)) k = ix2 r (0 : Fin 1) := fun k => by
    obtain rfl : k = 0 := Subsingleton.elim _ _
    funext x
    match x with
    | ⟨0, _⟩ => rfl
    | ⟨1, _⟩ => rfl
  have hi : ∀ k : Fin 2048, Read.idx_main_v36 (Read.idx_main_v37 (ix2 r (0 : Fin 1))) k = ix2 r k := fun k => by
    funext x
    match x with
    | ⟨0, _⟩ => exact Fin.ext (show r.val * 1 + 0 = r.val by omega)
    | ⟨1, _⟩ => rfl
  have hs : (Read.val_main_v37 (F := Ideal) x0 x1 x3 x4 (ix2 r 0) : EReal) = ∑ k : Fin 2048, (x0 (ix2 r k) : EReal) * Kernel5Ideal.Z x1 x3 x4 r k := by
    rw [Read.val_main_v37_apply, Read.val_main_v36_apply]
    refine (congrArg₂ (fun u v : EReal => u + v) (show _ = (0 : EReal) from word_zero) (Finset.sum_congr rfl fun k _ => ?_)).trans (zero_add _)
    rw [hi, Read.val_main_v35_apply]
    exact congrArg (fun v : EReal => (x0 (ix2 r k) : EReal) * v) (norm_at x1 x3 x4 r k)
  rw [Read.val_main_v44_apply, Read.val_main_v43_apply, Fin.sum_univ_one, hk, Read.val_main_v42_apply, Read.val_main_v41_apply,
    Read.val_main_v40_apply, Read.val_main_v11_apply, Read.val_main_v10_apply, Read.val_main_v9_apply]
  show Ideal.ofBits .f32 0x00000000#32 + Ideal.div ((Read.val_main_v37 (F := Ideal) x0 x1 x3 x4 (ix2 r 0) : EReal)
    * (Ideal.ofBits .f32 0xBF000000#32 * Ideal.div (Read.val_main_v8 (F := Ideal) x0 (ix2 r 0) : EReal) (Read.val_main_v7 (F := Ideal) x0 (ix2 r 0) : EReal)))
    (Ideal.ofBits .f32 0x45000000#32) = _
  rw [word_zero, zero_add, word_neg_half, word_row, hs, root_at, mean_at]

theorem grad_at (r : Fin 8192) (b : Fin 2048) :
    (Read.val_main_v49 (F := Ideal) x0 x1 x2 x3 x4 (ix2 r b) : EReal) = Kernel5Ideal.G x0 x1 x2 x3 x4 r b := by
  have hi : Read.idx_main_v38 (ix2 r b) = ix2 r (0 : Fin 1) := by
    funext x
    match x with
    | ⟨0, _⟩ => rfl
    | ⟨1, _⟩ => rfl
  rw [Read.val_main_v49_apply, Read.val_main_v48_apply, Read.val_main_v47_apply, Read.val_main_v46_apply, Read.val_main_v45_apply,
    Read.val_main_v39_apply, Read.val_main_v38_apply, hi]
  show (x2 (ix2 r b) : EReal) + ((Read.val_main_v34 (F := Ideal) x1 x3 x4 (ix2 r b) : EReal) * (Read.val_main_v8 (F := Ideal) x0 (ix2 r 0) : EReal)
    + (x0 (ix2 r b) : EReal) * (Read.val_main_v44 (F := Ideal) x0 x1 x3 x4 (ix2 r b) : EReal)
    + (Read.val_main_v44 (F := Ideal) x0 x1 x3 x4 (ix2 r b) : EReal) * (x0 (ix2 r b) : EReal)) = _
  rw [norm_at, root_at, factor_at, grad_eq (mean x0 r) (mean_cases _ (Finset.sum_nonneg fun k _ => square_nonneg (x0 (ix2 r k)))) _ _
    (fun k => x0 (ix2 r k)) (fun k => Kernel5Ideal.Z x1 x3 x4 r k)]
  unfold Kernel5Ideal.G Kernel5Ideal.N
  rw [root_eq, ← word_grad]
  rfl

/-- The statistics' three rows. -/
theorem shift_at (b : Fin 2048) :
    (Read.val_main_v24 (F := Ideal) x1 (ix2 0 b) : EReal) = ∑ r : Fin 8192, Kernel5Ideal.shiftPart x1 b r := by
  have hb : ∀ k : Fin 8192, Read.idx_main_v23 (Read.idx_main_v24 (ix2 (0 : Fin 1) b)) k = ix2 k b := fun k => by
    funext x
    match x with
    | ⟨0, _⟩ => rfl
    | ⟨1, _⟩ => exact Fin.ext (show 0 * 2048 + b.val = b.val by omega)
  rw [Read.val_main_v24_apply, Read.val_main_v23_apply]
  refine (congrArg₂ (fun u v : EReal => u + v) (show _ = (0 : EReal) from word_zero) (Finset.sum_congr rfl fun r _ => ?_)).trans (zero_add _)
  rw [hb, Read.val_main_v22_apply]
  rfl

theorem scale_at (b : Fin 2048) :
    (Read.val_main_v27 (F := Ideal) x0 x1 x3 (ix2 0 b) : EReal) = ∑ r : Fin 8192, Kernel5Ideal.scalePart x0 x1 x3 b r := by
  have hb : ∀ k : Fin 8192, Read.idx_main_v26 (Read.idx_main_v27 (ix2 (0 : Fin 1) b)) k = ix2 k b := fun k => by
    funext x
    match x with
    | ⟨0, _⟩ => rfl
    | ⟨1, _⟩ => exact Fin.ext (show 0 * 2048 + b.val = b.val by omega)
  have hg : ∀ r : Fin 8192, Read.idx_main_v14 (ix2 r b) = ix2 (0 : Fin 1) b := fun r => by
    funext x
    match x with
    | ⟨0, _⟩ => rfl
    | ⟨1, _⟩ => rfl
  rw [Read.val_main_v27_apply, Read.val_main_v26_apply]
  refine (congrArg₂ (fun u v : EReal => u + v) (show _ = (0 : EReal) from word_zero) (Finset.sum_congr rfl fun r _ => ?_)).trans (zero_add _)
  rw [hb, Read.val_main_v25_apply, Read.val_main_v15_apply, Read.val_main_v14_apply, hg]
  unfold Kernel5Ideal.scalePart
  rw [← normed_at]
  exact mul_comm (_ : EReal) _

theorem gains_at (b : Fin 2048) :
    (Read.val_main_v32 (F := Ideal) x0 x1 x4 (ix2 0 b) : EReal) = ∑ r : Fin 8192, Kernel5Ideal.gainPart x0 x1 x4 b r := by
  have hb : ∀ k : Fin 8192, Read.idx_main_v31 (Read.idx_main_v32 (ix2 (0 : Fin 1) b)) k = ix2 k b := fun k => by
    funext x
    match x with
    | ⟨0, _⟩ => rfl
    | ⟨1, _⟩ => exact Fin.ext (show 0 * 2048 + b.val = b.val by omega)
  rw [Read.val_main_v32_apply, Read.val_main_v31_apply]
  refine (congrArg₂ (fun u v : EReal => u + v) (show _ = (0 : EReal) from word_zero) (Finset.sum_congr rfl fun r _ => ?_)).trans (zero_add _)
  rw [hb, Read.val_main_v30_apply]
  unfold Kernel5Ideal.gainPart
  rw [← normed_at, ← gain_at]
  exact mul_comm (_ : EReal) _

theorem stats_at (q : Fin 8) (b : Fin 2048) :
    (Read.val_main_v51 (F := Ideal) x0 x1 x3 x4 (ix2 q b) : EReal) = Kernel5Ideal.T x0 x1 x3 x4 q b := by
  have h : (Read.val_main_v51 (F := Ideal) x0 x1 x3 x4 (ix2 q b) : EReal)
      = if q.val = 0 then (Read.val_main_v24 (F := Ideal) x1 (ix2 0 b) : EReal)
        else if q.val = 1 then (Read.val_main_v27 (F := Ideal) x0 x1 x3 (ix2 0 b) : EReal)
        else if q.val = 2 then (Read.val_main_v32 (F := Ideal) x0 x1 x4 (ix2 0 b) : EReal)
        else 0 := by
    match q with
    | 0 => pointwise [Read.val_main_v51]
    | 1 => pointwise [Read.val_main_v51]
    | 2 => pointwise [Read.val_main_v51]
    | 3 => pointwise [Read.val_main_v51, Read.val_main_v50, Read.val_main_cst_11]
    | 4 => pointwise [Read.val_main_v51, Read.val_main_v50, Read.val_main_cst_11]
    | 5 => pointwise [Read.val_main_v51, Read.val_main_v50, Read.val_main_cst_11]
    | 6 => pointwise [Read.val_main_v51, Read.val_main_v50, Read.val_main_cst_11]
    | 7 => pointwise [Read.val_main_v51, Read.val_main_v50, Read.val_main_cst_11]
  rw [h, shift_at, scale_at, gains_at]
  rfl

end Reads

theorem values5 : Cert.algebraic_Kernel5Ideal_Reference5Ideal (hKernel5Ideal := Cert.Kernel5Ideal.Gen.facts)
    (hReference5Ideal := Cert.Reference5Ideal.Gen.facts) := by
  intro m g m' g' _ hargs
  refine ⟨fun c => Kernel5Ideal.gradArr m c, fun c => Kernel5Ideal.statsArr m c, ?_, ?_⟩
  · refine (θ_run Cert.Kernel5Ideal.defs _ _).mono (fun r h c => ?_) (Cert.Kernel5Ideal.Value.run_blocks (F := Ideal) m g)
    obtain ⟨h0, h1, h⟩ := h c
    exact ⟨h0.trans (Kernel5Ideal.array_5 m c), h1.trans (Kernel5Ideal.array_6 m c), h⟩
  · refine (θ_run Cert.Reference5Ideal.defs _ _).mono (fun r h c => ?_) (Cert.Reference5Ideal.Value.run (F := Ideal) m' g')
    obtain ⟨h0, h1, h⟩ := h c
    obtain ⟨a0, a1, a2, a3, a4⟩ := hargs c
    refine ⟨h0.trans ?_, h1.trans ?_, h⟩
    · rw [Cert.Reference5Ideal.Read.val_main_v49_eq, a0, a1, a2, a3, a4]
      funext y
      rw [Kernel4Ideal.ix2_of (n := 8192) (k := 2048) y]
      exact grad_at _ _ _ _ _ (y 0) (y 1)
    · rw [Cert.Reference5Ideal.Read.val_main_v51_eq, a0, a1, a3, a4]
      funext y
      rw [Kernel4Ideal.ix2_of (n := 8) (k := 2048) y]
      exact stats_at _ _ _ _ (y 0) (y 1)

end Cert.Proof.Prenorm

end
-- ==== Proof.Kernel6Ideal.Pay.lean ====
/-
  The attention gate's gradient: what the body computes of a point's blocks, element by element, over the extended reals.
-/
module

public import proofs.«01_k».proof.Proof.Gen.Kernel6Ideal.Value
public import proofs.«01_k».proof.Proof.Kernel4Ideal.Arrays
public import proofs.«01_k».proof.Proof.Loss
public import Idealize.ShloMosaic.Lib.Pointwise

@[expose] public section

noncomputable section

namespace Cert.Proof.Kernel6Ideal

open Cert.Kernel6Ideal Cert.Kernel6Ideal.Gen
open Idealize.ShloMosaic Idealize.ShloMosaic.TcCoe Idealize.ShloMosaic.Pointwise Idealize.SL.Sem
open Cert.Proof.Kernel4Ideal (ix2_of origin mat)

variable (x0 x1 x2 : Vec Ideal S512x1024 .bf16)

/-- The gate's sigmoid. -/
theorem sigmoid_at (p : Fin 512) (b : Fin 1024) : (k0_pay7 x2 (ix2 p b) : EReal) = Ideal.logistic (x2 (ix2 p b)) := by
  have h : (k0_pay7 x2 (ix2 p b) : EReal) = Ideal.div (Ideal.ofBits .f32 0x3F800000#32)
      (Ideal.ofBits .f32 0x3F800000#32 + Ideal.exp (Ideal.ofBits .f32 0x00000000#32 - x2 (ix2 p b))) := by
    pointwise [k0_pay7, k0_pay6]
  rw [h, Loss.word_one, Loss.word_zero, zero_sub]
  rfl

/-- The gradient of the attention's output. -/
theorem do_at (p : Fin 512) (b : Fin 1024) :
    (k0_pay8 x0 x2 (ix2 p b) : EReal) = x0 (ix2 p b) * (x2 (ix2 p b) * Ideal.logistic (x2 (ix2 p b))) := by
  rw [← sigmoid_at]
  pointwise [k0_pay8, k0_pay6, k0_pay4]

/-- The gradient of the gate. -/
theorem dz_at (p : Fin 512) (b : Fin 1024) :
    (k0_pay9 x0 x1 x2 (ix2 p b) : EReal) = x0 (ix2 p b) * x1 (ix2 p b)
      * (Ideal.logistic (x2 (ix2 p b)) * (1 + x2 (ix2 p b) * (1 - Ideal.logistic (x2 (ix2 p b))))) := by
  have h : (k0_pay9 x0 x1 x2 (ix2 p b) : EReal) = x0 (ix2 p b) * x1 (ix2 p b)
      * (k0_pay7 x2 (ix2 p b) * (Ideal.ofBits .f32 0x3F800000#32 + x2 (ix2 p b) * (Ideal.ofBits .f32 0x3F800000#32 - k0_pay7 x2 (ix2 p b)))) := by
    pointwise [k0_pay9, k0_pay6, k0_pay5, k0_pay4]
  rw [h, sigmoid_at, Loss.word_one]
  rfl

/-- The products a head's row sums add up. -/
theorem prod_at (p : Fin 512) (b : Fin 1024) :
    (k0_pay10 x0 x1 x2 (ix2 p b) : EReal) = x0 (ix2 p b) * (x2 (ix2 p b) * Ideal.logistic (x2 (ix2 p b))) * x1 (ix2 p b) := by
  rw [← do_at]
  pointwise [k0_pay10, k0_pay5]

/-- A head's column. -/
abbrev col (h : Fin 8) (d : Fin 128) : Fin 1024 := ⟨h.val * 128 + d.val, by omega⟩

/-- The row sums of the 128 columns from o on, as one row. -/
def sums (o : ℕ) (hs : S512x1024.Slices ![0, o] S512x128) (v : FVec Ideal S512x1024 .f32) : FVec Ideal S1x1x512 .f32 :=
  shapeCast S1x1x512 (extractStridedSlice S1x512 ![0, 0]
    (matmul dot_S8x128_S512x128_S8x512_1_1_0_0_n_n (some .fp32) (k0_pay11 (F := Ideal)) (extractStridedSlice S512x128 ![0, o] v hs)
      (constant S8x512 .f32 0x00000000#32)) slices_S8x512_o0_0_S1x512) shapeCasts_S1x512_S1x1x512

theorem sums_at (h : Fin 8) (hs : S512x1024.Slices ![0, h.val * 128] S512x128) (v : FVec Ideal S512x1024 .f32) (p : Fin 512) :
    (sums (h.val * 128) hs v (ix3 0 0 p) : EReal) = ∑ k : Fin 128, (v (ix2 p (col h k)) : EReal) := by
  have e : (sums (h.val * 128) hs v (ix3 0 0 p) : EReal)
      = ∑ k : Fin 128, (Ideal.ofBits .f32 0x3F800000#32) * (extractStridedSlice S512x128 ![0, h.val * 128] v hs (ix2 p k) : EReal) := by
    pointwise [sums, k0_pay11]
  rw [e]
  refine Finset.sum_congr rfl fun k _ => ?_
  rw [Loss.word_one, EReal.coe_one, one_mul]
  exact extractStridedSlice_apply ![0, h.val * 128] v hs (ix2 p k) (ix2 p (col h k)) (fun a => match a with
    | ⟨0, _⟩ => (Nat.zero_add _).symm
    | ⟨1, _⟩ => rfl)

theorem ix3_of {n k l : ℕ} (y : (i : Fin 3) → Fin (![n, k, l] i)) : y = ix3 (y 0) (y 1) (y 2) := by
  funext a
  match a with
  | ⟨0, _⟩ => rfl
  | ⟨1, _⟩ => rfl
  | ⟨2, _⟩ => rfl

/-- A head's row sums among all heads' of the block. -/
abbrev rows (v : FVec Ideal S512x1024 .f32) (y : S8x1x512.Idx) : EReal := ∑ k : Fin 128, (v (ix2 (y 2) (col (y 0) k)) : EReal)

theorem piece (h : Fin 8) (hs : S512x1024.Slices ![0, h.val * 128] S512x128) (v : FVec Ideal S512x1024 .f32)
    (hb : ∀ a, (![h.val, 0, 0] : Fin 3 → ℕ) a + S1x1x512.size a ≤ S8x1x512.size a) (x : S1x1x512.Idx) :
    (sums (h.val * 128) hs v x : EReal) = rows v ((Rect.unit (s := S8x1x512) ![h.val, 0, 0] S1x1x512.size hb).emb x) := by
  obtain ⟨p, rfl⟩ : ∃ p : Fin 512, x = ix3 0 0 p := ⟨x 2, by
    refine (ix3_of (n := 1) (k := 1) (l := 512) x).trans ?_
    exact congrArg₂ (ix3 · · (x 2)) (Subsingleton.elim (α := Fin 1) _ _) (Subsingleton.elim (α := Fin 1) _ _)⟩
  rw [sums_at]
  have e : (Rect.unit (s := S8x1x512) ![h.val, 0, 0] S1x1x512.size hb).emb (ix3 0 0 p) = ix3 h 0 p := by
    refine funext fun a => Fin.ext ?_
    match a with
    | ⟨0, _⟩ => show h.val + 1 * 0 = h.val; omega
    | ⟨1, _⟩ => show 0 + 1 * 0 = 0; omega
    | ⟨2, _⟩ => show 0 + 1 * p.val = p.val; omega
  rw [e]
  rfl

/-! ### What a point leaves in its three blocks -/

theorem out_do (h : Fin 8) (d : Fin 128) (p : Fin 512) :
    (out0_3 x0 x1 x2 (ix3 h d p) : EReal)
      = x0 (ix2 p (col h d)) * (x2 (ix2 p (col h d)) * Ideal.logistic (x2 (ix2 p (col h d)))) := by
  unfold out0_3 k0_pay28
  rw [View.ld_unit_zero (S := S512x1024) origin, View.ld_unit_zero (S := S512x1024) origin, Value.canon3_eq]
  have e : Value.ix3_0 (ix3 h d p) = ix2 p (col h d) := by
    funext a
    match a with
    | ⟨0, _⟩ => rfl
    | ⟨1, _⟩ => rfl
  show (x0 (Value.ix3_0 (ix3 h d p)) : EReal) * (x2 (Value.ix3_0 (ix3 h d p)) * Ideal.div (Ideal.ofBits .f32 0x3F800000#32)
    (Ideal.ofBits .f32 0x3F800000#32 + Ideal.exp (Ideal.ofBits .f32 0x00000000#32 - x2 (Value.ix3_0 (ix3 h d p))))) = _
  rw [e, Loss.word_one, Loss.word_zero, zero_sub]
  rfl

theorem out_dz (p : Fin 512) (b : Fin 1024) :
    (out0_4 x0 x1 x2 (ix2 p b) : EReal) = x0 (ix2 p b) * x1 (ix2 p b)
      * (Ideal.logistic (x2 (ix2 p b)) * (1 + x2 (ix2 p b) * (1 - Ideal.logistic (x2 (ix2 p b))))) := by
  unfold out0_4
  rw [View.canon_unit_zero origin, View.ld_unit_zero (S := S512x1024) origin, View.ld_unit_zero (S := S512x1024) origin,
    View.ld_unit_zero (S := S512x1024) origin]
  exact dz_at x0 x1 x2 p b

theorem out_delta (h : Fin 8) (p : Fin 512) :
    (out0_5 x0 x1 x2 (ix3 h 0 p) : EReal) = ∑ k : Fin 128,
      x0 (ix2 p (col h k)) * (x2 (ix2 p (col h k)) * Ideal.logistic (x2 (ix2 p (col h k)))) * x1 (ix2 p (col h k)) := by
  unfold out0_5 k0_pay29 k0_pay30
  rw [View.ld_unit_zero (S := S512x1024) origin, View.ld_unit_zero (S := S512x1024) origin, View.ld_unit_zero (S := S512x1024) origin]
  refine (View.canon_apply_of_pieces (Val := Elt Ideal) (rows (k0_pay10 x0 x1 x2)) _ ?_ (ix3 h 0 p) (cover0_5 _ _ _ _ _ _ _ _ _)).trans ?_
  · intro pc hpc
    simp only [List.mem_cons, List.not_mem_nil, or_false] at hpc
    rcases hpc with rfl | rfl | rfl | rfl | rfl | rfl | rfl | rfl
    · exact piece 7 _ _ inb_S8x1x512_S1x1x512_7_0_0
    · exact piece 6 slices_S512x1024_o0_768_S512x128 _ inb_S8x1x512_S1x1x512_6_0_0
    · exact piece 5 _ _ inb_S8x1x512_S1x1x512_5_0_0
    · exact piece 4 _ _ inb_S8x1x512_S1x1x512_4_0_0
    · exact piece 3 _ _ inb_S8x1x512_S1x1x512_3_0_0
    · exact piece 2 _ _ inb_S8x1x512_S1x1x512_2_0_0
    · exact piece 1 _ _ inb_S8x1x512_S1x1x512_1_0_0
    · exact piece 0 _ _ inb_S8x1x512_S1x1x512_0_0_0
  · exact Finset.sum_congr rfl fun k _ => prod_at x0 x1 x2 p (col h k)

end Cert.Proof.Kernel6Ideal

end
-- ==== Proof.Kernel6Ideal.Points.lean ====
/-
  The attention gate's gradient: the run's sixteen points and the three arrays after it, over the extended reals.
-/
module

public import proofs.«01_k».proof.Proof.Kernel6Ideal.Pay

@[expose] public section

noncomputable section

namespace Cert.Proof.Kernel6Ideal

open Cert.Kernel6Ideal Cert.Kernel6Ideal.Gen
open Idealize.ShloMosaic Idealize.ShloMosaic.TcCoe Idealize.ShloMosaic.Pointwise Idealize.SL.Sem
open Cert.Proof.Kernel4Ideal (ix2_of mat)

/-! ### What the run computes, of the three arguments -/

section Gate

variable (dy : (⟨S8192x2048, .bf16⟩ : BufTy).Contents (Elt Ideal)) (o : (⟨S8192x1024, .bf16⟩ : BufTy).Contents (Elt Ideal))
  (u : (⟨S8192x6144, .bf16⟩ : BufTy).Contents (Elt Ideal))

/-- The attention's half of the branches' gradient, and the attention's gate. -/
def Y (r : Fin 8192) (b : Fin 1024) : EReal := dy (ix2 r (⟨1024 + b.val, by omega⟩ : Fin 2048))
def A (r : Fin 8192) (b : Fin 1024) : EReal := u (ix2 r (⟨4096 + b.val, by omega⟩ : Fin 6144))

/-- The gradients of the attention's output and of the gate. -/
def DO (r : Fin 8192) (b : Fin 1024) : EReal := Y dy r b * (A u r b * Ideal.logistic (A u r b))
def DZ (r : Fin 8192) (b : Fin 1024) : EReal :=
  Y dy r b * (o (ix2 r b) : EReal) * (Ideal.logistic (A u r b) * (1 + A u r b * (1 - Ideal.logistic (A u r b))))

/-- A head's row sums of the output times its gradient. -/
def DL (h : Fin 8) (r : Fin 8192) : EReal := ∑ k : Fin 128, DO dy u r (col h k) * (o (ix2 r (col h k)) : EReal)

end Gate

/-! ### A point's blocks -/

variable (m : (ℓ : Loc nD τ sig) → Buf (Elt Ideal) ℓ) (c : Dev nD)

/-- The three arguments of a device. -/
abbrev ay : (⟨S8192x2048, .bf16⟩ : BufTy).Contents (Elt Ideal) := m ((c.tc : Thread nD τ).loc main_arg0)
abbrev ao : (⟨S8192x1024, .bf16⟩ : BufTy).Contents (Elt Ideal) := m ((c.tc : Thread nD τ).loc main_arg1)
abbrev au : (⟨S8192x6144, .bf16⟩ : BufTy).Contents (Elt Ideal) := m ((c.tc : Thread nD τ).loc main_arg2)

/-- A point's blocks of them. -/
abbrev b0 (t : Fin cfg0.N) : Vec Ideal S512x1024 .bf16 := iblk m c 0 t
abbrev b1 (t : Fin cfg0.N) : Vec Ideal S512x1024 .bf16 := iblk m c 1 t
abbrev b2 (t : Fin cfg0.N) : Vec Ideal S512x1024 .bf16 := iblk m c 2 t

theorem index_0 : ∀ t : Fin cfg0.N, win0_0.index t (0 : Fin 2) = t.val ∧ win0_0.index t (1 : Fin 2) = 1 := (by decide +kernel : ∀ t : Fin grid0.N, _)
theorem index_1 : ∀ t : Fin cfg0.N, win0_1.index t (0 : Fin 2) = t.val ∧ win0_1.index t (1 : Fin 2) = 0 := (by decide +kernel : ∀ t : Fin grid0.N, _)
theorem index_2 : ∀ t : Fin cfg0.N, win0_2.index t (0 : Fin 2) = t.val ∧ win0_2.index t (1 : Fin 2) = 4 := (by decide +kernel : ∀ t : Fin grid0.N, _)
theorem index_3 : ∀ t : Fin cfg0.N, win0_3.index t (0 : Fin 3) = 0 ∧ win0_3.index t (1 : Fin 3) = 0 ∧ win0_3.index t (2 : Fin 3) = t.val :=
  (by decide +kernel : ∀ t : Fin grid0.N, _)
theorem index_4 : ∀ t : Fin cfg0.N, win0_4.index t (0 : Fin 2) = t.val ∧ win0_4.index t (1 : Fin 2) = 0 := (by decide +kernel : ∀ t : Fin grid0.N, _)
theorem index_5 : ∀ t : Fin cfg0.N, win0_5.index t (0 : Fin 3) = 0 ∧ win0_5.index t (1 : Fin 3) = 0 ∧ win0_5.index t (2 : Fin 3) = t.val :=
  (by decide +kernel : ∀ t : Fin grid0.N, _)
theorem flushes_3 : ∀ t : Fin cfg0.N, (cfg0.win 3).flush t = true := (by decide +kernel : ∀ t : Fin grid0.N, _)
theorem flushes_4 : ∀ t : Fin cfg0.N, (cfg0.win 4).flush t = true := (by decide +kernel : ∀ t : Fin grid0.N, _)
theorem flushes_5 : ∀ t : Fin cfg0.N, (cfg0.win 5).flush t = true := (by decide +kernel : ∀ t : Fin grid0.N, _)

/-- The row a point's block holds. -/
abbrev rowOf (t : Fin cfg0.N) (p : Fin 512) : Fin 8192 := ⟨512 * t.val + p.val, by have hN : cfg0.N = 16 := N_0; have := t.isLt; omega⟩
abbrev pointOf (r : Fin 8192) : Fin cfg0.N := ⟨r.val / 512, by have hN : cfg0.N = 16 := N_0; omega⟩
abbrev within (r : Fin 8192) : Fin 512 := ⟨r.val % 512, by omega⟩

theorem row_of (r : Fin 8192) : rowOf (pointOf r) (within r) = r := Fin.ext (by show 512 * (r.val / 512) + r.val % 512 = r.val; omega)

variable (t : Fin cfg0.N) (p : Fin 512) (b : Fin 1024)

theorem b0_at : (b0 m c t (ix2 p b) : EReal) = Y (ay m c) (rowOf t p) b := by
  have hi := index_0 t
  unfold b0 iblk Y
  rw [View.read_apply]
  show V m c main_arg0 _ = m (c.tc.loc main_arg0) _
  unfold V
  refine congrArg _ (funext fun x => Fin.ext ?_)
  match x with
  | ⟨0, _⟩ => show win0_0.index t 0 * 512 + 1 * p.val = 512 * t.val + p.val; rw [hi.1]; omega
  | ⟨1, _⟩ => show win0_0.index t 1 * 1024 + 1 * b.val = 1024 + b.val; rw [hi.2]; omega

theorem b1_at : (b1 m c t (ix2 p b) : EReal) = ao m c (ix2 (rowOf t p) b) := by
  have hi := index_1 t
  unfold b1 iblk
  rw [View.read_apply]
  show V m c main_arg1 _ = m (c.tc.loc main_arg1) _
  unfold V
  refine congrArg _ (funext fun x => Fin.ext ?_)
  match x with
  | ⟨0, _⟩ => show win0_1.index t 0 * 512 + 1 * p.val = 512 * t.val + p.val; rw [hi.1]; omega
  | ⟨1, _⟩ => show win0_1.index t 1 * 1024 + 1 * b.val = b.val; rw [hi.2]; omega

theorem b2_at : (b2 m c t (ix2 p b) : EReal) = A (au m c) (rowOf t p) b := by
  have hi := index_2 t
  unfold b2 iblk A
  rw [View.read_apply]
  show V m c main_arg2 _ = m (c.tc.loc main_arg2) _
  unfold V
  refine congrArg _ (funext fun x => Fin.ext ?_)
  match x with
  | ⟨0, _⟩ => show win0_2.index t 0 * 512 + 1 * p.val = 512 * t.val + p.val; rw [hi.1]; omega
  | ⟨1, _⟩ => show win0_2.index t 1 * 1024 + 1 * b.val = 4096 + b.val; rw [hi.2]; omega

/-! ### The three arrays -/

theorem emb_3 (h : Fin 8) (d : Fin 128) : ((cfg0.win 3).blk t).view.emb (ix3 h d p) = ix3 h d (rowOf t p) := by
  have hi := index_3 t
  refine funext fun a => Fin.ext ?_
  match a with
  | ⟨0, _⟩ => show win0_3.index t (0 : Fin 3) * 8 + 1 * h.val = h.val; rw [hi.1]; omega
  | ⟨1, _⟩ => show win0_3.index t (1 : Fin 3) * 128 + 1 * d.val = d.val; rw [hi.2.1]; omega
  | ⟨2, _⟩ => show win0_3.index t (2 : Fin 3) * 512 + 1 * p.val = 512 * t.val + p.val; rw [hi.2.2]; omega

theorem emb_4 : ((cfg0.win 4).blk t).view.emb (ix2 p b) = ix2 (rowOf t p) b := by
  have hi := index_4 t
  refine funext fun a => Fin.ext ?_
  match a with
  | ⟨0, _⟩ => show win0_4.index t (0 : Fin 2) * 512 + 1 * p.val = 512 * t.val + p.val; rw [hi.1]; omega
  | ⟨1, _⟩ => show win0_4.index t (1 : Fin 2) * 1024 + 1 * b.val = b.val; rw [hi.2]; omega

theorem emb_5 (h : Fin 8) (z : Fin 1) : ((cfg0.win 5).blk t).view.emb (ix3 h z p) = ix3 h z (rowOf t p) := by
  have hi := index_5 t
  refine funext fun a => Fin.ext ?_
  match a with
  | ⟨0, _⟩ => show win0_5.index t (0 : Fin 3) * 8 + 1 * h.val = h.val; rw [hi.1]; omega
  | ⟨1, _⟩ => show win0_5.index t (1 : Fin 3) * 1 + 1 * z.val = z.val; rw [hi.2.1]; omega
  | ⟨2, _⟩ => show win0_5.index t (2 : Fin 3) * 512 + 1 * p.val = 512 * t.val + p.val; rw [hi.2.2]; omega

def dotArr : (⟨S8x128x8192, .bf16⟩ : BufTy).Contents (Elt Ideal) := fun y => DO (ay m c) (au m c) (y 2) (col (y 0) (y 1))
def dzArr : (⟨S8192x1024, .bf16⟩ : BufTy).Contents (Elt Ideal) := mat (DZ (ay m c) (ao m c) (au m c))
def deltaArr : (⟨S8x1x8192, .f32⟩ : BufTy).Contents (Elt Ideal) := fun y => DL (ay m c) (ao m c) (au m c) (y 0) (y 2)

theorem array_3 : (dats m 0 c).arrAt 3 cfg0.N = dotArr m c := by
  refine (dats m 0 c).arrAt_eq_of_cover 3 (dotArr m c) (fun t _ => ?_) fun i => ?_
  · rw [Value.flushed3]
    funext y
    show out0_3 (b0 m c t) (b1 m c t) (b2 m c t) y = dotArr m c (((cfg0.win 3).blk t).view.emb y)
    obtain ⟨h, d, p, rfl⟩ : ∃ (h : Fin 8) (d : Fin 128) (p : Fin 512), y = ix3 h d p := ⟨y 0, y 1, y 2, ix3_of y⟩
    rw [emb_3]
    refine (out_do _ _ _ h d p).trans ?_
    rw [b0_at, b2_at]
    rfl
  · obtain ⟨h, d, r, rfl⟩ : ∃ (h : Fin 8) (d : Fin 128) (r : Fin 8192), i = ix3 h d r := ⟨i 0, i 1, i 2, ix3_of i⟩
    refine ⟨pointOf r, flushes_3 _, ?_⟩
    have e := ((cfg0.win 3).blk (pointOf r)).view.emb_mem_set (ix3 h d (within r))
    rwa [emb_3, row_of] at e

theorem array_4 : (dats m 0 c).arrAt 4 cfg0.N = dzArr m c := by
  refine (dats m 0 c).arrAt_eq_of_cover 4 (dzArr m c) (fun t _ => ?_) fun i => ?_
  · rw [Value.flushed4]
    funext y
    show out0_4 (b0 m c t) (b1 m c t) (b2 m c t) y = dzArr m c (((cfg0.win 4).blk t).view.emb y)
    obtain ⟨p, b, rfl⟩ : ∃ (p : Fin 512) (b : Fin 1024), y = ix2 p b := ⟨y 0, y 1, ix2_of y⟩
    rw [emb_4]
    refine (out_dz _ _ _ p b).trans ?_
    rw [b0_at, b1_at, b2_at]
    rfl
  · obtain ⟨r, b, rfl⟩ : ∃ (r : Fin 8192) (b : Fin 1024), i = ix2 r b := ⟨i 0, i 1, ix2_of i⟩
    refine ⟨pointOf r, flushes_4 _, ?_⟩
    have e := ((cfg0.win 4).blk (pointOf r)).view.emb_mem_set (ix2 (within r) b)
    rwa [emb_4, row_of] at e

theorem array_5 : (dats m 0 c).arrAt 5 cfg0.N = deltaArr m c := by
  refine (dats m 0 c).arrAt_eq_of_cover 5 (deltaArr m c) (fun t _ => ?_) fun i => ?_
  · rw [Value.flushed5]
    funext y
    show out0_5 (b0 m c t) (b1 m c t) (b2 m c t) y = deltaArr m c (((cfg0.win 5).blk t).view.emb y)
    obtain ⟨h, z, p, rfl⟩ : ∃ (h : Fin 8) (z : Fin 1) (p : Fin 512), y = ix3 h z p := ⟨y 0, y 1, y 2, ix3_of y⟩
    rw [emb_5, Subsingleton.elim z 0]
    refine (out_delta _ _ _ h p).trans ?_
    show _ = DL (ay m c) (ao m c) (au m c) h (rowOf t p)
    unfold DL DO
    refine Finset.sum_congr rfl fun k _ => ?_
    rw [b0_at, b1_at, b2_at]
  · obtain ⟨h, z, r, rfl⟩ : ∃ (h : Fin 8) (z : Fin 1) (r : Fin 8192), i = ix3 h z r := ⟨i 0, i 1, i 2, ix3_of i⟩
    refine ⟨pointOf r, flushes_5 _, ?_⟩
    have e := ((cfg0.win 5).blk (pointOf r)).view.emb_mem_set (ix3 h z (within r))
    rwa [emb_5, row_of] at e

end Cert.Proof.Kernel6Ideal

end
-- ==== Proof.Gate.lean ====
/-
  The gradient of the attention's gate: the run's arrays are the reference's.
-/
module

public import proofs.«01_k».proof.Defs
public import proofs.«01_k».proof.Proof.Kernel6Ideal.Points
public import proofs.«01_k».proof.Proof.Finite
public import proofs.«01_k».proof.Proof.Loss
public import proofs.«01_k».proof.Proof.Gen.Reference6Ideal.Run
public import proofs.«01_k».proof.Proof.Gen.Reference6Ideal.Read

@[expose] public section

noncomputable section

namespace Cert.Proof.Gate

open Idealize.ShloMosaic Idealize.ShloMosaic.TcCoe Idealize.ShloMosaic.Pointwise Idealize.SL.Sem
open Cert.Proof.Loss (word_one word_zero)
open Cert.Proof.Kernel6Ideal (Y A DO DZ DL col ix3_of)

/-! ### The equation of an element -/

/-- The gate's derivative in the kernel's form and in the reference's, over a real factor and any gate. -/
theorem gate_eq (g : ℝ) (z : EReal) :
    (g : EReal) * (Ideal.logistic z * (1 + z * (1 - Ideal.logistic z)))
      = (g : EReal) * Ideal.logistic z + z * (g : EReal) * (Ideal.logistic z * (1 - Ideal.logistic z)) := by
  have h1 : (1 : EReal) - 1 = 0 := by rw [← EReal.coe_one, ← EReal.coe_sub, sub_self, EReal.coe_zero]
  induction z with
  | bot => rw [Ideal.logistic_bot, zero_mul, zero_mul, mul_zero, mul_zero, add_zero]
  | top => rw [Ideal.logistic_top, h1, mul_zero, mul_zero, mul_zero, add_zero, add_zero, one_mul]
  | coe r =>
    rw [Ideal.logistic_coe]
    norm_cast
    ring

/-! ### What the precondition says -/

theorem facts : Cert.Pre_finite6.Facts where
  slices_S8192x2048_S8192x1024_0_1024 := by decide
  bitsLt_bf16_f32 := by decide
  bcast_S_S8192x1024 := by decide

section Finite

open Cert.Pre_finite6

attribute [local instance] facts

variable (x0 : FVec Ideal S8192x2048 .bf16) (x1 : FVec Ideal S8192x1024 .bf16) (x2 : FVec Ideal S8192x6144 .bf16) (r : Fin 8192) (b : Fin 1024)

theorem finite_y (e : (fn (F := Ideal) x0 x1 x2).1 = fun _ => 1#1) : Y x0 r b ≠ ⊤ ∧ Y x0 r b ≠ ⊥ := by
  have e' := congrFun e (ix2 r b)
  revert e'
  unfold Y
  pointwise [fn]
  exact Finite.of_word

theorem finite_o (e : (fn (F := Ideal) x0 x1 x2).2 = fun _ => 1#1) : (x1 (ix2 r b) : EReal) ≠ ⊤ ∧ (x1 (ix2 r b) : EReal) ≠ ⊥ := by
  have e' := congrFun e (ix2 r b)
  revert e'
  pointwise [fn]
  exact Finite.of_word

end Finite

/-! ### The reference, element by element -/

section Reference

open Cert.Reference6Ideal Cert.Reference6Ideal.Read

variable (x0 : (⟨S8192x2048, .bf16⟩ : BufTy).Contents (Elt Ideal)) (x1 : (⟨S8192x1024, .bf16⟩ : BufTy).Contents (Elt Ideal))
  (x2 : (⟨S8192x6144, .bf16⟩ : BufTy).Contents (Elt Ideal)) (r : Fin 8192) (b : Fin 1024)

theorem gate_at : (val_main_v2 (F := Ideal) x2 (ix2 r b) : EReal) = A x2 r b := by
  refine Eq.trans (val_main_v1_apply (F := Ideal) x2 (ix2 r b)) (congrArg x2 (funext fun a => ?_))
  match a with
  | ⟨0, _⟩ => rfl
  | ⟨1, _⟩ => rfl

theorem given_at : (val_main_v6 (F := Ideal) x0 (ix2 r b) : EReal) = Y x0 r b := by
  refine Eq.trans (val_main_v5_apply (F := Ideal) x0 (ix2 r b)) (congrArg x0 (funext fun a => ?_))
  match a with
  | ⟨0, _⟩ => rfl
  | ⟨1, _⟩ => rfl

theorem sigmoid_at : (val_main_v3_2 (F := Ideal) x2 (ix2 r b) : EReal) = Ideal.logistic (A x2 r b) := by
  rw [val_main_v3_2_apply, val_main_call0_v4_apply, val_main_call0_v3_apply, val_main_call0_v2_apply, val_main_call0_v1_apply, val_main_call0_v0_apply]
  show Ideal.div (Ideal.ofBits .f32 0x3F800000#32) (Ideal.ofBits .f32 0x3F800000#32 + Ideal.exp (-(val_main_v2 (F := Ideal) x2 (ix2 r b) : EReal))) = _
  rw [gate_at, word_one]
  rfl

theorem do_at : (val_main_v8 (F := Ideal) x0 x2 (ix2 r b) : EReal) = DO x0 x2 r b := by
  show (val_main_v6 (F := Ideal) x0 (ix2 r b) : EReal) * (val_main_v2 (F := Ideal) x2 (ix2 r b) * val_main_v3_2 (F := Ideal) x2 (ix2 r b)) = _
  rw [given_at, gate_at, sigmoid_at]
  rfl

theorem dot_at (h : Fin 8) (d : Fin 128) : (val_main_v15 (F := Ideal) x0 x2 (ix3 h d r) : EReal) = DO x0 x2 r (col h d) := by
  refine Eq.trans ?_ (do_at x0 x2 r (col h d))
  show (val_main_v11 (F := Ideal) x0 x2 (ix3 h d r) : EReal) = _
  rw [val_main_v11_apply, val_main_v10_apply]
  refine congrArg (val_main_v8 (F := Ideal) x0 x2) (funext fun a => Fin.ext ?_)
  match a with
  | ⟨0, _⟩ => show ((r.val * 8 + h.val) * 128 + d.val) / 1024 = r.val; omega
  | ⟨1, _⟩ => show ((r.val * 8 + h.val) * 128 + d.val) % 1024 = h.val * 128 + d.val; omega

theorem delta_at (h : Fin 8) (z : Fin 1) : (val_main_v18 (F := Ideal) x0 x1 x2 (ix3 h z r) : EReal) = DL x0 x1 x2 h r := by
  rw [val_main_v18_apply, val_main_v17_apply, val_main_v14_apply]
  unfold DL
  show Ideal.ofBits .f32 0x00000000#32 + _ = _
  rw [word_zero, zero_add]
  refine Finset.sum_congr rfl fun k _ => ?_
  rw [val_main_v13_apply]
  have e1 : ((h.val * 1 + z.val) * 8192 + r.val) / 8192 = h.val := by omega
  have e2 : ((h.val * 1 + z.val) * 8192 + r.val) % 8192 = r.val := by omega
  refine Eq.trans (congrArg (val_main_v12 (F := Ideal) x0 x1 x2) (a₂ := ix2 r (col h k)) (funext fun a => Fin.ext ?_)) ?_
  · match a with
    | ⟨0, _⟩ =>
      show ((((h.val * 1 + z.val) * 8192 + r.val) % 8192 * 8 + ((h.val * 1 + z.val) * 8192 + r.val) / 8192) * 128 + k.val) / 1024 = r.val
      rw [e1, e2]; omega
    | ⟨1, _⟩ =>
      show ((((h.val * 1 + z.val) * 8192 + r.val) % 8192 * 8 + ((h.val * 1 + z.val) * 8192 + r.val) / 8192) * 128 + k.val) % 1024 = h.val * 128 + k.val
      rw [e1, e2]; omega
  · show (val_main_v8 (F := Ideal) x0 x2 (ix2 r (col h k)) : EReal) * x1 (ix2 r (col h k)) = _
    rw [do_at]

theorem dz_at (hy : Y x0 r b ≠ ⊤ ∧ Y x0 r b ≠ ⊥) (ho : (x1 (ix2 r b) : EReal) ≠ ⊤ ∧ (x1 (ix2 r b) : EReal) ≠ ⊥) :
    (val_main_v16 (F := Ideal) x0 x1 x2 (ix2 r b) : EReal) = DZ x0 x1 x2 r b := by
  have h : (val_main_v16 (F := Ideal) x0 x1 x2 (ix2 r b) : EReal)
      = (x1 (ix2 r b) : EReal) * val_main_v6 (F := Ideal) x0 (ix2 r b) * val_main_v3_2 (F := Ideal) x2 (ix2 r b)
        + val_main_v2 (F := Ideal) x2 (ix2 r b) * ((x1 (ix2 r b) : EReal) * val_main_v6 (F := Ideal) x0 (ix2 r b))
          * (val_main_v3_2 (F := Ideal) x2 (ix2 r b) * (Ideal.ofBits .f32 0x3F800000#32 - val_main_v3_2 (F := Ideal) x2 (ix2 r b))) := rfl
  rw [h, given_at, gate_at, sigmoid_at, word_one, EReal.coe_one, mul_comm (x1 (ix2 r b) : EReal)]
  unfold DZ
  generalize (x1 (ix2 r b) : EReal) = o at ho ⊢
  generalize Y x0 r b = y at hy ⊢
  lift y to ℝ using hy
  lift o to ℝ using ho
  rw [← EReal.coe_mul]
  exact (gate_eq (y * o) _).symm

end Reference

/-! ### The claim -/

theorem values6 : Cert.algebraic_Kernel6Ideal_Reference6Ideal_pre_finite6 (hKernel6Ideal := Cert.Kernel6Ideal.Gen.facts)
    (hReference6Ideal := Cert.Reference6Ideal.Gen.facts) (hPre_finite6 := facts) := by
  intro m g m' g' hm hargs
  refine ⟨fun c => Kernel6Ideal.dotArr m c, fun c => Kernel6Ideal.dzArr m c, fun c => Kernel6Ideal.deltaArr m c, ?_, ?_⟩
  · refine (θ_run Cert.Kernel6Ideal.defs _ _).mono (fun r h c => ?_) (Cert.Kernel6Ideal.Value.run_blocks (F := Ideal) m g)
    obtain ⟨h0, h1, h2, h⟩ := h c
    exact ⟨h0.trans (Kernel6Ideal.array_3 m c), h1.trans (Kernel6Ideal.array_4 m c), h2.trans (Kernel6Ideal.array_5 m c), h⟩
  · refine (θ_run Cert.Reference6Ideal.defs _ _).mono (fun r h c => ?_) (Cert.Reference6Ideal.Value.run (F := Ideal) m' g')
    obtain ⟨h0, h1, h2, h⟩ := h c
    obtain ⟨a0, a1, a2⟩ := hargs c
    obtain ⟨e0, e1⟩ := hm c
    refine ⟨h0.trans ?_, h1.trans ?_, h2.trans ?_, h⟩
    · rw [Cert.Reference6Ideal.Read.val_main_v15_eq, a0, a2]
      funext y
      rw [ix3_of (n := 8) (k := 128) (l := 8192) y]
      exact dot_at _ _ (y 2) (y 0) (y 1)
    · rw [Cert.Reference6Ideal.Read.val_main_v16_eq, a0, a1, a2]
      funext y
      rw [Kernel4Ideal.ix2_of (n := 8192) (k := 1024) y]
      exact dz_at _ _ _ (y 0) (y 1) (finite_y _ _ _ _ _ e0) (finite_o _ _ _ _ _ e1)
    · rw [Cert.Reference6Ideal.Read.val_main_v18_eq, a0, a1, a2]
      funext y
      rw [ix3_of (n := 8) (k := 1) (l := 8192) y]
      exact delta_at _ _ _ (y 2) (y 0) (y 1)

end Cert.Proof.Gate

end
-- ==== Proof.lean ====
/-
  The claim: the frames, what the idealization keeps, and the values.
-/
module

public import proofs.«01_k».proof.Defs
public import proofs.«01_k».proof.Proof.KernelIdeal.Launch
public import proofs.«01_k».proof.Proof.Same
public import proofs.«01_k».proof.Proof.Values
public import proofs.«01_k».proof.Proof.Weights
public import proofs.«01_k».proof.Proof.Loss
public import proofs.«01_k».proof.Proof.Prenorm
public import proofs.«01_k».proof.Proof.Gate
public import proofs.«01_k».proof.Proof.Gen.Kernel
public import proofs.«01_k».proof.Proof.Gen.KernelIdeal
public import proofs.«01_k».proof.Proof.Gen.ReferenceIdeal.Run
public import proofs.«01_k».proof.Proof.Gen.ReferenceIdeal.Read

@[expose] public section

noncomputable section

namespace Cert.Proof

open Idealize.ShloMosaic Idealize.ShloMosaic.TcCoe Idealize.SL.Sem

theorem frame_kernel : Cert.quiescent_Kernel (hKernel := Cert.Kernel.Gen.facts) := fun m ρ _ => by
  rw [same_defs, same_main]
  exact Cert.Proof.KernelIdeal.frame (F := Bits) m ρ

theorem frame_ideal : Cert.quiescent_KernelIdeal (hKernelIdeal := Cert.KernelIdeal.Gen.facts) := fun m ρ _ =>
  Cert.Proof.KernelIdeal.frame (F := Ideal) m ρ

theorem frame_reference : Cert.quiescent_ReferenceIdeal (hReferenceIdeal := Cert.ReferenceIdeal.Gen.facts) := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

theorem frame_kernel_2 : Cert.quiescent_Kernel2 (hKernel2 := Cert.Kernel2.Gen.facts) := fun m ρ _ => by
  rw [same_defs_2, same_main_2]
  exact Cert.Kernel2Ideal.Gen.frame (F := Bits) m ρ

theorem frame_ideal_2 : Cert.quiescent_Kernel2Ideal (hKernel2Ideal := Cert.Kernel2Ideal.Gen.facts) := fun m ρ _ =>
  Cert.Kernel2Ideal.Gen.frame (F := Ideal) m ρ

theorem frame_reference_2 : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run (F := Ideal) m ρ)

theorem frame_kernel_3 : Cert.quiescent_Kernel3 (hKernel3 := Cert.Kernel3.Gen.facts) := fun m ρ _ => by
  rw [same_defs_3, same_main_3]
  exact Cert.Kernel3Ideal.Gen.frame (F := Bits) m ρ

theorem frame_ideal_3 : Cert.quiescent_Kernel3Ideal (hKernel3Ideal := Cert.Kernel3Ideal.Gen.facts) := fun m ρ _ =>
  Cert.Kernel3Ideal.Gen.frame (F := Ideal) m ρ

theorem frame_reference_3 : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩)
    (Cert.Reference3Ideal.Value.run (F := Ideal) m ρ)

theorem frame_kernel_4 : Cert.quiescent_Kernel4 (hKernel4 := Cert.Kernel4.Gen.facts) := fun m ρ _ => by
  rw [same_defs_4, same_main_4]
  exact Cert.Kernel4Ideal.Gen.frame (F := Bits) m ρ

theorem frame_ideal_4 : Cert.quiescent_Kernel4Ideal (hKernel4Ideal := Cert.Kernel4Ideal.Gen.facts) := fun m ρ _ =>
  Cert.Kernel4Ideal.Gen.frame (F := Ideal) m ρ

theorem frame_reference_4 : Cert.quiescent_Reference4Ideal (hReference4Ideal := Cert.Reference4Ideal.Gen.facts) := fun m ρ _ =>
  (θ_run Cert.Reference4Ideal.defs _ _).mono (fun r h => ⟨fun c => (h c).2.2.2.2, sem_eq_zero_of_no_sems (by decide) r.2⟩)
    (Cert.Reference4Ideal.Value.run (F := Ideal) m ρ)

theorem frame_kernel_5 : Cert.quiescent_Kernel5 (hKernel5 := Cert.Kernel5.Gen.facts) := fun m ρ _ => by
  rw [same_defs_5, same_main_5]
  exact Cert.Kernel5Ideal.Gen.frame (F := Bits) m ρ

theorem frame_ideal_5 : Cert.quiescent_Kernel5Ideal (hKernel5Ideal := Cert.Kernel5Ideal.Gen.facts) := fun m ρ _ =>
  Cert.Kernel5Ideal.Gen.frame (F := Ideal) m ρ

theorem frame_reference_5 : Cert.quiescent_Reference5Ideal (hReference5Ideal := Cert.Reference5Ideal.Gen.facts) := fun m ρ _ =>
  (θ_run Cert.Reference5Ideal.defs _ _).mono (fun r h => ⟨fun c => (h c).2.2, sem_eq_zero_of_no_sems (by decide) r.2⟩)
    (Cert.Reference5Ideal.Value.run (F := Ideal) m ρ)

theorem frame_kernel_6 : Cert.quiescent_Kernel6 (hKernel6 := Cert.Kernel6.Gen.facts) := fun m ρ _ => by
  rw [same_defs_6, same_main_6]
  exact Cert.Kernel6Ideal.Gen.frame (F := Bits) m ρ

theorem frame_ideal_6 : Cert.quiescent_Kernel6Ideal (hKernel6Ideal := Cert.Kernel6Ideal.Gen.facts) := fun m ρ _ =>
  Cert.Kernel6Ideal.Gen.frame (F := Ideal) m ρ

theorem frame_reference_6 : Cert.quiescent_Reference6Ideal (hReference6Ideal := Cert.Reference6Ideal.Gen.facts) := fun m ρ _ =>
  (θ_run Cert.Reference6Ideal.defs _ _).mono (fun r h => ⟨fun c => (h c).2.2.2, sem_eq_zero_of_no_sems (by decide) r.2⟩)
    (Cert.Reference6Ideal.Value.run (F := Ideal) m ρ)

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts, Finite.facts, Gate.facts,
    frame_kernel, frame_ideal, fun m ρ _ => frame_ideal m ρ trivial, frame_reference, fun m ρ _ => frame_reference m ρ trivial,
    frame_kernel_2, frame_ideal_2, frame_reference_2, frame_kernel_3, frame_ideal_3, frame_reference_3,
    frame_kernel_4, frame_ideal_4, frame_reference_4, frame_kernel_5, frame_ideal_5, frame_reference_5,
    frame_kernel_6, frame_ideal_6, fun m ρ _ => frame_ideal_6 m ρ trivial, frame_reference_6, fun m ρ _ => frame_reference_6 m ρ trivial,
    trivial, values, trivial, values2, trivial, values3, trivial, Loss.values4, trivial, Prenorm.values5, trivial, Gate.values6⟩

end Cert.Proof

end
